-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_in_range [hPre_scores_in_range : Cert.Pre_scores_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_in_range [hPre_scores_in_range : Cert.Pre_scores_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_UgDw (m : (ℓ : Loc Cert.UgDw.nD Cert.UgDw.τ Cert.UgDw.sig) → Buf (Elt Bits) ℓ) : Prop :=
  True

def Pre_UgDwIdeal (m : (ℓ : Loc Cert.UgDwIdeal.nD Cert.UgDwIdeal.τ Cert.UgDwIdeal.sig) → Buf (Elt Ideal) ℓ) : Prop :=
  True

def Pre_UgDwRefIdeal (m : (ℓ : Loc Cert.UgDwRefIdeal.nD Cert.UgDwRefIdeal.τ Cert.UgDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UgDx (m : (ℓ : Loc Cert.UgDx.nD Cert.UgDx.τ Cert.UgDx.sig) → Buf (Elt Bits) ℓ) : Prop :=
  True

def Pre_UgDxIdeal (m : (ℓ : Loc Cert.UgDxIdeal.nD Cert.UgDxIdeal.τ Cert.UgDxIdeal.sig) → Buf (Elt Ideal) ℓ) : Prop :=
  True

def Pre_UgDxRefIdeal (m : (ℓ : Loc Cert.UgDxRefIdeal.nD Cert.UgDxRefIdeal.τ Cert.UgDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_UgFwd (m : (ℓ : Loc Cert.UgFwd.nD Cert.UgFwd.τ Cert.UgFwd.sig) → Buf (Elt Bits) ℓ) : Prop :=
  True

def Pre_UgFwdIdeal (m : (ℓ : Loc Cert.UgFwdIdeal.nD Cert.UgFwdIdeal.τ Cert.UgFwdIdeal.sig) → Buf (Elt Ideal) ℓ) : Prop :=
  True

def Pre_UgFwdRefIdeal (m : (ℓ : Loc Cert.UgFwdRefIdeal.nD Cert.UgFwdRefIdeal.τ Cert.UgFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_InDwA (m : (ℓ : Loc Cert.InDwA.nD Cert.InDwA.τ Cert.InDwA.sig) → Buf (Elt Bits) ℓ) : Prop :=
  True

def Pre_InDwAIdeal (m : (ℓ : Loc Cert.InDwAIdeal.nD Cert.InDwAIdeal.τ Cert.InDwAIdeal.sig) → Buf (Elt Ideal) ℓ) : Prop :=
  True

def Pre_InDwARefIdeal (m : (ℓ : Loc Cert.InDwARefIdeal.nD Cert.InDwARefIdeal.τ Cert.InDwARefIdeal.sig) → Buf (Elt Ideal) ℓ) : Prop :=
  True

def Pre_InDwB (m : (ℓ : Loc Cert.InDwB.nD Cert.InDwB.τ Cert.InDwB.sig) → Buf (Elt Bits) ℓ) : Prop :=
  True

def Pre_InDwBIdeal (m : (ℓ : Loc Cert.InDwBIdeal.nD Cert.InDwBIdeal.τ Cert.InDwBIdeal.sig) → Buf (Elt Ideal) ℓ) : Prop :=
  True

def Pre_InDwBRefIdeal (m : (ℓ : Loc Cert.InDwBRefIdeal.nD Cert.InDwBRefIdeal.τ Cert.InDwBRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUg (m : (ℓ : Loc Cert.AdamUg.nD Cert.AdamUg.τ Cert.AdamUg.sig) → Buf (Elt Bits) ℓ) : Prop :=
  True

def Pre_AdamUgIdeal (m : (ℓ : Loc Cert.AdamUgIdeal.nD Cert.AdamUgIdeal.τ Cert.AdamUgIdeal.sig) → Buf (Elt Ideal) ℓ) : Prop :=
  True

def Pre_AdamUgRefIdeal (m : (ℓ : Loc Cert.AdamUgRefIdeal.nD Cert.AdamUgRefIdeal.τ Cert.AdamUgRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamAttn (m : (ℓ : Loc Cert.AdamAttn.nD Cert.AdamAttn.τ Cert.AdamAttn.sig) → Buf (Elt Bits) ℓ) : Prop :=
  True

def Pre_AdamAttnIdeal (m : (ℓ : Loc Cert.AdamAttnIdeal.nD Cert.AdamAttnIdeal.τ Cert.AdamAttnIdeal.sig) → Buf (Elt Ideal) ℓ) : Prop :=
  True

def Pre_AdamAttnRefIdeal (m : (ℓ : Loc Cert.AdamAttnRefIdeal.nD Cert.AdamAttnRefIdeal.τ Cert.AdamAttnRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_in_range [hKernelIdeal : Cert.KernelIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_in_range [hReferenceIdeal : Cert.ReferenceIdeal.Facts] [hPre_scores_in_range : Cert.Pre_scores_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_UgDw [hUgDw : Cert.UgDw.Facts] : Prop :=
  ∀ (m : (ℓ : Loc Cert.UgDw.nD Cert.UgDw.τ Cert.UgDw.sig) → Buf (Elt Bits) ℓ) (g : Dev Cert.UgDw.nD → PrngReg), Pre_UgDw m →
    θ_run (Cert.UgDw.defs (F := Bits)) (onTc (τ := Cert.UgDw.τ) (Cert.UgDw.main (F := Bits))) ⟨m, fun _ => 0, g⟩ (fun r => (∀ c : Dev Cert.UgDw.nD,
      r.2.mem ((c.tc : Thread Cert.UgDw.nD Cert.UgDw.τ).loc Cert.UgDw.main_arg0) = m ((c.tc : Thread Cert.UgDw.nD Cert.UgDw.τ).loc Cert.UgDw.main_arg0)
      ∧ r.2.mem ((c.tc : Thread Cert.UgDw.nD Cert.UgDw.τ).loc Cert.UgDw.main_arg1) = m ((c.tc : Thread Cert.UgDw.nD Cert.UgDw.τ).loc Cert.UgDw.main_arg1))
      ∧ r.2.sem = fun _ => 0)

def quiescent_UgDwIdeal [hUgDwIdeal : Cert.UgDwIdeal.Facts] : Prop :=
  ∀ (m : (ℓ : Loc Cert.UgDwIdeal.nD Cert.UgDwIdeal.τ Cert.UgDwIdeal.sig) → Buf (Elt Ideal) ℓ) (g : Dev Cert.UgDwIdeal.nD → PrngReg), Pre_UgDwIdeal m →
    θ_run (Cert.UgDwIdeal.defs (F := Ideal)) (onTc (τ := Cert.UgDwIdeal.τ) (Cert.UgDwIdeal.main (F := Ideal))) ⟨m, fun _ => 0, g⟩ (fun r => (∀ c : Dev Cert.UgDwIdeal.nD,
      r.2.mem ((c.tc : Thread Cert.UgDwIdeal.nD Cert.UgDwIdeal.τ).loc Cert.UgDwIdeal.main_arg0) = m ((c.tc : Thread Cert.UgDwIdeal.nD Cert.UgDwIdeal.τ).loc Cert.UgDwIdeal.main_arg0)
      ∧ r.2.mem ((c.tc : Thread Cert.UgDwIdeal.nD Cert.UgDwIdeal.τ).loc Cert.UgDwIdeal.main_arg1) = m ((c.tc : Thread Cert.UgDwIdeal.nD Cert.UgDwIdeal.τ).loc Cert.UgDwIdeal.main_arg1))
      ∧ r.2.sem = fun _ => 0)

def quiescent_UgDwRefIdeal [hUgDwRefIdeal : Cert.UgDwRefIdeal.Facts] : Prop :=
  ∀ (m : (ℓ : Loc Cert.UgDwRefIdeal.nD Cert.UgDwRefIdeal.τ Cert.UgDwRefIdeal.sig) → Buf (Elt Ideal) ℓ) (g : Dev Cert.UgDwRefIdeal.nD → PrngReg), Pre_UgDwRefIdeal m →
    θ_run (Cert.UgDwRefIdeal.defs (F := Ideal)) (onTc (τ := Cert.UgDwRefIdeal.τ) (Cert.UgDwRefIdeal.main (F := Ideal))) ⟨m, fun _ => 0, g⟩ (fun r => (∀ c : Dev Cert.UgDwRefIdeal.nD,
      r.2.mem ((c.tc : Thread Cert.UgDwRefIdeal.nD Cert.UgDwRefIdeal.τ).loc Cert.UgDwRefIdeal.main_arg0) = m ((c.tc : Thread Cert.UgDwRefIdeal.nD Cert.UgDwRefIdeal.τ).loc Cert.UgDwRefIdeal.main_arg0)
      ∧ r.2.mem ((c.tc : Thread Cert.UgDwRefIdeal.nD Cert.UgDwRefIdeal.τ).loc Cert.UgDwRefIdeal.main_arg1) = m ((c.tc : Thread Cert.UgDwRefIdeal.nD Cert.UgDwRefIdeal.τ).loc Cert.UgDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_UgDx [hUgDx : Cert.UgDx.Facts] : Prop :=
  ∀ (m : (ℓ : Loc Cert.UgDx.nD Cert.UgDx.τ Cert.UgDx.sig) → Buf (Elt Bits) ℓ) (g : Dev Cert.UgDx.nD → PrngReg), Pre_UgDx m →
    θ_run (Cert.UgDx.defs (F := Bits)) (onTc (τ := Cert.UgDx.τ) (Cert.UgDx.main (F := Bits))) ⟨m, fun _ => 0, g⟩ (fun r => (∀ c : Dev Cert.UgDx.nD,
      r.2.mem ((c.tc : Thread Cert.UgDx.nD Cert.UgDx.τ).loc Cert.UgDx.main_arg0) = m ((c.tc : Thread Cert.UgDx.nD Cert.UgDx.τ).loc Cert.UgDx.main_arg0)
      ∧ r.2.mem ((c.tc : Thread Cert.UgDx.nD Cert.UgDx.τ).loc Cert.UgDx.main_arg1) = m ((c.tc : Thread Cert.UgDx.nD Cert.UgDx.τ).loc Cert.UgDx.main_arg1))
      ∧ r.2.sem = fun _ => 0)

def quiescent_UgDxIdeal [hUgDxIdeal : Cert.UgDxIdeal.Facts] : Prop :=
  ∀ (m : (ℓ : Loc Cert.UgDxIdeal.nD Cert.UgDxIdeal.τ Cert.UgDxIdeal.sig) → Buf (Elt Ideal) ℓ) (g : Dev Cert.UgDxIdeal.nD → PrngReg), Pre_UgDxIdeal m →
    θ_run (Cert.UgDxIdeal.defs (F := Ideal)) (onTc (τ := Cert.UgDxIdeal.τ) (Cert.UgDxIdeal.main (F := Ideal))) ⟨m, fun _ => 0, g⟩ (fun r => (∀ c : Dev Cert.UgDxIdeal.nD,
      r.2.mem ((c.tc : Thread Cert.UgDxIdeal.nD Cert.UgDxIdeal.τ).loc Cert.UgDxIdeal.main_arg0) = m ((c.tc : Thread Cert.UgDxIdeal.nD Cert.UgDxIdeal.τ).loc Cert.UgDxIdeal.main_arg0)
      ∧ r.2.mem ((c.tc : Thread Cert.UgDxIdeal.nD Cert.UgDxIdeal.τ).loc Cert.UgDxIdeal.main_arg1) = m ((c.tc : Thread Cert.UgDxIdeal.nD Cert.UgDxIdeal.τ).loc Cert.UgDxIdeal.main_arg1))
      ∧ r.2.sem = fun _ => 0)

def quiescent_UgDxRefIdeal [hUgDxRefIdeal : Cert.UgDxRefIdeal.Facts] : Prop :=
  ∀ (m : (ℓ : Loc Cert.UgDxRefIdeal.nD Cert.UgDxRefIdeal.τ Cert.UgDxRefIdeal.sig) → Buf (Elt Ideal) ℓ) (g : Dev Cert.UgDxRefIdeal.nD → PrngReg), Pre_UgDxRefIdeal m →
    θ_run (Cert.UgDxRefIdeal.defs (F := Ideal)) (onTc (τ := Cert.UgDxRefIdeal.τ) (Cert.UgDxRefIdeal.main (F := Ideal))) ⟨m, fun _ => 0, g⟩ (fun r => (∀ c : Dev Cert.UgDxRefIdeal.nD,
      r.2.mem ((c.tc : Thread Cert.UgDxRefIdeal.nD Cert.UgDxRefIdeal.τ).loc Cert.UgDxRefIdeal.main_arg0) = m ((c.tc : Thread Cert.UgDxRefIdeal.nD Cert.UgDxRefIdeal.τ).loc Cert.UgDxRefIdeal.main_arg0)
      ∧ r.2.mem ((c.tc : Thread Cert.UgDxRefIdeal.nD Cert.UgDxRefIdeal.τ).loc Cert.UgDxRefIdeal.main_arg1) = m ((c.tc : Thread Cert.UgDxRefIdeal.nD Cert.UgDxRefIdeal.τ).loc Cert.UgDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_UgFwd [hUgFwd : Cert.UgFwd.Facts] : Prop :=
  ∀ (m : (ℓ : Loc Cert.UgFwd.nD Cert.UgFwd.τ Cert.UgFwd.sig) → Buf (Elt Bits) ℓ) (g : Dev Cert.UgFwd.nD → PrngReg), Pre_UgFwd m →
    θ_run (Cert.UgFwd.defs (F := Bits)) (onTc (τ := Cert.UgFwd.τ) (Cert.UgFwd.main (F := Bits))) ⟨m, fun _ => 0, g⟩ (fun r => (∀ c : Dev Cert.UgFwd.nD,
      r.2.mem ((c.tc : Thread Cert.UgFwd.nD Cert.UgFwd.τ).loc Cert.UgFwd.main_arg0) = m ((c.tc : Thread Cert.UgFwd.nD Cert.UgFwd.τ).loc Cert.UgFwd.main_arg0)
      ∧ r.2.mem ((c.tc : Thread Cert.UgFwd.nD Cert.UgFwd.τ).loc Cert.UgFwd.main_arg1) = m ((c.tc : Thread Cert.UgFwd.nD Cert.UgFwd.τ).loc Cert.UgFwd.main_arg1))
      ∧ r.2.sem = fun _ => 0)

def quiescent_UgFwdIdeal [hUgFwdIdeal : Cert.UgFwdIdeal.Facts] : Prop :=
  ∀ (m : (ℓ : Loc Cert.UgFwdIdeal.nD Cert.UgFwdIdeal.τ Cert.UgFwdIdeal.sig) → Buf (Elt Ideal) ℓ) (g : Dev Cert.UgFwdIdeal.nD → PrngReg), Pre_UgFwdIdeal m →
    θ_run (Cert.UgFwdIdeal.defs (F := Ideal)) (onTc (τ := Cert.UgFwdIdeal.τ) (Cert.UgFwdIdeal.main (F := Ideal))) ⟨m, fun _ => 0, g⟩ (fun r => (∀ c : Dev Cert.UgFwdIdeal.nD,
      r.2.mem ((c.tc : Thread Cert.UgFwdIdeal.nD Cert.UgFwdIdeal.τ).loc Cert.UgFwdIdeal.main_arg0) = m ((c.tc : Thread Cert.UgFwdIdeal.nD Cert.UgFwdIdeal.τ).loc Cert.UgFwdIdeal.main_arg0)
      ∧ r.2.mem ((c.tc : Thread Cert.UgFwdIdeal.nD Cert.UgFwdIdeal.τ).loc Cert.UgFwdIdeal.main_arg1) = m ((c.tc : Thread Cert.UgFwdIdeal.nD Cert.UgFwdIdeal.τ).loc Cert.UgFwdIdeal.main_arg1))
      ∧ r.2.sem = fun _ => 0)

def quiescent_UgFwdRefIdeal [hUgFwdRefIdeal : Cert.UgFwdRefIdeal.Facts] : Prop :=
  ∀ (m : (ℓ : Loc Cert.UgFwdRefIdeal.nD Cert.UgFwdRefIdeal.τ Cert.UgFwdRefIdeal.sig) → Buf (Elt Ideal) ℓ) (g : Dev Cert.UgFwdRefIdeal.nD → PrngReg), Pre_UgFwdRefIdeal m →
    θ_run (Cert.UgFwdRefIdeal.defs (F := Ideal)) (onTc (τ := Cert.UgFwdRefIdeal.τ) (Cert.UgFwdRefIdeal.main (F := Ideal))) ⟨m, fun _ => 0, g⟩ (fun r => (∀ c : Dev Cert.UgFwdRefIdeal.nD,
      r.2.mem ((c.tc : Thread Cert.UgFwdRefIdeal.nD Cert.UgFwdRefIdeal.τ).loc Cert.UgFwdRefIdeal.main_arg0) = m ((c.tc : Thread Cert.UgFwdRefIdeal.nD Cert.UgFwdRefIdeal.τ).loc Cert.UgFwdRefIdeal.main_arg0)
      ∧ r.2.mem ((c.tc : Thread Cert.UgFwdRefIdeal.nD Cert.UgFwdRefIdeal.τ).loc Cert.UgFwdRefIdeal.main_arg1) = m ((c.tc : Thread Cert.UgFwdRefIdeal.nD Cert.UgFwdRefIdeal.τ).loc Cert.UgFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_InDwA [hInDwA : Cert.InDwA.Facts] : Prop :=
  ∀ (m : (ℓ : Loc Cert.InDwA.nD Cert.InDwA.τ Cert.InDwA.sig) → Buf (Elt Bits) ℓ) (g : Dev Cert.InDwA.nD → PrngReg), Pre_InDwA m →
    θ_run (Cert.InDwA.defs (F := Bits)) (onTc (τ := Cert.InDwA.τ) (Cert.InDwA.main (F := Bits))) ⟨m, fun _ => 0, g⟩ (fun r => (∀ c : Dev Cert.InDwA.nD,
      r.2.mem ((c.tc : Thread Cert.InDwA.nD Cert.InDwA.τ).loc Cert.InDwA.main_arg0) = m ((c.tc : Thread Cert.InDwA.nD Cert.InDwA.τ).loc Cert.InDwA.main_arg0)
      ∧ r.2.mem ((c.tc : Thread Cert.InDwA.nD Cert.InDwA.τ).loc Cert.InDwA.main_arg1) = m ((c.tc : Thread Cert.InDwA.nD Cert.InDwA.τ).loc Cert.InDwA.main_arg1)
      ∧ r.2.mem ((c.tc : Thread Cert.InDwA.nD Cert.InDwA.τ).loc Cert.InDwA.main_arg2) = m ((c.tc : Thread Cert.InDwA.nD Cert.InDwA.τ).loc Cert.InDwA.main_arg2))
      ∧ r.2.sem = fun _ => 0)

def quiescent_InDwAIdeal [hInDwAIdeal : Cert.InDwAIdeal.Facts] : Prop :=
  ∀ (m : (ℓ : Loc Cert.InDwAIdeal.nD Cert.InDwAIdeal.τ Cert.InDwAIdeal.sig) → Buf (Elt Ideal) ℓ) (g : Dev Cert.InDwAIdeal.nD → PrngReg), Pre_InDwAIdeal m →
    θ_run (Cert.InDwAIdeal.defs (F := Ideal)) (onTc (τ := Cert.InDwAIdeal.τ) (Cert.InDwAIdeal.main (F := Ideal))) ⟨m, fun _ => 0, g⟩ (fun r => (∀ c : Dev Cert.InDwAIdeal.nD,
      r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
      ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
      ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ r.2.sem = fun _ => 0)

def quiescent_InDwARefIdeal [hInDwARefIdeal : Cert.InDwARefIdeal.Facts] : Prop :=
  ∀ (m : (ℓ : Loc Cert.InDwARefIdeal.nD Cert.InDwARefIdeal.τ Cert.InDwARefIdeal.sig) → Buf (Elt Ideal) ℓ) (g : Dev Cert.InDwARefIdeal.nD → PrngReg), Pre_InDwARefIdeal m →
    θ_run (Cert.InDwARefIdeal.defs (F := Ideal)) (onTc (τ := Cert.InDwARefIdeal.τ) (Cert.InDwARefIdeal.main (F := Ideal))) ⟨m, fun _ => 0, g⟩ (fun r => (∀ c : Dev Cert.InDwARefIdeal.nD,
      r.2.mem ((c.tc : Thread Cert.InDwARefIdeal.nD Cert.InDwARefIdeal.τ).loc Cert.InDwARefIdeal.main_arg0) = m ((c.tc : Thread Cert.InDwARefIdeal.nD Cert.InDwARefIdeal.τ).loc Cert.InDwARefIdeal.main_arg0)
      ∧ r.2.mem ((c.tc : Thread Cert.InDwARefIdeal.nD Cert.InDwARefIdeal.τ).loc Cert.InDwARefIdeal.main_arg1) = m ((c.tc : Thread Cert.InDwARefIdeal.nD Cert.InDwARefIdeal.τ).loc Cert.InDwARefIdeal.main_arg1)
      ∧ r.2.mem ((c.tc : Thread Cert.InDwARefIdeal.nD Cert.InDwARefIdeal.τ).loc Cert.InDwARefIdeal.main_arg2) = m ((c.tc : Thread Cert.InDwARefIdeal.nD Cert.InDwARefIdeal.τ).loc Cert.InDwARefIdeal.main_arg2))
      ∧ r.2.sem = fun _ => 0)

def quiescent_InDwB [hInDwB : Cert.InDwB.Facts] : Prop :=
  ∀ (m : (ℓ : Loc Cert.InDwB.nD Cert.InDwB.τ Cert.InDwB.sig) → Buf (Elt Bits) ℓ) (g : Dev Cert.InDwB.nD → PrngReg), Pre_InDwB m →
    θ_run (Cert.InDwB.defs (F := Bits)) (onTc (τ := Cert.InDwB.τ) (Cert.InDwB.main (F := Bits))) ⟨m, fun _ => 0, g⟩ (fun r => (∀ c : Dev Cert.InDwB.nD,
      r.2.mem ((c.tc : Thread Cert.InDwB.nD Cert.InDwB.τ).loc Cert.InDwB.main_arg0) = m ((c.tc : Thread Cert.InDwB.nD Cert.InDwB.τ).loc Cert.InDwB.main_arg0)
      ∧ r.2.mem ((c.tc : Thread Cert.InDwB.nD Cert.InDwB.τ).loc Cert.InDwB.main_arg1) = m ((c.tc : Thread Cert.InDwB.nD Cert.InDwB.τ).loc Cert.InDwB.main_arg1)
      ∧ r.2.mem ((c.tc : Thread Cert.InDwB.nD Cert.InDwB.τ).loc Cert.InDwB.main_arg2) = m ((c.tc : Thread Cert.InDwB.nD Cert.InDwB.τ).loc Cert.InDwB.main_arg2))
      ∧ r.2.sem = fun _ => 0)

def quiescent_InDwBIdeal [hInDwBIdeal : Cert.InDwBIdeal.Facts] : Prop :=
  ∀ (m : (ℓ : Loc Cert.InDwBIdeal.nD Cert.InDwBIdeal.τ Cert.InDwBIdeal.sig) → Buf (Elt Ideal) ℓ) (g : Dev Cert.InDwBIdeal.nD → PrngReg), Pre_InDwBIdeal m →
    θ_run (Cert.InDwBIdeal.defs (F := Ideal)) (onTc (τ := Cert.InDwBIdeal.τ) (Cert.InDwBIdeal.main (F := Ideal))) ⟨m, fun _ => 0, g⟩ (fun r => (∀ c : Dev Cert.InDwBIdeal.nD,
      r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
      ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
      ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ r.2.sem = fun _ => 0)

def quiescent_InDwBRefIdeal [hInDwBRefIdeal : Cert.InDwBRefIdeal.Facts] : Prop :=
  ∀ (m : (ℓ : Loc Cert.InDwBRefIdeal.nD Cert.InDwBRefIdeal.τ Cert.InDwBRefIdeal.sig) → Buf (Elt Ideal) ℓ) (g : Dev Cert.InDwBRefIdeal.nD → PrngReg), Pre_InDwBRefIdeal m →
    θ_run (Cert.InDwBRefIdeal.defs (F := Ideal)) (onTc (τ := Cert.InDwBRefIdeal.τ) (Cert.InDwBRefIdeal.main (F := Ideal))) ⟨m, fun _ => 0, g⟩ (fun r => (∀ c : Dev Cert.InDwBRefIdeal.nD,
      r.2.mem ((c.tc : Thread Cert.InDwBRefIdeal.nD Cert.InDwBRefIdeal.τ).loc Cert.InDwBRefIdeal.main_arg0) = m ((c.tc : Thread Cert.InDwBRefIdeal.nD Cert.InDwBRefIdeal.τ).loc Cert.InDwBRefIdeal.main_arg0)
      ∧ r.2.mem ((c.tc : Thread Cert.InDwBRefIdeal.nD Cert.InDwBRefIdeal.τ).loc Cert.InDwBRefIdeal.main_arg1) = m ((c.tc : Thread Cert.InDwBRefIdeal.nD Cert.InDwBRefIdeal.τ).loc Cert.InDwBRefIdeal.main_arg1)
      ∧ r.2.mem ((c.tc : Thread Cert.InDwBRefIdeal.nD Cert.InDwBRefIdeal.τ).loc Cert.InDwBRefIdeal.main_arg2) = m ((c.tc : Thread Cert.InDwBRefIdeal.nD Cert.InDwBRefIdeal.τ).loc Cert.InDwBRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUg [hAdamUg : Cert.AdamUg.Facts] : Prop :=
  ∀ (m : (ℓ : Loc Cert.AdamUg.nD Cert.AdamUg.τ Cert.AdamUg.sig) → Buf (Elt Bits) ℓ) (g : Dev Cert.AdamUg.nD → PrngReg), Pre_AdamUg m →
    θ_run (Cert.AdamUg.defs (F := Bits)) (onTc (τ := Cert.AdamUg.τ) (Cert.AdamUg.main (F := Bits))) ⟨m, fun _ => 0, g⟩ (fun r => (∀ c : Dev Cert.AdamUg.nD,
      r.2.mem ((c.tc : Thread Cert.AdamUg.nD Cert.AdamUg.τ).loc Cert.AdamUg.main_arg0) = m ((c.tc : Thread Cert.AdamUg.nD Cert.AdamUg.τ).loc Cert.AdamUg.main_arg0)
      ∧ r.2.mem ((c.tc : Thread Cert.AdamUg.nD Cert.AdamUg.τ).loc Cert.AdamUg.main_arg1) = m ((c.tc : Thread Cert.AdamUg.nD Cert.AdamUg.τ).loc Cert.AdamUg.main_arg1)
      ∧ r.2.mem ((c.tc : Thread Cert.AdamUg.nD Cert.AdamUg.τ).loc Cert.AdamUg.main_arg2) = m ((c.tc : Thread Cert.AdamUg.nD Cert.AdamUg.τ).loc Cert.AdamUg.main_arg2)
      ∧ r.2.mem ((c.tc : Thread Cert.AdamUg.nD Cert.AdamUg.τ).loc Cert.AdamUg.main_arg3) = m ((c.tc : Thread Cert.AdamUg.nD Cert.AdamUg.τ).loc Cert.AdamUg.main_arg3))
      ∧ r.2.sem = fun _ => 0)

def quiescent_AdamUgIdeal [hAdamUgIdeal : Cert.AdamUgIdeal.Facts] : Prop :=
  ∀ (m : (ℓ : Loc Cert.AdamUgIdeal.nD Cert.AdamUgIdeal.τ Cert.AdamUgIdeal.sig) → Buf (Elt Ideal) ℓ) (g : Dev Cert.AdamUgIdeal.nD → PrngReg), Pre_AdamUgIdeal m →
    θ_run (Cert.AdamUgIdeal.defs (F := Ideal)) (onTc (τ := Cert.AdamUgIdeal.τ) (Cert.AdamUgIdeal.main (F := Ideal))) ⟨m, fun _ => 0, g⟩ (fun r => (∀ c : Dev Cert.AdamUgIdeal.nD,
      r.2.mem ((c.tc : Thread Cert.AdamUgIdeal.nD Cert.AdamUgIdeal.τ).loc Cert.AdamUgIdeal.main_arg0) = m ((c.tc : Thread Cert.AdamUgIdeal.nD Cert.AdamUgIdeal.τ).loc Cert.AdamUgIdeal.main_arg0)
      ∧ r.2.mem ((c.tc : Thread Cert.AdamUgIdeal.nD Cert.AdamUgIdeal.τ).loc Cert.AdamUgIdeal.main_arg1) = m ((c.tc : Thread Cert.AdamUgIdeal.nD Cert.AdamUgIdeal.τ).loc Cert.AdamUgIdeal.main_arg1)
      ∧ r.2.mem ((c.tc : Thread Cert.AdamUgIdeal.nD Cert.AdamUgIdeal.τ).loc Cert.AdamUgIdeal.main_arg2) = m ((c.tc : Thread Cert.AdamUgIdeal.nD Cert.AdamUgIdeal.τ).loc Cert.AdamUgIdeal.main_arg2)
      ∧ r.2.mem ((c.tc : Thread Cert.AdamUgIdeal.nD Cert.AdamUgIdeal.τ).loc Cert.AdamUgIdeal.main_arg3) = m ((c.tc : Thread Cert.AdamUgIdeal.nD Cert.AdamUgIdeal.τ).loc Cert.AdamUgIdeal.main_arg3))
      ∧ r.2.sem = fun _ => 0)

def quiescent_AdamUgRefIdeal [hAdamUgRefIdeal : Cert.AdamUgRefIdeal.Facts] : Prop :=
  ∀ (m : (ℓ : Loc Cert.AdamUgRefIdeal.nD Cert.AdamUgRefIdeal.τ Cert.AdamUgRefIdeal.sig) → Buf (Elt Ideal) ℓ) (g : Dev Cert.AdamUgRefIdeal.nD → PrngReg), Pre_AdamUgRefIdeal m →
    θ_run (Cert.AdamUgRefIdeal.defs (F := Ideal)) (onTc (τ := Cert.AdamUgRefIdeal.τ) (Cert.AdamUgRefIdeal.main (F := Ideal))) ⟨m, fun _ => 0, g⟩ (fun r => (∀ c : Dev Cert.AdamUgRefIdeal.nD,
      r.2.mem ((c.tc : Thread Cert.AdamUgRefIdeal.nD Cert.AdamUgRefIdeal.τ).loc Cert.AdamUgRefIdeal.main_arg0) = m ((c.tc : Thread Cert.AdamUgRefIdeal.nD Cert.AdamUgRefIdeal.τ).loc Cert.AdamUgRefIdeal.main_arg0)
      ∧ r.2.mem ((c.tc : Thread Cert.AdamUgRefIdeal.nD Cert.AdamUgRefIdeal.τ).loc Cert.AdamUgRefIdeal.main_arg1) = m ((c.tc : Thread Cert.AdamUgRefIdeal.nD Cert.AdamUgRefIdeal.τ).loc Cert.AdamUgRefIdeal.main_arg1)
      ∧ r.2.mem ((c.tc : Thread Cert.AdamUgRefIdeal.nD Cert.AdamUgRefIdeal.τ).loc Cert.AdamUgRefIdeal.main_arg2) = m ((c.tc : Thread Cert.AdamUgRefIdeal.nD Cert.AdamUgRefIdeal.τ).loc Cert.AdamUgRefIdeal.main_arg2)
      ∧ r.2.mem ((c.tc : Thread Cert.AdamUgRefIdeal.nD Cert.AdamUgRefIdeal.τ).loc Cert.AdamUgRefIdeal.main_arg3) = m ((c.tc : Thread Cert.AdamUgRefIdeal.nD Cert.AdamUgRefIdeal.τ).loc Cert.AdamUgRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamAttn [hAdamAttn : Cert.AdamAttn.Facts] : Prop :=
  ∀ (m : (ℓ : Loc Cert.AdamAttn.nD Cert.AdamAttn.τ Cert.AdamAttn.sig) → Buf (Elt Bits) ℓ) (g : Dev Cert.AdamAttn.nD → PrngReg), Pre_AdamAttn m →
    θ_run (Cert.AdamAttn.defs (F := Bits)) (onTc (τ := Cert.AdamAttn.τ) (Cert.AdamAttn.main (F := Bits))) ⟨m, fun _ => 0, g⟩ (fun r => (∀ c : Dev Cert.AdamAttn.nD,
      r.2.mem ((c.tc : Thread Cert.AdamAttn.nD Cert.AdamAttn.τ).loc Cert.AdamAttn.main_arg0) = m ((c.tc : Thread Cert.AdamAttn.nD Cert.AdamAttn.τ).loc Cert.AdamAttn.main_arg0)
      ∧ r.2.mem ((c.tc : Thread Cert.AdamAttn.nD Cert.AdamAttn.τ).loc Cert.AdamAttn.main_arg1) = m ((c.tc : Thread Cert.AdamAttn.nD Cert.AdamAttn.τ).loc Cert.AdamAttn.main_arg1)
      ∧ r.2.mem ((c.tc : Thread Cert.AdamAttn.nD Cert.AdamAttn.τ).loc Cert.AdamAttn.main_arg2) = m ((c.tc : Thread Cert.AdamAttn.nD Cert.AdamAttn.τ).loc Cert.AdamAttn.main_arg2)
      ∧ r.2.mem ((c.tc : Thread Cert.AdamAttn.nD Cert.AdamAttn.τ).loc Cert.AdamAttn.main_arg3) = m ((c.tc : Thread Cert.AdamAttn.nD Cert.AdamAttn.τ).loc Cert.AdamAttn.main_arg3))
      ∧ r.2.sem = fun _ => 0)

def quiescent_AdamAttnIdeal [hAdamAttnIdeal : Cert.AdamAttnIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg), Pre_AdamAttnIdeal m →
    θ_run (Cert.AdamAttnIdeal.defs (F := Ideal)) (onTc (τ := Cert.AdamAttnIdeal.τ) (Cert.AdamAttnIdeal.main (F := Ideal))) ⟨m, fun _ => 0, g⟩ (fun r => (∀ c : Dev Cert.AdamAttnIdeal.nD,
      r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
      ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
      ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
      ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ r.2.sem = fun _ => 0)

def quiescent_AdamAttnRefIdeal [hAdamAttnRefIdeal : Cert.AdamAttnRefIdeal.Facts] : Prop :=
  ∀ (m : (ℓ : Loc Cert.AdamAttnRefIdeal.nD Cert.AdamAttnRefIdeal.τ Cert.AdamAttnRefIdeal.sig) → Buf (Elt Ideal) ℓ) (g : Dev Cert.AdamAttnRefIdeal.nD → PrngReg), Pre_AdamAttnRefIdeal m →
    θ_run (Cert.AdamAttnRefIdeal.defs (F := Ideal)) (onTc (τ := Cert.AdamAttnRefIdeal.τ) (Cert.AdamAttnRefIdeal.main (F := Ideal))) ⟨m, fun _ => 0, g⟩ (fun r => (∀ c : Dev Cert.AdamAttnRefIdeal.nD,
      r.2.mem ((c.tc : Thread Cert.AdamAttnRefIdeal.nD Cert.AdamAttnRefIdeal.τ).loc Cert.AdamAttnRefIdeal.main_arg0) = m ((c.tc : Thread Cert.AdamAttnRefIdeal.nD Cert.AdamAttnRefIdeal.τ).loc Cert.AdamAttnRefIdeal.main_arg0)
      ∧ r.2.mem ((c.tc : Thread Cert.AdamAttnRefIdeal.nD Cert.AdamAttnRefIdeal.τ).loc Cert.AdamAttnRefIdeal.main_arg1) = m ((c.tc : Thread Cert.AdamAttnRefIdeal.nD Cert.AdamAttnRefIdeal.τ).loc Cert.AdamAttnRefIdeal.main_arg1)
      ∧ r.2.mem ((c.tc : Thread Cert.AdamAttnRefIdeal.nD Cert.AdamAttnRefIdeal.τ).loc Cert.AdamAttnRefIdeal.main_arg2) = m ((c.tc : Thread Cert.AdamAttnRefIdeal.nD Cert.AdamAttnRefIdeal.τ).loc Cert.AdamAttnRefIdeal.main_arg2)
      ∧ r.2.mem ((c.tc : Thread Cert.AdamAttnRefIdeal.nD Cert.AdamAttnRefIdeal.τ).loc Cert.AdamAttnRefIdeal.main_arg3) = m ((c.tc : Thread Cert.AdamAttnRefIdeal.nD Cert.AdamAttnRefIdeal.τ).loc Cert.AdamAttnRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  IdealRules.bf16_pack.Statement Cert.KernelIdeal.S384x128
  ∧ IdealRules.bf16_pack.Statement Cert.KernelIdeal.S256x128
  ∧ IdealRules.bf16_pack.Statement Cert.KernelIdeal.S128x128

def algebraic_KernelIdeal_ReferenceIdeal_pre_scores_in_range [hKernelIdeal : Cert.KernelIdeal.Facts] [hReferenceIdeal : Cert.ReferenceIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v8) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_UgDw_UgDwIdeal : Prop :=
  True

def algebraic_UgDwIdeal_UgDwRefIdeal [hUgDwIdeal : Cert.UgDwIdeal.Facts] [hUgDwRefIdeal : Cert.UgDwRefIdeal.Facts] : Prop :=
  ∀ (m : (ℓ : Loc Cert.UgDwIdeal.nD Cert.UgDwIdeal.τ Cert.UgDwIdeal.sig) → Buf (Elt Ideal) ℓ) (g : Dev Cert.UgDwIdeal.nD → PrngReg)
    (m' : (ℓ : Loc Cert.UgDwRefIdeal.nD Cert.UgDwRefIdeal.τ Cert.UgDwRefIdeal.sig) → Buf (Elt Ideal) ℓ) (g' : Dev Cert.UgDwRefIdeal.nD → PrngReg), Pre_UgDwIdeal m →
    (∀ c : Dev Cert.UgDwIdeal.nD,
      m' ((c.tc : Thread Cert.UgDwRefIdeal.nD Cert.UgDwRefIdeal.τ).loc Cert.UgDwRefIdeal.main_arg0) = m ((c.tc : Thread Cert.UgDwIdeal.nD Cert.UgDwIdeal.τ).loc Cert.UgDwIdeal.main_arg0)
      ∧ m' ((c.tc : Thread Cert.UgDwRefIdeal.nD Cert.UgDwRefIdeal.τ).loc Cert.UgDwRefIdeal.main_arg1) = m ((c.tc : Thread Cert.UgDwIdeal.nD Cert.UgDwIdeal.τ).loc Cert.UgDwIdeal.main_arg1)) →
    ∃ (v0 : (c : Dev Cert.UgDwIdeal.nD) → Buf (Elt Ideal) ((c.tc : Thread Cert.UgDwIdeal.nD Cert.UgDwIdeal.τ).loc Cert.UgDwIdeal.main_v0)),
      θ_run (Cert.UgDwIdeal.defs (F := Ideal)) (onTc (τ := Cert.UgDwIdeal.τ) (Cert.UgDwIdeal.main (F := Ideal))) ⟨m, fun _ => 0, g⟩ (fun r => ∀ c : Dev Cert.UgDwIdeal.nD,
          r.2.mem ((c.tc : Thread Cert.UgDwIdeal.nD Cert.UgDwIdeal.τ).loc Cert.UgDwIdeal.main_v0) = v0 c
          ∧ r.2.mem ((c.tc : Thread Cert.UgDwIdeal.nD Cert.UgDwIdeal.τ).loc Cert.UgDwIdeal.main_arg0) = m ((c.tc : Thread Cert.UgDwIdeal.nD Cert.UgDwIdeal.τ).loc Cert.UgDwIdeal.main_arg0)
          ∧ r.2.mem ((c.tc : Thread Cert.UgDwIdeal.nD Cert.UgDwIdeal.τ).loc Cert.UgDwIdeal.main_arg1) = m ((c.tc : Thread Cert.UgDwIdeal.nD Cert.UgDwIdeal.τ).loc Cert.UgDwIdeal.main_arg1))
      ∧ θ_run (Cert.UgDwRefIdeal.defs (F := Ideal)) (onTc (τ := Cert.UgDwRefIdeal.τ) (Cert.UgDwRefIdeal.main (F := Ideal))) ⟨m', fun _ => 0, g'⟩ (fun r => ∀ c : Dev Cert.UgDwRefIdeal.nD,
          r.2.mem ((c.tc : Thread Cert.UgDwRefIdeal.nD Cert.UgDwRefIdeal.τ).loc Cert.UgDwRefIdeal.main_v10) = v0 c
          ∧ r.2.mem ((c.tc : Thread Cert.UgDwRefIdeal.nD Cert.UgDwRefIdeal.τ).loc Cert.UgDwRefIdeal.main_arg0) = m' ((c.tc : Thread Cert.UgDwRefIdeal.nD Cert.UgDwRefIdeal.τ).loc Cert.UgDwRefIdeal.main_arg0)
          ∧ r.2.mem ((c.tc : Thread Cert.UgDwRefIdeal.nD Cert.UgDwRefIdeal.τ).loc Cert.UgDwRefIdeal.main_arg1) = m' ((c.tc : Thread Cert.UgDwRefIdeal.nD Cert.UgDwRefIdeal.τ).loc Cert.UgDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v8) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_UgDx_UgDxIdeal : Prop :=
  True

def algebraic_UgDxIdeal_UgDxRefIdeal [hUgDxIdeal : Cert.UgDxIdeal.Facts] [hUgDxRefIdeal : Cert.UgDxRefIdeal.Facts] : Prop :=
  ∀ (m : (ℓ : Loc Cert.UgDxIdeal.nD Cert.UgDxIdeal.τ Cert.UgDxIdeal.sig) → Buf (Elt Ideal) ℓ) (g : Dev Cert.UgDxIdeal.nD → PrngReg)
    (m' : (ℓ : Loc Cert.UgDxRefIdeal.nD Cert.UgDxRefIdeal.τ Cert.UgDxRefIdeal.sig) → Buf (Elt Ideal) ℓ) (g' : Dev Cert.UgDxRefIdeal.nD → PrngReg), Pre_UgDxIdeal m →
    (∀ c : Dev Cert.UgDxIdeal.nD,
      m' ((c.tc : Thread Cert.UgDxRefIdeal.nD Cert.UgDxRefIdeal.τ).loc Cert.UgDxRefIdeal.main_arg0) = m ((c.tc : Thread Cert.UgDxIdeal.nD Cert.UgDxIdeal.τ).loc Cert.UgDxIdeal.main_arg0)
      ∧ m' ((c.tc : Thread Cert.UgDxRefIdeal.nD Cert.UgDxRefIdeal.τ).loc Cert.UgDxRefIdeal.main_arg1) = m ((c.tc : Thread Cert.UgDxIdeal.nD Cert.UgDxIdeal.τ).loc Cert.UgDxIdeal.main_arg1)) →
    ∃ (v0 : (c : Dev Cert.UgDxIdeal.nD) → Buf (Elt Ideal) ((c.tc : Thread Cert.UgDxIdeal.nD Cert.UgDxIdeal.τ).loc Cert.UgDxIdeal.main_v0)),
      θ_run (Cert.UgDxIdeal.defs (F := Ideal)) (onTc (τ := Cert.UgDxIdeal.τ) (Cert.UgDxIdeal.main (F := Ideal))) ⟨m, fun _ => 0, g⟩ (fun r => ∀ c : Dev Cert.UgDxIdeal.nD,
          r.2.mem ((c.tc : Thread Cert.UgDxIdeal.nD Cert.UgDxIdeal.τ).loc Cert.UgDxIdeal.main_v0) = v0 c
          ∧ r.2.mem ((c.tc : Thread Cert.UgDxIdeal.nD Cert.UgDxIdeal.τ).loc Cert.UgDxIdeal.main_arg0) = m ((c.tc : Thread Cert.UgDxIdeal.nD Cert.UgDxIdeal.τ).loc Cert.UgDxIdeal.main_arg0)
          ∧ r.2.mem ((c.tc : Thread Cert.UgDxIdeal.nD Cert.UgDxIdeal.τ).loc Cert.UgDxIdeal.main_arg1) = m ((c.tc : Thread Cert.UgDxIdeal.nD Cert.UgDxIdeal.τ).loc Cert.UgDxIdeal.main_arg1))
      ∧ θ_run (Cert.UgDxRefIdeal.defs (F := Ideal)) (onTc (τ := Cert.UgDxRefIdeal.τ) (Cert.UgDxRefIdeal.main (F := Ideal))) ⟨m', fun _ => 0, g'⟩ (fun r => ∀ c : Dev Cert.UgDxRefIdeal.nD,
          r.2.mem ((c.tc : Thread Cert.UgDxRefIdeal.nD Cert.UgDxRefIdeal.τ).loc Cert.UgDxRefIdeal.main_v8) = v0 c
          ∧ r.2.mem ((c.tc : Thread Cert.UgDxRefIdeal.nD Cert.UgDxRefIdeal.τ).loc Cert.UgDxRefIdeal.main_arg0) = m' ((c.tc : Thread Cert.UgDxRefIdeal.nD Cert.UgDxRefIdeal.τ).loc Cert.UgDxRefIdeal.main_arg0)
          ∧ r.2.mem ((c.tc : Thread Cert.UgDxRefIdeal.nD Cert.UgDxRefIdeal.τ).loc Cert.UgDxRefIdeal.main_arg1) = m' ((c.tc : Thread Cert.UgDxRefIdeal.nD Cert.UgDxRefIdeal.τ).loc Cert.UgDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v9) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v9) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v8) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v7) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_UgFwd_UgFwdIdeal : Prop :=
  True

def algebraic_UgFwdIdeal_UgFwdRefIdeal [hUgFwdIdeal : Cert.UgFwdIdeal.Facts] [hUgFwdRefIdeal : Cert.UgFwdRefIdeal.Facts] : Prop :=
  ∀ (m : (ℓ : Loc Cert.UgFwdIdeal.nD Cert.UgFwdIdeal.τ Cert.UgFwdIdeal.sig) → Buf (Elt Ideal) ℓ) (g : Dev Cert.UgFwdIdeal.nD → PrngReg)
    (m' : (ℓ : Loc Cert.UgFwdRefIdeal.nD Cert.UgFwdRefIdeal.τ Cert.UgFwdRefIdeal.sig) → Buf (Elt Ideal) ℓ) (g' : Dev Cert.UgFwdRefIdeal.nD → PrngReg), Pre_UgFwdIdeal m →
    (∀ c : Dev Cert.UgFwdIdeal.nD,
      m' ((c.tc : Thread Cert.UgFwdRefIdeal.nD Cert.UgFwdRefIdeal.τ).loc Cert.UgFwdRefIdeal.main_arg0) = m ((c.tc : Thread Cert.UgFwdIdeal.nD Cert.UgFwdIdeal.τ).loc Cert.UgFwdIdeal.main_arg0)
      ∧ m' ((c.tc : Thread Cert.UgFwdRefIdeal.nD Cert.UgFwdRefIdeal.τ).loc Cert.UgFwdRefIdeal.main_arg1) = m ((c.tc : Thread Cert.UgFwdIdeal.nD Cert.UgFwdIdeal.τ).loc Cert.UgFwdIdeal.main_arg1)) →
    ∃ (v0 : (c : Dev Cert.UgFwdIdeal.nD) → Buf (Elt Ideal) ((c.tc : Thread Cert.UgFwdIdeal.nD Cert.UgFwdIdeal.τ).loc Cert.UgFwdIdeal.main_v0)),
      θ_run (Cert.UgFwdIdeal.defs (F := Ideal)) (onTc (τ := Cert.UgFwdIdeal.τ) (Cert.UgFwdIdeal.main (F := Ideal))) ⟨m, fun _ => 0, g⟩ (fun r => ∀ c : Dev Cert.UgFwdIdeal.nD,
          r.2.mem ((c.tc : Thread Cert.UgFwdIdeal.nD Cert.UgFwdIdeal.τ).loc Cert.UgFwdIdeal.main_v0) = v0 c
          ∧ r.2.mem ((c.tc : Thread Cert.UgFwdIdeal.nD Cert.UgFwdIdeal.τ).loc Cert.UgFwdIdeal.main_arg0) = m ((c.tc : Thread Cert.UgFwdIdeal.nD Cert.UgFwdIdeal.τ).loc Cert.UgFwdIdeal.main_arg0)
          ∧ r.2.mem ((c.tc : Thread Cert.UgFwdIdeal.nD Cert.UgFwdIdeal.τ).loc Cert.UgFwdIdeal.main_arg1) = m ((c.tc : Thread Cert.UgFwdIdeal.nD Cert.UgFwdIdeal.τ).loc Cert.UgFwdIdeal.main_arg1))
      ∧ θ_run (Cert.UgFwdRefIdeal.defs (F := Ideal)) (onTc (τ := Cert.UgFwdRefIdeal.τ) (Cert.UgFwdRefIdeal.main (F := Ideal))) ⟨m', fun _ => 0, g'⟩ (fun r => ∀ c : Dev Cert.UgFwdRefIdeal.nD,
          r.2.mem ((c.tc : Thread Cert.UgFwdRefIdeal.nD Cert.UgFwdRefIdeal.τ).loc Cert.UgFwdRefIdeal.main_v7) = v0 c
          ∧ r.2.mem ((c.tc : Thread Cert.UgFwdRefIdeal.nD Cert.UgFwdRefIdeal.τ).loc Cert.UgFwdRefIdeal.main_arg0) = m' ((c.tc : Thread Cert.UgFwdRefIdeal.nD Cert.UgFwdRefIdeal.τ).loc Cert.UgFwdRefIdeal.main_arg0)
          ∧ r.2.mem ((c.tc : Thread Cert.UgFwdRefIdeal.nD Cert.UgFwdRefIdeal.τ).loc Cert.UgFwdRefIdeal.main_arg1) = m' ((c.tc : Thread Cert.UgFwdRefIdeal.nD Cert.UgFwdRefIdeal.τ).loc Cert.UgFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v5) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v0)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v0) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v7) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v6) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_InDwA_InDwAIdeal : Prop :=
  True

def algebraic_InDwAIdeal_InDwARefIdeal [hInDwAIdeal : Cert.InDwAIdeal.Facts] [hInDwARefIdeal : Cert.InDwARefIdeal.Facts] : Prop :=
  ∀ (m : (ℓ : Loc Cert.InDwAIdeal.nD Cert.InDwAIdeal.τ Cert.InDwAIdeal.sig) → Buf (Elt Ideal) ℓ) (g : Dev Cert.InDwAIdeal.nD → PrngReg)
    (m' : (ℓ : Loc Cert.InDwARefIdeal.nD Cert.InDwARefIdeal.τ Cert.InDwARefIdeal.sig) → Buf (Elt Ideal) ℓ) (g' : Dev Cert.InDwARefIdeal.nD → PrngReg), Pre_InDwAIdeal m →
    (∀ c : Dev Cert.InDwAIdeal.nD,
      m' ((c.tc : Thread Cert.InDwARefIdeal.nD Cert.InDwARefIdeal.τ).loc Cert.InDwARefIdeal.main_arg0) = m ((c.tc : Thread Cert.InDwAIdeal.nD Cert.InDwAIdeal.τ).loc Cert.InDwAIdeal.main_arg0)
      ∧ m' ((c.tc : Thread Cert.InDwARefIdeal.nD Cert.InDwARefIdeal.τ).loc Cert.InDwARefIdeal.main_arg1) = m ((c.tc : Thread Cert.InDwAIdeal.nD Cert.InDwAIdeal.τ).loc Cert.InDwAIdeal.main_arg1)
      ∧ m' ((c.tc : Thread Cert.InDwARefIdeal.nD Cert.InDwARefIdeal.τ).loc Cert.InDwARefIdeal.main_arg2) = m ((c.tc : Thread Cert.InDwAIdeal.nD Cert.InDwAIdeal.τ).loc Cert.InDwAIdeal.main_arg2)) →
    ∃ (v0 : (c : Dev Cert.InDwAIdeal.nD) → Buf (Elt Ideal) ((c.tc : Thread Cert.InDwAIdeal.nD Cert.InDwAIdeal.τ).loc Cert.InDwAIdeal.main_v0)),
      θ_run (Cert.InDwAIdeal.defs (F := Ideal)) (onTc (τ := Cert.InDwAIdeal.τ) (Cert.InDwAIdeal.main (F := Ideal))) ⟨m, fun _ => 0, g⟩ (fun r => ∀ c : Dev Cert.InDwAIdeal.nD,
          r.2.mem ((c.tc : Thread Cert.InDwAIdeal.nD Cert.InDwAIdeal.τ).loc Cert.InDwAIdeal.main_v0) = v0 c
          ∧ r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
          ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
          ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ θ_run (Cert.InDwARefIdeal.defs (F := Ideal)) (onTc (τ := Cert.InDwARefIdeal.τ) (Cert.InDwARefIdeal.main (F := Ideal))) ⟨m', fun _ => 0, g'⟩ (fun r => ∀ c : Dev Cert.InDwARefIdeal.nD,
          r.2.mem ((c.tc : Thread Cert.InDwARefIdeal.nD Cert.InDwARefIdeal.τ).loc Cert.InDwARefIdeal.main_v13) = v0 c
          ∧ r.2.mem ((c.tc : Thread Cert.InDwARefIdeal.nD Cert.InDwARefIdeal.τ).loc Cert.InDwARefIdeal.main_arg0) = m' ((c.tc : Thread Cert.InDwARefIdeal.nD Cert.InDwARefIdeal.τ).loc Cert.InDwARefIdeal.main_arg0)
          ∧ r.2.mem ((c.tc : Thread Cert.InDwARefIdeal.nD Cert.InDwARefIdeal.τ).loc Cert.InDwARefIdeal.main_arg1) = m' ((c.tc : Thread Cert.InDwARefIdeal.nD Cert.InDwARefIdeal.τ).loc Cert.InDwARefIdeal.main_arg1)
          ∧ r.2.mem ((c.tc : Thread Cert.InDwARefIdeal.nD Cert.InDwARefIdeal.τ).loc Cert.InDwARefIdeal.main_arg2) = m' ((c.tc : Thread Cert.InDwARefIdeal.nD Cert.InDwARefIdeal.τ).loc Cert.InDwARefIdeal.main_arg2))

def preserves_InDwB_InDwBIdeal : Prop :=
  True

def algebraic_InDwBIdeal_InDwBRefIdeal [hInDwBIdeal : Cert.InDwBIdeal.Facts] [hInDwBRefIdeal : Cert.InDwBRefIdeal.Facts] : Prop :=
  ∀ (m : (ℓ : Loc Cert.InDwBIdeal.nD Cert.InDwBIdeal.τ Cert.InDwBIdeal.sig) → Buf (Elt Ideal) ℓ) (g : Dev Cert.InDwBIdeal.nD → PrngReg)
    (m' : (ℓ : Loc Cert.InDwBRefIdeal.nD Cert.InDwBRefIdeal.τ Cert.InDwBRefIdeal.sig) → Buf (Elt Ideal) ℓ) (g' : Dev Cert.InDwBRefIdeal.nD → PrngReg), Pre_InDwBIdeal m →
    (∀ c : Dev Cert.InDwBIdeal.nD,
      m' ((c.tc : Thread Cert.InDwBRefIdeal.nD Cert.InDwBRefIdeal.τ).loc Cert.InDwBRefIdeal.main_arg0) = m ((c.tc : Thread Cert.InDwBIdeal.nD Cert.InDwBIdeal.τ).loc Cert.InDwBIdeal.main_arg0)
      ∧ m' ((c.tc : Thread Cert.InDwBRefIdeal.nD Cert.InDwBRefIdeal.τ).loc Cert.InDwBRefIdeal.main_arg1) = m ((c.tc : Thread Cert.InDwBIdeal.nD Cert.InDwBIdeal.τ).loc Cert.InDwBIdeal.main_arg1)
      ∧ m' ((c.tc : Thread Cert.InDwBRefIdeal.nD Cert.InDwBRefIdeal.τ).loc Cert.InDwBRefIdeal.main_arg2) = m ((c.tc : Thread Cert.InDwBIdeal.nD Cert.InDwBIdeal.τ).loc Cert.InDwBIdeal.main_arg2)) →
    ∃ (v0 : (c : Dev Cert.InDwBIdeal.nD) → Buf (Elt Ideal) ((c.tc : Thread Cert.InDwBIdeal.nD Cert.InDwBIdeal.τ).loc Cert.InDwBIdeal.main_v0)),
      θ_run (Cert.InDwBIdeal.defs (F := Ideal)) (onTc (τ := Cert.InDwBIdeal.τ) (Cert.InDwBIdeal.main (F := Ideal))) ⟨m, fun _ => 0, g⟩ (fun r => ∀ c : Dev Cert.InDwBIdeal.nD,
          r.2.mem ((c.tc : Thread Cert.InDwBIdeal.nD Cert.InDwBIdeal.τ).loc Cert.InDwBIdeal.main_v0) = v0 c
          ∧ r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
          ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
          ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ θ_run (Cert.InDwBRefIdeal.defs (F := Ideal)) (onTc (τ := Cert.InDwBRefIdeal.τ) (Cert.InDwBRefIdeal.main (F := Ideal))) ⟨m', fun _ => 0, g'⟩ (fun r => ∀ c : Dev Cert.InDwBRefIdeal.nD,
          r.2.mem ((c.tc : Thread Cert.InDwBRefIdeal.nD Cert.InDwBRefIdeal.τ).loc Cert.InDwBRefIdeal.main_v13) = v0 c
          ∧ r.2.mem ((c.tc : Thread Cert.InDwBRefIdeal.nD Cert.InDwBRefIdeal.τ).loc Cert.InDwBRefIdeal.main_arg0) = m' ((c.tc : Thread Cert.InDwBRefIdeal.nD Cert.InDwBRefIdeal.τ).loc Cert.InDwBRefIdeal.main_arg0)
          ∧ r.2.mem ((c.tc : Thread Cert.InDwBRefIdeal.nD Cert.InDwBRefIdeal.τ).loc Cert.InDwBRefIdeal.main_arg1) = m' ((c.tc : Thread Cert.InDwBRefIdeal.nD Cert.InDwBRefIdeal.τ).loc Cert.InDwBRefIdeal.main_arg1)
          ∧ r.2.mem ((c.tc : Thread Cert.InDwBRefIdeal.nD Cert.InDwBRefIdeal.τ).loc Cert.InDwBRefIdeal.main_arg2) = m' ((c.tc : Thread Cert.InDwBRefIdeal.nD Cert.InDwBRefIdeal.τ).loc Cert.InDwBRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUg_AdamUgIdeal : Prop :=
  True

def algebraic_AdamUgIdeal_AdamUgRefIdeal [hAdamUgIdeal : Cert.AdamUgIdeal.Facts] [hAdamUgRefIdeal : Cert.AdamUgRefIdeal.Facts] : Prop :=
  ∀ (m : (ℓ : Loc Cert.AdamUgIdeal.nD Cert.AdamUgIdeal.τ Cert.AdamUgIdeal.sig) → Buf (Elt Ideal) ℓ) (g : Dev Cert.AdamUgIdeal.nD → PrngReg)
    (m' : (ℓ : Loc Cert.AdamUgRefIdeal.nD Cert.AdamUgRefIdeal.τ Cert.AdamUgRefIdeal.sig) → Buf (Elt Ideal) ℓ) (g' : Dev Cert.AdamUgRefIdeal.nD → PrngReg), Pre_AdamUgIdeal m →
    (∀ c : Dev Cert.AdamUgIdeal.nD,
      m' ((c.tc : Thread Cert.AdamUgRefIdeal.nD Cert.AdamUgRefIdeal.τ).loc Cert.AdamUgRefIdeal.main_arg0) = m ((c.tc : Thread Cert.AdamUgIdeal.nD Cert.AdamUgIdeal.τ).loc Cert.AdamUgIdeal.main_arg0)
      ∧ m' ((c.tc : Thread Cert.AdamUgRefIdeal.nD Cert.AdamUgRefIdeal.τ).loc Cert.AdamUgRefIdeal.main_arg1) = m ((c.tc : Thread Cert.AdamUgIdeal.nD Cert.AdamUgIdeal.τ).loc Cert.AdamUgIdeal.main_arg1)
      ∧ m' ((c.tc : Thread Cert.AdamUgRefIdeal.nD Cert.AdamUgRefIdeal.τ).loc Cert.AdamUgRefIdeal.main_arg2) = m ((c.tc : Thread Cert.AdamUgIdeal.nD Cert.AdamUgIdeal.τ).loc Cert.AdamUgIdeal.main_arg2)
      ∧ m' ((c.tc : Thread Cert.AdamUgRefIdeal.nD Cert.AdamUgRefIdeal.τ).loc Cert.AdamUgRefIdeal.main_arg3) = m ((c.tc : Thread Cert.AdamUgIdeal.nD Cert.AdamUgIdeal.τ).loc Cert.AdamUgIdeal.main_arg3)) →
    ∃ (v0 : (c : Dev Cert.AdamUgIdeal.nD) → Buf (Elt Ideal) ((c.tc : Thread Cert.AdamUgIdeal.nD Cert.AdamUgIdeal.τ).loc Cert.AdamUgIdeal.main_v0_0)) (v1 : (c : Dev Cert.AdamUgIdeal.nD) → Buf (Elt Ideal) ((c.tc : Thread Cert.AdamUgIdeal.nD Cert.AdamUgIdeal.τ).loc Cert.AdamUgIdeal.main_v0_1)) (v2 : (c : Dev Cert.AdamUgIdeal.nD) → Buf (Elt Ideal) ((c.tc : Thread Cert.AdamUgIdeal.nD Cert.AdamUgIdeal.τ).loc Cert.AdamUgIdeal.main_v0_2)) (v3 : (c : Dev Cert.AdamUgIdeal.nD) → Buf (Elt Ideal) ((c.tc : Thread Cert.AdamUgIdeal.nD Cert.AdamUgIdeal.τ).loc Cert.AdamUgIdeal.main_v0_3)),
      θ_run (Cert.AdamUgIdeal.defs (F := Ideal)) (onTc (τ := Cert.AdamUgIdeal.τ) (Cert.AdamUgIdeal.main (F := Ideal))) ⟨m, fun _ => 0, g⟩ (fun r => ∀ c : Dev Cert.AdamUgIdeal.nD,
          r.2.mem ((c.tc : Thread Cert.AdamUgIdeal.nD Cert.AdamUgIdeal.τ).loc Cert.AdamUgIdeal.main_v0_0) = v0 c
          ∧ r.2.mem ((c.tc : Thread Cert.AdamUgIdeal.nD Cert.AdamUgIdeal.τ).loc Cert.AdamUgIdeal.main_v0_1) = v1 c
          ∧ r.2.mem ((c.tc : Thread Cert.AdamUgIdeal.nD Cert.AdamUgIdeal.τ).loc Cert.AdamUgIdeal.main_v0_2) = v2 c
          ∧ r.2.mem ((c.tc : Thread Cert.AdamUgIdeal.nD Cert.AdamUgIdeal.τ).loc Cert.AdamUgIdeal.main_v0_3) = v3 c
          ∧ r.2.mem ((c.tc : Thread Cert.AdamUgIdeal.nD Cert.AdamUgIdeal.τ).loc Cert.AdamUgIdeal.main_arg0) = m ((c.tc : Thread Cert.AdamUgIdeal.nD Cert.AdamUgIdeal.τ).loc Cert.AdamUgIdeal.main_arg0)
          ∧ r.2.mem ((c.tc : Thread Cert.AdamUgIdeal.nD Cert.AdamUgIdeal.τ).loc Cert.AdamUgIdeal.main_arg1) = m ((c.tc : Thread Cert.AdamUgIdeal.nD Cert.AdamUgIdeal.τ).loc Cert.AdamUgIdeal.main_arg1)
          ∧ r.2.mem ((c.tc : Thread Cert.AdamUgIdeal.nD Cert.AdamUgIdeal.τ).loc Cert.AdamUgIdeal.main_arg2) = m ((c.tc : Thread Cert.AdamUgIdeal.nD Cert.AdamUgIdeal.τ).loc Cert.AdamUgIdeal.main_arg2)
          ∧ r.2.mem ((c.tc : Thread Cert.AdamUgIdeal.nD Cert.AdamUgIdeal.τ).loc Cert.AdamUgIdeal.main_arg3) = m ((c.tc : Thread Cert.AdamUgIdeal.nD Cert.AdamUgIdeal.τ).loc Cert.AdamUgIdeal.main_arg3))
      ∧ θ_run (Cert.AdamUgRefIdeal.defs (F := Ideal)) (onTc (τ := Cert.AdamUgRefIdeal.τ) (Cert.AdamUgRefIdeal.main (F := Ideal))) ⟨m', fun _ => 0, g'⟩ (fun r => ∀ c : Dev Cert.AdamUgRefIdeal.nD,
          r.2.mem ((c.tc : Thread Cert.AdamUgRefIdeal.nD Cert.AdamUgRefIdeal.τ).loc Cert.AdamUgRefIdeal.main_v1) = v0 c
          ∧ r.2.mem ((c.tc : Thread Cert.AdamUgRefIdeal.nD Cert.AdamUgRefIdeal.τ).loc Cert.AdamUgRefIdeal.main_v25) = v1 c
          ∧ r.2.mem ((c.tc : Thread Cert.AdamUgRefIdeal.nD Cert.AdamUgRefIdeal.τ).loc Cert.AdamUgRefIdeal.main_v6) = v2 c
          ∧ r.2.mem ((c.tc : Thread Cert.AdamUgRefIdeal.nD Cert.AdamUgRefIdeal.τ).loc Cert.AdamUgRefIdeal.main_v12) = v3 c
          ∧ r.2.mem ((c.tc : Thread Cert.AdamUgRefIdeal.nD Cert.AdamUgRefIdeal.τ).loc Cert.AdamUgRefIdeal.main_arg0) = m' ((c.tc : Thread Cert.AdamUgRefIdeal.nD Cert.AdamUgRefIdeal.τ).loc Cert.AdamUgRefIdeal.main_arg0)
          ∧ r.2.mem ((c.tc : Thread Cert.AdamUgRefIdeal.nD Cert.AdamUgRefIdeal.τ).loc Cert.AdamUgRefIdeal.main_arg1) = m' ((c.tc : Thread Cert.AdamUgRefIdeal.nD Cert.AdamUgRefIdeal.τ).loc Cert.AdamUgRefIdeal.main_arg1)
          ∧ r.2.mem ((c.tc : Thread Cert.AdamUgRefIdeal.nD Cert.AdamUgRefIdeal.τ).loc Cert.AdamUgRefIdeal.main_arg2) = m' ((c.tc : Thread Cert.AdamUgRefIdeal.nD Cert.AdamUgRefIdeal.τ).loc Cert.AdamUgRefIdeal.main_arg2)
          ∧ r.2.mem ((c.tc : Thread Cert.AdamUgRefIdeal.nD Cert.AdamUgRefIdeal.τ).loc Cert.AdamUgRefIdeal.main_arg3) = m' ((c.tc : Thread Cert.AdamUgRefIdeal.nD Cert.AdamUgRefIdeal.τ).loc Cert.AdamUgRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v2) = v0 c
          ∧ r.2.mem ((c.tc : Thread Cert.AdamConvRefIdeal.nD Cert.AdamConvRefIdeal.τ).loc Cert.AdamConvRefIdeal.main_v26) = v1 c
          ∧ r.2.mem ((c.tc : Thread Cert.AdamConvRefIdeal.nD Cert.AdamConvRefIdeal.τ).loc Cert.AdamConvRefIdeal.main_v7) = v2 c
          ∧ r.2.mem ((c.tc : Thread Cert.AdamConvRefIdeal.nD Cert.AdamConvRefIdeal.τ).loc Cert.AdamConvRefIdeal.main_v13) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamAttn_AdamAttnIdeal : Prop :=
  True

def algebraic_AdamAttnIdeal_AdamAttnRefIdeal [hAdamAttnIdeal : Cert.AdamAttnIdeal.Facts] [hAdamAttnRefIdeal : Cert.AdamAttnRefIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg)
    (m' : (ℓ : Loc Cert.AdamAttnRefIdeal.nD Cert.AdamAttnRefIdeal.τ Cert.AdamAttnRefIdeal.sig) → Buf (Elt Ideal) ℓ) (g' : Dev Cert.AdamAttnRefIdeal.nD → PrngReg), Pre_AdamAttnIdeal m →
    (∀ c : Dev Cert.AdamAttnIdeal.nD,
      m' ((c.tc : Thread Cert.AdamAttnRefIdeal.nD Cert.AdamAttnRefIdeal.τ).loc Cert.AdamAttnRefIdeal.main_arg0) = m ((c.tc : Thread Cert.AdamAttnIdeal.nD Cert.AdamAttnIdeal.τ).loc Cert.AdamAttnIdeal.main_arg0)
      ∧ m' ((c.tc : Thread Cert.AdamAttnRefIdeal.nD Cert.AdamAttnRefIdeal.τ).loc Cert.AdamAttnRefIdeal.main_arg1) = m ((c.tc : Thread Cert.AdamAttnIdeal.nD Cert.AdamAttnIdeal.τ).loc Cert.AdamAttnIdeal.main_arg1)
      ∧ m' ((c.tc : Thread Cert.AdamAttnRefIdeal.nD Cert.AdamAttnRefIdeal.τ).loc Cert.AdamAttnRefIdeal.main_arg2) = m ((c.tc : Thread Cert.AdamAttnIdeal.nD Cert.AdamAttnIdeal.τ).loc Cert.AdamAttnIdeal.main_arg2)
      ∧ m' ((c.tc : Thread Cert.AdamAttnRefIdeal.nD Cert.AdamAttnRefIdeal.τ).loc Cert.AdamAttnRefIdeal.main_arg3) = m ((c.tc : Thread Cert.AdamAttnIdeal.nD Cert.AdamAttnIdeal.τ).loc Cert.AdamAttnIdeal.main_arg3)) →
    ∃ (v0 : (c : Dev Cert.AdamAttnIdeal.nD) → Buf (Elt Ideal) ((c.tc : Thread Cert.AdamAttnIdeal.nD Cert.AdamAttnIdeal.τ).loc Cert.AdamAttnIdeal.main_v0_0)) (v1 : (c : Dev Cert.AdamAttnIdeal.nD) → Buf (Elt Ideal) ((c.tc : Thread Cert.AdamAttnIdeal.nD Cert.AdamAttnIdeal.τ).loc Cert.AdamAttnIdeal.main_v0_1)) (v2 : (c : Dev Cert.AdamAttnIdeal.nD) → Buf (Elt Ideal) ((c.tc : Thread Cert.AdamAttnIdeal.nD Cert.AdamAttnIdeal.τ).loc Cert.AdamAttnIdeal.main_v0_2)) (v3 : (c : Dev Cert.AdamAttnIdeal.nD) → Buf (Elt Ideal) ((c.tc : Thread Cert.AdamAttnIdeal.nD Cert.AdamAttnIdeal.τ).loc Cert.AdamAttnIdeal.main_v0_3)),
      θ_run (Cert.AdamAttnIdeal.defs (F := Ideal)) (onTc (τ := Cert.AdamAttnIdeal.τ) (Cert.AdamAttnIdeal.main (F := Ideal))) ⟨m, fun _ => 0, g⟩ (fun r => ∀ c : Dev Cert.AdamAttnIdeal.nD,
          r.2.mem ((c.tc : Thread Cert.AdamAttnIdeal.nD Cert.AdamAttnIdeal.τ).loc Cert.AdamAttnIdeal.main_v0_0) = v0 c
          ∧ r.2.mem ((c.tc : Thread Cert.AdamAttnIdeal.nD Cert.AdamAttnIdeal.τ).loc Cert.AdamAttnIdeal.main_v0_1) = v1 c
          ∧ r.2.mem ((c.tc : Thread Cert.AdamAttnIdeal.nD Cert.AdamAttnIdeal.τ).loc Cert.AdamAttnIdeal.main_v0_2) = v2 c
          ∧ r.2.mem ((c.tc : Thread Cert.AdamAttnIdeal.nD Cert.AdamAttnIdeal.τ).loc Cert.AdamAttnIdeal.main_v0_3) = v3 c
          ∧ r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
          ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
          ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
          ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ θ_run (Cert.AdamAttnRefIdeal.defs (F := Ideal)) (onTc (τ := Cert.AdamAttnRefIdeal.τ) (Cert.AdamAttnRefIdeal.main (F := Ideal))) ⟨m', fun _ => 0, g'⟩ (fun r => ∀ c : Dev Cert.AdamAttnRefIdeal.nD,
          r.2.mem ((c.tc : Thread Cert.AdamAttnRefIdeal.nD Cert.AdamAttnRefIdeal.τ).loc Cert.AdamAttnRefIdeal.main_v2) = v0 c
          ∧ r.2.mem ((c.tc : Thread Cert.AdamAttnRefIdeal.nD Cert.AdamAttnRefIdeal.τ).loc Cert.AdamAttnRefIdeal.main_v26) = v1 c
          ∧ r.2.mem ((c.tc : Thread Cert.AdamAttnRefIdeal.nD Cert.AdamAttnRefIdeal.τ).loc Cert.AdamAttnRefIdeal.main_v7) = v2 c
          ∧ r.2.mem ((c.tc : Thread Cert.AdamAttnRefIdeal.nD Cert.AdamAttnRefIdeal.τ).loc Cert.AdamAttnRefIdeal.main_v13) = v3 c
          ∧ r.2.mem ((c.tc : Thread Cert.AdamAttnRefIdeal.nD Cert.AdamAttnRefIdeal.τ).loc Cert.AdamAttnRefIdeal.main_arg0) = m' ((c.tc : Thread Cert.AdamAttnRefIdeal.nD Cert.AdamAttnRefIdeal.τ).loc Cert.AdamAttnRefIdeal.main_arg0)
          ∧ r.2.mem ((c.tc : Thread Cert.AdamAttnRefIdeal.nD Cert.AdamAttnRefIdeal.τ).loc Cert.AdamAttnRefIdeal.main_arg1) = m' ((c.tc : Thread Cert.AdamAttnRefIdeal.nD Cert.AdamAttnRefIdeal.τ).loc Cert.AdamAttnRefIdeal.main_arg1)
          ∧ r.2.mem ((c.tc : Thread Cert.AdamAttnRefIdeal.nD Cert.AdamAttnRefIdeal.τ).loc Cert.AdamAttnRefIdeal.main_arg2) = m' ((c.tc : Thread Cert.AdamAttnRefIdeal.nD Cert.AdamAttnRefIdeal.τ).loc Cert.AdamAttnRefIdeal.main_arg2)
          ∧ r.2.mem ((c.tc : Thread Cert.AdamAttnRefIdeal.nD Cert.AdamAttnRefIdeal.τ).loc Cert.AdamAttnRefIdeal.main_arg3) = m' ((c.tc : Thread Cert.AdamAttnRefIdeal.nD Cert.AdamAttnRefIdeal.τ).loc Cert.AdamAttnRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v4) = v8 c
          ∧ r.2.mem ((c.tc : Thread Cert.AdamSmallRefIdeal.nD Cert.AdamSmallRefIdeal.τ).loc Cert.AdamSmallRefIdeal.main_v28) = v9 c
          ∧ r.2.mem ((c.tc : Thread Cert.AdamSmallRefIdeal.nD Cert.AdamSmallRefIdeal.τ).loc Cert.AdamSmallRefIdeal.main_v52) = v10 c
          ∧ r.2.mem ((c.tc : Thread Cert.AdamSmallRefIdeal.nD Cert.AdamSmallRefIdeal.τ).loc Cert.AdamSmallRefIdeal.main_v76) = v11 c
          ∧ r.2.mem ((c.tc : Thread Cert.AdamSmallRefIdeal.nD Cert.AdamSmallRefIdeal.τ).loc Cert.AdamSmallRefIdeal.main_v100) = v12 c
          ∧ r.2.mem ((c.tc : Thread Cert.AdamSmallRefIdeal.nD Cert.AdamSmallRefIdeal.τ).loc Cert.AdamSmallRefIdeal.main_v124) = v13 c
          ∧ r.2.mem ((c.tc : Thread Cert.AdamSmallRefIdeal.nD Cert.AdamSmallRefIdeal.τ).loc Cert.AdamSmallRefIdeal.main_v148) = v14 c
          ∧ r.2.mem ((c.tc : Thread Cert.AdamSmallRefIdeal.nD Cert.AdamSmallRefIdeal.τ).loc Cert.AdamSmallRefIdeal.main_v172) = v15 c
          ∧ r.2.mem ((c.tc : Thread Cert.AdamSmallRefIdeal.nD Cert.AdamSmallRefIdeal.τ).loc Cert.AdamSmallRefIdeal.main_v10) = v16 c
          ∧ r.2.mem ((c.tc : Thread Cert.AdamSmallRefIdeal.nD Cert.AdamSmallRefIdeal.τ).loc Cert.AdamSmallRefIdeal.main_v34) = v17 c
          ∧ r.2.mem ((c.tc : Thread Cert.AdamSmallRefIdeal.nD Cert.AdamSmallRefIdeal.τ).loc Cert.AdamSmallRefIdeal.main_v58) = v18 c
          ∧ r.2.mem ((c.tc : Thread Cert.AdamSmallRefIdeal.nD Cert.AdamSmallRefIdeal.τ).loc Cert.AdamSmallRefIdeal.main_v82) = v19 c
          ∧ r.2.mem ((c.tc : Thread Cert.AdamSmallRefIdeal.nD Cert.AdamSmallRefIdeal.τ).loc Cert.AdamSmallRefIdeal.main_v106) = v20 c
          ∧ r.2.mem ((c.tc : Thread Cert.AdamSmallRefIdeal.nD Cert.AdamSmallRefIdeal.τ).loc Cert.AdamSmallRefIdeal.main_v130) = v21 c
          ∧ r.2.mem ((c.tc : Thread Cert.AdamSmallRefIdeal.nD Cert.AdamSmallRefIdeal.τ).loc Cert.AdamSmallRefIdeal.main_v154) = v22 c
          ∧ r.2.mem ((c.tc : Thread Cert.AdamSmallRefIdeal.nD Cert.AdamSmallRefIdeal.τ).loc Cert.AdamSmallRefIdeal.main_v178) = v23 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hInDx : Cert.InDx.Facts) (hInDxIdeal : Cert.InDxIdeal.Facts) (hInDxRefIdeal : Cert.InDxRefIdeal.Facts) (hUgDw : Cert.UgDw.Facts) (hUgDwIdeal : Cert.UgDwIdeal.Facts) (hUgDwRefIdeal : Cert.UgDwRefIdeal.Facts) (hDownDx : Cert.DownDx.Facts) (hDownDxIdeal : Cert.DownDxIdeal.Facts) (hDownDxRefIdeal : Cert.DownDxRefIdeal.Facts) (hUgDx : Cert.UgDx.Facts) (hUgDxIdeal : Cert.UgDxIdeal.Facts) (hUgDxRefIdeal : Cert.UgDxRefIdeal.Facts) (hDownDw : Cert.DownDw.Facts) (hDownDwIdeal : Cert.DownDwIdeal.Facts) (hDownDwRefIdeal : Cert.DownDwRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hInFwd : Cert.InFwd.Facts) (hInFwdIdeal : Cert.InFwdIdeal.Facts) (hInFwdRefIdeal : Cert.InFwdRefIdeal.Facts) (hUgFwd : Cert.UgFwd.Facts) (hUgFwdIdeal : Cert.UgFwdIdeal.Facts) (hUgFwdRefIdeal : Cert.UgFwdRefIdeal.Facts) (hDownFwd : Cert.DownFwd.Facts) (hDownFwdIdeal : Cert.DownFwdIdeal.Facts) (hDownFwdRefIdeal : Cert.DownFwdRefIdeal.Facts) (hProjFwd : Cert.ProjFwd.Facts) (hProjFwdIdeal : Cert.ProjFwdIdeal.Facts) (hProjFwdRefIdeal : Cert.ProjFwdRefIdeal.Facts) (hOutFwd : Cert.OutFwd.Facts) (hOutFwdIdeal : Cert.OutFwdIdeal.Facts) (hOutFwdRefIdeal : Cert.OutFwdRefIdeal.Facts) (hInDwA : Cert.InDwA.Facts) (hInDwAIdeal : Cert.InDwAIdeal.Facts) (hInDwARefIdeal : Cert.InDwARefIdeal.Facts) (hInDwB : Cert.InDwB.Facts) (hInDwBIdeal : Cert.InDwBIdeal.Facts) (hInDwBRefIdeal : Cert.InDwBRefIdeal.Facts) (hAdamIn : Cert.AdamIn.Facts) (hAdamInIdeal : Cert.AdamInIdeal.Facts) (hAdamInRefIdeal : Cert.AdamInRefIdeal.Facts) (hAdamUg : Cert.AdamUg.Facts) (hAdamUgIdeal : Cert.AdamUgIdeal.Facts) (hAdamUgRefIdeal : Cert.AdamUgRefIdeal.Facts) (hAdamDown : Cert.AdamDown.Facts) (hAdamDownIdeal : Cert.AdamDownIdeal.Facts) (hAdamDownRefIdeal : Cert.AdamDownRefIdeal.Facts) (hAdamConv : Cert.AdamConv.Facts) (hAdamConvIdeal : Cert.AdamConvIdeal.Facts) (hAdamConvRefIdeal : Cert.AdamConvRefIdeal.Facts) (hAdamAttn : Cert.AdamAttn.Facts) (hAdamAttnIdeal : Cert.AdamAttnIdeal.Facts) (hAdamAttnRefIdeal : Cert.AdamAttnRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hPre_scores_in_range : Cert.Pre_scores_in_range.Facts),
    quiescent_Kernel (hKernel := hKernel)
    ∧ quiescent_KernelIdeal (hKernelIdeal := hKernelIdeal)
    ∧ quiescent_KernelIdeal_pre_scores_in_range (hKernelIdeal := hKernelIdeal) (hPre_scores_in_range := hPre_scores_in_range)
    ∧ quiescent_ReferenceIdeal (hReferenceIdeal := hReferenceIdeal)
    ∧ quiescent_ReferenceIdeal_pre_scores_in_range (hReferenceIdeal := hReferenceIdeal) (hPre_scores_in_range := hPre_scores_in_range)
    ∧ quiescent_InDx (hInDx := hInDx)
    ∧ quiescent_InDxIdeal (hInDxIdeal := hInDxIdeal)
    ∧ quiescent_InDxRefIdeal (hInDxRefIdeal := hInDxRefIdeal)
    ∧ quiescent_UgDw (hUgDw := hUgDw)
    ∧ quiescent_UgDwIdeal (hUgDwIdeal := hUgDwIdeal)
    ∧ quiescent_UgDwRefIdeal (hUgDwRefIdeal := hUgDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UgDx (hUgDx := hUgDx)
    ∧ quiescent_UgDxIdeal (hUgDxIdeal := hUgDxIdeal)
    ∧ quiescent_UgDxRefIdeal (hUgDxRefIdeal := hUgDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_UgFwd (hUgFwd := hUgFwd)
    ∧ quiescent_UgFwdIdeal (hUgFwdIdeal := hUgFwdIdeal)
    ∧ quiescent_UgFwdRefIdeal (hUgFwdRefIdeal := hUgFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_InDwA (hInDwA := hInDwA)
    ∧ quiescent_InDwAIdeal (hInDwAIdeal := hInDwAIdeal)
    ∧ quiescent_InDwARefIdeal (hInDwARefIdeal := hInDwARefIdeal)
    ∧ quiescent_InDwB (hInDwB := hInDwB)
    ∧ quiescent_InDwBIdeal (hInDwBIdeal := hInDwBIdeal)
    ∧ quiescent_InDwBRefIdeal (hInDwBRefIdeal := hInDwBRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUg (hAdamUg := hAdamUg)
    ∧ quiescent_AdamUgIdeal (hAdamUgIdeal := hAdamUgIdeal)
    ∧ quiescent_AdamUgRefIdeal (hAdamUgRefIdeal := hAdamUgRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamAttn (hAdamAttn := hAdamAttn)
    ∧ quiescent_AdamAttnIdeal (hAdamAttnIdeal := hAdamAttnIdeal)
    ∧ quiescent_AdamAttnRefIdeal (hAdamAttnRefIdeal := hAdamAttnRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal_pre_scores_in_range (hKernelIdeal := hKernelIdeal) (hReferenceIdeal := hReferenceIdeal) (hPre_scores_in_range := hPre_scores_in_range)
    ∧ preserves_InDx_InDxIdeal
    ∧ algebraic_InDxIdeal_InDxRefIdeal (hInDxIdeal := hInDxIdeal) (hInDxRefIdeal := hInDxRefIdeal)
    ∧ preserves_UgDw_UgDwIdeal
    ∧ algebraic_UgDwIdeal_UgDwRefIdeal (hUgDwIdeal := hUgDwIdeal) (hUgDwRefIdeal := hUgDwRefIdeal)
    ∧ preserves_DownDx_DownDxIdeal
    ∧ algebraic_DownDxIdeal_DownDxRefIdeal (hDownDxIdeal := hDownDxIdeal) (hDownDxRefIdeal := hDownDxRefIdeal)
    ∧ preserves_UgDx_UgDxIdeal
    ∧ algebraic_UgDxIdeal_UgDxRefIdeal (hUgDxIdeal := hUgDxIdeal) (hUgDxRefIdeal := hUgDxRefIdeal)
    ∧ preserves_DownDw_DownDwIdeal
    ∧ algebraic_DownDwIdeal_DownDwRefIdeal (hDownDwIdeal := hDownDwIdeal) (hDownDwRefIdeal := hDownDwRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_InFwd_InFwdIdeal
    ∧ algebraic_InFwdIdeal_InFwdRefIdeal (hInFwdIdeal := hInFwdIdeal) (hInFwdRefIdeal := hInFwdRefIdeal)
    ∧ preserves_UgFwd_UgFwdIdeal
    ∧ algebraic_UgFwdIdeal_UgFwdRefIdeal (hUgFwdIdeal := hUgFwdIdeal) (hUgFwdRefIdeal := hUgFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_InDwA_InDwAIdeal
    ∧ algebraic_InDwAIdeal_InDwARefIdeal (hInDwAIdeal := hInDwAIdeal) (hInDwARefIdeal := hInDwARefIdeal)
    ∧ preserves_InDwB_InDwBIdeal
    ∧ algebraic_InDwBIdeal_InDwBRefIdeal (hInDwBIdeal := hInDwBIdeal) (hInDwBRefIdeal := hInDwBRefIdeal)
    ∧ preserves_AdamIn_AdamInIdeal
    ∧ algebraic_AdamInIdeal_AdamInRefIdeal (hAdamInIdeal := hAdamInIdeal) (hAdamInRefIdeal := hAdamInRefIdeal)
    ∧ preserves_AdamUg_AdamUgIdeal
    ∧ algebraic_AdamUgIdeal_AdamUgRefIdeal (hAdamUgIdeal := hAdamUgIdeal) (hAdamUgRefIdeal := hAdamUgRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamAttn_AdamAttnIdeal
    ∧ algebraic_AdamAttnIdeal_AdamAttnRefIdeal (hAdamAttnIdeal := hAdamAttnIdeal) (hAdamAttnRefIdeal := hAdamAttnRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
-- ==== Pre_scores_in_range.lean ====
abbrev S8x4224x1024 : Shape := ⟨3, ![8, 4224, 1024]⟩
abbrev S4224x1024 : Shape := ⟨2, ![4224, 1024]⟩
abbrev S1x4224x1024 : Shape := ⟨3, ![1, 4224, 1024]⟩
abbrev S4112x1024 : Shape := ⟨2, ![4112, 1024]⟩
abbrev S4112x16x64 : Shape := ⟨3, ![4112, 16, 64]⟩
abbrev S16x4112x4112 : Shape := ⟨3, ![16, 4112, 4112]⟩
abbrev S_ : Shape := ⟨0, ![]⟩
abbrev S4112x4112 : Shape := ⟨2, ![4112, 4112]⟩

class Facts : Prop where
  slices_S8x4224x1024_S1x4224x1024_3_0_0 : S8x4224x1024.Slices ![3, 0, 0] S1x4224x1024
  shapeCasts_S1x4224x1024_S4224x1024 : S1x4224x1024.ShapeCasts S4224x1024
  slices_S4224x1024_S4112x1024_112_0 : S4224x1024.Slices ![112, 0] S4112x1024
  bitsLt_bf16_f32 : FTy.bits .bf16 < FTy.bits .f32
  shapeCasts_S4112x1024_S4112x16x64 : S4112x1024.ShapeCasts S4112x16x64
  slices_S8x4224x1024_S1x4224x1024_4_0_0 : S8x4224x1024.Slices ![4, 0, 0] S1x4224x1024
  slices_S8x4224x1024_S1x4224x1024_5_0_0 : S8x4224x1024.Slices ![5, 0, 0] S1x4224x1024
  bcast_S_S16x4112x4112 : S_.BroadcastsInDim S16x4112x4112 (![] : Fin 0 → Fin S16x4112x4112.rank)
  bcast_S_S4112x16x64 : S_.BroadcastsInDim S4112x16x64 (![] : Fin 0 → Fin S4112x16x64.rank)
  bcast_S4112x4112_S16x4112x4112_1_2 : S4112x4112.BroadcastsInDim S16x4112x4112 (![1, 2] : Fin 2 → Fin S16x4112x4112.rank)
  dot_S4112x16x64_S4112x16x64_S16x4112x4112_2_2_0_0_1_1_wf : DotDims.WF S4112x16x64 S4112x16x64 S16x4112x4112 [2] [2] [0] [0] [1] [1]

variable [Facts]

def dot_S4112x16x64_S4112x16x64_S16x4112x4112_2_2_0_0_1_1 : DotDims S4112x16x64 S4112x16x64 S16x4112x4112 where
  lhsContracting := [2]
  rhsContracting := [2]
  lhsNonContracting := [0]
  rhsNonContracting := [0]
  lhsBatch := [1]
  rhsBatch := [1]
  wf := dot_S4112x16x64_S4112x16x64_S16x4112x4112_2_2_0_0_1_1_wf
def fn_where {F : FTy → Type} [FloatOps F] (arg0 : IVec S4112x4112 1) (arg1 : FVec F S16x4112x4112 .f32) (arg2 : FVec F S_ .f32) : FVec F S16x4112x4112 .f32 :=
  let v0 : FVec F S_ .f32 := id arg2
  let v1 : IVec S16x4112x4112 1 := broadcastInDim S16x4112x4112 ![1, 2] bcast_S4112x4112_S16x4112x4112_1_2 arg0
  let v2 : FVec F S16x4112x4112 .f32 := broadcastInDim S16x4112x4112 ![] bcast_S_S16x4112x4112 v0
  let v3 : FVec F S16x4112x4112 .f32 := select v1 arg1 v2
  v3

def fn_part1 {F : FTy → Type} [FloatOps F] (main_v9 : FVec F S4112x16x64 .f32) (main_v14 : FVec F S4112x16x64 .f32) (main_v17 : FVec F S4112x16x64 .f32) (main_v20 : FVec F S16x4112x4112 .f32) (main_v21 : FVec F S4112x16x64 .f32) (main_cst_0 : FVec F S_ .f32) : IVec S4112x16x64 1 × IVec S4112x16x64 1 × IVec S4112x16x64 1 × IVec S4112x16x64 1 × IVec S16x4112x4112 1 :=
  let main_v22 : FVec F S4112x16x64 .f32 := broadcastInDim S4112x16x64 ![] bcast_S_S4112x16x64 main_cst_0
  let main_v23 : IVec S4112x16x64 1 := cmpf .olt main_v21 main_v22
  let main_v24 : FVec F S4112x16x64 .f32 := Host.absf main_v9
  let main_cst_1 : FVec F S_ .f32 := constant S_ .f32 0x7F800000#32
  let main_v25 : FVec F S4112x16x64 .f32 := broadcastInDim S4112x16x64 ![] bcast_S_S4112x16x64 main_cst_1
  let main_v26 : IVec S4112x16x64 1 := cmpf .olt main_v24 main_v25
  let main_v27 : FVec F S4112x16x64 .f32 := Host.absf main_v14
  let main_cst_2 : FVec F S_ .f32 := constant S_ .f32 0x7F800000#32
  let main_v28 : FVec F S4112x16x64 .f32 := broadcastInDim S4112x16x64 ![] bcast_S_S4112x16x64 main_cst_2
  let main_v29 : IVec S4112x16x64 1 := cmpf .olt main_v27 main_v28
  let main_v30 : FVec F S4112x16x64 .f32 := Host.absf main_v17
  let main_cst_3 : FVec F S_ .f32 := constant S_ .f32 0x7F800000#32
  let main_v31 : FVec F S4112x16x64 .f32 := broadcastInDim S4112x16x64 ![] bcast_S_S4112x16x64 main_cst_3
  let main_v32 : IVec S4112x16x64 1 := cmpf .olt main_v30 main_v31
  let main_v33 : IVec S4112x4112 32 := iotaInDim S4112x4112 32 0
  let main_v34 : IVec S4112x4112 32 := iotaInDim S4112x4112 32 1
  let main_v35 : IVec S4112x4112 1 := cmpi .slt main_v34 main_v33
  let main_cst_4 : FVec F S_ .f32 := constant S_ .f32 0x00000000#32
  let main_v36 : FVec F S16x4112x4112 .f32 := fn_where (F := F) main_v35 main_v20 main_cst_4
  let main_cst_5 : FVec F S_ .f32 := constant S_ .f32 0x41F00000#32
  let main_v37 : FVec F S16x4112x4112 .f32 := broadcastInDim S16x4112x4112 ![] bcast_S_S16x4112x4112 main_cst_5
  let main_v38 : IVec S16x4112x4112 1 := cmpf .ole main_v36 main_v37
  (main_v23, main_v26, main_v29, main_v32, main_v38)

def fn {F : FTy → Type} [FloatOps F] (main_arg0 : FVec F S8x4224x1024 .bf16) (main_arg1 : FVec F S4224x1024 .bf16) (main_arg2 : FVec F S8x4224x1024 .bf16) : IVec S4112x16x64 1 × IVec S4112x16x64 1 × IVec S4112x16x64 1 × IVec S4112x16x64 1 × IVec S16x4112x4112 1 :=
  let main_v0 : FVec F S1x4224x1024 .bf16 := (extractStridedSlice S1x4224x1024 ![3, 0, 0] · slices_S8x4224x1024_S1x4224x1024_3_0_0) main_arg0
  let main_v1 : FVec F S4224x1024 .bf16 := shapeCast S4224x1024 main_v0 shapeCasts_S1x4224x1024_S4224x1024
  let main_v2 : FVec F S4112x1024 .bf16 := (extractStridedSlice S4112x1024 ![112, 0] · slices_S4224x1024_S4112x1024_112_0) main_v1
  let main_v3 : FVec F S4112x1024 .f32 := (extf .f32 · bitsLt_bf16_f32) main_v2
  let main_v4 : FVec F S4112x16x64 .f32 := shapeCast S4112x16x64 main_v3 shapeCasts_S4112x1024_S4112x16x64
  let main_v5 : FVec F S1x4224x1024 .bf16 := (extractStridedSlice S1x4224x1024 ![4, 0, 0] · slices_S8x4224x1024_S1x4224x1024_4_0_0) main_arg0
  let main_v6 : FVec F S4224x1024 .bf16 := shapeCast S4224x1024 main_v5 shapeCasts_S1x4224x1024_S4224x1024
  let main_v7 : FVec F S4112x1024 .bf16 := (extractStridedSlice S4112x1024 ![112, 0] · slices_S4224x1024_S4112x1024_112_0) main_v6
  let main_v8 : FVec F S4112x1024 .f32 := (extf .f32 · bitsLt_bf16_f32) main_v7
  let main_v9 : FVec F S4112x16x64 .f32 := shapeCast S4112x16x64 main_v8 shapeCasts_S4112x1024_S4112x16x64
  let main_v10 : FVec F S1x4224x1024 .bf16 := (extractStridedSlice S1x4224x1024 ![5, 0, 0] · slices_S8x4224x1024_S1x4224x1024_5_0_0) main_arg0
  let main_v11 : FVec F S4224x1024 .bf16 := shapeCast S4224x1024 main_v10 shapeCasts_S1x4224x1024_S4224x1024
  let main_v12 : FVec F S4112x1024 .bf16 := (extractStridedSlice S4112x1024 ![112, 0] · slices_S4224x1024_S4112x1024_112_0) main_v11
  let main_v13 : FVec F S4112x1024 .f32 := (extf .f32 · bitsLt_bf16_f32) main_v12
  let main_v14 : FVec F S4112x16x64 .f32 := shapeCast S4112x16x64 main_v13 shapeCasts_S4112x1024_S4112x16x64
  let main_v15 : FVec F S4112x1024 .bf16 := (extractStridedSlice S4112x1024 ![112, 0] · slices_S4224x1024_S4112x1024_112_0) main_arg1
  let main_v16 : FVec F S4112x1024 .f32 := (extf .f32 · bitsLt_bf16_f32) main_v15
  let main_v17 : FVec F S4112x16x64 .f32 := shapeCast S4112x16x64 main_v16 shapeCasts_S4112x1024_S4112x16x64
  let main_v18 : FVec F S16x4112x4112 .f32 := (fun l r => Host.dotGeneral dot_S4112x16x64_S4112x16x64_S16x4112x4112_2_2_0_0_1_1 none l r) main_v4 main_v9
  let main_cst : FVec F S_ .f32 := constant S_ .f32 0x3E000000#32
  let main_v19 : FVec F S16x4112x4112 .f32 := broadcastInDim S16x4112x4112 ![] bcast_S_S16x4112x4112 main_cst
  let main_v20 : FVec F S16x4112x4112 .f32 := mulf main_v18 main_v19
  let main_v21 : FVec F S4112x16x64 .f32 := Host.absf main_v4
  let main_cst_0 : FVec F S_ .f32 := constant S_ .f32 0x7F800000#32
  fn_part1 (F := F) main_v9 main_v14 main_v17 main_v20 main_v21 main_cst_0
-- ==== Kernel.lean ====
abbrev S8x4224x1024 : Shape := ⟨3, ![8, 4224, 1024]⟩
abbrev S4224x1024 : Shape := ⟨2, ![4224, 1024]⟩
abbrev S1x4224x1024 : Shape := ⟨3, ![1, 4224, 1024]⟩
abbrev S4112x1024 : Shape := ⟨2, ![4112, 1024]⟩
abbrev S4112x16x64 : Shape := ⟨3, ![4112, 16, 64]⟩
abbrev S16x4112x4112 : Shape := ⟨3, ![16, 4112, 4112]⟩
abbrev S_ : Shape := ⟨0, ![]⟩
abbrev S4112x4112 : Shape := ⟨2, ![4112, 4112]⟩
abbrev S16x4112 : Shape := ⟨2, ![16, 4112]⟩
abbrev S4112x16 : Shape := ⟨2, ![4112, 16]⟩
abbrev S4112x16x1 : Shape := ⟨3, ![4112, 16, 1]⟩
abbrev S1x384x128 : Shape := ⟨3, ![1, 384, 128]⟩
abbrev S1x4224x128 : Shape := ⟨3, ![1, 4224, 128]⟩
abbrev S384x128 : Shape := ⟨2, ![384, 128]⟩
abbrev S3x4224x128 : Shape := ⟨3, ![3, 4224, 128]⟩
abbrev S2x384x128 : Shape := ⟨3, ![2, 384, 128]⟩
abbrev S33x128x128 : Shape := ⟨3, ![33, 128, 128]⟩
abbrev S128x256 : Shape := ⟨2, ![128, 256]⟩
abbrev S256x256 : Shape := ⟨2, ![256, 256]⟩
abbrev S128x384 : Shape := ⟨2, ![128, 384]⟩
abbrev S128x128 : Shape := ⟨2, ![128, 128]⟩
abbrev S1x128x128 : Shape := ⟨3, ![1, 128, 128]⟩
abbrev S256x128 : Shape := ⟨2, ![256, 128]⟩
abbrev S384x256 : Shape := ⟨2, ![384, 256]⟩
abbrev S1x256x128 : Shape := ⟨3, ![1, 256, 128]⟩

abbrev nBuf : Space → Nat
  | .hbm => 53
  | .vmem => 17
  | .smem => 0
  | _ => 0

abbrev bufTy : (tb : Table) → Fin (tcTables nBuf tb) → BufTy
  | .hbm, ⟨0, _⟩ => ⟨S8x4224x1024, .bf16⟩
  | .hbm, ⟨1, _⟩ => ⟨S4224x1024, .bf16⟩
  | .hbm, ⟨2, _⟩ => ⟨S8x4224x1024, .bf16⟩
  | .hbm, ⟨3, _⟩ => ⟨S1x4224x1024, .bf16⟩
  | .hbm, ⟨4, _⟩ => ⟨S4224x1024, .bf16⟩
  | .hbm, ⟨5, _⟩ => ⟨S4112x1024, .bf16⟩
  | .hbm, ⟨6, _⟩ => ⟨S4112x1024, .f32⟩
  | .hbm, ⟨7, _⟩ => ⟨S4112x16x64, .f32⟩
  | .hbm, ⟨8, _⟩ => ⟨S1x4224x1024, .bf16⟩
  | .hbm, ⟨9, _⟩ => ⟨S4224x1024, .bf16⟩
  | .hbm, ⟨10, _⟩ => ⟨S4112x1024, .bf16⟩
  | .hbm, ⟨11, _⟩ => ⟨S4112x1024, .f32⟩
  | .hbm, ⟨12, _⟩ => ⟨S4112x16x64, .f32⟩
  | .hbm, ⟨13, _⟩ => ⟨S16x4112x4112, .f32⟩
  | .hbm, ⟨14, _⟩ => ⟨S_, .f32⟩
  | .hbm, ⟨15, _⟩ => ⟨S16x4112x4112, .f32⟩
  | .hbm, ⟨16, _⟩ => ⟨S16x4112x4112, .f32⟩
  | .hbm, ⟨17, _⟩ => ⟨S4112x4112, .i32⟩
  | .hbm, ⟨18, _⟩ => ⟨S4112x4112, .i32⟩
  | .hbm, ⟨19, _⟩ => ⟨S4112x4112, .i1⟩
  | .hbm, ⟨20, _⟩ => ⟨S16x4112x4112, .f32⟩
  | .hbm, ⟨21, _⟩ => ⟨S_, .f32⟩
  | .hbm, ⟨22, _⟩ => ⟨S16x4112x4112, .f32⟩
  | .hbm, ⟨23, _⟩ => ⟨S16x4112x4112, .f32⟩
  | .hbm, ⟨24, _⟩ => ⟨S16x4112x4112, .f32⟩
  | .hbm, ⟨25, _⟩ => ⟨S16x4112x4112, .f32⟩
  | .hbm, ⟨26, _⟩ => ⟨S16x4112x4112, .i1⟩
  | .hbm, ⟨27, _⟩ => ⟨S16x4112x4112, .f32⟩
  | .hbm, ⟨28, _⟩ => ⟨S16x4112x4112, .f32⟩
  | .hbm, ⟨29, _⟩ => ⟨S16x4112x4112, .f32⟩
  | .hbm, ⟨30, _⟩ => ⟨S16x4112x4112, .f32⟩
  | .hbm, ⟨31, _⟩ => ⟨S16x4112x4112, .f32⟩
  | .hbm, ⟨32, _⟩ => ⟨S16x4112x4112, .f32⟩
  | .hbm, ⟨33, _⟩ => ⟨S16x4112x4112, .f32⟩
  | .hbm, ⟨34, _⟩ => ⟨S16x4112x4112, .f32⟩
  | .hbm, ⟨35, _⟩ => ⟨S16x4112x4112, .f32⟩
  | .hbm, ⟨36, _⟩ => ⟨S16x4112x4112, .f32⟩
  | .hbm, ⟨37, _⟩ => ⟨S_, .f32⟩
  | .hbm, ⟨38, _⟩ => ⟨S_, .f32⟩
  | .hbm, ⟨39, _⟩ => ⟨S16x4112x4112, .i1⟩
  | .hbm, ⟨40, _⟩ => ⟨S16x4112x4112, .f32⟩
  | .hbm, ⟨41, _⟩ => ⟨S16x4112x4112, .f32⟩
  | .hbm, ⟨42, _⟩ => ⟨S_, .f32⟩
  | .hbm, ⟨43, _⟩ => ⟨S16x4112, .f32⟩
  | .hbm, ⟨44, _⟩ => ⟨S16x4112, .f32⟩
  | .hbm, ⟨45, _⟩ => ⟨S4112x16, .f32⟩
  | .hbm, ⟨46, _⟩ => ⟨S4112x16x1, .f32⟩
  | .hbm, ⟨47, _⟩ => ⟨S4112x16x64, .f32⟩
  | .hbm, ⟨48, _⟩ => ⟨S4112x1024, .f32⟩
  | .hbm, ⟨49, _⟩ => ⟨S_, .i32⟩
  | .hbm, ⟨50, _⟩ => ⟨S_, .f32⟩
  | .hbm, ⟨51, _⟩ => ⟨S4224x1024, .f32⟩
  | .hbm, ⟨52, _⟩ => ⟨S8x4224x1024, .bf16⟩
  | .local _ .vmem, ⟨0, _⟩ => ⟨S1x384x128, .bf16⟩
  | .local _ .vmem, ⟨1, _⟩ => ⟨S1x384x128, .bf16⟩
  | .local _ .vmem, ⟨2, _⟩ => ⟨S1x4224x128, .bf16⟩
  | .local _ .vmem, ⟨3, _⟩ => ⟨S1x4224x128, .bf16⟩
  | .local _ .vmem, ⟨4, _⟩ => ⟨S1x4224x128, .bf16⟩
  | .local _ .vmem, ⟨5, _⟩ => ⟨S1x4224x128, .bf16⟩
  | .local _ .vmem, ⟨6, _⟩ => ⟨S384x128, .bf16⟩
  | .local _ .vmem, ⟨7, _⟩ => ⟨S384x128, .bf16⟩
  | .local _ .vmem, ⟨8, _⟩ => ⟨S384x128, .f32⟩
  | .local _ .vmem, ⟨9, _⟩ => ⟨S384x128, .f32⟩
  | .local _ .vmem, ⟨10, _⟩ => ⟨S3x4224x128, .bf16⟩
  | .local _ .vmem, ⟨11, _⟩ => ⟨S3x4224x128, .bf16⟩
  | .local _ .vmem, ⟨12, _⟩ => ⟨S2x384x128, .f32⟩
  | .local _ .vmem, ⟨13, _⟩ => ⟨S2x384x128, .f32⟩
  | .local _ .vmem, ⟨14, _⟩ => ⟨S384x128, .f32⟩
  | .local _ .vmem, ⟨15, _⟩ => ⟨S33x128x128, .f32⟩
  | .local _ .vmem, ⟨16, _⟩ => ⟨S33x128x128, .f32⟩
  | _, _ => ⟨S8x4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c : Ref sig .tc := ⟨.hbm, 49, rfl⟩
abbrev main_call2_v0 : Ref sig .tc := ⟨.hbm, 50, rfl⟩
abbrev main_v25 : Ref sig .tc := ⟨.hbm, 51, rfl⟩
abbrev main_v26 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![8, 11], ![false, false]⟩

def k0_cond2 (i : grid0.Coords) : BitVec 1 :=
  let arg1 : BitVec 32 := BitVec.ofNat 32 (i 1).val
  let c0_i32_25 : BitVec 32 := 0#32
  let v56 : BitVec 1 := Scalar.cmpi .sgt arg1 c0_i32_25
  let v57 : BitVec 32 := Scalar.extui v56
  let c0_i32_26 : BitVec 32 := 0#32
  let v58 : BitVec 1 := Scalar.cmpi .ne v57 c0_i32_26
  v58

def k0_mult1 : BitVec 32 :=
  let c0_i32_306 : BitVec 32 := 0#32
  c0_i32_306
def k0_mult2 : BitVec 32 :=
  let c0_i32_312 : BitVec 32 := 0#32
  c0_i32_312
def k0_mult3 : BitVec 32 :=
  let c128_i32_393 : BitVec 32 := 128#32
  c128_i32_393
def k0_mult4 : BitVec 32 :=
  let c128_i32_399 : BitVec 32 := 128#32
  c128_i32_399
def k0_mult5 : BitVec 32 :=
  let c256_i32_470 : BitVec 32 := 256#32
  c256_i32_470
def k0_mult6 : BitVec 32 :=
  let c256_i32_476 : BitVec 32 := 256#32
  c256_i32_476
@[reducible] def k0_t1_loop (i : grid0.Coords) : Scf.Loop 32 :=
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_42 : BitVec 32 := 1#32
  ⟨c0_i32_40, v86, c1_i32_42⟩
def k0_mult7 (i : grid0.Coords) (k0_t1 : Fin (k0_t1_loop i).trips) : BitVec 32 :=
  let c3_i32_308 : BitVec 32 := 3#32
  let c2_i32_306 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v706 : BitVec 32 := Scalar.muli c2_i32_306 v705
  let c1_i32_307 : BitVec 32 := 1#32
  let v707 : BitVec 32 := Scalar.addi v706 c1_i32_307
  let v708 : BitVec 32 := Scalar.muli c3_i32_308 v707
  let c0_i32_309 : BitVec 32 := 0#32
  let v709 : BitVec 32 := Scalar.addi v708 c0_i32_309
  let c128_i32_310 : BitVec 32 := 128#32
  let v710 : BitVec 32 := Scalar.muli v709 c128_i32_310
  v710
def k0_off1 (i : grid0.Coords) (k0_t1 : Fin (k0_t1_loop i).trips) (c0_i32_309 : BitVec 32) : Fin 3 → Nat :=
  let c0_311 : Index := 0#32
  let c3_i32_308 : BitVec 32 := 3#32
  let c2_i32_306 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v706 : BitVec 32 := Scalar.muli c2_i32_306 v705
  let c1_i32_307 : BitVec 32 := 1#32
  let v707 : BitVec 32 := Scalar.addi v706 c1_i32_307
  let v708 : BitVec 32 := Scalar.muli c3_i32_308 v707
  let v709 : BitVec 32 := Scalar.addi v708 c0_i32_309
  let c128_i32_310 : BitVec 32 := 128#32
  let v710 : BitVec 32 := Scalar.muli v709 c128_i32_310
  let v711 : BitVec 32 := v710
  let v712 : Index := Scalar.indexCast v711
  let c0_312 : Index := 0#32
  ![0, v712.toNat, 0]
def k0_mult8 (i : grid0.Coords) (k0_t1 : Fin (k0_t1_loop i).trips) : BitVec 32 :=
  let c3_i32_308 : BitVec 32 := 3#32
  let c2_i32_306 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v706 : BitVec 32 := Scalar.muli c2_i32_306 v705
  let c1_i32_307 : BitVec 32 := 1#32
  let v707 : BitVec 32 := Scalar.addi v706 c1_i32_307
  let v708 : BitVec 32 := Scalar.muli c3_i32_308 v707
  let c0_i32_309 : BitVec 32 := 0#32
  let v709 : BitVec 32 := Scalar.addi v708 c0_i32_309
  let c128_i32_316 : BitVec 32 := 128#32
  let v723 : BitVec 32 := Scalar.muli v709 c128_i32_316
  v723
def k0_off2 (i : grid0.Coords) (k0_t1 : Fin (k0_t1_loop i).trips) (c0_i32_309 : BitVec 32) : Fin 3 → Nat :=
  let c3_i32_308 : BitVec 32 := 3#32
  let c2_i32_306 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v706 : BitVec 32 := Scalar.muli c2_i32_306 v705
  let c1_i32_307 : BitVec 32 := 1#32
  let v707 : BitVec 32 := Scalar.addi v706 c1_i32_307
  let v708 : BitVec 32 := Scalar.muli c3_i32_308 v707
  let v709 : BitVec 32 := Scalar.addi v708 c0_i32_309
  let v854 : Index := Scalar.indexCast v709
  let c0_375 : Index := 0#32
  let c0_376 : Index := 0#32
  ![v854.toNat, 0, 0]
def k0_mult9 (i : grid0.Coords) (k0_t1 : Fin (k0_t1_loop i).trips) : BitVec 32 :=
  let c3_i32_385 : BitVec 32 := 3#32
  let c2_i32_383 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v876 : BitVec 32 := Scalar.muli c2_i32_383 v705
  let c1_i32_384 : BitVec 32 := 1#32
  let v877 : BitVec 32 := Scalar.addi v876 c1_i32_384
  let v878 : BitVec 32 := Scalar.muli c3_i32_385 v877
  let c1_i32_386 : BitVec 32 := 1#32
  let v879 : BitVec 32 := Scalar.addi v878 c1_i32_386
  let c128_i32_387 : BitVec 32 := 128#32
  let v880 : BitVec 32 := Scalar.muli v879 c128_i32_387
  v880
def k0_mult10 (i : grid0.Coords) (k0_t1 : Fin (k0_t1_loop i).trips) : BitVec 32 :=
  let c3_i32_385 : BitVec 32 := 3#32
  let c2_i32_383 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v876 : BitVec 32 := Scalar.muli c2_i32_383 v705
  let c1_i32_384 : BitVec 32 := 1#32
  let v877 : BitVec 32 := Scalar.addi v876 c1_i32_384
  let v878 : BitVec 32 := Scalar.muli c3_i32_385 v877
  let c1_i32_386 : BitVec 32 := 1#32
  let v879 : BitVec 32 := Scalar.addi v878 c1_i32_386
  let c128_i32_393 : BitVec 32 := 128#32
  let v893 : BitVec 32 := Scalar.muli v879 c128_i32_393
  v893
def k0_mult11 (i : grid0.Coords) (k0_t1 : Fin (k0_t1_loop i).trips) : BitVec 32 :=
  let c3_i32_462 : BitVec 32 := 3#32
  let c2_i32_460 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v1046 : BitVec 32 := Scalar.muli c2_i32_460 v705
  let c1_i32_461 : BitVec 32 := 1#32
  let v1047 : BitVec 32 := Scalar.addi v1046 c1_i32_461
  let v1048 : BitVec 32 := Scalar.muli c3_i32_462 v1047
  let c2_i32_463 : BitVec 32 := 2#32
  let v1049 : BitVec 32 := Scalar.addi v1048 c2_i32_463
  let c128_i32_464 : BitVec 32 := 128#32
  let v1050 : BitVec 32 := Scalar.muli v1049 c128_i32_464
  v1050
def k0_mult12 (i : grid0.Coords) (k0_t1 : Fin (k0_t1_loop i).trips) : BitVec 32 :=
  let c3_i32_462 : BitVec 32 := 3#32
  let c2_i32_460 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v1046 : BitVec 32 := Scalar.muli c2_i32_460 v705
  let c1_i32_461 : BitVec 32 := 1#32
  let v1047 : BitVec 32 := Scalar.addi v1046 c1_i32_461
  let v1048 : BitVec 32 := Scalar.muli c3_i32_462 v1047
  let c2_i32_463 : BitVec 32 := 2#32
  let v1049 : BitVec 32 := Scalar.addi v1048 c2_i32_463
  let c128_i32_470 : BitVec 32 := 128#32
  let v1063 : BitVec 32 := Scalar.muli v1049 c128_i32_470
  v1063
def k0_mult13 (i : grid0.Coords) (k0_t1 : Fin (k0_t1_loop i).trips) : BitVec 32 :=
  let c3_i32_539 : BitVec 32 := 3#32
  let c2_i32_537 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v1216 : BitVec 32 := Scalar.muli c2_i32_537 v705
  let c1_i32_538 : BitVec 32 := 1#32
  let v1217 : BitVec 32 := Scalar.addi v1216 c1_i32_538
  let v1218 : BitVec 32 := Scalar.muli c3_i32_539 v1217
  let c3_i32_540 : BitVec 32 := 3#32
  let v1219 : BitVec 32 := Scalar.addi v1218 c3_i32_540
  let c128_i32_541 : BitVec 32 := 128#32
  let v1220 : BitVec 32 := Scalar.muli v1219 c128_i32_541
  v1220
def k0_mult14 (i : grid0.Coords) (k0_t1 : Fin (k0_t1_loop i).trips) : BitVec 32 :=
  let c3_i32_539 : BitVec 32 := 3#32
  let c2_i32_537 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v1216 : BitVec 32 := Scalar.muli c2_i32_537 v705
  let c1_i32_538 : BitVec 32 := 1#32
  let v1217 : BitVec 32 := Scalar.addi v1216 c1_i32_538
  let v1218 : BitVec 32 := Scalar.muli c3_i32_539 v1217
  let c3_i32_540 : BitVec 32 := 3#32
  let v1219 : BitVec 32 := Scalar.addi v1218 c3_i32_540
  let c128_i32_547 : BitVec 32 := 128#32
  let v1233 : BitVec 32 := Scalar.muli v1219 c128_i32_547
  v1233
def k0_mult15 (i : grid0.Coords) (k0_t1 : Fin (k0_t1_loop i).trips) : BitVec 32 :=
  let c3_i32_616 : BitVec 32 := 3#32
  let c2_i32_614 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v1386 : BitVec 32 := Scalar.muli c2_i32_614 v705
  let c1_i32_615 : BitVec 32 := 1#32
  let v1387 : BitVec 32 := Scalar.addi v1386 c1_i32_615
  let v1388 : BitVec 32 := Scalar.muli c3_i32_616 v1387
  let c4_i32 : BitVec 32 := 4#32
  let v1389 : BitVec 32 := Scalar.addi v1388 c4_i32
  let c128_i32_617 : BitVec 32 := 128#32
  let v1390 : BitVec 32 := Scalar.muli v1389 c128_i32_617
  v1390
def k0_mult16 (i : grid0.Coords) (k0_t1 : Fin (k0_t1_loop i).trips) : BitVec 32 :=
  let c3_i32_616 : BitVec 32 := 3#32
  let c2_i32_614 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v1386 : BitVec 32 := Scalar.muli c2_i32_614 v705
  let c1_i32_615 : BitVec 32 := 1#32
  let v1387 : BitVec 32 := Scalar.addi v1386 c1_i32_615
  let v1388 : BitVec 32 := Scalar.muli c3_i32_616 v1387
  let c4_i32 : BitVec 32 := 4#32
  let v1389 : BitVec 32 := Scalar.addi v1388 c4_i32
  let c128_i32_623 : BitVec 32 := 128#32
  let v1403 : BitVec 32 := Scalar.muli v1389 c128_i32_623
  v1403
def k0_mult17 (i : grid0.Coords) (k0_t1 : Fin (k0_t1_loop i).trips) : BitVec 32 :=
  let c3_i32_692 : BitVec 32 := 3#32
  let c2_i32_690 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v1556 : BitVec 32 := Scalar.muli c2_i32_690 v705
  let c1_i32_691 : BitVec 32 := 1#32
  let v1557 : BitVec 32 := Scalar.addi v1556 c1_i32_691
  let v1558 : BitVec 32 := Scalar.muli c3_i32_692 v1557
  let c5_i32 : BitVec 32 := 5#32
  let v1559 : BitVec 32 := Scalar.addi v1558 c5_i32
  let c128_i32_693 : BitVec 32 := 128#32
  let v1560 : BitVec 32 := Scalar.muli v1559 c128_i32_693
  v1560
def k0_mult18 (i : grid0.Coords) (k0_t1 : Fin (k0_t1_loop i).trips) : BitVec 32 :=
  let c3_i32_692 : BitVec 32 := 3#32
  let c2_i32_690 : BitVec 32 := 2#32
  let c0_i32_39 : BitVec 32 := 0#32
  let c0_i32_40 : BitVec 32 := 0#32
  let c1_i32_42 : BitVec 32 := 1#32
  let arg14 : BitVec 32 := Scf.iv c0_i32_40 c1_i32_42 k0_t1
  let c1_i32_38 : BitVec 32 := 1#32
  let v704 : BitVec 32 := Scalar.muli arg14 c1_i32_38
  let v705 : BitVec 32 := Scalar.addi c0_i32_39 v704
  let v1556 : BitVec 32 := Scalar.muli c2_i32_690 v705
  let c1_i32_691 : BitVec 32 := 1#32
  let v1557 : BitVec 32 := Scalar.addi v1556 c1_i32_691
  let v1558 : BitVec 32 := Scalar.muli c3_i32_692 v1557
  let c5_i32 : BitVec 32 := 5#32
  let v1559 : BitVec 32 := Scalar.addi v1558 c5_i32
  let c128_i32_699 : BitVec 32 := 128#32
  let v1573 : BitVec 32 := Scalar.muli v1559 c128_i32_699
  v1573
@[reducible] def k0_t2_loop (i : grid0.Coords) : Scf.Loop 32 :=
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let v83 : BitVec 32 := Scalar.addi c0_i32_40 v82
  let c1_i32_43 : BitVec 32 := 1#32
  ⟨v86, v83, c1_i32_43⟩
def k0_mult19 (i : grid0.Coords) (k0_t2 : Fin (k0_t2_loop i).trips) : BitVec 32 :=
  let c3_i32_308 : BitVec 32 := 3#32
  let c2_i32_306 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v706 : BitVec 32 := Scalar.muli c2_i32_306 v705
  let c1_i32_307 : BitVec 32 := 1#32
  let v707 : BitVec 32 := Scalar.addi v706 c1_i32_307
  let v708 : BitVec 32 := Scalar.muli c3_i32_308 v707
  let c0_i32_309 : BitVec 32 := 0#32
  let v709 : BitVec 32 := Scalar.addi v708 c0_i32_309
  let c128_i32_310 : BitVec 32 := 128#32
  let v710 : BitVec 32 := Scalar.muli v709 c128_i32_310
  v710
def k0_off3 (i : grid0.Coords) (k0_t2 : Fin (k0_t2_loop i).trips) (c0_i32_309 : BitVec 32) : Fin 3 → Nat :=
  let c0_311 : Index := 0#32
  let c3_i32_308 : BitVec 32 := 3#32
  let c2_i32_306 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v706 : BitVec 32 := Scalar.muli c2_i32_306 v705
  let c1_i32_307 : BitVec 32 := 1#32
  let v707 : BitVec 32 := Scalar.addi v706 c1_i32_307
  let v708 : BitVec 32 := Scalar.muli c3_i32_308 v707
  let v709 : BitVec 32 := Scalar.addi v708 c0_i32_309
  let c128_i32_310 : BitVec 32 := 128#32
  let v710 : BitVec 32 := Scalar.muli v709 c128_i32_310
  let v711 : BitVec 32 := v710
  let v712 : Index := Scalar.indexCast v711
  let c0_312 : Index := 0#32
  ![0, v712.toNat, 0]
def k0_mult20 (i : grid0.Coords) (k0_t2 : Fin (k0_t2_loop i).trips) : BitVec 32 :=
  let c3_i32_308 : BitVec 32 := 3#32
  let c2_i32_306 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v706 : BitVec 32 := Scalar.muli c2_i32_306 v705
  let c1_i32_307 : BitVec 32 := 1#32
  let v707 : BitVec 32 := Scalar.addi v706 c1_i32_307
  let v708 : BitVec 32 := Scalar.muli c3_i32_308 v707
  let c0_i32_309 : BitVec 32 := 0#32
  let v709 : BitVec 32 := Scalar.addi v708 c0_i32_309
  let c128_i32_316 : BitVec 32 := 128#32
  let v723 : BitVec 32 := Scalar.muli v709 c128_i32_316
  v723
def k0_off4 (i : grid0.Coords) (k0_t2 : Fin (k0_t2_loop i).trips) (c0_i32_309 : BitVec 32) : Fin 3 → Nat :=
  let c3_i32_308 : BitVec 32 := 3#32
  let c2_i32_306 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v706 : BitVec 32 := Scalar.muli c2_i32_306 v705
  let c1_i32_307 : BitVec 32 := 1#32
  let v707 : BitVec 32 := Scalar.addi v706 c1_i32_307
  let v708 : BitVec 32 := Scalar.muli c3_i32_308 v707
  let v709 : BitVec 32 := Scalar.addi v708 c0_i32_309
  let v854 : Index := Scalar.indexCast v709
  let c0_375 : Index := 0#32
  let c0_376 : Index := 0#32
  ![v854.toNat, 0, 0]
def k0_mult21 (i : grid0.Coords) (k0_t2 : Fin (k0_t2_loop i).trips) : BitVec 32 :=
  let c3_i32_385 : BitVec 32 := 3#32
  let c2_i32_383 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v876 : BitVec 32 := Scalar.muli c2_i32_383 v705
  let c1_i32_384 : BitVec 32 := 1#32
  let v877 : BitVec 32 := Scalar.addi v876 c1_i32_384
  let v878 : BitVec 32 := Scalar.muli c3_i32_385 v877
  let c1_i32_386 : BitVec 32 := 1#32
  let v879 : BitVec 32 := Scalar.addi v878 c1_i32_386
  let c128_i32_387 : BitVec 32 := 128#32
  let v880 : BitVec 32 := Scalar.muli v879 c128_i32_387
  v880
def k0_mult22 (i : grid0.Coords) (k0_t2 : Fin (k0_t2_loop i).trips) : BitVec 32 :=
  let c3_i32_385 : BitVec 32 := 3#32
  let c2_i32_383 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v876 : BitVec 32 := Scalar.muli c2_i32_383 v705
  let c1_i32_384 : BitVec 32 := 1#32
  let v877 : BitVec 32 := Scalar.addi v876 c1_i32_384
  let v878 : BitVec 32 := Scalar.muli c3_i32_385 v877
  let c1_i32_386 : BitVec 32 := 1#32
  let v879 : BitVec 32 := Scalar.addi v878 c1_i32_386
  let c128_i32_393 : BitVec 32 := 128#32
  let v893 : BitVec 32 := Scalar.muli v879 c128_i32_393
  v893
def k0_mult23 (i : grid0.Coords) (k0_t2 : Fin (k0_t2_loop i).trips) : BitVec 32 :=
  let c3_i32_462 : BitVec 32 := 3#32
  let c2_i32_460 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v1046 : BitVec 32 := Scalar.muli c2_i32_460 v705
  let c1_i32_461 : BitVec 32 := 1#32
  let v1047 : BitVec 32 := Scalar.addi v1046 c1_i32_461
  let v1048 : BitVec 32 := Scalar.muli c3_i32_462 v1047
  let c2_i32_463 : BitVec 32 := 2#32
  let v1049 : BitVec 32 := Scalar.addi v1048 c2_i32_463
  let c128_i32_464 : BitVec 32 := 128#32
  let v1050 : BitVec 32 := Scalar.muli v1049 c128_i32_464
  v1050
def k0_mult24 (i : grid0.Coords) (k0_t2 : Fin (k0_t2_loop i).trips) : BitVec 32 :=
  let c3_i32_462 : BitVec 32 := 3#32
  let c2_i32_460 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v1046 : BitVec 32 := Scalar.muli c2_i32_460 v705
  let c1_i32_461 : BitVec 32 := 1#32
  let v1047 : BitVec 32 := Scalar.addi v1046 c1_i32_461
  let v1048 : BitVec 32 := Scalar.muli c3_i32_462 v1047
  let c2_i32_463 : BitVec 32 := 2#32
  let v1049 : BitVec 32 := Scalar.addi v1048 c2_i32_463
  let c128_i32_470 : BitVec 32 := 128#32
  let v1063 : BitVec 32 := Scalar.muli v1049 c128_i32_470
  v1063
def k0_mult25 (i : grid0.Coords) (k0_t2 : Fin (k0_t2_loop i).trips) : BitVec 32 :=
  let c3_i32_539 : BitVec 32 := 3#32
  let c2_i32_537 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v1216 : BitVec 32 := Scalar.muli c2_i32_537 v705
  let c1_i32_538 : BitVec 32 := 1#32
  let v1217 : BitVec 32 := Scalar.addi v1216 c1_i32_538
  let v1218 : BitVec 32 := Scalar.muli c3_i32_539 v1217
  let c3_i32_540 : BitVec 32 := 3#32
  let v1219 : BitVec 32 := Scalar.addi v1218 c3_i32_540
  let c128_i32_541 : BitVec 32 := 128#32
  let v1220 : BitVec 32 := Scalar.muli v1219 c128_i32_541
  v1220
def k0_mult26 (i : grid0.Coords) (k0_t2 : Fin (k0_t2_loop i).trips) : BitVec 32 :=
  let c3_i32_539 : BitVec 32 := 3#32
  let c2_i32_537 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v1216 : BitVec 32 := Scalar.muli c2_i32_537 v705
  let c1_i32_538 : BitVec 32 := 1#32
  let v1217 : BitVec 32 := Scalar.addi v1216 c1_i32_538
  let v1218 : BitVec 32 := Scalar.muli c3_i32_539 v1217
  let c3_i32_540 : BitVec 32 := 3#32
  let v1219 : BitVec 32 := Scalar.addi v1218 c3_i32_540
  let c128_i32_547 : BitVec 32 := 128#32
  let v1233 : BitVec 32 := Scalar.muli v1219 c128_i32_547
  v1233
def k0_mult27 (i : grid0.Coords) (k0_t2 : Fin (k0_t2_loop i).trips) : BitVec 32 :=
  let c3_i32_616 : BitVec 32 := 3#32
  let c2_i32_614 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v1386 : BitVec 32 := Scalar.muli c2_i32_614 v705
  let c1_i32_615 : BitVec 32 := 1#32
  let v1387 : BitVec 32 := Scalar.addi v1386 c1_i32_615
  let v1388 : BitVec 32 := Scalar.muli c3_i32_616 v1387
  let c4_i32 : BitVec 32 := 4#32
  let v1389 : BitVec 32 := Scalar.addi v1388 c4_i32
  let c128_i32_617 : BitVec 32 := 128#32
  let v1390 : BitVec 32 := Scalar.muli v1389 c128_i32_617
  v1390
def k0_mult28 (i : grid0.Coords) (k0_t2 : Fin (k0_t2_loop i).trips) : BitVec 32 :=
  let c3_i32_616 : BitVec 32 := 3#32
  let c2_i32_614 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v1386 : BitVec 32 := Scalar.muli c2_i32_614 v705
  let c1_i32_615 : BitVec 32 := 1#32
  let v1387 : BitVec 32 := Scalar.addi v1386 c1_i32_615
  let v1388 : BitVec 32 := Scalar.muli c3_i32_616 v1387
  let c4_i32 : BitVec 32 := 4#32
  let v1389 : BitVec 32 := Scalar.addi v1388 c4_i32
  let c128_i32_623 : BitVec 32 := 128#32
  let v1403 : BitVec 32 := Scalar.muli v1389 c128_i32_623
  v1403
def k0_mult29 (i : grid0.Coords) (k0_t2 : Fin (k0_t2_loop i).trips) : BitVec 32 :=
  let c3_i32_692 : BitVec 32 := 3#32
  let c2_i32_690 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v1556 : BitVec 32 := Scalar.muli c2_i32_690 v705
  let c1_i32_691 : BitVec 32 := 1#32
  let v1557 : BitVec 32 := Scalar.addi v1556 c1_i32_691
  let v1558 : BitVec 32 := Scalar.muli c3_i32_692 v1557
  let c5_i32 : BitVec 32 := 5#32
  let v1559 : BitVec 32 := Scalar.addi v1558 c5_i32
  let c128_i32_693 : BitVec 32 := 128#32
  let v1560 : BitVec 32 := Scalar.muli v1559 c128_i32_693
  v1560
def k0_mult30 (i : grid0.Coords) (k0_t2 : Fin (k0_t2_loop i).trips) : BitVec 32 :=
  let c3_i32_692 : BitVec 32 := 3#32
  let c2_i32_690 : BitVec 32 := 2#32
  let c0_i32_39 : BitVec 32 := 0#32
  let c0_i32_40 : BitVec 32 := 0#32
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c2_i32 : BitVec 32 := 2#32
  let c0_i32_30 : BitVec 32 := 0#32
  let v67 : BitVec 1 := Scalar.cmpi .sgt c2_i32 c0_i32_30
  let v68 : BitVec 32 := Scalar.extui v67
  let c0_i32_31 : BitVec 32 := 0#32
  let v69 : BitVec 1 := Scalar.cmpi .slt c2_i32 c0_i32_31
  let v70 : BitVec 32 := Scalar.extui v69
  let v71 : BitVec 32 := Scalar.subi v68 v70
  let v72 : BitVec 1 := Scalar.cmpi .ne v66 v71
  let v73 : BitVec 32 := Scalar.remsi v60 c2_i32
  let c0_i32_32 : BitVec 32 := 0#32
  let v74 : BitVec 1 := Scalar.cmpi .ne v73 c0_i32_32
  let v75 : BitVec 1 := Scalar.andi v72 v74
  let v61 : BitVec 32 := Scalar.divsi v60 c2_i32
  let c1_i32_33 : BitVec 32 := 1#32
  let v76 : BitVec 32 := Scalar.subi v61 c1_i32_33
  let v77 : BitVec 32 := Scalar.select v75 v76 v61
  let c0_i32_34 : BitVec 32 := 0#32
  let v78 : BitVec 32 := Scalar.subi v77 c0_i32_34
  let c1_i32_35 : BitVec 32 := 1#32
  let c1_i32_36 : BitVec 32 := 1#32
  let v79 : BitVec 32 := Scalar.subi c1_i32_35 c1_i32_36
  let v80 : BitVec 32 := Scalar.addi v78 v79
  let c1_i32_37 : BitVec 32 := 1#32
  let v81 : BitVec 32 := Scalar.divsi v80 c1_i32_37
  let v82 : BitVec 32 := Scalar.subi v81 c0_i32_40
  let c1_i32_41 : BitVec 32 := 1#32
  let v84 : BitVec 32 := Scalar.divsi v82 c1_i32_41
  let v85 : BitVec 32 := Scalar.muli v84 c1_i32_41
  let v86 : BitVec 32 := Scalar.addi c0_i32_40 v85
  let c1_i32_43 : BitVec 32 := 1#32
  let arg14 : BitVec 32 := Scf.iv v86 c1_i32_43 k0_t2
  let c1_i32_38 : BitVec 32 := 1#32
  let v704 : BitVec 32 := Scalar.muli arg14 c1_i32_38
  let v705 : BitVec 32 := Scalar.addi c0_i32_39 v704
  let v1556 : BitVec 32 := Scalar.muli c2_i32_690 v705
  let c1_i32_691 : BitVec 32 := 1#32
  let v1557 : BitVec 32 := Scalar.addi v1556 c1_i32_691
  let v1558 : BitVec 32 := Scalar.muli c3_i32_692 v1557
  let c5_i32 : BitVec 32 := 5#32
  let v1559 : BitVec 32 := Scalar.addi v1558 c5_i32
  let c128_i32_699 : BitVec 32 := 128#32
  let v1573 : BitVec 32 := Scalar.muli v1559 c128_i32_699
  v1573
def k0_cond3 (i : grid0.Coords) : BitVec 1 :=
  let arg1 : BitVec 32 := BitVec.ofNat 32 (i 1).val
  let c1_i32 : BitVec 32 := 1#32
  let v59 : BitVec 32 := Scalar.subi arg1 c1_i32
  let c0_i32_27 : BitVec 32 := 0#32
  let v60 : BitVec 32 := Scalar.maxsi v59 c0_i32_27
  let c2_i32_44 : BitVec 32 := 2#32
  let c0_i32_45 : BitVec 32 := 0#32
  let v87 : BitVec 1 := Scalar.cmpi .eq c2_i32_44 c0_i32_45
  let c1_i32_46 : BitVec 32 := 1#32
  let v88 : BitVec 32 := Scalar.select v87 c1_i32_46 c2_i32_44
  let v89 : BitVec 32 := Scalar.remsi v60 v88
  let c0_i32_48 : BitVec 32 := 0#32
  let v91 : BitVec 1 := Scalar.cmpi .slt v89 c0_i32_48
  let c0_i32_49 : BitVec 32 := 0#32
  let v92 : BitVec 1 := Scalar.cmpi .slt v88 c0_i32_49
  let v93 : BitVec 1 := Scalar.xori v91 v92
  let c0_i32_47 : BitVec 32 := 0#32
  let v90 : BitVec 1 := Scalar.cmpi .ne v89 c0_i32_47
  let v94 : BitVec 1 := Scalar.andi v93 v90
  let v95 : BitVec 32 := Scalar.addi v89 v88
  let v96 : BitVec 32 := Scalar.select v94 v95 v89
  let c1_i32_50 : BitVec 32 := 1#32
  let v97 : BitVec 1 := Scalar.cmpi .eq v96 c1_i32_50
  let v98 : BitVec 32 := Scalar.extui v97
  let c0_i32_51 : BitVec 32 := 0#32
  let v99 : BitVec 1 := Scalar.cmpi .ne v98 c0_i32_51
  v99

def k0_mult31 (i : grid0.Coords) : BitVec 32 :=
  let c3_i32_307 : BitVec 32 := 3#32
  let arg1 : BitVec 32 := BitVec.ofNat 32 (i 1).val
  let c1_i32_306 : BitVec 32 := 1#32
  let v704 : BitVec 32 := Scalar.subi arg1 c1_i32_306
  let v705 : BitVec 32 := Scalar.muli c3_i32_307 v704
  let c0_i32_308 : BitVec 32 := 0#32
  let v706 : BitVec 32 := Scalar.addi v705 c0_i32_308
  let c128_i32_309 : BitVec 32 := 128#32
  let v707 : BitVec 32 := Scalar.muli v706 c128_i32_309
  v707
def k0_off5 (i : grid0.Coords) (c0_i32_308 : BitVec 32) : Fin 3 → Nat :=
  let c0_310 : Index := 0#32
  let c3_i32_307 : BitVec 32 := 3#32
  let arg1 : BitVec 32 := BitVec.ofNat 32 (i 1).val
  let c1_i32_306 : BitVec 32 := 1#32
  let v704 : BitVec 32 := Scalar.subi arg1 c1_i32_306
  let v705 : BitVec 32 := Scalar.muli c3_i32_307 v704
  let v706 : BitVec 32 := Scalar.addi v705 c0_i32_308
  let c128_i32_309 : BitVec 32 := 128#32
  let v707 : BitVec 32 := Scalar.muli v706 c128_i32_309
  let v708 : BitVec 32 := v707
  let v709 : Index := Scalar.indexCast v708
  let c0_311 : Index := 0#32
  ![0, v709.toNat, 0]
def k0_mult32 (i : grid0.Coords) : BitVec 32 :=
  let c3_i32_307 : BitVec 32 := 3#32
  let arg1 : BitVec 32 := BitVec.ofNat 32 (i 1).val
  let c1_i32_306 : BitVec 32 := 1#32
  let v704 : BitVec 32 := Scalar.subi arg1 c1_i32_306
  let v705 : BitVec 32 := Scalar.muli c3_i32_307 v704
  let c0_i32_308 : BitVec 32 := 0#32
  let v706 : BitVec 32 := Scalar.addi v705 c0_i32_308
  let c128_i32_315 : BitVec 32 := 128#32
  let v720 : BitVec 32 := Scalar.muli v706 c128_i32_315
  v720
def k0_off6 (i : grid0.Coords) (c0_i32_308 : BitVec 32) : Fin 3 → Nat :=
  let c3_i32_307 : BitVec 32 := 3#32
  let arg1 : BitVec 32 := BitVec.ofNat 32 (i 1).val
  let c1_i32_306 : BitVec 32 := 1#32
  let v704 : BitVec 32 := Scalar.subi arg1 c1_i32_306
  let v705 : BitVec 32 := Scalar.muli c3_i32_307 v704
  let v706 : BitVec 32 := Scalar.addi v705 c0_i32_308
  let v851 : Index := Scalar.indexCast v706
  let c0_374 : Index := 0#32
  let c0_375 : Index := 0#32
  ![v851.toNat, 0, 0]
def k0_mult33 (i : grid0.Coords) : BitVec 32 :=
  let c3_i32_383 : BitVec 32 := 3#32
  let arg1 : BitVec 32 := BitVec.ofNat 32 (i 1).val
  let c1_i32_382 : BitVec 32 := 1#32
  let v873 : BitVec 32 := Scalar.subi arg1 c1_i32_382
  let v874 : BitVec 32 := Scalar.muli c3_i32_383 v873
  let c1_i32_384 : BitVec 32 := 1#32
  let v875 : BitVec 32 := Scalar.addi v874 c1_i32_384
  let c128_i32_385 : BitVec 32 := 128#32
  let v876 : BitVec 32 := Scalar.muli v875 c128_i32_385
  v876
def k0_mult34 (i : grid0.Coords) : BitVec 32 :=
  let c3_i32_383 : BitVec 32 := 3#32
  let arg1 : BitVec 32 := BitVec.ofNat 32 (i 1).val
  let c1_i32_382 : BitVec 32 := 1#32
  let v873 : BitVec 32 := Scalar.subi arg1 c1_i32_382
  let v874 : BitVec 32 := Scalar.muli c3_i32_383 v873
  let c1_i32_384 : BitVec 32 := 1#32
  let v875 : BitVec 32 := Scalar.addi v874 c1_i32_384
  let c128_i32_391 : BitVec 32 := 128#32
  let v889 : BitVec 32 := Scalar.muli v875 c128_i32_391
  v889
def k0_mult35 (i : grid0.Coords) : BitVec 32 :=
  let c3_i32_459 : BitVec 32 := 3#32
  let arg1 : BitVec 32 := BitVec.ofNat 32 (i 1).val
  let c1_i32_458 : BitVec 32 := 1#32
  let v1042 : BitVec 32 := Scalar.subi arg1 c1_i32_458
  let v1043 : BitVec 32 := Scalar.muli c3_i32_459 v1042
  let c2_i32_460 : BitVec 32 := 2#32
  let v1044 : BitVec 32 := Scalar.addi v1043 c2_i32_460
  let c128_i32_461 : BitVec 32 := 128#32
  let v1045 : BitVec 32 := Scalar.muli v1044 c128_i32_461
  v1045
def k0_mult36 (i : grid0.Coords) : BitVec 32 :=
  let c3_i32_459 : BitVec 32 := 3#32
  let arg1 : BitVec 32 := BitVec.ofNat 32 (i 1).val
  let c1_i32_458 : BitVec 32 := 1#32
  let v1042 : BitVec 32 := Scalar.subi arg1 c1_i32_458
  let v1043 : BitVec 32 := Scalar.muli c3_i32_459 v1042
  let c2_i32_460 : BitVec 32 := 2#32
  let v1044 : BitVec 32 := Scalar.addi v1043 c2_i32_460
  let c128_i32_467 : BitVec 32 := 128#32
  let v1058 : BitVec 32 := Scalar.muli v1044 c128_i32_467
  v1058
def k0_mult37 (i : grid0.Coords) : BitVec 32 :=
  let c3_i32 : BitVec 32 := 3#32
  let arg1 : BitVec 32 := BitVec.ofNat 32 (i 1).val
  let v100 : BitVec 32 := Scalar.muli c3_i32 arg1
  let c0_i32_52 : BitVec 32 := 0#32
  let v101 : BitVec 32 := Scalar.addi v100 c0_i32_52
  let c128_i32_53 : BitVec 32 := 128#32
  let v102 : BitVec 32 := Scalar.muli v101 c128_i32_53
  v102
def k0_off7 (i : grid0.Coords) (c0_i32_52 : BitVec 32) : Fin 3 → Nat :=
  let c0_54 : Index := 0#32
  let c3_i32 : BitVec 32 := 3#32
  let arg1 : BitVec 32 := BitVec.ofNat 32 (i 1).val
  let v100 : BitVec 32 := Scalar.muli c3_i32 arg1
  let v101 : BitVec 32 := Scalar.addi v100 c0_i32_52
  let c128_i32_53 : BitVec 32 := 128#32
  let v102 : BitVec 32 := Scalar.muli v101 c128_i32_53
  let v103 : BitVec 32 := v102
  let v104 : Index := Scalar.indexCast v103
  let c0_55 : Index := 0#32
  ![0, v104.toNat, 0]
def k0_mult38 (i : grid0.Coords) : BitVec 32 :=
  let c3_i32 : BitVec 32 := 3#32
  let arg1 : BitVec 32 := BitVec.ofNat 32 (i 1).val
  let v100 : BitVec 32 := Scalar.muli c3_i32 arg1
  let c0_i32_52 : BitVec 32 := 0#32
  let v101 : BitVec 32 := Scalar.addi v100 c0_i32_52
  let c128_i32_59 : BitVec 32 := 128#32
  let v115 : BitVec 32 := Scalar.muli v101 c128_i32_59
  v115
def k0_off8 (i : grid0.Coords) (c0_i32_52 : BitVec 32) : Fin 3 → Nat :=
  let c3_i32 : BitVec 32 := 3#32
  let arg1 : BitVec 32 := BitVec.ofNat 32 (i 1).val
  let v100 : BitVec 32 := Scalar.muli c3_i32 arg1
  let v101 : BitVec 32 := Scalar.addi v100 c0_i32_52
  let v271 : Index := Scalar.indexCast v101
  let c0_124 : Index := 0#32
  let c0_125 : Index := 0#32
  ![v271.toNat, 0, 0]
def k0_mult39 (i : grid0.Coords) : BitVec 32 :=
  let c3_i32_132 : BitVec 32 := 3#32
  let arg1 : BitVec 32 := BitVec.ofNat 32 (i 1).val
  let v293 : BitVec 32 := Scalar.muli c3_i32_132 arg1
  let c1_i32_133 : BitVec 32 := 1#32
  let v294 : BitVec 32 := Scalar.addi v293 c1_i32_133
  let c128_i32_134 : BitVec 32 := 128#32
  let v295 : BitVec 32 := Scalar.muli v294 c128_i32_134
  v295
def k0_mult40 (i : grid0.Coords) : BitVec 32 :=
  let c3_i32_132 : BitVec 32 := 3#32
  let arg1 : BitVec 32 := BitVec.ofNat 32 (i 1).val
  let v293 : BitVec 32 := Scalar.muli c3_i32_132 arg1
  let c1_i32_133 : BitVec 32 := 1#32
  let v294 : BitVec 32 := Scalar.addi v293 c1_i32_133
  let c128_i32_140 : BitVec 32 := 128#32
  let v310 : BitVec 32 := Scalar.muli v294 c128_i32_140
  v310
def k0_mult41 (i : grid0.Coords) : BitVec 32 :=
  let c3_i32_216 : BitVec 32 := 3#32
  let arg1 : BitVec 32 := BitVec.ofNat 32 (i 1).val
  let v492 : BitVec 32 := Scalar.muli c3_i32_216 arg1
  let c2_i32_217 : BitVec 32 := 2#32
  let v493 : BitVec 32 := Scalar.addi v492 c2_i32_217
  let c128_i32_218 : BitVec 32 := 128#32
  let v494 : BitVec 32 := Scalar.muli v493 c128_i32_218
  v494
def k0_mult42 (i : grid0.Coords) : BitVec 32 :=
  let c3_i32_216 : BitVec 32 := 3#32
  let arg1 : BitVec 32 := BitVec.ofNat 32 (i 1).val
  let v492 : BitVec 32 := Scalar.muli c3_i32_216 arg1
  let c2_i32_217 : BitVec 32 := 2#32
  let v493 : BitVec 32 := Scalar.addi v492 c2_i32_217
  let c128_i32_224 : BitVec 32 := 128#32
  let v509 : BitVec 32 := Scalar.muli v493 c128_i32_224
  v509
def k0_mult43 (i : grid0.Coords) : BitVec 32 :=
  let arg1 : BitVec 32 := BitVec.ofNat 32 (i 1).val
  let c384_i32_302 : BitVec 32 := 384#32
  let v695 : BitVec 32 := Scalar.muli arg1 c384_i32_302
  v695
def k0_off9 (i : grid0.Coords) : Fin 3 → Nat :=
  let c0_303 : Index := 0#32
  let arg1 : BitVec 32 := BitVec.ofNat 32 (i 1).val
  let c384_i32_302 : BitVec 32 := 384#32
  let v695 : BitVec 32 := Scalar.muli arg1 c384_i32_302
  let v696 : BitVec 32 := v695
  let v697 : Index := Scalar.indexCast v696
  let c0_304 : Index := 0#32
  ![0, v697.toNat, 0]
def k0_cond4 (i : grid0.Coords) : BitVec 1 :=
  let arg1 : BitVec 32 := BitVec.ofNat 32 (i 1).val
  let c10_i32 : BitVec 32 := 10#32
  let v701 : BitVec 1 := Scalar.cmpi .eq arg1 c10_i32
  let v702 : BitVec 32 := Scalar.extui v701
  let c0_i32_305 : BitVec 32 := 0#32
  let v703 : BitVec 1 := Scalar.cmpi .ne v702 c0_i32_305
  v703

@[reducible] def k0_t3_loop : Scf.Loop 32 :=
  let c0_i32_306 : BitVec 32 := 0#32
  let c33_i32 : BitVec 32 := 33#32
  let v704 : BitVec 32 := Scalar.addi c0_i32_306 c33_i32
  let c1_i32_307 : BitVec 32 := 1#32
  ⟨c0_i32_306, v704, c1_i32_307⟩
def k0_mult44 (k0_t3 : Fin k0_t3_loop.trips) : BitVec 32 :=
  let c0_i32_310 : BitVec 32 := 0#32
  let c0_i32_306 : BitVec 32 := 0#32
  let c1_i32_307 : BitVec 32 := 1#32
  let arg14 : BitVec 32 := Scf.iv c0_i32_306 c1_i32_307 k0_t3
  let c1_i32_309 : BitVec 32 := 1#32
  let v705 : BitVec 32 := Scalar.muli arg14 c1_i32_309
  let v706 : BitVec 32 := Scalar.addi c0_i32_310 v705
  let c128_i32_311 : BitVec 32 := 128#32
  let v707 : BitVec 32 := Scalar.muli v706 c128_i32_311
  v707
def k0_off10 (k0_t3 : Fin k0_t3_loop.trips) : Fin 3 → Nat :=
  let c0_i32_310 : BitVec 32 := 0#32
  let c0_i32_306 : BitVec 32 := 0#32
  let c1_i32_307 : BitVec 32 := 1#32
  let arg14 : BitVec 32 := Scf.iv c0_i32_306 c1_i32_307 k0_t3
  let c1_i32_309 : BitVec 32 := 1#32
  let v705 : BitVec 32 := Scalar.muli arg14 c1_i32_309
  let v706 : BitVec 32 := Scalar.addi c0_i32_310 v705
  let v709 : Index := Scalar.indexCast v706
  let c0_312 : Index := 0#32
  let c0_313 : Index := 0#32
  ![v709.toNat, 0, 0]
def k0_off11 (k0_t3 : Fin k0_t3_loop.trips) : Fin 3 → Nat :=
  let c1_314 : Index := 1#32
  let c0_i32_310 : BitVec 32 := 0#32
  let c0_i32_306 : BitVec 32 := 0#32
  let c1_i32_307 : BitVec 32 := 1#32
  let arg14 : BitVec 32 := Scf.iv c0_i32_306 c1_i32_307 k0_t3
  let c1_i32_309 : BitVec 32 := 1#32
  let v705 : BitVec 32 := Scalar.muli arg14 c1_i32_309
  let v706 : BitVec 32 := Scalar.addi c0_i32_310 v705
  let c128_i32_311 : BitVec 32 := 128#32
  let v707 : BitVec 32 := Scalar.muli v706 c128_i32_311
  let v708 : BitVec 32 := v707
  let v714 : Index := Scalar.indexCast v708
  let c0_315 : Index := 0#32
  ![1, v714.toNat, 0]
def k0_off12 (k0_t3 : Fin k0_t3_loop.trips) : Fin 3 → Nat :=
  let c2 : Index := 2#32
  let c0_i32_310 : BitVec 32 := 0#32
  let c0_i32_306 : BitVec 32 := 0#32
  let c1_i32_307 : BitVec 32 := 1#32
  let arg14 : BitVec 32 := Scf.iv c0_i32_306 c1_i32_307 k0_t3
  let c1_i32_309 : BitVec 32 := 1#32
  let v705 : BitVec 32 := Scalar.muli arg14 c1_i32_309
  let v706 : BitVec 32 := Scalar.addi c0_i32_310 v705
  let c128_i32_311 : BitVec 32 := 128#32
  let v707 : BitVec 32 := Scalar.muli v706 c128_i32_311
  let v708 : BitVec 32 := v707
  let v723 : Index := Scalar.indexCast v708
  let c0_318 : Index := 0#32
  ![2, v723.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

abbrev stage0_0 : Fin 2 → Memref sig .tc .vmem S1x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x4224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F]
-- ==== ReferenceIdeal.lean ====
abbrev S8x4224x1024 : Shape := ⟨3, ![8, 4224, 1024]⟩
abbrev S4224x1024 : Shape := ⟨2, ![4224, 1024]⟩
abbrev S1x4224x1024 : Shape := ⟨3, ![1, 4224, 1024]⟩
abbrev S4112x1024 : Shape := ⟨2, ![4112, 1024]⟩
abbrev S4112x16x64 : Shape := ⟨3, ![4112, 16, 64]⟩
abbrev S16x4112x4112 : Shape := ⟨3, ![16, 4112, 4112]⟩
abbrev S_ : Shape := ⟨0, ![]⟩
abbrev S4112x4112 : Shape := ⟨2, ![4112, 4112]⟩
abbrev S16x64x4112 : Shape := ⟨3, ![16, 64, 4112]⟩
abbrev S16x4112x64 : Shape := ⟨3, ![16, 4112, 64]⟩
abbrev S3x4224x1024 : Shape := ⟨3, ![3, 4224, 1024]⟩
abbrev S2x4224x1024 : Shape := ⟨3, ![2, 4224, 1024]⟩

abbrev nBuf : Space → Nat
  | .hbm => 149
  | .vmem => 0
  | .smem => 0
  | _ => 0

abbrev hbmTy0_0 (i : Nat) : BufTy := match i % 128 with
  | 0 => ⟨S8x4224x1024, .bf16⟩
  | 1 => ⟨S4224x1024, .bf16⟩
  | 2 => ⟨S8x4224x1024, .bf16⟩
  | 3 => ⟨S1x4224x1024, .bf16⟩
  | 4 => ⟨S4224x1024, .bf16⟩
  | 5 => ⟨S4112x1024, .bf16⟩
  | 6 => ⟨S4112x1024, .f32⟩
  | 7 => ⟨S4112x16x64, .f32⟩
  | 8 => ⟨S1x4224x1024, .bf16⟩
  | 9 => ⟨S4224x1024, .bf16⟩
  | 10 => ⟨S4112x1024, .bf16⟩
  | 11 => ⟨S4112x1024, .f32⟩
  | 12 => ⟨S4112x16x64, .f32⟩
  | 13 => ⟨S1x4224x1024, .bf16⟩
  | 14 => ⟨S4224x1024, .bf16⟩
  | 15 => ⟨S4112x1024, .bf16⟩
  | 16 => ⟨S4112x1024, .f32⟩
  | 17 => ⟨S4112x16x64, .f32⟩
  | 18 => ⟨S4112x1024, .bf16⟩
  | 19 => ⟨S4112x1024, .f32⟩
  | 20 => ⟨S4112x16x64, .f32⟩
  | 21 => ⟨S16x4112x4112, .f32⟩
  | 22 => ⟨S_, .f32⟩
  | 23 => ⟨S16x4112x4112, .f32⟩
  | 24 => ⟨S16x4112x4112, .f32⟩
  | 25 => ⟨S4112x4112, .i32⟩
  | 26 => ⟨S4112x4112, .i32⟩
  | 27 => ⟨S4112x4112, .i1⟩
  | 28 => ⟨S16x4112x4112, .f32⟩
  | 29 => ⟨S_, .f32⟩
  | 30 => ⟨S16x4112x4112, .f32⟩
  | 31 => ⟨S16x4112x4112, .f32⟩
  | 32 => ⟨S16x4112x4112, .f32⟩
  | 33 => ⟨S16x4112x4112, .f32⟩
  | 34 => ⟨S16x4112x4112, .i1⟩
  | 35 => ⟨S16x4112x4112, .f32⟩
  | 36 => ⟨S16x4112x4112, .f32⟩
  | 37 => ⟨S16x4112x4112, .f32⟩
  | 38 => ⟨S16x4112x4112, .f32⟩
  | 39 => ⟨S16x4112x4112, .f32⟩
  | 40 => ⟨S16x4112x4112, .f32⟩
  | 41 => ⟨S16x4112x4112, .f32⟩
  | 42 => ⟨S16x4112x4112, .f32⟩
  | 43 => ⟨S_, .f32⟩
  | 44 => ⟨S16x4112x4112, .f32⟩
  | 45 => ⟨S16x4112x4112, .i1⟩
  | 46 => ⟨S_, .f32⟩
  | 47 => ⟨S16x4112x4112, .f32⟩
  | 48 => ⟨S16x4112x4112, .f32⟩
  | 49 => ⟨S_, .f32⟩
  | 50 => ⟨S16x4112x4112, .f32⟩
  | 51 => ⟨S16x4112x4112, .i1⟩
  | 52 => ⟨S_, .f32⟩
  | 53 => ⟨S16x4112x4112, .f32⟩
  | 54 => ⟨S16x4112x4112, .f32⟩
  | 55 => ⟨S16x4112x4112, .f32⟩
  | 56 => ⟨S16x4112x4112, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S16x4112x4112, .f32⟩
  | 65 => ⟨S16x4112x4112, .i1⟩
  | 66 => ⟨S_, .f32⟩
  | 67 => ⟨S16x4112x4112, .f32⟩
  | 68 => ⟨S16x4112x4112, .f32⟩
  | 69 => ⟨S16x4112x4112, .f32⟩
  | 70 => ⟨S16x4112x4112, .f32⟩
  | 71 => ⟨S16x4112x4112, .f32⟩
  | 72 => ⟨S_, .f32⟩
  | 73 => ⟨S16x4112x4112, .f32⟩
  | 74 => ⟨S16x4112x4112, .f32⟩
  | 75 => ⟨S16x4112x4112, .f32⟩
  | 76 => ⟨S16x4112x4112, .f32⟩
  | 77 => ⟨S_, .f32⟩
  | 78 => ⟨S_, .f32⟩
  | 79 => ⟨S16x4112x4112, .i1⟩
  | 80 => ⟨S16x4112x4112, .f32⟩
  | 81 => ⟨S16x4112x4112, .f32⟩
  | 82 => ⟨S_, .f32⟩
  | 83 => ⟨S16x4112x4112, .f32⟩
  | 84 => ⟨S_, .f32⟩
  | 85 => ⟨S_, .f32⟩
  | 86 => ⟨S16x4112x4112, .f32⟩
  | 87 => ⟨S16x4112x4112, .f32⟩
  | 88 => ⟨S16x4112x4112, .f32⟩
  | 89 => ⟨S16x4112x4112, .f32⟩
  | 90 => ⟨S_, .f32⟩
  | 91 => ⟨S_, .f32⟩
  | 92 => ⟨S16x4112x4112, .i1⟩
  | 93 => ⟨S16x4112x4112, .f32⟩
  | 94 => ⟨S16x4112x4112, .f32⟩
  | 95 => ⟨S_, .f32⟩
  | 96 => ⟨S16x4112x4112, .f32⟩
  | 97 => ⟨S16x64x4112, .f32⟩
  | 98 => ⟨S4112x16x64, .f32⟩
  | 99 => ⟨S16x64x4112, .f32⟩
  | 100 => ⟨S16x4112x4112, .f32⟩
  | 101 => ⟨S16x64x4112, .f32⟩
  | 102 => ⟨S4112x16x64, .f32⟩
  | 103 => ⟨S_, .f32⟩
  | 104 => ⟨S16x4112x4112, .f32⟩
  | 105 => ⟨S16x4112x4112, .f32⟩
  | 106 => ⟨S16x4112x4112, .f32⟩
  | 107 => ⟨S16x4112x4112, .f32⟩
  | 108 => ⟨S_, .f32⟩
  | 109 => ⟨S_, .f32⟩
  | 110 => ⟨S16x4112x4112, .f32⟩
  | 111 => ⟨S16x4112x4112, .f32⟩
  | 112 => ⟨S_, .f32⟩
  | 113 => ⟨S16x4112x4112, .f32⟩
  | 114 => ⟨S16x4112x4112, .f32⟩
  | 115 => ⟨S16x4112x4112, .f32⟩
  | 116 => ⟨S16x4112x4112, .f32⟩
  | 117 => ⟨S16x4112x4112, .f32⟩
  | 118 => ⟨S16x4112x4112, .f32⟩
  | 119 => ⟨S16x4112x4112, .f32⟩
  | 120 => ⟨S16x4112x4112, .f32⟩
  | 121 => ⟨S_, .f32⟩
  | 122 => ⟨S16x4112x4112, .f32⟩
  | 123 => ⟨S16x4112x4112, .f32⟩
  | 124 => ⟨S16x4112x64, .f32⟩
  | 125 => ⟨S4112x16x64, .f32⟩
  | 126 => ⟨S16x4112x64, .f32⟩
  | 127 => ⟨S4112x16x64, .f32⟩
  | _ => ⟨S8x4224x1024, .bf16⟩

abbrev hbmTy0_1 (i : Nat) : BufTy := match i % 128 with
  | 0 => ⟨S4112x1024, .f32⟩
  | 1 => ⟨S_, .i32⟩
  | 2 => ⟨S_, .f32⟩
  | 3 => ⟨S4224x1024, .f32⟩
  | 4 => ⟨S4224x1024, .bf16⟩
  | 5 => ⟨S1x4224x1024, .bf16⟩
  | 6 => ⟨S4112x1024, .f32⟩
  | 7 => ⟨S_, .i32⟩
  | 8 => ⟨S_, .f32⟩
  | 9 => ⟨S4224x1024, .f32⟩
  | 10 => ⟨S4224x1024, .bf16⟩
  | 11 => ⟨S1x4224x1024, .bf16⟩
  | 12 => ⟨S4112x1024, .f32⟩
  | 13 => ⟨S_, .i32⟩
  | 14 => ⟨S_, .f32⟩
  | 15 => ⟨S4224x1024, .f32⟩
  | 16 => ⟨S4224x1024, .bf16⟩
  | 17 => ⟨S1x4224x1024, .bf16⟩
  | 18 => ⟨S3x4224x1024, .bf16⟩
  | 19 => ⟨S2x4224x1024, .bf16⟩
  | 20 => ⟨S8x4224x1024, .bf16⟩
  | _ => ⟨S8x4224x1024, .bf16⟩

abbrev hbmTy (i : Nat) : BufTy := match i / 128 with
  | 0 => hbmTy0_0 i
  | 1 => hbmTy0_1 i
  | _ => ⟨S8x4224x1024, .bf16⟩

abbrev bufTy : (tb : Table) → Fin (tcTables nBuf tb) → BufTy
  | .hbm, ⟨i, _⟩ => hbmTy i
  | _, _ => ⟨S8x4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1_0 : Ref sig .tc := ⟨.hbm, 42, rfl⟩
abbrev main_call0_call0_cst_0 : Ref sig .tc := ⟨.hbm, 43, rfl⟩
abbrev main_call0_call0_v13 : Ref sig .tc := ⟨.hbm, 44, rfl⟩
abbrev main_call0_call0_v14 : Ref sig .tc := ⟨.hbm, 45, rfl⟩
abbrev main_call0_call0_cst_1 : Ref sig .tc := ⟨.hbm, 46, rfl⟩
abbrev main_call0_call0_v15 : Ref sig .tc := ⟨.hbm, 47, rfl⟩
abbrev main_call0_call0_v16 : Ref sig .tc := ⟨.hbm, 48, rfl⟩
abbrev main_call0_call0_cst_2 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_cst_3 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_v21 : Ref sig .tc := ⟨.hbm, 55, rfl⟩
abbrev main_v24_1 : Ref sig .tc := ⟨.hbm, 56, rfl⟩
abbrev main_call0_call0_cst_4 : Ref sig .tc := ⟨.hbm, 57, rfl⟩
abbrev main_call0_call0_cst_5 : Ref sig .tc := ⟨.hbm, 58, rfl⟩
abbrev main_call0_call0_v23 : Ref sig .tc := ⟨.hbm, 59, rfl⟩
abbrev main_call0_call0_cst_6 : Ref sig .tc := ⟨.hbm, 60, rfl⟩
abbrev main_call0_call0_cst_7 : Ref sig .tc := ⟨.hbm, 61, rfl⟩
abbrev main_call0_call0_v24 : Ref sig .tc := ⟨.hbm, 62, rfl⟩
abbrev main_call0_call0_cst_8 : Ref sig .tc := ⟨.hbm, 63, rfl⟩
abbrev main_call0_call0_v25 : Ref sig .tc := ⟨.hbm, 64, rfl⟩
abbrev main_call0_call0_v26 : Ref sig .tc := ⟨.hbm, 65, rfl⟩
abbrev main_call0_call0_cst_9 : Ref sig .tc := ⟨.hbm, 66, rfl⟩
abbrev main_call0_call0_v27 : Ref sig .tc := ⟨.hbm, 67, rfl⟩
abbrev main_call0_call0_v28 : Ref sig .tc := ⟨.hbm, 68, rfl⟩
abbrev main_call0_call0_v29 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_cst_10 : Ref sig .tc := ⟨.hbm, 72, rfl⟩
abbrev main_call0_call0_v32 : Ref sig .tc := ⟨.hbm, 73, rfl⟩
abbrev main_v24_2 : Ref sig .tc := ⟨.hbm, 74, rfl⟩
abbrev main_v24_0 : Ref sig .tc := ⟨.hbm, 75, rfl⟩
abbrev main_v25 : Ref sig .tc := ⟨.hbm, 76, rfl⟩
abbrev main_cst_0 : Ref sig .tc := ⟨.hbm, 77, rfl⟩
abbrev main_call1_v0 : Ref sig .tc := ⟨.hbm, 78, rfl⟩
abbrev main_v26_1 : Ref sig .tc := ⟨.hbm, 79, rfl⟩
abbrev main_call1_v2 : Ref sig .tc := ⟨.hbm, 80, rfl⟩
abbrev main_v26_0 : Ref sig .tc := ⟨.hbm, 81, rfl⟩
abbrev main_call1_cst : Ref sig .tc := ⟨.hbm, 82, rfl⟩
abbrev main_v26_2 : Ref sig .tc := ⟨.hbm, 83, rfl⟩
abbrev main_call2_cst : Ref sig .tc := ⟨.hbm, 84, rfl⟩
abbrev main_call2_v0 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_1 : Ref sig .tc := ⟨.hbm, 90, rfl⟩
abbrev main_call3_v0 : Ref sig .tc := ⟨.hbm, 91, rfl⟩
abbrev main_v31_1 : Ref sig .tc := ⟨.hbm, 92, rfl⟩
abbrev main_call3_v2 : Ref sig .tc := ⟨.hbm, 93, rfl⟩
abbrev main_v31_0 : Ref sig .tc := ⟨.hbm, 94, rfl⟩
abbrev main_call3_cst : Ref sig .tc := ⟨.hbm, 95, rfl⟩
abbrev main_v31_2 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_call4_cst : Ref sig .tc := ⟨.hbm, 103, rfl⟩
abbrev main_call4_v0 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_call5_cst : Ref sig .tc := ⟨.hbm, 108, rfl⟩
abbrev main_call5_v0 : Ref sig .tc := ⟨.hbm, 109, rfl⟩
abbrev main_v41 : Ref sig .tc := ⟨.hbm, 110, rfl⟩
abbrev main_v42 : Ref sig .tc := ⟨.hbm, 111, rfl⟩
abbrev main_call6_cst : Ref sig .tc := ⟨.hbm, 112, rfl⟩
abbrev main_call6_v0 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_call7_v0 : Ref sig .tc := ⟨.hbm, 117, rfl⟩
abbrev main_call7_v1 : Ref sig .tc := ⟨.hbm, 118, rfl⟩
abbrev main_v46 : Ref sig .tc := ⟨.hbm, 119, rfl⟩
abbrev main_v47 : Ref sig .tc := ⟨.hbm, 120, rfl⟩
abbrev main_cst_2 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_c : Ref sig .tc := ⟨.hbm, 129, rfl⟩
abbrev main_call8_v0 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_c_3 : Ref sig .tc := ⟨.hbm, 135, rfl⟩
abbrev main_call9_v0 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_c_4 : Ref sig .tc := ⟨.hbm, 141, rfl⟩
abbrev main_call10_v0 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩

abbrev nD : Nat := 1
abbrev τ : Topo := Topo.v7x

variable {F : FTy → Type} [FloatOps F]
-- ==== InDx.lean ====
abbrev S8x4224x1024 : Shape := ⟨3, ![8, 4224, 1024]⟩
abbrev S8x1024x1024 : Shape := ⟨3, ![8, 1024, 1024]⟩
abbrev S4224x1024 : Shape := ⟨2, ![4224, 1024]⟩
abbrev S1x1408x1024 : Shape := ⟨3, ![1, 1408, 1024]⟩
abbrev S1x1024x1024 : Shape := ⟨3, ![1, 1024, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x4224x1024, .bf16⟩
  | .hbm, ⟨1, _⟩ => ⟨S8x1024x1024, .bf16⟩
  | .hbm, ⟨2, _⟩ => ⟨S4224x1024, .f32⟩
  | .local _ .vmem, ⟨0, _⟩ => ⟨S1x1408x1024, .bf16⟩
  | .local _ .vmem, ⟨1, _⟩ => ⟨S1x1408x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8x4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDxRefIdeal.lean ====
abbrev S8x4224x1024 : Shape := ⟨3, ![8, 4224, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S4224x8x1024 : Shape := ⟨3, ![4224, 8, 1024]⟩
abbrev S4224x8192 : Shape := ⟨2, ![4224, 8192]⟩
abbrev S_ : Shape := ⟨0, ![]⟩
abbrev S4224x1024 : Shape := ⟨2, ![4224, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x4224x1024, .bf16⟩
  | .hbm, ⟨1, _⟩ => ⟨S8x1024x1024, .bf16⟩
  | .hbm, ⟨2, _⟩ => ⟨S8x1024x1024, .f32⟩
  | .hbm, ⟨3, _⟩ => ⟨S1024x8x1024, .f32⟩
  | .hbm, ⟨4, _⟩ => ⟨S1024x8192, .f32⟩
  | .hbm, ⟨5, _⟩ => ⟨S8x4224x1024, .f32⟩
  | .hbm, ⟨6, _⟩ => ⟨S4224x8x1024, .f32⟩
  | .hbm, ⟨7, _⟩ => ⟨S4224x8192, .f32⟩
  | .hbm, ⟨8, _⟩ => ⟨S_, .f32⟩
  | .hbm, ⟨9, _⟩ => ⟨S4224x1024, .f32⟩
  | .hbm, ⟨10, _⟩ => ⟨S4224x8192, .f32⟩
  | .hbm, ⟨11, _⟩ => ⟨S4224x1024, .f32⟩
  | _, _ => ⟨S8x4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UgDw.lean ====
abbrev S4224x1024 : Shape := ⟨2, ![4224, 1024]⟩
abbrev S8x4224x704 : Shape := ⟨3, ![8, 4224, 704]⟩
abbrev S8x1024x704 : Shape := ⟨3, ![8, 1024, 704]⟩
abbrev S1408x1024 : Shape := ⟨2, ![1408, 1024]⟩
abbrev S1x1408x704 : Shape := ⟨3, ![1, 1408, 704]⟩
abbrev S1x1024x704 : Shape := ⟨3, ![1, 1024, 704]⟩
abbrev S1024x704 : Shape := ⟨2, ![1024, 704]⟩
abbrev S1408x704 : Shape := ⟨2, ![1408, 704]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S8x4224x704, .bf16⟩
  | .hbm, ⟨2, _⟩ => ⟨S8x1024x704, .bf16⟩
  | .local _ .vmem, ⟨0, _⟩ => ⟨S1408x1024, .bf16⟩
  | .local _ .vmem, ⟨1, _⟩ => ⟨S1408x1024, .bf16⟩
  | .local _ .vmem, ⟨2, _⟩ => ⟨S1x1408x704, .bf16⟩
  | .local _ .vmem, ⟨3, _⟩ => ⟨S1x1408x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UgDwRefIdeal.lean ====
abbrev S4224x1024 : Shape := ⟨2, ![4224, 1024]⟩
abbrev S8x4224x704 : Shape := ⟨3, ![8, 4224, 704]⟩
abbrev S4224x8x704 : Shape := ⟨3, ![4224, 8, 704]⟩
abbrev S4224x5632 : Shape := ⟨2, ![4224, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S8x4224x704, .bf16⟩
  | .hbm, ⟨2, _⟩ => ⟨S4224x1024, .f32⟩
  | .hbm, ⟨3, _⟩ => ⟨S8x4224x704, .f32⟩
  | .hbm, ⟨4, _⟩ => ⟨S4224x8x704, .f32⟩
  | .hbm, ⟨5, _⟩ => ⟨S4224x5632, .f32⟩
  | .hbm, ⟨6, _⟩ => ⟨S_, .f32⟩
  | .hbm, ⟨7, _⟩ => ⟨S1024x5632, .f32⟩
  | .hbm, ⟨8, _⟩ => ⟨S4224x5632, .f32⟩
  | .hbm, ⟨9, _⟩ => ⟨S5632x1024, .f32⟩
  | .hbm, ⟨10, _⟩ => ⟨S1024x5632, .f32⟩
  | .hbm, ⟨11, _⟩ => ⟨S1024x8x704, .f32⟩
  | .hbm, ⟨12, _⟩ => ⟨S8x1024x704, .f32⟩
  | .hbm, ⟨13, _⟩ => ⟨S8x1024x704, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DownDx.lean ====
abbrev S4224x1024 : Shape := ⟨2, ![4224, 1024]⟩
abbrev S4x704x1024 : Shape := ⟨3, ![4, 704, 1024]⟩
abbrev S4x4224x704 : Shape := ⟨3, ![4, 4224, 704]⟩
abbrev S1408x1024 : Shape := ⟨2, ![1408, 1024]⟩
abbrev S1x704x1024 : Shape := ⟨3, ![1, 704, 1024]⟩
abbrev S1x1408x704 : Shape := ⟨3, ![1, 1408, 704]⟩
abbrev S704x1024 : Shape := ⟨2, ![704, 1024]⟩
abbrev S1408x704 : Shape := ⟨2, ![1408, 704]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4x704x1024, .bf16⟩
  | .hbm, ⟨2, _⟩ => ⟨S4x4224x704, .bf16⟩
  | .local _ .vmem, ⟨0, _⟩ => ⟨S1408x1024, .bf16⟩
  | .local _ .vmem, ⟨1, _⟩ => ⟨S1408x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1408x704, .bf16⟩
  | .local _ .vmem, ⟨5, _⟩ => ⟨S1x1408x704, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S4224x1024 : Shape := ⟨2, ![4224, 1024]⟩
abbrev S4x704x1024 : Shape := ⟨3, ![4, 704, 1024]⟩
abbrev S2816x1024 : Shape := ⟨2, ![2816, 1024]⟩
abbrev S_ : Shape := ⟨0, ![]⟩
abbrev S4224x2816 : Shape := ⟨2, ![4224, 2816]⟩
abbrev S4224x4x704 : Shape := ⟨3, ![4224, 4, 704]⟩
abbrev S4x4224x704 : Shape := ⟨3, ![4, 4224, 704]⟩

abbrev nBuf : Space → Nat
  | .hbm => 12
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4x704x1024, .bf16⟩
  | .hbm, ⟨2, _⟩ => ⟨S4x704x1024, .f32⟩
  | .hbm, ⟨3, _⟩ => ⟨S2816x1024, .f32⟩
  | .hbm, ⟨4, _⟩ => ⟨S4224x1024, .f32⟩
  | .hbm, ⟨5, _⟩ => ⟨S_, .f32⟩
  | .hbm, ⟨6, _⟩ => ⟨S4224x2816, .f32⟩
  | .hbm, ⟨7, _⟩ => ⟨S4224x1024, .f32⟩
  | .hbm, ⟨8, _⟩ => ⟨S4224x2816, .f32⟩
  | .hbm, ⟨9, _⟩ => ⟨S4224x4x704, .f32⟩
  | .hbm, ⟨10, _⟩ => ⟨S4x4224x704, .f32⟩
  | .hbm, ⟨11, _⟩ => ⟨S4x4224x704, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UgDx.lean ====
abbrev S8x4224x704 : Shape := ⟨3, ![8, 4224, 704]⟩
abbrev S8x1024x704 : Shape := ⟨3, ![8, 1024, 704]⟩
abbrev S4224x1024 : Shape := ⟨2, ![4224, 1024]⟩
abbrev S1x1408x704 : Shape := ⟨3, ![1, 1408, 704]⟩
abbrev S1x1024x704 : Shape := ⟨3, ![1, 1024, 704]⟩
abbrev S1408x1024 : Shape := ⟨2, ![1408, 1024]⟩
abbrev S1408x704 : Shape := ⟨2, ![1408, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4224x704, .bf16⟩
  | .hbm, ⟨1, _⟩ => ⟨S8x1024x704, .bf16⟩
  | .hbm, ⟨2, _⟩ => ⟨S4224x1024, .f32⟩
  | .local _ .vmem, ⟨0, _⟩ => ⟨S1x1408x704, .bf16⟩
  | .local _ .vmem, ⟨1, _⟩ => ⟨S1x1408x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8x4224x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1408x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UgDxRefIdeal.lean ====
abbrev S8x4224x704 : Shape := ⟨3, ![8, 4224, 704]⟩
abbrev S8x1024x704 : Shape := ⟨3, ![8, 1024, 704]⟩
abbrev S1024x8x704 : Shape := ⟨3, ![1024, 8, 704]⟩
abbrev S1024x5632 : Shape := ⟨2, ![1024, 5632]⟩
abbrev S4224x8x704 : Shape := ⟨3, ![4224, 8, 704]⟩
abbrev S4224x5632 : Shape := ⟨2, ![4224, 5632]⟩
abbrev S_ : Shape := ⟨0, ![]⟩
abbrev S4224x1024 : Shape := ⟨2, ![4224, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x4224x704, .bf16⟩
  | .hbm, ⟨1, _⟩ => ⟨S8x1024x704, .bf16⟩
  | .hbm, ⟨2, _⟩ => ⟨S8x1024x704, .f32⟩
  | .hbm, ⟨3, _⟩ => ⟨S1024x8x704, .f32⟩
  | .hbm, ⟨4, _⟩ => ⟨S1024x5632, .f32⟩
  | .hbm, ⟨5, _⟩ => ⟨S8x4224x704, .f32⟩
  | .hbm, ⟨6, _⟩ => ⟨S4224x8x704, .f32⟩
  | .hbm, ⟨7, _⟩ => ⟨S4224x5632, .f32⟩
  | .hbm, ⟨8, _⟩ => ⟨S_, .f32⟩
  | .hbm, ⟨9, _⟩ => ⟨S4224x1024, .f32⟩
  | .hbm, ⟨10, _⟩ => ⟨S4224x5632, .f32⟩
  | .hbm, ⟨11, _⟩ => ⟨S4224x1024, .f32⟩
  | _, _ => ⟨S8x4224x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownDw.lean ====
abbrev S4x4224x704 : Shape := ⟨3, ![4, 4224, 704]⟩
abbrev S4224x1024 : Shape := ⟨2, ![4224, 1024]⟩
abbrev S4x704x1024 : Shape := ⟨3, ![4, 704, 1024]⟩
abbrev S1x1408x704 : Shape := ⟨3, ![1, 1408, 704]⟩
abbrev S1408x1024 : Shape := ⟨2, ![1408, 1024]⟩
abbrev S1x704x1024 : Shape := ⟨3, ![1, 704, 1024]⟩
abbrev S704x1024 : Shape := ⟨2, ![704, 1024]⟩
abbrev S1408x704 : Shape := ⟨2, ![1408, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4224x704, .bf16⟩
  | .hbm, ⟨1, _⟩ => ⟨S4224x1024, .bf16⟩
  | .hbm, ⟨2, _⟩ => ⟨S4x704x1024, .bf16⟩
  | .local _ .vmem, ⟨0, _⟩ => ⟨S1x1408x704, .bf16⟩
  | .local _ .vmem, ⟨1, _⟩ => ⟨S1x1408x704, .bf16⟩
  | .local _ .vmem, ⟨2, _⟩ => ⟨S1408x1024, .bf16⟩
  | .local _ .vmem, ⟨3, _⟩ => ⟨S1408x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4224x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1408x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownDwRefIdeal.lean ====
abbrev S4x4224x704 : Shape := ⟨3, ![4, 4224, 704]⟩
abbrev S4224x1024 : Shape := ⟨2, ![4224, 1024]⟩
abbrev S4224x4x704 : Shape := ⟨3, ![4224, 4, 704]⟩
abbrev S4224x2816 : Shape := ⟨2, ![4224, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4224x704, .bf16⟩
  | .hbm, ⟨1, _⟩ => ⟨S4224x1024, .bf16⟩
  | .hbm, ⟨2, _⟩ => ⟨S4x4224x704, .f32⟩
  | .hbm, ⟨3, _⟩ => ⟨S4224x4x704, .f32⟩
  | .hbm, ⟨4, _⟩ => ⟨S4224x2816, .f32⟩
  | .hbm, ⟨5, _⟩ => ⟨S4224x1024, .f32⟩
  | .hbm, ⟨6, _⟩ => ⟨S_, .f32⟩
  | .hbm, ⟨7, _⟩ => ⟨S2816x1024, .f32⟩
  | .hbm, ⟨8, _⟩ => ⟨S4224x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x4224x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ProjDx.lean ====
abbrev S4224x1024 : Shape := ⟨2, ![4224, 1024]⟩
abbrev S1x1024x1024 : Shape := ⟨3, ![1, 1024, 1024]⟩
abbrev S1x4224x1024 : Shape := ⟨3, ![1, 4224, 1024]⟩
abbrev S1408x1024 : Shape := ⟨2, ![1408, 1024]⟩
abbrev S1x1408x1024 : Shape := ⟨3, ![1, 1408, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1x1024x1024, .bf16⟩
  | .hbm, ⟨2, _⟩ => ⟨S1x4224x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1408x1024, .bf16⟩
  | .local _ .vmem, ⟨4, _⟩ => ⟨S1x1408x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDxRefIdeal.lean ====
abbrev S4224x1024 : Shape := ⟨2, ![4224, 1024]⟩
abbrev S1x1024x1024 : Shape := ⟨3, ![1, 1024, 1024]⟩
abbrev S1024x1x1024 : Shape := ⟨3, ![1024, 1, 1024]⟩
abbrev S1024x1024 : Shape := ⟨2, ![1024, 1024]⟩
abbrev S_ : Shape := ⟨0, ![]⟩
abbrev S4224x1x1024 : Shape := ⟨3, ![4224, 1, 1024]⟩
abbrev S1x4224x1024 : Shape := ⟨3, ![1, 4224, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1x1024x1024, .bf16⟩
  | .hbm, ⟨2, _⟩ => ⟨S1x1024x1024, .f32⟩
  | .hbm, ⟨3, _⟩ => ⟨S1024x1x1024, .f32⟩
  | .hbm, ⟨4, _⟩ => ⟨S1024x1024, .f32⟩
  | .hbm, ⟨5, _⟩ => ⟨S4224x1024, .f32⟩
  | .hbm, ⟨6, _⟩ => ⟨S_, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S4224x1x1024, .f32⟩
  | .hbm, ⟨11, _⟩ => ⟨S1x4224x1024, .f32⟩
  | .hbm, ⟨12, _⟩ => ⟨S1x4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ProjDw.lean ====
abbrev S4224x1024 : Shape := ⟨2, ![4224, 1024]⟩
abbrev S1x1024x1024 : Shape := ⟨3, ![1, 1024, 1024]⟩
abbrev S1408x1024 : Shape := ⟨2, ![1408, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1x1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024x1024, .bf16⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ProjDwRefIdeal.lean ====
abbrev S4224x1024 : Shape := ⟨2, ![4224, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .f32⟩
  | .hbm, ⟨3, _⟩ => ⟨S4224x1024, .f32⟩
  | .hbm, ⟨4, _⟩ => ⟨S_, .f32⟩
  | .hbm, ⟨5, _⟩ => ⟨S1024x1024, .f32⟩
  | .hbm, ⟨6, _⟩ => ⟨S4224x1024, .f32⟩
  | .hbm, ⟨7, _⟩ => ⟨S1024x1024, .f32⟩
  | .hbm, ⟨8, _⟩ => ⟨S1024x1024, .f32⟩
  | .hbm, ⟨9, _⟩ => ⟨S1024x1x1024, .f32⟩
  | .hbm, ⟨10, _⟩ => ⟨S1x1024x1024, .f32⟩
  | .hbm, ⟨11, _⟩ => ⟨S1x1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InFwd.lean ====
abbrev S4224x1024 : Shape := ⟨2, ![4224, 1024]⟩
abbrev S8x1024x1024 : Shape := ⟨3, ![8, 1024, 1024]⟩
abbrev S8x4224x1024 : Shape := ⟨3, ![8, 4224, 1024]⟩
abbrev S1408x1024 : Shape := ⟨2, ![1408, 1024]⟩
abbrev S1x1024x1024 : Shape := ⟨3, ![1, 1024, 1024]⟩
abbrev S1x1408x1024 : Shape := ⟨3, ![1, 1408, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S8x1024x1024, .bf16⟩
  | .hbm, ⟨2, _⟩ => ⟨S8x4224x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1408x1024, .bf16⟩
  | .local _ .vmem, ⟨5, _⟩ => ⟨S1x1408x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFwdRefIdeal.lean ====
abbrev S4224x1024 : Shape := ⟨2, ![4224, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S4224x8192 : Shape := ⟨2, ![4224, 8192]⟩
abbrev S4224x8x1024 : Shape := ⟨3, ![4224, 8, 1024]⟩
abbrev S8x4224x1024 : Shape := ⟨3, ![8, 4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S8x1024x1024, .bf16⟩
  | .hbm, ⟨2, _⟩ => ⟨S4224x1024, .f32⟩
  | .hbm, ⟨3, _⟩ => ⟨S8x1024x1024, .f32⟩
  | .hbm, ⟨4, _⟩ => ⟨S1024x8x1024, .f32⟩
  | .hbm, ⟨5, _⟩ => ⟨S1024x8192, .f32⟩
  | .hbm, ⟨6, _⟩ => ⟨S4224x8192, .f32⟩
  | .hbm, ⟨7, _⟩ => ⟨S4224x8x1024, .f32⟩
  | .hbm, ⟨8, _⟩ => ⟨S8x4224x1024, .f32⟩
  | .hbm, ⟨9, _⟩ => ⟨S8x4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== UgFwd.lean ====
abbrev S4224x1024 : Shape := ⟨2, ![4224, 1024]⟩
abbrev S8x1024x704 : Shape := ⟨3, ![8, 1024, 704]⟩
abbrev S8x4224x704 : Shape := ⟨3, ![8, 4224, 704]⟩
abbrev S1408x1024 : Shape := ⟨2, ![1408, 1024]⟩
abbrev S1x1024x704 : Shape := ⟨3, ![1, 1024, 704]⟩
abbrev S1x1408x704 : Shape := ⟨3, ![1, 1408, 704]⟩
abbrev S1024x704 : Shape := ⟨2, ![1024, 704]⟩
abbrev S1408x704 : Shape := ⟨2, ![1408, 704]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S8x1024x704, .bf16⟩
  | .hbm, ⟨2, _⟩ => ⟨S8x4224x704, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1408x704, .bf16⟩
  | .local _ .vmem, ⟨5, _⟩ => ⟨S1x1408x704, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UgFwdRefIdeal.lean ====
abbrev S4224x1024 : Shape := ⟨2, ![4224, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S4224x5632 : Shape := ⟨2, ![4224, 5632]⟩
abbrev S4224x8x704 : Shape := ⟨3, ![4224, 8, 704]⟩
abbrev S8x4224x704 : Shape := ⟨3, ![8, 4224, 704]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S8x1024x704, .bf16⟩
  | .hbm, ⟨2, _⟩ => ⟨S4224x1024, .f32⟩
  | .hbm, ⟨3, _⟩ => ⟨S8x1024x704, .f32⟩
  | .hbm, ⟨4, _⟩ => ⟨S1024x8x704, .f32⟩
  | .hbm, ⟨5, _⟩ => ⟨S1024x5632, .f32⟩
  | .hbm, ⟨6, _⟩ => ⟨S4224x5632, .f32⟩
  | .hbm, ⟨7, _⟩ => ⟨S4224x8x704, .f32⟩
  | .hbm, ⟨8, _⟩ => ⟨S8x4224x704, .f32⟩
  | .hbm, ⟨9, _⟩ => ⟨S8x4224x704, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== DownFwd.lean ====
abbrev S4x4224x704 : Shape := ⟨3, ![4, 4224, 704]⟩
abbrev S4x704x1024 : Shape := ⟨3, ![4, 704, 1024]⟩
abbrev S4224x1024 : Shape := ⟨2, ![4224, 1024]⟩
abbrev S1x1408x704 : Shape := ⟨3, ![1, 1408, 704]⟩
abbrev S1x704x1024 : Shape := ⟨3, ![1, 704, 1024]⟩
abbrev S1408x1024 : Shape := ⟨2, ![1408, 1024]⟩
abbrev S1408x704 : Shape := ⟨2, ![1408, 704]⟩
abbrev S704x1024 : Shape := ⟨2, ![704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4224x704, .bf16⟩
  | .hbm, ⟨1, _⟩ => ⟨S4x704x1024, .bf16⟩
  | .hbm, ⟨2, _⟩ => ⟨S4224x1024, .f32⟩
  | .local _ .vmem, ⟨0, _⟩ => ⟨S1x1408x704, .bf16⟩
  | .local _ .vmem, ⟨1, _⟩ => ⟨S1x1408x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4x4224x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1408x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownFwdRefIdeal.lean ====
abbrev S4x4224x704 : Shape := ⟨3, ![4, 4224, 704]⟩
abbrev S4x704x1024 : Shape := ⟨3, ![4, 704, 1024]⟩
abbrev S4224x4x704 : Shape := ⟨3, ![4224, 4, 704]⟩
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x4224x704, .bf16⟩
  | .hbm, ⟨1, _⟩ => ⟨S4x704x1024, .bf16⟩
  | .hbm, ⟨2, _⟩ => ⟨S4x4224x704, .f32⟩
  | .hbm, ⟨3, _⟩ => ⟨S4224x4x704, .f32⟩
  | .hbm, ⟨4, _⟩ => ⟨S4224x2816, .f32⟩
  | .hbm, ⟨5, _⟩ => ⟨S4x704x1024, .f32⟩
  | .hbm, ⟨6, _⟩ => ⟨S2816x1024, .f32⟩
  | .hbm, ⟨7, _⟩ => ⟨S4224x1024, .f32⟩
  | _, _ => ⟨S4x4224x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjFwd.lean ====
abbrev S4224x1024 : Shape := ⟨2, ![4224, 1024]⟩
abbrev S1x1024x1024 : Shape := ⟨3, ![1, 1024, 1024]⟩
abbrev S1x4224x1024 : Shape := ⟨3, ![1, 4224, 1024]⟩
abbrev S1408x1024 : Shape := ⟨2, ![1408, 1024]⟩
abbrev S1x1408x1024 : Shape := ⟨3, ![1, 1408, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1x1024x1024, .bf16⟩
  | .hbm, ⟨2, _⟩ => ⟨S1x4224x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1408x1024, .bf16⟩
  | .local _ .vmem, ⟨4, _⟩ => ⟨S1x1408x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjFwdRefIdeal.lean ====
abbrev S4224x1024 : Shape := ⟨2, ![4224, 1024]⟩
abbrev S1x1024x1024 : Shape := ⟨3, ![1, 1024, 1024]⟩
abbrev S1024x1x1024 : Shape := ⟨3, ![1024, 1, 1024]⟩
abbrev S1024x1024 : Shape := ⟨2, ![1024, 1024]⟩
abbrev S4224x1x1024 : Shape := ⟨3, ![4224, 1, 1024]⟩
abbrev S1x4224x1024 : Shape := ⟨3, ![1, 4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1x1024x1024, .bf16⟩
  | .hbm, ⟨2, _⟩ => ⟨S4224x1024, .f32⟩
  | .hbm, ⟨3, _⟩ => ⟨S1x1024x1024, .f32⟩
  | .hbm, ⟨4, _⟩ => ⟨S1024x1x1024, .f32⟩
  | .hbm, ⟨5, _⟩ => ⟨S1024x1024, .f32⟩
  | .hbm, ⟨6, _⟩ => ⟨S4224x1024, .f32⟩
  | .hbm, ⟨7, _⟩ => ⟨S4224x1x1024, .f32⟩
  | .hbm, ⟨8, _⟩ => ⟨S1x4224x1024, .f32⟩
  | .hbm, ⟨9, _⟩ => ⟨S1x4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== OutFwd.lean ====
abbrev S4224x1024 : Shape := ⟨2, ![4224, 1024]⟩
abbrev S1x1024x1024 : Shape := ⟨3, ![1, 1024, 1024]⟩
abbrev S1x4224x1024 : Shape := ⟨3, ![1, 4224, 1024]⟩
abbrev S1408x1024 : Shape := ⟨2, ![1408, 1024]⟩
abbrev S1x1408x1024 : Shape := ⟨3, ![1, 1408, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1x1024x1024, .bf16⟩
  | .hbm, ⟨2, _⟩ => ⟨S1x4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1408x1024, .f32⟩
  | .local _ .vmem, ⟨4, _⟩ => ⟨S1x1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutFwdRefIdeal.lean ====
abbrev S4224x1024 : Shape := ⟨2, ![4224, 1024]⟩
abbrev S1x1024x1024 : Shape := ⟨3, ![1, 1024, 1024]⟩
abbrev S1024x1x1024 : Shape := ⟨3, ![1024, 1, 1024]⟩
abbrev S1024x1024 : Shape := ⟨2, ![1024, 1024]⟩
abbrev S4224x1x1024 : Shape := ⟨3, ![4224, 1, 1024]⟩
abbrev S1x4224x1024 : Shape := ⟨3, ![1, 4224, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1x1024x1024, .bf16⟩
  | .hbm, ⟨2, _⟩ => ⟨S4224x1024, .f32⟩
  | .hbm, ⟨3, _⟩ => ⟨S1x1024x1024, .f32⟩
  | .hbm, ⟨4, _⟩ => ⟨S1024x1x1024, .f32⟩
  | .hbm, ⟨5, _⟩ => ⟨S1024x1024, .f32⟩
  | .hbm, ⟨6, _⟩ => ⟨S4224x1024, .f32⟩
  | .hbm, ⟨7, _⟩ => ⟨S4224x1x1024, .f32⟩
  | .hbm, ⟨8, _⟩ => ⟨S1x4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InDwA.lean ====
abbrev S4224x1024 : Shape := ⟨2, ![4224, 1024]⟩
abbrev S8x4224x1024 : Shape := ⟨3, ![8, 4224, 1024]⟩
abbrev S8x1024x1024 : Shape := ⟨3, ![8, 1024, 1024]⟩
abbrev S1408x512 : Shape := ⟨2, ![1408, 512]⟩
abbrev S1x1408x1024 : Shape := ⟨3, ![1, 1408, 1024]⟩
abbrev S8x512x1024 : Shape := ⟨3, ![8, 512, 1024]⟩
abbrev S1408x1024 : Shape := ⟨2, ![1408, 1024]⟩
abbrev S512x1024 : Shape := ⟨2, ![512, 1024]⟩
abbrev S1x512x1024 : Shape := ⟨3, ![1, 512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S8x4224x1024, .bf16⟩
  | .hbm, ⟨2, _⟩ => ⟨S8x1024x1024, .bf16⟩
  | .hbm, ⟨3, _⟩ => ⟨S8x1024x1024, .bf16⟩
  | .local _ .vmem, ⟨0, _⟩ => ⟨S1408x512, .bf16⟩
  | .local _ .vmem, ⟨1, _⟩ => ⟨S1408x512, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S8x512x1024, .bf16⟩
  | .local _ .vmem, ⟨5, _⟩ => ⟨S8x512x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_4 : BitVec 32 := 0#32
  let v6 : BitVec 1 := Scalar.cmpi .ne v5 c0_i32_4
  v6

def k0_off1 (i : grid0.Coords) : Fin 3 → Nat :=
  let arg1 : BitVec 32 := BitVec.ofNat 32 (i 1).val
  let v13 : Index := Scalar.indexCast arg1
  let c0_8 : Index := 0#32
  let c0_9 : Index := 0#32
  ![v13.toNat, 0, 0]
def k0_cond2 (i : grid0.Coords) : BitVec 1 :=
  let arg0 : BitVec 32 := BitVec.ofNat 32 (i 0).val
  let c0_i32_5 : BitVec 32 := 0#32
  let v7 : BitVec 1 := Scalar.cmpi .sgt arg0 c0_i32_5
  let v8 : BitVec 32 := Scalar.extui v7
  let c0_i32_6 : BitVec 32 := 0#32
  let v9 : BitVec 1 := Scalar.cmpi .ne v8 c0_i32_6
  v9

def k0_off2 (i : grid0.Coords) : Fin 3 → Nat :=
  let arg1 : BitVec 32 := BitVec.ofNat 32 (i 1).val
  let v13 : Index := Scalar.indexCast arg1
  let c0_8 : Index := 0#32
  let c0_9 : Index := 0#32
  ![v13.toNat, 0, 0]
def k0_cond3 (i : grid0.Coords) : BitVec 1 :=
  let arg0 : BitVec 32 := BitVec.ofNat 32 (i 0).val
  let c2_i32 : BitVec 32 := 2#32
  let v10 : BitVec 1 := Scalar.cmpi .eq arg0 c2_i32
  let v11 : BitVec 32 := Scalar.extui v10
  let c0_i32_7 : BitVec 32 := 0#32
  let v12 : BitVec 1 := Scalar.cmpi .ne v11 c0_i32_7
  v12

def k0_off3 (i : grid0.Coords) : Fin 3 → Nat :=
  let arg1 : BitVec 32 := BitVec.ofNat 32 (i 1).val
  let v13 : Index := Scalar.indexCast arg1
  let c0_8 : Index := 0#32
  let c0_9 : Index := 0#32
  ![v13.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== InDwARefIdeal.lean ====
abbrev S4224x1024 : Shape := ⟨2, ![4224, 1024]⟩
abbrev S8x4224x1024 : Shape := ⟨3, ![8, 4224, 1024]⟩
abbrev S8x1024x1024 : Shape := ⟨3, ![8, 1024, 1024]⟩
abbrev S4224x8x1024 : Shape := ⟨3, ![4224, 8, 1024]⟩
abbrev S4224x8192 : Shape := ⟨2, ![4224, 8192]⟩
abbrev S_ : Shape := ⟨0, ![]⟩
abbrev S1024x8192 : Shape := ⟨2, ![1024, 8192]⟩
abbrev S8192x1024 : Shape := ⟨2, ![8192, 1024]⟩
abbrev S1024x8x1024 : Shape := ⟨3, ![1024, 8, 1024]⟩
abbrev S8x512x1024 : Shape := ⟨3, ![8, 512, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S8x4224x1024, .bf16⟩
  | .hbm, ⟨2, _⟩ => ⟨S8x1024x1024, .bf16⟩
  | .hbm, ⟨3, _⟩ => ⟨S4224x1024, .f32⟩
  | .hbm, ⟨4, _⟩ => ⟨S8x4224x1024, .f32⟩
  | .hbm, ⟨5, _⟩ => ⟨S4224x8x1024, .f32⟩
  | .hbm, ⟨6, _⟩ => ⟨S4224x8192, .f32⟩
  | .hbm, ⟨7, _⟩ => ⟨S_, .f32⟩
  | .hbm, ⟨8, _⟩ => ⟨S1024x8192, .f32⟩
  | .hbm, ⟨9, _⟩ => ⟨S4224x8192, .f32⟩
  | .hbm, ⟨10, _⟩ => ⟨S8192x1024, .f32⟩
  | .hbm, ⟨11, _⟩ => ⟨S1024x8192, .f32⟩
  | .hbm, ⟨12, _⟩ => ⟨S1024x8x1024, .f32⟩
  | .hbm, ⟨13, _⟩ => ⟨S8x1024x1024, .f32⟩
  | .hbm, ⟨14, _⟩ => ⟨S8x1024x1024, .bf16⟩
  | .hbm, ⟨15, _⟩ => ⟨S8x512x1024, .bf16⟩
  | .hbm, ⟨16, _⟩ => ⟨S8x512x1024, .bf16⟩
  | .hbm, ⟨17, _⟩ => ⟨S8x1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== InDwB.lean ====
abbrev S4224x1024 : Shape := ⟨2, ![4224, 1024]⟩
abbrev S8x4224x1024 : Shape := ⟨3, ![8, 4224, 1024]⟩
abbrev S8x1024x1024 : Shape := ⟨3, ![8, 1024, 1024]⟩
abbrev S1408x512 : Shape := ⟨2, ![1408, 512]⟩
abbrev S1x1408x1024 : Shape := ⟨3, ![1, 1408, 1024]⟩
abbrev S8x512x1024 : Shape := ⟨3, ![8, 512, 1024]⟩
abbrev S1408x1024 : Shape := ⟨2, ![1408, 1024]⟩
abbrev S512x1024 : Shape := ⟨2, ![512, 1024]⟩
abbrev S1x512x1024 : Shape := ⟨3, ![1, 512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S8x4224x1024, .bf16⟩
  | .hbm, ⟨2, _⟩ => ⟨S8x1024x1024, .bf16⟩
  | .hbm, ⟨3, _⟩ => ⟨S8x1024x1024, .bf16⟩
  | .local _ .vmem, ⟨0, _⟩ => ⟨S1408x512, .bf16⟩
  | .local _ .vmem, ⟨1, _⟩ => ⟨S1408x512, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S8x512x1024, .bf16⟩
  | .local _ .vmem, ⟨5, _⟩ => ⟨S8x512x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_4 : BitVec 32 := 0#32
  let v6 : BitVec 1 := Scalar.cmpi .ne v5 c0_i32_4
  v6

def k0_off1 (i : grid0.Coords) : Fin 3 → Nat :=
  let arg1 : BitVec 32 := BitVec.ofNat 32 (i 1).val
  let v13 : Index := Scalar.indexCast arg1
  let c0_8 : Index := 0#32
  let c0_9 : Index := 0#32
  ![v13.toNat, 0, 0]
def k0_cond2 (i : grid0.Coords) : BitVec 1 :=
  let arg0 : BitVec 32 := BitVec.ofNat 32 (i 0).val
  let c0_i32_5 : BitVec 32 := 0#32
  let v7 : BitVec 1 := Scalar.cmpi .sgt arg0 c0_i32_5
  let v8 : BitVec 32 := Scalar.extui v7
  let c0_i32_6 : BitVec 32 := 0#32
  let v9 : BitVec 1 := Scalar.cmpi .ne v8 c0_i32_6
  v9

def k0_off2 (i : grid0.Coords) : Fin 3 → Nat :=
  let arg1 : BitVec 32 := BitVec.ofNat 32 (i 1).val
  let v13 : Index := Scalar.indexCast arg1
  let c0_8 : Index := 0#32
  let c0_9 : Index := 0#32
  ![v13.toNat, 0, 0]
def k0_cond3 (i : grid0.Coords) : BitVec 1 :=
  let arg0 : BitVec 32 := BitVec.ofNat 32 (i 0).val
  let c2_i32 : BitVec 32 := 2#32
  let v10 : BitVec 1 := Scalar.cmpi .eq arg0 c2_i32
  let v11 : BitVec 32 := Scalar.extui v10
  let c0_i32_7 : BitVec 32 := 0#32
  let v12 : BitVec 1 := Scalar.cmpi .ne v11 c0_i32_7
  v12

def k0_off3 (i : grid0.Coords) : Fin 3 → Nat :=
  let arg1 : BitVec 32 := BitVec.ofNat 32 (i 1).val
  let v13 : Index := Scalar.indexCast arg1
  let c0_8 : Index := 0#32
  let c0_9 : Index := 0#32
  ![v13.toNat, 0, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== InDwBRefIdeal.lean ====
abbrev S4224x1024 : Shape := ⟨2, ![4224, 1024]⟩
abbrev S8x4224x1024 : Shape := ⟨3, ![8, 4224, 1024]⟩
abbrev S8x1024x1024 : Shape := ⟨3, ![8, 1024, 1024]⟩
abbrev S8x512x1024 : Shape := ⟨3, ![8, 512, 1024]⟩
abbrev S4224x8x1024 : Shape := ⟨3, ![4224, 8, 1024]⟩
abbrev S4224x8192 : Shape := ⟨2, ![4224, 8192]⟩
abbrev S_ : Shape := ⟨0, ![]⟩
abbrev S1024x8192 : Shape := ⟨2, ![1024, 8192]⟩
abbrev S8192x1024 : Shape := ⟨2, ![8192, 1024]⟩
abbrev S1024x8x1024 : Shape := ⟨3, ![1024, 8, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S8x4224x1024, .bf16⟩
  | .hbm, ⟨2, _⟩ => ⟨S8x1024x1024, .bf16⟩
  | .hbm, ⟨3, _⟩ => ⟨S8x512x1024, .bf16⟩
  | .hbm, ⟨4, _⟩ => ⟨S4224x1024, .f32⟩
  | .hbm, ⟨5, _⟩ => ⟨S8x4224x1024, .f32⟩
  | .hbm, ⟨6, _⟩ => ⟨S4224x8x1024, .f32⟩
  | .hbm, ⟨7, _⟩ => ⟨S4224x8192, .f32⟩
  | .hbm, ⟨8, _⟩ => ⟨S_, .f32⟩
  | .hbm, ⟨9, _⟩ => ⟨S1024x8192, .f32⟩
  | .hbm, ⟨10, _⟩ => ⟨S4224x8192, .f32⟩
  | .hbm, ⟨11, _⟩ => ⟨S8192x1024, .f32⟩
  | .hbm, ⟨12, _⟩ => ⟨S1024x8192, .f32⟩
  | .hbm, ⟨13, _⟩ => ⟨S1024x8x1024, .f32⟩
  | .hbm, ⟨14, _⟩ => ⟨S8x1024x1024, .f32⟩
  | .hbm, ⟨15, _⟩ => ⟨S8x1024x1024, .bf16⟩
  | .hbm, ⟨16, _⟩ => ⟨S8x512x1024, .bf16⟩
  | .hbm, ⟨17, _⟩ => ⟨S8x1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== AdamIn.lean ====
abbrev S8x1024x1024 : Shape := ⟨3, ![8, 1024, 1024]⟩
abbrev S1024x1024 : Shape := ⟨2, ![1024, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x1024x1024 : Shape := ⟨3, ![8, 1024, 1024]⟩
abbrev S1024x1024 : Shape := ⟨2, ![1024, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x1024 : Shape := ⟨3, ![8, 1024, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x1024x1024, .f32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUg.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUgIdeal.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUgRefIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x736x1024 : Shape := ⟨3, ![8, 736, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x736x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S8x736x1024 : Shape := ⟨3, ![8, 736, 1024]⟩
abbrev S352x1024 : Shape := ⟨2, ![352, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x736x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x736x1024 : Shape := ⟨3, ![8, 736, 1024]⟩
abbrev S352x1024 : Shape := ⟨2, ![352, 1024]⟩
abbrev S8x352x1024 : Shape := ⟨3, ![8, 352, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x736x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | _, _ => ⟨S8x736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamConv.lean ====
abbrev S8x736x1024 : Shape := ⟨3, ![8, 736, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x736x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
  let v0 : BitVec 32 := Scalar.addi c0_i32 arg0
  let c0_i32_2 : BitVec 32 := 0#32
  ![c0_i32_0.toNat, v0.toNat, c0_i32_1.toNat]
-- ==== AdamConvRefIdeal.lean ====
abbrev S8x736x1024 : Shape := ⟨3, ![8, 736, 1024]⟩
abbrev S128x1024 : Shape := ⟨2, ![128, 1024]⟩
abbrev S8x128x1024 : Shape := ⟨3, ![8, 128, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x736x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | _, _ => ⟨S8x736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamAttn.lean ====
abbrev S8x736x1024 : Shape := ⟨3, ![8, 736, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x736x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamAttnIdeal.lean ====
  let c1_i32 : BitVec 32 := 1#32
  let v0 : BitVec 32 := Scalar.addi c1_i32 arg0
-- ==== AdamAttnRefIdeal.lean ====
abbrev S8x736x1024 : Shape := ⟨3, ![8, 736, 1024]⟩
abbrev S128x1024 : Shape := ⟨2, ![128, 1024]⟩
abbrev S8x128x1024 : Shape := ⟨3, ![8, 128, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x736x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | _, _ => ⟨S8x736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamOut.lean ====
abbrev S8x736x1024 : Shape := ⟨3, ![8, 736, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x736x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x736x1024 : Shape := ⟨3, ![8, 736, 1024]⟩
abbrev S128x1024 : Shape := ⟨2, ![128, 1024]⟩
abbrev S8x128x1024 : Shape := ⟨3, ![8, 128, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x736x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | _, _ => ⟨S8x736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamSmall.lean ====
abbrev S16x128 : Shape := ⟨2, ![16, 128]⟩
abbrev S1x1024 : Shape := ⟨2, ![1, 1024]⟩
abbrev S1x3x128 : Shape := ⟨3, ![1, 3, 128]⟩
abbrev S1x2x128 : Shape := ⟨3, ![1, 2, 128]⟩
abbrev S1x3x352 : Shape := ⟨3, ![1, 3, 352]⟩

abbrev nBuf : Space → Nat
  | .hbm => 56
  | .vmem => 56
  | .smem => 0
  | _ => 0

abbrev bufTy : (tb : Table) → Fin (tcTables nBuf tb) → BufTy
  | .hbm, ⟨0, _⟩ => ⟨S16x128, .f32⟩
  | .hbm, ⟨1, _⟩ => ⟨S1x1024, .f32⟩
  | .hbm, ⟨2, _⟩ => ⟨S1x3x128, .f32⟩
  | .hbm, ⟨3, _⟩ => ⟨S1x2x128, .f32⟩
  | .hbm, ⟨4, _⟩ => ⟨S1x1024, .f32⟩
  | .hbm, ⟨5, _⟩ => ⟨S1x1024, .f32⟩
  | .hbm, ⟨6, _⟩ => ⟨S1x3x352, .f32⟩
  | .hbm, ⟨7, _⟩ => ⟨S1x1024, .f32⟩
  | .hbm, ⟨8, _⟩ => ⟨S16x128, .f32⟩
  | .hbm, ⟨9, _⟩ => ⟨S1x1024, .f32⟩
  | .hbm, ⟨10, _⟩ => ⟨S1x3x128, .f32⟩
  | .hbm, ⟨11, _⟩ => ⟨S1x2x128, .f32⟩
  | .hbm, ⟨12, _⟩ => ⟨S1x1024, .f32⟩
  | .hbm, ⟨13, _⟩ => ⟨S1x1024, .f32⟩
  | .hbm, ⟨14, _⟩ => ⟨S1x3x352, .f32⟩
  | .hbm, ⟨15, _⟩ => ⟨S1x1024, .f32⟩
  | .hbm, ⟨16, _⟩ => ⟨S16x128, .f32⟩
  | .hbm, ⟨17, _⟩ => ⟨S1x1024, .f32⟩
  | .hbm, ⟨18, _⟩ => ⟨S1x3x128, .f32⟩
  | .hbm, ⟨19, _⟩ => ⟨S1x2x128, .f32⟩
  | .hbm, ⟨20, _⟩ => ⟨S1x1024, .f32⟩
  | .hbm, ⟨21, _⟩ => ⟨S1x1024, .f32⟩
  | .hbm, ⟨22, _⟩ => ⟨S1x3x352, .f32⟩
  | .hbm, ⟨23, _⟩ => ⟨S1x1024, .f32⟩
  | .hbm, ⟨24, _⟩ => ⟨S16x128, .f32⟩
  | .hbm, ⟨25, _⟩ => ⟨S1x1024, .f32⟩
  | .hbm, ⟨26, _⟩ => ⟨S1x3x128, .f32⟩
  | .hbm, ⟨27, _⟩ => ⟨S1x2x128, .f32⟩
  | .hbm, ⟨28, _⟩ => ⟨S1x1024, .f32⟩
  | .hbm, ⟨29, _⟩ => ⟨S1x1024, .f32⟩
  | .hbm, ⟨30, _⟩ => ⟨S1x3x352, .f32⟩
  | .hbm, ⟨31, _⟩ => ⟨S1x1024, .f32⟩
  | .hbm, ⟨32, _⟩ => ⟨S16x128, .f32⟩
  | .hbm, ⟨33, _⟩ => ⟨S1x1024, .f32⟩
  | .hbm, ⟨34, _⟩ => ⟨S1x3x128, .f32⟩
  | .hbm, ⟨35, _⟩ => ⟨S1x2x128, .f32⟩
  | .hbm, ⟨36, _⟩ => ⟨S1x1024, .f32⟩
  | .hbm, ⟨37, _⟩ => ⟨S1x1024, .f32⟩
  | .hbm, ⟨38, _⟩ => ⟨S1x3x352, .f32⟩
  | .hbm, ⟨39, _⟩ => ⟨S1x1024, .f32⟩
  | .hbm, ⟨40, _⟩ => ⟨S16x128, .f32⟩
  | .hbm, ⟨41, _⟩ => ⟨S1x1024, .f32⟩
  | .hbm, ⟨42, _⟩ => ⟨S1x3x128, .f32⟩
  | .hbm, ⟨43, _⟩ => ⟨S1x2x128, .f32⟩
  | .hbm, ⟨44, _⟩ => ⟨S1x1024, .f32⟩
  | .hbm, ⟨45, _⟩ => ⟨S1x1024, .f32⟩
  | .hbm, ⟨46, _⟩ => ⟨S1x3x352, .f32⟩
  | .hbm, ⟨47, _⟩ => ⟨S1x1024, .f32⟩
  | .hbm, ⟨48, _⟩ => ⟨S16x128, .f32⟩
  | .hbm, ⟨49, _⟩ => ⟨S1x1024, .f32⟩
  | .hbm, ⟨50, _⟩ => ⟨S1x3x128, .f32⟩
  | .hbm, ⟨51, _⟩ => ⟨S1x2x128, .f32⟩
  | .hbm, ⟨52, _⟩ => ⟨S1x1024, .f32⟩
  | .hbm, ⟨53, _⟩ => ⟨S1x1024, .f32⟩
  | .hbm, ⟨54, _⟩ => ⟨S1x3x352, .f32⟩
  | .hbm, ⟨55, _⟩ => ⟨S1x1024, .f32⟩
  | .local _ .vmem, ⟨0, _⟩ => ⟨S16x128, .f32⟩
  | .local _ .vmem, ⟨1, _⟩ => ⟨S1x1024, .f32⟩
  | .local _ .vmem, ⟨2, _⟩ => ⟨S1x3x128, .f32⟩
  | .local _ .vmem, ⟨3, _⟩ => ⟨S1x2x128, .f32⟩
  | .local _ .vmem, ⟨4, _⟩ => ⟨S1x1024, .f32⟩
  | .local _ .vmem, ⟨5, _⟩ => ⟨S1x1024, .f32⟩
  | .local _ .vmem, ⟨6, _⟩ => ⟨S1x3x352, .f32⟩
  | .local _ .vmem, ⟨7, _⟩ => ⟨S1x1024, .f32⟩
  | .local _ .vmem, ⟨8, _⟩ => ⟨S16x128, .f32⟩
  | .local _ .vmem, ⟨9, _⟩ => ⟨S1x1024, .f32⟩
  | .local _ .vmem, ⟨10, _⟩ => ⟨S1x3x128, .f32⟩
  | .local _ .vmem, ⟨11, _⟩ => ⟨S1x2x128, .f32⟩
  | .local _ .vmem, ⟨12, _⟩ => ⟨S1x1024, .f32⟩
  | .local _ .vmem, ⟨13, _⟩ => ⟨S1x1024, .f32⟩
  | .local _ .vmem, ⟨14, _⟩ => ⟨S1x3x352, .f32⟩
  | .local _ .vmem, ⟨15, _⟩ => ⟨S1x1024, .f32⟩
  | .local _ .vmem, ⟨16, _⟩ => ⟨S16x128, .f32⟩
  | .local _ .vmem, ⟨17, _⟩ => ⟨S1x1024, .f32⟩
  | .local _ .vmem, ⟨18, _⟩ => ⟨S1x3x128, .f32⟩
  | .local _ .vmem, ⟨19, _⟩ => ⟨S1x2x128, .f32⟩
  | .local _ .vmem, ⟨20, _⟩ => ⟨S1x1024, .f32⟩
  | .local _ .vmem, ⟨21, _⟩ => ⟨S1x1024, .f32⟩
  | .local _ .vmem, ⟨22, _⟩ => ⟨S1x3x352, .f32⟩
  | .local _ .vmem, ⟨23, _⟩ => ⟨S1x1024, .f32⟩
  | .local _ .vmem, ⟨24, _⟩ => ⟨S16x128, .f32⟩
  | .local _ .vmem, ⟨25, _⟩ => ⟨S1x1024, .f32⟩
  | .local _ .vmem, ⟨26, _⟩ => ⟨S1x3x128, .f32⟩
  | .local _ .vmem, ⟨27, _⟩ => ⟨S1x2x128, .f32⟩
  | .local _ .vmem, ⟨28, _⟩ => ⟨S1x1024, .f32⟩
  | .local _ .vmem, ⟨29, _⟩ => ⟨S1x1024, .f32⟩
  | .local _ .vmem, ⟨30, _⟩ => ⟨S1x3x352, .f32⟩
  | .local _ .vmem, ⟨31, _⟩ => ⟨S1x1024, .f32⟩
  | .local _ .vmem, ⟨32, _⟩ => ⟨S16x128, .f32⟩
  | .local _ .vmem, ⟨33, _⟩ => ⟨S1x1024, .f32⟩
  | .local _ .vmem, ⟨34, _⟩ => ⟨S1x3x128, .f32⟩
  | .local _ .vmem, ⟨35, _⟩ => ⟨S1x2x128, .f32⟩
  | .local _ .vmem, ⟨36, _⟩ => ⟨S1x1024, .f32⟩
  | .local _ .vmem, ⟨37, _⟩ => ⟨S1x1024, .f32⟩
  | .local _ .vmem, ⟨38, _⟩ => ⟨S1x3x352, .f32⟩
  | .local _ .vmem, ⟨39, _⟩ => ⟨S1x1024, .f32⟩
  | .local _ .vmem, ⟨40, _⟩ => ⟨S16x128, .f32⟩
  | .local _ .vmem, ⟨41, _⟩ => ⟨S1x1024, .f32⟩
  | .local _ .vmem, ⟨42, _⟩ => ⟨S1x3x128, .f32⟩
  | .local _ .vmem, ⟨43, _⟩ => ⟨S1x2x128, .f32⟩
  | .local _ .vmem, ⟨44, _⟩ => ⟨S1x1024, .f32⟩
  | .local _ .vmem, ⟨45, _⟩ => ⟨S1x1024, .f32⟩
  | .local _ .vmem, ⟨46, _⟩ => ⟨S1x3x352, .f32⟩
  | .local _ .vmem, ⟨47, _⟩ => ⟨S1x1024, .f32⟩
  | .local _ .vmem, ⟨48, _⟩ => ⟨S16x128, .f32⟩
  | .local _ .vmem, ⟨49, _⟩ => ⟨S1x1024, .f32⟩
  | .local _ .vmem, ⟨50, _⟩ => ⟨S1x3x128, .f32⟩
  | .local _ .vmem, ⟨51, _⟩ => ⟨S1x2x128, .f32⟩
  | .local _ .vmem, ⟨52, _⟩ => ⟨S1x1024, .f32⟩
  | .local _ .vmem, ⟨53, _⟩ => ⟨S1x1024, .f32⟩
  | .local _ .vmem, ⟨54, _⟩ => ⟨S1x3x352, .f32⟩
  | .local _ .vmem, ⟨55, _⟩ => ⟨S1x1024, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v0_4 : Ref sig .tc := ⟨.hbm, 36, rfl⟩
abbrev main_v0_5 : Ref sig .tc := ⟨.hbm, 37, rfl⟩
abbrev main_v0_6 : Ref sig .tc := ⟨.hbm, 38, rfl⟩
abbrev main_v0_7 : Ref sig .tc := ⟨.hbm, 39, rfl⟩
abbrev main_v0_8 : Ref sig .tc := ⟨.hbm, 40, rfl⟩
abbrev main_v0_9 : Ref sig .tc := ⟨.hbm, 41, rfl⟩
abbrev main_v0_10 : Ref sig .tc := ⟨.hbm, 42, rfl⟩
abbrev main_v0_11 : Ref sig .tc := ⟨.hbm, 43, rfl⟩
abbrev main_v0_12 : Ref sig .tc := ⟨.hbm, 44, rfl⟩
abbrev main_v0_13 : Ref sig .tc := ⟨.hbm, 45, rfl⟩
abbrev main_v0_14 : Ref sig .tc := ⟨.hbm, 46, rfl⟩
abbrev main_v0_15 : Ref sig .tc := ⟨.hbm, 47, rfl⟩
abbrev main_v0_16 : Ref sig .tc := ⟨.hbm, 48, rfl⟩
abbrev main_v0_17 : Ref sig .tc := ⟨.hbm, 49, rfl⟩
abbrev main_v0_18 : Ref sig .tc := ⟨.hbm, 50, rfl⟩
abbrev main_v0_19 : Ref sig .tc := ⟨.hbm, 51, rfl⟩
abbrev main_v0_20 : Ref sig .tc := ⟨.hbm, 52, rfl⟩
abbrev main_v0_21 : Ref sig .tc := ⟨.hbm, 53, rfl⟩
abbrev main_v0_22 : Ref sig .tc := ⟨.hbm, 54, rfl⟩
abbrev main_v0_23 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x3x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x3x352 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x3x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x3x352 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S16x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x3x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x2x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x3x352 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S16x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x3x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x2x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x3x352 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S16x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x3x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x2x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x3x352 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S16x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x3x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x2x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x3x352 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))
-- ==== AdamSmallRefIdeal.lean ====
abbrev S16x128 : Shape := ⟨2, ![16, 128]⟩
abbrev S1x1024 : Shape := ⟨2, ![1, 1024]⟩
abbrev S1x3x128 : Shape := ⟨3, ![1, 3, 128]⟩
abbrev S1x2x128 : Shape := ⟨3, ![1, 2, 128]⟩
abbrev S1x3x352 : Shape := ⟨3, ![1, 3, 352]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S16x128, .f32⟩
  | 1 => ⟨S1x1024, .f32⟩
  | 2 => ⟨S1x3x128, .f32⟩
  | 3 => ⟨S1x2x128, .f32⟩
  | 4 => ⟨S1x1024, .f32⟩
  | 5 => ⟨S1x1024, .f32⟩
  | 6 => ⟨S1x3x352, .f32⟩
  | 7 => ⟨S1x1024, .f32⟩
  | 8 => ⟨S16x128, .f32⟩
  | 9 => ⟨S1x1024, .f32⟩
  | 10 => ⟨S1x3x128, .f32⟩
  | 11 => ⟨S1x2x128, .f32⟩
  | 12 => ⟨S1x1024, .f32⟩
  | 13 => ⟨S1x1024, .f32⟩
  | 14 => ⟨S1x3x352, .f32⟩
  | 15 => ⟨S1x1024, .f32⟩
  | 16 => ⟨S16x128, .f32⟩
  | 17 => ⟨S1x1024, .f32⟩
  | 18 => ⟨S1x3x128, .f32⟩
  | 19 => ⟨S1x2x128, .f32⟩
  | 20 => ⟨S1x1024, .f32⟩
  | 21 => ⟨S1x1024, .f32⟩
  | 22 => ⟨S1x3x352, .f32⟩
  | 23 => ⟨S1x1024, .f32⟩
  | 24 => ⟨S16x128, .f32⟩
  | 25 => ⟨S1x1024, .f32⟩
  | 26 => ⟨S1x3x128, .f32⟩
  | 27 => ⟨S1x2x128, .f32⟩
  | 28 => ⟨S1x1024, .f32⟩
  | 29 => ⟨S1x1024, .f32⟩
  | 30 => ⟨S1x3x352, .f32⟩
  | 31 => ⟨S1x1024, .f32⟩
  | 32 => ⟨S_, .f32⟩
  | 33 => ⟨S16x128, .f32⟩
  | 34 => ⟨S16x128, .f32⟩
  | 35 => ⟨S_, .f32⟩
  | 36 => ⟨S16x128, .f32⟩
  | 37 => ⟨S16x128, .f32⟩
  | 38 => ⟨S16x128, .f32⟩
  | 39 => ⟨S_, .f32⟩
  | 40 => ⟨S16x128, .f32⟩
  | 41 => ⟨S16x128, .f32⟩
  | 42 => ⟨S16x128, .f32⟩
  | 43 => ⟨S_, .f32⟩
  | 44 => ⟨S16x128, .f32⟩
  | 45 => ⟨S16x128, .f32⟩
  | 46 => ⟨S16x128, .f32⟩
  | 47 => ⟨S_, .f32⟩
  | 48 => ⟨S16x128, .f32⟩
  | 49 => ⟨S16x128, .f32⟩
  | 50 => ⟨S_, .f32⟩
  | 51 => ⟨S16x128, .f32⟩
  | 52 => ⟨S16x128, .f32⟩
  | 53 => ⟨S16x128, .f32⟩
  | 54 => ⟨S_, .f32⟩
  | 55 => ⟨S16x128, .f32⟩
  | 56 => ⟨S16x128, .f32⟩
  | 57 => ⟨S16x128, .f32⟩
  | 58 => ⟨S_, .f32⟩
  | 59 => ⟨S16x128, .f32⟩
  | 60 => ⟨S16x128, .f32⟩
  | 61 => ⟨S16x128, .f32⟩
  | 62 => ⟨S_, .f32⟩
  | 63 => ⟨S16x128, .f32⟩
  | 64 => ⟨S16x128, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S_, .f32⟩
  | 99 => ⟨S1x3x128, .f32⟩
  | 100 => ⟨S1x3x128, .f32⟩
  | 101 => ⟨S_, .f32⟩
  | 102 => ⟨S1x3x128, .f32⟩
  | 103 => ⟨S1x3x128, .f32⟩
  | 104 => ⟨S1x3x128, .f32⟩
  | 105 => ⟨S_, .f32⟩
  | 106 => ⟨S1x3x128, .f32⟩
  | 107 => ⟨S1x3x128, .f32⟩
  | 108 => ⟨S1x3x128, .f32⟩
  | 109 => ⟨S_, .f32⟩
  | 110 => ⟨S1x3x128, .f32⟩
  | 111 => ⟨S1x3x128, .f32⟩
  | 112 => ⟨S1x3x128, .f32⟩
  | 113 => ⟨S_, .f32⟩
  | 114 => ⟨S1x3x128, .f32⟩
  | 115 => ⟨S1x3x128, .f32⟩
  | 116 => ⟨S_, .f32⟩
  | 117 => ⟨S1x3x128, .f32⟩
  | 118 => ⟨S1x3x128, .f32⟩
  | 119 => ⟨S1x3x128, .f32⟩
  | 120 => ⟨S_, .f32⟩
  | 121 => ⟨S1x3x128, .f32⟩
  | 122 => ⟨S1x3x128, .f32⟩
  | 123 => ⟨S1x3x128, .f32⟩
  | 124 => ⟨S_, .f32⟩
  | 125 => ⟨S1x3x128, .f32⟩
  | 126 => ⟨S1x3x128, .f32⟩
  | 127 => ⟨S1x3x128, .f32⟩
  | _ => ⟨S16x128, .f32⟩

abbrev hbmTy0_1 (i : Nat) : BufTy := match i % 128 with
  | 0 => ⟨S_, .f32⟩
  | 1 => ⟨S1x3x128, .f32⟩
  | 2 => ⟨S1x3x128, .f32⟩
  | 3 => ⟨S_, .f32⟩
  | 4 => ⟨S1x2x128, .f32⟩
  | 5 => ⟨S1x2x128, .f32⟩
  | 6 => ⟨S_, .f32⟩
  | 7 => ⟨S1x2x128, .f32⟩
  | 8 => ⟨S1x2x128, .f32⟩
  | 9 => ⟨S1x2x128, .f32⟩
  | 10 => ⟨S_, .f32⟩
  | 11 => ⟨S1x2x128, .f32⟩
  | 12 => ⟨S1x2x128, .f32⟩
  | 13 => ⟨S1x2x128, .f32⟩
  | 14 => ⟨S_, .f32⟩
  | 15 => ⟨S1x2x128, .f32⟩
  | 16 => ⟨S1x2x128, .f32⟩
  | 17 => ⟨S1x2x128, .f32⟩
  | 18 => ⟨S_, .f32⟩
  | 19 => ⟨S1x2x128, .f32⟩
  | 20 => ⟨S1x2x128, .f32⟩
  | 21 => ⟨S_, .f32⟩
  | 22 => ⟨S1x2x128, .f32⟩
  | 23 => ⟨S1x2x128, .f32⟩
  | 24 => ⟨S1x2x128, .f32⟩
  | 25 => ⟨S_, .f32⟩
  | 26 => ⟨S1x2x128, .f32⟩
  | 27 => ⟨S1x2x128, .f32⟩
  | 28 => ⟨S1x2x128, .f32⟩
  | 29 => ⟨S_, .f32⟩
  | 30 => ⟨S1x2x128, .f32⟩
  | 31 => ⟨S1x2x128, .f32⟩
  | 32 => ⟨S1x2x128, .f32⟩
  | 33 => ⟨S_, .f32⟩
  | 34 => ⟨S1x2x128, .f32⟩
  | 35 => ⟨S1x2x128, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S_, .f32⟩
  | 103 => ⟨S1x3x352, .f32⟩
  | 104 => ⟨S1x3x352, .f32⟩
  | 105 => ⟨S_, .f32⟩
  | 106 => ⟨S1x3x352, .f32⟩
  | 107 => ⟨S1x3x352, .f32⟩
  | 108 => ⟨S1x3x352, .f32⟩
  | 109 => ⟨S_, .f32⟩
  | 110 => ⟨S1x3x352, .f32⟩
  | 111 => ⟨S1x3x352, .f32⟩
  | 112 => ⟨S1x3x352, .f32⟩
  | 113 => ⟨S_, .f32⟩
  | 114 => ⟨S1x3x352, .f32⟩
  | 115 => ⟨S1x3x352, .f32⟩
  | 116 => ⟨S1x3x352, .f32⟩
  | 117 => ⟨S_, .f32⟩
  | 118 => ⟨S1x3x352, .f32⟩
  | 119 => ⟨S1x3x352, .f32⟩
  | 120 => ⟨S_, .f32⟩
  | 121 => ⟨S1x3x352, .f32⟩
  | 122 => ⟨S1x3x352, .f32⟩
  | 123 => ⟨S1x3x352, .f32⟩
  | 124 => ⟨S_, .f32⟩
  | 125 => ⟨S1x3x352, .f32⟩
  | 126 => ⟨S1x3x352, .f32⟩
  | 127 => ⟨S1x3x352, .f32⟩
  | _ => ⟨S16x128, .f32⟩

abbrev hbmTy0_2 (i : Nat) : BufTy := match i % 128 with
  | 0 => ⟨S_, .f32⟩
  | 1 => ⟨S1x3x352, .f32⟩
  | 2 => ⟨S1x3x352, .f32⟩
  | 3 => ⟨S1x3x352, .f32⟩
  | 4 => ⟨S_, .f32⟩
  | 5 => ⟨S1x3x352, .f32⟩
  | 6 => ⟨S1x3x352, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | _ => ⟨S16x128, .f32⟩

abbrev hbmTy (i : Nat) : BufTy := match i / 128 with
  | 0 => hbmTy0_0 i
  | 1 => hbmTy0_1 i
  | 2 => hbmTy0_2 i
  | _ => ⟨S16x128, .f32⟩

abbrev bufTy : (tb : Table) → Fin (tcTables nBuf tb) → BufTy
  | .hbm, ⟨i, _⟩ => hbmTy i
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== SumSmall.lean ====
abbrev S8x72x1024 : Shape := ⟨3, ![8, 72, 1024]⟩
abbrev S72x1024 : Shape := ⟨2, ![72, 1024]⟩
abbrev S1x72x1024 : Shape := ⟨3, ![1, 72, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x72x1024, .f32⟩
  | .hbm, ⟨1, _⟩ => ⟨S72x1024, .f32⟩
  | .local _ .vmem, ⟨0, _⟩ => ⟨S8x72x1024, .f32⟩
  | .local _ .vmem, ⟨1, _⟩ => ⟨S72x1024, .f32⟩
  | _, _ => ⟨S8x72x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x72x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x72x1024 : Shape := ⟨3, ![8, 72, 1024]⟩
abbrev S_ : Shape := ⟨0, ![]⟩
abbrev S72x1024 : Shape := ⟨2, ![72, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x72x1024, .f32⟩
  | .hbm, ⟨1, _⟩ => ⟨S_, .f32⟩
  | .hbm, ⟨2, _⟩ => ⟨S72x1024, .f32⟩
  | _, _ => ⟨S8x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Core.lean ====
/-
  One key block's step of the attention's backward kernel: the pure functions it computes, the state it takes to the
  next, the program of its loads and stores, and the rule that the program takes a core holding the buffers at one
  state to the same buffers at the next. Stated for any number `n` of query rows at offset `o` of the query block, so
  that the full blocks (384 rows at 0) and the three diagonal ones (384 at 0, 256 at 128, 128 at 256) are one text, and
  for any signature, so that both programs use it.
-/
module

public import Idealize.ShloMosaic.Lib.VecWindow
public import Idealize.ShloMosaic.Lib.Tactic

@[expose] public section

set_option maxRecDepth 16384

noncomputable section

namespace Cert.Attn

open Idealize.ShloMosaic Idealize.SL
open Idealize.SL.RA Idealize.SL.Sem Idealize.SL.ProofMode
open Idealize.SL.BI (sProp)
open scoped Idealize.SL.BI
open Idealize.SL.BI.BIBase Idealize.SL.BI.Laws

/-- An `a × b` matrix's shape, and an `a × b × c` array's. -/
abbrev T2 (a b : ℕ) : Shape := ⟨2, ![a, b]⟩
abbrev T3 (a b c : ℕ) : Shape := ⟨3, ![a, b, c]⟩

/-- What the operations of a step over `n` rows at offset `o` ask of the shapes. -/
class Row (o n : ℕ) : Prop where
  pos : 0 < n
  le : o + n ≤ 384
  cat : Shape.Concatenates [T2 n 128, T2 n 128] (T2 n 256) 1
  sl0 : (T2 n 256).Slices ![0, 0] (T2 n 128)
  sl1 : (T2 n 256).Slices ![0, 128] (T2 n 128)
  i0 : (T2 n 128).Iotas .tc 32 [0]
  i1 : (T2 n 128).Iotas .tc 32 [1]
  out3 : (T3 1 n 128).ShapeCasts (T2 n 128)
  in3 : (T2 n 128).ShapeCasts (T3 1 n 128)
  self : (T2 n 128).ShapeCasts (T2 n 128)
  inb0 : ∀ a, (![0, o, 0] : Fin 3 → ℕ) a + (T3 1 n 128).size a ≤ (T3 2 384 128).size a
  inb1 : ∀ a, (![1, o, 0] : Fin 3 → ℕ) a + (T3 1 n 128).size a ≤ (T3 2 384 128).size a
  slq : (T2 384 128).Slices ![o, 0] (T2 n 128)
  slt : (T2 128 384).Slices ![0, o] (T2 128 n)
  inbq : ∀ a, (![o, 0] : Fin 2 → ℕ) a + (T2 n 128).size a ≤ (T2 384 128).size a

theorem inb3 {h o n : ℕ} (hh : h < 2) (hn : o + n ≤ 384) :
    ∀ a, (![h, o, 0] : Fin 3 → ℕ) a + (T3 1 n 128).size a ≤ (T3 2 384 128).size a := by
  intro a; fin_cases a
  · show h + 1 ≤ 2; omega
  · show o + n ≤ 384; exact hn
  · show 0 + 128 ≤ 128; omega
theorem inb2 {o n : ℕ} (hn : o + n ≤ 384) : ∀ a, (![o, 0] : Fin 2 → ℕ) a + (T2 n 128).size a ≤ (T2 384 128).size a := by
  intro a; fin_cases a
  · show o + n ≤ 384; exact hn
  · show 0 + 128 ≤ 128; omega

instance : Row 0 384 := ⟨by decide, by decide, by decide, by decide, by decide, by decide, by decide, by decide, by decide, by decide,
  inb3 (by decide) (by decide), inb3 (by decide) (by decide), by decide, by decide, inb2 (by decide)⟩
instance : Row 128 256 := ⟨by decide, by decide, by decide, by decide, by decide, by decide, by decide, by decide, by decide, by decide,
  inb3 (by decide) (by decide), inb3 (by decide) (by decide), by decide, by decide, inb2 (by decide)⟩
instance : Row 256 128 := ⟨by decide, by decide, by decide, by decide, by decide, by decide, by decide, by decide, by decide, by decide,
  inb3 (by decide) (by decide), inb3 (by decide) (by decide), by decide, by decide, inb2 (by decide)⟩

theorem i1_128 : (T2 128 128).Iotas .tc 32 [1] := by decide
theorem out_128 : (T3 1 128 128).ShapeCasts (T2 128 128) := by decide
theorem in_128 : (T2 128 128).ShapeCasts (T3 1 128 128) := by decide
theorem cat_256 : Shape.Concatenates [T2 128 128, T2 128 128] (T2 256 128) 0 := by decide
theorem sl_128_0 : (T2 128 256).Slices ![0, 0] (T2 128 128) := by decide
theorem sl_128_1 : (T2 128 256).Slices ![0, 128] (T2 128 128) := by decide
theorem bits_lt : FTy.bits .bf16 < FTy.bits .f32 := by decide

section Pure

variable {F : FTy → Type} [FloatOps F]

/-- The float zero, as each of the two types. -/
abbrev z32 : F .f32 := Scalar.ofBits .f32 0x00000000#32
abbrev z16 : F .bf16 := Scalar.ofBits .bf16 0x0000#16

/-- A block of 128 keys (or values) as the two heads' blocks, one over the other: lanes below 64 kept and the rest
    zero, then the other way round. -/
def stack (x : Vec F (T3 1 128 128) .bf16) : FVec F (T2 256 128) .bf16 :=
  concatenate (T2 256 128) 0
    [⟨T2 128 128, select (cmpi .slt (iota .tc (T2 128 128) 32 [1] i1_128) (broadcast (T2 128 128) 64#32))
        (shapeCast (T2 128 128) x out_128 : FVec F (T2 128 128) .bf16) (broadcast (T2 128 128) z16)⟩,
      ⟨T2 128 128, select (cmpi .slt (iota .tc (T2 128 128) 32 [1] i1_128) (broadcast (T2 128 128) 64#32))
        (broadcast (T2 128 128) z16) (shapeCast (T2 128 128) x out_128 : FVec F (T2 128 128) .bf16)⟩] cat_256

variable {o n : ℕ} [Row o n]

/-- Rows times the stacked heads: both heads' scores side by side. -/
def score (q : FVec F (T2 n 128) .bf16) (k : FVec F (T2 256 128) .bf16) : FVec F (T2 n 256) .f32 :=
  matmul (DotDims.transposedRhs n 128 256) none q k (constant (T2 n 256) .f32 0x00000000#32)

/-- `max(z, log(1 + exp(min(z, 30))))`. -/
def softplus (z : FVec F (T2 n 128) .f32) : FVec F (T2 n 128) .f32 :=
  maximumf z (log (addf (broadcast (T2 n 128) (Scalar.ofBits .f32 0x3F800000#32))
    (exp (minimumf z (broadcast (T2 n 128) (Scalar.ofBits .f32 0x41F00000#32))))))

/-- A value under a mask, where there is one: zero where the mask says no. -/
def under (m : Option (IVec (T2 n 128) 1)) (x : FVec F (T2 n 128) .f32) : FVec F (T2 n 128) .f32 :=
  match m with
  | none => x
  | some m => select m x (broadcast (T2 n 128) z32)

/-- The causal mask of a block: rows from `wr` on, keys from `wc` on, keys at least 112. -/
def mask (o n : ℕ) [Row o n] (wr wc : BitVec 32) : IVec (T2 n 128) 1 :=
  andi (cmpi .slt (addi (iota .tc (T2 n 128) 32 [1] (Row.i1 o)) (broadcast (T2 n 128) wc))
      (addi (iota .tc (T2 n 128) 32 [0] (Row.i0 o)) (broadcast (T2 n 128) wr)))
    (cmpi .sge (addi (iota .tc (T2 n 128) 32 [1] (Row.i1 o)) (broadcast (T2 n 128) wc)) (broadcast (T2 n 128) 112#32))

/-- The running sums of a block's softplus and its total, by the product with a triangle and ones, the operand in its
    high part `hi` and the rest. -/
def sums (o : ℕ) [Row o n] (hi : FVec F (T2 n 128) .f32 → FVec F (T2 n 128) .f32) (um : FVec F (T2 256 256) .bf16)
    (s : FVec F (T2 n 128) .f32) : FVec F (T2 n 256) .f32 :=
  matmul (DotDims.plain n 256 256) none
    (concatenate (T2 n 256) 1 [⟨T2 n 128, truncf .bf16 (hi s) bits_lt⟩, ⟨T2 n 128, truncf .bf16 (subf s (hi s)) bits_lt⟩] (Row.cat o))
    um (constant (T2 n 256) .f32 0x00000000#32)

/-- The attention weights of a block: `exp(z - softplus z - (total - sum of the blocks before - running sum))`. -/
def weight (o : ℕ) [Row o n] (m : Option (IVec (T2 n 128) 1)) (z tot psp : FVec F (T2 n 128) .f32) (r : FVec F (T2 n 256) .f32) :
    FVec F (T2 n 128) .f32 :=
  under m (exp (subf (subf z (softplus z))
    (subf (subf tot psp) (extractStridedSlice (T2 n 128) ![0, 0] r (Row.sl0 o)))))

/-- The running sums of a block's gradient. -/
def gsums (um : FVec F (T2 128 256) .bf16) (g : FVec F (T2 n 128) .f32) : FVec F (T2 n 256) .f32 :=
  matmul (DotDims.plain n 128 256) none (truncf .bf16 g bits_lt) um (constant (T2 n 256) .f32 0x00000000#32)

/-- The gradient of the scores: `g - exp(z - softplus z) · (g + sum of the blocks before + running sum)`. -/
def dscore (o : ℕ) [Row o n] (m : Option (IVec (T2 n 128) 1)) (z g pg : FVec F (T2 n 128) .f32) (rg : FVec F (T2 n 256) .f32) :
    FVec F (T2 n 128) .f32 :=
  under m (subf g (mulf (exp (subf z (softplus z)))
    (addf (addf g pg) (extractStridedSlice (T2 n 128) ![0, 0] rg (Row.sl0 o)))))

/-- Two blocks side by side. -/
def beside (o : ℕ) [Row o n] (x y : FVec F (T2 n 128) .f32) : FVec F (T2 n 256) .bf16 :=
  concatenate (T2 n 256) 1 [⟨T2 n 128, truncf .bf16 x bits_lt⟩, ⟨T2 n 128, truncf .bf16 y bits_lt⟩] (Row.cat o)

/-- The left half of a product and its right half. -/
abbrev lhalf (o : ℕ) [Row o n] (x : FVec F (T2 n 256) .f32) : FVec F (T2 n 128) .f32 :=
  extractStridedSlice (T2 n 128) ![0, 0] x (Row.sl0 o)
abbrev rhalf (o : ℕ) [Row o n] (x : FVec F (T2 n 256) .f32) : FVec F (T2 n 128) .f32 :=
  extractStridedSlice (T2 n 128) ![0, 128] x (Row.sl1 o)

/-- A block of 128 keys' gradient: the product with both heads, each lane's own head kept. -/
def fold (lane : IVec (T2 128 128) 1) (xt : FVec F (T2 128 n) .bf16) (y : FVec F (T2 n 256) .bf16) : FVec F (T2 128 128) .f32 :=
  select lane
    (extractStridedSlice (T2 128 128) ![0, 0] (matmul (DotDims.plain 128 n 256) none xt y (constant (T2 128 256) .f32 0x00000000#32)) sl_128_0)
    (extractStridedSlice (T2 128 128) ![0, 128] (matmul (DotDims.plain 128 n 256) none xt y (constant (T2 128 256) .f32 0x00000000#32)) sl_128_1)

end Pure

/-- What the step's buffers hold: per head the sum of softplus and of the gradient over the key blocks before, the
    gradient of the query block, and the gradients of all keys and values. -/
structure St (F : FTy → Type) where
  psp : Vec F (T3 2 384 128) .f32
  pg : Vec F (T3 2 384 128) .f32
  dq : Vec F (T2 384 128) .f32
  dk : Vec F (T3 33 128 128) .f32
  dv : Vec F (T3 33 128 128) .f32

section Tri
variable {F : FTy → Type} [FloatOps F]

theorem tri_i0 : (T2 128 256).Iotas .tc 32 [0] := by decide
theorem tri_i1 : (T2 128 256).Iotas .tc 32 [1] := by decide
theorem cat_um : Shape.Concatenates [T2 128 256, T2 128 256] (T2 256 256) 0 := by decide

/-- A triangle of ones beside a block of ones: the running sums and the total. -/
def tri (p : CmpIPredicate) : FVec F (T2 128 256) .bf16 :=
  truncf .bf16 (select
    (ori (cmpi .sge (iota .tc (T2 128 256) 32 [1] tri_i1) (broadcast (T2 128 256) 128#32))
      (cmpi p (iota .tc (T2 128 256) 32 [0] tri_i0) (iota .tc (T2 128 256) 32 [1] tri_i1)))
    (broadcast (T2 128 256) (Scalar.ofBits .f32 0x3F800000#32)) (broadcast (T2 128 256) z32) : FVec F (T2 128 256) .f32) bits_lt

end Tri

/-- What stays the same over the key blocks: the two triangles, the lanes' heads, and the query block's rows: scaled
    queries, output gradients, both transposed, both heads' totals. -/
structure Ctx (F : FTy → Type) (n : ℕ) where
  um : FVec F (T2 256 256) .bf16
  ug : FVec F (T2 128 256) .bf16
  lane : IVec (T2 128 128) 1
  q : FVec F (T2 n 128) .bf16
  dout : FVec F (T2 n 128) .bf16
  qt : FVec F (T2 128 n) .bf16
  dt : FVec F (T2 128 n) .bf16
  tot0 : FVec F (T2 n 128) .f32
  tot1 : FVec F (T2 n 128) .f32

section Mk
variable {F : FTy → Type} [FloatOps F]

theorem tr_q : (T2 384 128).Transposes [1, 0] (T2 128 384) := by decide
theorem rot_q : (T2 384 128).Rotates 1 none := by decide
theorem out_q : (T3 1 384 128).ShapeCasts (T2 384 128) := by decide
theorem i0_128 : (T2 128 128).Iotas .tc 32 [0] := by decide
theorem i1_384 : (T2 384 128).Iotas .tc 32 [1] := by decide
theorem self_384 : (T2 384 128).ShapeCasts (T2 384 128) := by decide

/-- The query block's rows times the scale. -/
def scaled (q : Vec F (T3 1 384 128) .bf16) : FVec F (T2 384 128) .bf16 :=
  truncf .bf16 (mulf (extf .f32 (shapeCast (T2 384 128) q out_q : FVec F (T2 384 128) .bf16) bits_lt)
    (broadcast (T2 384 128) (Scalar.ofBits .f32 0x3E000000#32))) bits_lt

/-- The lanes of head 0. -/
def laneA : IVec (T2 384 128) 1 := cmpi .slt (iota .tc (T2 384 128) 32 [1] i1_384) (broadcast (T2 384 128) 64#32)

/-- The totals with the two heads' lanes exchanged. -/
def swapped (lt : Vec F (T2 384 128) .f32) : FVec F (T2 384 128) .f32 :=
  dynamicRotate 1 64#32 none (shapeCast (T2 384 128) lt self_384 : FVec F (T2 384 128) .f32) rot_q

/-- The context of a query block: its queries, output gradients and totals. -/
def mkCtx (q : Vec F (T3 1 384 128) .bf16) (d : Vec F (T2 384 128) .bf16) (lt : Vec F (T2 384 128) .f32) : Ctx F 384 where
  um := concatenate (T2 256 256) 0 [⟨T2 128 256, tri .sle⟩, ⟨T2 128 256, tri .sle⟩] cat_um
  ug := tri .slt
  lane := cmpi .slt (iota .tc (T2 128 128) 32 [0] i0_128) (broadcast (T2 128 128) 64#32)
  q := scaled q
  dout := d
  qt := transpose (T2 128 384) [1, 0] (scaled q) tr_q
  dt := transpose (T2 128 384) [1, 0] (d : FVec F (T2 384 128) .bf16) tr_q
  tot0 := select laneA (shapeCast (T2 384 128) lt self_384 : FVec F (T2 384 128) .f32) (swapped lt)
  tot1 := select laneA (swapped lt) (shapeCast (T2 384 128) lt self_384 : FVec F (T2 384 128) .f32)

end Mk

/-- The context of the rows `o … o + n - 1`. -/
def Ctx.rows {F : FTy → Type} (o n : ℕ) [Row o n] (c : Ctx F 384) : Ctx F n where
  um := c.um
  ug := c.ug
  lane := c.lane
  q := extractStridedSlice (T2 n 128) ![o, 0] c.q Row.slq
  dout := extractStridedSlice (T2 n 128) ![o, 0] c.dout Row.slq
  qt := extractStridedSlice (T2 128 n) ![0, o] c.qt Row.slt
  dt := extractStridedSlice (T2 128 n) ![0, o] c.dt Row.slt
  tot0 := extractStridedSlice (T2 n 128) ![o, 0] c.tot0 Row.slq
  tot1 := extractStridedSlice (T2 n 128) ![o, 0] c.tot1 Row.slq

section Step

variable {F : FTy → Type} [FloatOps F] {o n : ℕ} [Row o n]

/-- A buffer's rows `o … o + n - 1` of head 0, and of head 1. -/
abbrev rect0 (o n : ℕ) [Row o n] : Rect (T3 2 384 128) := Rect.unit (s := T3 2 384 128) ![0, o, 0] (T3 1 n 128).size Row.inb0
abbrev rect1 (o n : ℕ) [Row o n] : Rect (T3 2 384 128) := Rect.unit (s := T3 2 384 128) ![1, o, 0] (T3 1 n 128).size Row.inb1
abbrev rectq (o n : ℕ) [Row o n] : Rect (T2 384 128) := Rect.unit (s := T2 384 128) ![o, 0] (T2 n 128).size Row.inbq

/-- A loaded block of rows as a matrix. -/
abbrev mat (o : ℕ) [Row o n] (x : Vec F (T3 1 n 128) .f32) : FVec F (T2 n 128) .f32 := shapeCast (T2 n 128) x (Row.out3 o)

/-- One head's numbers over a key block, from its scores `z`, the gradient `da` of its weights, and the sums of the
    blocks before. -/
structure Head (F : FTy → Type) (n : ℕ) where
  r : FVec F (T2 n 256) .f32
  a : FVec F (T2 n 128) .f32
  rg : FVec F (T2 n 256) .f32
  dz : FVec F (T2 n 128) .f32

def head (o : ℕ) [Row o n] (hi : FVec F (T2 n 128) .f32 → FVec F (T2 n 128) .f32) (c : Ctx F n) (m : Option (IVec (T2 n 128) 1))
    (z da tot psp pg : FVec F (T2 n 128) .f32) : Head F n :=
  let r := sums o hi c.um (under m (softplus z))
  let a := weight o m z tot psp r
  let g := mulf a da
  let rg := gsums c.ug g
  ⟨r, a, rg, dscore o m z g pg rg⟩

/-- Head 0's numbers at state `s`, key block `k`, value block `v`; -/
def head0 (o : ℕ) [Row o n] (hi : FVec F (T2 n 128) .f32 → FVec F (T2 n 128) .f32) (c : Ctx F n) (m : Option (IVec (T2 n 128) 1))
    (k v : Vec F (T3 1 128 128) .bf16) (psp pg : Vec F (T3 2 384 128) .f32) : Head F n :=
  head o hi c m (lhalf o (score c.q (stack k))) (lhalf o (score c.dout (stack v))) c.tot0
    (mat o (View.ld psp (rect0 o n))) (mat o (View.ld pg (rect0 o n)))
/-- and head 1's. -/
def head1 (o : ℕ) [Row o n] (hi : FVec F (T2 n 128) .f32 → FVec F (T2 n 128) .f32) (c : Ctx F n) (m : Option (IVec (T2 n 128) 1))
    (k v : Vec F (T3 1 128 128) .bf16) (psp pg : Vec F (T3 2 384 128) .f32) : Head F n :=
  head o hi c m (rhalf o (score c.q (stack k))) (rhalf o (score c.dout (stack v))) c.tot1
    (mat o (View.ld psp (rect1 o n))) (mat o (View.ld pg (rect1 o n)))

/-- Head 0's buffers with the block's totals added, -/
def put0 (o n : ℕ) [Row o n] (X : Vec F (T3 2 384 128) .f32) (r : FVec F (T2 n 256) .f32) : Vec F (T3 2 384 128) .f32 :=
  VecWindow.put X ![0, o, 0] (T3 1 n 128).size (shapeCast (T3 1 n 128) (addf (mat o (View.ld X (rect0 o n))) (rhalf o r)) (Row.in3 o))
/-- and head 1's. -/
def put1 (o n : ℕ) [Row o n] (X : Vec F (T3 2 384 128) .f32) (r : FVec F (T2 n 256) .f32) : Vec F (T3 2 384 128) .f32 :=
  VecWindow.put X ![1, o, 0] (T3 1 n 128).size (shapeCast (T3 1 n 128) (addf (mat o (View.ld X (rect1 o n))) (rhalf o r)) (Row.in3 o))

/-- A key block's gradient added into the buffer of all keys, at offsets `off`. -/
def putk (X : Vec F (T3 33 128 128) .f32) (off : Fin 3 → ℕ) (inb : ∀ a, off a + (T3 1 128 128).size a ≤ (T3 33 128 128).size a)
    (y : FVec F (T2 128 128) .f32) : Vec F (T3 33 128 128) .f32 :=
  VecWindow.put X off (T3 1 128 128).size
    (shapeCast (T3 1 128 128) (addf (shapeCast (T2 128 128) (View.ld X (Rect.unit (s := T3 33 128 128) off (T3 1 128 128).size inb)) out_128 : FVec F (T2 128 128) .f32) y) in_128)

/-- The state after a key block. -/
def next (o : ℕ) [Row o n] (hi : FVec F (T2 n 128) .f32 → FVec F (T2 n 128) .f32) (c : Ctx F n) (m : Option (IVec (T2 n 128) 1))
    (k v : Vec F (T3 1 128 128) .bf16) (off : Fin 3 → ℕ) (inb : ∀ a, off a + (T3 1 128 128).size a ≤ (T3 33 128 128).size a)
    (s : St F) : St F :=
  let h0 := head0 o hi c m k v s.psp s.pg
  let h1 := head1 o hi c m k v (put0 o n s.psp h0.r) (put0 o n s.pg h0.rg)
  ⟨put1 o n (put0 o n s.psp h0.r) h1.r, put1 o n (put0 o n s.pg h0.rg) h1.rg,
    VecWindow.put s.dq ![o, 0] (T2 n 128).size
      (shapeCast (T2 n 128) (addf (View.ld s.dq (rectq o n) : FVec F (T2 n 128) .f32)
        (matmul (DotDims.plain n 256 128) none (beside o h0.dz h1.dz) (stack k) (constant (T2 n 128) .f32 0x00000000#32))) (Row.self o)),
    putk s.dk off inb (fold c.lane c.qt (beside o h0.dz h1.dz)),
    putk s.dv off inb (fold c.lane c.dt (beside o h0.a h1.a))⟩

variable {nD : ℕ} {τ : Topo} {sig : RefSig} {Λ : Labels}

/-- The program of one key block's step after its keys were loaded, -/
def stepK (o : ℕ) [Row o n] (hi : FVec F (T2 n 128) .f32 → FVec F (T2 n 128) .f32) (c : Ctx F n) (m : Option (IVec (T2 n 128) 1))
    (k : Vec F (T3 1 128 128) .bf16) (arg4 : Memref sig .tc .vmem (T3 1 4224 128) .bf16) (arg9 arg10 : Memref sig .tc .vmem (T3 2 384 128) .f32)
    (arg11 : Memref sig .tc .vmem (T2 384 128) .f32) (arg12 arg13 : Memref sig .tc .vmem (T3 33 128 128) .f32)
    (offk : Fin 3 → ℕ) (inbk : ∀ a, offk a + (T3 1 128 128).size a ≤ (T3 1 4224 128).size a)
    (off : Fin 3 → ℕ) (inb : ∀ a, off a + (T3 1 128 128).size a ≤ (T3 33 128 128).size a)
    (hk : 0 < (T3 1 128 128).numel) (hn : 0 < (T3 1 n 128).numel) (hq : 0 < (T2 n 128).numel) :
    Prog (TpuEff nD τ sig (Elt F) Λ .tc) PUnit := do
  let v : Vec F (T3 1 128 128) .bf16 ← Prog.lift (.load arg4 (Rect.unit (s := T3 1 4224 128) offk (T3 1 128 128).size inbk).toLoadRect (View.loadsAt_vmem hk))
  let p : Vec F (T3 1 n 128) .f32 ← Prog.lift (.load arg9 (rect0 o n).toLoadRect (View.loadsAt_vmem hn))
  let g : Vec F (T3 1 n 128) .f32 ← Prog.lift (.load arg10 (rect0 o n).toLoadRect (View.loadsAt_vmem hn))
  let h0 := head o hi c m (lhalf o (score c.q (stack k))) (lhalf o (score c.dout (stack v))) c.tot0 (mat o p) (mat o g)
  let p : Vec F (T3 1 n 128) .f32 ← Prog.lift (.load arg9 (rect0 o n).toLoadRect (View.loadsAt_vmem hn))
  let _ : Vec F (T3 1 n 128) .f32 ← Prog.lift (.load arg9 (rect0 o n).toLoadRect (View.loadsAt_vmem hn))
  Prog.lift (.store arg9 (rect0 o n) (shapeCast (T3 1 n 128) (addf (mat o p) (rhalf o h0.r)) (Row.in3 o) : Vec F (T3 1 n 128) .f32) Finset.univ (View.stores_vmem_bits_univ hn rfl) (.inl rfl))
  let g : Vec F (T3 1 n 128) .f32 ← Prog.lift (.load arg10 (rect0 o n).toLoadRect (View.loadsAt_vmem hn))
  let _ : Vec F (T3 1 n 128) .f32 ← Prog.lift (.load arg10 (rect0 o n).toLoadRect (View.loadsAt_vmem hn))
  Prog.lift (.store arg10 (rect0 o n) (shapeCast (T3 1 n 128) (addf (mat o g) (rhalf o h0.rg)) (Row.in3 o) : Vec F (T3 1 n 128) .f32) Finset.univ (View.stores_vmem_bits_univ hn rfl) (.inl rfl))
  let p : Vec F (T3 1 n 128) .f32 ← Prog.lift (.load arg9 (rect1 o n).toLoadRect (View.loadsAt_vmem hn))
  let g : Vec F (T3 1 n 128) .f32 ← Prog.lift (.load arg10 (rect1 o n).toLoadRect (View.loadsAt_vmem hn))
  let h1 := head o hi c m (rhalf o (score c.q (stack k))) (rhalf o (score c.dout (stack v))) c.tot1 (mat o p) (mat o g)
  let p : Vec F (T3 1 n 128) .f32 ← Prog.lift (.load arg9 (rect1 o n).toLoadRect (View.loadsAt_vmem hn))
  let _ : Vec F (T3 1 n 128) .f32 ← Prog.lift (.load arg9 (rect1 o n).toLoadRect (View.loadsAt_vmem hn))
  Prog.lift (.store arg9 (rect1 o n) (shapeCast (T3 1 n 128) (addf (mat o p) (rhalf o h1.r)) (Row.in3 o) : Vec F (T3 1 n 128) .f32) Finset.univ (View.stores_vmem_bits_univ hn rfl) (.inl rfl))
  let g : Vec F (T3 1 n 128) .f32 ← Prog.lift (.load arg10 (rect1 o n).toLoadRect (View.loadsAt_vmem hn))
  let _ : Vec F (T3 1 n 128) .f32 ← Prog.lift (.load arg10 (rect1 o n).toLoadRect (View.loadsAt_vmem hn))
  Prog.lift (.store arg10 (rect1 o n) (shapeCast (T3 1 n 128) (addf (mat o g) (rhalf o h1.rg)) (Row.in3 o) : Vec F (T3 1 n 128) .f32) Finset.univ (View.stores_vmem_bits_univ hn rfl) (.inl rfl))
  let d : Vec F (T2 n 128) .f32 ← Prog.lift (.load arg11 (rectq o n).toLoadRect (View.loadsAt_vmem hq))
  let _ : Vec F (T2 n 128) .f32 ← Prog.lift (.load arg11 (rectq o n).toLoadRect (View.loadsAt_vmem hq))
  Prog.lift (.store arg11 (rectq o n) (shapeCast (T2 n 128) (addf (d : FVec F (T2 n 128) .f32)
        (matmul (DotDims.plain n 256 128) none (beside o h0.dz h1.dz) (stack k) (constant (T2 n 128) .f32 0x00000000#32))) (Row.self o) : Vec F (T2 n 128) .f32)
    Finset.univ (View.stores_vmem_bits_univ hq rfl) (.inl rfl))
  let d : Vec F (T3 1 128 128) .f32 ← Prog.lift (.load arg12 (Rect.unit (s := T3 33 128 128) off (T3 1 128 128).size inb).toLoadRect (View.loadsAt_vmem hk))
  let _ : Vec F (T3 1 128 128) .f32 ← Prog.lift (.load arg12 (Rect.unit (s := T3 33 128 128) off (T3 1 128 128).size inb).toLoadRect (View.loadsAt_vmem hk))
  Prog.lift (.store arg12 (Rect.unit (s := T3 33 128 128) off (T3 1 128 128).size inb)
    (shapeCast (T3 1 128 128) (addf (shapeCast (T2 128 128) d out_128 : FVec F (T2 128 128) .f32) (fold c.lane c.qt (beside o h0.dz h1.dz))) in_128 : Vec F (T3 1 128 128) .f32)
    Finset.univ (View.stores_vmem_bits_univ hk rfl) (.inl rfl))
  let d : Vec F (T3 1 128 128) .f32 ← Prog.lift (.load arg13 (Rect.unit (s := T3 33 128 128) off (T3 1 128 128).size inb).toLoadRect (View.loadsAt_vmem hk))
  let _ : Vec F (T3 1 128 128) .f32 ← Prog.lift (.load arg13 (Rect.unit (s := T3 33 128 128) off (T3 1 128 128).size inb).toLoadRect (View.loadsAt_vmem hk))
  Prog.lift (.store arg13 (Rect.unit (s := T3 33 128 128) off (T3 1 128 128).size inb)
    (shapeCast (T3 1 128 128) (addf (shapeCast (T2 128 128) d out_128 : FVec F (T2 128 128) .f32) (fold c.lane c.dt (beside o h0.a h1.a))) in_128 : Vec F (T3 1 128 128) .f32)
    Finset.univ (View.stores_vmem_bits_univ hk rfl) (.inl rfl))

/-- and the whole of it. -/
def step (o : ℕ) [Row o n] (hi : FVec F (T2 n 128) .f32 → FVec F (T2 n 128) .f32) (c : Ctx F n) (m : Option (IVec (T2 n 128) 1))
    (arg3 arg4 : Memref sig .tc .vmem (T3 1 4224 128) .bf16) (arg9 arg10 : Memref sig .tc .vmem (T3 2 384 128) .f32)
    (arg11 : Memref sig .tc .vmem (T2 384 128) .f32) (arg12 arg13 : Memref sig .tc .vmem (T3 33 128 128) .f32)
    (offk : Fin 3 → ℕ) (inbk : ∀ a, offk a + (T3 1 128 128).size a ≤ (T3 1 4224 128).size a)
    (off : Fin 3 → ℕ) (inb : ∀ a, off a + (T3 1 128 128).size a ≤ (T3 33 128 128).size a)
    (hk : 0 < (T3 1 128 128).numel) (hn : 0 < (T3 1 n 128).numel) (hq : 0 < (T2 n 128).numel) :
    Prog (TpuEff nD τ sig (Elt F) Λ .tc) PUnit := do
  let k : Vec F (T3 1 128 128) .bf16 ← Prog.lift (.load arg3 (Rect.unit (s := T3 1 4224 128) offk (T3 1 128 128).size inbk).toLoadRect (View.loadsAt_vmem hk))
  stepK o hi c m k arg4 arg9 arg10 arg11 arg12 arg13 offk inbk off inb hk hn hq

end Step

end Cert.Attn
-- ==== Proof.KI.Body.lean ====
/-
  The attention's backward kernel as its steps: the printed function IS the prologue, the masked block at the row's
  start and its two neighbours, the loop of six blocks, the odd group of three, the three blocks on the diagonal, and
  the rows written out (`body_eq`, by unfolding alone).
-/
module

public import proofs.«01_k».proof.Proof.Core
public import proofs.«01_k».proof.Proof.Gen.KernelIdeal.Skeleton

@[expose] public section

set_option maxRecDepth 65536

noncomputable section

namespace Cert.KernelIdeal.Body

open Cert.KernelIdeal Cert.KernelIdeal.Gen Cert.Attn
open Idealize.ShloMosaic Idealize.SL.Sem

variable {F : FTy → Type} [FloatOps F]

/-- The high part of a value, as this program takes it. -/
def hi {n : ℕ} (x : FVec F (T2 n 128) .f32) : FVec F (T2 n 128) .f32 :=
  extf .f32 (truncf .bf16 x bitsLt_bf16_f32 : FVec F (T2 n 128) .bf16) bitsLt_bf16_f32

/-- The first row of a query block, `r` rows down, and the first key of the diagonal's block `t`. -/
def rowWord (i : grid0.Coords) (r : BitVec 32) : BitVec 32 := Scalar.addi (Scalar.muli (BitVec.ofNat 32 (i 1).val) 384#32) r
def diagWord (i : grid0.Coords) (t : BitVec 32) : BitVec 32 := Scalar.muli (Scalar.addi (Scalar.muli 3#32 (BitVec.ofNat 32 (i 1).val)) t) 128#32

/-- The block is the first of its head pair. -/
abbrev first (i : grid0.Coords) : BitVec 1 := Scalar.cmpi .ne (Scalar.extui (Scalar.cmpi .eq (BitVec.ofNat 32 (i 1).val) 0#32) : BitVec 32) 0#32

variable (i : grid0.Coords) (arg2 : Memref sig .tc .vmem S1x384x128 .bf16) (harg2 : arg2.IsWhole) (arg3 : Memref sig .tc .vmem S1x4224x128 .bf16) (harg3 : arg3.IsWhole) (arg4 : Memref sig .tc .vmem S1x4224x128 .bf16) (harg4 : arg4.IsWhole) (arg5 : Memref sig .tc .vmem S384x128 .bf16) (harg5 : arg5.IsWhole) (arg6 : Memref sig .tc .vmem S384x128 .f32) (harg6 : arg6.IsWhole) (arg7 : Memref sig .tc .hbm S8x4224x1024 .bf16) (harg7 : arg7.IsWhole) (arg8 : Memref sig .tc .vmem S3x4224x128 .bf16) (harg8 : arg8.IsWhole) (arg9 : Memref sig .tc .vmem S2x384x128 .f32) (harg9 : arg9.IsWhole) (arg10 : Memref sig .tc .vmem S2x384x128 .f32) (harg10 : arg10.IsWhole) (arg11 : Memref sig .tc .vmem S384x128 .f32) (harg11 : arg11.IsWhole) (arg12 : Memref sig .tc .vmem S33x128x128 .f32) (harg12 : arg12.IsWhole) (arg13 : Memref sig .tc .vmem S33x128x128 .f32) (harg13 : arg13.IsWhole) (c : Attn.Ctx F 384)

/-- The block at the row's start, under the mask of the padding, and its two neighbours. -/
def startSteps : Prog (TpuEff nD τ sig (Elt F) Λ₀ .tc) PUnit := do
  step 0 hi c (some (mask 0 384 (rowWord i 0#32) 0#32)) arg3 arg4 arg9 arg10 arg11 arg12 arg13 ![0, 0, 0] inb_S1x4224x128_S1x128x128_0_0_0 ![0, 0, 0] inb_S33x128x128_S1x128x128_0_0_0 h_S1x128x128 h_S1x384x128 h_S384x128
  step 0 hi c none arg3 arg4 arg9 arg10 arg11 arg12 arg13 ![0, 128, 0] inb_S1x4224x128_S1x128x128_0_128_0 ![1, 0, 0] inb_S33x128x128_S1x128x128_1_0_0 h_S1x128x128 h_S1x384x128 h_S384x128
  step 0 hi c none arg3 arg4 arg9 arg10 arg11 arg12 arg13 ![0, 256, 0] inb_S1x4224x128_S1x128x128_0_256_0 ![2, 0, 0] inb_S33x128x128_S1x128x128_2_0_0 h_S1x128x128 h_S1x384x128 h_S384x128
  pure ⟨⟩

/-- One trip of the loop: six key blocks. -/
def trip (t : Fin (k0_t1_loop i).trips) : Prog (TpuEff nD τ sig (Elt F) Λ₀ .tc) PUnit := do
  step 0 hi c none arg3 arg4 arg9 arg10 arg11 arg12 arg13 (k0_off1 i t 0#32) (k0_off1_inb i t 0) (k0_off2 i t 0#32) (k0_off2_inb i t 0) h_S1x128x128 h_S1x384x128 h_S384x128
  step 0 hi c none arg3 arg4 arg9 arg10 arg11 arg12 arg13 (k0_off1 i t 1#32) (k0_off1_inb i t 1) (k0_off2 i t 1#32) (k0_off2_inb i t 1) h_S1x128x128 h_S1x384x128 h_S384x128
  step 0 hi c none arg3 arg4 arg9 arg10 arg11 arg12 arg13 (k0_off1 i t 2#32) (k0_off1_inb i t 2) (k0_off2 i t 2#32) (k0_off2_inb i t 2) h_S1x128x128 h_S1x384x128 h_S384x128
  step 0 hi c none arg3 arg4 arg9 arg10 arg11 arg12 arg13 (k0_off1 i t 3#32) (k0_off1_inb i t 3) (k0_off2 i t 3#32) (k0_off2_inb i t 3) h_S1x128x128 h_S1x384x128 h_S384x128
  step 0 hi c none arg3 arg4 arg9 arg10 arg11 arg12 arg13 (k0_off1 i t 4#32) (k0_off1_inb i t 4) (k0_off2 i t 4#32) (k0_off2_inb i t 4) h_S1x128x128 h_S1x384x128 h_S384x128
  step 0 hi c none arg3 arg4 arg9 arg10 arg11 arg12 arg13 (k0_off1 i t 5#32) (k0_off1_inb i t 5) (k0_off2 i t 5#32) (k0_off2_inb i t 5) h_S1x128x128 h_S1x384x128 h_S384x128
  pure ⟨⟩

/-- One trip of the loop's remainder, which never runs. -/
def trip2 (t : Fin (k0_t2_loop i).trips) : Prog (TpuEff nD τ sig (Elt F) Λ₀ .tc) PUnit := do
  step 0 hi c none arg3 arg4 arg9 arg10 arg11 arg12 arg13 (k0_off3 i t 0#32) (k0_off3_inb i t 0) (k0_off4 i t 0#32) (k0_off4_inb i t 0) h_S1x128x128 h_S1x384x128 h_S384x128
  step 0 hi c none arg3 arg4 arg9 arg10 arg11 arg12 arg13 (k0_off3 i t 1#32) (k0_off3_inb i t 1) (k0_off4 i t 1#32) (k0_off4_inb i t 1) h_S1x128x128 h_S1x384x128 h_S384x128
  step 0 hi c none arg3 arg4 arg9 arg10 arg11 arg12 arg13 (k0_off3 i t 2#32) (k0_off3_inb i t 2) (k0_off4 i t 2#32) (k0_off4_inb i t 2) h_S1x128x128 h_S1x384x128 h_S384x128
  step 0 hi c none arg3 arg4 arg9 arg10 arg11 arg12 arg13 (k0_off3 i t 3#32) (k0_off3_inb i t 3) (k0_off4 i t 3#32) (k0_off4_inb i t 3) h_S1x128x128 h_S1x384x128 h_S384x128
  step 0 hi c none arg3 arg4 arg9 arg10 arg11 arg12 arg13 (k0_off3 i t 4#32) (k0_off3_inb i t 4) (k0_off4 i t 4#32) (k0_off4_inb i t 4) h_S1x128x128 h_S1x384x128 h_S384x128
  step 0 hi c none arg3 arg4 arg9 arg10 arg11 arg12 arg13 (k0_off3 i t 5#32) (k0_off3_inb i t 5) (k0_off4 i t 5#32) (k0_off4_inb i t 5) h_S1x128x128 h_S1x384x128 h_S384x128
  pure ⟨⟩

/-- The odd group. -/
def oddSteps (h : k0_cond3 i = 1#1) : Prog (TpuEff nD τ sig (Elt F) Λ₀ .tc) PUnit := do
  step 0 hi c none arg3 arg4 arg9 arg10 arg11 arg12 arg13 (k0_off5 i 0#32) (k0_off5_inb i h 0) (k0_off6 i 0#32) (k0_off6_inb i h 0) h_S1x128x128 h_S1x384x128 h_S384x128
  step 0 hi c none arg3 arg4 arg9 arg10 arg11 arg12 arg13 (k0_off5 i 1#32) (k0_off5_inb i h 1) (k0_off6 i 1#32) (k0_off6_inb i h 1) h_S1x128x128 h_S1x384x128 h_S384x128
  step 0 hi c none arg3 arg4 arg9 arg10 arg11 arg12 arg13 (k0_off5 i 2#32) (k0_off5_inb i h 2) (k0_off6 i 2#32) (k0_off6_inb i h 2) h_S1x128x128 h_S1x384x128 h_S384x128
  pure ⟨⟩

/-- The blocks on the diagonal, after the first one's keys were loaded, -/
def diagRest (k : Vec F S1x128x128 .bf16) : Prog (TpuEff nD τ sig (Elt F) Λ₀ .tc) PUnit := do
  stepK 0 hi c (some (mask 0 384 (rowWord i 0#32) (diagWord i 0#32))) k arg4 arg9 arg10 arg11 arg12 arg13 (k0_off7 i 0#32) (k0_off7_inb i 0) (k0_off8 i 0#32) (k0_off8_inb i 0) h_S1x128x128 h_S1x384x128 h_S384x128
  step 128 hi (c.rows 128 256) (some (mask 128 256 (rowWord i 128#32) (diagWord i 1#32))) arg3 arg4 arg9 arg10 arg11 arg12 arg13 (k0_off7 i 1#32) (k0_off7_inb i 1) (k0_off8 i 1#32) (k0_off8_inb i 1) h_S1x128x128 h_S1x256x128 h_S256x128
  step 256 hi (c.rows 256 128) (some (mask 256 128 (rowWord i 256#32) (diagWord i 2#32))) arg3 arg4 arg9 arg10 arg11 arg12 arg13 (k0_off7 i 2#32) (k0_off7_inb i 2) (k0_off8 i 2#32) (k0_off8_inb i 2) h_S1x128x128 h_S1x128x128 h_S128x128

/-- and the whole of them. -/
def diagSteps : Prog (TpuEff nD τ sig (Elt F) Λ₀ .tc) PUnit :=
  (Prog.lift (.load arg3 (Rect.unit (s := S1x4224x128) (k0_off7 i 0#32) S1x128x128.size (k0_off7_inb i 0)).toLoadRect (View.loadsAt_vmem h_S1x128x128))) >>= fun k : Vec F S1x128x128 .bf16 => diagRest i arg3 arg4 arg9 arg10 arg11 arg12 arg13 c k

/-- The buffers of all keys set to zero. -/
def zeroKeys : Prog (TpuEff nD τ sig (Elt F) Λ₀ .tc) PUnit := do
  let _ : Vec F S33x128x128 .f32 ← Prog.lift (.load arg12 (Rect.unit (s := S33x128x128) ![0, 0, 0] S33x128x128.size inb_S33x128x128_S33x128x128_0_0_0).toLoadRect (View.loadsAt_vmem h_S33x128x128))
  Prog.lift (.store arg12 (Rect.unit (s := S33x128x128) ![0, 0, 0] S33x128x128.size inb_S33x128x128_S33x128x128_0_0_0) (shapeCast S33x128x128 (broadcast S33x128x128 z32 : FVec F S33x128x128 .f32) shapeCasts_S33x128x128_S33x128x128 : Vec F S33x128x128 .f32) Finset.univ (View.stores_vmem_bits_univ h_S33x128x128 rfl) (.inl rfl))
  let _ : Vec F S33x128x128 .f32 ← Prog.lift (.load arg13 (Rect.unit (s := S33x128x128) ![0, 0, 0] S33x128x128.size inb_S33x128x128_S33x128x128_0_0_0).toLoadRect (View.loadsAt_vmem h_S33x128x128))
  Prog.lift (.store arg13 (Rect.unit (s := S33x128x128) ![0, 0, 0] S33x128x128.size inb_S33x128x128_S33x128x128_0_0_0) (shapeCast S33x128x128 (broadcast S33x128x128 z32 : FVec F S33x128x128 .f32) shapeCasts_S33x128x128_S33x128x128 : Vec F S33x128x128 .f32) Finset.univ (View.stores_vmem_bits_univ h_S33x128x128 rfl) (.inl rfl))
  pure ⟨⟩

/-- The query block's buffers set to zero. -/
def zeroRows : Prog (TpuEff nD τ sig (Elt F) Λ₀ .tc) PUnit := do
  let _ : Vec F S2x384x128 .f32 ← Prog.lift (.load arg9 (Rect.unit (s := S2x384x128) ![0, 0, 0] S2x384x128.size inb_S2x384x128_S2x384x128_0_0_0).toLoadRect (View.loadsAt_vmem h_S2x384x128))
  Prog.lift (.store arg9 (Rect.unit (s := S2x384x128) ![0, 0, 0] S2x384x128.size inb_S2x384x128_S2x384x128_0_0_0) (shapeCast S2x384x128 (broadcast S2x384x128 z32 : FVec F S2x384x128 .f32) shapeCasts_S2x384x128_S2x384x128 : Vec F S2x384x128 .f32) Finset.univ (View.stores_vmem_bits_univ h_S2x384x128 rfl) (.inl rfl))
  let _ : Vec F S2x384x128 .f32 ← Prog.lift (.load arg10 (Rect.unit (s := S2x384x128) ![0, 0, 0] S2x384x128.size inb_S2x384x128_S2x384x128_0_0_0).toLoadRect (View.loadsAt_vmem h_S2x384x128))
  Prog.lift (.store arg10 (Rect.unit (s := S2x384x128) ![0, 0, 0] S2x384x128.size inb_S2x384x128_S2x384x128_0_0_0) (shapeCast S2x384x128 (broadcast S2x384x128 z32 : FVec F S2x384x128 .f32) shapeCasts_S2x384x128_S2x384x128 : Vec F S2x384x128 .f32) Finset.univ (View.stores_vmem_bits_univ h_S2x384x128 rfl) (.inl rfl))
  let _ : Vec F S384x128 .f32 ← Prog.lift (.load arg11 (Rect.unit (s := S384x128) ![0, 0] S384x128.size inb_S384x128_S384x128_0_0).toLoadRect (View.loadsAt_vmem h_S384x128))
  Prog.lift (.store arg11 (Rect.unit (s := S384x128) ![0, 0] S384x128.size inb_S384x128_S384x128_0_0) (shapeCast S384x128 (broadcast S384x128 z32 : FVec F S384x128 .f32) shapeCasts_S384x128_S384x128 : Vec F S384x128 .f32) Finset.univ (View.stores_vmem_bits_univ h_S384x128 rfl) (.inl rfl))

/-- The query block's gradient, scaled, rounded and written to its rows. -/
def rowsOut (d : Vec F S384x128 .f32) : Vec F S1x384x128 .bf16 :=
  shapeCast S1x384x128 (truncf .bf16 (mulf (d : FVec F S384x128 .f32) (broadcast S384x128 (Scalar.ofBits .f32 0x3E000000#32))) bitsLt_bf16_f32 : FVec F S384x128 .bf16) shapeCasts_S384x128_S1x384x128

def writeRows : Prog (TpuEff nD τ sig (Elt F) Λ₀ .tc) PUnit := do
  let d : Vec F S384x128 .f32 ← Prog.lift (.load arg11 (Rect.unit (s := S384x128) ![0, 0] S384x128.size inb_S384x128_S384x128_0_0).toLoadRect (View.loadsAt_vmem h_S384x128))
  let _ : Vec F S1x384x128 .bf16 ← Prog.lift (.load arg8 (Rect.unit (s := S3x4224x128) (k0_off9 i) S1x384x128.size (k0_off9_inb i)).toLoadRect (View.loadsAt_vmem h_S1x384x128))
  Prog.lift (.store arg8 (Rect.unit (s := S3x4224x128) (k0_off9 i) S1x384x128.size (k0_off9_inb i)) (rowsOut d) Finset.univ (View.stores_vmem h_S1x384x128 (harg8.storeExact_slice rfl _ (k0_off9_packedbf16 i)) (fun _ => rfl)) (.inl rfl))

/-- The same as three steps. -/
def diagAll : Prog (TpuEff nD τ sig (Elt F) Λ₀ .tc) PUnit := do
  step 0 hi c (some (mask 0 384 (rowWord i 0#32) (diagWord i 0#32))) arg3 arg4 arg9 arg10 arg11 arg12 arg13 (k0_off7 i 0#32) (k0_off7_inb i 0) (k0_off8 i 0#32) (k0_off8_inb i 0) h_S1x128x128 h_S1x384x128 h_S384x128
  step 128 hi (c.rows 128 256) (some (mask 128 256 (rowWord i 128#32) (diagWord i 1#32))) arg3 arg4 arg9 arg10 arg11 arg12 arg13 (k0_off7 i 1#32) (k0_off7_inb i 1) (k0_off8 i 1#32) (k0_off8_inb i 1) h_S1x128x128 h_S1x256x128 h_S256x128
  step 256 hi (c.rows 256 128) (some (mask 256 128 (rowWord i 256#32) (diagWord i 2#32))) arg3 arg4 arg9 arg10 arg11 arg12 arg13 (k0_off7 i 2#32) (k0_off7_inb i 2) (k0_off8 i 2#32) (k0_off8_inb i 2) h_S1x128x128 h_S1x128x128 h_S128x128

/-- The prologue's zeros at a head pair's first block; -/
def zeroFirst : Prog (TpuEff nD τ sig (Elt F) Λ₀ .tc) PUnit := if h : first i = 1#1 then zeroKeys arg12 arg13 else .ret ⟨⟩
/-- the steps at the row's start, where the block is not the first; -/
def maybeStart : Prog (TpuEff nD τ sig (Elt F) Λ₀ .tc) PUnit := if h : k0_cond2 i = 1#1 then startSteps i arg3 arg4 arg9 arg10 arg11 arg12 arg13 c else .ret ⟨⟩
/-- the odd group, where there is one; -/
def maybeOdd : Prog (TpuEff nD τ sig (Elt F) Λ₀ .tc) PUnit := if h : k0_cond3 i = 1#1 then oddSteps i arg3 arg4 arg9 arg10 arg11 arg12 arg13 c h else .ret ⟨⟩
/-- the keys' and values' gradients written out, at the last block. -/
def maybeKeys : Prog (TpuEff nD τ sig (Elt F) Λ₀ .tc) PUnit :=
  if h : k0_cond4 i = 1#1 then Scf.Loop.for k0_t3_loop (k0_t3_ok i h) ⟨⟩ fun t u => k0_t3_body i arg2 harg2 arg3 harg3 arg4 harg4 arg5 harg5 arg6 harg6 arg7 harg7 arg8 harg8 arg9 harg9 arg10 harg10 arg11 harg11 arg12 harg12 arg13 harg13 h t u else .ret ⟨⟩

/-- All the key blocks of a query block. -/
def blocks : Prog (TpuEff nD τ sig (Elt F) Λ₀ .tc) PUnit :=
  (maybeStart i arg3 arg4 arg9 arg10 arg11 arg12 arg13 c) >>= fun _ =>
  (Scf.Loop.for (k0_t1_loop i) (k0_t1_ok i) ⟨⟩ fun t _ => trip i arg3 arg4 arg9 arg10 arg11 arg12 arg13 c t) >>= fun _ =>
  (Scf.Loop.for (k0_t2_loop i) (k0_t2_ok i) ⟨⟩ fun t _ => trip2 i arg3 arg4 arg9 arg10 arg11 arg12 arg13 c t) >>= fun _ =>
  (maybeOdd i arg3 arg4 arg9 arg10 arg11 arg12 arg13 c) >>= fun _ => diagSteps i arg3 arg4 arg9 arg10 arg11 arg12 arg13 c

/-- The whole body. -/
def main : Prog (TpuEff nD τ sig (Elt F) Λ₀ .tc) PUnit :=
  (zeroFirst i arg12 arg13) >>= fun _ =>
  (Prog.lift (.load arg2 (Rect.unit (s := S1x384x128) ![0, 0, 0] S1x384x128.size inb_S1x384x128_S1x384x128_0_0_0).toLoadRect (View.loadsAt_vmem h_S1x384x128))) >>= fun q : Vec F S1x384x128 .bf16 =>
  (Prog.lift (.load arg5 (Rect.unit (s := S384x128) ![0, 0] S384x128.size inb_S384x128_S384x128_0_0).toLoadRect (View.loadsAt_vmem h_S384x128))) >>= fun d : Vec F S384x128 .bf16 =>
  (Prog.lift (.load arg6 (Rect.unit (s := S384x128) ![0, 0] S384x128.size inb_S384x128_S384x128_0_0).toLoadRect (View.loadsAt_vmem h_S384x128))) >>= fun lt : Vec F S384x128 .f32 =>
  (zeroRows arg9 arg10 arg11) >>= fun _ =>
  (blocks i arg3 arg4 arg9 arg10 arg11 arg12 arg13 (mkCtx q d lt)) >>= fun _ =>
  (writeRows i arg8 harg8 arg11) >>= fun _ =>
  maybeKeys i arg2 harg2 arg3 harg3 arg4 harg4 arg5 harg5 arg6 harg6 arg7 harg7 arg8 harg8 arg9 harg9 arg10 harg10 arg11 harg11 arg12 harg12 arg13 harg13

/-! The printed parts that hold a condition, each as its pieces. -/

abbrev Out75 (F : FTy → Type) := Σ' (arg1 : BitVec 32) (v13 : FVec F S256x256 .bf16) (v23 : FVec F S128x256 .bf16) (v29 : FVec F S384x128 .bf16) (v30 : Vec F S384x128 .bf16) (v31 : FVec F S128x384 .bf16) (v32 : FVec F S128x384 .bf16) (v35 : IVec S384x128 1), IVec S128x128 1
abbrev Out76 (F : FTy → Type) := Σ' (v42 : FVec F S384x128 .f32) (v43 : FVec F S384x128 .f32) (v60 : BitVec 32) (v61 : BitVec 32) (v72 : BitVec 1), BitVec 32

def part75 : Prog (TpuEff nD τ sig (Elt F) Λ₀ .tc) (Out75 F) := do
  if h : first i = 1#1 then zeroKeys arg12 arg13 else pure ⟨⟩
  let q : Vec F S1x384x128 .bf16 ← Prog.lift (.load arg2 (Rect.unit (s := S1x384x128) ![0, 0, 0] S1x384x128.size inb_S1x384x128_S1x384x128_0_0_0).toLoadRect (View.loadsAt_vmem h_S1x384x128))
  let d : Vec F S384x128 .bf16 ← Prog.lift (.load arg5 (Rect.unit (s := S384x128) ![0, 0] S384x128.size inb_S384x128_S384x128_0_0).toLoadRect (View.loadsAt_vmem h_S384x128))
  pure ⟨BitVec.ofNat 32 (i 1).val, concatenate (T2 256 256) 0 [⟨T2 128 256, tri .sle⟩, ⟨T2 128 256, tri .sle⟩] cat_um, tri .slt, scaled q, d,
    transpose (T2 128 384) [1, 0] (scaled q) tr_q, transpose (T2 128 384) [1, 0] (d : FVec F (T2 384 128) .bf16) tr_q, laneA,
    cmpi .slt (iota .tc (T2 128 128) 32 [0] i0_128) (broadcast (T2 128 128) 64#32)⟩

theorem part75_eq : k0_part75 (F := F) i arg2 harg2 arg3 harg3 arg4 harg4 arg5 harg5 arg6 harg6 arg7 harg7 arg8 harg8 arg9 harg9 arg10 harg10 arg11 harg11 arg12 harg12 arg13 harg13 =
    (zeroFirst i arg12 arg13) >>= fun _ =>
    (Prog.lift (.load arg2 (Rect.unit (s := S1x384x128) ![0, 0, 0] S1x384x128.size inb_S1x384x128_S1x384x128_0_0_0).toLoadRect (View.loadsAt_vmem h_S1x384x128))) >>= fun q : Vec F S1x384x128 .bf16 =>
    (Prog.lift (.load arg5 (Rect.unit (s := S384x128) ![0, 0] S384x128.size inb_S384x128_S384x128_0_0).toLoadRect (View.loadsAt_vmem h_S384x128))) >>= fun d : Vec F S384x128 .bf16 =>
    .ret ⟨BitVec.ofNat 32 (i 1).val, concatenate (T2 256 256) 0 [⟨T2 128 256, tri .sle⟩, ⟨T2 128 256, tri .sle⟩] cat_um, tri .slt, scaled q, d,
    transpose (T2 128 384) [1, 0] (scaled q) tr_q, transpose (T2 128 384) [1, 0] (d : FVec F (T2 384 128) .bf16) tr_q, laneA,
    cmpi .slt (iota .tc (T2 128 128) 32 [0] i0_128) (broadcast (T2 128 128) 64#32)⟩ := by
  refine Eq.trans (b := part75 i arg2 arg5 arg12 arg13) (by sl_kernel_rfl) ?_
  unfold part75 zeroFirst
  split <;> rfl

def ctx76 (v13 : FVec F S256x256 .bf16) (v23 : FVec F S128x256 .bf16) (v29 : FVec F S384x128 .bf16) (v30 : Vec F S384x128 .bf16) (v31 : FVec F S128x384 .bf16) (v32 : FVec F S128x384 .bf16) (v35 : IVec S384x128 1) (v38 : IVec S128x128 1) (lt : Vec F S384x128 .f32) : Attn.Ctx F 384 :=
  ⟨v13, v23, v38, v29, v30, v31, v32, select v35 (shapeCast (T2 384 128) lt self_384 : FVec F (T2 384 128) .f32) (swapped lt),
    select v35 (swapped lt) (shapeCast (T2 384 128) lt self_384 : FVec F (T2 384 128) .f32)⟩

def out76 (arg1 : BitVec 32) (a b : FVec F S384x128 .f32) : Out76 F :=
  ⟨a, b, Scalar.maxsi (Scalar.subi arg1 1#32) 0#32, Scalar.divsi (Scalar.maxsi (Scalar.subi arg1 1#32) 0#32) 2#32,
    Scalar.cmpi .ne (Scalar.subi (Scalar.extui (Scalar.cmpi .sgt (Scalar.maxsi (Scalar.subi arg1 1#32) 0#32) 0#32)) (Scalar.extui (Scalar.cmpi .slt (Scalar.maxsi (Scalar.subi arg1 1#32) 0#32) 0#32)))
      (Scalar.subi (Scalar.extui (Scalar.cmpi .sgt (2#32) 0#32) : BitVec 32) (Scalar.extui (Scalar.cmpi .slt (2#32) 0#32))),
    Scalar.remsi (Scalar.maxsi (Scalar.subi arg1 1#32) 0#32) 2#32⟩

def part76 (arg1 : BitVec 32) (v13 : FVec F S256x256 .bf16) (v23 : FVec F S128x256 .bf16) (v29 : FVec F S384x128 .bf16) (v30 : Vec F S384x128 .bf16) (v31 : FVec F S128x384 .bf16) (v32 : FVec F S128x384 .bf16) (v35 : IVec S384x128 1) (v38 : IVec S128x128 1) :
    Prog (TpuEff nD τ sig (Elt F) Λ₀ .tc) (Out76 F) := do
  let lt : Vec F S384x128 .f32 ← Prog.lift (.load arg6 (Rect.unit (s := S384x128) ![0, 0] S384x128.size inb_S384x128_S384x128_0_0).toLoadRect (View.loadsAt_vmem h_S384x128))
  zeroRows arg9 arg10 arg11
  if h : k0_cond2 i = 1#1 then startSteps i arg3 arg4 arg9 arg10 arg11 arg12 arg13 (ctx76 v13 v23 v29 v30 v31 v32 v35 v38 lt) else pure ⟨⟩
  pure (out76 arg1 (ctx76 v13 v23 v29 v30 v31 v32 v35 v38 lt).tot0 (ctx76 v13 v23 v29 v30 v31 v32 v35 v38 lt).tot1)

theorem part76_eq (v13 : FVec F S256x256 .bf16) (v23 : FVec F S128x256 .bf16) (v29 : FVec F S384x128 .bf16) (v30 : Vec F S384x128 .bf16) (v31 : FVec F S128x384 .bf16) (v32 : FVec F S128x384 .bf16) (v35 : IVec S384x128 1) (v38 : IVec S128x128 1) :
    k0_part76 (F := F) i arg2 harg2 arg3 harg3 arg4 harg4 arg5 harg5 arg6 harg6 arg7 harg7 arg8 harg8 arg9 harg9 arg10 harg10 arg11 harg11 arg12 harg12 arg13 harg13 (BitVec.ofNat 32 (i 1).val) v13 v23 v29 v30 v31 v32 v35 v38 =
    (Prog.lift (.load arg6 (Rect.unit (s := S384x128) ![0, 0] S384x128.size inb_S384x128_S384x128_0_0).toLoadRect (View.loadsAt_vmem h_S384x128))) >>= fun lt : Vec F S384x128 .f32 =>
    (zeroRows arg9 arg10 arg11) >>= fun _ =>
    (maybeStart i arg3 arg4 arg9 arg10 arg11 arg12 arg13 (ctx76 v13 v23 v29 v30 v31 v32 v35 v38 lt)) >>= fun _ =>
    .ret (out76 (BitVec.ofNat 32 (i 1).val) (ctx76 v13 v23 v29 v30 v31 v32 v35 v38 lt).tot0 (ctx76 v13 v23 v29 v30 v31 v32 v35 v38 lt).tot1) := by
  refine Eq.trans (b := part76 i arg3 arg4 arg6 arg9 arg10 arg11 arg12 arg13 (BitVec.ofNat 32 (i 1).val) v13 v23 v29 v30 v31 v32 v35 v38) (by sl_kernel_rfl) ?_
  unfold part76 maybeStart
  split <;> rfl

abbrev Out77 (F : FTy → Type) := Σ' (v101 : BitVec 32), Vec F S1x128x128 .bf16

def part77 : Prog (TpuEff nD τ sig (Elt F) Λ₀ .tc) (Out77 F) := do
  Scf.Loop.for (k0_t1_loop i) (k0_t1_ok i) ⟨⟩ fun t _ => trip i arg3 arg4 arg9 arg10 arg11 arg12 arg13 c t
  Scf.Loop.for (k0_t2_loop i) (k0_t2_ok i) ⟨⟩ fun t _ => trip2 i arg3 arg4 arg9 arg10 arg11 arg12 arg13 c t
  if h : k0_cond3 i = 1#1 then oddSteps i arg3 arg4 arg9 arg10 arg11 arg12 arg13 c h else pure ⟨⟩
  let k : Vec F S1x128x128 .bf16 ← Prog.lift (.load arg3 (Rect.unit (s := S1x4224x128) (k0_off7 i 0#32) S1x128x128.size (k0_off7_inb i 0)).toLoadRect (View.loadsAt_vmem h_S1x128x128))
  pure ⟨Scalar.addi (Scalar.muli 3#32 (BitVec.ofNat 32 (i 1).val)) 0#32, k⟩

theorem part77_eq (v60 v61 : BitVec 32) (v72 : BitVec 1) (v73 : BitVec 32) :
    k0_part77 (F := F) i arg2 harg2 arg3 harg3 arg4 harg4 arg5 harg5 arg6 harg6 arg7 harg7 arg8 harg8 arg9 harg9 arg10 harg10 arg11 harg11 arg12 harg12 arg13 harg13 (BitVec.ofNat 32 (i 1).val) c.um c.ug c.q c.dout c.qt c.dt c.lane c.tot0 c.tot1 v60 v61 v72 v73 =
    (Scf.Loop.for (k0_t1_loop i) (k0_t1_ok i) ⟨⟩ fun t _ => trip i arg3 arg4 arg9 arg10 arg11 arg12 arg13 c t) >>= fun _ =>
    (Scf.Loop.for (k0_t2_loop i) (k0_t2_ok i) ⟨⟩ fun t _ => trip2 i arg3 arg4 arg9 arg10 arg11 arg12 arg13 c t) >>= fun _ =>
    (maybeOdd i arg3 arg4 arg9 arg10 arg11 arg12 arg13 c) >>= fun _ =>
    (Prog.lift (.load arg3 (Rect.unit (s := S1x4224x128) (k0_off7 i 0#32) S1x128x128.size (k0_off7_inb i 0)).toLoadRect (View.loadsAt_vmem h_S1x128x128))) >>= fun k : Vec F S1x128x128 .bf16 =>
    .ret ⟨Scalar.addi (Scalar.muli 3#32 (BitVec.ofNat 32 (i 1).val)) 0#32, k⟩ := by
  refine Eq.trans (b := part77 i arg3 arg4 arg9 arg10 arg11 arg12 arg13 c) (by sl_kernel_rfl) ?_
  unfold part77 maybeOdd
  split <;> rfl

/-- The printed text of the last condition; it is `maybeKeys`. -/
def lastIf : Prog (TpuEff nD τ sig (Elt F) Λ₀ .tc) PUnit := do
  if h : k0_cond4 i = 1#1 then do
    Scf.Loop.for k0_t3_loop (k0_t3_ok i h) ⟨⟩ fun t u => k0_t3_body i arg2 harg2 arg3 harg3 arg4 harg4 arg5 harg5 arg6 harg6 arg7 harg7 arg8 harg8 arg9 harg9 arg10 harg10 arg11 harg11 arg12 harg12 arg13 harg13 h t u
    pure ⟨⟩
  else pure ⟨⟩
  pure ⟨⟩

theorem lastIf_eq : lastIf (F := F) i arg2 harg2 arg3 harg3 arg4 harg4 arg5 harg5 arg6 harg6 arg7 harg7 arg8 harg8 arg9 harg9 arg10 harg10 arg11 harg11 arg12 harg12 arg13 harg13 = maybeKeys i arg2 harg2 arg3 harg3 arg4 harg4 arg5 harg5 arg6 harg6 arg7 harg7 arg8 harg8 arg9 harg9 arg10 harg10 arg11 harg11 arg12 harg12 arg13 harg13 := by
  unfold lastIf maybeKeys
  split
  · exact (bind_assoc _ _ _).symm.trans ((bind_pure _).trans (bind_pure _))
  · rfl

/-- What follows the first diagonal block's keys. -/
def tailOf (arg1 v101 : BitVec 32) (c : Attn.Ctx F 384) (k : Vec F S1x128x128 .bf16) : Prog (TpuEff nD τ sig (Elt F) Λ₀ .tc) PUnit := do
  stepK 0 hi c (some (mask 0 384 (Scalar.addi (Scalar.muli arg1 384#32) 0#32) (Scalar.muli v101 128#32))) k arg4 arg9 arg10 arg11 arg12 arg13 (k0_off7 i 0#32) (k0_off7_inb i 0) (k0_off8 i 0#32) (k0_off8_inb i 0) h_S1x128x128 h_S1x384x128 h_S384x128
  step 128 hi (c.rows 128 256) (some (mask 128 256 (Scalar.addi (Scalar.muli arg1 384#32) 128#32) (Scalar.muli (Scalar.addi (Scalar.muli 3#32 arg1) 1#32) 128#32))) arg3 arg4 arg9 arg10 arg11 arg12 arg13 (k0_off7 i 1#32) (k0_off7_inb i 1) (k0_off8 i 1#32) (k0_off8_inb i 1) h_S1x128x128 h_S1x256x128 h_S256x128
  step 256 hi (c.rows 256 128) (some (mask 256 128 (Scalar.addi (Scalar.muli arg1 384#32) 256#32) (Scalar.muli (Scalar.addi (Scalar.muli 3#32 arg1) 2#32) 128#32))) arg3 arg4 arg9 arg10 arg11 arg12 arg13 (k0_off7 i 2#32) (k0_off7_inb i 2) (k0_off8 i 2#32) (k0_off8_inb i 2) h_S1x128x128 h_S1x128x128 h_S128x128
  writeRows i arg8 harg8 arg11
  lastIf i arg2 harg2 arg3 harg3 arg4 harg4 arg5 harg5 arg6 harg6 arg7 harg7 arg8 harg8 arg9 harg9 arg10 harg10 arg11 harg11 arg12 harg12 arg13 harg13

/-- The printed body over its three conditional parts. -/
theorem tail_eq : cc0_attn_bwd (F := F) i arg2 harg2 arg3 harg3 arg4 harg4 arg5 harg5 arg6 harg6 arg7 harg7 arg8 harg8 arg9 harg9 arg10 harg10 arg11 harg11 arg12 harg12 arg13 harg13 =
    (k0_part75 (F := F) i arg2 harg2 arg3 harg3 arg4 harg4 arg5 harg5 arg6 harg6 arg7 harg7 arg8 harg8 arg9 harg9 arg10 harg10 arg11 harg11 arg12 harg12 arg13 harg13) >>= fun ⟨arg1, v13, v23, v29, v30, v31, v32, v35, v38⟩ =>
    (k0_part76 (F := F) i arg2 harg2 arg3 harg3 arg4 harg4 arg5 harg5 arg6 harg6 arg7 harg7 arg8 harg8 arg9 harg9 arg10 harg10 arg11 harg11 arg12 harg12 arg13 harg13 arg1 v13 v23 v29 v30 v31 v32 v35 v38) >>= fun ⟨v42, v43, v60, v61, v72, v73⟩ =>
    (k0_part77 (F := F) i arg2 harg2 arg3 harg3 arg4 harg4 arg5 harg5 arg6 harg6 arg7 harg7 arg8 harg8 arg9 harg9 arg10 harg10 arg11 harg11 arg12 harg12 arg13 harg13 arg1 v13 v23 v29 v30 v31 v32 v38 v42 v43 v60 v61 v72 v73) >>= fun ⟨v101, v105⟩ =>
    tailOf i arg2 harg2 arg3 harg3 arg4 harg4 arg5 harg5 arg6 harg6 arg7 harg7 arg8 harg8 arg9 harg9 arg10 harg10 arg11 harg11 arg12 harg12 arg13 harg13 arg1 v101 ⟨v13, v23, v38, v29, v30, v31, v32, v42, v43⟩ v105 := by
  sl_kernel_rfl

theorem tail_main (k : Vec F S1x128x128 .bf16) :
    tailOf i arg2 harg2 arg3 harg3 arg4 harg4 arg5 harg5 arg6 harg6 arg7 harg7 arg8 harg8 arg9 harg9 arg10 harg10 arg11 harg11 arg12 harg12 arg13 harg13 (BitVec.ofNat 32 (i 1).val) (Scalar.addi (Scalar.muli 3#32 (BitVec.ofNat 32 (i 1).val)) 0#32) c k =
    diagRest i arg3 arg4 arg9 arg10 arg11 arg12 arg13 c k >>= fun _ => writeRows i arg8 harg8 arg11 >>= fun _ => maybeKeys i arg2 harg2 arg3 harg3 arg4 harg4 arg5 harg5 arg6 harg6 arg7 harg7 arg8 harg8 arg9 harg9 arg10 harg10 arg11 harg11 arg12 harg12 arg13 harg13 := by
  rw [← lastIf_eq]
  unfold tailOf diagRest
  simp only [bind_assoc]
  rfl

theorem body_eq : cc0_attn_bwd (F := F) i arg2 harg2 arg3 harg3 arg4 harg4 arg5 harg5 arg6 harg6 arg7 harg7 arg8 harg8 arg9 harg9 arg10 harg10 arg11 harg11 arg12 harg12 arg13 harg13 = main i arg2 harg2 arg3 harg3 arg4 harg4 arg5 harg5 arg6 harg6 arg7 harg7 arg8 harg8 arg9 harg9 arg10 harg10 arg11 harg11 arg12 harg12 arg13 harg13 := by
  rw [tail_eq, part75_eq]
  unfold main blocks diagSteps
  simp only [bind_assoc, Prog.bind_ret, part76_eq]
  refine congrArg _ (funext fun _ => congrArg _ (funext fun q => congrArg _ (funext fun d => congrArg _ (funext fun lt => congrArg _ (funext fun _ => congrArg _ (funext fun _ => ?_))))))
  refine (congrArg (fun p => p >>= _) (part77_eq i arg2 harg2 arg3 harg3 arg4 harg4 arg5 harg5 arg6 harg6 arg7 harg7 arg8 harg8 arg9 harg9 arg10 harg10 arg11 harg11 arg12 harg12 arg13 harg13 (mkCtx q d lt) _ _ _ _)).trans ?_
  simp only [bind_assoc, Prog.bind_ret]
  refine congrArg _ (funext fun _ => congrArg _ (funext fun _ => congrArg _ (funext fun _ => congrArg _ (funext fun k => ?_))))
  exact tail_main i arg2 harg2 arg3 harg3 arg4 harg4 arg5 harg5 arg6 harg6 arg7 harg7 arg8 harg8 arg9 harg9 arg10 harg10 arg11 harg11 arg12 harg12 arg13 harg13 (mkCtx q d lt) k

end Cert.KernelIdeal.Body
-- ==== Proof.Step.lean ====
/-
  The rule of a key block's step: a core that owns the blocks of keys and values and the five buffers at one state runs
  the step's loads and stores and owns the same at the next state.
-/
module

public import proofs.«01_k».proof.Proof.Core
public import Idealize.ShloMosaic.Lib.Memref

@[expose] public section

set_option maxRecDepth 16384

noncomputable section

namespace Cert.Attn

open Idealize.ShloMosaic Idealize.SL
open Idealize.SL.RA Idealize.SL.Sem Idealize.SL.ProofMode
open Idealize.SL.BI (sProp)
open scoped Idealize.SL.BI
open Idealize.SL.BI.BIBase Idealize.SL.BI.Laws

variable {nD : ℕ} {τ : Topo} {sig : RefSig} {Ix : Type} [DecidableEq Ix] {Name : Type} [DecidableEq Name]
  {U : Type} [URA U] {Lvl : Type} {Λ : Labels} [Preorder Lvl]

section Rules
variable {Val : EltTy → Type}
local notation "𝕄" => MT nD τ sig Ix Val Name U Lvl
variable {defs : Defs nD τ sig Val Λ} (𝒱 : Variants) (d : Dev nD) (bd : Option 𝒱.V) {Γ : PendingWaitsCtx sig Ix} (E : Set Name)

/-- One program after another. -/
theorem seq {α β : Type} {p : Prog (TpuEff nD τ sig Val Λ .tc) α} {k : α → Prog (TpuEff nD τ sig Val Λ .tc) β}
    {P : sProp 𝕄} {R : α → sProp 𝕄} {Q : β → sProp 𝕄}
    (hp : P ⊢ wp frame (wpE' defs 𝒱 (d.tc : Thread nD τ) bd Γ) E p R)
    (hk : ∀ x, R x ⊢ wp frame (wpE' defs 𝒱 (d.tc : Thread nD τ) bd Γ) E (k x) Q) :
    P ⊢ wp frame (wpE' defs 𝒱 (d.tc : Thread nD τ) bd Γ) E (p >>= k) Q :=
  by rw [wp_bind]; exact hp.trans (wp_mono _ _ _ hk)

/-- A program that only returns. -/
theorem fin {α : Type} {a : α} {Q : α → sProp 𝕄} {P : sProp 𝕄} (h : P ⊢ Q a) :
    P ⊢ wp frame (wpE' defs 𝒱 (d.tc : Thread nD τ) bd Γ) E (.ret a) Q :=
  h.trans (le_wp_ret _ _ _ a Q)

/-- A load of an owned array at a rectangle gives that part of it. -/
theorem own_load {s : Shape} {e : EltTy} {m : Memref sig .tc .vmem s e} {q : PosShare TreeShare} {X : s.Idx → Val e} {r : Rect s}
    {hl : m.view.LoadsAt r.toLoadRect} {α : Type} {k : (r.shape.Idx → Val e) → Prog (TpuEff nD τ sig Val Λ .tc) α} {Q : α → sProp 𝕄} :
    owns (d.tc : Thread nD τ) m q X
      ⊢ iprop((owns (d.tc : Thread nD τ) m q X -∗ wp frame (wpE' defs 𝒱 (d.tc : Thread nD τ) bd Γ) E (k (View.ld X r)) Q)
        -∗ wp frame (wpE' defs 𝒱 (d.tc : Thread nD τ) bd Γ) E (.op (.load m r.toLoadRect hl) k) Q) := by
  unfold owns
  iintro ⟨%f, %hf, H⟩ K
  have h := wp_load (defs := defs) (Ix := Ix) (Name := Name) (U := U) (Lvl := Lvl) 𝒱 (d.tc : Thread nD τ) bd (Γ := Γ) E (Q := Q) (m := m) (r := r.toLoadRect) (hl := hl) (k := k)
    (S := m.view.set) (q := q) (f := f) (m.view.setOn_subset_set _)
  iapply h $$ H
  iintro H
  rw [View.readAt_eq_ld, hf]
  iapply K
  iexists f
  isplitr
  · ipureintro; exact hf
  · iexact H

/-- A store into an owned array at a rectangle replaces that part of it. -/
theorem own_store {s : Shape} {e : EltTy} {m : Memref sig .tc .vmem s e} {X : s.Idx → Val e} {off size : Fin s.rank → ℕ}
    {inb : ∀ a, off a + size a ≤ s.size a} {w : (Rect.unit off size inb).shape.Idx → Val e}
    {hx : (m.access (Rect.unit off size inb)).Stores Finset.univ} {hm : Finset.univ = Finset.univ ∨ ∀ a, (Rect.unit off size inb).stride a = 1}
    {α : Type} {k : PUnit → Prog (TpuEff nD τ sig Val Λ .tc) α} {Q : α → sProp 𝕄} :
    owns (d.tc : Thread nD τ) m fullShare X
      ⊢ iprop((owns (d.tc : Thread nD τ) m fullShare (VecWindow.put X off size w) -∗ wp frame (wpE' defs 𝒱 (d.tc : Thread nD τ) bd Γ) E (k ⟨⟩) Q)
        -∗ wp frame (wpE' defs 𝒱 (d.tc : Thread nD τ) bd Γ) E (.op (.store m (Rect.unit off size inb) w Finset.univ hx hm) k) Q) := by
  unfold owns
  iintro ⟨%f, %hf, H⟩ K
  have h := wp_store (defs := defs) (Ix := Ix) (Name := Name) (U := U) (Lvl := Lvl) 𝒱 (d.tc : Thread nD τ) bd (Γ := Γ) E (Q := Q) (m := m) (r := Rect.unit off size inb) (w := w) (Mk := Finset.univ) (hx := hx) (hm := hm) (k := k)
    (S := m.view.set) (f := f) (m.view.set_slice_subset _)
  iapply h $$ H
  iintro H
  iapply K
  iexists (m.view.writes Val f [⟨Rect.unit off size inb, w⟩])
  isplitr
  · ipureintro
    rw [View.read_writes_cons_put m.view f inb w [] rfl]
    exact congrArg (fun z => VecWindow.put z off size w) hf
  · iexact H

/-- What a loop's rule asks of its end, where the invariant there is the postcondition. -/
theorem sep_intro_forall {α : Type} (P : sProp 𝕄) (a : α) (I : α → sProp 𝕄) : P ⊢ iprop(P ∗ ∀ x, I x -∗ I x) := by
  iintro H
  isplitl [H]
  · iexact H
  · iintro %x H
    iexact H

end Rules

section Step
variable {F : FTy → Type} [FloatOps F] {o n : ℕ} [Row o n]
local notation "𝕄" => MT nD τ sig Ix (Elt F) Name U Lvl
variable {defs : Defs nD τ sig (Elt F) Λ} (𝒱 : Variants) (d : Dev nD) (bd : Option 𝒱.V) {Γ : PendingWaitsCtx sig Ix} (E : Set Name)

variable (arg3 arg4 : Memref sig .tc .vmem (T3 1 4224 128) .bf16) (arg9 arg10 : Memref sig .tc .vmem (T3 2 384 128) .f32)
    (arg11 : Memref sig .tc .vmem (T2 384 128) .f32) (arg12 arg13 : Memref sig .tc .vmem (T3 33 128 128) .f32)

/-- The keys and values owned, and the five buffers at a state. -/
def ownSt (q3 q4 : PosShare TreeShare) (K V : Vec F (T3 1 4224 128) .bf16) (s : St F) : sProp 𝕄 :=
  iprop(owns (d.tc : Thread nD τ) arg3 q3 K ∗ owns (d.tc : Thread nD τ) arg4 q4 V ∗ owns (d.tc : Thread nD τ) arg9 fullShare s.psp ∗
    owns (d.tc : Thread nD τ) arg10 fullShare s.pg ∗ owns (d.tc : Thread nD τ) arg11 fullShare s.dq ∗
    owns (d.tc : Thread nD τ) arg12 fullShare s.dk ∗ owns (d.tc : Thread nD τ) arg13 fullShare s.dv)

/-- The state after a key block whose keys and values are at `offk` of `K` and `V`. -/
abbrev nextAt (o : ℕ) [Row o n] (hi : FVec F (T2 n 128) .f32 → FVec F (T2 n 128) .f32) (c : Ctx F n) (m : Option (IVec (T2 n 128) 1))
    (K V : Vec F (T3 1 4224 128) .bf16) (offk : Fin 3 → ℕ) (inbk : ∀ a, offk a + (T3 1 128 128).size a ≤ (T3 1 4224 128).size a)
    (off : Fin 3 → ℕ) (inb : ∀ a, off a + (T3 1 128 128).size a ≤ (T3 33 128 128).size a) (s : St F) : St F :=
  next o hi c m (View.ld K (Rect.unit (s := T3 1 4224 128) offk (T3 1 128 128).size inbk))
    (View.ld V (Rect.unit (s := T3 1 4224 128) offk (T3 1 128 128).size inbk)) off inb s

theorem step_spec (hi : FVec F (T2 n 128) .f32 → FVec F (T2 n 128) .f32) (c : Ctx F n) (m : Option (IVec (T2 n 128) 1))
    (q3 q4 : PosShare TreeShare) (K V : Vec F (T3 1 4224 128) .bf16)
    (offk : Fin 3 → ℕ) (inbk : ∀ a, offk a + (T3 1 128 128).size a ≤ (T3 1 4224 128).size a)
    (off : Fin 3 → ℕ) (inb : ∀ a, off a + (T3 1 128 128).size a ≤ (T3 33 128 128).size a)
    (hk : 0 < (T3 1 128 128).numel) (hn : 0 < (T3 1 n 128).numel) (hq : 0 < (T2 n 128).numel) (s : St F) :
    (ownSt d arg3 arg4 arg9 arg10 arg11 arg12 arg13 q3 q4 K V s : sProp 𝕄)
      ⊢ wp frame (wpE' defs 𝒱 (d.tc : Thread nD τ) bd Γ) E (step o hi c m arg3 arg4 arg9 arg10 arg11 arg12 arg13 offk inbk off inb hk hn hq)
        (fun _ => ownSt d arg3 arg4 arg9 arg10 arg11 arg12 arg13 q3 q4 K V (nextAt o hi c m K V offk inbk off inb s)) := by
  unfold ownSt step stepK
  simp only [Prog.bind_lift]
  unfold Prog.lift
  iintro ⟨HK, HV, H9, H10, H11, H12, H13⟩
  iapply own_load 𝒱 d bd E $$ HK; iintro HK
  iapply own_load 𝒱 d bd E $$ HV; iintro HV
  iapply own_load 𝒱 d bd E $$ H9; iintro H9
  iapply own_load 𝒱 d bd E $$ H10; iintro H10
  iapply own_load 𝒱 d bd E $$ H9; iintro H9
  iapply own_load 𝒱 d bd E $$ H9; iintro H9
  iapply own_store 𝒱 d bd E $$ H9; iintro H9
  iapply own_load 𝒱 d bd E $$ H10; iintro H10
  iapply own_load 𝒱 d bd E $$ H10; iintro H10
  iapply own_store 𝒱 d bd E $$ H10; iintro H10
  iapply own_load 𝒱 d bd E $$ H9; iintro H9
  iapply own_load 𝒱 d bd E $$ H10; iintro H10
  iapply own_load 𝒱 d bd E $$ H9; iintro H9
  iapply own_load 𝒱 d bd E $$ H9; iintro H9
  iapply own_store 𝒱 d bd E $$ H9; iintro H9
  iapply own_load 𝒱 d bd E $$ H10; iintro H10
  iapply own_load 𝒱 d bd E $$ H10; iintro H10
  iapply own_store 𝒱 d bd E $$ H10; iintro H10
  iapply own_load 𝒱 d bd E $$ H11; iintro H11
  iapply own_load 𝒱 d bd E $$ H11; iintro H11
  iapply own_store 𝒱 d bd E $$ H11; iintro H11
  iapply own_load 𝒱 d bd E $$ H12; iintro H12
  iapply own_load 𝒱 d bd E $$ H12; iintro H12
  iapply own_store 𝒱 d bd E $$ H12; iintro H12
  iapply own_load 𝒱 d bd E $$ H13; iintro H13
  iapply own_load 𝒱 d bd E $$ H13; iintro H13
  iapply own_store 𝒱 d bd E $$ H13; iintro H13
  rw [wp_ret]
  imodintro
  isplitl [HK]; · iexact HK
  isplitl [HV]; · iexact HV
  isplitl [H9]; · iexact H9
  isplitl [H10]; · iexact H10
  isplitl [H11]; · iexact H11
  isplitl [H12]; · iexact H12
  iexact H13

end Step

end Cert.Attn
-- ==== Proof.Sweep.lean ====
/-
  A query block's sweep over its key blocks, as a function of the block's number: `stepAt` is one key block's step, with
  the mask it is under, and `sweep` the state before key block `j`. Then what a query block leaves of the output.
-/
module

public import proofs.«01_k».proof.Proof.Step

@[expose] public section

set_option maxRecDepth 16384

noncomputable section

namespace Cert.Attn

open Idealize.ShloMosaic Idealize.SL

/-- A load of all of an array, and a store over all of it. -/
theorem ld_whole {Val : EltTy → Type} {e : EltTy} {s : Shape} (X : s.Idx → Val e) {off : Fin s.rank → ℕ} (inb : ∀ a, off a + s.size a ≤ s.size a)
    (h : ∀ a, off a = 0) : View.ld X (Rect.unit off s.size inb) = X :=
  funext fun y => congrArg X (funext fun a => Fin.ext (by show off a + 1 * (y a).val = (y a).val; rw [h]; omega))

theorem ld_off {Val : EltTy → Type} {e : EltTy} {s : Shape} (X : s.Idx → Val e) {off off' : Fin s.rank → ℕ} {size : Fin s.rank → ℕ}
    {inb : ∀ a, off a + size a ≤ s.size a} (inb' : ∀ a, off' a + size a ≤ s.size a)
    (h : off = off') : View.ld X (Rect.unit off size inb) = View.ld X (Rect.unit off' size inb') := by subst h; rfl

theorem put_whole {α : Type} {s : Shape} (X : s.Idx → α) {off : Fin s.rank → ℕ} (w : ((a : Fin s.rank) → Fin (s.size a)) → α)
    (h : ∀ a, off a = 0) : VecWindow.put X off s.size w = w := by
  have inb : ∀ a, off a + s.size a ≤ s.size a := fun a => by rw [h]; omega
  have hw := VecWindow.window_put_same X off s.size inb w
  funext y
  have e : (Rect.unit off s.size inb).emb y = y := funext fun a => Fin.ext (by show off a + 1 * (y a).val = (y a).val; rw [h]; omega)
  have := congrFun hw y
  rw [← this]
  show _ = VecWindow.put X off s.size w ((Rect.unit off s.size inb).emb y)
  rw [e]

variable {F : FTy → Type} [FloatOps F]

/-- Where key block `j` starts in the keys, and in the buffers of all keys. -/
def offK (j : ℕ) : Fin 3 → ℕ := ![0, 128 * j, 0]
def offJ (j : ℕ) : Fin 3 → ℕ := ![j, 0, 0]

theorem inbK {j : ℕ} (h : j < 33) : ∀ a, offK j a + (T3 1 128 128).size a ≤ (T3 1 4224 128).size a := by
  intro a; fin_cases a
  · show 0 + 1 ≤ 1; omega
  · show 128 * j + 128 ≤ 4224; omega
  · show 0 + 128 ≤ 128; omega
theorem inbJ {j : ℕ} (h : j < 33) : ∀ a, offJ j a + (T3 1 128 128).size a ≤ (T3 33 128 128).size a := by
  intro a; fin_cases a
  · show j + 1 ≤ 33; omega
  · show 0 + 128 ≤ 128; omega
  · show 0 + 128 ≤ 128; omega

/-- Query block `p`'s row `r`, and the first key of the diagonal's block `t`, as the words the masks compare. -/
def rowW (p : ℕ) (r : BitVec 32) : BitVec 32 := Scalar.addi (Scalar.muli (BitVec.ofNat 32 p) 384#32) r
def colW (p : ℕ) (t : BitVec 32) : BitVec 32 := Scalar.muli (Scalar.addi (Scalar.muli 3#32 (BitVec.ofNat 32 p)) t) 128#32

/-- The type of a function taking a value's high part. -/
abbrev Hi (F : FTy → Type) := ∀ n : ℕ, FVec F (T2 n 128) .f32 → FVec F (T2 n 128) .f32

/-- Key block `j`'s step of query block `p`. -/
def stepAt (hi : Hi F) (p : ℕ) (c : Ctx F 384) (K V : Vec F (T3 1 4224 128) .bf16) (j : ℕ) (s : St F) : St F :=
  if hj : j < 33 then
    if j < 3 * p then
      nextAt 0 (hi 384) c (if j = 0 then some (mask 0 384 (rowW p 0#32) 0#32) else none) K V (offK j) (inbK hj) (offJ j) (inbJ hj) s
    else if j = 3 * p then
      nextAt 0 (hi 384) c (some (mask 0 384 (rowW p 0#32) (colW p 0#32))) K V (offK j) (inbK hj) (offJ j) (inbJ hj) s
    else if j = 3 * p + 1 then
      nextAt 128 (hi 256) (c.rows 128 256) (some (mask 128 256 (rowW p 128#32) (colW p 1#32))) K V (offK j) (inbK hj) (offJ j) (inbJ hj) s
    else
      nextAt 256 (hi 128) (c.rows 256 128) (some (mask 256 128 (rowW p 256#32) (colW p 2#32))) K V (offK j) (inbK hj) (offJ j) (inbJ hj) s
  else s

/-- The state before key block `j`. -/
def sweep (hi : Hi F) (p : ℕ) (c : Ctx F 384) (K V : Vec F (T3 1 4224 128) .bf16) (s : St F) : ℕ → St F
  | 0 => s
  | j + 1 => stepAt hi p c K V j (sweep hi p c K V s j)

theorem sweep_first (hi : Hi F) {p : ℕ} (hp : 0 < p) (c : Ctx F 384) (K V : Vec F (T3 1 4224 128) .bf16) (s : St F) :
    stepAt hi p c K V 0 s = nextAt 0 (hi 384) c (some (mask 0 384 (rowW p 0#32) 0#32)) K V (offK 0) (inbK (by decide)) (offJ 0) (inbJ (by decide)) s := by
  unfold stepAt
  rw [dif_pos (by decide), if_pos (by omega), if_pos rfl]
theorem sweep_full (hi : Hi F) {p j : ℕ} (hj : j < 33) (h0 : 0 < j) (h : j < 3 * p) (c : Ctx F 384) (K V : Vec F (T3 1 4224 128) .bf16) (s : St F) :
    stepAt hi p c K V j s = nextAt 0 (hi 384) c none K V (offK j) (inbK hj) (offJ j) (inbJ hj) s := by
  unfold stepAt
  rw [dif_pos hj, if_pos h, if_neg (by omega)]
theorem sweep_diag0 (hi : Hi F) {p : ℕ} (hj : 3 * p < 33) (c : Ctx F 384) (K V : Vec F (T3 1 4224 128) .bf16) (s : St F) :
    stepAt hi p c K V (3 * p) s = nextAt 0 (hi 384) c (some (mask 0 384 (rowW p 0#32) (colW p 0#32))) K V (offK (3 * p)) (inbK hj) (offJ (3 * p)) (inbJ hj) s := by
  unfold stepAt
  rw [dif_pos hj, if_neg (by omega), if_pos rfl]
theorem sweep_diag1 (hi : Hi F) {p : ℕ} (hj : 3 * p + 1 < 33) (c : Ctx F 384) (K V : Vec F (T3 1 4224 128) .bf16) (s : St F) :
    stepAt hi p c K V (3 * p + 1) s = nextAt 128 (hi 256) (c.rows 128 256) (some (mask 128 256 (rowW p 128#32) (colW p 1#32))) K V (offK (3 * p + 1)) (inbK hj) (offJ (3 * p + 1)) (inbJ hj) s := by
  unfold stepAt
  rw [dif_pos hj, if_neg (by omega), if_neg (by omega), if_pos rfl]
theorem sweep_diag2 (hi : Hi F) {p : ℕ} (hj : 3 * p + 2 < 33) (c : Ctx F 384) (K V : Vec F (T3 1 4224 128) .bf16) (s : St F) :
    stepAt hi p c K V (3 * p + 2) s = nextAt 256 (hi 128) (c.rows 256 128) (some (mask 256 128 (rowW p 256#32) (colW p 2#32))) K V (offK (3 * p + 2)) (inbK hj) (offJ (3 * p + 2)) (inbJ hj) s := by
  unfold stepAt
  rw [dif_pos hj, if_neg (by omega), if_neg (by omega), if_neg (by omega)]

/-- The buffer of all keys at zero. -/
def zeroK : Vec F (T3 33 128 128) .f32 := fun _ => z32

/-- The state a query block starts from: its own buffers at zero, the keys' at zero at a head pair's first block. -/
def start (p : ℕ) (dk dv : Vec F (T3 33 128 128) .f32) : St F :=
  ⟨fun _ => z32, fun _ => z32, fun _ => z32, if p = 0 then zeroK else dk, if p = 0 then zeroK else dv⟩

/-- The state a query block leaves. -/
def done (hi : Hi F) (p : ℕ) (q : Vec F (T3 1 384 128) .bf16) (K V : Vec F (T3 1 4224 128) .bf16) (d : Vec F (T2 384 128) .bf16)
    (lt : Vec F (T2 384 128) .f32) (dk dv : Vec F (T3 33 128 128) .f32) : St F :=
  sweep hi p (mkCtx q d lt) K V (start p dk dv) (3 * p + 3)

theorem in_q : (T2 384 128).ShapeCasts (T3 1 384 128) := by decide
theorem tr_128 : (T2 128 128).Transposes [1, 0] (T2 128 128) := by decide

/-- The query block's gradient, scaled, rounded and cut as its rows of the output. -/
def rowsOut (d : Vec F (T2 384 128) .f32) : Vec F (T3 1 384 128) .bf16 :=
  shapeCast (T3 1 384 128) (truncf .bf16 (mulf (d : FVec F (T2 384 128) .f32) (broadcast (T2 384 128) (Scalar.ofBits .f32 0x3E000000#32))) bits_lt : FVec F (T2 384 128) .bf16) in_q

/-- Key block `b` of a buffer of all keys, transposed and rounded. -/
def keysOut (X : Vec F (T3 33 128 128) .f32) {b : ℕ} (hb : b < 33) : Vec F (T3 1 128 128) .bf16 :=
  shapeCast (T3 1 128 128) (truncf .bf16 (transpose (T2 128 128) [1, 0]
    (shapeCast (T2 128 128) (View.ld X (Rect.unit (s := T3 33 128 128) (offJ b) (T3 1 128 128).size (inbJ hb))) out_128 : FVec F (T2 128 128) .f32) tr_128) bits_lt : FVec F (T2 128 128) .bf16) in_128

/-- The output after `b` key blocks were written. -/
def putKeys (X : Vec F (T3 3 4224 128) .bf16) (dk dv : Vec F (T3 33 128 128) .f32) : ℕ → Vec F (T3 3 4224 128) .bf16
  | 0 => X
  | b + 1 => if hb : b < 33 then
      VecWindow.put (VecWindow.put (putKeys X dk dv b) ![1, 128 * b, 0] (T3 1 128 128).size (keysOut dk hb)) ![2, 128 * b, 0] (T3 1 128 128).size (keysOut dv hb)
    else putKeys X dk dv b

/-- The output after query block `p`: its rows, and at the last block the keys' and values' gradients. -/
def outAfter (p : ℕ) (X : Vec F (T3 3 4224 128) .bf16) (s : St F) : Vec F (T3 3 4224 128) .bf16 :=
  if p = 10 then putKeys (VecWindow.put X ![0, 384 * p, 0] (T3 1 384 128).size (rowsOut s.dq)) s.dk s.dv 33
  else VecWindow.put X ![0, 384 * p, 0] (T3 1 384 128).size (rowsOut s.dq)

end Cert.Attn
-- ==== Proof.KI.Offs.lean ====
/-
  Where the body's loads and stores of keys are, in the query block's number.
-/
module

public import proofs.«01_k».proof.Proof.Sweep
public import proofs.«01_k».proof.Proof.Gen.KernelIdeal.Skeleton

@[expose] public section

set_option maxRecDepth 65536

noncomputable section

namespace Cert.KernelIdeal.Body

open Cert.KernelIdeal Cert.KernelIdeal.Gen Cert.Attn
open Idealize.ShloMosaic Idealize.SL.Sem

theorem off1_eq : ∀ (i : grid0.Coords) (t : Fin (k0_t1_loop i).trips) (r : Fin 6), k0_off1 i t (BitVec.ofNat 32 r.val) = offK (6 * t.val + 3 + r.val) := by decide +kernel
theorem off2_eq : ∀ (i : grid0.Coords) (t : Fin (k0_t1_loop i).trips) (r : Fin 6), k0_off2 i t (BitVec.ofNat 32 r.val) = offJ (6 * t.val + 3 + r.val) := by decide +kernel
theorem off5_eq : ∀ (i : grid0.Coords), k0_cond3 i = 1#1 → ∀ (r : Fin 3), k0_off5 i (BitVec.ofNat 32 r.val) = offK (6 * (k0_t1_loop i).trips + 3 + r.val) := by decide +kernel
theorem off6_eq : ∀ (i : grid0.Coords), k0_cond3 i = 1#1 → ∀ (r : Fin 3), k0_off6 i (BitVec.ofNat 32 r.val) = offJ (6 * (k0_t1_loop i).trips + 3 + r.val) := by decide +kernel
theorem off7_eq : ∀ (i : grid0.Coords) (r : Fin 3), k0_off7 i (BitVec.ofNat 32 r.val) = offK (3 * (i 1).val + r.val) := by decide +kernel
theorem off8_eq : ∀ (i : grid0.Coords) (r : Fin 3), k0_off8 i (BitVec.ofNat 32 r.val) = offJ (3 * (i 1).val + r.val) := by decide +kernel
theorem off9_eq : ∀ (i : grid0.Coords), k0_off9 i = ![0, 384 * (i 1).val, 0] := by decide +kernel
theorem off10_eq : ∀ t : Fin k0_t3_loop.trips, k0_off10 t = offJ t.val := by decide +kernel
theorem off11_eq : ∀ t : Fin k0_t3_loop.trips, k0_off11 t = ![1, 128 * t.val, 0] := by decide +kernel
theorem off12_eq : ∀ t : Fin k0_t3_loop.trips, k0_off12 t = ![2, 128 * t.val, 0] := by decide +kernel
theorem trips3 : k0_t3_loop.trips = 33 := by decide +kernel
theorem cond2_pos : ∀ i : grid0.Coords, k0_cond2 i = 1#1 → 0 < (i 1).val := by decide +kernel
theorem cond2_neg : ∀ i : grid0.Coords, ¬ k0_cond2 i = 1#1 → (i 1).val = 0 := by decide +kernel
theorem odd_pos : ∀ i : grid0.Coords, k0_cond3 i = 1#1 → k0_cond2 i = 1#1 ∧ 6 * (k0_t1_loop i).trips + 6 = 3 * (i 1).val := by decide +kernel
theorem odd_neg : ∀ i : grid0.Coords, ¬ k0_cond3 i = 1#1 → k0_cond2 i = 1#1 → 6 * (k0_t1_loop i).trips + 3 = 3 * (i 1).val := by decide +kernel
theorem trips_zero : ∀ i : grid0.Coords, ¬ k0_cond2 i = 1#1 → (k0_t1_loop i).trips = 0 ∧ ¬ k0_cond3 i = 1#1 := by decide +kernel
theorem trips_le : ∀ i : grid0.Coords, ∀ t : Fin (k0_t1_loop i).trips, 6 * t.val + 9 ≤ 3 * (i 1).val ∧ k0_cond2 i = 1#1 := by decide +kernel
theorem trips2 : ∀ i : grid0.Coords, (k0_t2_loop i).trips = 0 := by decide +kernel
theorem cond4_iff : ∀ i : grid0.Coords, k0_cond4 i = 1#1 ↔ (i 1).val = 10 := by decide +kernel
theorem first_iff : ∀ i : grid0.Coords, Scalar.cmpi .ne (Scalar.extui (Scalar.cmpi .eq (BitVec.ofNat 32 (i 1).val) 0#32) : BitVec 32) 0#32 = 1#1 ↔ (i 1).val = 0 := by decide +kernel
theorem block_lt (i : grid0.Coords) : (i 1).val < 11 := (i 1).isLt

end Cert.KernelIdeal.Body
-- ==== Proof.KI.Run.lean ====
/-
  What the body of a query block does: from its operands owned at `Q`, `K`, `V`, `D`, `L`, the output at `X` and the
  buffers at anything, it leaves the output at `outAfter` of the sweep over the key blocks.
-/
module

public import proofs.«01_k».proof.Proof.KI.Body
public import proofs.«01_k».proof.Proof.KI.Offs
public import Idealize.ShloMosaic.Lib.LoopRemainder

@[expose] public section

set_option maxRecDepth 65536

noncomputable section

namespace Cert.KernelIdeal.Body

open Cert.KernelIdeal Cert.KernelIdeal.Gen Cert.Attn
open Idealize.ShloMosaic Idealize.SL
open Idealize.SL.RA Idealize.SL.Sem Idealize.SL.ProofMode
open Idealize.SL.BI (sProp)
open scoped Idealize.SL.BI
open Idealize.SL.BI.BIBase Idealize.SL.BI.Laws

variable {F : FTy → Type} [FloatOps F]
variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (d : Dev nD) (bd : Option 𝒱.V) {Γ : PendingWaitsCtx sig Ix} (E : Set Name)

/-- The high part of a value at each width, as the step takes it. -/
abbrev hi' : Hi F := fun n => hi (n := n)

variable (i : grid0.Coords) (arg3 : Memref sig .tc .vmem S1x4224x128 .bf16) (arg4 : Memref sig .tc .vmem S1x4224x128 .bf16) (arg9 : Memref sig .tc .vmem S2x384x128 .f32) (arg10 : Memref sig .tc .vmem S2x384x128 .f32) (arg11 : Memref sig .tc .vmem S384x128 .f32) (arg12 : Memref sig .tc .vmem S33x128x128 .f32) (arg13 : Memref sig .tc .vmem S33x128x128 .f32)
variable (q3 q4 : PosShare TreeShare) (K V : Vec F (T3 1 4224 128) .bf16) (c : Attn.Ctx F 384)

/-- The keys, the values and the five buffers owned, the latter at a state. -/
abbrev own (s : St F) : sProp 𝕄 := ownSt d arg3 arg4 arg9 arg10 arg11 arg12 arg13 q3 q4 K V s

/-- A step at offsets equal to a key block's. -/
theorem at_block {o n : ℕ} [Row o n] (h : FVec F (T2 n 128) .f32 → FVec F (T2 n 128) .f32) (c : Attn.Ctx F n) (m : Option (IVec (T2 n 128) 1)) (j : ℕ) (hj : j < 33)
    {offk : Fin 3 → ℕ} (ek : offk = offK j) (inbk : ∀ a, offk a + (T3 1 128 128).size a ≤ (T3 1 4224 128).size a)
    {off : Fin 3 → ℕ} (eo : off = offJ j) (inb : ∀ a, off a + (T3 1 128 128).size a ≤ (T3 33 128 128).size a)
    (hk : 0 < (T3 1 128 128).numel) (hn : 0 < (T3 1 n 128).numel) (hq : 0 < (T2 n 128).numel) {s s' : St F}
    (hs : s' = nextAt o h c m K V (offK j) (inbK hj) (offJ j) (inbJ hj) s) :
    (own d arg3 arg4 arg9 arg10 arg11 arg12 arg13 q3 q4 K V s : sProp 𝕄)
      ⊢ wp frame (wpE' defs 𝒱 (d.tc : Thread nD τ) bd Γ) E (step o h c m arg3 arg4 arg9 arg10 arg11 arg12 arg13 offk inbk off inb hk hn hq)
        (fun _ => own d arg3 arg4 arg9 arg10 arg11 arg12 arg13 q3 q4 K V s') := by
  subst ek eo hs
  exact step_spec 𝒱 d bd E arg3 arg4 arg9 arg10 arg11 arg12 arg13 h c m q3 q4 K V (offK j) inbk (offJ j) inb hk hn hq s

variable (s : St F)

theorem startSteps_spec (h : k0_cond2 i = 1#1) :
    (own d arg3 arg4 arg9 arg10 arg11 arg12 arg13 q3 q4 K V (sweep hi' (i 1).val c K V s 0) : sProp 𝕄)
      ⊢ wp frame (wpE' defs 𝒱 (d.tc : Thread nD τ) bd Γ) E (startSteps i arg3 arg4 arg9 arg10 arg11 arg12 arg13 c)
        (fun _ => own d arg3 arg4 arg9 arg10 arg11 arg12 arg13 q3 q4 K V (sweep hi' (i 1).val c K V s 3)) := by
  have hp := cond2_pos i h
  have hb := block_lt i
  unfold startSteps
  refine seq 𝒱 d bd E (at_block 𝒱 d bd E arg3 arg4 arg9 arg10 arg11 arg12 arg13 q3 q4 K V _ _ _ 0 (by omega) rfl _ rfl _ _ _ _ (sweep_first hi' hp c K V _)) fun _ => ?_
  refine seq 𝒱 d bd E (at_block 𝒱 d bd E arg3 arg4 arg9 arg10 arg11 arg12 arg13 q3 q4 K V _ _ _ 1 (by omega) rfl _ rfl _ _ _ _ (sweep_full hi' (p := (i 1).val) (j := 1) (by omega) (by omega) (by omega) c K V _)) fun _ => ?_
  refine seq 𝒱 d bd E (at_block 𝒱 d bd E arg3 arg4 arg9 arg10 arg11 arg12 arg13 q3 q4 K V _ _ _ 2 (by omega) rfl _ rfl _ _ _ _ (sweep_full hi' (p := (i 1).val) (j := 2) (by omega) (by omega) (by omega) c K V _)) fun _ => ?_
  exact fin 𝒱 d bd E .rfl

theorem trip_spec (t : Fin (k0_t1_loop i).trips) :
    (own d arg3 arg4 arg9 arg10 arg11 arg12 arg13 q3 q4 K V (sweep hi' (i 1).val c K V s (6 * t.val + 3)) : sProp 𝕄)
      ⊢ wp frame (wpE' defs 𝒱 (d.tc : Thread nD τ) bd Γ) E (trip i arg3 arg4 arg9 arg10 arg11 arg12 arg13 c t)
        (fun _ => own d arg3 arg4 arg9 arg10 arg11 arg12 arg13 q3 q4 K V (sweep hi' (i 1).val c K V s (6 * (t.val + 1) + 3))) := by
  have ht := (trips_le i t).1
  have hb := block_lt i
  unfold trip
  refine seq 𝒱 d bd E (at_block 𝒱 d bd E arg3 arg4 arg9 arg10 arg11 arg12 arg13 q3 q4 K V _ _ _ (6 * t.val + 3 + 0) (by omega) (off1_eq i t 0) _ (off2_eq i t 0) _ _ _ _ (sweep_full hi' (p := (i 1).val) (j := (6 * t.val + 3 + 0)) (by omega) (by omega) (by omega) c K V _)) fun _ => ?_
  refine seq 𝒱 d bd E (at_block 𝒱 d bd E arg3 arg4 arg9 arg10 arg11 arg12 arg13 q3 q4 K V _ _ _ (6 * t.val + 3 + 1) (by omega) (off1_eq i t 1) _ (off2_eq i t 1) _ _ _ _ (sweep_full hi' (p := (i 1).val) (j := (6 * t.val + 3 + 1)) (by omega) (by omega) (by omega) c K V _)) fun _ => ?_
  refine seq 𝒱 d bd E (at_block 𝒱 d bd E arg3 arg4 arg9 arg10 arg11 arg12 arg13 q3 q4 K V _ _ _ (6 * t.val + 3 + 2) (by omega) (off1_eq i t 2) _ (off2_eq i t 2) _ _ _ _ (sweep_full hi' (p := (i 1).val) (j := (6 * t.val + 3 + 2)) (by omega) (by omega) (by omega) c K V _)) fun _ => ?_
  refine seq 𝒱 d bd E (at_block 𝒱 d bd E arg3 arg4 arg9 arg10 arg11 arg12 arg13 q3 q4 K V _ _ _ (6 * t.val + 3 + 3) (by omega) (off1_eq i t 3) _ (off2_eq i t 3) _ _ _ _ (sweep_full hi' (p := (i 1).val) (j := (6 * t.val + 3 + 3)) (by omega) (by omega) (by omega) c K V _)) fun _ => ?_
  refine seq 𝒱 d bd E (at_block 𝒱 d bd E arg3 arg4 arg9 arg10 arg11 arg12 arg13 q3 q4 K V _ _ _ (6 * t.val + 3 + 4) (by omega) (off1_eq i t 4) _ (off2_eq i t 4) _ _ _ _ (sweep_full hi' (p := (i 1).val) (j := (6 * t.val + 3 + 4)) (by omega) (by omega) (by omega) c K V _)) fun _ => ?_
  refine seq 𝒱 d bd E (at_block 𝒱 d bd E arg3 arg4 arg9 arg10 arg11 arg12 arg13 q3 q4 K V _ _ _ (6 * t.val + 3 + 5) (by omega) (off1_eq i t 5) _ (off2_eq i t 5) _ _ _ _ (sweep_full hi' (p := (i 1).val) (j := (6 * t.val + 3 + 5)) (by omega) (by omega) (by omega) c K V _)) fun _ => ?_
  exact fin 𝒱 d bd E .rfl

theorem oddSteps_spec (h : k0_cond3 i = 1#1) :
    (own d arg3 arg4 arg9 arg10 arg11 arg12 arg13 q3 q4 K V (sweep hi' (i 1).val c K V s (6 * (k0_t1_loop i).trips + 3)) : sProp 𝕄)
      ⊢ wp frame (wpE' defs 𝒱 (d.tc : Thread nD τ) bd Γ) E (oddSteps i arg3 arg4 arg9 arg10 arg11 arg12 arg13 c h)
        (fun _ => own d arg3 arg4 arg9 arg10 arg11 arg12 arg13 q3 q4 K V (sweep hi' (i 1).val c K V s (6 * (k0_t1_loop i).trips + 6))) := by
  have ho := (odd_pos i h).2
  have hb := block_lt i
  unfold oddSteps
  refine seq 𝒱 d bd E (at_block 𝒱 d bd E arg3 arg4 arg9 arg10 arg11 arg12 arg13 q3 q4 K V _ _ _ (6 * (k0_t1_loop i).trips + 3 + 0) (by omega) (off5_eq i h 0) _ (off6_eq i h 0) _ _ _ _ (sweep_full hi' (p := (i 1).val) (j := (6 * (k0_t1_loop i).trips + 3 + 0)) (by omega) (by omega) (by omega) c K V _)) fun _ => ?_
  refine seq 𝒱 d bd E (at_block 𝒱 d bd E arg3 arg4 arg9 arg10 arg11 arg12 arg13 q3 q4 K V _ _ _ (6 * (k0_t1_loop i).trips + 3 + 1) (by omega) (off5_eq i h 1) _ (off6_eq i h 1) _ _ _ _ (sweep_full hi' (p := (i 1).val) (j := (6 * (k0_t1_loop i).trips + 3 + 1)) (by omega) (by omega) (by omega) c K V _)) fun _ => ?_
  refine seq 𝒱 d bd E (at_block 𝒱 d bd E arg3 arg4 arg9 arg10 arg11 arg12 arg13 q3 q4 K V _ _ _ (6 * (k0_t1_loop i).trips + 3 + 2) (by omega) (off5_eq i h 2) _ (off6_eq i h 2) _ _ _ _ (sweep_full hi' (p := (i 1).val) (j := (6 * (k0_t1_loop i).trips + 3 + 2)) (by omega) (by omega) (by omega) c K V _)) fun _ => ?_
  exact fin 𝒱 d bd E .rfl

theorem diagSteps_spec :
    (own d arg3 arg4 arg9 arg10 arg11 arg12 arg13 q3 q4 K V (sweep hi' (i 1).val c K V s (3 * (i 1).val)) : sProp 𝕄)
      ⊢ wp frame (wpE' defs 𝒱 (d.tc : Thread nD τ) bd Γ) E (diagSteps i arg3 arg4 arg9 arg10 arg11 arg12 arg13 c)
        (fun _ => own d arg3 arg4 arg9 arg10 arg11 arg12 arg13 q3 q4 K V (sweep hi' (i 1).val c K V s (3 * (i 1).val + 3))) := by
  have hb := block_lt i
  show _ ⊢ wp frame (wpE' defs 𝒱 (d.tc : Thread nD τ) bd Γ) E (diagAll i arg3 arg4 arg9 arg10 arg11 arg12 arg13 c) _
  unfold diagAll
  refine seq 𝒱 d bd E (at_block 𝒱 d bd E arg3 arg4 arg9 arg10 arg11 arg12 arg13 q3 q4 K V _ _ _ (3 * (i 1).val) (by omega) (off7_eq i 0) _ (off8_eq i 0) _ _ _ _ (sweep_diag0 hi' (by omega) c K V _)) fun _ => ?_
  refine seq 𝒱 d bd E (at_block 𝒱 d bd E arg3 arg4 arg9 arg10 arg11 arg12 arg13 q3 q4 K V _ _ _ (3 * (i 1).val + 1) (by omega) (off7_eq i 1) _ (off8_eq i 1) _ _ _ _ (sweep_diag1 hi' (by omega) c K V _)) fun _ => ?_
  exact at_block 𝒱 d bd E arg3 arg4 arg9 arg10 arg11 arg12 arg13 q3 q4 K V _ _ _ (3 * (i 1).val + 2) (by omega) (off7_eq i 2) _ (off8_eq i 2) _ _ _ _ (sweep_diag2 hi' (by omega) c K V _)

theorem blocks_spec :
    (own d arg3 arg4 arg9 arg10 arg11 arg12 arg13 q3 q4 K V s : sProp 𝕄)
      ⊢ wp frame (wpE' defs 𝒱 (d.tc : Thread nD τ) bd Γ) E (blocks i arg3 arg4 arg9 arg10 arg11 arg12 arg13 c)
        (fun _ => own d arg3 arg4 arg9 arg10 arg11 arg12 arg13 q3 q4 K V (sweep hi' (i 1).val c K V s (3 * (i 1).val + 3))) := by
  unfold blocks
  by_cases h2 : k0_cond2 i = 1#1
  · refine seq 𝒱 d bd E (R := fun _ => own d arg3 arg4 arg9 arg10 arg11 arg12 arg13 q3 q4 K V (sweep hi' (i 1).val c K V s 3)) ?_ fun _ => ?_
    · unfold maybeStart; rw [dif_pos h2]; exact startSteps_spec 𝒱 d bd E i arg3 arg4 arg9 arg10 arg11 arg12 arg13 q3 q4 K V c s h2
    refine seq 𝒱 d bd E (R := fun _ => own d arg3 arg4 arg9 arg10 arg11 arg12 arg13 q3 q4 K V (sweep hi' (i 1).val c K V s (6 * (k0_t1_loop i).trips + 3))) ?_ fun _ => ?_
    · refine (sep_intro_forall _ (⟨⟩ : PUnit) _).trans (Scf.wp_for frame (wpE' defs 𝒱 (d.tc : Thread nD τ) bd Γ) E _ _ _ (k0_t1_ok i) ⟨⟩ _
        (fun n _ => own d arg3 arg4 arg9 arg10 arg11 arg12 arg13 q3 q4 K V (sweep hi' (i 1).val c K V s (6 * n + 3)))
        (fun t _ => trip_spec 𝒱 d bd E i arg3 arg4 arg9 arg10 arg11 arg12 arg13 q3 q4 K V c s t))
    refine seq 𝒱 d bd E (R := fun _ => own d arg3 arg4 arg9 arg10 arg11 arg12 arg13 q3 q4 K V (sweep hi' (i 1).val c K V s (6 * (k0_t1_loop i).trips + 3))) ?_ fun _ => ?_
    · rw [show Scf.Loop.for (k0_t2_loop i) (k0_t2_ok i) ⟨⟩ (fun t _ => trip2 i arg3 arg4 arg9 arg10 arg11 arg12 arg13 c t) = .ret ⟨⟩ from Scf.for_eq_ret _ _ _ _ _ _ (trips2 i)]
      exact fin 𝒱 d bd E .rfl
    refine seq 𝒱 d bd E (R := fun _ => own d arg3 arg4 arg9 arg10 arg11 arg12 arg13 q3 q4 K V (sweep hi' (i 1).val c K V s (3 * (i 1).val))) ?_ fun _ => diagSteps_spec 𝒱 d bd E i arg3 arg4 arg9 arg10 arg11 arg12 arg13 q3 q4 K V c s
    unfold maybeOdd
    by_cases h3 : k0_cond3 i = 1#1
    · rw [dif_pos h3, ← (odd_pos i h3).2]
      exact oddSteps_spec 𝒱 d bd E i arg3 arg4 arg9 arg10 arg11 arg12 arg13 q3 q4 K V c s h3
    · rw [dif_neg h3, odd_neg i h3 h2]
      exact fin 𝒱 d bd E .rfl
  · have h0 := cond2_neg i h2
    refine seq 𝒱 d bd E (R := fun _ => own d arg3 arg4 arg9 arg10 arg11 arg12 arg13 q3 q4 K V s) ?_ fun _ => ?_
    · unfold maybeStart; rw [dif_neg h2]; exact fin 𝒱 d bd E .rfl
    refine seq 𝒱 d bd E (R := fun _ => own d arg3 arg4 arg9 arg10 arg11 arg12 arg13 q3 q4 K V s) ?_ fun _ => ?_
    · rw [show Scf.Loop.for (k0_t1_loop i) (k0_t1_ok i) ⟨⟩ (fun t _ => trip i arg3 arg4 arg9 arg10 arg11 arg12 arg13 c t) = .ret ⟨⟩ from Scf.for_eq_ret _ _ _ _ _ _ (trips_zero i h2).1]
      exact fin 𝒱 d bd E .rfl
    refine seq 𝒱 d bd E (R := fun _ => own d arg3 arg4 arg9 arg10 arg11 arg12 arg13 q3 q4 K V s) ?_ fun _ => ?_
    · rw [show Scf.Loop.for (k0_t2_loop i) (k0_t2_ok i) ⟨⟩ (fun t _ => trip2 i arg3 arg4 arg9 arg10 arg11 arg12 arg13 c t) = .ret ⟨⟩ from Scf.for_eq_ret _ _ _ _ _ _ (trips2 i)]
      exact fin 𝒱 d bd E .rfl
    refine seq 𝒱 d bd E (R := fun _ => own d arg3 arg4 arg9 arg10 arg11 arg12 arg13 q3 q4 K V s) ?_ fun _ => ?_
    · unfold maybeOdd; rw [dif_neg (trips_zero i h2).2]; exact fin 𝒱 d bd E .rfl
    have h := diagSteps_spec (F := F) (Ix := Ix) (Name := Name) (U := U) (Lvl := Lvl) (defs := defs) 𝒱 d bd (Γ := Γ) E i arg3 arg4 arg9 arg10 arg11 arg12 arg13 q3 q4 K V c s
    rw [h0] at h ⊢
    exact h

end Cert.KernelIdeal.Body
-- ==== Proof.KI.Main.lean ====
/-
  The whole body of a query block, from its operands and buffers to the output and buffers it leaves.
-/
module

public import proofs.«01_k».proof.Proof.KI.Run

@[expose] public section

set_option maxRecDepth 65536

noncomputable section

namespace Cert.KernelIdeal.Body

open Cert.KernelIdeal Cert.KernelIdeal.Gen Cert.Attn
open Idealize.ShloMosaic Idealize.SL
open Idealize.SL.RA Idealize.SL.Sem Idealize.SL.ProofMode
open Idealize.SL.BI (sProp)
open scoped Idealize.SL.BI
open Idealize.SL.BI.BIBase Idealize.SL.BI.Laws

variable {F : FTy → Type} [FloatOps F]

/-- One trip of the loop that writes the keys' and values' gradients out. -/
def trip3 (i : grid0.Coords) (arg8 : Memref sig .tc .vmem S3x4224x128 .bf16) (harg8 : arg8.IsWhole) (arg12 arg13 : Memref sig .tc .vmem S33x128x128 .f32)
    (h : k0_cond4 i = 1#1) (t : Fin k0_t3_loop.trips) : Prog (TpuEff nD τ sig (Elt F) Λ₀ .tc) PUnit := do
  let x : Vec F S1x128x128 .f32 ← Prog.lift (.load arg12 (Rect.unit (s := S33x128x128) (k0_off10 t) S1x128x128.size (k0_off10_inb i t h)).toLoadRect (View.loadsAt_vmem h_S1x128x128))
  let _ : Vec F S1x128x128 .bf16 ← Prog.lift (.load arg8 (Rect.unit (s := S3x4224x128) (k0_off11 t) S1x128x128.size (k0_off11_inb i t h)).toLoadRect (View.loadsAt_vmem h_S1x128x128))
  Prog.lift (.store arg8 (Rect.unit (s := S3x4224x128) (k0_off11 t) S1x128x128.size (k0_off11_inb i t h)) (shapeCast S1x128x128 (truncf .bf16 (transpose S128x128 [1, 0] (shapeCast S128x128 x shapeCasts_S1x128x128_S128x128 : FVec F S128x128 .f32) transposes_S128x128_p1_0_S128x128) bitsLt_bf16_f32 : FVec F S128x128 .bf16) shapeCasts_S128x128_S1x128x128 : Vec F S1x128x128 .bf16) Finset.univ (View.stores_vmem h_S1x128x128 (harg8.storeExact_slice rfl _ (k0_off11_packedbf16 i t h)) (fun _ => rfl)) (.inl rfl))
  let x : Vec F S1x128x128 .f32 ← Prog.lift (.load arg13 (Rect.unit (s := S33x128x128) (k0_off10 t) S1x128x128.size (k0_off10_inb i t h)).toLoadRect (View.loadsAt_vmem h_S1x128x128))
  let _ : Vec F S1x128x128 .bf16 ← Prog.lift (.load arg8 (Rect.unit (s := S3x4224x128) (k0_off12 t) S1x128x128.size (k0_off12_inb i t h)).toLoadRect (View.loadsAt_vmem h_S1x128x128))
  Prog.lift (.store arg8 (Rect.unit (s := S3x4224x128) (k0_off12 t) S1x128x128.size (k0_off12_inb i t h)) (shapeCast S1x128x128 (truncf .bf16 (transpose S128x128 [1, 0] (shapeCast S128x128 x shapeCasts_S1x128x128_S128x128 : FVec F S128x128 .f32) transposes_S128x128_p1_0_S128x128) bitsLt_bf16_f32 : FVec F S128x128 .bf16) shapeCasts_S128x128_S1x128x128 : Vec F S1x128x128 .bf16) Finset.univ (View.stores_vmem h_S1x128x128 (harg8.storeExact_slice rfl _ (k0_off12_packedbf16 i t h)) (fun _ => rfl)) (.inl rfl))
  pure ⟨⟩

theorem trip3_eq (i : grid0.Coords) (arg2 : Memref sig .tc .vmem S1x384x128 .bf16) (harg2 : arg2.IsWhole) (arg3 : Memref sig .tc .vmem S1x4224x128 .bf16) (harg3 : arg3.IsWhole) (arg4 : Memref sig .tc .vmem S1x4224x128 .bf16) (harg4 : arg4.IsWhole) (arg5 : Memref sig .tc .vmem S384x128 .bf16) (harg5 : arg5.IsWhole) (arg6 : Memref sig .tc .vmem S384x128 .f32) (harg6 : arg6.IsWhole) (arg7 : Memref sig .tc .hbm S8x4224x1024 .bf16) (harg7 : arg7.IsWhole) (arg8 : Memref sig .tc .vmem S3x4224x128 .bf16) (harg8 : arg8.IsWhole) (arg9 : Memref sig .tc .vmem S2x384x128 .f32) (harg9 : arg9.IsWhole) (arg10 : Memref sig .tc .vmem S2x384x128 .f32) (harg10 : arg10.IsWhole) (arg11 : Memref sig .tc .vmem S384x128 .f32) (harg11 : arg11.IsWhole) (arg12 : Memref sig .tc .vmem S33x128x128 .f32) (harg12 : arg12.IsWhole) (arg13 : Memref sig .tc .vmem S33x128x128 .f32) (harg13 : arg13.IsWhole) (h : k0_cond4 i = 1#1) (t : Fin k0_t3_loop.trips) (u : Unit) :
    k0_t3_body (F := F) i arg2 harg2 arg3 harg3 arg4 harg4 arg5 harg5 arg6 harg6 arg7 harg7 arg8 harg8 arg9 harg9 arg10 harg10 arg11 harg11 arg12 harg12 arg13 harg13 h t u = trip3 i arg8 harg8 arg12 arg13 h t := by sl_kernel_rfl

variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ₀} (𝒱 : Variants) (d : Dev nD) (bd : Option 𝒱.V) {Γ : PendingWaitsCtx sig Ix} (E : Set Name)
variable (i : grid0.Coords) (arg2 : Memref sig .tc .vmem S1x384x128 .bf16) (harg2 : arg2.IsWhole) (arg3 : Memref sig .tc .vmem S1x4224x128 .bf16) (harg3 : arg3.IsWhole) (arg4 : Memref sig .tc .vmem S1x4224x128 .bf16) (harg4 : arg4.IsWhole) (arg5 : Memref sig .tc .vmem S384x128 .bf16) (harg5 : arg5.IsWhole) (arg6 : Memref sig .tc .vmem S384x128 .f32) (harg6 : arg6.IsWhole) (arg7 : Memref sig .tc .hbm S8x4224x1024 .bf16) (harg7 : arg7.IsWhole) (arg8 : Memref sig .tc .vmem S3x4224x128 .bf16) (harg8 : arg8.IsWhole) (arg9 : Memref sig .tc .vmem S2x384x128 .f32) (harg9 : arg9.IsWhole) (arg10 : Memref sig .tc .vmem S2x384x128 .f32) (harg10 : arg10.IsWhole) (arg11 : Memref sig .tc .vmem S384x128 .f32) (harg11 : arg11.IsWhole) (arg12 : Memref sig .tc .vmem S33x128x128 .f32) (harg12 : arg12.IsWhole) (arg13 : Memref sig .tc .vmem S33x128x128 .f32) (harg13 : arg13.IsWhole)

theorem zeroFirst_spec (dk dv : Vec F S33x128x128 .f32) :
    (iprop(owns (d.tc : Thread nD τ) arg12 fullShare dk ∗ owns (d.tc : Thread nD τ) arg13 fullShare dv) : sProp 𝕄)
      ⊢ wp frame (wpE' defs 𝒱 (d.tc : Thread nD τ) bd Γ) E (zeroFirst i arg12 arg13)
        (fun _ => iprop(owns (d.tc : Thread nD τ) arg12 fullShare (if (i 1).val = 0 then zeroK else dk) ∗ owns (d.tc : Thread nD τ) arg13 fullShare (if (i 1).val = 0 then zeroK else dv))) := by
  unfold zeroFirst
  by_cases h : first i = 1#1
  · rw [dif_pos h, if_pos ((first_iff i).1 h), if_pos ((first_iff i).1 h)]
    unfold zeroKeys
    simp only [Prog.bind_lift]
    try unfold Prog.lift
    iintro ⟨H12, H13⟩
    iapply own_load 𝒱 d bd E $$ H12; iintro H12
    iapply own_store 𝒱 d bd E $$ H12; iintro H12
    iapply own_load 𝒱 d bd E $$ H13; iintro H13
    iapply own_store 𝒱 d bd E $$ H13; iintro H13
    rw [put_whole dk _ (by intro a; fin_cases a <;> rfl), put_whole dv _ (by intro a; fin_cases a <;> rfl)]
    iapply fin 𝒱 d bd E .rfl
    isplitl [H12]; · iexact H12
    iexact H13
  · rw [dif_neg h, if_neg fun e => h ((first_iff i).2 e), if_neg fun e => h ((first_iff i).2 e)]
    exact fin 𝒱 d bd E .rfl

theorem zeroRows_spec (psp pg : Vec F S2x384x128 .f32) (dq : Vec F S384x128 .f32) :
    (iprop(owns (d.tc : Thread nD τ) arg9 fullShare psp ∗ owns (d.tc : Thread nD τ) arg10 fullShare pg ∗ owns (d.tc : Thread nD τ) arg11 fullShare dq) : sProp 𝕄)
      ⊢ wp frame (wpE' defs 𝒱 (d.tc : Thread nD τ) bd Γ) E (zeroRows arg9 arg10 arg11)
        (fun _ => iprop(owns (d.tc : Thread nD τ) arg9 fullShare (fun _ => z32) ∗ owns (d.tc : Thread nD τ) arg10 fullShare (fun _ => z32) ∗ owns (d.tc : Thread nD τ) arg11 fullShare (fun _ => z32))) := by
  unfold zeroRows
  simp only [Prog.bind_lift]
  try unfold Prog.lift
  iintro ⟨H9, H10, H11⟩
  iapply own_load 𝒱 d bd E $$ H9; iintro H9
  iapply own_store 𝒱 d bd E $$ H9; iintro H9
  iapply own_load 𝒱 d bd E $$ H10; iintro H10
  iapply own_store 𝒱 d bd E $$ H10; iintro H10
  iapply own_load 𝒱 d bd E $$ H11; iintro H11
  iapply own_store 𝒱 d bd E $$ H11; iintro H11
  rw [put_whole psp _ (by intro a; fin_cases a <;> rfl), put_whole pg _ (by intro a; fin_cases a <;> rfl), put_whole dq _ (by intro a; fin_cases a <;> rfl)]
  iapply fin 𝒱 d bd E .rfl
  isplitl [H9]; · iexact H9
  isplitl [H10]; · iexact H10
  iexact H11

theorem writeRows_spec (X : Vec F S3x4224x128 .bf16) (dq : Vec F S384x128 .f32) :
    (iprop(owns (d.tc : Thread nD τ) arg8 fullShare X ∗ owns (d.tc : Thread nD τ) arg11 fullShare dq) : sProp 𝕄)
      ⊢ wp frame (wpE' defs 𝒱 (d.tc : Thread nD τ) bd Γ) E (writeRows i arg8 harg8 arg11)
        (fun _ => iprop(owns (d.tc : Thread nD τ) arg8 fullShare (VecWindow.put X ![0, 384 * (i 1).val, 0] (T3 1 384 128).size (Attn.rowsOut dq)) ∗ owns (d.tc : Thread nD τ) arg11 fullShare dq)) := by
  unfold writeRows
  simp only [Prog.bind_lift]
  try unfold Prog.lift
  iintro ⟨H8, H11⟩
  iapply own_load 𝒱 d bd E $$ H11; iintro H11
  iapply own_load 𝒱 d bd E $$ H8; iintro H8
  iapply own_store 𝒱 d bd E $$ H8; iintro H8
  rw [ld_whole dq _ (by intro a; fin_cases a <;> rfl), off9_eq i]
  iapply fin 𝒱 d bd E .rfl
  isplitl [H8]; · iexact H8
  iexact H11

theorem trip3_spec (h : k0_cond4 i = 1#1) (t : Fin k0_t3_loop.trips) (X : Vec F S3x4224x128 .bf16) (dk dv : Vec F S33x128x128 .f32) :
    (iprop(owns (d.tc : Thread nD τ) arg8 fullShare (putKeys X dk dv t.val) ∗ owns (d.tc : Thread nD τ) arg12 fullShare dk ∗ owns (d.tc : Thread nD τ) arg13 fullShare dv) : sProp 𝕄)
      ⊢ wp frame (wpE' defs 𝒱 (d.tc : Thread nD τ) bd Γ) E (trip3 i arg8 harg8 arg12 arg13 h t)
        (fun _ => iprop(owns (d.tc : Thread nD τ) arg8 fullShare (putKeys X dk dv (t.val + 1)) ∗ owns (d.tc : Thread nD τ) arg12 fullShare dk ∗ owns (d.tc : Thread nD τ) arg13 fullShare dv)) := by
  have ht : t.val < 33 := lt_of_lt_of_eq t.isLt trips3
  rw [show putKeys X dk dv (t.val + 1) = _ from dif_pos ht]
  unfold trip3 keysOut
  simp only [Prog.bind_lift]
  simp only [← off11_eq t, ← off12_eq t]
  try unfold Prog.lift
  iintro ⟨H8, H12, H13⟩
  iapply own_load 𝒱 d bd E $$ H12; iintro H12
  iapply own_load 𝒱 d bd E $$ H8; iintro H8
  iapply own_store 𝒱 d bd E $$ H8; iintro H8
  iapply own_load 𝒱 d bd E $$ H13; iintro H13
  iapply own_load 𝒱 d bd E $$ H8; iintro H8
  iapply own_store 𝒱 d bd E $$ H8; iintro H8
  rw [ld_off dk (inbJ ht) (off10_eq t), ld_off dv (inbJ ht) (off10_eq t)]
  iapply fin 𝒱 d bd E .rfl
  isplitl [H8]; · iexact H8
  isplitl [H12]; · iexact H12
  iexact H13

theorem maybeKeys_spec (X : Vec F S3x4224x128 .bf16) (s : St F) :
    (iprop(owns (d.tc : Thread nD τ) arg8 fullShare (VecWindow.put X ![0, 384 * (i 1).val, 0] (T3 1 384 128).size (Attn.rowsOut s.dq)) ∗ owns (d.tc : Thread nD τ) arg12 fullShare s.dk ∗ owns (d.tc : Thread nD τ) arg13 fullShare s.dv) : sProp 𝕄)
      ⊢ wp frame (wpE' defs 𝒱 (d.tc : Thread nD τ) bd Γ) E (maybeKeys i arg2 harg2 arg3 harg3 arg4 harg4 arg5 harg5 arg6 harg6 arg7 harg7 arg8 harg8 arg9 harg9 arg10 harg10 arg11 harg11 arg12 harg12 arg13 harg13)
        (fun _ => iprop(owns (d.tc : Thread nD τ) arg8 fullShare (outAfter (i 1).val X s) ∗ owns (d.tc : Thread nD τ) arg12 fullShare s.dk ∗ owns (d.tc : Thread nD τ) arg13 fullShare s.dv)) := by
  unfold maybeKeys outAfter
  by_cases h : k0_cond4 i = 1#1
  · rw [dif_pos h, if_pos ((cond4_iff i).1 h)]
    simp only [trip3_eq]
    have hl := Scf.wp_for frame (wpE' defs 𝒱 (d.tc : Thread nD τ) bd Γ) E _ _ _ (k0_t3_ok i h) (⟨⟩ : PUnit) (fun t _ => trip3 (F := F) i arg8 harg8 arg12 arg13 h t)
        (fun n _ => (iprop(owns (d.tc : Thread nD τ) arg8 fullShare (putKeys (VecWindow.put X ![0, 384 * (i 1).val, 0] (T3 1 384 128).size (Attn.rowsOut s.dq)) s.dk s.dv n) ∗ owns (d.tc : Thread nD τ) arg12 fullShare s.dk ∗ owns (d.tc : Thread nD τ) arg13 fullShare s.dv) : sProp 𝕄))
        (fun t _ => trip3_spec 𝒱 d bd E i arg8 harg8 arg12 arg13 h t _ _ _) (Q := fun _ => iprop(owns (d.tc : Thread nD τ) arg8 fullShare (putKeys (VecWindow.put X ![0, 384 * (i 1).val, 0] (T3 1 384 128).size (Attn.rowsOut s.dq)) s.dk s.dv k0_t3_loop.trips) ∗ owns (d.tc : Thread nD τ) arg12 fullShare s.dk ∗ owns (d.tc : Thread nD τ) arg13 fullShare s.dv))
    rw [← trips3]
    exact (sep_intro_forall _ (⟨⟩ : PUnit) _).trans hl
  · rw [dif_neg h, if_neg fun e => h ((cond4_iff i).2 e)]
    exact fin 𝒱 d bd E .rfl

variable (q2 q3 q4 q5 q6 : PosShare TreeShare) (Q : Vec F S1x384x128 .bf16) (K V : Vec F S1x4224x128 .bf16) (D : Vec F S384x128 .bf16) (L : Vec F S384x128 .f32)

/-- What a query block's body holds: its operands, the output at `X`, the buffers at `s`. -/
def held (X : Vec F S3x4224x128 .bf16) (s : St F) : sProp 𝕄 :=
  iprop(owns (d.tc : Thread nD τ) arg2 q2 Q ∗ owns (d.tc : Thread nD τ) arg5 q5 D ∗ owns (d.tc : Thread nD τ) arg6 q6 L ∗
    owns (d.tc : Thread nD τ) arg8 fullShare X ∗ ownSt d arg3 arg4 arg9 arg10 arg11 arg12 arg13 q3 q4 K V s)

theorem main_spec (X : Vec F S3x4224x128 .bf16) (s : St F) :
    (held d arg2 arg3 arg4 arg5 arg6 arg8 arg9 arg10 arg11 arg12 arg13 q2 q3 q4 q5 q6 Q K V D L X s : sProp 𝕄)
      ⊢ wp frame (wpE' defs 𝒱 (d.tc : Thread nD τ) bd Γ) E (cc0_attn_bwd i arg2 harg2 arg3 harg3 arg4 harg4 arg5 harg5 arg6 harg6 arg7 harg7 arg8 harg8 arg9 harg9 arg10 harg10 arg11 harg11 arg12 harg12 arg13 harg13)
        (fun _ => held d arg2 arg3 arg4 arg5 arg6 arg8 arg9 arg10 arg11 arg12 arg13 q2 q3 q4 q5 q6 Q K V D L
          (outAfter (i 1).val X (done hi' (i 1).val Q K V D L s.dk s.dv)) (done hi' (i 1).val Q K V D L s.dk s.dv)) := by
  rw [body_eq]
  unfold main held ownSt
  iintro ⟨H2, H5, H6, H8, H3, H4, H9, H10, H11, H12, H13⟩
  rw [wp_bind]
  iapply wp_wand_r
  isplitl [H12 H13]
  · iapply zeroFirst_spec 𝒱 d bd E i arg12 arg13 s.dk s.dv
    isplitl [H12] <;> iassumption
  iintro %_ ⟨H12, H13⟩
  simp only [Prog.bind_lift]
  iapply own_load 𝒱 d bd E $$ H2; iintro H2
  iapply own_load 𝒱 d bd E $$ H5; iintro H5
  iapply own_load 𝒱 d bd E $$ H6; iintro H6
  rw [ld_whole Q _ (by intro a; fin_cases a <;> rfl), ld_whole D _ (by intro a; fin_cases a <;> rfl), ld_whole L _ (by intro a; fin_cases a <;> rfl)]
  rw [wp_bind]
  iapply wp_wand_r
  isplitl [H9 H10 H11]
  · iapply zeroRows_spec 𝒱 d bd E arg9 arg10 arg11 s.psp s.pg s.dq
    isplitl [H9]; · iexact H9
    isplitl [H10] <;> iassumption
  iintro %_ ⟨H9, H10, H11⟩
  rw [wp_bind]
  iapply wp_wand_r
  isplitl [H3 H4 H9 H10 H11 H12 H13]
  · iapply blocks_spec 𝒱 d bd E i arg3 arg4 arg9 arg10 arg11 arg12 arg13 q3 q4 K V (mkCtx Q D L) (start (i 1).val s.dk s.dv)
    unfold own ownSt start
    isplitl [H3]; · iexact H3
    isplitl [H4]; · iexact H4
    isplitl [H9]; · iexact H9
    isplitl [H10]; · iexact H10
    isplitl [H11]; · iexact H11
    isplitl [H12]; · iexact H12
    iexact H13
  iintro %_ H
  unfold own ownSt
  icases H with ⟨H3, H4, H9, H10, H11, H12, H13⟩
  rw [wp_bind]
  iapply wp_wand_r
  isplitl [H8 H11]
  · iapply writeRows_spec 𝒱 d bd E i arg8 harg8 arg11 X (done hi' (i 1).val Q K V D L s.dk s.dv).dq
    isplitl [H8]; · iexact H8
    iexact H11
  iintro %_ ⟨H8, H11⟩
  iapply wp_wand_r
  isplitl [H8 H12 H13]
  · iapply maybeKeys_spec 𝒱 d bd E i arg2 harg2 arg3 harg3 arg4 harg4 arg5 harg5 arg6 harg6 arg7 harg7 arg8 harg8 arg9 harg9 arg10 harg10 arg11 harg11 arg12 harg12 arg13 harg13 X (done hi' (i 1).val Q K V D L s.dk s.dv)
    isplitl [H8]; · iexact H8
    isplitl [H12]; · iexact H12
    iexact H13
  iintro %_ ⟨H8, H12, H13⟩
  isplitl [H2]; · iexact H2
  isplitl [H5]; · iexact H5
  isplitl [H6]; · iexact H6
  isplitl [H8]; · iexact H8
  isplitl [H3]; · iexact H3
  isplitl [H4]; · iexact H4
  isplitl [H9]; · iexact H9
  isplitl [H10]; · iexact H10
  isplitl [H11]; · iexact H11
  isplitl [H12]; · iexact H12
  iexact H13

end Cert.KernelIdeal.Body
-- ==== Proof.KI.Points.lean ====
/-
  The pipeline over the query blocks: what each point leaves in the buffers, the run of @main, and the frame.
-/
module

public import proofs.«01_k».proof.Proof.KI.Main
public import proofs.«01_k».proof.Proof.Gen.KernelIdeal.Frame

@[expose] public section

set_option maxRecDepth 65536

noncomputable section

namespace Cert.KernelIdeal.Body

open Cert.KernelIdeal Cert.KernelIdeal.Gen Cert.Attn
open Idealize.ShloMosaic Idealize.ShloMosaic.TcCoe Idealize.SL
open Idealize.SL.RA Idealize.SL.Sem Idealize.SL.ProofMode
open Idealize.SL.BI (sProp)
open scoped Idealize.SL.BI
open Idealize.SL.BI.BIBase Idealize.SL.BI.Laws
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands at a point, and what the points leave -/

def qAt (c : Dev nD) (t : Fin cfg0.N) : Vec F S1x384x128 .bf16 := iblk m c 0 t
def kAt (c : Dev nD) (t : Fin cfg0.N) : Vec F S1x4224x128 .bf16 := iblk m c 1 t
def vAt (c : Dev nD) (t : Fin cfg0.N) : Vec F S1x4224x128 .bf16 := iblk m c 2 t
def dAt (c : Dev nD) (t : Fin cfg0.N) : Vec F S384x128 .bf16 := iblk m c 3 t
def lAt (c : Dev nD) (t : Fin cfg0.N) : Vec F S384x128 .f32 := iblk m c 4 t

/-- The query block of a point. -/
def blockAt (t : Fin cfg0.N) : ℕ := ((grid0.coords t) 1).val

/-- Buffers all of zeros. -/
def blank : St F := ⟨fun _ => z32, fun _ => z32, fun _ => z32, zeroK, zeroK⟩

/-- The buffers after point `t`, which found the buffers at `s`. -/
def leaves (c : Dev nD) (t : Fin cfg0.N) (s : St F) : St F :=
  done hi' (blockAt t) (qAt m c t) (kAt m c t) (vAt m c t) (dAt m c t) (lAt m c t) s.dk s.dv

/-- The buffers before point `n`, for `n` above zero. -/
def track (c : Dev nD) : ℕ → St F
  | 0 => blank
  | n + 1 => if h : n < 88 then leaves m c ⟨n, h⟩ (track c n) else blank

theorem blockAt_eq (t : Fin cfg0.N) : blockAt t = t.val % 11 :=
  (Pipeline.Grid.coords_val (G := grid0) t (1 : Fin 2) (S := 1) (B := 11) (by decide) (by decide)).trans (by rw [Nat.div_one])

theorem leaves_first (c : Dev nD) (t : Fin cfg0.N) (h : t.val = 0) (s s' : St F) : leaves m c t s = leaves m c t s' := by
  unfold leaves done start
  rw [blockAt_eq, h]
  rfl

/-- The five buffers the body carries from point to point, at `s`. -/
def carried (c : Dev nD) (s : St F) : sProp 𝕄 :=
  iprop(owns (c.tc : Thread nD τ) (Memref.whole cc0_scratch0) fullShare s.psp ∗ owns (c.tc : Thread nD τ) (Memref.whole cc0_scratch1) fullShare s.pg
    ∗ owns (c.tc : Thread nD τ) (Memref.whole cc0_scratch2) fullShare s.dq ∗ owns (c.tc : Thread nD τ) (Memref.whole cc0_scratch3) fullShare s.dk
    ∗ owns (c.tc : Thread nD τ) (Memref.whole cc0_scratch4) fullShare s.dv)

/-- What the pipeline is told of each point: the five operands are left as found, the output is overwritten by the
    point's rows (and by the keys at the last query block), the buffers are at `track`. -/
def rdat (c : Dev nD) : RDat τ (Elt F) Unit ℕ (UR sig nD τ) ℕ cfg0 c where
  A w := V m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun t (Y : Vec F S3x4224x128 .bf16) (X : Vec F S3x4224x128 .bf16) => X = outAfter (blockAt t) Y (track m c (t.val + 1))
    | ⟨_ + 6, h⟩ => absurd h (Nat.not_lt.2 (Nat.le_add_left _ _))
  Φ n := iprop(∃ s : St F, ⌜n.val ≠ 0 → s = track m c n.val⌝ ∗ carried c s ∗ ∃ r, prngReg c r)
  q w := Pipeline.shareOf spec0 w
  owed _ := 0

section
variable (c : Dev nD) (t : Fin cfg0.N)
theorem finds0 (Y) (h : (rdat m c).Finds 0 t Y) : Y = qAt m c t := by
  obtain ⟨d, e⟩ := (rdat m c).finds_in_eq_fetched 0 rfl (fun _ _ _ => rfl) (fun _ _ _ e => e) t Y h; exact e
theorem finds1 (Y) (h : (rdat m c).Finds 1 t Y) : Y = kAt m c t := by
  obtain ⟨d, e⟩ := (rdat m c).finds_in_eq_fetched 1 rfl (fun _ _ _ => rfl) (fun _ _ _ e => e) t Y h; exact e
theorem finds2 (Y) (h : (rdat m c).Finds 2 t Y) : Y = vAt m c t := by
  obtain ⟨d, e⟩ := (rdat m c).finds_in_eq_fetched 2 rfl (fun _ _ _ => rfl) (fun _ _ _ e => e) t Y h; exact e
theorem finds3 (Y) (h : (rdat m c).Finds 3 t Y) : Y = dAt m c t := by
  obtain ⟨d, e⟩ := (rdat m c).finds_in_eq_fetched 3 rfl (fun _ _ _ => rfl) (fun _ _ _ e => e) t Y h; exact e
theorem finds4 (Y) (h : (rdat m c).Finds 4 t Y) : Y = lAt m c t := by
  obtain ⟨d, e⟩ := (rdat m c).finds_in_eq_fetched 4 rfl (fun _ _ _ => rfl) (fun _ _ _ e => e) t Y h; exact e
end

theorem track_succ (c : Dev nD) (t : Fin cfg0.N) (s : St F) (h : t.val ≠ 0 → s = track m c t.val) :
    leaves m c t s = track m c (t.val + 1) := by
  have e : track m c (t.val + 1) = leaves m c t (track m c t.val) := dif_pos (lt_of_lt_of_eq t.isLt N_0)
  rw [e]
  by_cases h0 : t.val = 0
  · exact leaves_first m c t h0 _ _
  · rw [h h0]

theorem phi_succ (c : Dev nD) (t : Fin cfg0.N) :
    (iprop(carried c (track m c (t.val + 1)) ∗ ∃ r, prngReg c r) : sProp 𝕄) ⊢ (rdat m c).Φ t.succ := by
  show _ ⊢ iprop(∃ s : St F, ⌜t.succ.val ≠ 0 → s = track m c t.succ.val⌝ ∗ carried c s ∗ ∃ r, prngReg c r)
  iintro H
  iexists track m c (t.val + 1)
  isplitr; · ipureintro; exact fun _ => rfl
  iexact H

theorem to_owns (c : Dev nD) (b : Ref sig .tc) (f : b.ty.Contents (Elt F)) :
    ((c.tc : Thread nD τ).loc b ↦{fullShare} f : sProp 𝕄) ⊢ owns (c.tc : Thread nD τ) (Memref.whole b) fullShare f := by
  rw [owns_whole]

theorem of_owns (c : Dev nD) (b : Ref sig .tc) (f : b.ty.Contents (Elt F)) :
    (owns (c.tc : Thread nD τ) (Memref.whole b) fullShare f : sProp 𝕄) ⊢ ((c.tc : Thread nD τ).loc b ↦{fullShare} f) := by
  rw [owns_whole]

theorem body_at (c : Dev nD) : (rdat m c).BodyObligation defs₀ Variants.none () Set.univ := by
  intro t Y hY
  have e0 := finds0 m c t _ (hY 0)
  have e1 := finds1 m c t _ (hY 1)
  have e2 := finds2 m c t _ (hY 2)
  have e3 := finds3 m c t _ (hY 3)
  have e4 := finds4 m c t _ (hY 4)
  rw [bigSep_W0, bigSep_W0]
  show iprop((∃ s : St F, ⌜t.val ≠ 0 → s = track m c t.val⌝ ∗ carried c s ∗ ∃ r, prngReg c r) ∗ (rdat m c).owesAt () t.castSucc ∗ _)
    ⊢ wp frame (wpE' defs₀ Variants.none (c.tc : Thread nD τ) none PendingWaitsCtx.empty) Set.univ (bodyAt0 t) _
  unfold bodyAt0
  iintro ⟨⟨%s, %hs, HC, HR⟩, HO, H0, H1, H2, H3, H4, H5⟩
  unfold carried
  icases HC with ⟨C0, C1, C2, C3, C4⟩
  iapply wp_wand_r
  isplitl [C0 C1 C2 C3 C4 H0 H1 H2 H3 H4 H5]
  · iapply main_spec Variants.none c none Set.univ (grid0.coords t) _ _ _ _ _ _ _ _ _ _ _ _ _ _ _ _ _ _ _ _ _ _ _ _ fullShare fullShare fullShare fullShare fullShare (Y 0) (Y 1) (Y 2) (Y 3) (Y 4) (Y 5) s
    unfold held ownSt
    isplitl [H0]; · iexact H0
    isplitl [H3]; · iexact H3
    isplitl [H4]; · iexact H4
    isplitl [H5]; · iexact H5
    isplitl [H1]; · iexact H1
    isplitl [H2]; · iexact H2
    isplitl [C0]; · iexact C0
    isplitl [C1]; · iexact C1
    isplitl [C2]; · iexact C2
    isplitl [C3]; · iexact C3
    iexact C4
  have hd : done hi' ((grid0.coords t) 1).val (Y 0) (Y 1) (Y 2) (Y 3) (Y 4) s.dk s.dv = track m c (t.val + 1) := by
    rw [← track_succ m c t s hs, e0, e1, e2, e3, e4]; rfl
  rw [hd]
  unfold held ownSt
  iintro %_ ⟨H0, H3, H4, H5, H1, H2, C0, C1, C2, C3, C4⟩
  isplitl [C0 C1 C2 C3 C4 HR]
  · iapply phi_succ m c t
    isplitr [HR]
    · unfold carried
      isplitl [C0]; · iexact C0
      isplitl [C1]; · iexact C1
      isplitl [C2]; · iexact C2
      isplitl [C3]; · iexact C3
      iexact C4
    iexact HR
  isplitl [HO]; · iexact HO
  isplitl [H0]; · iexists (Y 0); isplitr; (· ipureintro; exact rfl); iexact H0
  isplitl [H1]; · iexists (Y 1); isplitr; (· ipureintro; exact rfl); iexact H1
  isplitl [H2]; · iexists (Y 2); isplitr; (· ipureintro; exact rfl); iexact H2
  isplitl [H3]; · iexists (Y 3); isplitr; (· ipureintro; exact rfl); iexact H3
  isplitl [H4]; · iexists (Y 4); isplitr; (· ipureintro; exact rfl); iexact H4
  iexists (outAfter (blockAt t) (Y 5) (track m c (t.val + 1))); isplitr; (· ipureintro; exact rfl); iexact H5

theorem enter (c : Dev nD) : (Pipeline.ΦA spec0 c : sProp 𝕄) ⊢ (rdat m c).Φ 0 := by
  unfold Pipeline.ΦA
  rw [scopedRest0_eq]
  show _ ⊢ iprop(∃ s : St F, ⌜(0 : ℕ) ≠ 0 → s = track m c 0⌝ ∗ carried c s ∗ ∃ r, prngReg c r)
  iintro ⟨⟨⟨%f0, C0⟩, ⟨%f1, C1⟩, ⟨%f2, C2⟩, ⟨%f3, C3⟩, ⟨%f4, C4⟩⟩, HR⟩
  iexists (⟨f0, f1, f2, f3, f4⟩ : St F)
  isplitr; · ipureintro; exact fun h => absurd rfl h
  isplitr [HR]
  · unfold carried
    isplitl [C0]; · iapply to_owns; iexact C0
    isplitl [C1]; · iapply to_owns; iexact C1
    isplitl [C2]; · iapply to_owns; iexact C2
    isplitl [C3]; · iapply to_owns; iexact C3
    iapply to_owns; iexact C4
  iexact HR

theorem leave (c : Dev nD) : (rdat m c).Φ (Fin.last cfg0.N) ⊢ (Pipeline.ΦA spec0 c : sProp 𝕄) := by
  unfold Pipeline.ΦA
  rw [scopedRest0_eq]
  show iprop(∃ s : St F, ⌜(Fin.last cfg0.N).val ≠ 0 → s = track m c (Fin.last cfg0.N).val⌝ ∗ carried c s ∗ ∃ r, prngReg c r) ⊢ _
  iintro ⟨%s, -, HC, HR⟩
  unfold carried
  icases HC with ⟨C0, C1, C2, C3, C4⟩
  isplitr [HR]
  · isplitl [C0]; · iexists s.psp; iapply of_owns; iexact C0
    isplitl [C1]; · iexists s.pg; iapply of_owns; iexact C1
    isplitl [C2]; · iexists s.dq; iapply of_owns; iexact C2
    isplitl [C3]; · iexists s.dk; iapply of_owns; iexact C3
    iexists s.dv; iapply of_owns; iexact C4
  iexact HR

/-! ## The run -/

theorem run : θ_run defs (onTc (τ := τ) (Cert.KernelIdeal.main (F := F))) (s₀ m ρ)
    (fun r => RDat.FramePost cfg0 (rdat m) (V m) r ∧ r.2.sem = fun _ => 0) :=
  Pipeline.RDat.θ_run_frame_track_shared (Q' := _) cfgs (0 : Fin 1) launch₀0 defs₀ Variants.none (rdat m) m ρ Cert.KernelIdeal.main
    (body_at m) (fun _ _ _ => rfl) (fun _ _ => rfl) (V m) (hmain m Variants.none) (fun _ _ => rfl) (enter m) (leave m) (hQ' := fun _ h => h)

/-- The program ends, with its arguments as they were and every semaphore at zero. -/
theorem frame : θ_run defs (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((congrFun ((rdat m c).ArrAt_in 2 rfl _) _).mp ((h.1 c).1 2)).trans (V_main_arg0 m c),
     ((congrFun ((rdat m c).ArrAt_in 3 rfl _) _).mp ((h.1 c).1 3)).trans (V_main_arg1 m c),
     ((h.1 c).2 main_arg2 (Pipeline.mem_restRefs_of main_arg2 (by decide) (by decide))).trans (V_main_arg2 m c)⟩, h.2⟩) (run m ρ)

end Cert.KernelIdeal.Body
-- ==== Proof.Spec.lean ====
/-
  The gradient of the stick-breaking attention over the reals, and what of the extended reals the two sides share. A
  head's scores and the gradient of its weights are functions of a row and a column of the padded sequence; column `c` is
  seen from row `r` when `112 ≤ c < r`.
-/
module

public import Idealize.ShloMosaic.Lib.ValueIdx
public import Idealize.ShloMosaic.Lib.IdealHost
public import Idealize.ShloMosaic.PureOps.Ideal.Laws
public import Mathlib.Analysis.SpecialFunctions.Log.Basic

@[expose] public section

noncomputable section

namespace Cert.Attn

open Idealize.ShloMosaic
open scoped BigOperators

/-- Row `r` sees column `c`. -/
def sees (r c : ℕ) : Prop := c < r ∧ 112 ≤ c
instance (r c : ℕ) : Decidable (sees r c) := inferInstanceAs (Decidable (_ ∧ _))

/-- `log (1 + e^z)`. -/
def sp (z : ℝ) : ℝ := Real.log (1 + Real.exp z)

section Head
variable (Z W : ℕ → ℕ → ℝ)

/-- A column's softplus, where it is seen, -/
def S (r c : ℕ) : ℝ := if sees r c then sp (Z r c) else 0
/-- a row's total of it, -/
def total (r : ℕ) : ℝ := ∑ c ∈ Finset.range 4224, S Z r c
/-- the weights, -/
def A (r c : ℕ) : ℝ := if sees r c then Real.exp (Z r c - sp (Z r c) - (total Z r - ∑ c' ∈ Finset.range (c + 1), S Z r c')) else 0
/-- the weights times their gradients `W`, -/
def G (r c : ℕ) : ℝ := A Z r c * W r c
/-- and the scores' gradients. -/
def dZ (r c : ℕ) : ℝ :=
  if sees r c then G Z W r c - Real.exp (Z r c - sp (Z r c)) * (G Z W r c + ∑ c' ∈ Finset.range c, G Z W r c') else 0

theorem A_zero {r c : ℕ} (h : ¬ sees r c) : A Z r c = 0 := if_neg h
theorem G_zero {r c : ℕ} (h : ¬ sees r c) : G Z W r c = 0 := by unfold G; rw [A_zero Z h, zero_mul]
theorem dZ_zero {r c : ℕ} (h : ¬ sees r c) : dZ Z W r c = 0 := if_neg h
theorem S_zero {r c : ℕ} (h : ¬ sees r c) : S Z r c = 0 := if_neg h

end Head

/-- The rows of the queries, keys, values and output gradients. -/
structure Rows where
  q : ℕ → ℕ → ℝ
  k : ℕ → ℕ → ℝ
  v : ℕ → ℕ → ℝ
  d : ℕ → ℕ → ℝ

namespace Rows
variable (D : Rows)

/-- Head `h`'s scores, -/
def z (h r c : ℕ) : ℝ := (∑ e ∈ Finset.range 64, D.q r (64 * h + e) * D.k c (64 * h + e)) / 8
/-- and its weights' gradients. -/
def w (h r c : ℕ) : ℝ := ∑ e ∈ Finset.range 64, D.d r (64 * h + e) * D.v c (64 * h + e)

/-- The gradients of the queries, the keys and the values. -/
def dq (r l : ℕ) : ℝ := (∑ c ∈ Finset.range 4224, dZ (D.z (l / 64)) (D.w (l / 64)) r c * D.k c l) / 8
def dk (c l : ℕ) : ℝ := (∑ r ∈ Finset.range 4224, dZ (D.z (l / 64)) (D.w (l / 64)) r c * D.q r l) / 8
def dv (c l : ℕ) : ℝ := ∑ r ∈ Finset.range 4224, A (D.z (l / 64)) r c * D.d r l

end Rows

/-! ## Extended reals that are real -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem sum_fin_coe {n : ℕ} (f : ℕ → ℝ) : (∑ i : Fin n, (f i.val : EReal)) = ((∑ i ∈ Finset.range n, f i : ℝ) : EReal) := by
  rw [coe_sum, Finset.sum_range]

/-- A real times a value that is real wherever the first is not zero. -/
theorem mul_coe {x : ℝ} {y : EReal} {y' : ℝ} (h : x = 0 ∨ y = (y' : EReal)) : (x : EReal) * y = ((x * y' : ℝ) : EReal) := by
  rcases h with h | h
  · rw [h, EReal.coe_zero, zero_mul, zero_mul, EReal.coe_zero]
  · rw [h, EReal.coe_mul]
theorem mul_coe' {x : ℝ} {y : EReal} {y' : ℝ} (h : x = 0 ∨ y = (y' : EReal)) : y * (x : EReal) = ((x * y' : ℝ) : EReal) := by
  rw [mul_comm, mul_coe h]

theorem exp_coe (x : ℝ) : Ideal.exp (x : EReal) = ((Real.exp x : ℝ) : EReal) := rfl
theorem log_coe {x : ℝ} (h : 0 < x) : Ideal.log (x : EReal) = ((Real.log x : ℝ) : EReal) := if_neg (not_le.2 h)

theorem sp_eq (z : ℝ) : Ideal.log (1 + Ideal.exp (z : EReal)) = ((sp z : ℝ) : EReal) := by
  rw [exp_coe, ← EReal.coe_one, ← EReal.coe_add, log_coe (by positivity)]; rfl

theorem le_sp (z : ℝ) : z ≤ sp z := by
  have h := Real.log_le_log (Real.exp_pos z) (show Real.exp z ≤ 1 + Real.exp z by linarith)
  rwa [Real.log_exp] at h

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

/-- The kernel's softplus is the softplus up to 30. -/
theorem softplus_coe {z : ℝ} (h : z ≤ 30) :
    max (z : EReal) (Ideal.log (1 + Ideal.exp (min (z : EReal) ((30 : ℝ) : EReal)))) = ((sp z : ℝ) : EReal) := by
  rw [min_coe, min_eq_left h, sp_eq, max_coe, max_eq_right (le_sp z)]

theorem ofBits_thirty : Ideal.ofBits .f32 0x41F00000#32 = ((30 : ℝ) : EReal) := by
  simp [Ideal.ofBits, Ideal.ieee]; rw [← EReal.coe_mul]; norm_num
theorem ofBits_eighth : Ideal.ofBits .f32 0x3E000000#32 = ((1 / 8 : ℝ) : EReal) := by
  simp [Ideal.ofBits, Ideal.ieee]; rw [← EReal.coe_mul]; norm_num

theorem mul_eighth (x : ℝ) : (x : EReal) * Ideal.ofBits .f32 0x3E000000#32 = ((x / 8 : ℝ) : EReal) := by
  rw [ofBits_eighth, ← EReal.coe_mul]; congr 1; ring

/-! ## Sums over a block of columns -/

/-- A sum over 256 positions as two over 128. -/
theorem sum_256 {M : Type} [AddCommMonoid M] (f : Fin 256 → M) :
    ∑ i : Fin 256, f i = ∑ i : Fin 128, f ⟨i.val, by omega⟩ + ∑ i : Fin 128, f ⟨128 + i.val, by omega⟩ :=
  Fin.sum_univ_add (a := 128) (b := 128) f

theorem sum_128 {M : Type} [AddCommMonoid M] (f : Fin 128 → M) :
    ∑ i : Fin 128, f i = ∑ i : Fin 64, f ⟨i.val, by omega⟩ + ∑ i : Fin 64, f ⟨64 + i.val, by omega⟩ :=
  Fin.sum_univ_add (a := 64) (b := 64) f

/-- The product with a triangle of ones: the sum up to the position. -/
theorem sum_tri_le (f : ℕ → ℝ) {b : ℕ} (hb : b < 128) :
    (∑ i : Fin 128, (f i.val : EReal) * (if i.val ≤ b then 1 else 0)) = ((∑ i ∈ Finset.range (b + 1), f i : ℝ) : EReal) := by
  have e : ∀ i : Fin 128, (f i.val : EReal) * (if i.val ≤ b then 1 else 0) = ((if i.val ≤ b then f i.val else 0 : ℝ) : EReal) := by
    intro i; split <;> simp
  rw [Finset.sum_congr rfl fun i _ => e i, sum_fin_coe (fun i => if i ≤ b then f i else 0), ← Finset.sum_filter]
  congr 2
  ext i; simp only [Finset.mem_filter, Finset.mem_range]; omega
theorem sum_tri_lt (f : ℕ → ℝ) {b : ℕ} (hb : b < 128) :
    (∑ i : Fin 128, (f i.val : EReal) * (if i.val < b then 1 else 0)) = ((∑ i ∈ Finset.range b, f i : ℝ) : EReal) := by
  have e : ∀ i : Fin 128, (f i.val : EReal) * (if i.val < b then 1 else 0) = ((if i.val < b then f i.val else 0 : ℝ) : EReal) := by
    intro i; split <;> simp
  rw [Finset.sum_congr rfl fun i _ => e i, sum_fin_coe (fun i => if i < b then f i else 0), ← Finset.sum_filter]
  congr 2
  ext i; simp only [Finset.mem_filter, Finset.mem_range]; omega

end Cert.Attn
-- ==== Proof.Val.Read.lean ====
/-
  A key block's step over the extended reals, read at an index: the stacked heads, the scores, the softplus, the running
  sums, the two heads side by side, a block's gradient folded by lanes.
-/
module

public import proofs.«01_k».proof.Proof.Sweep
public import proofs.«01_k».proof.Proof.Spec
public import Idealize.ShloMosaic.Lib.MatmulPlain
public import Idealize.ShloMosaic.Lib.Pipeline.Value
public import Idealize.ShloMosaic.Lib.KernelVsHost

@[expose] public section

set_option maxRecDepth 16384

noncomputable section

namespace Cert.Attn

open Idealize.ShloMosaic Idealize.SL
open Idealize.ShloMosaic.ValueIdx
open scoped BigOperators

/-! ## Words and masks -/

theorem word_toInt {n : ℕ} (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]
theorem slt_word {a b : ℕ} (ha : a < 2 ^ 31) (hb : b < 2 ^ 31) :
    IntOp.cmpi .slt (BitVec.ofNat 32 a) (BitVec.ofNat 32 b) = if a < b then 1#1 else 0#1 := by
  show BitVec.ofBool (decide ((BitVec.ofNat 32 a).toInt < (BitVec.ofNat 32 b).toInt)) = _
  rw [word_toInt ha, word_toInt hb]; by_cases h : a < b <;> simp [h]
theorem sle_word {a b : ℕ} (ha : a < 2 ^ 31) (hb : b < 2 ^ 31) :
    IntOp.cmpi .sle (BitVec.ofNat 32 a) (BitVec.ofNat 32 b) = if a ≤ b then 1#1 else 0#1 := by
  show BitVec.ofBool (decide ((BitVec.ofNat 32 a).toInt ≤ (BitVec.ofNat 32 b).toInt)) = _
  rw [word_toInt ha, word_toInt hb]; by_cases h : a ≤ b <;> simp [h]
theorem sge_word {a b : ℕ} (ha : a < 2 ^ 31) (hb : b < 2 ^ 31) :
    IntOp.cmpi .sge (BitVec.ofNat 32 a) (BitVec.ofNat 32 b) = if b ≤ a then 1#1 else 0#1 := by
  show BitVec.ofBool (decide ((BitVec.ofNat 32 b).toInt ≤ (BitVec.ofNat 32 a).toInt)) = _
  rw [word_toInt ha, word_toInt hb]; by_cases h : b ≤ a <;> simp [h]

theorem select_word {α : Type} {p : Prop} [Decidable p] (x y : α) : Scalar.select (if p then 1#1 else 0#1) x y = if p then x else y := by
  by_cases h : p <;> simp [h, Scalar.select]

/-- The lanes below 64. -/
theorem lane_apply {s : Shape} {d : Fin s.rank} (hi : s.Iotas .tc 32 [d]) (i : s.Idx) (h : (i d).val < 2 ^ 31) :
    cmpi .slt (iota .tc s 32 [d] hi) (broadcast s 64#32) i = if (i d).val < 64 then 1#1 else 0#1 := by
  show IntOp.cmpi .slt (iota .tc s 32 [d] hi i) (BitVec.ofNat 32 64) = _
  rw [iota_single_apply]; exact slt_word h (by norm_num)

/-! ## The stacked heads -/

theorem stack_apply (x : Vec Ideal (T3 1 128 128) .bf16) (a : Fin 256) (e : Fin 128) :
    stack x (ix2 a e) = if (a.val < 128 ↔ e.val < 64) then x (ix3 0 ⟨a.val % 128, Nat.mod_lt _ (by norm_num)⟩ e) else (0 : EReal) := by
  have hx : ∀ c : Fin 128, (shapeCast (T2 128 128) x out_128 : FVec Ideal (T2 128 128) .bf16) (ix2 c e) = x (ix3 0 c e) := fun c =>
    shapeCast_apply x out_128 _ _ (by rw [Shape.rowMajor_val_three, Shape.rowMajor_val_two]; show (0 * 128 + c.val) * 128 + e.val = c.val * 128 + e.val; omega)
  unfold stack
  by_cases ha : a.val < 128
  · refine (concatenate_pair_apply_left (t := T2 256 128) (s₁ := T2 128 128) (s₂ := T2 128 128) 0 _ _ cat_256 (ix2 a e) rfl (ix2 ⟨a.val, ha⟩ e)
      (fun b => by fin_cases b <;> rfl)).trans ?_
    show Scalar.select (cmpi .slt _ _ _) _ _ = _
    rw [lane_apply i1_128 _ (by show e.val < _; omega), select_word, hx]
    simp only [ha, true_iff, Nat.mod_eq_of_lt ha]
    by_cases he : e.val < 64
    · rw [if_pos he]; exact (if_pos he).symm
    · rw [if_neg he]; exact Ideal.ofBits_zero_bf16.trans (if_neg he).symm
  · refine (concatenate_pair_apply_right (t := T2 256 128) (s₁ := T2 128 128) (s₂ := T2 128 128) 0 _ _ cat_256 (ix2 a e) rfl rfl (ix2 ⟨a.val - 128, by omega⟩ e)
      (fun b hb => by fin_cases b; exact absurd rfl hb; rfl) (by show a.val - 128 + 128 = a.val; omega)).trans ?_
    show Scalar.select (cmpi .slt _ _ _) _ _ = _
    rw [lane_apply i1_128 _ (by show e.val < _; omega), select_word, hx]
    have hm : a.val % 128 = a.val - 128 := by omega
    simp only [ha, false_iff, hm]
    by_cases he : e.val < 64
    · rw [if_neg (not_not.2 he)]; exact (if_pos he).trans Ideal.ofBits_zero_bf16
    · rw [if_pos he]; exact if_neg he

variable {o n : ℕ} [Row o n]

/-! ## Halves, blocks side by side -/

theorem lhalf_apply (x : FVec Ideal (T2 n 256) .f32) (a : Fin n) (b : Fin 128) : lhalf o x (ix2 a b) = x (ix2 a ⟨b.val, by omega⟩) :=
  extractStridedSlice_apply _ _ _ _ _ (fun d => by fin_cases d; exact (Nat.zero_add _).symm; exact (Nat.zero_add _).symm)
theorem rhalf_apply (x : FVec Ideal (T2 n 256) .f32) (a : Fin n) (b : Fin 128) : rhalf o x (ix2 a b) = x (ix2 a ⟨128 + b.val, by omega⟩) :=
  extractStridedSlice_apply _ _ _ _ _ (fun d => by fin_cases d; exact (Nat.zero_add _).symm; rfl)

theorem cat_left {φ : FTy} (x y : FVec Ideal (T2 n 128) φ) (a : Fin n) (b : Fin 128) :
    concatenate (T2 n 256) 1 [⟨T2 n 128, x⟩, ⟨T2 n 128, y⟩] (Row.cat o) (ix2 a ⟨b.val, by omega⟩) = x (ix2 a b) :=
  concatenate_pair_apply_left (t := T2 n 256) (s₁ := T2 n 128) (s₂ := T2 n 128) 1 _ _ (Row.cat o) _ rfl (ix2 a b) (fun d => by fin_cases d <;> rfl)
theorem cat_right {φ : FTy} (x y : FVec Ideal (T2 n 128) φ) (a : Fin n) (b : Fin 128) :
    concatenate (T2 n 256) 1 [⟨T2 n 128, x⟩, ⟨T2 n 128, y⟩] (Row.cat o) (ix2 a ⟨128 + b.val, by omega⟩) = y (ix2 a b) :=
  concatenate_pair_apply_right (t := T2 n 256) (s₁ := T2 n 128) (s₂ := T2 n 128) 1 _ _ (Row.cat o) _ rfl rfl (ix2 a b)
    (fun d hd => by fin_cases d; rfl; exact absurd rfl hd) (by show b.val + 128 = 128 + b.val; omega)

theorem beside_left (x y : FVec Ideal (T2 n 128) .f32) (a : Fin n) (b : Fin 128) : beside o x y (ix2 a ⟨b.val, by omega⟩) = x (ix2 a b) :=
  cat_left (o := o) (φ := .bf16) _ _ a b
theorem beside_right (x y : FVec Ideal (T2 n 128) .f32) (a : Fin n) (b : Fin 128) : beside o x y (ix2 a ⟨128 + b.val, by omega⟩) = y (ix2 a b) :=
  cat_right (o := o) (φ := .bf16) _ _ a b

/-- A loaded block of rows as a matrix, and a matrix as a block to store. -/
theorem mat_apply (x : Vec Ideal (T3 1 n 128) .f32) (a : Fin n) (b : Fin 128) : mat o x (ix2 a b) = x (ix3 0 a b) :=
  shapeCast_apply x (Row.out3 o) _ _ (by rw [Shape.rowMajor_val_three, Shape.rowMajor_val_two]; show (0 * n + a.val) * 128 + b.val = a.val * 128 + b.val; rw [zero_mul, zero_add])
theorem unmat_apply (x : FVec Ideal (T2 n 128) .f32) (a : Fin n) (b : Fin 128) : shapeCast (T3 1 n 128) x (Row.in3 o) (ix3 0 a b) = x (ix2 a b) :=
  shapeCast_apply x (Row.in3 o) _ _ (by rw [Shape.rowMajor_val_three, Shape.rowMajor_val_two]; show a.val * 128 + b.val = (0 * n + a.val) * 128 + b.val; rw [zero_mul, zero_add])

/-! ## Products -/

theorem score_apply (q : FVec Ideal (T2 n 128) .bf16) (k : FVec Ideal (T2 256 128) .bf16) (a : Fin n) (b : Fin 256) :
    score q k (ix2 a b) = ∑ e : Fin 128, q (ix2 a e) * k (ix2 b e) := by
  refine (Ideal.matmul_transposedRhs_apply none q k _ a b).trans ?_
  rw [constant_apply, Ideal.ofBits_zero_f32, zero_add]
theorem plain_apply {M K N : ℕ} {φ₁ φ₂ : FTy} (x : FVec Ideal (T2 M K) φ₁) (y : FVec Ideal (T2 K N) φ₂) (a : Fin M) (b : Fin N) :
    matmul (DotDims.plain M K N) none x y (constant (T2 M N) .f32 0x00000000#32) (ix2 a b) = ∑ e : Fin K, x (ix2 a e) * y (ix2 e b) := by
  refine (Ideal.matmul_plain_apply none x y _ a b).trans ?_
  rw [constant_apply, Ideal.ofBits_zero_f32, zero_add]

/-- A head's product with its block of the stacked keys: the lanes of the head. -/
theorem score_stack (h : Fin 2) (q : FVec Ideal (T2 n 128) .bf16) (k : Vec Ideal (T3 1 128 128) .bf16) (a : Fin n) (b : Fin 128) :
    score q (stack k) (ix2 a ⟨128 * h.val + b.val, by omega⟩) =
      ∑ e : Fin 64, q (ix2 a ⟨64 * h.val + e.val, by omega⟩) * k (ix3 0 b ⟨64 * h.val + e.val, by omega⟩) := by
  rw [score_apply, sum_128]
  match h with
  | ⟨0, _⟩ =>
    refine (congrArg₂ (· + ·) (Finset.sum_congr rfl fun i _ => ?_) (Finset.sum_eq_zero fun i _ => ?_)).trans (add_zero _)
    · rw [stack_apply, if_pos (by simp)]
      congr 2
      · congr 1; ext; simp
      · congr 1
        · ext; simp
        · ext; simp
    · rw [stack_apply, if_neg (by simp), mul_zero]
  | ⟨1, _⟩ =>
    refine (congrArg₂ (· + ·) (Finset.sum_eq_zero fun i _ => ?_) (Finset.sum_congr rfl fun i _ => ?_)).trans (zero_add _)
    · rw [stack_apply, if_neg (by simp), mul_zero]
    · rw [stack_apply, if_pos (by simp)]
      congr 2
      congr 1
      ext; simp

/-! ## The softplus, the running sums -/

theorem softplus_apply (z : FVec Ideal (T2 n 128) .f32) (i : (T2 n 128).Idx) :
    softplus z i = max (z i) (Ideal.log (1 + Ideal.exp (min (z i) ((30 : ℝ) : EReal)))) := by
  rw [← ofBits_thirty, ← Ideal.ofBits_one_f32]; rfl

theorem tri_apply (p : CmpIPredicate) (R : ℕ → ℕ → Prop) [∀ a b, Decidable (R a b)]
    (hp : ∀ a b, a < 2 ^ 31 → b < 2 ^ 31 → IntOp.cmpi p (BitVec.ofNat 32 a) (BitVec.ofNat 32 b) = if R a b then 1#1 else 0#1)
    (a : Fin 128) (b : Fin 256) : tri (F := Ideal) p (ix2 a b) = if 128 ≤ b.val ∨ R a.val b.val then (1 : EReal) else 0 := by
  show Scalar.select (IntOp.ori (IntOp.cmpi .sge (iota .tc (T2 128 256) 32 [1] tri_i1 (ix2 a b)) (BitVec.ofNat 32 128))
    (IntOp.cmpi p (iota .tc (T2 128 256) 32 [0] tri_i0 (ix2 a b)) (iota .tc (T2 128 256) 32 [1] tri_i1 (ix2 a b))))
    (Ideal.ofBits .f32 0x3F800000#32) (Ideal.ofBits .f32 0x00000000#32) = _
  rw [iota_single_apply, iota_single_apply, sge_word (by show b.val < _; omega) (by norm_num), hp _ _ (by show a.val < _; omega) (by show b.val < _; omega), Ideal.ofBits_one_f32, Ideal.ofBits_zero_f32]
  show Scalar.select (IntOp.ori (if 128 ≤ b.val then 1#1 else 0#1) (if R a.val b.val then 1#1 else 0#1)) (1 : EReal) 0 = _
  by_cases h1 : 128 ≤ b.val <;> by_cases h2 : R a.val b.val <;> simp [h1, h2, Scalar.select, IntOp.ori]

theorem gsums_left (g : FVec Ideal (T2 n 128) .f32) (f : ℕ → ℝ) (a : Fin n) (hg : ∀ b : Fin 128, g (ix2 a b) = (f b.val : EReal)) (b : Fin 128) :
    gsums (tri .slt) g (ix2 a ⟨b.val, by omega⟩) = ((∑ i ∈ Finset.range b.val, f i : ℝ) : EReal) := by
  refine (plain_apply (φ₁ := .bf16) (φ₂ := .bf16) _ _ a _).trans ?_
  rw [← sum_tri_lt f b.isLt]
  refine Finset.sum_congr rfl fun i _ => ?_
  rw [tri_apply .slt (· < ·) (fun a b ha hb => slt_word ha hb)]
  show g (ix2 a i) * _ = _
  rw [hg]; congr 1; simp only [show ¬ 128 ≤ b.val from by omega, false_or]
theorem gsums_right (g : FVec Ideal (T2 n 128) .f32) (f : ℕ → ℝ) (a : Fin n) (hg : ∀ b : Fin 128, g (ix2 a b) = (f b.val : EReal)) (b : Fin 128) :
    gsums (tri .slt) g (ix2 a ⟨128 + b.val, by omega⟩) = ((∑ i ∈ Finset.range 128, f i : ℝ) : EReal) := by
  refine (plain_apply (φ₁ := .bf16) (φ₂ := .bf16) _ _ a _).trans ?_
  rw [← sum_fin_coe (n := 128) f]
  refine Finset.sum_congr rfl fun i _ => ?_
  rw [tri_apply .slt (· < ·) (fun a b ha hb => slt_word ha hb)]
  show g (ix2 a i) * _ = _
  rw [hg, if_pos (Or.inl (by show 128 ≤ 128 + b.val; omega)), mul_one]

/-- The doubled triangle. -/
abbrev tri2 : FVec Ideal (T2 256 256) .bf16 := concatenate (T2 256 256) 0 [⟨T2 128 256, tri .sle⟩, ⟨T2 128 256, tri .sle⟩] cat_um

theorem tri2_left (a : Fin 128) (b : Fin 256) : tri2 (ix2 ⟨a.val, by omega⟩ b) = tri (F := Ideal) .sle (ix2 a b) :=
  concatenate_pair_apply_left (t := T2 256 256) (s₁ := T2 128 256) (s₂ := T2 128 256) 0 _ _ cat_um _ rfl (ix2 a b) (fun d => by fin_cases d <;> rfl)
/-- The high part and the rest sum to the value: of a real value the rest is zero. -/
theorem sums_apply (s : FVec Ideal (T2 n 128) .f32) (f : ℕ → ℝ) (a : Fin n) (hs : ∀ b : Fin 128, s (ix2 a b) = (f b.val : EReal)) (b : Fin 256) :
    sums o (fun x => x) tri2 s (ix2 a b) = ∑ i : Fin 128, (f i.val : EReal) * tri (F := Ideal) .sle (ix2 i b) := by
  refine (plain_apply (φ₁ := .bf16) (φ₂ := .bf16) _ _ a _).trans ?_
  rw [sum_256]
  have e1 : (∑ i : Fin 128, (concatenate (T2 n 256) 1 [⟨T2 n 128, truncf .bf16 s bits_lt⟩, ⟨T2 n 128, truncf .bf16 (subf s s) bits_lt⟩] (Row.cat o) : FVec Ideal (T2 n 256) .bf16) (ix2 a ⟨i.val, by omega⟩) * tri2 (ix2 ⟨i.val, by omega⟩ b))
      = ∑ i : Fin 128, (f i.val : EReal) * tri (F := Ideal) .sle (ix2 i b) := by
    refine Finset.sum_congr rfl fun i _ => ?_
    rw [cat_left (o := o) (φ := .bf16), tri2_left]
    show s (ix2 a i) * _ = _
    rw [hs]
  have e2 : (∑ i : Fin 128, (concatenate (T2 n 256) 1 [⟨T2 n 128, truncf .bf16 s bits_lt⟩, ⟨T2 n 128, truncf .bf16 (subf s s) bits_lt⟩] (Row.cat o) : FVec Ideal (T2 n 256) .bf16) (ix2 a ⟨128 + i.val, by omega⟩) * tri2 (ix2 ⟨128 + i.val, by omega⟩ b)) = 0 := by
    refine Finset.sum_eq_zero fun i _ => ?_
    rw [cat_right (o := o) (φ := .bf16)]
    show (s (ix2 a i) - s (ix2 a i)) * _ = _
    rw [hs, ← EReal.coe_sub, sub_self, EReal.coe_zero, zero_mul]
  exact (congrArg₂ (· + ·) e1 e2).trans (add_zero _)
theorem sums_left (s : FVec Ideal (T2 n 128) .f32) (f : ℕ → ℝ) (a : Fin n) (hs : ∀ b : Fin 128, s (ix2 a b) = (f b.val : EReal)) (b : Fin 128) :
    sums o (fun x => x) tri2 s (ix2 a ⟨b.val, by omega⟩) = ((∑ i ∈ Finset.range (b.val + 1), f i : ℝ) : EReal) := by
  rw [sums_apply s f a hs, ← sum_tri_le f b.isLt]
  refine Finset.sum_congr rfl fun i _ => ?_
  rw [tri_apply .sle (· ≤ ·) (fun a b ha hb => sle_word ha hb)]
  congr 1; simp only [show ¬ 128 ≤ b.val from by omega, false_or]
theorem sums_right (s : FVec Ideal (T2 n 128) .f32) (f : ℕ → ℝ) (a : Fin n) (hs : ∀ b : Fin 128, s (ix2 a b) = (f b.val : EReal)) (b : Fin 128) :
    sums o (fun x => x) tri2 s (ix2 a ⟨128 + b.val, by omega⟩) = ((∑ i ∈ Finset.range 128, f i : ℝ) : EReal) := by
  rw [sums_apply s f a hs, ← sum_fin_coe (n := 128) f]
  refine Finset.sum_congr rfl fun i _ => ?_
  rw [tri_apply .sle (· ≤ ·) (fun a b ha hb => sle_word ha hb), if_pos (Or.inl (by show 128 ≤ 128 + b.val; omega)), mul_one]

end Cert.Attn
-- ==== Proof.Val.Head.lean ====
/-
  One head's numbers over a key block, over the reals: given real scores where the mask looks, the row totals and the sums
  over the blocks before, the block's running sums, weights and score gradients are the mathematics' ones.
-/
module

public import proofs.«01_k».proof.Proof.Val.Read

@[expose] public section

set_option maxRecDepth 16384

noncomputable section

namespace Cert.Attn

open Idealize.ShloMosaic Idealize.SL
open Idealize.ShloMosaic.ValueIdx
open scoped BigOperators

variable {o n : ℕ} [Row o n]

/-- The mask of a block at row `R` and column `C` is the causal one; where there is none, the whole block is seen. -/
def Seen (m : Option (IVec (T2 n 128) 1)) (R C : ℕ) : Prop :=
  ∀ (a : Fin n) (b : Fin 128), match m with
    | none => sees (R + a) (C + b)
    | some M => M (ix2 a b) = if sees (R + a.val) (C + b.val) then 1#1 else 0#1

theorem under_apply {m : Option (IVec (T2 n 128) 1)} {R C : ℕ} (hm : Seen m R C) (x : FVec Ideal (T2 n 128) .f32) (a : Fin n) (b : Fin 128) :
    under m x (ix2 a b) = if sees (R + a) (C + b) then x (ix2 a b) else (0 : EReal) := by
  have h := hm a b
  cases m with
  | none => exact (if_pos h).symm
  | some M =>
    have h : M (ix2 a b) = if sees (R + a.val) (C + b.val) then 1#1 else 0#1 := h
    show Scalar.select (M (ix2 a b)) _ _ = _
    rw [h, select_word]
    by_cases hs : sees (R + a.val) (C + b.val)
    · rw [if_pos hs, if_pos hs]
    · rw [if_neg hs, if_neg hs]; exact Ideal.ofBits_zero_f32

theorem exp_apply {s : Shape} {φ : FTy} (x : FVec Ideal s φ) (i : s.Idx) : exp x i = Ideal.exp (x i) := rfl
theorem slice0_apply (x : FVec Ideal (T2 n 256) .f32) (a : Fin n) (b : Fin 128) :
    extractStridedSlice (T2 n 128) ![0, 0] x (Row.sl0 o) (ix2 a b) = x (ix2 a ⟨b.val, by omega⟩) := lhalf_apply (o := o) x a b

/-- What a head's numbers over a block are computed from. -/
structure HeadIn (R C : ℕ) (Z W : ℕ → ℕ → ℝ) (z da tot psp pg : FVec Ideal (T2 n 128) .f32) : Prop where
  z : ∀ (a : Fin n) (b : Fin 128), sees (R + a) (C + b) → z (ix2 a b) = (Z (R + a) (C + b) : EReal)
  le : ∀ (a : Fin n) (b : Fin 128), sees (R + a) (C + b) → Z (R + a) (C + b) ≤ 30
  da : ∀ (a : Fin n) (b : Fin 128), sees (R + a) (C + b) → da (ix2 a b) = (W (R + a) (C + b) : EReal)
  tot : ∀ (a : Fin n) (b : Fin 128), tot (ix2 a b) = (total Z (R + a) : EReal)
  psp : ∀ (a : Fin n) (b : Fin 128), psp (ix2 a b) = ((∑ c ∈ Finset.range C, S Z (R + a) c : ℝ) : EReal)
  pg : ∀ (a : Fin n) (b : Fin 128), pg (ix2 a b) = ((∑ c ∈ Finset.range C, G Z W (R + a) c : ℝ) : EReal)

/-- What they are. -/
structure HeadOut (R C : ℕ) (Z W : ℕ → ℕ → ℝ) (H : Head Ideal n) : Prop where
  r : ∀ (a : Fin n) (b : Fin 128), H.r (ix2 a ⟨128 + b, by omega⟩) = ((∑ i ∈ Finset.range 128, S Z (R + a) (C + i) : ℝ) : EReal)
  a : ∀ (a : Fin n) (b : Fin 128), H.a (ix2 a b) = (A Z (R + a) (C + b) : EReal)
  rg : ∀ (a : Fin n) (b : Fin 128), H.rg (ix2 a ⟨128 + b, by omega⟩) = ((∑ i ∈ Finset.range 128, G Z W (R + a) (C + i) : ℝ) : EReal)
  dz : ∀ (a : Fin n) (b : Fin 128), H.dz (ix2 a b) = (dZ Z W (R + a) (C + b) : EReal)

theorem range_block (f : ℕ → ℝ) (C b : ℕ) : ∑ c ∈ Finset.range (C + b), f c = ∑ c ∈ Finset.range C, f c + ∑ i ∈ Finset.range b, f (C + i) :=
  Finset.sum_range_add f C b

theorem head_val {R C : ℕ} {Z W : ℕ → ℕ → ℝ} {z da tot psp pg : FVec Ideal (T2 n 128) .f32} (c : Ctx Ideal n)
    (hu : c.um = tri2) (hg : c.ug = tri .slt) {m : Option (IVec (T2 n 128) 1)} (hm : Seen m R C)
    (H : HeadIn R C Z W z da tot psp pg) : HeadOut R C Z W (head o (fun x => x) c m z da tot psp pg) := by
  have hsp : ∀ (a : Fin n) (b : Fin 128), sees (R + a) (C + b) → softplus z (ix2 a b) = (sp (Z (R + a) (C + b)) : EReal) := fun a b h => by
    rw [softplus_apply, H.z a b h, softplus_coe (H.le a b h)]
  have hs : ∀ (a : Fin n) (b : Fin 128), under m (softplus z) (ix2 a b) = (S Z (R + a) (C + b.val) : EReal) := fun a b => by
    rw [under_apply hm]; unfold S
    by_cases h : sees (R + a.val) (C + b.val)
    · rw [if_pos h, if_pos h, hsp a b h]
    · rw [if_neg h, if_neg h, EReal.coe_zero]
  have hr : ∀ (a : Fin n) (b : Fin 128), sums o (fun x => x) tri2 (under m (softplus z)) (ix2 a ⟨b.val, by omega⟩)
      = ((∑ i ∈ Finset.range (b.val + 1), S Z (R + a) (C + i) : ℝ) : EReal) := fun a b =>
    sums_left (o := o) _ (fun i => S Z (R + a) (C + i)) a (fun b => hs a b) b
  have hr' : ∀ (a : Fin n) (b : Fin 128), sums o (fun x => x) tri2 (under m (softplus z)) (ix2 a ⟨128 + b.val, by omega⟩)
      = ((∑ i ∈ Finset.range 128, S Z (R + a) (C + i) : ℝ) : EReal) := fun a b =>
    sums_right (o := o) _ (fun i => S Z (R + a) (C + i)) a (fun b => hs a b) b
  have ha : ∀ (a : Fin n) (b : Fin 128), weight o m z tot psp (sums o (fun x => x) tri2 (under m (softplus z))) (ix2 a b) = (A Z (R + a) (C + b.val) : EReal) := fun a b => by
    unfold weight; rw [under_apply hm]; unfold A
    by_cases h : sees (R + a.val) (C + b.val)
    · rw [if_pos h, if_pos h]
      rw [exp_apply, subf_apply, subf_apply, subf_apply, subf_apply, slice0_apply (o := o), hr, H.z a b h, hsp a b h, H.tot, H.psp, ← EReal.coe_sub, ← EReal.coe_sub, ← EReal.coe_sub, ← EReal.coe_sub, exp_coe,
        add_assoc C b.val 1, range_block _ C (b.val + 1), sub_sub (total Z (R + a))]
    · rw [if_neg h, if_neg h, EReal.coe_zero]
  have hga : ∀ (a : Fin n) (b : Fin 128), mulf (weight o m z tot psp (sums o (fun x => x) tri2 (under m (softplus z)))) da (ix2 a b) = (G Z W (R + a) (C + b.val) : EReal) := fun a b => by
    rw [mulf_apply, ha]; unfold G
    by_cases h : sees (R + a.val) (C + b.val)
    · exact mul_coe (Or.inr (H.da a b h))
    · exact mul_coe (Or.inl (A_zero Z h))
  have hrg : ∀ (a : Fin n) (b : Fin 128), gsums (tri .slt) (mulf (weight o m z tot psp (sums o (fun x => x) tri2 (under m (softplus z)))) da) (ix2 a ⟨b.val, by omega⟩)
      = ((∑ i ∈ Finset.range b.val, G Z W (R + a) (C + i) : ℝ) : EReal) := fun a b =>
    gsums_left _ (fun i => G Z W (R + a) (C + i)) a (fun b => hga a b) b
  constructor
  · intro a b; unfold head; rw [hu]; exact hr' a b
  · intro a b; unfold head; rw [hu]; exact ha a b
  · intro a b; unfold head; rw [hu, hg]
    exact gsums_right _ (fun i => G Z W (R + a) (C + i)) a (fun b => hga a b) b
  · intro a b; unfold head; rw [hu, hg]
    dsimp only
    unfold dscore; rw [under_apply hm]; unfold dZ
    by_cases h : sees (R + a.val) (C + b.val)
    · rw [if_pos h, if_pos h]
      rw [subf_apply, hga, mulf_apply, exp_apply, subf_apply, addf_apply, addf_apply, slice0_apply (o := o), hrg, hga, H.z a b h, hsp a b h, H.pg, ← EReal.coe_sub, exp_coe, ← EReal.coe_add, ← EReal.coe_add, ← EReal.coe_mul, ← EReal.coe_sub,
        range_block _ C b.val, add_assoc]
    · rw [if_neg h, if_neg h, EReal.coe_zero]

end Cert.Attn
-- ==== Proof.Val.Step.lean ====
/-
  A key block's step over the reals: it takes buffers holding the sums over the columns before the block to buffers
  holding them over the block's too.
-/
module

public import proofs.«01_k».proof.Proof.Val.Head

@[expose] public section

set_option maxRecDepth 16384

noncomputable section

namespace Cert.Attn

open Idealize.ShloMosaic Idealize.SL
open Idealize.ShloMosaic.ValueIdx
open scoped BigOperators

/-! ## Reading what was stored -/

theorem put2_apply {α : Type} {N M o n : ℕ} (X : (T2 N M).Idx → α) (w : (T2 n M).Idx → α) (a : Fin N) (b : Fin M) :
    VecWindow.put X ![o, 0] (T2 n M).size w (ix2 a b) = if h : o ≤ a.val ∧ a.val < o + n then w (ix2 ⟨a.val - o, by omega⟩ b) else X (ix2 a b) := by
  unfold VecWindow.put
  by_cases h : o ≤ a.val ∧ a.val < o + n
  · have h' : ∀ d : Fin 2, (![o, 0] : Fin 2 → ℕ) d ≤ ((ix2 a b : (T2 N M).Idx) d).val ∧ ((ix2 a b : (T2 N M).Idx) d).val < (![o, 0] : Fin 2 → ℕ) d + (T2 n M).size d := by
      intro d; fin_cases d
      · exact h
      · exact ⟨Nat.zero_le _, by show b.val < 0 + M; omega⟩
    rw [dif_pos h', dif_pos h]
    exact congrArg w (funext fun d => by fin_cases d; rfl; rfl)
  · have h' : ¬ ∀ d : Fin 2, (![o, 0] : Fin 2 → ℕ) d ≤ ((ix2 a b : (T2 N M).Idx) d).val ∧ ((ix2 a b : (T2 N M).Idx) d).val < (![o, 0] : Fin 2 → ℕ) d + (T2 n M).size d :=
      fun hh => h (hh 0)
    rw [dif_neg h', dif_neg h]

theorem put3_apply {α : Type} {B N M h o n : ℕ} (X : (T3 B N M).Idx → α) (w : (T3 1 n M).Idx → α) (i : Fin B) (a : Fin N) (b : Fin M) :
    VecWindow.put X ![h, o, 0] (T3 1 n M).size w (ix3 i a b)
      = if hh : i.val = h ∧ o ≤ a.val ∧ a.val < o + n then w (ix3 0 ⟨a.val - o, by omega⟩ b) else X (ix3 i a b) := by
  unfold VecWindow.put
  by_cases hh : i.val = h ∧ o ≤ a.val ∧ a.val < o + n
  · have h' : ∀ d : Fin 3, (![h, o, 0] : Fin 3 → ℕ) d ≤ ((ix3 i a b : (T3 B N M).Idx) d).val ∧ ((ix3 i a b : (T3 B N M).Idx) d).val < (![h, o, 0] : Fin 3 → ℕ) d + (T3 1 n M).size d := by
      intro d; fin_cases d
      · exact ⟨hh.1.ge, by show i.val < h + 1; omega⟩
      · exact hh.2
      · exact ⟨Nat.zero_le _, by show b.val < 0 + M; omega⟩
    rw [dif_pos h', dif_pos hh]
    exact congrArg w (funext fun d => by fin_cases d; exact Fin.ext (show i.val - h = 0 by omega); rfl; rfl)
  · have h' : ¬ ∀ d : Fin 3, (![h, o, 0] : Fin 3 → ℕ) d ≤ ((ix3 i a b : (T3 B N M).Idx) d).val ∧ ((ix3 i a b : (T3 B N M).Idx) d).val < (![h, o, 0] : Fin 3 → ℕ) d + (T3 1 n M).size d := by
      intro hq
      have h0 : h ≤ i.val ∧ i.val < h + 1 := hq 0
      exact hh ⟨by omega, hq 1⟩
    rw [dif_neg h', dif_neg hh]

theorem ld3_apply {Val : EltTy → Type} {e : EltTy} {B N M n : ℕ} (X : (T3 B N M).Idx → Val e) {h o : ℕ}
    (inb : ∀ a, (![h, o, 0] : Fin 3 → ℕ) a + (T3 1 n M).size a ≤ (T3 B N M).size a) (hh : h < B) (a : Fin n) (b : Fin M) (ho : o + a.val < N) :
    View.ld X (Rect.unit (s := T3 B N M) ![h, o, 0] (T3 1 n M).size inb) (ix3 0 a b) = X (ix3 ⟨h, hh⟩ ⟨o + a.val, ho⟩ b) :=
  congrArg X (funext fun d => Fin.ext (by
    fin_cases d
    · show h + 1 * 0 = h; omega
    · show o + 1 * a.val = o + a.val; omega
    · show 0 + 1 * b.val = b.val; omega))

theorem ld2_apply {Val : EltTy → Type} {e : EltTy} {N M n : ℕ} (X : (T2 N M).Idx → Val e) {o : ℕ}
    (inb : ∀ a, (![o, 0] : Fin 2 → ℕ) a + (T2 n M).size a ≤ (T2 N M).size a) (a : Fin n) (b : Fin M) (ho : o + a.val < N) :
    View.ld X (Rect.unit (s := T2 N M) ![o, 0] (T2 n M).size inb) (ix2 a b) = X (ix2 ⟨o + a.val, ho⟩ b) :=
  congrArg X (funext fun d => Fin.ext (by
    fin_cases d
    · show o + 1 * a.val = o + a.val; omega
    · show 0 + 1 * b.val = b.val; omega))

/-! ## The buffers over the reals -/

/-- Two heads' scores from lanes below 128, the queries already scaled. -/
def Rows.pz (P : Rows) (h r c : ℕ) : ℝ := ∑ e ∈ Finset.range 64, P.q r (64 * h + e) * P.k c (64 * h + e)

/-- Before key block `j` of query block `p` the buffers hold the sums over the columns below `128 * j`. -/
structure Inv (P : Rows) (p j : ℕ) (s : St Ideal) : Prop where
  psp : ∀ (h : Fin 2) (a : Fin 384) (b : Fin 128), s.psp (ix3 h a b) = ((∑ c ∈ Finset.range (128 * j), S (P.pz h) (384 * p + a) c : ℝ) : EReal)
  pg : ∀ (h : Fin 2) (a : Fin 384) (b : Fin 128), s.pg (ix3 h a b) = ((∑ c ∈ Finset.range (128 * j), G (P.pz h) (P.w h) (384 * p + a) c : ℝ) : EReal)
  dq : ∀ (a : Fin 384) (l : Fin 128), s.dq (ix2 a l)
    = ((∑ c ∈ Finset.range (128 * j), dZ (P.pz (l / 64)) (P.w (l / 64)) (384 * p + a) c * P.k c l : ℝ) : EReal)
  dk : ∀ (b : Fin 33) (l k : Fin 128), s.dk (ix3 b l k)
    = ((∑ r ∈ Finset.range (384 * p + if b.val < j then 384 else 0), dZ (P.pz (l / 64)) (P.w (l / 64)) r (128 * b + k) * P.q r l : ℝ) : EReal)
  dv : ∀ (b : Fin 33) (l k : Fin 128), s.dv (ix3 b l k)
    = ((∑ r ∈ Finset.range (384 * p + if b.val < j then 384 else 0), A (P.pz (l / 64)) r (128 * b + k) * P.d r l : ℝ) : EReal)

/-- The query block's rows from `R` on. -/
structure CtxAt {n : ℕ} (P : Rows) (R : ℕ) (c : Ctx Ideal n) : Prop where
  um : c.um = tri2
  ug : c.ug = tri .slt
  lane : ∀ a b : Fin 128, c.lane (ix2 a b) = if a.val < 64 then 1#1 else 0#1
  q : ∀ (a : Fin n) (e : Fin 128), 112 ≤ R + a → c.q (ix2 a e) = (P.q (R + a) e : EReal)
  dout : ∀ (a : Fin n) (e : Fin 128), 112 ≤ R + a → c.dout (ix2 a e) = (P.d (R + a) e : EReal)
  qt : ∀ (a : Fin n) (e : Fin 128), 112 ≤ R + a → c.qt (ix2 e a) = (P.q (R + a) e : EReal)
  dt : ∀ (a : Fin n) (e : Fin 128), 112 ≤ R + a → c.dt (ix2 e a) = (P.d (R + a) e : EReal)
  tot0 : ∀ (a : Fin n) (b : Fin 128), c.tot0 (ix2 a b) = (total (P.pz 0) (R + a) : EReal)
  tot1 : ∀ (a : Fin n) (b : Fin 128), c.tot1 (ix2 a b) = (total (P.pz 1) (R + a) : EReal)

/-- A block's keys and values from column `C` on. -/
structure KeysAt (P : Rows) (C : ℕ) (k v : Vec Ideal (T3 1 128 128) .bf16) : Prop where
  k : ∀ b e : Fin 128, 112 ≤ C + b → k (ix3 0 b e) = (P.k (C + b) e : EReal)
  v : ∀ b e : Fin 128, 112 ≤ C + b → v (ix3 0 b e) = (P.v (C + b) e : EReal)

/-- The scores are in the softplus's range. -/
def Rows.Small (P : Rows) : Prop := ∀ h r c : ℕ, h < 2 → r < 4224 → sees r c → P.pz h r c ≤ 30

variable {o n : ℕ} [Row o n]

/-- A head's scores, and the gradients of its weights, where the row sees the column. -/
theorem score_val {P : Rows} {R C : ℕ} (h : Fin 2) {x : FVec Ideal (T2 n 128) .bf16} {k : Vec Ideal (T3 1 128 128) .bf16} {X Y : ℕ → ℕ → ℝ}
    (hx : ∀ (a : Fin n) (e : Fin 128), 112 ≤ R + a → x (ix2 a e) = (X (R + a) e : EReal))
    (hk : ∀ b e : Fin 128, 112 ≤ C + b → k (ix3 0 b e) = (Y (C + b) e : EReal)) (a : Fin n) (b : Fin 128) (hs : sees (R + a) (C + b)) :
    score x (stack k) (ix2 a ⟨128 * h + b, by omega⟩)
      = ((∑ e ∈ Finset.range 64, X (R + a) (64 * h + e) * Y (C + b) (64 * h + e) : ℝ) : EReal) := by
  have h1 := hs.1; have h2 := hs.2
  rw [score_stack, ← sum_fin_coe (n := 64) (fun e => X (R + a) (64 * h + e) * Y (C + b) (64 * h + e))]
  refine Finset.sum_congr rfl fun e _ => ?_
  rw [hx _ _ (by omega), hk _ _ h2, ← EReal.coe_mul]

theorem head0_val {P : Rows} {p j : ℕ} {s : St Ideal} {c : Ctx Ideal n} {k v : Vec Ideal (T3 1 128 128) .bf16} {m : Option (IVec (T2 n 128) 1)}
    (hn : o + n = 384) (hp : p < 11) (hP : P.Small) (hc : CtxAt P (384 * p + o) c) (hk : KeysAt P (128 * j) k v) (hm : Seen m (384 * p + o) (128 * j))
    {psp pg : Vec Ideal (T3 2 384 128) .f32}
    (h1 : ∀ (a : Fin 384) (b : Fin 128), psp (ix3 0 a b) = ((∑ c ∈ Finset.range (128 * j), S (P.pz 0) (384 * p + a) c : ℝ) : EReal))
    (h2 : ∀ (a : Fin 384) (b : Fin 128), pg (ix3 0 a b) = ((∑ c ∈ Finset.range (128 * j), G (P.pz 0) (P.w 0) (384 * p + a) c : ℝ) : EReal)) :
    HeadOut (384 * p + o) (128 * j) (P.pz 0) (P.w 0) (head0 o (fun x => x) c m k v psp pg) := by
  unfold head0
  refine head_val c hc.um hc.ug hm ⟨fun a b hs => ?_, fun a b hs => hP 0 _ _ (by norm_num) (by omega) hs, fun a b hs => ?_, hc.tot0, fun a b => ?_, fun a b => ?_⟩
  · rw [lhalf_apply]
    exact (congrArg (fun i => score c.q (stack k) (ix2 a i)) (Fin.ext (show b.val = 128 * 0 + b.val by omega))).trans (score_val (P := P) 0 hc.q hk.k a b hs)
  · rw [lhalf_apply]
    exact (congrArg (fun i => score c.dout (stack v) (ix2 a i)) (Fin.ext (show b.val = 128 * 0 + b.val by omega))).trans (score_val (P := P) 0 hc.dout hk.v a b hs)
  · rw [mat_apply, ld3_apply psp Row.inb0 (by norm_num) a b (by omega)]
    exact (h1 ⟨o + a.val, by omega⟩ b).trans (by simp only [← add_assoc])
  · rw [mat_apply, ld3_apply pg Row.inb0 (by norm_num) a b (by omega)]
    exact (h2 ⟨o + a.val, by omega⟩ b).trans (by simp only [← add_assoc])

theorem head1_val {P : Rows} {p j : ℕ} {s : St Ideal} {c : Ctx Ideal n} {k v : Vec Ideal (T3 1 128 128) .bf16} {m : Option (IVec (T2 n 128) 1)}
    (hn : o + n = 384) (hp : p < 11) (hP : P.Small) (hc : CtxAt P (384 * p + o) c) (hk : KeysAt P (128 * j) k v) (hm : Seen m (384 * p + o) (128 * j))
    {psp pg : Vec Ideal (T3 2 384 128) .f32}
    (h1 : ∀ (a : Fin 384) (b : Fin 128), psp (ix3 1 a b) = ((∑ c ∈ Finset.range (128 * j), S (P.pz 1) (384 * p + a) c : ℝ) : EReal))
    (h2 : ∀ (a : Fin 384) (b : Fin 128), pg (ix3 1 a b) = ((∑ c ∈ Finset.range (128 * j), G (P.pz 1) (P.w 1) (384 * p + a) c : ℝ) : EReal)) :
    HeadOut (384 * p + o) (128 * j) (P.pz 1) (P.w 1) (head1 o (fun x => x) c m k v psp pg) := by
  unfold head1
  refine head_val c hc.um hc.ug hm ⟨fun a b hs => ?_, fun a b hs => hP 1 _ _ (by norm_num) (by omega) hs, fun a b hs => ?_, hc.tot1, fun a b => ?_, fun a b => ?_⟩
  · rw [rhalf_apply]; exact score_val (P := P) 1 hc.q hk.k a b hs
  · rw [rhalf_apply]; exact score_val (P := P) 1 hc.dout hk.v a b hs
  · rw [mat_apply, ld3_apply psp Row.inb1 (by norm_num) a b (by omega)]
    exact (h1 ⟨o + a.val, by omega⟩ b).trans (by simp only [← add_assoc])
  · rw [mat_apply, ld3_apply pg Row.inb1 (by norm_num) a b (by omega)]
    exact (h2 ⟨o + a.val, by omega⟩ b).trans (by simp only [← add_assoc])

/-! ## The buffers after the step -/

/-- A buffer of sums with the block's totals added: the rows below `o` see nothing of the block. -/
theorem sum_step {p j : ℕ} (hn : o + n = 384) (f : ℕ → ℕ → ℝ) (hlow : ∀ a < o, ∀ c, 128 * j ≤ c → f (384 * p + a) c = 0)
    {X : EReal} (a : Fin 384) (hX : X = ((∑ c ∈ Finset.range (128 * j), f (384 * p + a) c : ℝ) : EReal)) (Y : ∀ i : Fin n, EReal)
    (hY : ∀ i : Fin n, Y i = ((∑ c ∈ Finset.range 128, f (384 * p + o + i) (128 * j + c) : ℝ) : EReal)) :
    (if h : o ≤ a.val ∧ a.val < o + n then X + Y ⟨a.val - o, by omega⟩ else X) = ((∑ c ∈ Finset.range (128 * (j + 1)), f (384 * p + a) c : ℝ) : EReal) := by
  rw [show 128 * (j + 1) = 128 * j + 128 by ring, range_block]
  by_cases h : o ≤ a.val
  · rw [dif_pos ⟨h, by omega⟩, hX, hY, ← EReal.coe_add]
    simp only [show ∀ x, 384 * p + o + (x - o) = 384 * p + o + (x - o) from fun _ => rfl, show 384 * p + o + (a.val - o) = 384 * p + a.val by omega]
  · rw [dif_neg (fun hh => h hh.1), hX, Finset.sum_eq_zero (s := Finset.range 128) fun c _ => hlow a.val (by omega) _ (by omega), add_zero]

theorem put0_val {p j : ℕ} (hn : o + n = 384) {f : ℕ → ℕ → ℕ → ℝ} (hlow : ∀ h, ∀ a < o, ∀ c, 128 * j ≤ c → f h (384 * p + a) c = 0)
    {X : Vec Ideal (T3 2 384 128) .f32} {r0 : FVec Ideal (T2 n 256) .f32} (h : Fin 2) (a : Fin 384) (b : Fin 128)
    (hX : ∀ (a : Fin 384) (b : Fin 128), X (ix3 h a b) = ((∑ c ∈ Finset.range (128 * j), f h (384 * p + a) c : ℝ) : EReal))
    (h0 : ∀ (a : Fin n) (b : Fin 128), r0 (ix2 a ⟨128 + b, by omega⟩) = ((∑ i ∈ Finset.range 128, f 0 (384 * p + o + a) (128 * j + i) : ℝ) : EReal)) :
    put0 o n X r0 (ix3 h a b) = ((∑ c ∈ Finset.range (128 * (if h.val = 0 then j + 1 else j)), f h (384 * p + a) c : ℝ) : EReal) := by
  unfold put0
  rw [put3_apply]
  by_cases hh : h.val = 0
  · obtain rfl : h = 0 := Fin.ext hh
    refine Eq.trans ?_ (sum_step hn (f 0) (hlow 0) a (hX a b) (fun i => r0 (ix2 i ⟨128 + b, by omega⟩)) (fun i => h0 i b))
    by_cases ho : o ≤ a.val ∧ a.val < o + n
    · rw [dif_pos ⟨rfl, ho⟩, dif_pos ho, unmat_apply (o := o), addf_apply, rhalf_apply, mat_apply, ld3_apply X (Row.inb0 (o := o) (n := n)) (by norm_num) _ b (by show o + (a.val - o) < 384; omega)]
      congr 3
      ext; show o + (a.val - o) = a.val; omega
    · rw [dif_neg (fun hq => ho hq.2), dif_neg ho]
  · rw [dif_neg (fun hq => hh hq.1), if_neg hh, hX]
theorem put1_val {p j : ℕ} (hn : o + n = 384) {f : ℕ → ℕ → ℕ → ℝ} (hlow : ∀ h, ∀ a < o, ∀ c, 128 * j ≤ c → f h (384 * p + a) c = 0)
    {X : Vec Ideal (T3 2 384 128) .f32} {r1 : FVec Ideal (T2 n 256) .f32} (h : Fin 2) (a : Fin 384) (b : Fin 128)
    (hX : ∀ (h : Fin 2) (a : Fin 384) (b : Fin 128), X (ix3 h a b) = ((∑ c ∈ Finset.range (128 * (if h.val = 0 then j + 1 else j)), f h (384 * p + a) c : ℝ) : EReal))
    (h1 : ∀ (a : Fin n) (b : Fin 128), r1 (ix2 a ⟨128 + b, by omega⟩) = ((∑ i ∈ Finset.range 128, f 1 (384 * p + o + a) (128 * j + i) : ℝ) : EReal)) :
    put1 o n X r1 (ix3 h a b) = ((∑ c ∈ Finset.range (128 * (j + 1)), f h (384 * p + a) c : ℝ) : EReal) := by
  unfold put1
  rw [put3_apply]
  by_cases hh : h.val = 1
  · obtain rfl : h = 1 := Fin.ext hh
    refine Eq.trans ?_ (sum_step hn (f 1) (hlow 1) a (hX 1 a b) (fun i => r1 (ix2 i ⟨128 + b, by omega⟩)) (fun i => h1 i b))
    by_cases ho : o ≤ a.val ∧ a.val < o + n
    · rw [dif_pos ⟨rfl, ho⟩, dif_pos ho, unmat_apply (o := o), addf_apply, rhalf_apply, mat_apply, ld3_apply X (Row.inb1 (o := o) (n := n)) (by norm_num) _ b (by show o + (a.val - o) < 384; omega)]
      congr 3
      ext; show o + (a.val - o) = a.val; omega
    · rw [dif_neg (fun hq => ho hq.2), dif_neg ho]
  · rw [dif_neg (fun hq => hh hq.1), hX, if_pos (by omega)]

/-- The product of two heads' numbers with the stacked keys: each lane's own head. -/
theorem back_val {R C : ℕ} {x y : FVec Ideal (T2 n 128) .f32} {k : Vec Ideal (T3 1 128 128) .bf16} {f : ℕ → ℕ → ℕ → ℝ} {Y : ℕ → ℕ → ℝ}
    (hx : ∀ (a : Fin n) (b : Fin 128), x (ix2 a b) = (f 0 (R + a) (C + b) : EReal))
    (hy : ∀ (a : Fin n) (b : Fin 128), y (ix2 a b) = (f 1 (R + a) (C + b) : EReal))
    (hf : ∀ h r c, ¬ sees r c → f h r c = 0)
    (hk : ∀ b e : Fin 128, 112 ≤ C + b → k (ix3 0 b e) = (Y (C + b) e : EReal)) (a : Fin n) (l : Fin 128) :
    matmul (DotDims.plain n 256 128) none (beside o x y) (stack k) (constant (T2 n 128) .f32 0x00000000#32) (ix2 a l)
      = ((∑ c ∈ Finset.range 128, f (l / 64) (R + a) (C + c) * Y (C + c) l : ℝ) : EReal) := by
  have hz : ∀ (h : ℕ) (b : Fin 128), f h (R + a) (C + b) = 0 ∨ k (ix3 0 b l) = (Y (C + b) l : EReal) := fun h b => by
    by_cases hs : sees (R + a.val) (C + b.val)
    · exact Or.inr (hk _ _ hs.2)
    · exact Or.inl (hf h _ _ hs)
  rw [plain_apply, sum_256, ← sum_fin_coe (n := 128) (fun c => f (l / 64) (R + a) (C + c) * Y (C + c) l)]
  by_cases hl : l.val < 64
  · rw [show l.val / 64 = 0 by omega]
    refine (congrArg₂ (· + ·) (Finset.sum_congr rfl fun i _ => ?_) (Finset.sum_eq_zero fun i _ => ?_)).trans (add_zero _)
    · rw [beside_left, hx, stack_apply, if_pos (by simp [hl])]
      have e : (⟨i.val % 128, Nat.mod_lt _ (by norm_num)⟩ : Fin 128) = i := Fin.ext (Nat.mod_eq_of_lt i.isLt)
      exact (congrArg (fun q => (f 0 (R + a) (C + i) : EReal) * k (ix3 0 q l)) e).trans (mul_coe (hz 0 i))
    · rw [stack_apply, if_neg (by simp; omega), mul_zero]
  · rw [show l.val / 64 = 1 by omega]
    refine (congrArg₂ (· + ·) (Finset.sum_eq_zero fun i _ => ?_) (Finset.sum_congr rfl fun i _ => ?_)).trans (zero_add _)
    · rw [stack_apply, if_neg (by simp [hl]), mul_zero]
    · rw [beside_right, hy, stack_apply, if_pos (by simp; omega)]
      have e : (⟨(128 + i.val) % 128, Nat.mod_lt _ (by norm_num)⟩ : Fin 128) = i := Fin.ext (by show (128 + i.val) % 128 = i.val; omega)
      exact (congrArg (fun q => (f 1 (R + a) (C + i) : EReal) * k (ix3 0 q l)) e).trans (mul_coe (hz 1 i))

/-- The gradient of a block of keys: each lane's own head. -/
theorem fold_val {R C : ℕ} {lane : IVec (T2 128 128) 1} {xt : FVec Ideal (T2 128 n) .bf16} {x y : FVec Ideal (T2 n 128) .f32} {f : ℕ → ℕ → ℕ → ℝ} {X : ℕ → ℕ → ℝ}
    (hl : ∀ a b : Fin 128, lane (ix2 a b) = if a.val < 64 then 1#1 else 0#1)
    (hx : ∀ (a : Fin n) (b : Fin 128), x (ix2 a b) = (f 0 (R + a) (C + b) : EReal))
    (hy : ∀ (a : Fin n) (b : Fin 128), y (ix2 a b) = (f 1 (R + a) (C + b) : EReal))
    (hf : ∀ h r c, ¬ sees r c → f h r c = 0)
    (hxt : ∀ (a : Fin n) (e : Fin 128), 112 ≤ R + a → xt (ix2 e a) = (X (R + a) e : EReal)) (l k : Fin 128) :
    fold lane xt (beside o x y) (ix2 l k) = ((∑ a ∈ Finset.range n, f (l / 64) (R + a) (C + k) * X (R + a) l : ℝ) : EReal) := by
  have hz : ∀ (h : ℕ) (a : Fin n), f h (R + a) (C + k) = 0 ∨ xt (ix2 l a) = (X (R + a) l : EReal) := fun h a => by
    by_cases hs : sees (R + a.val) (C + k.val)
    · have h1 := hs.1; have h2 := hs.2
      exact Or.inr (hxt _ _ (by omega))
    · exact Or.inl (hf h _ _ hs)
  have e0 : ∀ z : FVec Ideal (T2 128 256) .f32, extractStridedSlice (T2 128 128) ![0, 0] z sl_128_0 (ix2 l k) = z (ix2 l ⟨k.val, by omega⟩) := fun z =>
    extractStridedSlice_apply _ _ _ _ _ (fun d => by fin_cases d; exact (Nat.zero_add _).symm; exact (Nat.zero_add _).symm)
  have e1 : ∀ z : FVec Ideal (T2 128 256) .f32, extractStridedSlice (T2 128 128) ![0, 128] z sl_128_1 (ix2 l k) = z (ix2 l ⟨128 + k.val, by omega⟩) := fun z =>
    extractStridedSlice_apply _ _ _ _ _ (fun d => by fin_cases d; exact (Nat.zero_add _).symm; rfl)
  rw [← sum_fin_coe (n := n) (fun a => f (l / 64) (R + a) (C + k) * X (R + a) l)]
  unfold fold
  show Scalar.select (lane (ix2 l k)) _ _ = _
  rw [hl, select_word, e0, e1]
  by_cases hl : l.val < 64
  · rw [if_pos hl, plain_apply, show l.val / 64 = 0 by omega]
    refine Finset.sum_congr rfl fun i _ => ?_
    rw [beside_left, hx]; exact mul_coe' (hz 0 i)
  · rw [if_neg hl, plain_apply, show l.val / 64 = 1 by omega]
    refine Finset.sum_congr rfl fun i _ => ?_
    rw [beside_right, hy]; exact mul_coe' (hz 1 i)

theorem keys_step {p j : ℕ} (hn : o + n = 384) (f : ℕ → ℕ → ℝ) (hlow : ∀ a < o, ∀ c, 128 * j ≤ c → f (384 * p + a) c = 0)
    {X : Vec Ideal (T3 33 128 128) .f32} {y : FVec Ideal (T2 128 128) .f32} (hj : j < 33) (b : Fin 33) (l k : Fin 128)
    (hX : ∀ b : Fin 33, X (ix3 b l k) = ((∑ r ∈ Finset.range (384 * p + if b.val < j then 384 else 0), f r (128 * b + k) : ℝ) : EReal))
    (hy : y (ix2 l k) = ((∑ a ∈ Finset.range n, f (384 * p + o + a) (128 * j + k) : ℝ) : EReal)) :
    putk X (offJ j) (inbJ hj) y (ix3 b l k) = ((∑ r ∈ Finset.range (384 * p + if b.val < j + 1 then 384 else 0), f r (128 * b + k) : ℝ) : EReal) := by
  unfold putk offJ
  rw [put3_apply]
  by_cases hb : b.val = j
  · have hin : shapeCast (T3 1 128 128) (addf (shapeCast (T2 128 128) (View.ld X (Rect.unit (s := T3 33 128 128) ![j, 0, 0] (T3 1 128 128).size (inbJ hj))) out_128 : FVec Ideal (T2 128 128) .f32) y) in_128 (ix3 0 l k)
        = X (ix3 ⟨j, hj⟩ l k) + y (ix2 l k) := by
      refine (shapeCast_apply _ in_128 _ (ix2 l k) (by rw [Shape.rowMajor_val_three, Shape.rowMajor_val_two]; show l.val * 128 + k.val = (0 * 128 + l.val) * 128 + k.val; omega)).trans ?_
      rw [addf_apply]
      refine congrArg (· + _) ((shapeCast_apply _ out_128 _ (ix3 0 l k) (by rw [Shape.rowMajor_val_three, Shape.rowMajor_val_two]; show (0 * 128 + l.val) * 128 + k.val = l.val * 128 + k.val; omega)).trans ?_)
      rw [ld3_apply X (inbJ hj) hj l k (by omega)]
      congr 2; ext; show 0 + l.val = l.val; omega
    rw [dif_pos ⟨hb, by omega, by omega⟩]
    refine (congrArg _ (congrArg (fun q => ix3 (0 : Fin 1) q k) (Fin.ext (Nat.sub_zero _) : (⟨l.val - 0, by omega⟩ : Fin 128) = l))).trans (hin.trans ?_)
    rw [hX ⟨j, hj⟩, hy, ← EReal.coe_add, hb, if_neg (lt_irrefl _), if_pos (Nat.lt_succ_self _), add_zero, range_block, show Finset.range 384 = Finset.range (o + n) by rw [hn], range_block _ o n]
    rw [Finset.sum_eq_zero (s := Finset.range o) fun a ha => hlow a (Finset.mem_range.1 ha) _ (by omega), zero_add]
    simp only [← add_assoc]
  · rw [dif_neg (fun hq => hb hq.1), hX]
    simp only [show b.val < j + 1 ↔ b.val < j by omega]

/-- The step. -/
theorem next_val {P : Rows} {p j : ℕ} {s : St Ideal} {c : Ctx Ideal n} {k v : Vec Ideal (T3 1 128 128) .bf16} {m : Option (IVec (T2 n 128) 1)}
    (hn : o + n = 384) (hp : p < 11) (hj : j < 33) (hP : P.Small) (hc : CtxAt P (384 * p + o) c) (hk : KeysAt P (128 * j) k v) (hm : Seen m (384 * p + o) (128 * j))
    (hlow : ∀ a < o, ∀ c, 128 * j ≤ c → ¬ sees (384 * p + a) c) (hs : Inv P p j s) :
    Inv P p (j + 1) (next o (fun x => x) c m k v (offJ j) (inbJ hj) s) := by
  have H0 := head0_val (s := s) hn hp hP hc hk hm (hs.psp 0) (hs.pg 0)
  have p0 : ∀ (h : Fin 2) (a : Fin 384) (b : Fin 128), put0 o n s.psp (head0 o (fun x => x) c m k v s.psp s.pg).r (ix3 h a b) = _ := fun h a b =>
    put0_val hn (f := fun h => S (P.pz h)) (fun h a ha c hc => S_zero _ (hlow a ha c hc)) h a b (hs.psp h) H0.r
  have g0 : ∀ (h : Fin 2) (a : Fin 384) (b : Fin 128), put0 o n s.pg (head0 o (fun x => x) c m k v s.psp s.pg).rg (ix3 h a b) = _ := fun h a b =>
    put0_val hn (f := fun h => G (P.pz h) (P.w h)) (fun h a ha c hc => G_zero _ _ (hlow a ha c hc)) h a b (hs.pg h) H0.rg
  have H1 := head1_val (s := s) hn hp hP hc hk hm (fun a b => p0 1 a b) (fun a b => g0 1 a b)
  constructor
  · intro h a b
    exact put1_val hn (f := fun h => S (P.pz h)) (fun h a ha c hc => S_zero _ (hlow a ha c hc)) h a b p0 H1.r
  · intro h a b
    exact put1_val hn (f := fun h => G (P.pz h) (P.w h)) (fun h a ha c hc => G_zero _ _ (hlow a ha c hc)) h a b g0 H1.rg
  · intro a l
    show VecWindow.put s.dq ![o, 0] (T2 n 128).size _ (ix2 a l) = _
    rw [put2_apply, ← sum_step hn (fun r c => dZ (P.pz (l / 64)) (P.w (l / 64)) r c * P.k c l)
      (fun a ha c hc => by rw [dZ_zero _ _ (hlow a ha c hc), zero_mul]) a (hs.dq a l) _
      (fun i => back_val (o := o) (f := fun h => dZ (P.pz h) (P.w h)) H0.dz H1.dz (fun h r c hh => dZ_zero _ _ hh) hk.k i l)]
    by_cases ho : o ≤ a.val ∧ a.val < o + n
    · rw [dif_pos ho, dif_pos ho]
      refine (shapeCast_apply _ (Row.self o) _ _ rfl).trans ?_
      rw [addf_apply]
      refine congrArg (· + _) ((ld2_apply s.dq (Row.inbq (o := o) (n := n)) _ l (by show o + (a.val - o) < 384; omega)).trans ?_)
      congr 2; ext; show o + (a.val - o) = a.val; omega
    · rw [dif_neg ho, dif_neg ho]
  · intro b l κ
    exact keys_step hn (fun r c => dZ (P.pz (l / 64)) (P.w (l / 64)) r c * P.q r l) (fun a ha c hc => by rw [dZ_zero _ _ (hlow a ha c hc), zero_mul]) hj b l κ
      (fun b => hs.dk b l κ) (fold_val (o := o) (f := fun h => dZ (P.pz h) (P.w h)) hc.lane H0.dz H1.dz (fun h r c hh => dZ_zero _ _ hh) hc.qt l κ)
  · intro b l κ
    exact keys_step hn (fun r c => A (P.pz (l / 64)) r c * P.d r l) (fun a ha c hc => by rw [A_zero _ (hlow a ha c hc), zero_mul]) hj b l κ
      (fun b => hs.dv b l κ) (fold_val (o := o) (f := fun h => A (P.pz h)) hc.lane H0.a H1.a (fun h r c hh => A_zero _ hh) hc.dt l κ)

end Cert.Attn
-- ==== Proof.Val.Sweep.lean ====
/-
  A query block's sweep over the reals: the masks are the causal mask, and after the last key block the buffers hold the
  sums over every column a row of the block sees.
-/
module

public import proofs.«01_k».proof.Proof.Val.Step

@[expose] public section

set_option maxRecDepth 16384

noncomputable section

namespace Cert.Attn

open Idealize.ShloMosaic Idealize.SL
open Idealize.ShloMosaic.ValueIdx
open scoped BigOperators

/-! ## The masks -/

theorem seen_none {n R C : ℕ} (hC : 112 ≤ C) (hR : C + 128 ≤ R) : Seen (n := n) none R C := fun a b =>
  ⟨by have := b.isLt; omega, by omega⟩

theorem seen_mask {o n : ℕ} [Row o n] {wr wc : BitVec 32} {R C : ℕ} (hr : wr = BitVec.ofNat 32 R) (hc : wc = BitVec.ofNat 32 C)
    (hR : R + n < 2 ^ 31) (hC : C + 128 < 2 ^ 31) : Seen (some (mask o n wr wc)) R C := by
  intro a b
  show mask o n wr wc (ix2 a b) = _
  subst hr hc
  unfold mask
  show IntOp.andi (IntOp.cmpi .slt (IntOp.addi (iota .tc (T2 n 128) 32 [1] _ (ix2 a b)) (BitVec.ofNat 32 C)) (IntOp.addi (iota .tc (T2 n 128) 32 [0] _ (ix2 a b)) (BitVec.ofNat 32 R)))
    (IntOp.cmpi .sge (IntOp.addi (iota .tc (T2 n 128) 32 [1] _ (ix2 a b)) (BitVec.ofNat 32 C)) (BitVec.ofNat 32 112)) = _
  rw [iota_single_apply, iota_single_apply]
  have e1 : IntOp.addi (BitVec.ofNat 32 ((ix2 a b : (T2 n 128).Idx) 1).val) (BitVec.ofNat 32 C) = BitVec.ofNat 32 (C + b.val) := by
    show BitVec.ofNat 32 b.val + BitVec.ofNat 32 C = _
    rw [← BitVec.ofNat_add, add_comm]
  have e2 : IntOp.addi (BitVec.ofNat 32 ((ix2 a b : (T2 n 128).Idx) 0).val) (BitVec.ofNat 32 R) = BitVec.ofNat 32 (R + a.val) := by
    show BitVec.ofNat 32 a.val + BitVec.ofNat 32 R = _
    rw [← BitVec.ofNat_add, add_comm]
  rw [e1, e2, slt_word (by omega) (by omega), sge_word (by omega) (by norm_num)]
  unfold sees
  by_cases h1 : C + b.val < R + a.val <;> by_cases h2 : 112 ≤ C + b.val <;> simp [h1, h2, IntOp.andi]

theorem rowW_eq {p : ℕ} (hp : p < 11) (o : ℕ) : rowW p (BitVec.ofNat 32 o) = BitVec.ofNat 32 (384 * p + o) := by
  show BitVec.ofNat 32 p * BitVec.ofNat 32 384 + BitVec.ofNat 32 o = _
  rw [← BitVec.ofNat_mul, ← BitVec.ofNat_add, mul_comm]
theorem colW_eq {p : ℕ} (hp : p < 11) (t : ℕ) : colW p (BitVec.ofNat 32 t) = BitVec.ofNat 32 (128 * (3 * p + t)) := by
  show (BitVec.ofNat 32 3 * BitVec.ofNat 32 p + BitVec.ofNat 32 t) * BitVec.ofNat 32 128 = _
  rw [← BitVec.ofNat_mul, ← BitVec.ofNat_add, ← BitVec.ofNat_mul, mul_comm]

/-! ## What a query block reads -/

/-- Query block `p`'s queries, output gradients and totals. -/
structure BlockAt (P : Rows) (p : ℕ) (q : Vec Ideal (T3 1 384 128) .bf16) (d : Vec Ideal (T2 384 128) .bf16) (lt : Vec Ideal (T2 384 128) .f32) : Prop where
  q : ∀ (a : Fin 384) (e : Fin 128), 112 ≤ 384 * p + a → q (ix3 0 a e) = ((8 * P.q (384 * p + a) e : ℝ) : EReal)
  d : ∀ (a : Fin 384) (e : Fin 128), 112 ≤ 384 * p + a → d (ix2 a e) = (P.d (384 * p + a) e : EReal)
  lt : ∀ (a : Fin 384) (l : Fin 128), lt (ix2 a l) = (total (P.pz (l / 64)) (384 * p + a) : EReal)

/-- All keys and values. -/
structure AllKeys (P : Rows) (K V : Vec Ideal (T3 1 4224 128) .bf16) : Prop where
  k : ∀ (c : Fin 4224) (e : Fin 128), 112 ≤ c.val → K (ix3 0 c e) = (P.k c e : EReal)
  v : ∀ (c : Fin 4224) (e : Fin 128), 112 ≤ c.val → V (ix3 0 c e) = (P.v c e : EReal)

theorem AllKeys.at_ {P : Rows} {K V : Vec Ideal (T3 1 4224 128) .bf16} (h : AllKeys P K V) {j : ℕ} (hj : j < 33) :
    KeysAt P (128 * j) (View.ld K (Rect.unit (s := T3 1 4224 128) (offK j) (T3 1 128 128).size (inbK hj))) (View.ld V (Rect.unit (s := T3 1 4224 128) (offK j) (T3 1 128 128).size (inbK hj))) :=
  ⟨fun b e hc => (ld3_apply K (inbK hj) (by norm_num) b e (by omega)).trans (h.k ⟨128 * j + b.val, by omega⟩ e hc),
   fun b e hc => (ld3_apply V (inbK hj) (by norm_num) b e (by omega)).trans (h.v ⟨128 * j + b.val, by omega⟩ e hc)⟩

theorem scaled_apply (q : Vec Ideal (T3 1 384 128) .bf16) (a : Fin 384) (e : Fin 128) {x : ℝ} (h : q (ix3 0 a e) = ((8 * x : ℝ) : EReal)) :
    scaled q (ix2 a e) = (x : EReal) := by
  show shapeCast (T2 384 128) q out_q (ix2 a e) * Ideal.ofBits .f32 0x3E000000#32 = _
  rw [shapeCast_apply q out_q (ix2 a e) (ix3 0 a e) (by rw [Shape.rowMajor_val_three, Shape.rowMajor_val_two]; show (0 * 384 + a.val) * 128 + e.val = a.val * 128 + e.val; omega),
    h, mul_eighth]
  congr 1; ring

theorem self_apply (lt : Vec Ideal (T2 384 128) .f32) : (shapeCast (T2 384 128) lt self_384 : FVec Ideal (T2 384 128) .f32) = lt :=
  funext fun i => shapeCast_apply lt self_384 i i rfl

theorem swapped_apply (lt : Vec Ideal (T2 384 128) .f32) (a : Fin 384) (l : Fin 128) :
    swapped lt (ix2 a l) = lt (ix2 a ⟨(l.val + 64) % 128, Nat.mod_lt _ (by norm_num)⟩) := by
  unfold swapped
  rw [self_apply]
  refine dynamicRotate_apply _ _ _ _ _ _ fun b => ?_
  fin_cases b
  · rfl
  · show (l.val + 64) % 128 = (l.val + 128 - 64 % 128) % 128
    congr 1

theorem laneA_apply (a : Fin 384) (l : Fin 128) : laneA (ix2 a l) = if l.val < 64 then 1#1 else 0#1 :=
  lane_apply (s := T2 384 128) (d := 1) i1_384 (ix2 a l) (by show l.val < 2 ^ 31; omega)

theorem mkCtx_val {P : Rows} {p : ℕ} {q : Vec Ideal (T3 1 384 128) .bf16} {d : Vec Ideal (T2 384 128) .bf16} {lt : Vec Ideal (T2 384 128) .f32}
    (h : BlockAt P p q d lt) : CtxAt P (384 * p) (mkCtx q d lt) where
  um := rfl
  ug := rfl
  lane a b := lane_apply (s := T2 128 128) (d := 0) i0_128 (ix2 a b) (by show a.val < 2 ^ 31; omega)
  q a e hr := scaled_apply q a e (h.q a e hr)
  dout a e hr := h.d a e hr
  qt a e hr := (transpose_apply [1, 0] (scaled q) tr_q (ix2 e a) (ix2 a e) (fun d => by fin_cases d <;> rfl)).trans (scaled_apply q a e (h.q a e hr))
  dt a e hr := (transpose_apply [1, 0] (d : FVec Ideal (T2 384 128) .bf16) tr_q (ix2 e a) (ix2 a e) (fun d => by fin_cases d <;> rfl)).trans (h.d a e hr)
  tot0 a b := by
    show Scalar.select (laneA (ix2 a b)) (shapeCast (T2 384 128) lt self_384 (ix2 a b)) (swapped lt (ix2 a b)) = _
    rw [laneA_apply, select_word, self_apply, swapped_apply, h.lt, h.lt]
    by_cases hb : b.val < 64
    · rw [if_pos hb, show b.val / 64 = 0 by omega]
    · rw [if_neg hb]
      show (total (P.pz ((b.val + 64) % 128 / 64)) _ : EReal) = _
      rw [show (b.val + 64) % 128 / 64 = 0 by omega]
  tot1 a b := by
    show Scalar.select (laneA (ix2 a b)) (swapped lt (ix2 a b)) (shapeCast (T2 384 128) lt self_384 (ix2 a b)) = _
    rw [laneA_apply, select_word, self_apply, swapped_apply, h.lt, h.lt]
    by_cases hb : b.val < 64
    · rw [if_pos hb]
      show (total (P.pz ((b.val + 64) % 128 / 64)) _ : EReal) = _
      rw [show (b.val + 64) % 128 / 64 = 1 by omega]
    · rw [if_neg hb, show b.val / 64 = 1 by omega]

theorem rows_val {o n : ℕ} [Row o n] (hn : o + n = 384) {P : Rows} {R : ℕ} {c : Ctx Ideal 384} (h : CtxAt P R c) : CtxAt P (R + o) (c.rows o n) := by
  have eq : ∀ {α : Type} (x : (T2 384 128).Idx → α) (a : Fin n) (e : Fin 128),
      extractStridedSlice (T2 n 128) ![o, 0] x Row.slq (ix2 a e) = x (ix2 ⟨o + a.val, by omega⟩ e) := fun x a e =>
    extractStridedSlice_apply _ _ _ _ _ (fun d => by fin_cases d; rfl; exact (Nat.zero_add _).symm)
  have et : ∀ {α : Type} (x : (T2 128 384).Idx → α) (a : Fin n) (e : Fin 128),
      extractStridedSlice (T2 128 n) ![0, o] x Row.slt (ix2 e a) = x (ix2 e ⟨o + a.val, by omega⟩) := fun x a e =>
    extractStridedSlice_apply _ _ _ _ _ (fun d => by fin_cases d; exact (Nat.zero_add _).symm; rfl)
  have ea : ∀ a : Fin n, R + o + a.val = R + (o + a.val) := fun a => add_assoc _ _ _
  constructor
  · exact h.um
  · exact h.ug
  · exact h.lane
  · intro a e hr; rw [ea] at hr ⊢; exact (eq c.q a e).trans (h.q ⟨o + a.val, by omega⟩ e hr)
  · intro a e hr; rw [ea] at hr ⊢; exact (eq c.dout a e).trans (h.dout ⟨o + a.val, by omega⟩ e hr)
  · intro a e hr; rw [ea] at hr ⊢; exact (et c.qt a e).trans (h.qt ⟨o + a.val, by omega⟩ e hr)
  · intro a e hr; rw [ea] at hr ⊢; exact (et c.dt a e).trans (h.dt ⟨o + a.val, by omega⟩ e hr)
  · intro a e; rw [ea]; exact (eq c.tot0 a e).trans (h.tot0 ⟨o + a.val, by omega⟩ e)
  · intro a e; rw [ea]; exact (eq c.tot1 a e).trans (h.tot1 ⟨o + a.val, by omega⟩ e)

/-! ## The sweep -/

theorem stepAt_val {P : Rows} {p j : ℕ} (hp : p < 11) (hj : j < 3 * p + 3) (hP : P.Small) {c : Ctx Ideal 384} (hc : CtxAt P (384 * p) c)
    {K V : Vec Ideal (T3 1 4224 128) .bf16} (hK : AllKeys P K V) {s : St Ideal} (hs : Inv P p j s) :
    Inv P p (j + 1) (stepAt (fun _ x => x) p c K V j s) := by
  have hj' : j < 33 := by omega
  have hk := hK.at_ hj'
  unfold stepAt
  rw [dif_pos hj']
  by_cases h : j < 3 * p
  · rw [if_pos h]
    refine next_val (o := 0) (n := 384) (by norm_num) hp hj' hP hc hk ?_ (fun a ha => absurd ha (Nat.not_lt_zero a)) hs
    by_cases h0 : j = 0
    · rw [if_pos h0]; subst h0
      exact seen_mask (rowW_eq hp 0) rfl (by omega) (by norm_num)
    · rw [if_neg h0]; exact seen_none (by omega) (by omega)
  · rw [if_neg h]
    by_cases h0 : j = 3 * p
    · rw [if_pos h0]; subst h0
      exact next_val (o := 0) (n := 384) (by norm_num) hp hj' hP hc hk (seen_mask (rowW_eq hp 0) (colW_eq hp 0) (by omega) (by omega)) (fun a ha => absurd ha (Nat.not_lt_zero a)) hs
    · rw [if_neg h0]
      by_cases h1 : j = 3 * p + 1
      · rw [if_pos h1]; subst h1
        exact next_val (o := 128) (n := 256) (by norm_num) hp hj' hP (rows_val (by norm_num) hc) hk (seen_mask (rowW_eq hp 128) (colW_eq hp 1) (by omega) (by omega))
          (fun a ha c hcc hh => by have := hh.1; omega) hs
      · rw [if_neg h1]
        obtain rfl : j = 3 * p + 2 := by omega
        exact next_val (o := 256) (n := 128) (by norm_num) hp hj' hP (rows_val (by norm_num) hc) hk (seen_mask (rowW_eq hp 256) (colW_eq hp 2) (by omega) (by omega))
          (fun a ha c hcc hh => by have := hh.1; omega) hs

theorem sweep_val {P : Rows} {p : ℕ} (hp : p < 11) (hP : P.Small) {c : Ctx Ideal 384} (hc : CtxAt P (384 * p) c)
    {K V : Vec Ideal (T3 1 4224 128) .bf16} (hK : AllKeys P K V) {s : St Ideal} (hs : Inv P p 0 s) :
    ∀ j ≤ 3 * p + 3, Inv P p j (sweep (fun _ x => x) p c K V s j)
  | 0, _ => hs
  | j + 1, h => stepAt_val hp h hP hc hK (sweep_val hp hP hc hK hs j (by omega))

/-- The buffers of all keys before query block `p`. -/
structure KeyInv (P : Rows) (p : ℕ) (dk dv : Vec Ideal (T3 33 128 128) .f32) : Prop where
  dk : ∀ (b : Fin 33) (l k : Fin 128), dk (ix3 b l k)
    = ((∑ r ∈ Finset.range (384 * p), dZ (P.pz (l / 64)) (P.w (l / 64)) r (128 * b + k) * P.q r l : ℝ) : EReal)
  dv : ∀ (b : Fin 33) (l k : Fin 128), dv (ix3 b l k)
    = ((∑ r ∈ Finset.range (384 * p), A (P.pz (l / 64)) r (128 * b + k) * P.d r l : ℝ) : EReal)

theorem z32_coe : (z32 (F := Ideal) : EReal) = ((0 : ℝ) : EReal) := by
  show Ideal.ofBits .f32 _ = _
  simp [Ideal.ofBits, Ideal.ieee]

theorem start_val {P : Rows} {p : ℕ} {dk dv : Vec Ideal (T3 33 128 128) .f32} (h : 0 < p → KeyInv P p dk dv) : Inv P p 0 (start p dk dv) := by
  constructor
  · intro h a b; exact z32_coe
  · intro h a b; exact z32_coe
  · intro a l; exact z32_coe
  · intro b l k
    rw [if_neg (Nat.not_lt_zero _), add_zero]
    show (if p = 0 then zeroK else dk) (ix3 b l k) = _
    by_cases hp : p = 0
    · subst hp; exact z32_coe
    · rw [if_neg hp]; exact (h (by omega)).dk b l k
  · intro b l k
    rw [if_neg (Nat.not_lt_zero _), add_zero]
    show (if p = 0 then zeroK else dv) (ix3 b l k) = _
    by_cases hp : p = 0
    · subst hp; exact z32_coe
    · rw [if_neg hp]; exact (h (by omega)).dv b l k

/-- A sum over the columns up to the block's last row is the sum over every column. -/
theorem sum_cols {p : ℕ} (hp : p < 11) {f : ℕ → ℝ} {r : ℕ} (hr : r < 384 * p + 384) (hf : ∀ c, ¬ sees r c → f c = 0) :
    ∑ c ∈ Finset.range (128 * (3 * p + 3)), f c = ∑ c ∈ Finset.range 4224, f c := by
  refine Finset.sum_subset (fun c hc => Finset.mem_range.2 (by have := Finset.mem_range.1 hc; omega)) fun c _ hc => hf c fun hs => ?_
  have h1 := hs.1
  have h2 : ¬ c < 128 * (3 * p + 3) := fun hh => hc (Finset.mem_range.2 hh)
  omega

theorem sum_rows {p : ℕ} (hp : p < 11) {f : ℕ → ℕ → ℝ} {b : ℕ} {k : Fin 128} (hf : ∀ r c, ¬ sees r c → f r c = 0) :
    ∑ r ∈ Finset.range (384 * p + if b < 3 * p + 3 then 384 else 0), f r (128 * b + k) = ∑ r ∈ Finset.range (384 * (p + 1)), f r (128 * b + k) := by
  by_cases h : b < 3 * p + 3
  · rw [if_pos h]; rfl
  · rw [if_neg h]
    refine Finset.sum_subset (fun c hc => Finset.mem_range.2 (by have := Finset.mem_range.1 hc; omega)) fun c hc _ => hf c _ fun hs => ?_
    have h1 := hs.1
    have h2 := Finset.mem_range.1 hc
    omega

/-- A query block: the gradient of its queries, and the gradients of the keys and values up to it. -/
theorem done_val {P : Rows} {p : ℕ} (hp : p < 11) (hP : P.Small) {q : Vec Ideal (T3 1 384 128) .bf16} {d : Vec Ideal (T2 384 128) .bf16} {lt : Vec Ideal (T2 384 128) .f32}
    (hb : BlockAt P p q d lt) {K V : Vec Ideal (T3 1 4224 128) .bf16} (hK : AllKeys P K V) {dk dv : Vec Ideal (T3 33 128 128) .f32}
    (h : 0 < p → KeyInv P p dk dv) :
    (∀ (a : Fin 384) (l : Fin 128), (done (fun _ x => x) p q K V d lt dk dv).dq (ix2 a l)
        = ((∑ c ∈ Finset.range 4224, dZ (P.pz (l / 64)) (P.w (l / 64)) (384 * p + a) c * P.k c l : ℝ) : EReal))
      ∧ KeyInv P (p + 1) (done (fun _ x => x) p q K V d lt dk dv).dk (done (fun _ x => x) p q K V d lt dk dv).dv := by
  have hI : Inv P p (3 * p + 3) (done (fun _ x => x) p q K V d lt dk dv) :=
    sweep_val hp hP (mkCtx_val hb) hK (start_val h) _ le_rfl
  refine ⟨fun a l => ?_, fun b l k => ?_, fun b l k => ?_⟩
  · rw [hI.dq, sum_cols hp (r := 384 * p + a) (by omega) fun c hc => by rw [dZ_zero _ _ hc, zero_mul]]
  · rw [hI.dk, sum_rows hp (f := fun r c => dZ (P.pz (l / 64)) (P.w (l / 64)) r c * P.q r l) fun r c hc => by rw [dZ_zero _ _ hc, zero_mul]]
  · rw [hI.dv, sum_rows hp (f := fun r c => A (P.pz (l / 64)) r c * P.d r l) fun r c hc => by rw [A_zero _ hc, zero_mul]]

end Cert.Attn
-- ==== Proof.Val.Out.lean ====
/-
  What a query block writes of the output, over the reals, and the whole result from a head pair's parts.
-/
module

public import proofs.«01_k».proof.Proof.Val.Sweep

@[expose] public section

set_option maxRecDepth 16384

noncomputable section

namespace Cert.Attn

open Idealize.ShloMosaic Idealize.SL
open Idealize.ShloMosaic.ValueIdx
open scoped BigOperators

/-! ## The output's block of a head pair -/

theorem rowsOut_apply (d : Vec Ideal (T2 384 128) .f32) (a : Fin 384) (l : Fin 128) :
    rowsOut d (ix3 0 a l) = d (ix2 a l) * Ideal.ofBits .f32 0x3E000000#32 :=
  shapeCast_apply _ in_q (ix3 0 a l) (ix2 a l) (by
    rw [Shape.rowMajor_val_three, Shape.rowMajor_val_two]; show a.val * 128 + l.val = (0 * 384 + a.val) * 128 + l.val; omega)

theorem keysOut_apply (X : Vec Ideal (T3 33 128 128) .f32) {b : ℕ} (hb : b < 33) (k l : Fin 128) :
    keysOut X hb (ix3 0 k l) = X (ix3 ⟨b, hb⟩ l k) := by
  refine (shapeCast_apply _ in_128 (ix3 0 k l) (ix2 k l) (by
    rw [Shape.rowMajor_val_three, Shape.rowMajor_val_two]; show k.val * 128 + l.val = (0 * 128 + k.val) * 128 + l.val; omega)).trans ?_
  refine (transpose_apply [1, 0] (shapeCast (T2 128 128) (View.ld X (Rect.unit (s := T3 33 128 128) (offJ b) (T3 1 128 128).size (inbJ hb))) out_128 : FVec Ideal (T2 128 128) .f32)
    tr_128 (ix2 k l) (ix2 l k) (fun d => by fin_cases d <;> rfl)).trans ?_
  refine (shapeCast_apply _ out_128 (ix2 l k) (ix3 0 l k) (by
    rw [Shape.rowMajor_val_three, Shape.rowMajor_val_two]; show (0 * 128 + l.val) * 128 + k.val = l.val * 128 + k.val; omega)).trans ?_
  refine (ld3_apply X (inbJ hb) hb l k (by omega)).trans ?_
  congr 2; ext; show 0 + l.val = l.val; omega

theorem putKeys_zero (X : Vec Ideal (T3 3 4224 128) .bf16) (dk dv : Vec Ideal (T3 33 128 128) .f32) (a : Fin 4224) (l : Fin 128) :
    ∀ n, putKeys X dk dv n (ix3 0 a l) = X (ix3 0 a l)
  | 0 => rfl
  | n + 1 => by
    unfold putKeys
    split
    · rw [put3_apply, dif_neg (fun h => by have := h.1; exact absurd this (by decide)), put3_apply, dif_neg (fun h => by have := h.1; exact absurd this (by decide))]
      exact putKeys_zero X dk dv a l n
    · exact putKeys_zero X dk dv a l n

theorem putKeys_one (X : Vec Ideal (T3 3 4224 128) .bf16) (dk dv : Vec Ideal (T3 33 128 128) .f32) (a : Fin 4224) (l : Fin 128) :
    ∀ n ≤ 33, a.val < 128 * n → putKeys X dk dv n (ix3 1 a l) = dk (ix3 ⟨a.val / 128, by omega⟩ l ⟨a.val % 128, Nat.mod_lt _ (by norm_num)⟩)
  | 0, _, h => absurd h (by omega)
  | n + 1, hn, h => by
    unfold putKeys
    rw [dif_pos (by omega), put3_apply, dif_neg (fun h => by have := h.1; exact absurd this (by decide)), put3_apply]
    by_cases hb : 128 * n ≤ a.val
    · rw [dif_pos ⟨rfl, hb, by omega⟩, keysOut_apply]
      congr 2
      · ext; show n = a.val / 128; omega
      · ext; show a.val - 128 * n = a.val % 128; omega
    · rw [dif_neg (fun h => hb h.2.1)]
      exact putKeys_one X dk dv a l n (by omega) (by omega)

theorem putKeys_two (X : Vec Ideal (T3 3 4224 128) .bf16) (dk dv : Vec Ideal (T3 33 128 128) .f32) (a : Fin 4224) (l : Fin 128) :
    ∀ n ≤ 33, a.val < 128 * n → putKeys X dk dv n (ix3 2 a l) = dv (ix3 ⟨a.val / 128, by omega⟩ l ⟨a.val % 128, Nat.mod_lt _ (by norm_num)⟩)
  | 0, _, h => absurd h (by omega)
  | n + 1, hn, h => by
    unfold putKeys
    rw [dif_pos (by omega), put3_apply]
    by_cases hb : 128 * n ≤ a.val
    · rw [dif_pos ⟨rfl, hb, by omega⟩, keysOut_apply]
      congr 2
      · ext; show n = a.val / 128; omega
      · ext; show a.val - 128 * n = a.val % 128; omega
    · rw [dif_neg (fun h => hb h.2.1), put3_apply, dif_neg (fun h => by have := h.1; exact absurd this (by decide))]
      exact putKeys_two X dk dv a l n (by omega) (by omega)

/-- The block of the output after query block `p`. -/
structure OutAt (P : Rows) (p : ℕ) (X : Vec Ideal (T3 3 4224 128) .bf16) : Prop where
  dq : ∀ (a : Fin 4224) (l : Fin 128), a.val < 384 * (p + 1) → X (ix3 0 a l)
    = (((∑ c ∈ Finset.range 4224, dZ (P.pz (l / 64)) (P.w (l / 64)) a c * P.k c l) / 8 : ℝ) : EReal)
  dk : p = 10 → ∀ (a : Fin 4224) (l : Fin 128), X (ix3 1 a l) = ((∑ r ∈ Finset.range 4224, dZ (P.pz (l / 64)) (P.w (l / 64)) r a * P.q r l : ℝ) : EReal)
  dv : p = 10 → ∀ (a : Fin 4224) (l : Fin 128), X (ix3 2 a l) = ((∑ r ∈ Finset.range 4224, A (P.pz (l / 64)) r a * P.d r l : ℝ) : EReal)

theorem outAfter_val {P : Rows} {p : ℕ} (hp : p < 11) {X : Vec Ideal (T3 3 4224 128) .bf16} (hX : 0 < p → OutAt P (p - 1) X) {s : St Ideal}
    (hq : ∀ (a : Fin 384) (l : Fin 128), s.dq (ix2 a l) = ((∑ c ∈ Finset.range 4224, dZ (P.pz (l / 64)) (P.w (l / 64)) (384 * p + a) c * P.k c l : ℝ) : EReal))
    (hk : KeyInv P (p + 1) s.dk s.dv) : OutAt P p (outAfter p X s) := by
  have hrow : ∀ (a : Fin 4224) (l : Fin 128), a.val < 384 * (p + 1) → VecWindow.put X ![0, 384 * p, 0] (T3 1 384 128).size (rowsOut s.dq) (ix3 0 a l)
      = (((∑ c ∈ Finset.range 4224, dZ (P.pz (l / 64)) (P.w (l / 64)) a c * P.k c l) / 8 : ℝ) : EReal) := by
    intro a l ha
    rw [put3_apply]
    by_cases h : 384 * p ≤ a.val
    · rw [dif_pos ⟨rfl, h, by omega⟩, rowsOut_apply, hq, mul_eighth]
      simp only [show 384 * p + (a.val - 384 * p) = a.val by omega]
    · rw [dif_neg (fun hh => h hh.2.1)]
      exact (hX (by omega)).dq a l (by omega)
  unfold outAfter
  by_cases h : p = 10
  · subst h
    rw [if_pos rfl]
    refine ⟨fun a l ha => (putKeys_zero _ _ _ a l 33).trans (hrow a l ha), fun _ a l => ?_, fun _ a l => ?_⟩
    · rw [putKeys_one _ _ _ a l 33 le_rfl a.isLt, hk.dk]
      simp only [Nat.div_add_mod]
    · rw [putKeys_two _ _ _ a l 33 le_rfl a.isLt, hk.dv]
      simp only [Nat.div_add_mod]
  · rw [if_neg h]
    exact ⟨hrow, fun h' => absurd h' h, fun h' => absurd h' h⟩

/-! ## The whole arrays -/

/-- Real rows of the queries, keys, values and output gradients from row 112 on. -/
structure Reads (D : Rows) (H : Vec Ideal (T3 8 4224 1024) .bf16) (O : Vec Ideal (T2 4224 1024) .bf16) : Prop where
  q : ∀ (r : Fin 4224) (l : Fin 1024), 112 ≤ r.val → H (ix3 3 r l) = (D.q r l : EReal)
  k : ∀ (r : Fin 4224) (l : Fin 1024), 112 ≤ r.val → H (ix3 4 r l) = (D.k r l : EReal)
  v : ∀ (r : Fin 4224) (l : Fin 1024), 112 ≤ r.val → H (ix3 5 r l) = (D.v r l : EReal)
  d : ∀ (r : Fin 4224) (l : Fin 1024), 112 ≤ r.val → O (ix2 r l) = (D.d r l : EReal)

/-- What the claim is given: real rows, and scores at most 30 where a row sees a column. -/
structure Given (D : Rows) (H : Vec Ideal (T3 8 4224 1024) .bf16) (O : Vec Ideal (T2 4224 1024) .bf16) : Prop extends Reads D H O where
  small : ∀ h r c : ℕ, h < 16 → r < 4224 → sees r c → D.z h r c ≤ 30

/-- The result: the three gradients in slots 3 to 5, the rest as it was. -/
def result (D : Rows) (X : Vec Ideal (T3 8 4224 1024) .bf16) : Vec Ideal (T3 8 4224 1024) .bf16 := fun i =>
  if (i 0).val = 3 then (D.dq (i 1).val (i 2).val : EReal) else if (i 0).val = 4 then (D.dk (i 1).val (i 2).val : EReal)
  else if (i 0).val = 5 then (D.dv (i 1).val (i 2).val : EReal) else X i

/-- Head pair `hp`'s lanes, the queries scaled. -/
def Rows.pair (D : Rows) (hp : ℕ) : Rows where
  q r l := D.q r (128 * hp + l) / 8
  k c l := D.k c (128 * hp + l)
  v c l := D.v c (128 * hp + l)
  d r l := D.d r (128 * hp + l)

theorem pair_pz (D : Rows) (hp h : ℕ) : (D.pair hp).pz h = D.z (2 * hp + h) := by
  funext r c
  unfold Rows.pz Rows.z Rows.pair
  rw [Finset.sum_div]
  refine Finset.sum_congr rfl fun e _ => ?_
  show D.q r (128 * hp + (64 * h + e)) / 8 * D.k c (128 * hp + (64 * h + e)) = _
  rw [show 128 * hp + (64 * h + e) = 64 * (2 * hp + h) + e by ring]
  ring
theorem pair_w (D : Rows) (hp h : ℕ) : (D.pair hp).w h = D.w (2 * hp + h) := by
  funext r c
  unfold Rows.w Rows.pair
  refine Finset.sum_congr rfl fun e _ => ?_
  show D.d r (128 * hp + (64 * h + e)) * D.v c (128 * hp + (64 * h + e)) = _
  rw [show 128 * hp + (64 * h + e) = 64 * (2 * hp + h) + e by ring]

theorem pair_small {D : Rows} {H : Vec Ideal (T3 8 4224 1024) .bf16} {O : Vec Ideal (T2 4224 1024) .bf16} (g : Given D H O) {hp : ℕ} (h8 : hp < 8) :
    (D.pair hp).Small := fun h r c hh hr hs => by rw [pair_pz]; exact g.small _ r c (by omega) hr hs

theorem head_of {hp l : ℕ} : 2 * hp + l / 64 = (128 * hp + l) / 64 := by omega

/-- A finished head pair's block is the result's. -/
theorem OutAt.result {D : Rows} {hp : ℕ} {Y : Vec Ideal (T3 3 4224 128) .bf16} (h : OutAt (D.pair hp) 10 Y) (X : Vec Ideal (T3 8 4224 1024) .bf16)
    (s : Fin 3) (a : Fin 4224) (l : Fin 128) (h8 : hp < 8) :
    Y (ix3 s a l) = Attn.result D X (ix3 ⟨3 + s.val, by omega⟩ a ⟨128 * hp + l.val, by omega⟩) := by
  have hdq := h.dq a l (by omega)
  have hdk := h.dk rfl a l
  have hdv := h.dv rfl a l
  rw [pair_pz, head_of] at hdq hdk hdv
  rw [pair_w, head_of] at hdq hdk
  fin_cases s
  · exact hdq
  · refine hdk.trans (congrArg (fun x : ℝ => (x : EReal)) ?_)
    show _ = D.dk a.val (128 * hp + l.val)
    unfold Rows.dk
    rw [Finset.sum_div]
    exact Finset.sum_congr rfl fun r _ => (mul_div_assoc _ _ _).symm
  · exact hdv

end Cert.Attn
-- ==== Proof.KI.Value.lean ====
/-
  The result of the pipeline over the reals: the blocks the points read, what they leave, and the array after them.
-/
module

public import proofs.«01_k».proof.Proof.KI.Points
public import proofs.«01_k».proof.Proof.Val.Out

@[expose] public section

set_option maxRecDepth 65536

noncomputable section

namespace Cert.KernelIdeal.Body

open Cert.KernelIdeal Cert.KernelIdeal.Gen Cert.Attn
open Idealize.ShloMosaic Idealize.ShloMosaic.TcCoe Idealize.SL
open Idealize.ShloMosaic.ValueIdx
open Idealize.ShloMosaic.Pipeline (RDat Cfg Window)
open scoped BigOperators

variable (m : (ℓ : Loc nD τ sig) → Buf (Elt Ideal) ℓ)

/-! ## The blocks the points read -/

theorem pairAt_eq (t : Fin cfg0.N) : ((grid0.coords t) 0).val = t.val / 11 :=
  (Pipeline.Grid.coords_val (G := grid0) t (0 : Fin 2) (S := 11) (B := 8) (by decide) (by decide)).trans
    (Nat.mod_eq_of_lt (by have h : t.val < 88 := lt_of_lt_of_eq t.isLt N_0; omega))

theorem point_lt (t : Fin cfg0.N) : t.val < 88 := lt_of_lt_of_eq t.isLt N_0

theorem toNat_small {n : ℕ} (h : n < 100) : (BitVec.ofNat 32 n).toNat = n := by
  rw [BitVec.toNat_ofNat]; exact Nat.mod_eq_of_lt (by omega)

theorem row_word (t : Fin cfg0.N) : (BitVec.ofNat 32 ((grid0.coords t) 1).val).toNat = t.val % 11 := by
  rw [toNat_small (by have := block_lt (grid0.coords t); omega)]; exact blockAt_eq t
theorem pair_word (t : Fin cfg0.N) : (BitVec.ofNat 32 ((grid0.coords t) 0).val).toNat = t.val / 11 := by
  rw [pairAt_eq, toNat_small (by have := point_lt t; omega)]

section
variable (c : Dev nD) (t : Fin cfg0.N)

theorem row_lt (a : Fin 384) : 384 * (t.val % 11) + a.val < 4224 := by have := Nat.mod_lt t.val (show 0 < 11 by norm_num); omega
theorem col_lt (l : Fin 128) : 128 * (t.val / 11) + l.val < 1024 := by have := point_lt t; omega

theorem qAt_apply (a : Fin 384) (l : Fin 128) :
    qAt m c t (ix3 0 a l) = m ((c : Thread nD τ).loc main_arg0) (ix3 3 ⟨384 * (t.val % 11) + a.val, row_lt t a⟩ ⟨128 * (t.val / 11) + l.val, col_lt t l⟩) := by
  rw [← V_main_arg0 m c]
  refine congrArg (V m c main_arg0) (funext fun d => Fin.ext ?_)
  fin_cases d
  · show 3 * 1 + 1 * 0 = 3; rfl
  · show (BitVec.ofNat 32 ((grid0.coords t) 1).val).toNat * 384 + 1 * a.val = _
    rw [row_word]; show _ = 384 * (t.val % 11) + a.val; omega
  · show (BitVec.ofNat 32 ((grid0.coords t) 0).val).toNat * 128 + 1 * l.val = _
    rw [pair_word]; show _ = 128 * (t.val / 11) + l.val; omega

theorem kAt_apply (a : Fin 4224) (l : Fin 128) :
    kAt m c t (ix3 0 a l) = m ((c : Thread nD τ).loc main_arg0) (ix3 4 a ⟨128 * (t.val / 11) + l.val, col_lt t l⟩) := by
  rw [← V_main_arg0 m c]
  refine congrArg (V m c main_arg0) (funext fun d => Fin.ext ?_)
  fin_cases d
  · show 4 * 1 + 1 * 0 = 4; rfl
  · show 0 * 4224 + 1 * a.val = a.val; omega
  · show (BitVec.ofNat 32 ((grid0.coords t) 0).val).toNat * 128 + 1 * l.val = _
    rw [pair_word]; show _ = 128 * (t.val / 11) + l.val; omega

theorem vAt_apply (a : Fin 4224) (l : Fin 128) :
    vAt m c t (ix3 0 a l) = m ((c : Thread nD τ).loc main_arg0) (ix3 5 a ⟨128 * (t.val / 11) + l.val, col_lt t l⟩) := by
  rw [← V_main_arg0 m c]
  refine congrArg (V m c main_arg0) (funext fun d => Fin.ext ?_)
  fin_cases d
  · show 5 * 1 + 1 * 0 = 5; rfl
  · show 0 * 4224 + 1 * a.val = a.val; omega
  · show (BitVec.ofNat 32 ((grid0.coords t) 0).val).toNat * 128 + 1 * l.val = _
    rw [pair_word]; show _ = 128 * (t.val / 11) + l.val; omega

theorem dAt_apply (a : Fin 384) (l : Fin 128) :
    dAt m c t (ix2 a l) = m ((c : Thread nD τ).loc main_arg1) (ix2 ⟨384 * (t.val % 11) + a.val, row_lt t a⟩ ⟨128 * (t.val / 11) + l.val, col_lt t l⟩) := by
  rw [← V_main_arg1 m c]
  refine congrArg (V m c main_arg1) (funext fun d => Fin.ext ?_)
  fin_cases d
  · show (BitVec.ofNat 32 ((grid0.coords t) 1).val).toNat * 384 + 1 * a.val = _
    rw [row_word]; show _ = 384 * (t.val % 11) + a.val; omega
  · show (BitVec.ofNat 32 ((grid0.coords t) 0).val).toNat * 128 + 1 * l.val = _
    rw [pair_word]; show _ = 128 * (t.val / 11) + l.val; omega

theorem lAt_apply (a : Fin 384) (l : Fin 128) :
    lAt m c t (ix2 a l) = V m c main_v25 (ix2 ⟨384 * (t.val % 11) + a.val, row_lt t a⟩ ⟨128 * (t.val / 11) + l.val, col_lt t l⟩) := by
  refine congrArg (V m c main_v25) (funext fun d => Fin.ext ?_)
  fin_cases d
  · show (BitVec.ofNat 32 ((grid0.coords t) 1).val).toNat * 384 + 1 * a.val = _
    rw [row_word]; show _ = 384 * (t.val % 11) + a.val; omega
  · show (BitVec.ofNat 32 ((grid0.coords t) 0).val).toNat * 128 + 1 * l.val = _
    rw [pair_word]; show _ = 128 * (t.val / 11) + l.val; omega
end

/-! ## What the points leave -/

variable {D : Rows} (c : Dev nD)
  (g : Given D (m ((c : Thread nD τ).loc main_arg0)) (m ((c : Thread nD τ).loc main_arg1)))
  (hl : ∀ (r : Fin 4224) (l : Fin 1024), V m c main_v25 (ix2 r l) = (total (D.z (l / 64)) r : EReal))
include g hl

theorem block_val (t : Fin cfg0.N) : BlockAt (D.pair (t.val / 11)) (t.val % 11) (qAt m c t) (dAt m c t) (lAt m c t) where
  q a e hr := by
    rw [qAt_apply, g.q _ _ hr]
    refine congrArg (fun x : ℝ => (x : EReal)) ?_
    show D.q _ _ = 8 * (D.q _ _ / 8)
    ring
  d a e hr := by rw [dAt_apply, g.d _ _ hr]; rfl
  lt a l := by rw [lAt_apply, hl, pair_pz, head_of]

theorem keys_val (t : Fin cfg0.N) : AllKeys (D.pair (t.val / 11)) (kAt m c t) (vAt m c t) where
  k a e hr := by rw [kAt_apply, g.k _ _ hr]; rfl
  v a e hr := by rw [vAt_apply, g.v _ _ hr]; rfl

/-- After each point: the query block's gradient, and the keys' so far. -/
theorem track_val (t : Fin cfg0.N) :
    (∀ (a : Fin 384) (l : Fin 128), (track m c (t.val + 1)).dq (ix2 a l)
        = ((∑ k ∈ Finset.range 4224, dZ ((D.pair (t.val / 11)).pz (l / 64)) ((D.pair (t.val / 11)).w (l / 64)) (384 * (t.val % 11) + a) k * (D.pair (t.val / 11)).k k l : ℝ) : EReal))
      ∧ KeyInv (D.pair (t.val / 11)) (t.val % 11 + 1) (track m c (t.val + 1)).dk (track m c (t.val + 1)).dv := by
  obtain ⟨n, hn⟩ := t
  induction n with
  | zero =>
    rw [← track_succ m c ⟨0, hn⟩ (track m c 0) (fun _ => rfl)]
    unfold leaves
    rw [blockAt_eq]
    exact done_val (Nat.mod_lt _ (by norm_num)) (pair_small g (by norm_num)) (block_val m c g hl ⟨0, hn⟩) (keys_val m c g hl ⟨0, hn⟩) (fun h => absurd h (lt_irrefl _))
  | succ n ih =>
    have hlt := point_lt ⟨n + 1, hn⟩
    have hlt' : n + 1 < 88 := hlt
    rw [← track_succ m c ⟨n + 1, hn⟩ (track m c (n + 1)) (fun _ => rfl)]
    unfold leaves
    rw [blockAt_eq]
    refine done_val (Nat.mod_lt _ (by norm_num)) (pair_small g (show (n + 1) / 11 < 8 by omega)) (block_val m c g hl ⟨n + 1, hn⟩) (keys_val m c g hl ⟨n + 1, hn⟩) fun h => ?_
    have h : 0 < (n + 1) % 11 := h
    have e := (ih (Nat.lt_of_succ_lt hn)).2
    have e1 : n / 11 = (n + 1) / 11 := by omega
    have e2 : n % 11 + 1 = (n + 1) % 11 := by omega
    change KeyInv (D.pair (n / 11)) (n % 11 + 1) _ _ at e
    rw [e1, e2] at e
    exact e

/-- The output's block after each point. -/
theorem out_val (t : Fin cfg0.N) (X : Vec Ideal S3x4224x128 .bf16) (hX : (rdat m c).Leaves 5 t X) : OutAt (D.pair (t.val / 11)) (t.val % 11) X := by
  obtain ⟨n, hn⟩ := t
  induction n generalizing X with
  | zero =>
    obtain ⟨Y, -, e⟩ := hX
    have e : X = outAfter (blockAt ⟨0, hn⟩) Y (track m c ((⟨0, hn⟩ : Fin cfg0.N).val + 1)) := e
    rw [e, blockAt_eq]
    have h := track_val m c g hl ⟨0, hn⟩
    exact outAfter_val (Nat.mod_lt _ (by norm_num)) (fun h => absurd h (lt_irrefl _)) h.1 h.2
  | succ n ih =>
    obtain ⟨Y, hY, e⟩ := hX
    have e : X = outAfter (blockAt ⟨n + 1, hn⟩) Y (track m c (n + 1 + 1)) := e
    rw [e, blockAt_eq]
    have h := track_val m c g hl ⟨n + 1, hn⟩
    refine outAfter_val (Nat.mod_lt _ (by norm_num)) (fun hp => ?_) h.1 h.2
    have hp : 0 < (n + 1) % 11 := hp
    have hf : (cfg0.win 5).fetch ⟨n + 1, hn⟩ = false := rfl
    rcases ((rdat m c).finds_of_pos hf (Nat.succ_ne_zero n) Y).mp hY with hfl | hle
    · have := (flush0_5 _).mp hfl
      exact absurd this (by show ¬ (n + 1 - 1) % 11 = 10; omega)
    · have e := ih Y (Nat.lt_of_succ_lt hn) hle
      have e1 : n / 11 = (n + 1) / 11 := by omega
      have e2 : n % 11 = (n + 1) % 11 - 1 := by omega
      change OutAt (D.pair (n / 11)) (n % 11) _ at e
      rw [e1, e2] at e
      exact e

/-! ## The array after the points -/

omit g hl in
theorem clip_whole {ix k d : ℕ} (h : (ix + 1) * k ≤ d) : (Pipeline.Clip.of ix k d).extent k = k := by
  unfold Pipeline.Clip.of; rw [if_pos h]

omit g hl in
/-- No block of the output is cut. -/
theorem xsize_val (t : Fin cfg0.N) (d : Fin 3) : (cfg0.win 5).xsize (cfg0.grid.coords t) d = S3x4224x128.size d := by
  fin_cases d
  · exact clip_whole (ix := 1) (k := 3) (d := 8) (by norm_num)
  · exact clip_whole (ix := 0) (k := 4224) (d := 4224) (by norm_num)
  · exact clip_whole (ix := (BitVec.ofNat 32 ((grid0.coords t) 0).val).toNat) (k := 128) (d := 1024)
      (by rw [pair_word]; have := point_lt t; omega)

/-- A place of the output's block. -/
def place (t : Fin cfg0.N) (j : S3x4224x128.Idx) : ((cfg0.win 5).xblock (cfg0.grid.coords t)).Idx :=
  fun d => ⟨(j d).val, lt_of_lt_of_eq (j d).isLt (xsize_val t d).symm⟩

omit g hl in
theorem emb_val (t : Fin cfg0.N) (y : ((cfg0.win 5).xblock (cfg0.grid.coords t)).Idx) (d : Fin 3) :
    ((((cfg0.win 5).blk t).view.emb y : S8x4224x1024.Idx) d).val = (![3, 0, 128 * (t.val / 11)] : Fin 3 → ℕ) d + (y d).val := by
  have h := Pipeline.Window.rect_emb_val (cfg0.win 5) t y d
  refine h.trans ?_
  fin_cases d
  · show 1 * 3 + _ = 3 + _; rfl
  · show 0 * 4224 + _ = 0 + _; rw [Nat.zero_mul]
  · show (BitVec.ofNat 32 ((grid0.coords t) 0).val).toNat * 128 + _ = 128 * (t.val / 11) + _
    rw [pair_word, Nat.mul_comm]

omit g hl in
/-- What a write of a block puts at a place inside it. -/
theorem write_hit (t : Fin cfg0.N) (G₀ : Vec Ideal S8x4224x1024 .bf16) (X : Vec Ideal S3x4224x128 .bf16) (j : S3x4224x128.Idx) (i : S8x4224x1024.Idx)
    (h0 : (i 0).val = 3 + (j 0).val) (h1 : (i 1).val = (j 1).val) (h2 : (i 2).val = 128 * (t.val / 11) + (j 2).val) :
    (((cfg0.win 5).blk t).view.write (Elt Ideal) G₀ ((cfg0.win 5).cut (cfg0.grid.coords t) X) Finset.univ : Vec Ideal S8x4224x1024 .bf16) i = X j := by
  have hi : (((cfg0.win 5).blk t).view.emb (place t j) : S8x4224x1024.Idx) = i := by
    funext d; apply Fin.ext
    refine (emb_val t _ d).trans ?_
    match d with
    | ⟨0, _⟩ => show 3 + (j 0).val = (i 0).val; omega
    | ⟨1, _⟩ => show 0 + (j 1).val = (i 1).val; omega
    | ⟨2, _⟩ => show 128 * (t.val / 11) + (j 2).val = (i 2).val; omega
  rw [← hi]
  exact View.write_emb_of_mem _ _ (Finset.mem_univ _)

omit g hl in
/-- What a write of a block leaves at a place outside it. -/
theorem write_miss (t : Fin cfg0.N) (G₀ : Vec Ideal S8x4224x1024 .bf16) (X : Vec Ideal S3x4224x128 .bf16) (i : S8x4224x1024.Idx)
    (hb : ¬ (3 ≤ (i 0).val ∧ (i 0).val < 6 ∧ 128 * (t.val / 11) ≤ (i 2).val ∧ (i 2).val < 128 * (t.val / 11) + 128)) :
    (((cfg0.win 5).blk t).view.write (Elt Ideal) G₀ ((cfg0.win 5).cut (cfg0.grid.coords t) X) Finset.univ : Vec Ideal S8x4224x1024 .bf16) i = G₀ i := by
  refine View.write_of_not_mem _ _ _ fun hm => hb ?_
  obtain ⟨y, -, hy⟩ := Finset.mem_map.mp hm
  have h0 := emb_val t y 0
  have h2 := emb_val t y 2
  rw [show (((cfg0.win 5).blk t).view.emb y : S8x4224x1024.Idx) = i from hy] at h0 h2
  have b0 : (y 0).val < 3 := lt_of_lt_of_eq (y 0).isLt (xsize_val t 0)
  have b2 : (y 2).val < 128 := lt_of_lt_of_eq (y 2).isLt (xsize_val t 2)
  have h0 : (i 0).val = 3 + (y 0).val := h0
  have h2 : (i 2).val = 128 * (t.val / 11) + (y 2).val := h2
  omega

theorem arr_val (n : ℕ) (hn : n ≤ 88) (Y : Vec Ideal S8x4224x1024 .bf16) (hY : (rdat m c).ArrAt 5 n Y) (i : S8x4224x1024.Idx) :
    Y i = if 3 ≤ (i 0).val ∧ (i 0).val < 6 ∧ (i 2).val < 128 * (n / 11) then result D (V m c main_v26) i else V m c main_v26 i := by
  induction n generalizing Y with
  | zero =>
    rw [if_neg (by omega)]
    exact congrFun (show Y = V m c main_v26 from hY) i
  | succ n ih =>
    have ht : n < cfg0.N := lt_of_lt_of_eq (show n < 88 by omega) N_0.symm
    rw [show n + 1 = (⟨n, ht⟩ : Fin cfg0.N).val + 1 from rfl, (rdat m c).ArrAt_succ 5 ⟨n, ht⟩] at hY
    by_cases hf : (cfg0.win 5).flush ⟨n, ht⟩ = true
    · rw [if_pos hf] at hY
      obtain ⟨G₀, X, hG, hX, e⟩ := hY
      have h10 : n % 11 = 10 := (flush0_5 _).mp hf
      have ho : OutAt (D.pair (n / 11)) (n % 11) X := out_val m c g hl ⟨n, ht⟩ X hX
      rw [h10] at ho
      by_cases hb : 3 ≤ (i 0).val ∧ (i 0).val < 6 ∧ 128 * (n / 11) ≤ (i 2).val ∧ (i 2).val < 128 * (n / 11) + 128
      · have hv := (congrFun e i).trans (write_hit ⟨n, ht⟩ G₀ X (ix3 (⟨(i 0).val - 3, by omega⟩ : Fin 3) (⟨(i 1).val, (i 1).isLt⟩ : Fin 4224)
          (⟨(i 2).val - 128 * (n / 11), by omega⟩ : Fin 128)) i (by show (i 0).val = 3 + ((i 0).val - 3); omega) rfl
          (by show (i 2).val = 128 * (n / 11) + ((i 2).val - 128 * (n / 11)); omega))
        rw [if_pos ⟨hb.1, hb.2.1, by omega⟩]
        refine (hv.trans (ho.result (V m c main_v26) _ _ _ (by omega))).trans ?_
        refine congrArg (result D (V m c main_v26)) (funext fun d => Fin.ext ?_)
        match d with
        | ⟨0, _⟩ => show 3 + ((i 0).val - 3) = (i 0).val; omega
        | ⟨1, _⟩ => rfl
        | ⟨2, _⟩ => show 128 * (n / 11) + ((i 2).val - 128 * (n / 11)) = (i 2).val; omega
      · have hv := (congrFun e i).trans (write_miss ⟨n, ht⟩ G₀ X i hb)
        exact (hv.trans (ih (by omega) G₀ hG)).trans (if_congr (by omega) rfl rfl)
    · rw [if_neg hf] at hY
      have h10 : ¬ n % 11 = 10 := fun h => hf ((flush0_5 _).mpr h)
      exact (ih (by omega) Y hY).trans (if_congr (by omega) rfl rfl)

/-- After every point the array is the result. -/
theorem arr_result (Y : Vec Ideal S8x4224x1024 .bf16) (hY : (rdat m c).ArrAt 5 cfg0.N Y) : Y = result D (V m c main_v26) := by
  funext i
  have h := arr_val m c g hl 88 le_rfl Y (by rw [show cfg0.N = 88 from N_0] at hY; exact hY) i
  rw [h]
  by_cases hb : 3 ≤ (i 0).val ∧ (i 0).val < 6 ∧ (i 2).val < 128 * (88 / 11)
  · rw [if_pos hb]
  · rw [if_neg hb]
    have h2 : (i 2).val < 1024 := (i 2).isLt
    unfold result
    rw [if_neg (by omega), if_neg (by omega), if_neg (by omega)]

end Cert.KernelIdeal.Body
-- ==== Proof.Val.Cum.lean ====
/-
  Running sums: the host's running sum along the last of three axes, from either end, over the reals.
-/
module

public import proofs.«01_k».proof.Proof.Spec
public import proofs.«01_k».proof.Proof.Core

@[expose] public section

noncomputable section

namespace Cert.Attn

open Idealize.ShloMosaic Idealize.ShloMosaic.ValueIdx
open scoped BigOperators

/-- Positions counted from 112 on, of a function that is zero before. -/
theorem sum_shift (f : ℕ → ℝ) (n : ℕ) (h : ∀ c < 112, f c = 0) : ∑ i ∈ Finset.range n, f (i + 112) = ∑ c ∈ Finset.range (n + 112), f c := by
  rw [Nat.add_comm n 112, Finset.sum_range_add f 112 n, Finset.sum_eq_zero fun c hc => h c (Finset.mem_range.mp hc), zero_add]
  exact Finset.sum_congr rfl fun i _ => by rw [Nat.add_comm]

theorem sum_suffix (f : ℕ → ℝ) {n e : ℕ} (he : e ≤ n) :
    ∑ k ∈ Finset.range n, (if e + k < n then f (e + k) else 0) = ∑ i ∈ Finset.range n, f i - ∑ i ∈ Finset.range e, f i := by
  obtain ⟨r, rfl⟩ : ∃ r, n = e + r := ⟨n - e, by omega⟩
  have h1 : ∑ k ∈ Finset.range (e + r), (if e + k < e + r then f (e + k) else 0) = ∑ k ∈ Finset.range r, f (e + k) := by
    rw [Nat.add_comm e r, Finset.sum_range_add _ r e, Finset.sum_eq_zero (s := Finset.range e) fun k _ => if_neg (by omega), add_zero]
    exact Finset.sum_congr rfl fun k hk => if_pos (by have := Finset.mem_range.mp hk; omega)
  rw [h1, Finset.sum_range_add f e r]; ring

theorem sum_prefix (f : ℕ → ℝ) {n e : ℕ} (he : e < n) :
    ∑ k ∈ Finset.range n, (if n - 1 ≤ e + k then f (e + k - (n - 1)) else 0) = ∑ i ∈ Finset.range (e + 1), f i := by
  obtain ⟨r, rfl⟩ : ∃ r, n = r + (e + 1) := ⟨n - (e + 1), by omega⟩
  rw [Finset.sum_range_add _ r (e + 1), Finset.sum_eq_zero (s := Finset.range r) fun k hk => if_neg (by have := Finset.mem_range.mp hk; omega), zero_add]
  refine Finset.sum_congr rfl fun k hk => ?_
  rw [if_pos (by omega), show e + (r + k) - (r + (e + 1) - 1) = k by omega]

theorem foldl_add {n : ℕ} (f : Fin n → EReal) : (List.finRange n).foldl (fun r k => r + f k) 0 = ∑ k, f k := by
  rw [Fin.sum_univ_def, List.sum_eq_foldl, List.foldl_map]

/-- A window of the whole last axis, its positions. -/
def lane {n : ℕ} : (T3 1 1 n).Idx ≃ Fin n where
  toFun i := i 2
  invFun k := ix3 0 0 k
  left_inv i := by
    funext d; apply Fin.ext
    match d with
    | ⟨0, _⟩ => have h : (i 0).val < 1 := (i 0).isLt; show 0 = (i 0).val; omega
    | ⟨1, _⟩ => have h : (i 1).val < 1 := (i 1).isLt; show 0 = (i 1).val; omega
    | ⟨2, _⟩ => rfl
  right_inv k := rfl

/-- The sum of a sliding window as long as the last axis. -/
theorem window_apply {A B n lo hi : ℕ} (h : (T3 A B n).ReduceWindows ![1, 1, n] ![1, 1, 1] ![0, 0, lo] ![0, 0, hi] (T3 A B n))
    {u : Shape} (hu : 0 < u.numel) (x : FVec Ideal (T3 A B n) .f32) (v : u.Idx → Ideal .f32) (hv : v (Shape.Idx.first hu) = (0 : EReal))
    (a : Fin A) (b : Fin B) (e : Fin n) :
    Host.reduceWindowAdd (t := T3 A B n) ![1, 1, n] ![1, 1, 1] ![0, 0, lo] ![0, 0, hi] x v h hu (ix3 a b e)
      = ∑ k : Fin n, if hk : lo ≤ e.val + k.val ∧ e.val + k.val - lo < n then (x (ix3 a b ⟨e.val + k.val - lo, hk.2⟩) : EReal) else 0 := by
  unfold Host.reduceWindowAdd
  rw [Ideal.hostReduceWindowAdd_def, hv]
  unfold Ideal.hostReduceWindowAdd Host.reduceWindow
  dsimp only
  refine (foldl_add _).trans ?_
  refine (Equiv.sum_comp ((lane (n := n)).symm.trans (T3 1 1 n).rowMajor) _).symm.trans ?_
  refine Finset.sum_congr rfl fun k _ => ?_
  have hp : (T3 1 1 n).rowMajor.symm (((lane (n := n)).symm.trans (T3 1 1 n).rowMajor) k) = ix3 0 0 k := Equiv.symm_apply_apply _ _
  have hp0 := congrArg Fin.val (congrFun hp 0)
  have hp1 := congrArg Fin.val (congrFun hp 1)
  have hp2 := congrArg Fin.val (congrFun hp 2)
  by_cases hk : lo ≤ e.val + k.val ∧ e.val + k.val - lo < n
  · rw [dif_pos hk]
    refine (dif_pos ?_).trans ?_
    · intro d
      match d with
      | ⟨0, _⟩ =>
        refine (congrArg (fun p => 0 ≤ a.val * 1 + p ∧ a.val * 1 + p - 0 < A) hp0).mpr ?_
        show 0 ≤ a.val * 1 + 0 ∧ a.val * 1 + 0 - 0 < A
        have := a.isLt; omega
      | ⟨1, _⟩ =>
        refine (congrArg (fun p => 0 ≤ b.val * 1 + p ∧ b.val * 1 + p - 0 < B) hp1).mpr ?_
        show 0 ≤ b.val * 1 + 0 ∧ b.val * 1 + 0 - 0 < B
        have := b.isLt; omega
      | ⟨2, _⟩ =>
        refine (congrArg (fun p => lo ≤ e.val * 1 + p ∧ e.val * 1 + p - lo < n) hp2).mpr ?_
        show lo ≤ e.val * 1 + k.val ∧ e.val * 1 + k.val - lo < n
        omega
    · refine congrArg x (funext fun d => Fin.ext ?_)
      match d with
      | ⟨0, _⟩ =>
        refine (congrArg (fun p => a.val * 1 + p - 0 = a.val) hp0).mpr ?_
        show a.val * 1 + 0 - 0 = a.val; omega
      | ⟨1, _⟩ =>
        refine (congrArg (fun p => b.val * 1 + p - 0 = b.val) hp1).mpr ?_
        show b.val * 1 + 0 - 0 = b.val; omega
      | ⟨2, _⟩ =>
        refine (congrArg (fun p => e.val * 1 + p - lo = e.val + k.val - lo) hp2).mpr ?_
        show e.val * 1 + k.val - lo = e.val + k.val - lo; omega
  · rw [dif_neg hk]
    refine dif_neg ?_
    intro h2
    have h3 : lo ≤ e.val * 1 + k.val ∧ e.val * 1 + k.val - lo < n :=
      (congrArg (fun p => lo ≤ e.val * 1 + p ∧ e.val * 1 + p - lo < n) hp2).mp (h2 2)
    omega

/-- The running sum from the end. -/
theorem suffix_apply {A B n hi : ℕ} (h : (T3 A B n).ReduceWindows ![1, 1, n] ![1, 1, 1] ![0, 0, 0] ![0, 0, hi] (T3 A B n))
    {u : Shape} (hu : 0 < u.numel) (x : FVec Ideal (T3 A B n) .f32) (v : u.Idx → Ideal .f32) (hv : v (Shape.Idx.first hu) = (0 : EReal))
    (a : Fin A) (b : Fin B) (e : Fin n) (f : ℕ → ℝ) (hx : ∀ i : Fin n, x (ix3 a b i) = (f i.val : EReal)) :
    Host.reduceWindowAdd (t := T3 A B n) ![1, 1, n] ![1, 1, 1] ![0, 0, 0] ![0, 0, hi] x v h hu (ix3 a b e)
      = ((∑ i ∈ Finset.range n, f i - ∑ i ∈ Finset.range e.val, f i : ℝ) : EReal) := by
  rw [window_apply h hu x v hv, ← sum_suffix f e.isLt.le, ← sum_fin_coe]
  refine Finset.sum_congr rfl fun k _ => ?_
  by_cases hk : e.val + k.val < n
  · rw [dif_pos ⟨Nat.zero_le _, hk⟩, if_pos hk]; exact hx _
  · rw [dif_neg (fun h => hk h.2), if_neg hk, EReal.coe_zero]

/-- The running sum from the start. -/
theorem prefix_apply {A B n lo : ℕ} (hlo : lo = n - 1) (h : (T3 A B n).ReduceWindows ![1, 1, n] ![1, 1, 1] ![0, 0, lo] ![0, 0, 0] (T3 A B n))
    {u : Shape} (hu : 0 < u.numel) (x : FVec Ideal (T3 A B n) .f32) (v : u.Idx → Ideal .f32) (hv : v (Shape.Idx.first hu) = (0 : EReal))
    (a : Fin A) (b : Fin B) (e : Fin n) (f : ℕ → ℝ) (hx : ∀ i : Fin n, x (ix3 a b i) = (f i.val : EReal)) :
    Host.reduceWindowAdd (t := T3 A B n) ![1, 1, n] ![1, 1, 1] ![0, 0, lo] ![0, 0, 0] x v h hu (ix3 a b e)
      = ((∑ i ∈ Finset.range (e.val + 1), f i : ℝ) : EReal) := by
  subst hlo
  rw [window_apply h hu x v hv, ← sum_prefix f e.isLt, ← sum_fin_coe]
  refine Finset.sum_congr rfl fun k _ => ?_
  have he := e.isLt; have hk' := k.isLt
  by_cases hk : n - 1 ≤ e.val + k.val
  · rw [dif_pos ⟨hk, by omega⟩, if_pos hk]; exact hx _
  · rw [dif_neg (fun h => hk h.1), if_neg hk, EReal.coe_zero]

end Cert.Attn
-- ==== Proof.Val.Ref.lean ====
/-
  The reference, over the reals: each of its stages on the rows given, and its result as the kernel's.
-/
module

public import proofs.«01_k».proof.Proof.Gen.ReferenceIdeal.Read
public import proofs.«01_k».proof.Proof.Val.Cum
public import proofs.«01_k».proof.Proof.Val.Out
public import Idealize.ShloMosaic.Lib.KernelVsHost

@[expose] public section

set_option maxRecDepth 16384

noncomputable section

namespace Cert.Attn.Ref

open Idealize.ShloMosaic Idealize.ShloMosaic.ValueIdx Cert.ReferenceIdeal Cert.ReferenceIdeal.Read
open scoped BigOperators

/-! ## Over the reals -/

/-- The softplus as the host computes it. -/
theorem stable (x : ℝ) : max x 0 + Real.log (1 + Real.exp (-|x|)) = sp x := by
  unfold sp
  rcases le_total 0 x with h | h
  · rw [max_eq_left h, abs_of_nonneg h]
    have e : 1 + Real.exp x = Real.exp x * (1 + Real.exp (-x)) := by rw [mul_add, ← Real.exp_add]; simp [add_comm]
    rw [e, Real.log_mul (Real.exp_pos x).ne' (by positivity), Real.log_exp]
  · rw [max_eq_right h, abs_of_nonpos h, neg_neg, zero_add]

theorem sp_neg (z : ℝ) : sp (-z) = sp z - z := by
  unfold sp
  have e : 1 + Real.exp z = Real.exp z * (1 + Real.exp (-z)) := by rw [mul_add, ← Real.exp_add]; simp [add_comm]
  rw [e, Real.log_mul (Real.exp_pos z).ne' (by positivity), Real.log_exp]; ring

theorem exp_neg_sp (z : ℝ) : Real.exp (-sp z) = 1 - Real.exp (z - sp z) := by
  have e : Real.exp (sp z) = 1 + Real.exp z := Real.exp_log (by positivity)
  rw [Real.exp_sub, Real.exp_neg, e]
  field_simp; ring

theorem sees_add {t s : ℕ} : sees (t + 112) (s + 112) ↔ s < t := ⟨fun h => by have := h.1; omega, fun h => ⟨by omega, by omega⟩⟩

/-! ## The heads -/

theorem q_read (H : Vec Ideal (T3 8 4224 1024) .bf16) (t : Fin 4112) (h : Fin 16) (e : Fin 64) :
    val_main_v4 (F := Ideal) H (ix3 t h e) = H (ix3 3 ⟨t + 112, by omega⟩ ⟨64 * h + e, by omega⟩) := by
  rw [val_main_v4_apply, val_main_v3_apply, Ideal.extf_def, val_main_v2_apply, val_main_v1_apply, val_main_v0_apply]
  refine congrArg H (funext fun d => Fin.ext ?_)
  match d with
  | ⟨0, _⟩ => rfl
  | ⟨1, _⟩ =>
    show ((112 + ((t.val * 16 + h.val) * 64 + e.val) / 1024) * 1024 + ((t.val * 16 + h.val) * 64 + e.val) % 1024) / 1024 % 4224 = t.val + 112
    omega
  | ⟨2, _⟩ =>
    show ((112 + ((t.val * 16 + h.val) * 64 + e.val) / 1024) * 1024 + ((t.val * 16 + h.val) * 64 + e.val) % 1024) % 1024 = 64 * h.val + e.val
    omega
theorem k_read (H : Vec Ideal (T3 8 4224 1024) .bf16) (t : Fin 4112) (h : Fin 16) (e : Fin 64) :
    val_main_v9 (F := Ideal) H (ix3 t h e) = H (ix3 4 ⟨t + 112, by omega⟩ ⟨64 * h + e, by omega⟩) := by
  rw [val_main_v9_apply, val_main_v8_apply, Ideal.extf_def, val_main_v7_apply, val_main_v6_apply, val_main_v5_apply]
  refine congrArg H (funext fun d => Fin.ext ?_)
  match d with
  | ⟨0, _⟩ => rfl
  | ⟨1, _⟩ =>
    show ((112 + ((t.val * 16 + h.val) * 64 + e.val) / 1024) * 1024 + ((t.val * 16 + h.val) * 64 + e.val) % 1024) / 1024 % 4224 = t.val + 112
    omega
  | ⟨2, _⟩ =>
    show ((112 + ((t.val * 16 + h.val) * 64 + e.val) / 1024) * 1024 + ((t.val * 16 + h.val) * 64 + e.val) % 1024) % 1024 = 64 * h.val + e.val
    omega
theorem v_read (H : Vec Ideal (T3 8 4224 1024) .bf16) (t : Fin 4112) (h : Fin 16) (e : Fin 64) :
    val_main_v14 (F := Ideal) H (ix3 t h e) = H (ix3 5 ⟨t + 112, by omega⟩ ⟨64 * h + e, by omega⟩) := by
  rw [val_main_v14_apply, val_main_v13_apply, Ideal.extf_def, val_main_v12_apply, val_main_v11_apply, val_main_v10_apply]
  refine congrArg H (funext fun d => Fin.ext ?_)
  match d with
  | ⟨0, _⟩ => rfl
  | ⟨1, _⟩ =>
    show ((112 + ((t.val * 16 + h.val) * 64 + e.val) / 1024) * 1024 + ((t.val * 16 + h.val) * 64 + e.val) % 1024) / 1024 % 4224 = t.val + 112
    omega
  | ⟨2, _⟩ =>
    show ((112 + ((t.val * 16 + h.val) * 64 + e.val) / 1024) * 1024 + ((t.val * 16 + h.val) * 64 + e.val) % 1024) % 1024 = 64 * h.val + e.val
    omega
theorem d_read (O : Vec Ideal (T2 4224 1024) .bf16) (t : Fin 4112) (h : Fin 16) (e : Fin 64) :
    val_main_v17 (F := Ideal) O (ix3 t h e) = O (ix2 ⟨t + 112, by omega⟩ ⟨64 * h + e, by omega⟩) := by
  rw [val_main_v17_apply, val_main_v16_apply, Ideal.extf_def, val_main_v15_apply]
  refine congrArg O (funext fun d => Fin.ext ?_)
  match d with
  | ⟨0, _⟩ =>
    show 112 + ((t.val * 16 + h.val) * 64 + e.val) / 1024 = t.val + 112
    omega
  | ⟨1, _⟩ =>
    show ((t.val * 16 + h.val) * 64 + e.val) % 1024 = 64 * h.val + e.val
    omega

section
variable {D : Rows} {H : Vec Ideal (T3 8 4224 1024) .bf16} {O : Vec Ideal (T2 4224 1024) .bf16} (g : Reads D H O)
include g

theorem q_apply (t : Fin 4112) (h : Fin 16) (e : Fin 64) : val_main_v4 (F := Ideal) H (ix3 t h e) = (D.q (t + 112) (64 * h + e) : EReal) :=
  (q_read H t h e).trans (g.q ⟨t + 112, by omega⟩ ⟨64 * h + e, by omega⟩ (by show 112 ≤ t.val + 112; omega))
theorem k_apply (t : Fin 4112) (h : Fin 16) (e : Fin 64) : val_main_v9 (F := Ideal) H (ix3 t h e) = (D.k (t + 112) (64 * h + e) : EReal) :=
  (k_read H t h e).trans (g.k ⟨t + 112, by omega⟩ ⟨64 * h + e, by omega⟩ (by show 112 ≤ t.val + 112; omega))
theorem v_apply (t : Fin 4112) (h : Fin 16) (e : Fin 64) : val_main_v14 (F := Ideal) H (ix3 t h e) = (D.v (t + 112) (64 * h + e) : EReal) :=
  (v_read H t h e).trans (g.v ⟨t + 112, by omega⟩ ⟨64 * h + e, by omega⟩ (by show 112 ≤ t.val + 112; omega))
theorem d_apply (t : Fin 4112) (h : Fin 16) (e : Fin 64) : val_main_v17 (F := Ideal) O (ix3 t h e) = (D.d (t + 112) (64 * h + e) : EReal) :=
  (d_read O t h e).trans (g.d ⟨t + 112, by omega⟩ ⟨64 * h + e, by omega⟩ (by show 112 ≤ t.val + 112; omega))

/-! ## The scores and the weights -/

theorem z_apply (h : Fin 16) (t s : Fin 4112) : val_main_v20 (F := Ideal) H (ix3 h t s) = (D.z h (t + 112) (s + 112) : EReal) := by
  rw [val_main_v20_apply, val_main_v19_apply, val_main_cst_apply, Ideal.mulf_def, val_main_v18_apply]
  have e : ∀ k : Fin 64, val_main_v4 (F := Ideal) H (lidx_main_v18 (ix3 h t s) k) * val_main_v9 (F := Ideal) H (ridx_main_v18 (ix3 h t s) k)
      = ((D.q (t + 112) (64 * h + k) * D.k (s + 112) (64 * h + k) : ℝ) : EReal) := fun k => by
    have e1 : lidx_main_v18 (ix3 h t s) k = ix3 t h k := funext fun d => by match d with | ⟨0, _⟩ => rfl | ⟨1, _⟩ => rfl | ⟨2, _⟩ => rfl
    have e2 : ridx_main_v18 (ix3 h t s) k = ix3 s h k := funext fun d => by match d with | ⟨0, _⟩ => rfl | ⟨1, _⟩ => rfl | ⟨2, _⟩ => rfl
    rw [e1, e2, q_apply g, k_apply g, EReal.coe_mul]
  rw [Finset.sum_congr rfl fun k _ => e k, sum_fin_coe (fun k => D.q (t + 112) (64 * h + k) * D.k (s + 112) (64 * h + k))]
  exact mul_eighth _

theorem w_apply (h : Fin 16) (t s : Fin 4112) : val_main_v35 (F := Ideal) H O (ix3 h t s) = (D.w h (t + 112) (s + 112) : EReal) := by
  rw [val_main_v35_apply]
  have e : ∀ k : Fin 64, val_main_v34 (F := Ideal) O (lidx_main_v35 (ix3 h t s) k) * val_main_v14 (F := Ideal) H (ridx_main_v35 (ix3 h t s) k)
      = ((D.d (t + 112) (64 * h + k) * D.v (s + 112) (64 * h + k) : ℝ) : EReal) := fun k => by
    have e1 : idx_main_v34 (lidx_main_v35 (ix3 h t s) k) = ix3 t h k := funext fun d => by match d with | ⟨0, _⟩ => rfl | ⟨1, _⟩ => rfl | ⟨2, _⟩ => rfl
    have e2 : ridx_main_v35 (ix3 h t s) k = ix3 s h k := funext fun d => by match d with | ⟨0, _⟩ => rfl | ⟨1, _⟩ => rfl | ⟨2, _⟩ => rfl
    rw [val_main_v34_apply, e1, e2, d_apply g, v_apply g, EReal.coe_mul]
  rw [Finset.sum_congr rfl fun k _ => e k, sum_fin_coe (fun k => D.d (t + 112) (64 * h + k) * D.v (s + 112) (64 * h + k))]
  rfl

omit g in
/-- The mask: a row sees the columns before it. -/
theorem mask_apply (h : Fin 16) (t s : Fin 4112) : val_main_v26_1 (F := Ideal) (ix3 h t s) = if s.val < t.val then 1#1 else 0#1 := by
  rw [val_main_v26_1_apply, val_main_v23_apply, val_main_v22_apply, val_main_v21_apply]
  show BitVec.ofBool (BitVec.slt (BitVec.ofNat 32 s.val) (BitVec.ofNat 32 t.val)) = _
  have hs := s.isLt; have ht := t.isLt
  have e : BitVec.slt (BitVec.ofNat 32 s.val) (BitVec.ofNat 32 t.val) = decide (s.val < t.val) := by
    have toInt : ∀ n < 4112, (BitVec.ofNat 32 n).toInt = (n : ℤ) := fun n hn => by
      rw [BitVec.toInt_eq_toNat_of_lt (by rw [BitVec.toNat_ofNat]; omega), BitVec.toNat_ofNat]; omega
    rw [BitVec.slt_eq_decide, toInt _ hs, toInt _ ht]
    simp
  rw [e]; by_cases hh : s.val < t.val <;> simp [hh]

omit g in
theorem masked {α : Type} (h : Fin 16) (t s : Fin 4112) (x y : α) :
    Scalar.select (val_main_v26_1 (F := Ideal) (ix3 h t s)) x y = if s.val < t.val then x else y := by
  rw [mask_apply]; by_cases hh : s.val < t.val
  · rw [if_pos hh, if_pos hh]; rfl
  · rw [if_neg hh, if_neg hh]; rfl

omit g in
/-- The host's softplus of the negated score. -/
theorem softplus_apply (i : S16x4112x4112.Idx) {z : ℝ} (hz : val_main_v20 (F := Ideal) H i = (z : EReal)) :
    val_main_call0_v1_0 (F := Ideal) H i = (sp (-z) : EReal) := by
  have h0 : val_main_call0_v0 (F := Ideal) H i = ((-z : ℝ) : EReal) := by rw [val_main_call0_v0_apply, hz]; exact (EReal.coe_neg z).symm
  have c0 : ∀ j, val_main_call0_call0_cst (F := Ideal) j = ((0 : ℝ) : EReal) := fun j => Ideal.ofBits_zero_f32
  have h3 : val_main_call0_call0_v3 (F := Ideal) H i = ((-z : ℝ) : EReal) := by
    rw [val_main_call0_call0_v3_apply, h0, val_main_call0_call0_v2_apply, c0, Ideal.subf_def, ← EReal.coe_sub, sub_zero]
  have h4 : val_main_call0_call0_v4 (F := Ideal) H i = 0#1 := by
    rw [val_main_call0_call0_v4_apply, h3]
    show BitVec.ofBool (decide (((-z : ℝ) : EReal) ≠ ((-z : ℝ) : EReal))) = 0#1
    simp
  have h10 : val_main_call0_call0_v10 (F := Ideal) H i = ((Real.log (1 + Real.exp (-|(-z)|)) : ℝ) : EReal) := by
    rw [val_main_call0_call0_v10_apply, val_main_call0_call0_v9_apply, val_main_call0_call0_v8_apply, val_main_call0_call0_v7_apply, h3]
    show Ideal.log (1 + Ideal.exp (-(max ((-z : ℝ) : EReal) (-((-z : ℝ) : EReal))))) = _
    rw [← EReal.coe_neg, max_coe, ← EReal.coe_neg, sp_eq]; rfl
  rw [val_main_call0_v1_0_apply, h4, val_main_call0_call0_v11_apply, val_main_call0_call0_v1_apply, h0, val_main_call0_call0_v0_apply, c0, h10]
  show max ((-z : ℝ) : EReal) ((0 : ℝ) : EReal) + ((Real.log (1 + Real.exp (-|(-z)|)) : ℝ) : EReal) = _
  rw [max_coe, ← EReal.coe_add, stable]

omit g in
theorem ls_apply (i : S16x4112x4112.Idx) {z : ℝ} (hz : val_main_v20 (F := Ideal) H i = (z : EReal)) :
    val_main_v24_0 (F := Ideal) H i = ((z - sp z : ℝ) : EReal) := by
  rw [val_main_v24_0_apply, softplus_apply i hz, sp_neg]
  exact (EReal.coe_neg _).symm.trans (by rw [neg_sub])

omit g in
theorem nls_apply (i : S16x4112x4112.Idx) {z : ℝ} (hz : val_main_v20 (F := Ideal) H i = (z : EReal)) :
    val_main_v25 (F := Ideal) H i = ((-sp z : ℝ) : EReal) := by
  rw [val_main_v25_apply, ls_apply i hz, hz, Ideal.subf_def, ← EReal.coe_sub]; congr 1; ring

omit g in
/-- The derivative of the softplus at the negated score. -/
theorem slope_apply (i : S16x4112x4112.Idx) {z : ℝ} (hz : val_main_v20 (F := Ideal) H i = (z : EReal)) :
    val_main_v24_1 (F := Ideal) H i = ((Real.exp (-sp z) : ℝ) : EReal) := by
  have h0 : val_main_call0_v0 (F := Ideal) H i = ((-z : ℝ) : EReal) := by rw [val_main_call0_v0_apply, hz]; exact (EReal.coe_neg z).symm
  have ci : FloatOps.ofBits (F := Ideal) .f32 0x7F800000#32 = (⊤ : EReal) := by
    show Ideal.ofBits .f32 0x7F800000#32 = ⊤
    simp [Ideal.ofBits, Ideal.ieee]
  have ne : ∀ x : ℝ, FloatOps.cmpf (F := Ideal) (φ := .f32) .oeq (x : EReal) (⊤ : EReal) = 0#1 := fun x => by
    show BitVec.ofBool (decide ((x : EReal) = ⊤)) = 0#1
    simp
  have h14 : val_main_call0_call0_v14 (F := Ideal) H i = 0#1 := by
    rw [val_main_call0_call0_v14_apply, h0, val_main_call0_call0_v13_apply, val_main_call0_call0_cst_0_apply, ci]; exact ne _
  have h18 : val_main_call0_call0_v18 (F := Ideal) H i = 0#1 := by
    rw [val_main_call0_call0_v18_apply, softplus_apply i hz, val_main_call0_call0_v17_apply, val_main_call0_call0_cst_2_apply, ci]; exact ne _
  rw [val_main_v24_1_apply, val_main_call0_call0_v21_apply, val_main_call0_call0_v16_apply, val_main_call0_call0_v20_apply, h14, h18, h0, softplus_apply i hz]
  show Ideal.exp (((-z : ℝ) : EReal) - ((sp (-z) : ℝ) : EReal)) = _
  rw [← EReal.coe_sub, exp_coe, sp_neg]; congr 2; ring

/-- The masked softplus, negated. -/
theorem s_apply (h : Fin 16) (t s : Fin 4112) : val_main_v26_0 (F := Ideal) H (ix3 h t s) = ((-S (D.z h) (t + 112) (s + 112) : ℝ) : EReal) := by
  have c0 : val_main_call1_v2 (F := Ideal) (ix3 h t s) = ((0 : ℝ) : EReal) := by
    rw [val_main_call1_v2_apply]; exact Ideal.ofBits_zero_f32
  rw [val_main_v26_0_apply, masked, nls_apply _ (z_apply g h t s), c0]
  unfold S
  by_cases hh : s.val < t.val
  · rw [if_pos hh, if_pos (sees_add.mpr hh)]
  · rw [if_neg hh, if_neg (fun h' => hh (sees_add.mp h')), neg_zero]

omit g in
theorem sum_S (Z : ℕ → ℕ → ℝ) (r n : ℕ) : ∑ i ∈ Finset.range n, -S Z r (i + 112) = -∑ c ∈ Finset.range (n + 112), S Z r c := by
  rw [Finset.sum_neg_distrib, sum_shift (S Z r) n fun c hc => S_zero Z (fun h => by have := h.2; omega)]

/-- The sum of it over the columns after. -/
theorem after_apply (h : Fin 16) (t s : Fin 4112) : val_main_v28 (F := Ideal) H (ix3 h t s)
    = ((-(total (D.z h) (t + 112) - ∑ c ∈ Finset.range (s + 112 + 1), S (D.z h) (t + 112) c) : ℝ) : EReal) := by
  have e : val_main_v27 (F := Ideal) H (ix3 h t s)
      = ((∑ i ∈ Finset.range 4112, -S (D.z h) (t + 112) (i + 112) - ∑ i ∈ Finset.range s, -S (D.z h) (t + 112) (i + 112) : ℝ) : EReal) := by
    unfold val_main_v27
    exact suffix_apply _ _ _ _ (by rw [val_main_call2_v0_apply]; exact Ideal.ofBits_zero_f32) h t s (fun i => -S (D.z h) (t + 112) (i + 112)) (fun i => s_apply g h t i)
  rw [val_main_v28_apply, e, s_apply g, Ideal.subf_def, ← EReal.coe_sub, sum_S, sum_S,
    show ∑ c ∈ Finset.range (4112 + 112), S (D.z h) (t + 112) c = total (D.z h) (t + 112) from rfl,
    Finset.sum_range_succ _ (s.val + 112)]
  exact congrArg (fun x : ℝ => (x : EReal)) (by ring)

theorem e_apply (h : Fin 16) (t s : Fin 4112) : val_main_v30 (F := Ideal) H (ix3 h t s)
    = ((Real.exp (D.z h (t + 112) (s + 112) - sp (D.z h (t + 112) (s + 112))
        - (total (D.z h) (t + 112) - ∑ c ∈ Finset.range (s + 112 + 1), S (D.z h) (t + 112) c)) : ℝ) : EReal) := by
  rw [val_main_v30_apply, val_main_v29_apply, ls_apply _ (z_apply g h t s), after_apply g, Ideal.addf_def, ← EReal.coe_add]
  exact congrArg (fun x : ℝ => ((Real.exp x : ℝ) : EReal)) (sub_eq_add_neg _ _).symm

theorem a_apply (h : Fin 16) (t s : Fin 4112) : val_main_v31_0 (F := Ideal) H (ix3 h t s) = (A (D.z h) (t + 112) (s + 112) : EReal) := by
  have c0 : val_main_call3_v2 (F := Ideal) (ix3 h t s) = ((0 : ℝ) : EReal) := by
    rw [val_main_call3_v2_apply]; exact Ideal.ofBits_zero_f32
  rw [val_main_v31_0_apply]
  refine (masked h t s _ _).trans ?_
  rw [c0]
  by_cases hh : s.val < t.val
  · rw [if_pos hh, e_apply g, A, if_pos (sees_add.mpr hh)]
  · rw [if_neg hh, A, if_neg (fun h' => hh (sees_add.mp h'))]

/-! ## The scores' gradients -/

theorem g_apply (h : Fin 16) (t s : Fin 4112) : val_main_v39 (F := Ideal) H O (ix3 h t s) = (G (D.z h) (D.w h) (t + 112) (s + 112) : EReal) := by
  have c0 : val_main_call4_v0 (F := Ideal) (ix3 h t s) = ((0 : ℝ) : EReal) := by
    rw [val_main_call4_v0_apply]; exact Ideal.ofBits_zero_f32
  have e : val_main_v38 (F := Ideal) H O (ix3 h t s) = if s.val < t.val then ((D.w h (t + 112) (s + 112) : ℝ) : EReal) else ((0 : ℝ) : EReal) := by
    rw [val_main_v38_apply]
    refine (masked h t s _ _).trans ?_
    rw [c0, w_apply g]
  rw [val_main_v39_apply, e, e_apply g, Ideal.mulf_def]
  unfold G A
  by_cases hh : s.val < t.val
  · rw [if_pos hh, if_pos (sees_add.mpr hh), ← EReal.coe_mul, mul_comm]
  · rw [if_neg hh, if_neg (fun h' => hh (sees_add.mp h')), ← EReal.coe_mul, zero_mul, zero_mul]

/-- The sum of it over the columns before. -/
theorem before_apply (h : Fin 16) (t s : Fin 4112) : val_main_v42 (F := Ideal) H O (ix3 h t s)
    = ((∑ c ∈ Finset.range (s + 112), G (D.z h) (D.w h) (t + 112) c : ℝ) : EReal) := by
  have e : val_main_v41 (F := Ideal) H O (ix3 h t s)
      = ((∑ i ∈ Finset.range (s + 1), G (D.z h) (D.w h) (t + 112) (i + 112) : ℝ) : EReal) := by
    unfold val_main_v41
    exact prefix_apply rfl _ _ _ _ (by rw [val_main_call5_v0_apply]; exact Ideal.ofBits_zero_f32) h t s (fun i => G (D.z h) (D.w h) (t + 112) (i + 112)) (fun i => g_apply g h t i)
  rw [val_main_v42_apply, e, val_main_v40_apply, g_apply g,
    sum_shift (G (D.z h) (D.w h) (t + 112)) (s + 1) fun c hc => G_zero _ _ (fun h => by have := h.2; omega),
    show s.val + 1 + 112 = s.val + 112 + 1 by omega, Finset.sum_range_succ]
  generalize G (D.z h) (D.w h) (t + 112) (s + 112) = x
  generalize ∑ c ∈ Finset.range (s.val + 112), G (D.z h) (D.w h) (t + 112) c = y
  show -(x : EReal) + ((y + x : ℝ) : EReal) = (y : EReal)
  rw [← EReal.coe_neg, ← EReal.coe_add]
  exact congrArg (fun x : ℝ => (x : EReal)) (by ring)

theorem dz_apply (h : Fin 16) (t s : Fin 4112) : val_main_v49 (F := Ideal) H O (ix3 h t s)
    = ((dZ (D.z h) (D.w h) (t + 112) (s + 112) / 8 : ℝ) : EReal) := by
  have c0 : val_main_call6_v0 (F := Ideal) (ix3 h t s) = ((0 : ℝ) : EReal) := by
    rw [val_main_call6_v0_apply]; exact Ideal.ofBits_zero_f32
  have e : val_main_v43 (F := Ideal) H O (ix3 h t s)
      = ((if s.val < t.val then ∑ c ∈ Finset.range (s + 112), G (D.z h) (D.w h) (t + 112) c else 0 : ℝ) : EReal) := by
    rw [val_main_v43_apply, masked, c0, before_apply g]
    by_cases hh : s.val < t.val
    · rw [if_pos hh, if_pos hh]
    · rw [if_neg hh, if_neg hh]
  rw [val_main_v49_apply, val_main_v47_apply, val_main_v46_apply, val_main_call7_v1_apply, val_main_call7_v0_apply, val_main_v45_apply, val_main_v44_apply, e,
    g_apply g, slope_apply _ (z_apply g h t s), val_main_v48_apply, val_main_cst_2_apply]
  generalize hL : (if s.val < t.val then ∑ c ∈ Finset.range (s + 112), G (D.z h) (D.w h) (t + 112) c else 0 : ℝ) = L
  show (-(L : EReal) + -(-((G (D.z h) (D.w h) (t + 112) (s + 112) : EReal) + (L : EReal)) * ((Real.exp (-sp (D.z h (t + 112) (s + 112))) : ℝ) : EReal)))
    * Ideal.ofBits .f32 0x3E000000#32 = _
  rw [← EReal.coe_add, ← EReal.coe_neg, ← EReal.coe_neg, ← EReal.coe_mul, ← EReal.coe_neg, ← EReal.coe_add, mul_eighth, ← hL]
  congr 2
  unfold dZ
  by_cases hh : s.val < t.val
  · rw [if_pos hh, if_pos (sees_add.mpr hh), exp_neg_sp]; ring
  · rw [if_neg hh, if_neg (fun h' => hh (sees_add.mp h')), G_zero _ _ (fun h' => hh (sees_add.mp h'))]; ring

/-! ## The gradients of the heads -/

theorem dk_apply (t : Fin 4112) (h : Fin 16) (e : Fin 64) : val_main_v51 (F := Ideal) H O (ix3 t h e) = (D.dk (t + 112) (64 * h + e) : EReal) := by
  have e0 : idx_main_v51 (ix3 t h e) = ix3 h t e := funext fun d => by match d with | ⟨0, _⟩ => rfl | ⟨1, _⟩ => rfl | ⟨2, _⟩ => rfl
  rw [val_main_v51_apply, e0, val_main_v50_apply]
  have f : ∀ k : Fin 4112, val_main_v49 (F := Ideal) H O (lidx_main_v50 (ix3 h t e) k) * val_main_v4 (F := Ideal) H (ridx_main_v50 (ix3 h t e) k)
      = ((dZ (D.z h) (D.w h) (k + 112) (t + 112) / 8 * D.q (k + 112) (64 * h + e) : ℝ) : EReal) := fun k => by
    have e1 : lidx_main_v50 (ix3 h t e) k = ix3 h k t := funext fun d => by match d with | ⟨0, _⟩ => rfl | ⟨1, _⟩ => rfl | ⟨2, _⟩ => rfl
    have e2 : ridx_main_v50 (ix3 h t e) k = ix3 k h e := funext fun d => by match d with | ⟨0, _⟩ => rfl | ⟨1, _⟩ => rfl | ⟨2, _⟩ => rfl
    rw [e1, e2, dz_apply g, q_apply g, EReal.coe_mul]
  rw [Finset.sum_congr rfl fun k _ => f k, sum_fin_coe (fun k => dZ (D.z h) (D.w h) (k + 112) (t + 112) / 8 * D.q (k + 112) (64 * h + e)),
    sum_shift (fun r => dZ (D.z h) (D.w h) r (t + 112) / 8 * D.q r (64 * h + e)) 4112 fun r hr => by
      rw [dZ_zero _ _ (fun h => by have := h.1; omega), zero_div, zero_mul]]
  unfold Rows.dk
  rw [show (64 * h.val + e.val) / 64 = h.val by omega, Finset.sum_div]
  exact congrArg (fun x : ℝ => (x : EReal)) (Finset.sum_congr rfl fun r _ => by ring)

theorem dq_apply (t : Fin 4112) (h : Fin 16) (e : Fin 64) : val_main_v53 (F := Ideal) H O (ix3 t h e) = (D.dq (t + 112) (64 * h + e) : EReal) := by
  have e0 : idx_main_v53 (ix3 t h e) = ix3 h t e := funext fun d => by match d with | ⟨0, _⟩ => rfl | ⟨1, _⟩ => rfl | ⟨2, _⟩ => rfl
  rw [val_main_v53_apply, e0, val_main_v52_apply]
  have f : ∀ k : Fin 4112, val_main_v49 (F := Ideal) H O (lidx_main_v52 (ix3 h t e) k) * val_main_v9 (F := Ideal) H (ridx_main_v52 (ix3 h t e) k)
      = ((dZ (D.z h) (D.w h) (t + 112) (k + 112) / 8 * D.k (k + 112) (64 * h + e) : ℝ) : EReal) := fun k => by
    have e1 : lidx_main_v52 (ix3 h t e) k = ix3 h t k := funext fun d => by match d with | ⟨0, _⟩ => rfl | ⟨1, _⟩ => rfl | ⟨2, _⟩ => rfl
    have e2 : ridx_main_v52 (ix3 h t e) k = ix3 k h e := funext fun d => by match d with | ⟨0, _⟩ => rfl | ⟨1, _⟩ => rfl | ⟨2, _⟩ => rfl
    rw [e1, e2, dz_apply g, k_apply g, EReal.coe_mul]
  rw [Finset.sum_congr rfl fun k _ => f k, sum_fin_coe (fun k => dZ (D.z h) (D.w h) (t + 112) (k + 112) / 8 * D.k (k + 112) (64 * h + e)),
    sum_shift (fun c => dZ (D.z h) (D.w h) (t + 112) c / 8 * D.k c (64 * h + e)) 4112 fun c hc => by
      rw [dZ_zero _ _ (fun h => by have := h.2; omega), zero_div, zero_mul]]
  unfold Rows.dq
  rw [show (64 * h.val + e.val) / 64 = h.val by omega, Finset.sum_div]
  exact congrArg (fun x : ℝ => (x : EReal)) (Finset.sum_congr rfl fun r _ => by ring)

theorem dv_apply (t : Fin 4112) (h : Fin 16) (e : Fin 64) : val_main_v37 (F := Ideal) H O (ix3 t h e) = (D.dv (t + 112) (64 * h + e) : EReal) := by
  have e0 : idx_main_v37 (ix3 t h e) = ix3 h e t := funext fun d => by match d with | ⟨0, _⟩ => rfl | ⟨1, _⟩ => rfl | ⟨2, _⟩ => rfl
  rw [val_main_v37_apply, e0, val_main_v36_apply]
  have f : ∀ k : Fin 4112, val_main_v34 (F := Ideal) O (lidx_main_v36 (ix3 h e t) k) * val_main_v31_0 (F := Ideal) H (ridx_main_v36 (ix3 h e t) k)
      = ((A (D.z h) (k + 112) (t + 112) * D.d (k + 112) (64 * h + e) : ℝ) : EReal) := fun k => by
    have e1 : idx_main_v34 (lidx_main_v36 (ix3 h e t) k) = ix3 k h e := funext fun d => by match d with | ⟨0, _⟩ => rfl | ⟨1, _⟩ => rfl | ⟨2, _⟩ => rfl
    have e2 : ridx_main_v36 (ix3 h e t) k = ix3 h k t := funext fun d => by match d with | ⟨0, _⟩ => rfl | ⟨1, _⟩ => rfl | ⟨2, _⟩ => rfl
    rw [val_main_v34_apply, e1, e2, d_apply g, a_apply g, ← EReal.coe_mul, mul_comm]
  rw [Finset.sum_congr rfl fun k _ => f k, sum_fin_coe (fun k => A (D.z h) (k + 112) (t + 112) * D.d (k + 112) (64 * h + e)),
    sum_shift (fun r => A (D.z h) r (t + 112) * D.d r (64 * h + e)) 4112 fun r hr => by
      rw [A_zero _ (fun h => by have := h.1; omega), zero_mul]]
  unfold Rows.dv
  rw [show (64 * h.val + e.val) / 64 = h.val by omega]

/-! ## The result -/

omit g in
theorem dq_pad {r l : ℕ} (h : r < 112) : D.dq r l = 0 := by
  unfold Rows.dq
  rw [Finset.sum_eq_zero fun c _ => by rw [dZ_zero _ _ (fun h => by have := h.1; have := h.2; omega), zero_mul], zero_div]
omit g in
theorem dk_pad {r l : ℕ} (h : r < 112) : D.dk r l = 0 := by
  unfold Rows.dk
  rw [Finset.sum_eq_zero fun c _ => by rw [dZ_zero _ _ (fun h => by have := h.2; omega), zero_mul], zero_div]
omit g in
theorem dv_pad {r l : ℕ} (h : r < 112) : D.dv r l = 0 := by
  unfold Rows.dv
  rw [Finset.sum_eq_zero fun c _ => by rw [A_zero _ (fun h => by have := h.2; omega), zero_mul]]

omit g in
/-- Heads put side by side, 112 rows of zeros above. -/
theorem padded {x : FVec Ideal (T3 4112 16 64) .f32} {f : ℕ → ℕ → ℝ} (hx : ∀ t h e, x (ix3 t h e) = (f (t.val + 112) (64 * h.val + e.val) : EReal))
    (h0 : ∀ r l, r < 112 → f r l = 0) (y : FVec Ideal (T2 4112 1024) .f32)
    (hy : ∀ t l, y (ix2 t l) = x (ix3 t ⟨l.val / 64, by omega⟩ ⟨l.val % 64, Nat.mod_lt _ (by norm_num)⟩))
    {u : Shape} (z : FVec Ideal u .f32) (hz : ∀ j, z j = (0 : EReal)) (hp : (T2 4112 1024).Pads ![112, 0] ![0, 0] ![0, 0] (T2 4224 1024)) (hu : 0 < u.numel)
    (r : Fin 4224) (l : Fin 1024) : pad (T2 4224 1024) ![112, 0] ![0, 0] ![0, 0] y z hp hu (ix2 r l) = (f r l : EReal) := by
  by_cases h : 112 ≤ r.val
  · rw [pad_apply_of_inside _ _ _ y z hp hu (ix2 r l) (ix2 ⟨r.val - 112, by omega⟩ l) (fun d => by
      match d with
      | ⟨0, _⟩ => show r.val = 112 + (r.val - 112) * (0 + 1); omega
      | ⟨1, _⟩ => show l.val = 0 + l.val * (0 + 1); omega), hy, hx]
    refine congrArg (fun x : ℝ => (x : EReal)) ?_
    show f (r.val - 112 + 112) (64 * (l.val / 64) + l.val % 64) = f r.val l.val
    rw [show r.val - 112 + 112 = r.val by omega, show 64 * (l.val / 64) + l.val % 64 = l.val by omega]
  · rw [pad_apply_of_not_inside _ _ _ y z hp hu (ix2 r l) (0 : Fin 2) (fun h' => h h'.1), hz, h0 _ _ (by omega), EReal.coe_zero]

omit g in
theorem side (x : FVec Ideal (T3 4112 16 64) .f32) (h : (T3 4112 16 64).ShapeCasts (T2 4112 1024)) (t : Fin 4112) (l : Fin 1024) :
    shapeCast (T2 4112 1024) x h (ix2 t l) = x (ix3 t ⟨l.val / 64, by omega⟩ ⟨l.val % 64, Nat.mod_lt _ (by norm_num)⟩) :=
  shapeCast_apply x h _ _ (by
    rw [Shape.rowMajor_val_two, Shape.rowMajor_val_three]
    show (t.val * 16 + l.val / 64) * 64 + l.val % 64 = t.val * 1024 + l.val
    omega)

omit g in
theorem pad_zero (φ : FTy) : (Scalar.sitofp (F := Ideal) φ (0#32)) = (0 : EReal) := by
  rw [Ideal.scalar_sitofp_def]; simp

theorem slotq (r : Fin 4224) (l : Fin 1024) : val_main_v57 (F := Ideal) H O (ix3 0 r l) = (D.dq r l : EReal) := by
  have e1 : idx_main_v57 (ix3 0 r l) = ix2 r l := funext fun d => by match d with | ⟨0, _⟩ => rfl | ⟨1, _⟩ => rfl
  rw [val_main_v57_apply, e1, val_main_v56_apply, Ideal.truncf_def]
  exact padded (fun t h e => dq_apply g t h e) (fun _ _ h => dq_pad h) _ (fun t l => side _ _ t l) _ (fun _ => pad_zero _) _ _ r l
theorem slotk (r : Fin 4224) (l : Fin 1024) : val_main_v61 (F := Ideal) H O (ix3 0 r l) = (D.dk r l : EReal) := by
  have e1 : idx_main_v61 (ix3 0 r l) = ix2 r l := funext fun d => by match d with | ⟨0, _⟩ => rfl | ⟨1, _⟩ => rfl
  rw [val_main_v61_apply, e1, val_main_v60_apply, Ideal.truncf_def]
  exact padded (fun t h e => dk_apply g t h e) (fun _ _ h => dk_pad h) _ (fun t l => side _ _ t l) _ (fun _ => pad_zero _) _ _ r l
theorem slotv (r : Fin 4224) (l : Fin 1024) : val_main_v65 (F := Ideal) H O (ix3 0 r l) = (D.dv r l : EReal) := by
  have e1 : idx_main_v65 (ix3 0 r l) = ix2 r l := funext fun d => by match d with | ⟨0, _⟩ => rfl | ⟨1, _⟩ => rfl
  rw [val_main_v65_apply, e1, val_main_v64_apply, Ideal.truncf_def]
  exact padded (fun t h e => dv_apply g t h e) (fun _ _ h => dv_pad h) _ (fun t l => side _ _ t l) _ (fun _ => pad_zero _) _ _ r l

omit g in
/-- Five pieces along the first axis, read at each. -/
theorem pieces {α : Type} (a : (T3 3 4224 1024).Idx → α) (b c d : (T3 1 4224 1024).Idx → α) (e : (T3 2 4224 1024).Idx → α)
    (h : Shape.Concatenates [T3 3 4224 1024, T3 1 4224 1024, T3 1 4224 1024, T3 1 4224 1024, T3 2 4224 1024] (T3 8 4224 1024) 0)
    (n : Fin 8) (r : Fin 4224) (l : Fin 1024) :
    concatenate (T3 8 4224 1024) 0 [⟨_, a⟩, ⟨_, b⟩, ⟨_, c⟩, ⟨_, d⟩, ⟨_, e⟩] h (ix3 n r l)
      = if n.val = 3 then b (ix3 0 r l) else if n.val = 4 then c (ix3 0 r l) else if n.val = 5 then d (ix3 0 r l)
        else if hn : n.val < 3 then a (ix3 ⟨n.val, hn⟩ r l) else e (ix3 ⟨n.val - 3 - 1 - 1 - 1, by omega⟩ r l) := by
  fin_cases n
  · exact congrArg a (funext fun d => by match d with | ⟨0, _⟩ => rfl | ⟨1, _⟩ => rfl | ⟨2, _⟩ => rfl)
  · exact congrArg a (funext fun d => by match d with | ⟨0, _⟩ => rfl | ⟨1, _⟩ => rfl | ⟨2, _⟩ => rfl)
  · exact congrArg a (funext fun d => by match d with | ⟨0, _⟩ => rfl | ⟨1, _⟩ => rfl | ⟨2, _⟩ => rfl)
  · exact congrArg b (funext fun d => by match d with | ⟨0, _⟩ => rfl | ⟨1, _⟩ => rfl | ⟨2, _⟩ => rfl)
  · exact congrArg c (funext fun d => by match d with | ⟨0, _⟩ => rfl | ⟨1, _⟩ => rfl | ⟨2, _⟩ => rfl)
  · exact congrArg d (funext fun d => by match d with | ⟨0, _⟩ => rfl | ⟨1, _⟩ => rfl | ⟨2, _⟩ => rfl)
  · exact congrArg e (funext fun d => Fin.ext (by match d with | ⟨0, _⟩ => rfl | ⟨1, _⟩ => rfl | ⟨2, _⟩ => rfl))
  · exact congrArg e (funext fun d => Fin.ext (by match d with | ⟨0, _⟩ => rfl | ⟨1, _⟩ => rfl | ⟨2, _⟩ => rfl))

/-- The reference's result is the one proved of the kernel. -/
theorem result_eq (X : Vec Ideal (T3 8 4224 1024) .bf16) : val_main_v68 (F := Ideal) H O X = result D X := by
  suffices key : ∀ (n : Fin 8) (r : Fin 4224) (l : Fin 1024), val_main_v68 (F := Ideal) H O X (ix3 n r l) = result D X (ix3 n r l) from
    funext fun i => (congrArg _ (eq_ix3 i)).trans ((key (i 0) (i 1) (i 2)).trans (congrArg _ (eq_ix3 i).symm))
  intro n r l
  refine (pieces _ _ _ _ _ _ n r l).trans ?_
  unfold result
  rw [slotq g, slotk g, slotv g]
  show _ = if n.val = 3 then _ else if n.val = 4 then _ else if n.val = 5 then _ else X (ix3 n r l)
  by_cases h3 : n.val = 3
  · rw [if_pos h3, if_pos h3]
  rw [if_neg h3, if_neg h3]
  by_cases h4 : n.val = 4
  · rw [if_pos h4, if_pos h4]
  rw [if_neg h4, if_neg h4]
  by_cases h5 : n.val = 5
  · rw [if_pos h5, if_pos h5]
  rw [if_neg h5, if_neg h5]
  by_cases hn : n.val < 3
  · rw [dif_pos hn, val_main_v66_apply]
    exact congrArg X (funext fun d => by match d with | ⟨0, _⟩ => rfl | ⟨1, _⟩ => rfl | ⟨2, _⟩ => rfl)
  · rw [dif_neg hn, val_main_v67_apply]
    refine congrArg X (funext fun d => Fin.ext ?_)
    match d with
    | ⟨0, _⟩ => show 6 + (n.val - 3 - 1 - 1 - 1) = n.val; omega
    | ⟨1, _⟩ => rfl
    | ⟨2, _⟩ => rfl

end

end Cert.Attn.Ref
-- ==== Proof.KI.Host.lean ====
/-
  What the host prepares for the call: the row totals of the softplus, laid out a lane per head column, and the array the
  result is written into.
-/
module

public import proofs.«01_k».proof.Proof.Gen.KernelIdeal.Frame
public import proofs.«01_k».proof.Proof.Val.Ref
public import Idealize.ShloMosaic.Lib.IdealHost

@[expose] public section

set_option maxRecDepth 16384

noncomputable section

namespace Cert.KernelIdeal.Host

open Idealize.ShloMosaic Idealize.ShloMosaic.TcCoe Idealize.ShloMosaic.StableHlo Idealize.SL.Sem
open Idealize.ShloMosaic.ValueIdx
open Cert.KernelIdeal Cert.KernelIdeal.Gen Cert.Attn
open scoped BigOperators

/-- The row totals as the host computes them from the masked softplus, negated. -/
def laid (x : FVec Ideal (T3 16 4112 4112) .f32) : FVec Ideal (T2 4224 1024) .f32 :=
  pad S4224x1024 ![112, 0] ![0, 0] ![0, 0]
    (shapeCast S4112x1024 (broadcastInDim S4112x16x64 ![0, 1, 2] bcast_S4112x16x1_S4112x16x64_0_1_2
      (broadcastInDim S4112x16x1 ![0, 1] bcast_S4112x16_S4112x16x1_0_1
        (transpose S4112x16 [1, 0] (Host.negf (F := Ideal) (Host.reduceAdd x (constant (F := Ideal) S_ .f32 0x00000000#32) reducesTo_S16x4112x4112_S16x4112_d2 h_S_)
          : FVec Ideal S16x4112 .f32) transposes_S16x4112_S4112x16_1_0))) shapeCasts_S4112x16x64_S4112x1024)
    (sitofp (F := Ideal) .f32 (constantI S_ 32 0#32)) pads_S4112x1024_S4224x1024_11200_000 h_S_

variable (m : (ℓ : Loc nD τ sig) → Buf (Elt Ideal) ℓ)

set_option maxHeartbeats 4000000 in
theorem V_out (c : Dev nD) : V m c main_v26 = m ((c.tc : Thread nD τ).loc main_arg2) := by
  unfold V
  simp only [hostOps0, hostOps0_1, hostOps0_2, hostOps0_3, hostOps0_4, hostOps0_5, hostOps0_6, List.flatten_cons, List.flatten_nil, List.append_nil, List.cons_append, List.nil_append,
    TRef.ternary, TRef.binary, TRef.nullary, TRef.unary, TRef.toBuf, TRef.ofBuf, cast_eq]
  after_results_simp
  all_goals rfl

set_option maxHeartbeats 4000000 in
theorem V_lt (c : Dev nD) : V m c main_v25 = laid (Cert.ReferenceIdeal.Read.val_main_v26_0 (F := Ideal) (m ((c.tc : Thread nD τ).loc main_arg0))) := by
  unfold V
  simp only [hostOps0, hostOps0_1, hostOps0_2, hostOps0_3, hostOps0_4, hostOps0_5, hostOps0_6, List.flatten_cons, List.flatten_nil, List.append_nil, List.cons_append, List.nil_append,
    TRef.ternary, TRef.binary, TRef.nullary, TRef.unary, TRef.toBuf, TRef.ofBuf, cast_eq]
  after_results_simp
  all_goals rfl

section
variable {D : Rows} {H : Vec Ideal (T3 8 4224 1024) .bf16} {O : Vec Ideal (T2 4224 1024) .bf16} (g : Reads D H O)
include g

/-- A row of the masked softplus, summed. -/
theorem row_apply (h : Fin 16) (t : Fin 4112) :
    Host.reduceAdd (F := Ideal) (Cert.ReferenceIdeal.Read.val_main_v26_0 (F := Ideal) H) (constant (F := Ideal) S_ .f32 0x00000000#32)
      reducesTo_S16x4112x4112_S16x4112_d2 h_S_ (ix2 h t) = ((-total (D.z h) (t + 112) : ℝ) : EReal) := by
  have h1 : S16x4112x4112.Reduces [(2 : Fin 3)] S16x4112 := by decide
  have e : ∀ k : Fin 4112, h1.lift (ix2 h t : S16x4112.Idx) k = (ix3 h t k : S16x4112x4112.Idx) := fun k =>
    funext fun d => Fin.ext (by match d with | ⟨0, _⟩ => rfl | ⟨1, _⟩ => rfl | ⟨2, _⟩ => rfl)
  have e0 : (constant (F := Ideal) S_ .f32 0x00000000#32) (Shape.Idx.first h_S_) = (0 : EReal) := Ideal.ofBits_zero_f32
  rw [hostReduceAdd_apply, Ideal.hostReduceAdd_single reducesTo_S16x4112x4112_S16x4112_d2 h1, e0, zero_add]
  refine (Finset.sum_congr rfl fun (k : Fin 4112) _ => (congrArg (Cert.ReferenceIdeal.Read.val_main_v26_0 (F := Ideal) H) (e k)).trans (Ref.s_apply g h t k)).trans ?_
  refine (sum_fin_coe (n := 4112) (fun s => -S (D.z h) (t + 112) (s + 112))).trans ?_
  rw [Ref.sum_S]; rfl

/-- What the host lays out: row `r`'s total in the lanes of its head. -/
theorem laid_apply (r : Fin 4224) (l : Fin 1024) :
    laid (Cert.ReferenceIdeal.Read.val_main_v26_0 (F := Ideal) H) (ix2 r l) = (total (D.z (l.val / 64)) r.val : EReal) := by
  unfold laid
  refine Ref.padded (f := fun r l => total (D.z (l / 64)) r) (fun t h e => ?_)
    (fun r l hr => Finset.sum_eq_zero fun c _ => S_zero _ fun h => by have h1 := h.1; have h2 := h.2; omega) _ (fun t l => Ref.side _ _ t l) _ (fun _ => Ref.pad_zero _) _ _ r l
  refine (broadcastInDim_apply _ _ _ (ix3 t h e) (ix3 t h ⟨0, Nat.one_pos⟩) (fun a => by match a with | ⟨0, _⟩ => rfl | ⟨1, _⟩ => rfl | ⟨2, _⟩ => rfl)).trans ?_
  refine (broadcastInDim_apply _ _ _ (ix3 t h ⟨0, Nat.one_pos⟩) (ix2 t h) (fun a => by match a with | ⟨0, _⟩ => rfl | ⟨1, _⟩ => rfl)).trans ?_
  refine (transpose_apply [1, 0] _ _ (ix2 t h) (ix2 h t) (fun d => by match d with | ⟨0, _⟩ => rfl | ⟨1, _⟩ => rfl)).trans ?_
  show -(Host.reduceAdd (F := Ideal) (Cert.ReferenceIdeal.Read.val_main_v26_0 (F := Ideal) H) (constant (F := Ideal) S_ .f32 0x00000000#32)
      reducesTo_S16x4112x4112_S16x4112_d2 h_S_ (ix2 h t)) = _
  rw [row_apply g, ← EReal.coe_neg, neg_neg]
  have e1 : (64 * h.val + e.val) / 64 = h.val := by omega
  rw [e1]

end

end Cert.KernelIdeal.Host
-- ==== Proof.Val.Range.lean ====
/-
  The precondition, read: the rows are real and the scores a row sees are at most 30.
-/
module

public import proofs.«01_k».proof.Pre_scores_in_range
public import proofs.«01_k».proof.Proof.Val.Ref

@[expose] public section

set_option maxRecDepth 16384

noncomputable section

namespace Cert.Attn.Range

open Idealize.ShloMosaic Idealize.ShloMosaic.ValueIdx Cert.ReferenceIdeal Cert.ReferenceIdeal.Read

/-- The side conditions of the precondition's own operations: those of the reference's. -/
instance facts : Cert.Pre_scores_in_range.Facts where
  slices_S8x4224x1024_S1x4224x1024_3_0_0 := Cert.ReferenceIdeal.Gen.slices_S8x4224x1024_S1x4224x1024_3_0_0
  shapeCasts_S1x4224x1024_S4224x1024 := Cert.ReferenceIdeal.Gen.shapeCasts_S1x4224x1024_S4224x1024
  slices_S4224x1024_S4112x1024_112_0 := Cert.ReferenceIdeal.Gen.slices_S4224x1024_S4112x1024_112_0
  bitsLt_bf16_f32 := Cert.ReferenceIdeal.Gen.bitsLt_bf16_f32
  shapeCasts_S4112x1024_S4112x16x64 := Cert.ReferenceIdeal.Gen.shapeCasts_S4112x1024_S4112x16x64
  slices_S8x4224x1024_S1x4224x1024_4_0_0 := Cert.ReferenceIdeal.Gen.slices_S8x4224x1024_S1x4224x1024_4_0_0
  slices_S8x4224x1024_S1x4224x1024_5_0_0 := Cert.ReferenceIdeal.Gen.slices_S8x4224x1024_S1x4224x1024_5_0_0
  bcast_S_S16x4112x4112 := Cert.ReferenceIdeal.Gen.bcast_S_S16x4112x4112
  bcast_S_S4112x16x64 := by decide
  bcast_S4112x4112_S16x4112x4112_1_2 := Cert.ReferenceIdeal.Gen.bcast_S4112x4112_S16x4112x4112_1_2
  dot_S4112x16x64_S4112x16x64_S16x4112x4112_2_2_0_0_1_1_wf := Cert.ReferenceIdeal.Gen.dot_S4112x16x64_S4112x16x64_S16x4112x4112_2_2_0_0_1_1_wf

theorem top : Ideal.ofBits .f32 0x7F800000#32 = (⊤ : EReal) := by simp [Ideal.ofBits, Ideal.ieee]

theorem le_of_cmp {x y : EReal} (h : FloatOps.cmpf (F := Ideal) (φ := .f32) .ole x y = 1#1) : x ≤ y := by
  have h' : BitVec.ofBool (decide (x ≤ y)) = 1#1 := h
  by_contra hn
  rw [decide_eq_false hn] at h'
  exact absurd h' (by decide)

theorem lt_of_cmp {x y : EReal} (h : FloatOps.cmpf (F := Ideal) (φ := .f32) .olt x y = 1#1) : x < y := by
  have h' : BitVec.ofBool (decide (x < y)) = 1#1 := h
  by_contra hn
  rw [decide_eq_false hn] at h'
  exact absurd h' (by decide)

/-- An entry whose absolute value is finite is real. -/
theorem real_of_lt {x : EReal} (h : FloatOps.cmpf (F := Ideal) (φ := .f32) .olt (max x (-x)) (Ideal.ofBits .f32 0x7F800000#32) = 1#1) :
    x = (x.toReal : EReal) := by
  have h1 := lt_of_cmp h
  rw [top] at h1
  refine (EReal.coe_toReal (fun ht => ?_) (fun hb => ?_)).symm
  · rw [ht] at h1; exact absurd h1 (by simp)
  · rw [hb] at h1; exact absurd h1 (by simp)

section
variable (H : Vec Ideal (T3 8 4224 1024) .bf16) (O : Vec Ideal (T2 4224 1024) .bf16) (X : Vec Ideal (T3 8 4224 1024) .bf16)

/-- The rows of the arrays, as reals. -/
def rows : Rows where
  q r l := if h : r < 4224 ∧ l < 1024 then (H (ix3 3 ⟨r, h.1⟩ ⟨l, h.2⟩)).toReal else 0
  k r l := if h : r < 4224 ∧ l < 1024 then (H (ix3 4 ⟨r, h.1⟩ ⟨l, h.2⟩)).toReal else 0
  v r l := if h : r < 4224 ∧ l < 1024 then (H (ix3 5 ⟨r, h.1⟩ ⟨l, h.2⟩)).toReal else 0
  d r l := if h : r < 4224 ∧ l < 1024 then (O (ix2 ⟨r, h.1⟩ ⟨l, h.2⟩)).toReal else 0

variable {H O X}

theorem absd (i : S4112x16x64.Idx) {x : FVec Ideal S4112x16x64 .f32}
    (h : cmpf .olt (Host.absf x) (broadcastInDim S4112x16x64 ![] facts.bcast_S_S4112x16x64 (constant S_ .f32 0x7F800000#32)) = fun _ => 1#1) :
    x i = ((x i).toReal : EReal) :=
  real_of_lt (congrFun h i)

/-- The place of row `r`, lane `l` among the heads. -/
theorem place {r : Fin 4224} (hr : 112 ≤ r.val) (l : Fin 1024) :
    ∃ (t : Fin 4112) (h : Fin 16) (e : Fin 64), r = ⟨t + 112, by omega⟩ ∧ l = ⟨64 * h + e, by omega⟩ :=
  ⟨⟨r - 112, by omega⟩, ⟨l / 64, by omega⟩, ⟨l % 64, by omega⟩, Fin.ext (by show r.val = r.val - 112 + 112; omega), Fin.ext (by show l.val = 64 * (l.val / 64) + l.val % 64; omega)⟩

theorem given
    (h1 : (Cert.Pre_scores_in_range.fn (F := Ideal) H O X).1 = fun _ => 1#1)
    (h2 : (Cert.Pre_scores_in_range.fn (F := Ideal) H O X).2.1 = fun _ => 1#1)
    (h3 : (Cert.Pre_scores_in_range.fn (F := Ideal) H O X).2.2.1 = fun _ => 1#1)
    (h4 : (Cert.Pre_scores_in_range.fn (F := Ideal) H O X).2.2.2.1 = fun _ => 1#1)
    (h5 : (Cert.Pre_scores_in_range.fn (F := Ideal) H O X).2.2.2.2 = fun _ => 1#1) : Given (rows H O) H O := by
  have g : Reads (rows H O) H O := by
    refine ⟨fun r l hr => ?_, fun r l hr => ?_, fun r l hr => ?_, fun r l hr => ?_⟩
    · refine Eq.trans ?_ (congrArg _ (dif_pos ⟨r.isLt, l.isLt⟩).symm)
      obtain ⟨t, h, e, hr', hl'⟩ := place hr l
      have e1 := absd (ix3 t h e) (x := val_main_v4 (F := Ideal) H) h1
      rw [Ref.q_read, ← hr', ← hl'] at e1; exact e1
    · refine Eq.trans ?_ (congrArg _ (dif_pos ⟨r.isLt, l.isLt⟩).symm)
      obtain ⟨t, h, e, hr', hl'⟩ := place hr l
      have e1 := absd (ix3 t h e) (x := val_main_v9 (F := Ideal) H) h2
      rw [Ref.k_read, ← hr', ← hl'] at e1; exact e1
    · refine Eq.trans ?_ (congrArg _ (dif_pos ⟨r.isLt, l.isLt⟩).symm)
      obtain ⟨t, h, e, hr', hl'⟩ := place hr l
      have e1 := absd (ix3 t h e) (x := val_main_v14 (F := Ideal) H) h3
      rw [Ref.v_read, ← hr', ← hl'] at e1; exact e1
    · refine Eq.trans ?_ (congrArg _ (dif_pos ⟨r.isLt, l.isLt⟩).symm)
      obtain ⟨t, h, e, hr', hl'⟩ := place hr l
      have e1 := absd (ix3 t h e) (x := val_main_v17 (F := Ideal) O) h4
      rw [Ref.d_read, ← hr', ← hl'] at e1; exact e1
  refine { toReads := g, small := fun h r c hh hr hs => ?_ }
  have hc := hs.1; have hc' := hs.2
  have e1 : FloatOps.cmpf (F := Ideal) (φ := .f32) .ole
      (Scalar.select (val_main_v26_1 (F := Ideal) (ix3 ⟨h, hh⟩ ⟨r - 112, by omega⟩ ⟨c - 112, by omega⟩))
        (val_main_v20 (F := Ideal) H (ix3 ⟨h, hh⟩ ⟨r - 112, by omega⟩ ⟨c - 112, by omega⟩)) (Ideal.ofBits .f32 0x00000000#32))
      (Ideal.ofBits .f32 0x41F00000#32) = 1#1 := congrFun h5 (ix3 ⟨h, hh⟩ ⟨r - 112, by omega⟩ ⟨c - 112, by omega⟩)
  rw [Ref.masked, if_pos (by show c - 112 < r - 112; omega), Ref.z_apply g] at e1
  have e2 := le_of_cmp e1
  rw [ofBits_thirty, EReal.coe_le_coe_iff] at e2
  have er : r - 112 + 112 = r := by omega
  have ec : c - 112 + 112 = c := by omega
  simpa only [er, ec] using e2

end

end Cert.Attn.Range
-- ==== Proof.Mm.Common.lean ====
/-
  What the products of the step share: a product of two blocks at an index, a block with its leading axis of length
  one dropped or put back, a sum accumulated over the points of a grid, and a sum over the columns of all the shards as
  a sum over the shards of sums over one shard's columns.
-/
module

public import Idealize.ShloMosaic.Lib.MatmulPlain
public import Idealize.ShloMosaic.Lib.Pipeline.Value
public import Idealize.ShloMosaic.Lib.ValueIdxCore
public import Idealize.ShloMosaic.PureOps.Ideal.Laws

@[expose] public section

noncomputable section

namespace Cert.Mm

open Idealize.ShloMosaic Idealize.ShloMosaic.ValueIdx
open scoped BigOperators

abbrev T2 (a b : ℕ) : Shape := ⟨2, ![a, b]⟩
abbrev T3 (a b c : ℕ) : Shape := ⟨3, ![a, b, c]⟩

/-! ## Products of two blocks -/

theorem nn {M K N : ℕ} {φ₁ φ₂ : FTy} (x : FVec Ideal (T2 M K) φ₁) (y : FVec Ideal (T2 K N) φ₂) (a : Fin M) (b : Fin N) :
    matmul (DotDims.plain M K N) none x y (constant (T2 M N) .f32 0x00000000#32) (ix2 a b) = ∑ e : Fin K, x (ix2 a e) * y (ix2 e b) := by
  refine (Ideal.matmul_plain_apply none x y _ a b).trans ?_
  rw [show constant (F := Ideal) (T2 M N) .f32 0x00000000#32 (ix2 a b) = 0 from Ideal.ofBits_zero_f32, zero_add]

theorem nt {M K N : ℕ} {φ₁ φ₂ : FTy} (x : FVec Ideal (T2 M K) φ₁) (y : FVec Ideal (T2 N K) φ₂) (a : Fin M) (b : Fin N) :
    matmul (DotDims.transposedRhs M K N) none x y (constant (T2 M N) .f32 0x00000000#32) (ix2 a b) = ∑ e : Fin K, x (ix2 a e) * y (ix2 b e) := by
  refine (Ideal.matmul_transposedRhs_apply none x y _ a b).trans ?_
  rw [show constant (F := Ideal) (T2 M N) .f32 0x00000000#32 (ix2 a b) = 0 from Ideal.ofBits_zero_f32, zero_add]

/-- The product that contracts the rows of both operands. -/
def rowsDims (M K N : ℕ) : DotDims (T2 K M) (T2 K N) (T2 M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩
theorem rowsDims_rank (M K N : ℕ) : (rowsDims M K N).contr.rank = 1 := rfl
theorem rowsDims_size (M K N : ℕ) : (rowsDims M K N).contr.size ⟨0, by rw [rowsDims_rank]; exact Nat.one_pos⟩ = K := rfl

theorem tn {M K N : ℕ} {φ₁ φ₂ : FTy} (x : FVec Ideal (T2 K M) φ₁) (y : FVec Ideal (T2 K N) φ₂) (a : Fin M) (b : Fin N) :
    matmul (rowsDims M K N) none x y (constant (T2 M N) .f32 0x00000000#32) (ix2 a b) = ∑ e : Fin K, x (ix2 e a) * y (ix2 e b) := by
  refine (Ideal.matmul_constant_zero_apply (rowsDims M K N) none x y (ix2 a b)).trans ?_
  rw [← Equiv.sum_comp (contrEquiv1 _ K (rowsDims_rank M K N) (rowsDims_size M K N)).symm]
  refine Finset.sum_congr rfl fun k _ => ?_
  have hk := contrEquiv1_symm_val _ K (rowsDims_rank M K N) (rowsDims_size M K N) k
  have el : (rowsDims M K N).lhsIdx (ix2 a b) ((contrEquiv1 _ K (rowsDims_rank M K N) (rowsDims_size M K N)).symm k) = ix2 k a := by
    funext d; apply Fin.ext
    match d with
    | ⟨0, _⟩ => exact hk
    | ⟨1, _⟩ => rfl
  have er : (rowsDims M K N).rhsIdx (ix2 a b) ((contrEquiv1 _ K (rowsDims_rank M K N) (rowsDims_size M K N)).symm k) = ix2 k b := by
    funext d; apply Fin.ext
    match d with
    | ⟨0, _⟩ => exact hk
    | ⟨1, _⟩ => rfl
  rw [el, er]

/-! ## Blocks -/

theorem drop {a b : ℕ} {α : Type} (x : (T3 1 a b).Idx → α) (h : (T3 1 a b).ShapeCasts (T2 a b)) (i : Fin a) (j : Fin b) :
    shapeCast (T2 a b) x h (ix2 i j) = x (ix3 0 i j) :=
  shapeCast_apply x h _ _ (by rw [Shape.rowMajor_val_three, Shape.rowMajor_val_two]; show (0 * a + i.val) * b + j.val = i.val * b + j.val; rw [zero_mul, zero_add])

theorem put {a b : ℕ} {α : Type} (x : (T2 a b).Idx → α) (h : (T2 a b).ShapeCasts (T3 1 a b)) (i : Fin a) (j : Fin b) :
    shapeCast (T3 1 a b) x h (ix3 0 i j) = x (ix2 i j) :=
  shapeCast_apply x h _ _ (by rw [Shape.rowMajor_val_three, Shape.rowMajor_val_two]; show i.val * b + j.val = (0 * a + i.val) * b + j.val; rw [zero_mul, zero_add])

theorem zeros2 : (![0, 0] : Fin 2 → ℕ) = fun _ => 0 := funext fun a => by fin_cases a <;> rfl
theorem zeros3 : (![0, 0, 0] : Fin 3 → ℕ) = fun _ => 0 := funext fun a => by fin_cases a <;> rfl

/-! ## Sums -/

/-- What a buffer holds after point `n`, when a point whose number is a multiple of `K` starts it anew and every other
    adds to what the point before left: the sum over the points since the last start. -/
theorem fold {N K : ℕ} (hK : 0 < K) {A : Type} (S : (n : ℕ) → n < N → A → EReal) (f : ℕ → A → EReal)
    (h0 : ∀ n h y, n % K = 0 → S n h y = f n y)
    (hs : ∀ n (h : n + 1 < N) y, (n + 1) % K ≠ 0 → S (n + 1) h y = S n (Nat.lt_of_succ_lt h) y + f (n + 1) y) :
    ∀ n h y, S n h y = ∑ q ∈ Finset.range (n % K + 1), f (n - n % K + q) y
  | 0, h, y => by rw [h0 0 h y (Nat.zero_mod K), Nat.zero_mod, Finset.sum_range_one]
  | n + 1, h, y => by
    by_cases hn : (n + 1) % K = 0
    · rw [h0 _ h y hn, hn, Finset.sum_range_one]; rfl
    · have hl := Nat.mod_lt n hK
      have hm : (n + 1) % K = n % K + 1 := by
        rw [Nat.add_mod_eq_ite]
        by_cases h1 : K = 1
        · subst h1; exact absurd (Nat.mod_one _) hn
        · have e1 : 1 % K = 1 := Nat.mod_eq_of_lt (by omega)
          rw [e1, if_neg]
          intro hle
          have : n % K + 1 = K := by omega
          exact hn (by rw [Nat.add_mod, e1, this, Nat.mod_self])
      have hle := Nat.mod_le n K
      rw [hs n h y hn, fold hK S f h0 hs n _ y, hm, Finset.sum_range_succ _ (n % K + 1),
        show n + 1 - (n % K + 1) = n - n % K from by omega, show n - n % K + (n % K + 1) = n + 1 from by omega]

/-- A sum over all the columns is the sum over the shards of the sums over one shard's columns. -/
theorem shards (J K : ℕ) (g : ℕ → EReal) : ∑ c : Fin (J * K), g c.val = ∑ j : Fin J, ∑ k : Fin K, g (j.val * K + k.val) := by
  rw [← Equiv.sum_comp finProdFinEquiv, Fintype.sum_prod_type]
  refine Finset.sum_congr rfl fun j _ => Finset.sum_congr rfl fun k _ => congrArg g ?_
  show k.val + K * j.val = _
  rw [Nat.mul_comm, Nat.add_comm]

end Cert.Mm

end
-- ==== Proof.Mm.InDx.lean ====
/-
  The product of the input projection's backward pass that gives the gradient of its input: the sum over the eight
  shards of the gradient of a shard's columns times the transpose of the shard's weights. The kernel walks the rows in
  three tiles, adds one shard at each point into an accumulator and writes a tile out after its last shard; the
  reference takes the derivative of the whole product. Both are the same sum over the reals.
-/
module

public import proofs.«01_k».proof.Defs
public import proofs.«01_k».proof.Proof.Mm.Common
public import proofs.«01_k».proof.Proof.Gen.InDx.Frame
public import proofs.«01_k».proof.Proof.Gen.InDxIdeal.Value
public import proofs.«01_k».proof.Proof.Gen.InDxRefIdeal.Read
public import Idealize.ShloMosaic.Lib.Quiescent

@[expose] public section

noncomputable section

namespace Cert.InDxIdeal.Prod

open Cert.InDxIdeal Cert.InDxIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## What a point adds -/

/-- The product of a point's two blocks. -/
def prod (x : Vec Ideal S1x1408x1024 .bf16) (w : Vec Ideal S1x1024x1024 .bf16) : FVec Ideal S1408x1024 .f32 :=
  matmul dot_S1408x1024_S1024x1024_S1408x1024_1_1_0_0_n_n none (shapeCast S1408x1024 x shapeCasts_S1x1408x1024_S1408x1024 : FVec Ideal S1408x1024 .bf16)
    (shapeCast S1024x1024 w shapeCasts_S1x1024x1024_S1024x1024 : FVec Ideal S1024x1024 .bf16) (constant S1408x1024 .f32 0x00000000#32)

theorem prod_apply (x : Vec Ideal S1x1408x1024 .bf16) (w : Vec Ideal S1x1024x1024 .bf16) (r : Fin 1408) (l : Fin 1024) :
    prod x w (ix2 r l) = ∑ k : Fin 1024, x (ix3 0 r k) * w (ix3 0 l k) := by
  refine (nt (φ₁ := .bf16) (φ₂ := .bf16) (shapeCast S1408x1024 x shapeCasts_S1x1408x1024_S1408x1024) (shapeCast S1024x1024 w shapeCasts_S1x1024x1024_S1024x1024) r l).trans ?_
  exact Finset.sum_congr rfl fun k _ => congrArg₂ (· * ·) (drop x shapeCasts_S1x1408x1024_S1408x1024 r k) (drop w shapeCasts_S1x1024x1024_S1024x1024 l k)

theorem pay1_apply (y : S1408x1024.Idx) : k0_pay1 (F := Ideal) y = 0 := by
  unfold k0_pay1
  rw [shapeCast_self]
  exact Ideal.ofBits_zero_f32

theorem pay2_apply (a : Vec Ideal S1408x1024 .f32) (x : Vec Ideal S1x1408x1024 .bf16) (w : Vec Ideal S1x1024x1024 .bf16) (y : S1408x1024.Idx) :
    k0_pay2 a x w y = a y + prod x w y := by
  unfold k0_pay2
  rw [shapeCast_self]
  rfl

section

variable (c : Dev nD) (i : grid0.Coords) (a2 : Memref sig .tc .vmem S1x1408x1024 .bf16) (h2 : a2.IsWhole) (a3 : Memref sig .tc .vmem S1x1024x1024 .bf16) (h3 : a3.IsWhole)
    (a4 : Memref sig .tc .vmem S1408x1024 .f32) (h4 : a4.IsWhole) (a5 : Memref sig .tc .vmem S1408x1024 .f32) (h5 : a5.IsWhole)
  (x : Vec Ideal S1x1408x1024 .bf16) (w : Vec Ideal S1x1024x1024 .bf16) (s : Vec Ideal S1408x1024 .f32) (y : S1408x1024.Idx)

theorem first (hc0) (hc1) :
    sout0_A_0 c i a2 h2 a3 h3 a4 h4 a5 h5 hc0 hc1 x w y = prod x w y := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S1408x1024) zeros2, View.readCov_unit_zero (S := S1408x1024) _ zeros2]
  simp only [View.readAt_eq_ld, h2.read_unread, h3.read_unread, View.ld_unit_zero (S := S1x1408x1024) zeros3, View.ld_unit_zero (S := S1x1024x1024) zeros3]
  rw [pay2_apply, pay1_apply, zero_add]

theorem next (hc0) (hc1) :
    sout0_B_0 c i a2 h2 a3 h3 a4 h4 a5 h5 hc0 hc1 x w s y = s y + prod x w y := by
  unfold sout0_B_0
  rw [View.read_writes_eq_canon _ _ _ (scover0_B_0 c i a2 h2 a3 h3 a4 h4 a5 h5 hc0 hc1 x w s)]
  unfold kernelRun0_B
  dsimp only
  rw [View.canon_unit_zero (S := S1408x1024) zeros2]
  simp only [View.readAt_eq_ld, h2.read_unread, h3.read_unread, h5.read_unread, View.ld_unit_zero (S := S1408x1024) zeros2, View.ld_unit_zero (S := S1x1408x1024) zeros3, View.ld_unit_zero (S := S1x1024x1024) zeros3]
  rw [pay2_apply]

theorem last (hc0) (hc1) :
    sout0_C_0 c i a2 h2 a3 h3 a4 h4 a5 h5 hc0 hc1 x w s y = s y + prod x w y := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero (S := S1408x1024) zeros2]
  simp only [View.readAt_eq_ld, h2.read_unread, h3.read_unread, h5.read_unread, View.ld_unit_zero (S := S1408x1024) zeros2, View.ld_unit_zero (S := S1x1408x1024) zeros3, View.ld_unit_zero (S := S1x1024x1024) zeros3]
  rw [pay2_apply]

theorem written (hc0) (hc1) :
    out0_C_2 c i a2 h2 a3 h3 a4 h4 a5 h5 hc0 hc1 x w s y = s y + prod x w y := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero (S := S1408x1024) zeros2, View.readCov_unit_zero (S := S1408x1024) _ zeros2]
  simp only [View.readAt_eq_ld, h2.read_unread, h3.read_unread, h5.read_unread, View.ld_unit_zero (S := S1408x1024) zeros2, View.ld_unit_zero (S := S1x1408x1024) zeros3, View.ld_unit_zero (S := S1x1024x1024) zeros3]
  rw [pay2_apply]

end

/-! ## The blocks a point reads -/

theorem place : ∀ t : Fin cfg0.N, win0_0.index t (0 : Fin 3) = t.val % 8 ∧ win0_0.index t (1 : Fin 3) = t.val / 8 ∧ win0_0.index t (2 : Fin 3) = 0
    ∧ win0_1.index t (0 : Fin 3) = t.val % 8 ∧ win0_1.index t (1 : Fin 3) = 0 ∧ win0_1.index t (2 : Fin 3) = 0 :=
  (by decide +kernel : ∀ t : Fin grid0.N, _)

theorem lt_N (t : Fin cfg0.N) : t.val < 24 := lt_of_lt_of_eq t.isLt N_0

abbrev arg0 (c : Dev nD) : FVec Ideal S8x4224x1024 .bf16 := m ((c : Thread nD τ).loc main_arg0)
abbrev arg1 (c : Dev nD) : FVec Ideal S8x1024x1024 .bf16 := m ((c : Thread nD τ).loc main_arg1)

theorem blk0 (c : Dev nD) (t : Fin cfg0.N) (r : Fin 1408) (k : Fin 1024) : (iblk m c 0 t : Vec Ideal S1x1408x1024 .bf16) (ix3 0 r k) =
    arg0 m c (ix3 (⟨t.val % 8, by omega⟩ : Fin 8) (⟨t.val / 8 * 1408 + r.val, by have := lt_N t; omega⟩ : Fin 4224) k) := by
  obtain ⟨e0, e1, e2, -⟩ := place t
  unfold iblk
  rw [View.read_apply]
  refine congrArg (arg0 m c) (funext fun a => Fin.ext ?_)
  match a with
  | ⟨0, _⟩ => show win0_0.index t 0 * 1 + 1 * 0 = t.val % 8; rw [e0]; omega
  | ⟨1, _⟩ => show win0_0.index t 1 * 1408 + 1 * r.val = t.val / 8 * 1408 + r.val; rw [e1]; omega
  | ⟨2, _⟩ => show win0_0.index t 2 * 1024 + 1 * k.val = k.val; rw [e2]; omega

theorem blk1 (c : Dev nD) (t : Fin cfg0.N) (l : Fin 1024) (k : Fin 1024) : (iblk m c 1 t : Vec Ideal S1x1024x1024 .bf16) (ix3 0 l k) =
    arg1 m c (ix3 (⟨t.val % 8, by omega⟩ : Fin 8) l k) := by
  obtain ⟨-, -, -, e0, e1, e2⟩ := place t
  unfold iblk
  rw [View.read_apply]
  refine congrArg (arg1 m c) (funext fun a => Fin.ext ?_)
  match a with
  | ⟨0, _⟩ => show win0_1.index t 0 * 1 + 1 * 0 = t.val % 8; rw [e0]; omega
  | ⟨1, _⟩ => show win0_1.index t 1 * 1024 + 1 * l.val = l.val; rw [e1]; omega
  | ⟨2, _⟩ => show win0_1.index t 2 * 1024 + 1 * k.val = k.val; rw [e2]; omega

/-! ## The accumulator -/

/-- What point `n` adds at an index of the tile, for every number `n`. -/
def term (c : Dev nD) (n : ℕ) (y : S1408x1024.Idx) : EReal :=
  if h : n < cfg0.N then prod (iblk m c 0 ⟨n, h⟩) (iblk m c 1 ⟨n, h⟩) y else 0

theorem acc (c : Dev nD) (n : ℕ) (h : n < cfg0.N) (y : S1408x1024.Idx) :
    (outsAt0 m c n h).2 y = ∑ q ∈ Finset.range (n % 8 + 1), term m c (n - n % 8 + q) y := by
  refine fold (by decide) (fun n h y => (outsAt0 m c n h).2 y) (term m c) (fun n h y hn => ?_) (fun n h y hn => ?_) n h y
  · have h1 : ¬(⟨n, h⟩ : Fin cfg0.N).val % 8 = 7 := by show ¬n % 8 = 7; omega
    refine (congrFun (congrArg Prod.snd (outsAt0_A m c ⟨n, h⟩ hn h1)) y).trans ?_
    dsimp only
    rw [first]
    unfold term
    rw [dif_pos h]
  · have h0 : ¬(⟨n + 1, h⟩ : Fin cfg0.N).val % 8 = 0 := hn
    have ht : term m c (n + 1) y = prod (iblk m c 0 ⟨n + 1, h⟩) (iblk m c 1 ⟨n + 1, h⟩) y := dif_pos h
    rw [ht]
    by_cases h1 : (⟨n + 1, h⟩ : Fin cfg0.N).val % 8 = 7
    · refine (congrFun (congrArg Prod.snd (outsAt0_C m c ⟨n + 1, h⟩ h0 h1)) y).trans ?_
      dsimp only
      rw [last]; rfl
    · refine (congrFun (congrArg Prod.snd (outsAt0_B m c ⟨n + 1, h⟩ h0 h1)) y).trans ?_
      dsimp only
      rw [next]; rfl

/-- What the last point of a tile writes out is the accumulator. -/
theorem out_eq (c : Dev nD) (n : ℕ) (h : n < cfg0.N) (hn : n % 8 = 7) (y : S1408x1024.Idx) : (outsAt0 m c n h).1 y = (outsAt0 m c n h).2 y := by
  have h0 : ¬(⟨n, h⟩ : Fin cfg0.N).val % 8 = 0 := by show ¬n % 8 = 0; omega
  have e := outsAt0_C m c ⟨n, h⟩ h0 hn
  refine (congrFun (congrArg Prod.fst e) y).trans ((?_ : _ = _).trans (congrFun (congrArg Prod.snd e) y).symm)
  dsimp only
  rw [written, last]

theorem term_apply (c : Dev nD) (i : S4224x1024.Idx) (j : Fin 8) (n : ℕ) (hn : n = 8 * ((i 0).val / 1408) + j.val) :
    term m c n (Value.loc2Of i) = ∑ k : Fin 1024, arg0 m c (ix3 j (i 0) k) * arg1 m c (ix3 j (i 1) k) := by
  have hi0 : (i 0).val < 4224 := (i 0).isLt
  have hi1 : (i 1).val < 1024 := (i 1).isLt
  have hlt : n < cfg0.N := lt_of_lt_of_eq (by omega : n < 24) N_0.symm
  unfold term
  rw [dif_pos hlt, show Value.loc2Of i = ix2 (⟨(i 0).val % 1408, by omega⟩ : Fin 1408) (⟨(i 1).val % 1024, by omega⟩ : Fin 1024) from
    funext fun a => match a with | ⟨0, _⟩ => rfl | ⟨1, _⟩ => rfl, prod_apply]
  refine Finset.sum_congr rfl fun k _ => congrArg₂ (· * ·) ((blk0 m c _ _ _).trans (congrArg (arg0 m c) ?_)) ((blk1 m c _ _ _).trans (congrArg (arg1 m c) ?_))
  · funext a; apply Fin.ext
    match a with
    | ⟨0, _⟩ => show n % 8 = j.val; omega
    | ⟨1, _⟩ => show n / 8 * 1408 + (i 0).val % 1408 = (i 0).val; omega
    | ⟨2, _⟩ => rfl
  · funext a; apply Fin.ext
    match a with
    | ⟨0, _⟩ => show n % 8 = j.val; omega
    | ⟨1, _⟩ => show (i 1).val % 1024 = (i 1).val; omega
    | ⟨2, _⟩ => rfl

/-- The gradient: over the shards and the columns of each. -/
def sum (x : FVec Ideal S8x4224x1024 .bf16) (w : FVec Ideal S8x1024x1024 .bf16) : FVec Ideal S4224x1024 .f32 :=
  fun i => ∑ j : Fin 8, ∑ k : Fin 1024, x (ix3 j (i 0) k) * w (ix3 j (i 1) k)

theorem G2_eq (c : Dev nD) : Value.G2 m c = sum (arg0 m c) (arg1 m c) := by
  funext i
  have hi0 : (i 0).val < 4224 := (i 0).isLt
  have hi1 : (i 1).val < 1024 := (i 1).isLt
  have hp : Value.pt2Of i = 8 * ((i 0).val / 1408) + 7 := by
    show 8 * (1 * ((i 0).val / 1408 - 0) + 1 * ((i 1).val / 1024 - 0)) + 7 = _; omega
  have hlt : Value.pt2Of i < cfg0.N := lt_of_lt_of_eq (by omega : Value.pt2Of i < 24) N_0.symm
  have e : Value.G2 m c i = (outsAt0 m c (Value.pt2Of i) hlt).1 (Value.loc2Of i) := by
    unfold Value.G2
    rw [dif_pos hlt, ← Value.outsAt0_sweep m c _ hlt]
  refine e.trans ((out_eq m c _ hlt (by omega) _).trans ((acc m c _ hlt _).trans ?_))
  rw [show Value.pt2Of i % 8 + 1 = 8 from by omega]
  exact (Finset.sum_range _).trans (Finset.sum_congr rfl fun j _ => term_apply m c i j _ (by omega))

end Cert.InDxIdeal.Prod

/-! ## The reference -/

namespace Cert.InDxRefIdeal.Prod

open Cert.InDxRefIdeal Cert.InDxRefIdeal.Gen Cert.Mm Idealize.ShloMosaic Idealize.ShloMosaic.ValueIdx
open scoped BigOperators

/-- The term of column `n` of all the shards' columns. -/
def col (x : FVec Ideal S8x4224x1024 .bf16) (w : FVec Ideal S8x1024x1024 .bf16) (i : S4224x1024.Idx) (n : ℕ) : EReal :=
  x (ix3 (⟨n / 1024 % 8, by omega⟩ : Fin 8) (i 0) (⟨n % 1024, by omega⟩ : Fin 1024)) * w (ix3 (⟨n / 1024 % 8, by omega⟩ : Fin 8) (i 1) (⟨n % 1024, by omega⟩ : Fin 1024))

theorem col_eq (x : FVec Ideal S8x4224x1024 .bf16) (w : FVec Ideal S8x1024x1024 .bf16) (i : S4224x1024.Idx) (j : Fin 8) (k : Fin 1024) :
    col x w i (j.val * 1024 + k.val) = x (ix3 j (i 0) k) * w (ix3 j (i 1) k) := by
  have hj := j.isLt
  have hk := k.isLt
  have e1 : (⟨(j.val * 1024 + k.val) / 1024 % 8, by omega⟩ : Fin 8) = j := Fin.ext (by show (j.val * 1024 + k.val) / 1024 % 8 = j.val; omega)
  have e2 : (⟨(j.val * 1024 + k.val) % 1024, by omega⟩ : Fin 1024) = k := Fin.ext (by show (j.val * 1024 + k.val) % 1024 = k.val; omega)
  unfold col
  rw [e1, e2]

theorem val_eq (x : FVec Ideal S8x4224x1024 .bf16) (w : FVec Ideal S8x1024x1024 .bf16) (i : S4224x1024.Idx) :
    Read.val_main_v8 (F := Ideal) x w i = ∑ j : Fin 8, ∑ k : Fin 1024, x (ix3 j (i 0) k) * w (ix3 j (i 1) k) := by
  rw [Read.val_main_v8_apply]
  have hi0 : (i 0).val < 4224 := (i 0).isLt
  have hi1 : (i 1).val < 1024 := (i 1).isLt
  refine ((Finset.sum_congr rfl fun c _ => ?_ : _ = ∑ c : Fin (8 * 1024), col x w i c.val).trans (shards 8 1024 (col x w i))).trans
    (Finset.sum_congr rfl fun j _ => Finset.sum_congr rfl fun k _ => col_eq x w i j k)
  rw [Read.val_main_v5_apply, Read.val_main_v4_apply, Read.val_main_v3_apply, Read.val_main_v2_apply, Read.val_main_v1_apply, Read.val_main_v0_apply]
  have hc : c.val < 8192 := c.isLt
  refine congrArg₂ (· * ·) (congrArg x ?_) (congrArg w ?_)
  · funext a; apply Fin.ext
    match a with
    | ⟨0, _⟩ => show ((i 0).val * 8192 + c.val) / 1024 % 8 = c.val / 1024 % 8; omega
    | ⟨1, _⟩ => show ((i 0).val * 8192 + c.val) / 8192 = (i 0).val; omega
    | ⟨2, _⟩ => show ((i 0).val * 8192 + c.val) % 1024 = c.val % 1024; omega
  · funext a; apply Fin.ext
    match a with
    | ⟨0, _⟩ => show ((i 1).val * 8192 + c.val) / 1024 % 8 = c.val / 1024 % 8; omega
    | ⟨1, _⟩ => show ((i 1).val * 8192 + c.val) / 8192 = (i 1).val; omega
    | ⟨2, _⟩ => show ((i 1).val * 8192 + c.val) % 1024 = c.val % 1024; omega

end Cert.InDxRefIdeal.Prod

/-! ## The claims -/

namespace Cert.Proof.InDx

open Idealize.ShloMosaic Idealize.ShloMosaic.TcCoe Idealize.ShloMosaic.StableHlo Idealize.SL.Sem

theorem frame_k : quiescent_InDx := fun m g _ => InDx.Gen.frame m g
theorem frame_ki : quiescent_InDxIdeal := fun m g _ => InDxIdeal.Gen.frame m g
theorem frame_ri : quiescent_InDxRefIdeal := fun m g _ =>
  (θ_run InDxRefIdeal.defs _ _).mono (fun r h => ⟨fun c => (h c).2, sem_eq_zero_of_no_sems (by decide) r.2⟩)
    (InDxRefIdeal.Value.run m g)

theorem equal : algebraic_InDxIdeal_InDxRefIdeal := fun m g m' g' _ hargs =>
  ⟨fun c => InDxIdeal.Prod.sum (InDxIdeal.Prod.arg0 m c) (InDxIdeal.Prod.arg1 m c),
   (θ_run InDxIdeal.defs _ _).mono (fun r h c => ⟨(h c).1.trans (InDxIdeal.Prod.G2_eq m c), (h c).2⟩)
     (InDxIdeal.Value.run m g),
   (θ_run InDxRefIdeal.defs _ _).mono (fun r h c =>
      ⟨((h c).1.trans (InDxRefIdeal.Read.val_main_v8_eq _ _)).trans
          ((congrArg₂ (fun a b => InDxRefIdeal.Read.val_main_v8 (F := Ideal) a b) (hargs c).1 (hargs c).2).trans
            (funext fun i => InDxRefIdeal.Prod.val_eq _ _ i)), (h c).2⟩)
     (InDxRefIdeal.Value.run m' g')⟩

end Cert.Proof.InDx

end
-- ==== Proof.Mm.UgDw.lean ====
/-
  The product of the up and gate projections' backward pass that gives the gradient of the weights: the transpose of
  the input times the gradient of the output, a shard for each shard of columns. The kernel adds one tile of rows at each point into an
  accumulator and writes it out after the third; the reference takes the derivative of the whole product. Both are the
  same sum over the reals.
-/
module

public import proofs.«01_k».proof.Defs
public import proofs.«01_k».proof.Proof.Mm.Common
public import proofs.«01_k».proof.Proof.Gen.UgDw.Frame
public import proofs.«01_k».proof.Proof.Gen.UgDwIdeal.Value
public import proofs.«01_k».proof.Proof.Gen.UgDwRefIdeal.Read
public import Idealize.ShloMosaic.Lib.Quiescent

@[expose] public section

noncomputable section

namespace Cert.UgDwIdeal.Prod

open Cert.UgDwIdeal Cert.UgDwIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## What a point adds -/

/-- The product of a point's two blocks, over their rows. -/
def prod (x : Vec Ideal S1408x1024 .bf16) (w : Vec Ideal S1x1408x704 .bf16) : FVec Ideal S1024x704 .f32 :=
  matmul (φ₁ := .bf16) (φ₂ := .bf16) dot_S1408x1024_S1408x704_S1024x704_0_0_1_1_n_n none x (shapeCast S1408x704 w shapeCasts_S1x1408x704_S1408x704 : FVec Ideal S1408x704 .bf16) (constant S1024x704 .f32 0x00000000#32)

theorem prod_apply (x : Vec Ideal S1408x1024 .bf16) (w : Vec Ideal S1x1408x704 .bf16) (a : Fin 1024) (b : Fin 704) :
    prod x w (ix2 a b) = ∑ k : Fin 1408, x (ix2 k a) * w (ix3 0 k b) := by
  refine (tn (φ₁ := .bf16) (φ₂ := .bf16) x (shapeCast S1408x704 w shapeCasts_S1x1408x704_S1408x704 : FVec Ideal S1408x704 .bf16) a b).trans ?_
  exact Finset.sum_congr rfl fun k _ => congrArg₂ (· * ·) (rfl) (drop w shapeCasts_S1x1408x704_S1408x704 k b)

theorem pay1_apply (y : S1024x704.Idx) : k0_pay1 (F := Ideal) y = 0 := by
  unfold k0_pay1
  rw [shapeCast_self]
  exact Ideal.ofBits_zero_f32

theorem pay2_apply (s : Vec Ideal S1024x704 .f32) (x : Vec Ideal S1408x1024 .bf16) (w : Vec Ideal S1x1408x704 .bf16) (y : S1024x704.Idx) :
    k0_pay2 s x w y = s y + prod x w y := by
  unfold k0_pay2
  rw [shapeCast_self]
  rfl

theorem pay3_apply (s : Vec Ideal S1024x704 .f32) (a : Fin 1024) (b : Fin 704) : k0_pay3 s (ix3 0 a b) = s (ix2 a b) := by
  unfold k0_pay3
  exact put _ shapeCasts_S1024x704_S1x1024x704 a b

section

variable (c : Dev nD) (i : grid0.Coords) (a2 : Memref sig .tc .vmem S1408x1024 .bf16) (h2 : a2.IsWhole) (a3 : Memref sig .tc .vmem S1x1408x704 .bf16) (h3 : a3.IsWhole)
    (a4 : Memref sig .tc .vmem S1x1024x704 .bf16) (h4 : a4.IsWhole) (a5 : Memref sig .tc .vmem S1024x704 .f32) (h5 : a5.IsWhole)
  (x : Vec Ideal S1408x1024 .bf16) (w : Vec Ideal S1x1408x704 .bf16) (s : Vec Ideal S1024x704 .f32) (y : S1024x704.Idx)

theorem first (hc0) (hc1) :
    sout0_A_0 c i a2 h2 a3 h3 a4 h4 a5 h5 hc0 hc1 x w y = prod x w y := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S1024x704) zeros2, View.readCov_unit_zero (S := S1024x704) _ zeros2]
  simp only [View.readAt_eq_ld, h2.read_unread, h3.read_unread, View.ld_unit_zero (S := S1408x1024) zeros2, View.ld_unit_zero (S := S1x1408x704) zeros3]
  rw [pay2_apply, pay1_apply, zero_add]

theorem next (hc0) (hc1) :
    sout0_B_0 c i a2 h2 a3 h3 a4 h4 a5 h5 hc0 hc1 x w s y = s y + prod x w y := by
  unfold sout0_B_0
  rw [View.read_writes_eq_canon _ _ _ (scover0_B_0 c i a2 h2 a3 h3 a4 h4 a5 h5 hc0 hc1 x w s)]
  unfold kernelRun0_B
  dsimp only
  rw [View.canon_unit_zero (S := S1024x704) zeros2]
  simp only [View.readAt_eq_ld, h2.read_unread, h3.read_unread, h5.read_unread, View.ld_unit_zero (S := S1024x704) zeros2, View.ld_unit_zero (S := S1408x1024) zeros2, View.ld_unit_zero (S := S1x1408x704) zeros3]
  rw [pay2_apply]

theorem last (hc0) (hc1) :
    sout0_C_0 c i a2 h2 a3 h3 a4 h4 a5 h5 hc0 hc1 x w s y = s y + prod x w y := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero (S := S1024x704) zeros2]
  simp only [View.readAt_eq_ld, h2.read_unread, h3.read_unread, h5.read_unread, View.ld_unit_zero (S := S1024x704) zeros2, View.ld_unit_zero (S := S1408x1024) zeros2, View.ld_unit_zero (S := S1x1408x704) zeros3]
  rw [pay2_apply]

theorem written (c : Dev nD) (i : grid0.Coords) (a2 : Memref sig .tc .vmem S1408x1024 .bf16) (h2 : a2.IsWhole) (a3 : Memref sig .tc .vmem S1x1408x704 .bf16) (h3 : a3.IsWhole)
    (a4 : Memref sig .tc .vmem S1x1024x704 .bf16) (h4 : a4.IsWhole) (a5 : Memref sig .tc .vmem S1024x704 .f32) (h5 : a5.IsWhole) (hc0) (hc1)
    (x : Vec Ideal S1408x1024 .bf16) (w : Vec Ideal S1x1408x704 .bf16) (s : Vec Ideal S1024x704 .f32) (a : Fin 1024) (b : Fin 704) :
    out0_C_2 c i a2 h2 a3 h3 a4 h4 a5 h5 hc0 hc1 x w s (ix3 0 a b) = s (ix2 a b) + prod x w (ix2 a b) := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero (S := S1x1024x704) zeros3, View.readCov_unit_zero (S := S1024x704) _ zeros2]
  simp only [View.readAt_eq_ld, h2.read_unread, h3.read_unread, h5.read_unread, View.ld_unit_zero (S := S1024x704) zeros2, View.ld_unit_zero (S := S1408x1024) zeros2, View.ld_unit_zero (S := S1x1408x704) zeros3]
  rw [pay3_apply, pay2_apply]

end

/-! ## The blocks a point reads -/

theorem place : ∀ t : Fin cfg0.N, (win0_0.index t (0 : Fin 2) = t.val % 3 ∧ win0_0.index t (1 : Fin 2) = 0)
    ∧ (win0_1.index t (0 : Fin 3) = t.val / 3 ∧ win0_1.index t (1 : Fin 3) = t.val % 3 ∧ win0_1.index t (2 : Fin 3) = 0) :=
  (by decide +kernel : ∀ t : Fin grid0.N, _)

theorem lt_N (t : Fin cfg0.N) : t.val < 24 := lt_of_lt_of_eq t.isLt N_0

abbrev arg0 (c : Dev nD) : FVec Ideal S4224x1024 .bf16 := m ((c : Thread nD τ).loc main_arg0)
abbrev arg1 (c : Dev nD) : FVec Ideal S8x4224x704 .bf16 := m ((c : Thread nD τ).loc main_arg1)

theorem blk0 (c : Dev nD) (t : Fin cfg0.N) (r : Fin 1408) (a : Fin 1024) : (iblk m c 0 t : Vec Ideal S1408x1024 .bf16) (ix2 r a) =
    arg0 m c (ix2 (⟨t.val % 3 * 1408 + r.val, by have := r.isLt; omega⟩ : Fin 4224) a) := by
  obtain ⟨⟨e0, e1⟩, -⟩ := place t
  unfold iblk
  rw [View.read_apply]
  refine congrArg (arg0 m c) (funext fun d => Fin.ext ?_)
  match d with
  | ⟨0, _⟩ => show win0_0.index t 0 * 1408 + 1 * r.val = t.val % 3 * 1408 + r.val; rw [e0]; omega
  | ⟨1, _⟩ => show win0_0.index t 1 * 1024 + 1 * a.val = a.val; rw [e1]; omega

theorem blk1 (c : Dev nD) (t : Fin cfg0.N) (r : Fin 1408) (a : Fin 704) : (iblk m c 1 t : Vec Ideal S1x1408x704 .bf16) (ix3 0 r a) =
    arg1 m c (ix3 (⟨t.val / 3, by have := lt_N t; omega⟩ : Fin 8) (⟨t.val % 3 * 1408 + r.val, by have := r.isLt; omega⟩ : Fin 4224) a) := by
  obtain ⟨-, ⟨e0, e1, e2⟩⟩ := place t
  unfold iblk
  rw [View.read_apply]
  refine congrArg (arg1 m c) (funext fun d => Fin.ext ?_)
  match d with
  | ⟨0, _⟩ => show win0_1.index t 0 * 1 + 1 * 0 = t.val / 3; rw [e0]; omega
  | ⟨1, _⟩ => show win0_1.index t 1 * 1408 + 1 * r.val = t.val % 3 * 1408 + r.val; rw [e1]; omega
  | ⟨2, _⟩ => show win0_1.index t 2 * 704 + 1 * a.val = a.val; rw [e2]; omega

/-! ## The accumulator -/

/-- What point `n` adds at an index of the tile, for every number `n`. -/
def term (c : Dev nD) (n : ℕ) (y : S1024x704.Idx) : EReal :=
  if h : n < cfg0.N then prod (iblk m c 0 ⟨n, h⟩) (iblk m c 1 ⟨n, h⟩) y else 0

theorem acc (c : Dev nD) (n : ℕ) (h : n < cfg0.N) (y : S1024x704.Idx) :
    (outsAt0 m c n h).2 y = ∑ q ∈ Finset.range (n % 3 + 1), term m c (n - n % 3 + q) y := by
  refine fold (by decide) (fun n h y => (outsAt0 m c n h).2 y) (term m c) (fun n h y hn => ?_) (fun n h y hn => ?_) n h y
  · have h1 : ¬(⟨n, h⟩ : Fin cfg0.N).val % 3 = 2 := by show ¬n % 3 = 2; omega
    refine (congrFun (congrArg Prod.snd (outsAt0_A m c ⟨n, h⟩ hn h1)) y).trans ?_
    dsimp only
    rw [first]
    unfold term
    rw [dif_pos h]
  · have h0 : ¬(⟨n + 1, h⟩ : Fin cfg0.N).val % 3 = 0 := hn
    have ht : term m c (n + 1) y = prod (iblk m c 0 ⟨n + 1, h⟩) (iblk m c 1 ⟨n + 1, h⟩) y := dif_pos h
    rw [ht]
    by_cases h1 : (⟨n + 1, h⟩ : Fin cfg0.N).val % 3 = 2
    · refine (congrFun (congrArg Prod.snd (outsAt0_C m c ⟨n + 1, h⟩ h0 h1)) y).trans ?_
      dsimp only
      rw [last]; rfl
    · refine (congrFun (congrArg Prod.snd (outsAt0_B m c ⟨n + 1, h⟩ h0 h1)) y).trans ?_
      dsimp only
      rw [next]; rfl

/-- What the last point of a shard writes out is the accumulator. -/
theorem out_eq (c : Dev nD) (n : ℕ) (h : n < cfg0.N) (hn : n % 3 = 2) (a : Fin 1024) (b : Fin 704) :
    (outsAt0 m c n h).1 (ix3 0 a b) = (outsAt0 m c n h).2 (ix2 a b) := by
  have h0 : ¬(⟨n, h⟩ : Fin cfg0.N).val % 3 = 0 := by show ¬n % 3 = 0; omega
  have e := outsAt0_C m c ⟨n, h⟩ h0 hn
  refine (congrFun (congrArg Prod.fst e) (ix3 0 a b)).trans ((?_ : _ = _).trans (congrFun (congrArg Prod.snd e) (ix2 a b)).symm)
  dsimp only
  rw [written, last]

/-- The term of row `n` of the two operands. -/
def row (x : FVec Ideal S4224x1024 .bf16) (w : FVec Ideal S8x4224x704 .bf16) (i : S8x1024x704.Idx) (n : ℕ) : EReal :=
  x (ix2 (⟨n % 4224, by omega⟩ : Fin 4224) (i 1)) * w (ix3 (i 0) (⟨n % 4224, by omega⟩ : Fin 4224) (i 2))

theorem row_eq (x : FVec Ideal S4224x1024 .bf16) (w : FVec Ideal S8x4224x704 .bf16) (i : S8x1024x704.Idx) (r : Fin 4224) :
    row x w i r.val = x (ix2 r (i 1)) * w (ix3 (i 0) r (i 2)) := by
  have hr := r.isLt
  have e : (⟨r.val % 4224, by omega⟩ : Fin 4224) = r := Fin.ext (by show r.val % 4224 = r.val; omega)
  unfold row
  rw [e]

theorem term_apply (c : Dev nD) (i : S8x1024x704.Idx) (p : Fin 3) (n : ℕ) (hn : n = 3 * (i 0).val + p.val) :
    term m c n (ix2 (⟨(i 1).val % 1024, by omega⟩ : Fin 1024) (⟨(i 2).val % 704, by omega⟩ : Fin 704)) = ∑ k : Fin 1408, row (arg0 m c) (arg1 m c) i (p.val * 1408 + k.val) := by
  have hi0 : (i 0).val < 8 := (i 0).isLt
  have hi1 : (i 1).val < 1024 := (i 1).isLt
  have hi2 : (i 2).val < 704 := (i 2).isLt
  have hp := p.isLt
  have hlt : n < cfg0.N := lt_of_lt_of_eq (by omega : n < 24) N_0.symm
  unfold term
  rw [dif_pos hlt, prod_apply]
  refine Finset.sum_congr rfl fun k _ => ?_
  have hk := k.isLt
  refine Eq.trans ?_ (row_eq (arg0 m c) (arg1 m c) i ⟨p.val * 1408 + k.val, by omega⟩).symm
  refine congrArg₂ (· * ·) ((blk0 m c _ _ _).trans (congrArg (arg0 m c) ?_)) ((blk1 m c _ _ _).trans (congrArg (arg1 m c) ?_))
  · funext d; apply Fin.ext
    match d with
    | ⟨0, _⟩ => show n % 3 * 1408 + k.val = p.val * 1408 + k.val; omega
    | ⟨1, _⟩ => show (i 1).val % 1024 = (i 1).val; omega
  · funext d; apply Fin.ext
    match d with
    | ⟨0, _⟩ => show n / 3 = (i 0).val; omega
    | ⟨1, _⟩ => show n % 3 * 1408 + k.val = p.val * 1408 + k.val; omega
    | ⟨2, _⟩ => show (i 2).val % 704 = (i 2).val; omega

/-- The gradient of a shard: over the rows. -/
def whole (x : FVec Ideal S4224x1024 .bf16) (w : FVec Ideal S8x4224x704 .bf16) : FVec Ideal S8x1024x704 .bf16 :=
  fun i => (∑ r : Fin 4224, x (ix2 r (i 1)) * w (ix3 (i 0) r (i 2)) : EReal)

theorem whole_eq (x : FVec Ideal S4224x1024 .bf16) (w : FVec Ideal S8x4224x704 .bf16) (i : S8x1024x704.Idx) :
    whole x w i = ∑ p : Fin 3, ∑ k : Fin 1408, row x w i (p.val * 1408 + k.val) :=
  (Finset.sum_congr rfl fun r _ => (row_eq x w i r).symm).trans (shards 3 1408 (row x w i))

theorem G2_eq (c : Dev nD) : Value.G2 m c = whole (arg0 m c) (arg1 m c) := by
  funext i
  have hi0 : (i 0).val < 8 := (i 0).isLt
  have hi1 : (i 1).val < 1024 := (i 1).isLt
  have hi2 : (i 2).val < 704 := (i 2).isLt
  have hp : Value.pt2Of i = 3 * (i 0).val + 2 := by
    show 3 * (1 * ((i 0).val / 1 - 0) + 1 * ((i 1).val / 1024 - 0) + 1 * ((i 2).val / 704 - 0)) + 2 = _; omega
  have hlt : Value.pt2Of i < cfg0.N := lt_of_lt_of_eq (by omega : Value.pt2Of i < 24) N_0.symm
  have e : Value.G2 m c i = (outsAt0 m c (Value.pt2Of i) hlt).1 (Value.loc2Of i) := by
    unfold Value.G2
    rw [dif_pos hlt, ← Value.outsAt0_sweep m c _ hlt]
  have hl : Value.loc2Of i = ix3 (0 : Fin 1) (⟨(i 1).val % 1024, by omega⟩ : Fin 1024) (⟨(i 2).val % 704, by omega⟩ : Fin 704) :=
    funext fun a => match a with | ⟨0, _⟩ => Subsingleton.elim (α := Fin 1) _ _ | ⟨1, _⟩ => rfl | ⟨2, _⟩ => rfl
  rw [whole_eq, e, hl]
  refine (out_eq m c _ hlt (by omega) _ _).trans ((acc m c _ hlt _).trans ?_)
  rw [show Value.pt2Of i % 3 + 1 = 3 from by omega]
  exact (Finset.sum_range _).trans (Finset.sum_congr rfl fun p _ => term_apply m c i p _ (by omega))

end Cert.UgDwIdeal.Prod

/-! ## The reference -/

namespace Cert.UgDwRefIdeal.Prod

open Cert.UgDwRefIdeal Cert.UgDwRefIdeal.Gen Cert.Mm Idealize.ShloMosaic Idealize.ShloMosaic.ValueIdx
open scoped BigOperators

theorem val_eq (x : FVec Ideal S4224x1024 .bf16) (w : FVec Ideal S8x4224x704 .bf16) (i : S8x1024x704.Idx) :
    Read.val_main_v10 (F := Ideal) x w i = ∑ r : Fin 4224, x (ix2 r (i 1)) * w (ix3 (i 0) r (i 2)) := by
  have h0 : (i 0).val < 8 := (i 0).isLt
  have h1 : (i 1).val < 1024 := (i 1).isLt
  have h2 : (i 2).val < 704 := (i 2).isLt
  refine (Read.val_main_v10_apply (F := Ideal) x w i : _ = (Read.val_main_v9 (F := Ideal) x w i : EReal)).trans ?_
  rw [Read.val_main_v9_apply, Read.val_main_v8_apply, Read.val_main_v7_apply, Read.val_main_v6_apply]
  refine Finset.sum_congr rfl fun k _ => ?_
  rw [Read.val_main_v3_apply, Read.val_main_v2_apply, Read.val_main_v1_apply, Read.val_main_v0_apply]
  have hk : k.val < 4224 := k.isLt
  refine (mul_comm (G := EReal) _ _).trans ?_
  refine congrArg₂ (· * ·) (congrArg x ?_) (congrArg w ?_)
  · funext d; apply Fin.ext
    match d with
    | ⟨0, _⟩ => rfl
    | ⟨1, _⟩ => show (((i 1).val * 8 + (i 0).val) * 704 + (i 2).val) / 5632 = (i 1).val; omega
  · funext d; apply Fin.ext
    match d with
    | ⟨0, _⟩ => show (k.val * 5632 + (((i 1).val * 8 + (i 0).val) * 704 + (i 2).val) % 5632) / 704 % 8 = (i 0).val; omega
    | ⟨1, _⟩ => show (k.val * 5632 + (((i 1).val * 8 + (i 0).val) * 704 + (i 2).val) % 5632) / 5632 = k.val; omega
    | ⟨2, _⟩ => show (k.val * 5632 + (((i 1).val * 8 + (i 0).val) * 704 + (i 2).val) % 5632) % 704 = (i 2).val; omega

end Cert.UgDwRefIdeal.Prod

/-! ## The claims -/

namespace Cert.Proof.UgDw

open Idealize.ShloMosaic Idealize.ShloMosaic.TcCoe Idealize.ShloMosaic.StableHlo Idealize.SL.Sem

theorem frame_k : quiescent_UgDw := fun m g _ => UgDw.Gen.frame m g
theorem frame_ki : quiescent_UgDwIdeal := fun m g _ => UgDwIdeal.Gen.frame m g
theorem frame_ri : quiescent_UgDwRefIdeal := fun m g _ =>
  (θ_run UgDwRefIdeal.defs _ _).mono (fun r h => ⟨fun c => (h c).2, sem_eq_zero_of_no_sems (by decide) r.2⟩)
    (UgDwRefIdeal.Value.run m g)

theorem equal : algebraic_UgDwIdeal_UgDwRefIdeal := fun m g m' g' _ hargs =>
  ⟨fun c => UgDwIdeal.Prod.whole (UgDwIdeal.Prod.arg0 m c) (UgDwIdeal.Prod.arg1 m c),
   (θ_run UgDwIdeal.defs _ _).mono (fun r h c => ⟨(h c).1.trans (UgDwIdeal.Prod.G2_eq m c), (h c).2⟩)
     (UgDwIdeal.Value.run m g),
   (θ_run UgDwRefIdeal.defs _ _).mono (fun r h c =>
      ⟨((h c).1.trans (UgDwRefIdeal.Read.val_main_v10_eq _ _)).trans
          ((congrArg₂ (fun a b => UgDwRefIdeal.Read.val_main_v10 (F := Ideal) a b) (hargs c).1 (hargs c).2).trans
            (funext fun i => UgDwRefIdeal.Prod.val_eq _ _ i)), (h c).2⟩)
     (UgDwRefIdeal.Value.run m' g')⟩

end Cert.Proof.UgDw

end
-- ==== Proof.Mm.DownDx.lean ====
/-
  The product of the down projection's backward pass that gives the gradient of its input: the gradient of the output
  times the transpose of the weights, a shard of the result for each shard of the weights. The kernel writes one tile of
  rows of one shard at each point; the reference takes the derivative of the whole product.
-/
module

public import proofs.«01_k».proof.Defs
public import proofs.«01_k».proof.Proof.Mm.Common
public import proofs.«01_k».proof.Proof.Gen.DownDx.Frame
public import proofs.«01_k».proof.Proof.Gen.DownDxIdeal.Value
public import proofs.«01_k».proof.Proof.Gen.DownDxRefIdeal.Read
public import Idealize.ShloMosaic.Lib.Quiescent

@[expose] public section

noncomputable section

namespace Cert.DownDxIdeal.Prod

open Cert.DownDxIdeal Cert.DownDxIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## The tile a point writes -/

theorem pay_apply (x : Vec Ideal S1408x1024 .bf16) (w : Vec Ideal S1x704x1024 .bf16) (r : Fin 1408) (l : Fin 704) :
    k0_pay1 x w (ix3 0 r l) = ∑ k : Fin 1024, x (ix2 r k) * w (ix3 0 l k) := by
  unfold k0_pay1
  refine (put _ shapeCasts_S1408x704_S1x1408x704 r l).trans ?_
  refine (nt (φ₁ := .bf16) (φ₂ := .bf16) x (shapeCast S704x1024 w shapeCasts_S1x704x1024_S704x1024) r l).trans ?_
  exact Finset.sum_congr rfl fun k _ => congrArg (x (ix2 r k) * ·) (drop w shapeCasts_S1x704x1024_S704x1024 l k)

theorem out_eq (x : Vec Ideal S1408x1024 .bf16) (w : Vec Ideal S1x704x1024 .bf16) : out0_2 x w = k0_pay1 x w := by
  unfold out0_2
  rw [View.canon_unit_zero (S := S1x1408x704) zeros3, View.ld_unit_zero (S := S1408x1024) zeros2, View.ld_unit_zero (S := S1x704x1024) zeros3]

/-! ## The blocks a point reads -/

theorem place : ∀ t : Fin cfg0.N, (win0_0.index t (0 : Fin 2) = t.val % 3 ∧ win0_0.index t (1 : Fin 2) = 0)
    ∧ (win0_1.index t (0 : Fin 3) = t.val / 3 ∧ win0_1.index t (1 : Fin 3) = 0 ∧ win0_1.index t (2 : Fin 3) = 0)
    ∧ (win0_2.index t (0 : Fin 3) = t.val / 3 ∧ win0_2.index t (1 : Fin 3) = t.val % 3 ∧ win0_2.index t (2 : Fin 3) = 0) :=
  (by decide +kernel : ∀ t : Fin grid0.N, _)

theorem lt_N (t : Fin cfg0.N) : t.val < 12 := lt_of_lt_of_eq t.isLt N_0

abbrev arg0 (c : Dev nD) : FVec Ideal S4224x1024 .bf16 := m ((c : Thread nD τ).loc main_arg0)
abbrev arg1 (c : Dev nD) : FVec Ideal S4x704x1024 .bf16 := m ((c : Thread nD τ).loc main_arg1)

theorem blk0 (c : Dev nD) (t : Fin cfg0.N) (r : Fin 1408) (k : Fin 1024) : (iblk m c 0 t : Vec Ideal S1408x1024 .bf16) (ix2 r k) =
    arg0 m c (ix2 (⟨t.val % 3 * 1408 + r.val, by have := r.isLt; omega⟩ : Fin 4224) k) := by
  obtain ⟨⟨e0, e1⟩, -⟩ := place t
  unfold iblk
  rw [View.read_apply]
  refine congrArg (arg0 m c) (funext fun a => Fin.ext ?_)
  match a with
  | ⟨0, _⟩ => show win0_0.index t 0 * 1408 + 1 * r.val = t.val % 3 * 1408 + r.val; rw [e0]; omega
  | ⟨1, _⟩ => show win0_0.index t 1 * 1024 + 1 * k.val = k.val; rw [e1]; omega

theorem blk1 (c : Dev nD) (t : Fin cfg0.N) (p : Fin 704) (q : Fin 1024) : (iblk m c 1 t : Vec Ideal S1x704x1024 .bf16) (ix3 0 p q) =
    arg1 m c (ix3 (⟨t.val / 3, by have := lt_N t; omega⟩ : Fin 4) p q) := by
  obtain ⟨-, ⟨e0, e1, e2⟩, -⟩ := place t
  unfold iblk
  rw [View.read_apply]
  refine congrArg (arg1 m c) (funext fun a => Fin.ext ?_)
  match a with
  | ⟨0, _⟩ => show win0_1.index t 0 * 1 + 1 * 0 = t.val / 3; rw [e0]; omega
  | ⟨1, _⟩ => show win0_1.index t 1 * 704 + 1 * p.val = p.val; rw [e1]; omega
  | ⟨2, _⟩ => show win0_1.index t 2 * 1024 + 1 * q.val = q.val; rw [e2]; omega

/-! ## The whole array -/

/-- A row of the left operand times a row of a shard. -/
def entry (x : FVec Ideal S4224x1024 .bf16) (w : FVec Ideal S4x704x1024 .bf16) (j : Fin 4) (r : Fin 4224) (l : Fin 704) : EReal :=
  ∑ k : Fin 1024, x (ix2 r k) * w (ix3 j l k)

/-- The result: shard by shard, row by row, column by column. -/
def whole (x : FVec Ideal S4224x1024 .bf16) (w : FVec Ideal S4x704x1024 .bf16) : FVec Ideal S4x4224x704 .bf16 := fun i => entry x w (i 0) (i 1) (i 2)

theorem flushed_eq (c : Dev nD) (t : Fin cfg0.N) :
    (dats m 0 c).flushed 2 t = ((cfg0.win 2).blk t).view.read (Elt Ideal) (whole (arg0 m c) (arg1 m c)) := by
  obtain ⟨-, -, e0, e1, e2⟩ := place t
  rw [Value.flushed2, out_eq]
  funext y
  have hy1 : (y 1).val < 1408 := (y 1).isLt
  have hy2 : (y 2).val < 704 := (y 2).isLt
  show k0_pay1 (iblk m c 0 t) (iblk m c 1 t) ((cfg0.win 2).xinj (grid0.coords t) y) = whole (arg0 m c) (arg1 m c) (((cfg0.win 2).blk t).view.emb y)
  rw [show (cfg0.win 2).xinj (grid0.coords t) y = ix3 (0 : Fin 1) (⟨(y 1).val, hy1⟩ : Fin 1408) (⟨(y 2).val, hy2⟩ : Fin 704) from
    funext fun a => match a with | ⟨0, _⟩ => Subsingleton.elim (α := Fin 1) _ _ | ⟨1, _⟩ => rfl | ⟨2, _⟩ => rfl, pay_apply]
  unfold whole entry
  refine Finset.sum_congr rfl fun k _ => congrArg₂ (· * ·) ((blk0 m c t _ k).trans (congrArg (arg0 m c) ?_)) ((blk1 m c t _ k).trans (congrArg (arg1 m c) ?_))
  · funext a; apply Fin.ext
    match a with
    | ⟨0, _⟩ => show t.val % 3 * 1408 + (y 1).val = win0_2.index t 1 * 1408 + 1 * (y 1).val; rw [e1]; omega
    | ⟨1, _⟩ => rfl
  · have hy0 : (y 0).val < 1 := (y 0).isLt
    funext a; apply Fin.ext
    match a with
    | ⟨0, _⟩ => show t.val / 3 = win0_2.index t 0 * 1 + 1 * (y 0).val; rw [e0]; omega
    | ⟨1, _⟩ => show (y 2).val = win0_2.index t 2 * 704 + 1 * (y 2).val; rw [e2]; omega
    | ⟨2, _⟩ => rfl

theorem mem_blk (t : Fin cfg0.N) (i : S4x4224x704.Idx) :
    i ∈ ((cfg0.win 2).blk t).view.set ↔ ∀ a : Fin 3, win0_2.index t a * S1x1408x704.size a ≤ (i a).val ∧ (i a).val < win0_2.index t a * S1x1408x704.size a + S1x1408x704.size a := by
  show i ∈ ((View.whole main_v0).slice (win0_2.rect t)).set ↔ _
  rw [View.set_slice_whole, Rect.mem_set_unit]
  exact Iff.rfl

theorem covered (i : S4x4224x704.Idx) : ∃ t : Fin cfg0.N, (cfg0.win 2).flush t = true ∧ i ∈ ((cfg0.win 2).blk t).view.set := by
  have h0 : (i 0).val < 4 := (i 0).isLt
  have h1 : (i 1).val < 4224 := (i 1).isLt
  have h2 : (i 2).val < 704 := (i 2).isLt
  refine ⟨⟨(i 0).val * 3 + (i 1).val / 1408, lt_of_lt_of_eq (by omega : _ < 12) N_0.symm⟩, flush0_2 _, ?_⟩
  obtain ⟨-, -, e0, e1, e2⟩ := place ⟨(i 0).val * 3 + (i 1).val / 1408, lt_of_lt_of_eq (by omega : _ < 12) N_0.symm⟩
  rw [mem_blk]
  intro a
  match a with
  | ⟨0, _⟩ => show win0_2.index _ 0 * 1 ≤ (i 0).val ∧ (i 0).val < win0_2.index _ 0 * 1 + 1; rw [e0]; show ((i 0).val * 3 + (i 1).val / 1408) / 3 * 1 ≤ _ ∧ _ < ((i 0).val * 3 + (i 1).val / 1408) / 3 * 1 + 1; omega
  | ⟨1, _⟩ => show win0_2.index _ 1 * 1408 ≤ (i 1).val ∧ (i 1).val < win0_2.index _ 1 * 1408 + 1408; rw [e1]; show ((i 0).val * 3 + (i 1).val / 1408) % 3 * 1408 ≤ _ ∧ _ < ((i 0).val * 3 + (i 1).val / 1408) % 3 * 1408 + 1408; omega
  | ⟨2, _⟩ => show win0_2.index _ 2 * 704 ≤ (i 2).val ∧ (i 2).val < win0_2.index _ 2 * 704 + 704; rw [e2]; omega

theorem final (c : Dev nD) : (dats m 0 c).arrAt 2 cfg0.N = whole (arg0 m c) (arg1 m c) :=
  (dats m 0 c).arrAt_eq_of_cover 2 _ (fun t _ => flushed_eq m c t) covered

end Cert.DownDxIdeal.Prod

/-! ## The reference -/

namespace Cert.DownDxRefIdeal.Prod

open Cert.DownDxRefIdeal Cert.DownDxRefIdeal.Gen Cert.Mm Idealize.ShloMosaic Idealize.ShloMosaic.ValueIdx
open scoped BigOperators

theorem val_eq (x : FVec Ideal S4224x1024 .bf16) (w : FVec Ideal S4x704x1024 .bf16) (i : S4x4224x704.Idx) :
    Read.val_main_v8 (F := Ideal) x w i = ∑ k : Fin 1024, x (ix2 (i 1) k) * w (ix3 (i 0) (i 2) k) := by
  have h0 : (i 0).val < 4 := (i 0).isLt
  have h1 : (i 1).val < 4224 := (i 1).isLt
  have h2 : (i 2).val < 704 := (i 2).isLt
  refine (Read.val_main_v8_apply (F := Ideal) x w i : _ = (Read.val_main_v7 (F := Ideal) x w i : EReal)).trans ?_
  rw [Read.val_main_v7_apply, Read.val_main_v6_apply, Read.val_main_v5_apply]
  refine Finset.sum_congr rfl fun k _ => ?_
  rw [Read.val_main_v2_apply, Read.val_main_v1_apply, Read.val_main_v0_apply]
  have hk : k.val < 1024 := k.isLt
  refine congrArg₂ (· * ·) (congrArg x ?_) (congrArg w ?_)
  · funext a; apply Fin.ext
    match a with
    | ⟨0, _⟩ => show (((i 1).val * 4 + (i 0).val) * 704 + (i 2).val) / 2816 = (i 1).val; omega
    | ⟨1, _⟩ => rfl
  · funext a; apply Fin.ext
    match a with
    | ⟨0, _⟩ => show (((((i 1).val * 4 + (i 0).val) * 704 + (i 2).val) % 2816) * 1024 + k.val) / 720896 = (i 0).val; omega
    | ⟨1, _⟩ => show (((((i 1).val * 4 + (i 0).val) * 704 + (i 2).val) % 2816) * 1024 + k.val) / 1024 % 704 = (i 2).val; omega
    | ⟨2, _⟩ => show (((((i 1).val * 4 + (i 0).val) * 704 + (i 2).val) % 2816) * 1024 + k.val) % 1024 = k.val; omega

end Cert.DownDxRefIdeal.Prod

/-! ## The claims -/

namespace Cert.Proof.DownDx

open Idealize.ShloMosaic Idealize.ShloMosaic.TcCoe Idealize.ShloMosaic.StableHlo Idealize.SL.Sem

theorem frame_k : quiescent_DownDx := fun m g _ => DownDx.Gen.frame m g
theorem frame_ki : quiescent_DownDxIdeal := fun m g _ => DownDxIdeal.Gen.frame m g
theorem frame_ri : quiescent_DownDxRefIdeal := fun m g _ =>
  (θ_run DownDxRefIdeal.defs _ _).mono (fun r h => ⟨fun c => (h c).2, sem_eq_zero_of_no_sems (by decide) r.2⟩)
    (DownDxRefIdeal.Value.run m g)

theorem equal : algebraic_DownDxIdeal_DownDxRefIdeal := fun m g m' g' _ hargs =>
  ⟨fun c => DownDxIdeal.Prod.whole (DownDxIdeal.Prod.arg0 m c) (DownDxIdeal.Prod.arg1 m c),
   (θ_run DownDxIdeal.defs _ _).mono (fun r h c => ⟨(h c).1.trans (DownDxIdeal.Prod.final m c), (h c).2⟩)
     (DownDxIdeal.Value.run_blocks m g),
   (θ_run DownDxRefIdeal.defs _ _).mono (fun r h c =>
      ⟨((h c).1.trans (DownDxRefIdeal.Read.val_main_v8_eq _ _)).trans
          ((congrArg₂ (fun a b => DownDxRefIdeal.Read.val_main_v8 (F := Ideal) a b) (hargs c).1 (hargs c).2).trans
            (funext fun i => DownDxRefIdeal.Prod.val_eq _ _ i)), (h c).2⟩)
     (DownDxRefIdeal.Value.run m' g')⟩

end Cert.Proof.DownDx

end
-- ==== Proof.Mm.UgDx.lean ====
/-
  The product of the up and gate projections' backward pass that gives the gradient of their input: the sum over the
  eight shards of the gradient of a shard's columns times the transpose of the shard's weights. The kernel walks the
  rows in three tiles, adds one shard at each point into an accumulator and writes a tile out after its last shard; the
  reference takes the derivative of the whole product. Both are the same sum over the reals.
-/
module

public import proofs.«01_k».proof.Defs
public import proofs.«01_k».proof.Proof.Mm.Common
public import proofs.«01_k».proof.Proof.Gen.UgDx.Frame
public import proofs.«01_k».proof.Proof.Gen.UgDxIdeal.Value
public import proofs.«01_k».proof.Proof.Gen.UgDxRefIdeal.Read
public import Idealize.ShloMosaic.Lib.Quiescent

@[expose] public section

noncomputable section

namespace Cert.UgDxIdeal.Prod

open Cert.UgDxIdeal Cert.UgDxIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## What a point adds -/

/-- The product of a point's two blocks. -/
def prod (x : Vec Ideal S1x1408x704 .bf16) (w : Vec Ideal S1x1024x704 .bf16) : FVec Ideal S1408x1024 .f32 :=
  matmul dot_S1408x704_S1024x704_S1408x1024_1_1_0_0_n_n none (shapeCast S1408x704 x shapeCasts_S1x1408x704_S1408x704 : FVec Ideal S1408x704 .bf16)
    (shapeCast S1024x704 w shapeCasts_S1x1024x704_S1024x704 : FVec Ideal S1024x704 .bf16) (constant S1408x1024 .f32 0x00000000#32)

theorem prod_apply (x : Vec Ideal S1x1408x704 .bf16) (w : Vec Ideal S1x1024x704 .bf16) (r : Fin 1408) (l : Fin 1024) :
    prod x w (ix2 r l) = ∑ k : Fin 704, x (ix3 0 r k) * w (ix3 0 l k) := by
  refine (nt (φ₁ := .bf16) (φ₂ := .bf16) (shapeCast S1408x704 x shapeCasts_S1x1408x704_S1408x704) (shapeCast S1024x704 w shapeCasts_S1x1024x704_S1024x704) r l).trans ?_
  exact Finset.sum_congr rfl fun k _ => congrArg₂ (· * ·) (drop x shapeCasts_S1x1408x704_S1408x704 r k) (drop w shapeCasts_S1x1024x704_S1024x704 l k)

theorem pay1_apply (y : S1408x1024.Idx) : k0_pay1 (F := Ideal) y = 0 := by
  unfold k0_pay1
  rw [shapeCast_self]
  exact Ideal.ofBits_zero_f32

theorem pay2_apply (a : Vec Ideal S1408x1024 .f32) (x : Vec Ideal S1x1408x704 .bf16) (w : Vec Ideal S1x1024x704 .bf16) (y : S1408x1024.Idx) :
    k0_pay2 a x w y = a y + prod x w y := by
  unfold k0_pay2
  rw [shapeCast_self]
  rfl

section

variable (c : Dev nD) (i : grid0.Coords) (a2 : Memref sig .tc .vmem S1x1408x704 .bf16) (h2 : a2.IsWhole) (a3 : Memref sig .tc .vmem S1x1024x704 .bf16) (h3 : a3.IsWhole)
    (a4 : Memref sig .tc .vmem S1408x1024 .f32) (h4 : a4.IsWhole) (a5 : Memref sig .tc .vmem S1408x1024 .f32) (h5 : a5.IsWhole)
  (x : Vec Ideal S1x1408x704 .bf16) (w : Vec Ideal S1x1024x704 .bf16) (s : Vec Ideal S1408x1024 .f32) (y : S1408x1024.Idx)

theorem first (hc0) (hc1) :
    sout0_A_0 c i a2 h2 a3 h3 a4 h4 a5 h5 hc0 hc1 x w y = prod x w y := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S1408x1024) zeros2, View.readCov_unit_zero (S := S1408x1024) _ zeros2]
  simp only [View.readAt_eq_ld, h2.read_unread, h3.read_unread, View.ld_unit_zero (S := S1x1408x704) zeros3, View.ld_unit_zero (S := S1x1024x704) zeros3]
  rw [pay2_apply, pay1_apply, zero_add]

theorem next (hc0) (hc1) :
    sout0_B_0 c i a2 h2 a3 h3 a4 h4 a5 h5 hc0 hc1 x w s y = s y + prod x w y := by
  unfold sout0_B_0
  rw [View.read_writes_eq_canon _ _ _ (scover0_B_0 c i a2 h2 a3 h3 a4 h4 a5 h5 hc0 hc1 x w s)]
  unfold kernelRun0_B
  dsimp only
  rw [View.canon_unit_zero (S := S1408x1024) zeros2]
  simp only [View.readAt_eq_ld, h2.read_unread, h3.read_unread, h5.read_unread, View.ld_unit_zero (S := S1408x1024) zeros2, View.ld_unit_zero (S := S1x1408x704) zeros3, View.ld_unit_zero (S := S1x1024x704) zeros3]
  rw [pay2_apply]

theorem last (hc0) (hc1) :
    sout0_C_0 c i a2 h2 a3 h3 a4 h4 a5 h5 hc0 hc1 x w s y = s y + prod x w y := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero (S := S1408x1024) zeros2]
  simp only [View.readAt_eq_ld, h2.read_unread, h3.read_unread, h5.read_unread, View.ld_unit_zero (S := S1408x1024) zeros2, View.ld_unit_zero (S := S1x1408x704) zeros3, View.ld_unit_zero (S := S1x1024x704) zeros3]
  rw [pay2_apply]

theorem written (hc0) (hc1) :
    out0_C_2 c i a2 h2 a3 h3 a4 h4 a5 h5 hc0 hc1 x w s y = s y + prod x w y := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero (S := S1408x1024) zeros2, View.readCov_unit_zero (S := S1408x1024) _ zeros2]
  simp only [View.readAt_eq_ld, h2.read_unread, h3.read_unread, h5.read_unread, View.ld_unit_zero (S := S1408x1024) zeros2, View.ld_unit_zero (S := S1x1408x704) zeros3, View.ld_unit_zero (S := S1x1024x704) zeros3]
  rw [pay2_apply]

end

/-! ## The blocks a point reads -/

theorem place : ∀ t : Fin cfg0.N, win0_0.index t (0 : Fin 3) = t.val % 8 ∧ win0_0.index t (1 : Fin 3) = t.val / 8 ∧ win0_0.index t (2 : Fin 3) = 0
    ∧ win0_1.index t (0 : Fin 3) = t.val % 8 ∧ win0_1.index t (1 : Fin 3) = 0 ∧ win0_1.index t (2 : Fin 3) = 0 :=
  (by decide +kernel : ∀ t : Fin grid0.N, _)

theorem lt_N (t : Fin cfg0.N) : t.val < 24 := lt_of_lt_of_eq t.isLt N_0

abbrev arg0 (c : Dev nD) : FVec Ideal S8x4224x704 .bf16 := m ((c : Thread nD τ).loc main_arg0)
abbrev arg1 (c : Dev nD) : FVec Ideal S8x1024x704 .bf16 := m ((c : Thread nD τ).loc main_arg1)

theorem blk0 (c : Dev nD) (t : Fin cfg0.N) (r : Fin 1408) (k : Fin 704) : (iblk m c 0 t : Vec Ideal S1x1408x704 .bf16) (ix3 0 r k) =
    arg0 m c (ix3 (⟨t.val % 8, by omega⟩ : Fin 8) (⟨t.val / 8 * 1408 + r.val, by have := lt_N t; omega⟩ : Fin 4224) k) := by
  obtain ⟨e0, e1, e2, -⟩ := place t
  unfold iblk
  rw [View.read_apply]
  refine congrArg (arg0 m c) (funext fun a => Fin.ext ?_)
  match a with
  | ⟨0, _⟩ => show win0_0.index t 0 * 1 + 1 * 0 = t.val % 8; rw [e0]; omega
  | ⟨1, _⟩ => show win0_0.index t 1 * 1408 + 1 * r.val = t.val / 8 * 1408 + r.val; rw [e1]; omega
  | ⟨2, _⟩ => show win0_0.index t 2 * 704 + 1 * k.val = k.val; rw [e2]; omega

theorem blk1 (c : Dev nD) (t : Fin cfg0.N) (l : Fin 1024) (k : Fin 704) : (iblk m c 1 t : Vec Ideal S1x1024x704 .bf16) (ix3 0 l k) =
    arg1 m c (ix3 (⟨t.val % 8, by omega⟩ : Fin 8) l k) := by
  obtain ⟨-, -, -, e0, e1, e2⟩ := place t
  unfold iblk
  rw [View.read_apply]
  refine congrArg (arg1 m c) (funext fun a => Fin.ext ?_)
  match a with
  | ⟨0, _⟩ => show win0_1.index t 0 * 1 + 1 * 0 = t.val % 8; rw [e0]; omega
  | ⟨1, _⟩ => show win0_1.index t 1 * 1024 + 1 * l.val = l.val; rw [e1]; omega
  | ⟨2, _⟩ => show win0_1.index t 2 * 704 + 1 * k.val = k.val; rw [e2]; omega

/-! ## The accumulator -/

/-- What point `n` adds at an index of the tile, for every number `n`. -/
def term (c : Dev nD) (n : ℕ) (y : S1408x1024.Idx) : EReal :=
  if h : n < cfg0.N then prod (iblk m c 0 ⟨n, h⟩) (iblk m c 1 ⟨n, h⟩) y else 0

theorem acc (c : Dev nD) (n : ℕ) (h : n < cfg0.N) (y : S1408x1024.Idx) :
    (outsAt0 m c n h).2 y = ∑ q ∈ Finset.range (n % 8 + 1), term m c (n - n % 8 + q) y := by
  refine fold (by decide) (fun n h y => (outsAt0 m c n h).2 y) (term m c) (fun n h y hn => ?_) (fun n h y hn => ?_) n h y
  · have h1 : ¬(⟨n, h⟩ : Fin cfg0.N).val % 8 = 7 := by show ¬n % 8 = 7; omega
    refine (congrFun (congrArg Prod.snd (outsAt0_A m c ⟨n, h⟩ hn h1)) y).trans ?_
    dsimp only
    rw [first]
    unfold term
    rw [dif_pos h]
  · have h0 : ¬(⟨n + 1, h⟩ : Fin cfg0.N).val % 8 = 0 := hn
    have ht : term m c (n + 1) y = prod (iblk m c 0 ⟨n + 1, h⟩) (iblk m c 1 ⟨n + 1, h⟩) y := dif_pos h
    rw [ht]
    by_cases h1 : (⟨n + 1, h⟩ : Fin cfg0.N).val % 8 = 7
    · refine (congrFun (congrArg Prod.snd (outsAt0_C m c ⟨n + 1, h⟩ h0 h1)) y).trans ?_
      dsimp only
      rw [last]; rfl
    · refine (congrFun (congrArg Prod.snd (outsAt0_B m c ⟨n + 1, h⟩ h0 h1)) y).trans ?_
      dsimp only
      rw [next]; rfl

/-- What the last point of a tile writes out is the accumulator. -/
theorem out_eq (c : Dev nD) (n : ℕ) (h : n < cfg0.N) (hn : n % 8 = 7) (y : S1408x1024.Idx) : (outsAt0 m c n h).1 y = (outsAt0 m c n h).2 y := by
  have h0 : ¬(⟨n, h⟩ : Fin cfg0.N).val % 8 = 0 := by show ¬n % 8 = 0; omega
  have e := outsAt0_C m c ⟨n, h⟩ h0 hn
  refine (congrFun (congrArg Prod.fst e) y).trans ((?_ : _ = _).trans (congrFun (congrArg Prod.snd e) y).symm)
  dsimp only
  rw [written, last]

theorem term_apply (c : Dev nD) (i : S4224x1024.Idx) (j : Fin 8) (n : ℕ) (hn : n = 8 * ((i 0).val / 1408) + j.val) :
    term m c n (Value.loc2Of i) = ∑ k : Fin 704, arg0 m c (ix3 j (i 0) k) * arg1 m c (ix3 j (i 1) k) := by
  have hi0 : (i 0).val < 4224 := (i 0).isLt
  have hi1 : (i 1).val < 1024 := (i 1).isLt
  have hlt : n < cfg0.N := lt_of_lt_of_eq (by omega : n < 24) N_0.symm
  unfold term
  rw [dif_pos hlt, show Value.loc2Of i = ix2 (⟨(i 0).val % 1408, by omega⟩ : Fin 1408) (⟨(i 1).val % 1024, by omega⟩ : Fin 1024) from
    funext fun a => match a with | ⟨0, _⟩ => rfl | ⟨1, _⟩ => rfl, prod_apply]
  refine Finset.sum_congr rfl fun k _ => congrArg₂ (· * ·) ((blk0 m c _ _ _).trans (congrArg (arg0 m c) ?_)) ((blk1 m c _ _ _).trans (congrArg (arg1 m c) ?_))
  · funext a; apply Fin.ext
    match a with
    | ⟨0, _⟩ => show n % 8 = j.val; omega
    | ⟨1, _⟩ => show n / 8 * 1408 + (i 0).val % 1408 = (i 0).val; omega
    | ⟨2, _⟩ => rfl
  · funext a; apply Fin.ext
    match a with
    | ⟨0, _⟩ => show n % 8 = j.val; omega
    | ⟨1, _⟩ => show (i 1).val % 1024 = (i 1).val; omega
    | ⟨2, _⟩ => rfl

/-- The gradient: over the shards and the columns of each. -/
def sum (x : FVec Ideal S8x4224x704 .bf16) (w : FVec Ideal S8x1024x704 .bf16) : FVec Ideal S4224x1024 .f32 :=
  fun i => ∑ j : Fin 8, ∑ k : Fin 704, x (ix3 j (i 0) k) * w (ix3 j (i 1) k)

theorem G2_eq (c : Dev nD) : Value.G2 m c = sum (arg0 m c) (arg1 m c) := by
  funext i
  have hi0 : (i 0).val < 4224 := (i 0).isLt
  have hi1 : (i 1).val < 1024 := (i 1).isLt
  have hp : Value.pt2Of i = 8 * ((i 0).val / 1408) + 7 := by
    show 8 * (1 * ((i 0).val / 1408 - 0) + 1 * ((i 1).val / 1024 - 0)) + 7 = _; omega
  have hlt : Value.pt2Of i < cfg0.N := lt_of_lt_of_eq (by omega : Value.pt2Of i < 24) N_0.symm
  have e : Value.G2 m c i = (outsAt0 m c (Value.pt2Of i) hlt).1 (Value.loc2Of i) := by
    unfold Value.G2
    rw [dif_pos hlt, ← Value.outsAt0_sweep m c _ hlt]
  refine e.trans ((out_eq m c _ hlt (by omega) _).trans ((acc m c _ hlt _).trans ?_))
  rw [show Value.pt2Of i % 8 + 1 = 8 from by omega]
  exact (Finset.sum_range _).trans (Finset.sum_congr rfl fun j _ => term_apply m c i j _ (by omega))

end Cert.UgDxIdeal.Prod

/-! ## The reference -/

namespace Cert.UgDxRefIdeal.Prod

open Cert.UgDxRefIdeal Cert.UgDxRefIdeal.Gen Cert.Mm Idealize.ShloMosaic Idealize.ShloMosaic.ValueIdx
open scoped BigOperators

/-- The term of column `n` of all the shards' columns. -/
def col (x : FVec Ideal S8x4224x704 .bf16) (w : FVec Ideal S8x1024x704 .bf16) (i : S4224x1024.Idx) (n : ℕ) : EReal :=
  x (ix3 (⟨n / 704 % 8, by omega⟩ : Fin 8) (i 0) (⟨n % 704, by omega⟩ : Fin 704)) * w (ix3 (⟨n / 704 % 8, by omega⟩ : Fin 8) (i 1) (⟨n % 704, by omega⟩ : Fin 704))

theorem col_eq (x : FVec Ideal S8x4224x704 .bf16) (w : FVec Ideal S8x1024x704 .bf16) (i : S4224x1024.Idx) (j : Fin 8) (k : Fin 704) :
    col x w i (j.val * 704 + k.val) = x (ix3 j (i 0) k) * w (ix3 j (i 1) k) := by
  have hj := j.isLt
  have hk := k.isLt
  have e1 : (⟨(j.val * 704 + k.val) / 704 % 8, by omega⟩ : Fin 8) = j := Fin.ext (by show (j.val * 704 + k.val) / 704 % 8 = j.val; omega)
  have e2 : (⟨(j.val * 704 + k.val) % 704, by omega⟩ : Fin 704) = k := Fin.ext (by show (j.val * 704 + k.val) % 704 = k.val; omega)
  unfold col
  rw [e1, e2]

theorem val_eq (x : FVec Ideal S8x4224x704 .bf16) (w : FVec Ideal S8x1024x704 .bf16) (i : S4224x1024.Idx) :
    Read.val_main_v8 (F := Ideal) x w i = ∑ j : Fin 8, ∑ k : Fin 704, x (ix3 j (i 0) k) * w (ix3 j (i 1) k) := by
  rw [Read.val_main_v8_apply]
  have hi0 : (i 0).val < 4224 := (i 0).isLt
  have hi1 : (i 1).val < 1024 := (i 1).isLt
  refine ((Finset.sum_congr rfl fun c _ => ?_ : _ = ∑ c : Fin (8 * 704), col x w i c.val).trans (shards 8 704 (col x w i))).trans
    (Finset.sum_congr rfl fun j _ => Finset.sum_congr rfl fun k _ => col_eq x w i j k)
  rw [Read.val_main_v5_apply, Read.val_main_v4_apply, Read.val_main_v3_apply, Read.val_main_v2_apply, Read.val_main_v1_apply, Read.val_main_v0_apply]
  have hc : c.val < 5632 := c.isLt
  refine congrArg₂ (· * ·) (congrArg x ?_) (congrArg w ?_)
  · funext a; apply Fin.ext
    match a with
    | ⟨0, _⟩ => show ((i 0).val * 5632 + c.val) / 704 % 8 = c.val / 704 % 8; omega
    | ⟨1, _⟩ => show ((i 0).val * 5632 + c.val) / 5632 = (i 0).val; omega
    | ⟨2, _⟩ => show ((i 0).val * 5632 + c.val) % 704 = c.val % 704; omega
  · funext a; apply Fin.ext
    match a with
    | ⟨0, _⟩ => show ((i 1).val * 5632 + c.val) / 704 % 8 = c.val / 704 % 8; omega
    | ⟨1, _⟩ => show ((i 1).val * 5632 + c.val) / 5632 = (i 1).val; omega
    | ⟨2, _⟩ => show ((i 1).val * 5632 + c.val) % 704 = c.val % 704; omega

end Cert.UgDxRefIdeal.Prod

/-! ## The claims -/

namespace Cert.Proof.UgDx

open Idealize.ShloMosaic Idealize.ShloMosaic.TcCoe Idealize.ShloMosaic.StableHlo Idealize.SL.Sem

theorem frame_k : quiescent_UgDx := fun m g _ => UgDx.Gen.frame m g
theorem frame_ki : quiescent_UgDxIdeal := fun m g _ => UgDxIdeal.Gen.frame m g
theorem frame_ri : quiescent_UgDxRefIdeal := fun m g _ =>
  (θ_run UgDxRefIdeal.defs _ _).mono (fun r h => ⟨fun c => (h c).2, sem_eq_zero_of_no_sems (by decide) r.2⟩)
    (UgDxRefIdeal.Value.run m g)

theorem equal : algebraic_UgDxIdeal_UgDxRefIdeal := fun m g m' g' _ hargs =>
  ⟨fun c => UgDxIdeal.Prod.sum (UgDxIdeal.Prod.arg0 m c) (UgDxIdeal.Prod.arg1 m c),
   (θ_run UgDxIdeal.defs _ _).mono (fun r h c => ⟨(h c).1.trans (UgDxIdeal.Prod.G2_eq m c), (h c).2⟩)
     (UgDxIdeal.Value.run m g),
   (θ_run UgDxRefIdeal.defs _ _).mono (fun r h c =>
      ⟨((h c).1.trans (UgDxRefIdeal.Read.val_main_v8_eq _ _)).trans
          ((congrArg₂ (fun a b => UgDxRefIdeal.Read.val_main_v8 (F := Ideal) a b) (hargs c).1 (hargs c).2).trans
            (funext fun i => UgDxRefIdeal.Prod.val_eq _ _ i)), (h c).2⟩)
     (UgDxRefIdeal.Value.run m' g')⟩

end Cert.Proof.UgDx

end
-- ==== Proof.Mm.DownDw.lean ====
/-
  The product of the down projection's backward pass that gives the gradient of the weights: the transpose of
  the input times the gradient of the output, a shard for each shard of rows. The kernel adds one tile of rows at each point into an
  accumulator and writes it out after the third; the reference takes the derivative of the whole product. Both are the
  same sum over the reals.
-/
module

public import proofs.«01_k».proof.Defs
public import proofs.«01_k».proof.Proof.Mm.Common
public import proofs.«01_k».proof.Proof.Gen.DownDw.Frame
public import proofs.«01_k».proof.Proof.Gen.DownDwIdeal.Value
public import proofs.«01_k».proof.Proof.Gen.DownDwRefIdeal.Read
public import Idealize.ShloMosaic.Lib.Quiescent

@[expose] public section

noncomputable section

namespace Cert.DownDwIdeal.Prod

open Cert.DownDwIdeal Cert.DownDwIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## What a point adds -/

/-- The product of a point's two blocks, over their rows. -/
def prod (x : Vec Ideal S1x1408x704 .bf16) (w : Vec Ideal S1408x1024 .bf16) : FVec Ideal S704x1024 .f32 :=
  matmul (φ₁ := .bf16) (φ₂ := .bf16) dot_S1408x704_S1408x1024_S704x1024_0_0_1_1_n_n none (shapeCast S1408x704 x shapeCasts_S1x1408x704_S1408x704 : FVec Ideal S1408x704 .bf16) w (constant S704x1024 .f32 0x00000000#32)

theorem prod_apply (x : Vec Ideal S1x1408x704 .bf16) (w : Vec Ideal S1408x1024 .bf16) (a : Fin 704) (b : Fin 1024) :
    prod x w (ix2 a b) = ∑ k : Fin 1408, x (ix3 0 k a) * w (ix2 k b) := by
  refine (tn (φ₁ := .bf16) (φ₂ := .bf16) (shapeCast S1408x704 x shapeCasts_S1x1408x704_S1408x704 : FVec Ideal S1408x704 .bf16) w a b).trans ?_
  exact Finset.sum_congr rfl fun k _ => congrArg₂ (· * ·) (drop x shapeCasts_S1x1408x704_S1408x704 k a) (rfl)

theorem pay1_apply (y : S704x1024.Idx) : k0_pay1 (F := Ideal) y = 0 := by
  unfold k0_pay1
  rw [shapeCast_self]
  exact Ideal.ofBits_zero_f32

theorem pay2_apply (s : Vec Ideal S704x1024 .f32) (x : Vec Ideal S1x1408x704 .bf16) (w : Vec Ideal S1408x1024 .bf16) (y : S704x1024.Idx) :
    k0_pay2 s x w y = s y + prod x w y := by
  unfold k0_pay2
  rw [shapeCast_self]
  rfl

theorem pay3_apply (s : Vec Ideal S704x1024 .f32) (a : Fin 704) (b : Fin 1024) : k0_pay3 s (ix3 0 a b) = s (ix2 a b) := by
  unfold k0_pay3
  exact put _ shapeCasts_S704x1024_S1x704x1024 a b

section

variable (c : Dev nD) (i : grid0.Coords) (a2 : Memref sig .tc .vmem S1x1408x704 .bf16) (h2 : a2.IsWhole) (a3 : Memref sig .tc .vmem S1408x1024 .bf16) (h3 : a3.IsWhole)
    (a4 : Memref sig .tc .vmem S1x704x1024 .bf16) (h4 : a4.IsWhole) (a5 : Memref sig .tc .vmem S704x1024 .f32) (h5 : a5.IsWhole)
  (x : Vec Ideal S1x1408x704 .bf16) (w : Vec Ideal S1408x1024 .bf16) (s : Vec Ideal S704x1024 .f32) (y : S704x1024.Idx)

theorem first (hc0) (hc1) :
    sout0_A_0 c i a2 h2 a3 h3 a4 h4 a5 h5 hc0 hc1 x w y = prod x w y := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S704x1024) zeros2, View.readCov_unit_zero (S := S704x1024) _ zeros2]
  simp only [View.readAt_eq_ld, h2.read_unread, h3.read_unread, View.ld_unit_zero (S := S1x1408x704) zeros3, View.ld_unit_zero (S := S1408x1024) zeros2]
  rw [pay2_apply, pay1_apply, zero_add]

theorem next (hc0) (hc1) :
    sout0_B_0 c i a2 h2 a3 h3 a4 h4 a5 h5 hc0 hc1 x w s y = s y + prod x w y := by
  unfold sout0_B_0
  rw [View.read_writes_eq_canon _ _ _ (scover0_B_0 c i a2 h2 a3 h3 a4 h4 a5 h5 hc0 hc1 x w s)]
  unfold kernelRun0_B
  dsimp only
  rw [View.canon_unit_zero (S := S704x1024) zeros2]
  simp only [View.readAt_eq_ld, h2.read_unread, h3.read_unread, h5.read_unread, View.ld_unit_zero (S := S704x1024) zeros2, View.ld_unit_zero (S := S1x1408x704) zeros3, View.ld_unit_zero (S := S1408x1024) zeros2]
  rw [pay2_apply]

theorem last (hc0) (hc1) :
    sout0_C_0 c i a2 h2 a3 h3 a4 h4 a5 h5 hc0 hc1 x w s y = s y + prod x w y := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero (S := S704x1024) zeros2]
  simp only [View.readAt_eq_ld, h2.read_unread, h3.read_unread, h5.read_unread, View.ld_unit_zero (S := S704x1024) zeros2, View.ld_unit_zero (S := S1x1408x704) zeros3, View.ld_unit_zero (S := S1408x1024) zeros2]
  rw [pay2_apply]

theorem written (c : Dev nD) (i : grid0.Coords) (a2 : Memref sig .tc .vmem S1x1408x704 .bf16) (h2 : a2.IsWhole) (a3 : Memref sig .tc .vmem S1408x1024 .bf16) (h3 : a3.IsWhole)
    (a4 : Memref sig .tc .vmem S1x704x1024 .bf16) (h4 : a4.IsWhole) (a5 : Memref sig .tc .vmem S704x1024 .f32) (h5 : a5.IsWhole) (hc0) (hc1)
    (x : Vec Ideal S1x1408x704 .bf16) (w : Vec Ideal S1408x1024 .bf16) (s : Vec Ideal S704x1024 .f32) (a : Fin 704) (b : Fin 1024) :
    out0_C_2 c i a2 h2 a3 h3 a4 h4 a5 h5 hc0 hc1 x w s (ix3 0 a b) = s (ix2 a b) + prod x w (ix2 a b) := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero (S := S1x704x1024) zeros3, View.readCov_unit_zero (S := S704x1024) _ zeros2]
  simp only [View.readAt_eq_ld, h2.read_unread, h3.read_unread, h5.read_unread, View.ld_unit_zero (S := S704x1024) zeros2, View.ld_unit_zero (S := S1x1408x704) zeros3, View.ld_unit_zero (S := S1408x1024) zeros2]
  rw [pay3_apply, pay2_apply]

end

/-! ## The blocks a point reads -/

theorem place : ∀ t : Fin cfg0.N, (win0_0.index t (0 : Fin 3) = t.val / 3 ∧ win0_0.index t (1 : Fin 3) = t.val % 3 ∧ win0_0.index t (2 : Fin 3) = 0)
    ∧ (win0_1.index t (0 : Fin 2) = t.val % 3 ∧ win0_1.index t (1 : Fin 2) = 0) :=
  (by decide +kernel : ∀ t : Fin grid0.N, _)

theorem lt_N (t : Fin cfg0.N) : t.val < 12 := lt_of_lt_of_eq t.isLt N_0

abbrev arg0 (c : Dev nD) : FVec Ideal S4x4224x704 .bf16 := m ((c : Thread nD τ).loc main_arg0)
abbrev arg1 (c : Dev nD) : FVec Ideal S4224x1024 .bf16 := m ((c : Thread nD τ).loc main_arg1)

theorem blk0 (c : Dev nD) (t : Fin cfg0.N) (r : Fin 1408) (a : Fin 704) : (iblk m c 0 t : Vec Ideal S1x1408x704 .bf16) (ix3 0 r a) =
    arg0 m c (ix3 (⟨t.val / 3, by have := lt_N t; omega⟩ : Fin 4) (⟨t.val % 3 * 1408 + r.val, by have := r.isLt; omega⟩ : Fin 4224) a) := by
  obtain ⟨⟨e0, e1, e2⟩, -⟩ := place t
  unfold iblk
  rw [View.read_apply]
  refine congrArg (arg0 m c) (funext fun d => Fin.ext ?_)
  match d with
  | ⟨0, _⟩ => show win0_0.index t 0 * 1 + 1 * 0 = t.val / 3; rw [e0]; omega
  | ⟨1, _⟩ => show win0_0.index t 1 * 1408 + 1 * r.val = t.val % 3 * 1408 + r.val; rw [e1]; omega
  | ⟨2, _⟩ => show win0_0.index t 2 * 704 + 1 * a.val = a.val; rw [e2]; omega

theorem blk1 (c : Dev nD) (t : Fin cfg0.N) (r : Fin 1408) (a : Fin 1024) : (iblk m c 1 t : Vec Ideal S1408x1024 .bf16) (ix2 r a) =
    arg1 m c (ix2 (⟨t.val % 3 * 1408 + r.val, by have := r.isLt; omega⟩ : Fin 4224) a) := by
  obtain ⟨-, ⟨e0, e1⟩⟩ := place t
  unfold iblk
  rw [View.read_apply]
  refine congrArg (arg1 m c) (funext fun d => Fin.ext ?_)
  match d with
  | ⟨0, _⟩ => show win0_1.index t 0 * 1408 + 1 * r.val = t.val % 3 * 1408 + r.val; rw [e0]; omega
  | ⟨1, _⟩ => show win0_1.index t 1 * 1024 + 1 * a.val = a.val; rw [e1]; omega

/-! ## The accumulator -/

/-- What point `n` adds at an index of the tile, for every number `n`. -/
def term (c : Dev nD) (n : ℕ) (y : S704x1024.Idx) : EReal :=
  if h : n < cfg0.N then prod (iblk m c 0 ⟨n, h⟩) (iblk m c 1 ⟨n, h⟩) y else 0

theorem acc (c : Dev nD) (n : ℕ) (h : n < cfg0.N) (y : S704x1024.Idx) :
    (outsAt0 m c n h).2 y = ∑ q ∈ Finset.range (n % 3 + 1), term m c (n - n % 3 + q) y := by
  refine fold (by decide) (fun n h y => (outsAt0 m c n h).2 y) (term m c) (fun n h y hn => ?_) (fun n h y hn => ?_) n h y
  · have h1 : ¬(⟨n, h⟩ : Fin cfg0.N).val % 3 = 2 := by show ¬n % 3 = 2; omega
    refine (congrFun (congrArg Prod.snd (outsAt0_A m c ⟨n, h⟩ hn h1)) y).trans ?_
    dsimp only
    rw [first]
    unfold term
    rw [dif_pos h]
  · have h0 : ¬(⟨n + 1, h⟩ : Fin cfg0.N).val % 3 = 0 := hn
    have ht : term m c (n + 1) y = prod (iblk m c 0 ⟨n + 1, h⟩) (iblk m c 1 ⟨n + 1, h⟩) y := dif_pos h
    rw [ht]
    by_cases h1 : (⟨n + 1, h⟩ : Fin cfg0.N).val % 3 = 2
    · refine (congrFun (congrArg Prod.snd (outsAt0_C m c ⟨n + 1, h⟩ h0 h1)) y).trans ?_
      dsimp only
      rw [last]; rfl
    · refine (congrFun (congrArg Prod.snd (outsAt0_B m c ⟨n + 1, h⟩ h0 h1)) y).trans ?_
      dsimp only
      rw [next]; rfl

/-- What the last point of a shard writes out is the accumulator. -/
theorem out_eq (c : Dev nD) (n : ℕ) (h : n < cfg0.N) (hn : n % 3 = 2) (a : Fin 704) (b : Fin 1024) :
    (outsAt0 m c n h).1 (ix3 0 a b) = (outsAt0 m c n h).2 (ix2 a b) := by
  have h0 : ¬(⟨n, h⟩ : Fin cfg0.N).val % 3 = 0 := by show ¬n % 3 = 0; omega
  have e := outsAt0_C m c ⟨n, h⟩ h0 hn
  refine (congrFun (congrArg Prod.fst e) (ix3 0 a b)).trans ((?_ : _ = _).trans (congrFun (congrArg Prod.snd e) (ix2 a b)).symm)
  dsimp only
  rw [written, last]

/-- The term of row `n` of the two operands. -/
def row (x : FVec Ideal S4x4224x704 .bf16) (w : FVec Ideal S4224x1024 .bf16) (i : S4x704x1024.Idx) (n : ℕ) : EReal :=
  x (ix3 (i 0) (⟨n % 4224, by omega⟩ : Fin 4224) (i 1)) * w (ix2 (⟨n % 4224, by omega⟩ : Fin 4224) (i 2))

theorem row_eq (x : FVec Ideal S4x4224x704 .bf16) (w : FVec Ideal S4224x1024 .bf16) (i : S4x704x1024.Idx) (r : Fin 4224) :
    row x w i r.val = x (ix3 (i 0) r (i 1)) * w (ix2 r (i 2)) := by
  have hr := r.isLt
  have e : (⟨r.val % 4224, by omega⟩ : Fin 4224) = r := Fin.ext (by show r.val % 4224 = r.val; omega)
  unfold row
  rw [e]

theorem term_apply (c : Dev nD) (i : S4x704x1024.Idx) (p : Fin 3) (n : ℕ) (hn : n = 3 * (i 0).val + p.val) :
    term m c n (ix2 (⟨(i 1).val % 704, by omega⟩ : Fin 704) (⟨(i 2).val % 1024, by omega⟩ : Fin 1024)) = ∑ k : Fin 1408, row (arg0 m c) (arg1 m c) i (p.val * 1408 + k.val) := by
  have hi0 : (i 0).val < 4 := (i 0).isLt
  have hi1 : (i 1).val < 704 := (i 1).isLt
  have hi2 : (i 2).val < 1024 := (i 2).isLt
  have hp := p.isLt
  have hlt : n < cfg0.N := lt_of_lt_of_eq (by omega : n < 12) N_0.symm
  unfold term
  rw [dif_pos hlt, prod_apply]
  refine Finset.sum_congr rfl fun k _ => ?_
  have hk := k.isLt
  refine Eq.trans ?_ (row_eq (arg0 m c) (arg1 m c) i ⟨p.val * 1408 + k.val, by omega⟩).symm
  refine congrArg₂ (· * ·) ((blk0 m c _ _ _).trans (congrArg (arg0 m c) ?_)) ((blk1 m c _ _ _).trans (congrArg (arg1 m c) ?_))
  · funext d; apply Fin.ext
    match d with
    | ⟨0, _⟩ => show n / 3 = (i 0).val; omega
    | ⟨1, _⟩ => show n % 3 * 1408 + k.val = p.val * 1408 + k.val; omega
    | ⟨2, _⟩ => show (i 1).val % 704 = (i 1).val; omega
  · funext d; apply Fin.ext
    match d with
    | ⟨0, _⟩ => show n % 3 * 1408 + k.val = p.val * 1408 + k.val; omega
    | ⟨1, _⟩ => show (i 2).val % 1024 = (i 2).val; omega

/-- The gradient of a shard: over the rows. -/
def whole (x : FVec Ideal S4x4224x704 .bf16) (w : FVec Ideal S4224x1024 .bf16) : FVec Ideal S4x704x1024 .bf16 :=
  fun i => (∑ r : Fin 4224, x (ix3 (i 0) r (i 1)) * w (ix2 r (i 2)) : EReal)

theorem whole_eq (x : FVec Ideal S4x4224x704 .bf16) (w : FVec Ideal S4224x1024 .bf16) (i : S4x704x1024.Idx) :
    whole x w i = ∑ p : Fin 3, ∑ k : Fin 1408, row x w i (p.val * 1408 + k.val) :=
  (Finset.sum_congr rfl fun r _ => (row_eq x w i r).symm).trans (shards 3 1408 (row x w i))

theorem G2_eq (c : Dev nD) : Value.G2 m c = whole (arg0 m c) (arg1 m c) := by
  funext i
  have hi0 : (i 0).val < 4 := (i 0).isLt
  have hi1 : (i 1).val < 704 := (i 1).isLt
  have hi2 : (i 2).val < 1024 := (i 2).isLt
  have hp : Value.pt2Of i = 3 * (i 0).val + 2 := by
    show 3 * (1 * ((i 0).val / 1 - 0) + 1 * ((i 1).val / 704 - 0) + 1 * ((i 2).val / 1024 - 0)) + 2 = _; omega
  have hlt : Value.pt2Of i < cfg0.N := lt_of_lt_of_eq (by omega : Value.pt2Of i < 12) N_0.symm
  have e : Value.G2 m c i = (outsAt0 m c (Value.pt2Of i) hlt).1 (Value.loc2Of i) := by
    unfold Value.G2
    rw [dif_pos hlt, ← Value.outsAt0_sweep m c _ hlt]
  have hl : Value.loc2Of i = ix3 (0 : Fin 1) (⟨(i 1).val % 704, by omega⟩ : Fin 704) (⟨(i 2).val % 1024, by omega⟩ : Fin 1024) :=
    funext fun a => match a with | ⟨0, _⟩ => Subsingleton.elim (α := Fin 1) _ _ | ⟨1, _⟩ => rfl | ⟨2, _⟩ => rfl
  rw [whole_eq, e, hl]
  refine (out_eq m c _ hlt (by omega) _ _).trans ((acc m c _ hlt _).trans ?_)
  rw [show Value.pt2Of i % 3 + 1 = 3 from by omega]
  exact (Finset.sum_range _).trans (Finset.sum_congr rfl fun p _ => term_apply m c i p _ (by omega))

end Cert.DownDwIdeal.Prod

/-! ## The reference -/

namespace Cert.DownDwRefIdeal.Prod

open Cert.DownDwRefIdeal Cert.DownDwRefIdeal.Gen Cert.Mm Idealize.ShloMosaic Idealize.ShloMosaic.ValueIdx
open scoped BigOperators

theorem val_eq (x : FVec Ideal S4x4224x704 .bf16) (w : FVec Ideal S4224x1024 .bf16) (i : S4x704x1024.Idx) :
    Read.val_main_v9 (F := Ideal) x w i = ∑ r : Fin 4224, x (ix3 (i 0) r (i 1)) * w (ix2 r (i 2)) := by
  have h0 : (i 0).val < 4 := (i 0).isLt
  have h1 : (i 1).val < 704 := (i 1).isLt
  have h2 : (i 2).val < 1024 := (i 2).isLt
  refine (Read.val_main_v9_apply (F := Ideal) x w i : _ = (Read.val_main_v8 (F := Ideal) x w i : EReal)).trans ?_
  rw [Read.val_main_v8_apply, Read.val_main_v7_apply, Read.val_main_v6_apply]
  refine Finset.sum_congr rfl fun k _ => ?_
  rw [Read.val_main_v3_apply, Read.val_main_v2_apply, Read.val_main_v1_apply, Read.val_main_v0_apply]
  have hk : k.val < 4224 := k.isLt
  refine (mul_comm (G := EReal) _ _).trans ?_
  refine congrArg₂ (· * ·) (congrArg x ?_) (congrArg w ?_)
  · funext d; apply Fin.ext
    match d with
    | ⟨0, _⟩ => show (k.val * 2816 + (((i 0).val * 704 + (i 1).val) * 1024 + (i 2).val) / 1024) / 704 % 4 = (i 0).val; omega
    | ⟨1, _⟩ => show (k.val * 2816 + (((i 0).val * 704 + (i 1).val) * 1024 + (i 2).val) / 1024) / 2816 = k.val; omega
    | ⟨2, _⟩ => show (k.val * 2816 + (((i 0).val * 704 + (i 1).val) * 1024 + (i 2).val) / 1024) % 704 = (i 1).val; omega
  · funext d; apply Fin.ext
    match d with
    | ⟨0, _⟩ => rfl
    | ⟨1, _⟩ => show (((i 0).val * 704 + (i 1).val) * 1024 + (i 2).val) % 1024 = (i 2).val; omega

end Cert.DownDwRefIdeal.Prod

/-! ## The claims -/

namespace Cert.Proof.DownDw

open Idealize.ShloMosaic Idealize.ShloMosaic.TcCoe Idealize.ShloMosaic.StableHlo Idealize.SL.Sem

theorem frame_k : quiescent_DownDw := fun m g _ => DownDw.Gen.frame m g
theorem frame_ki : quiescent_DownDwIdeal := fun m g _ => DownDwIdeal.Gen.frame m g
theorem frame_ri : quiescent_DownDwRefIdeal := fun m g _ =>
  (θ_run DownDwRefIdeal.defs _ _).mono (fun r h => ⟨fun c => (h c).2, sem_eq_zero_of_no_sems (by decide) r.2⟩)
    (DownDwRefIdeal.Value.run m g)

theorem equal : algebraic_DownDwIdeal_DownDwRefIdeal := fun m g m' g' _ hargs =>
  ⟨fun c => DownDwIdeal.Prod.whole (DownDwIdeal.Prod.arg0 m c) (DownDwIdeal.Prod.arg1 m c),
   (θ_run DownDwIdeal.defs _ _).mono (fun r h c => ⟨(h c).1.trans (DownDwIdeal.Prod.G2_eq m c), (h c).2⟩)
     (DownDwIdeal.Value.run m g),
   (θ_run DownDwRefIdeal.defs _ _).mono (fun r h c =>
      ⟨((h c).1.trans (DownDwRefIdeal.Read.val_main_v9_eq _ _)).trans
          ((congrArg₂ (fun a b => DownDwRefIdeal.Read.val_main_v9 (F := Ideal) a b) (hargs c).1 (hargs c).2).trans
            (funext fun i => DownDwRefIdeal.Prod.val_eq _ _ i)), (h c).2⟩)
     (DownDwRefIdeal.Value.run m' g')⟩

end Cert.Proof.DownDw

end
-- ==== Proof.Mm.ProjDx.lean ====
/-
  The product of a square projection's backward pass that gives the gradient of its input: the gradient of the output
  times the transpose of the weights. The kernel writes one tile of rows at each point; the reference takes the
  derivative of the whole product.
-/
module

public import proofs.«01_k».proof.Defs
public import proofs.«01_k».proof.Proof.Mm.Common
public import proofs.«01_k».proof.Proof.Gen.ProjDx.Frame
public import proofs.«01_k».proof.Proof.Gen.ProjDxIdeal.Value
public import proofs.«01_k».proof.Proof.Gen.ProjDxRefIdeal.Read
public import Idealize.ShloMosaic.Lib.Quiescent

@[expose] public section

noncomputable section

namespace Cert.ProjDxIdeal.Prod

open Cert.ProjDxIdeal Cert.ProjDxIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## The tile a point writes -/

theorem pay_apply (x : Vec Ideal S1408x1024 .bf16) (w : Vec Ideal S1x1024x1024 .bf16) (r : Fin 1408) (l : Fin 1024) :
    k0_pay1 x w (ix3 0 r l) = ∑ k : Fin 1024, x (ix2 r k) * w (ix3 0 l k) := by
  unfold k0_pay1
  refine (put _ shapeCasts_S1408x1024_S1x1408x1024 r l).trans ?_
  refine (nt (φ₁ := .bf16) (φ₂ := .bf16) x (shapeCast S1024x1024 w shapeCasts_S1x1024x1024_S1024x1024) r l).trans ?_
  exact Finset.sum_congr rfl fun k _ => congrArg (x (ix2 r k) * ·) (drop w shapeCasts_S1x1024x1024_S1024x1024 l k)

theorem out_eq (x : Vec Ideal S1408x1024 .bf16) (w : Vec Ideal S1x1024x1024 .bf16) : out0_2 x w = k0_pay1 x w := by
  unfold out0_2
  rw [View.canon_unit_zero (S := S1x1408x1024) zeros3, View.ld_unit_zero (S := S1408x1024) zeros2, View.ld_unit_zero (S := S1x1024x1024) zeros3]

/-! ## The blocks a point reads -/

theorem place : ∀ t : Fin cfg0.N, (win0_0.index t (0 : Fin 2) = t.val % 3 ∧ win0_0.index t (1 : Fin 2) = 0)
    ∧ (win0_1.index t (0 : Fin 3) = t.val / 3 ∧ win0_1.index t (1 : Fin 3) = 0 ∧ win0_1.index t (2 : Fin 3) = 0)
    ∧ (win0_2.index t (0 : Fin 3) = t.val / 3 ∧ win0_2.index t (1 : Fin 3) = t.val % 3 ∧ win0_2.index t (2 : Fin 3) = 0) :=
  (by decide +kernel : ∀ t : Fin grid0.N, _)

theorem lt_N (t : Fin cfg0.N) : t.val < 3 := lt_of_lt_of_eq t.isLt N_0

abbrev arg0 (c : Dev nD) : FVec Ideal S4224x1024 .bf16 := m ((c : Thread nD τ).loc main_arg0)
abbrev arg1 (c : Dev nD) : FVec Ideal S1x1024x1024 .bf16 := m ((c : Thread nD τ).loc main_arg1)

theorem blk0 (c : Dev nD) (t : Fin cfg0.N) (r : Fin 1408) (k : Fin 1024) : (iblk m c 0 t : Vec Ideal S1408x1024 .bf16) (ix2 r k) =
    arg0 m c (ix2 (⟨t.val % 3 * 1408 + r.val, by have := r.isLt; omega⟩ : Fin 4224) k) := by
  obtain ⟨⟨e0, e1⟩, -⟩ := place t
  unfold iblk
  rw [View.read_apply]
  refine congrArg (arg0 m c) (funext fun a => Fin.ext ?_)
  match a with
  | ⟨0, _⟩ => show win0_0.index t 0 * 1408 + 1 * r.val = t.val % 3 * 1408 + r.val; rw [e0]; omega
  | ⟨1, _⟩ => show win0_0.index t 1 * 1024 + 1 * k.val = k.val; rw [e1]; omega

theorem blk1 (c : Dev nD) (t : Fin cfg0.N) (p : Fin 1024) (q : Fin 1024) : (iblk m c 1 t : Vec Ideal S1x1024x1024 .bf16) (ix3 0 p q) =
    arg1 m c (ix3 (⟨t.val / 3, by have := lt_N t; omega⟩ : Fin 1) p q) := by
  obtain ⟨-, ⟨e0, e1, e2⟩, -⟩ := place t
  unfold iblk
  rw [View.read_apply]
  refine congrArg (arg1 m c) (funext fun a => Fin.ext ?_)
  match a with
  | ⟨0, _⟩ => show win0_1.index t 0 * 1 + 1 * 0 = t.val / 3; rw [e0]; omega
  | ⟨1, _⟩ => show win0_1.index t 1 * 1024 + 1 * p.val = p.val; rw [e1]; omega
  | ⟨2, _⟩ => show win0_1.index t 2 * 1024 + 1 * q.val = q.val; rw [e2]; omega

/-! ## The whole array -/

/-- A row of the left operand times a row of a shard. -/
def entry (x : FVec Ideal S4224x1024 .bf16) (w : FVec Ideal S1x1024x1024 .bf16) (j : Fin 1) (r : Fin 4224) (l : Fin 1024) : EReal :=
  ∑ k : Fin 1024, x (ix2 r k) * w (ix3 j l k)

/-- The result: shard by shard, row by row, column by column. -/
def whole (x : FVec Ideal S4224x1024 .bf16) (w : FVec Ideal S1x1024x1024 .bf16) : FVec Ideal S1x4224x1024 .bf16 := fun i => entry x w (i 0) (i 1) (i 2)

theorem flushed_eq (c : Dev nD) (t : Fin cfg0.N) :
    (dats m 0 c).flushed 2 t = ((cfg0.win 2).blk t).view.read (Elt Ideal) (whole (arg0 m c) (arg1 m c)) := by
  obtain ⟨-, -, e0, e1, e2⟩ := place t
  rw [Value.flushed2, out_eq]
  funext y
  have hy1 : (y 1).val < 1408 := (y 1).isLt
  have hy2 : (y 2).val < 1024 := (y 2).isLt
  show k0_pay1 (iblk m c 0 t) (iblk m c 1 t) ((cfg0.win 2).xinj (grid0.coords t) y) = whole (arg0 m c) (arg1 m c) (((cfg0.win 2).blk t).view.emb y)
  rw [show (cfg0.win 2).xinj (grid0.coords t) y = ix3 (0 : Fin 1) (⟨(y 1).val, hy1⟩ : Fin 1408) (⟨(y 2).val, hy2⟩ : Fin 1024) from
    funext fun a => match a with | ⟨0, _⟩ => Subsingleton.elim (α := Fin 1) _ _ | ⟨1, _⟩ => rfl | ⟨2, _⟩ => rfl, pay_apply]
  unfold whole entry
  refine Finset.sum_congr rfl fun k _ => congrArg₂ (· * ·) ((blk0 m c t _ k).trans (congrArg (arg0 m c) ?_)) ((blk1 m c t _ k).trans (congrArg (arg1 m c) ?_))
  · funext a; apply Fin.ext
    match a with
    | ⟨0, _⟩ => show t.val % 3 * 1408 + (y 1).val = win0_2.index t 1 * 1408 + 1 * (y 1).val; rw [e1]; omega
    | ⟨1, _⟩ => rfl
  · have hy0 : (y 0).val < 1 := (y 0).isLt
    funext a; apply Fin.ext
    match a with
    | ⟨0, _⟩ => show t.val / 3 = win0_2.index t 0 * 1 + 1 * (y 0).val; rw [e0]; omega
    | ⟨1, _⟩ => show (y 2).val = win0_2.index t 2 * 1024 + 1 * (y 2).val; rw [e2]; omega
    | ⟨2, _⟩ => rfl

theorem mem_blk (t : Fin cfg0.N) (i : S1x4224x1024.Idx) :
    i ∈ ((cfg0.win 2).blk t).view.set ↔ ∀ a : Fin 3, win0_2.index t a * S1x1408x1024.size a ≤ (i a).val ∧ (i a).val < win0_2.index t a * S1x1408x1024.size a + S1x1408x1024.size a := by
  show i ∈ ((View.whole main_v0).slice (win0_2.rect t)).set ↔ _
  rw [View.set_slice_whole, Rect.mem_set_unit]
  exact Iff.rfl

theorem covered (i : S1x4224x1024.Idx) : ∃ t : Fin cfg0.N, (cfg0.win 2).flush t = true ∧ i ∈ ((cfg0.win 2).blk t).view.set := by
  have h0 : (i 0).val < 1 := (i 0).isLt
  have h1 : (i 1).val < 4224 := (i 1).isLt
  have h2 : (i 2).val < 1024 := (i 2).isLt
  refine ⟨⟨(i 0).val * 3 + (i 1).val / 1408, lt_of_lt_of_eq (by omega : _ < 3) N_0.symm⟩, flush0_2 _, ?_⟩
  obtain ⟨-, -, e0, e1, e2⟩ := place ⟨(i 0).val * 3 + (i 1).val / 1408, lt_of_lt_of_eq (by omega : _ < 3) N_0.symm⟩
  rw [mem_blk]
  intro a
  match a with
  | ⟨0, _⟩ => show win0_2.index _ 0 * 1 ≤ (i 0).val ∧ (i 0).val < win0_2.index _ 0 * 1 + 1; rw [e0]; show ((i 0).val * 3 + (i 1).val / 1408) / 3 * 1 ≤ _ ∧ _ < ((i 0).val * 3 + (i 1).val / 1408) / 3 * 1 + 1; omega
  | ⟨1, _⟩ => show win0_2.index _ 1 * 1408 ≤ (i 1).val ∧ (i 1).val < win0_2.index _ 1 * 1408 + 1408; rw [e1]; show ((i 0).val * 3 + (i 1).val / 1408) % 3 * 1408 ≤ _ ∧ _ < ((i 0).val * 3 + (i 1).val / 1408) % 3 * 1408 + 1408; omega
  | ⟨2, _⟩ => show win0_2.index _ 2 * 1024 ≤ (i 2).val ∧ (i 2).val < win0_2.index _ 2 * 1024 + 1024; rw [e2]; omega

theorem final (c : Dev nD) : (dats m 0 c).arrAt 2 cfg0.N = whole (arg0 m c) (arg1 m c) :=
  (dats m 0 c).arrAt_eq_of_cover 2 _ (fun t _ => flushed_eq m c t) covered

end Cert.ProjDxIdeal.Prod

/-! ## The reference -/

namespace Cert.ProjDxRefIdeal.Prod

open Cert.ProjDxRefIdeal Cert.ProjDxRefIdeal.Gen Cert.Mm Idealize.ShloMosaic Idealize.ShloMosaic.ValueIdx
open scoped BigOperators

theorem val_eq (x : FVec Ideal S4224x1024 .bf16) (w : FVec Ideal S1x1024x1024 .bf16) (i : S1x4224x1024.Idx) :
    Read.val_main_v9 (F := Ideal) x w i = ∑ k : Fin 1024, x (ix2 (i 1) k) * w (ix3 (i 0) (i 2) k) := by
  have h0 : (i 0).val < 1 := (i 0).isLt
  have h1 : (i 1).val < 4224 := (i 1).isLt
  have h2 : (i 2).val < 1024 := (i 2).isLt
  refine (Read.val_main_v9_apply (F := Ideal) x w i : _ = (Read.val_main_v8 (F := Ideal) x w i : EReal)).trans ?_
  rw [Read.val_main_v8_apply, Read.val_main_v7_apply, Read.val_main_v6_apply]
  refine Finset.sum_congr rfl fun k _ => ?_
  rw [Read.val_main_v3_apply, Read.val_main_v2_apply, Read.val_main_v1_apply, Read.val_main_v0_apply]
  have hk : k.val < 1024 := k.isLt
  refine congrArg₂ (· * ·) (congrArg x ?_) (congrArg w ?_)
  · funext a; apply Fin.ext
    match a with
    | ⟨0, _⟩ => show (((i 1).val * 1 + (i 0).val) * 1024 + (i 2).val) / 1024 = (i 1).val; omega
    | ⟨1, _⟩ => rfl
  · funext a; apply Fin.ext
    match a with
    | ⟨0, _⟩ => exact congrArg Fin.val (Subsingleton.elim (α := Fin 1) _ _)
    | ⟨1, _⟩ => show (((((i 1).val * 1 + (i 0).val) * 1024 + (i 2).val) % 1024) * 1024 + k.val) / 1024 = (i 2).val; omega
    | ⟨2, _⟩ => show (((((i 1).val * 1 + (i 0).val) * 1024 + (i 2).val) % 1024) * 1024 + k.val) % 1024 = k.val; omega

end Cert.ProjDxRefIdeal.Prod

/-! ## The claims -/

namespace Cert.Proof.ProjDx

open Idealize.ShloMosaic Idealize.ShloMosaic.TcCoe Idealize.ShloMosaic.StableHlo Idealize.SL.Sem

theorem frame_k : quiescent_ProjDx := fun m g _ => ProjDx.Gen.frame m g
theorem frame_ki : quiescent_ProjDxIdeal := fun m g _ => ProjDxIdeal.Gen.frame m g
theorem frame_ri : quiescent_ProjDxRefIdeal := fun m g _ =>
  (θ_run ProjDxRefIdeal.defs _ _).mono (fun r h => ⟨fun c => (h c).2, sem_eq_zero_of_no_sems (by decide) r.2⟩)
    (ProjDxRefIdeal.Value.run m g)

theorem equal : algebraic_ProjDxIdeal_ProjDxRefIdeal := fun m g m' g' _ hargs =>
  ⟨fun c => ProjDxIdeal.Prod.whole (ProjDxIdeal.Prod.arg0 m c) (ProjDxIdeal.Prod.arg1 m c),
   (θ_run ProjDxIdeal.defs _ _).mono (fun r h c => ⟨(h c).1.trans (ProjDxIdeal.Prod.final m c), (h c).2⟩)
     (ProjDxIdeal.Value.run_blocks m g),
   (θ_run ProjDxRefIdeal.defs _ _).mono (fun r h c =>
      ⟨((h c).1.trans (ProjDxRefIdeal.Read.val_main_v9_eq _ _)).trans
          ((congrArg₂ (fun a b => ProjDxRefIdeal.Read.val_main_v9 (F := Ideal) a b) (hargs c).1 (hargs c).2).trans
            (funext fun i => ProjDxRefIdeal.Prod.val_eq _ _ i)), (h c).2⟩)
     (ProjDxRefIdeal.Value.run m' g')⟩

end Cert.Proof.ProjDx

end
-- ==== Proof.Mm.ProjDw.lean ====
/-
  The product of a square projection's backward pass that gives the gradient of the weights: the transpose of
  the input times the gradient of the output. The kernel adds one tile of rows at each point into an
  accumulator and writes it out after the third; the reference takes the derivative of the whole product. Both are the
  same sum over the reals.
-/
module

public import proofs.«01_k».proof.Defs
public import proofs.«01_k».proof.Proof.Mm.Common
public import proofs.«01_k».proof.Proof.Gen.ProjDw.Frame
public import proofs.«01_k».proof.Proof.Gen.ProjDwIdeal.Value
public import proofs.«01_k».proof.Proof.Gen.ProjDwRefIdeal.Read
public import Idealize.ShloMosaic.Lib.Quiescent

@[expose] public section

noncomputable section

namespace Cert.ProjDwIdeal.Prod

open Cert.ProjDwIdeal Cert.ProjDwIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## What a point adds -/

/-- The product of a point's two blocks, over their rows. -/
def prod (x : Vec Ideal S1408x1024 .bf16) (w : Vec Ideal S1408x1024 .bf16) : FVec Ideal S1024x1024 .f32 :=
  matmul (φ₁ := .bf16) (φ₂ := .bf16) dot_S1408x1024_S1408x1024_S1024x1024_0_0_1_1_n_n none x w (constant S1024x1024 .f32 0x00000000#32)

theorem prod_apply (x : Vec Ideal S1408x1024 .bf16) (w : Vec Ideal S1408x1024 .bf16) (a : Fin 1024) (b : Fin 1024) :
    prod x w (ix2 a b) = ∑ k : Fin 1408, x (ix2 k a) * w (ix2 k b) := by
  refine (tn (φ₁ := .bf16) (φ₂ := .bf16) x w a b).trans ?_
  exact Finset.sum_congr rfl fun k _ => congrArg₂ (· * ·) (rfl) (rfl)

theorem pay1_apply (y : S1024x1024.Idx) : k0_pay1 (F := Ideal) y = 0 := by
  unfold k0_pay1
  rw [shapeCast_self]
  exact Ideal.ofBits_zero_f32

theorem pay2_apply (s : Vec Ideal S1024x1024 .f32) (x : Vec Ideal S1408x1024 .bf16) (w : Vec Ideal S1408x1024 .bf16) (y : S1024x1024.Idx) :
    k0_pay2 s x w y = s y + prod x w y := by
  unfold k0_pay2
  rw [shapeCast_self]
  rfl

theorem pay3_apply (s : Vec Ideal S1024x1024 .f32) (a : Fin 1024) (b : Fin 1024) : k0_pay3 s (ix3 0 a b) = s (ix2 a b) := by
  unfold k0_pay3
  exact put _ shapeCasts_S1024x1024_S1x1024x1024 a b

section

variable (c : Dev nD) (i : grid0.Coords) (a2 : Memref sig .tc .vmem S1408x1024 .bf16) (h2 : a2.IsWhole) (a3 : Memref sig .tc .vmem S1408x1024 .bf16) (h3 : a3.IsWhole)
    (a4 : Memref sig .tc .vmem S1x1024x1024 .bf16) (h4 : a4.IsWhole) (a5 : Memref sig .tc .vmem S1024x1024 .f32) (h5 : a5.IsWhole)
  (x : Vec Ideal S1408x1024 .bf16) (w : Vec Ideal S1408x1024 .bf16) (s : Vec Ideal S1024x1024 .f32) (y : S1024x1024.Idx)

theorem first (hc0) (hc1) :
    sout0_A_0 c i a2 h2 a3 h3 a4 h4 a5 h5 hc0 hc1 x w y = prod x w y := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S1024x1024) zeros2, View.readCov_unit_zero (S := S1024x1024) _ zeros2]
  simp only [View.readAt_eq_ld, h2.read_unread, h3.read_unread, View.ld_unit_zero (S := S1408x1024) zeros2]
  rw [pay2_apply, pay1_apply, zero_add]

theorem next (hc0) (hc1) :
    sout0_B_0 c i a2 h2 a3 h3 a4 h4 a5 h5 hc0 hc1 x w s y = s y + prod x w y := by
  unfold sout0_B_0
  rw [View.read_writes_eq_canon _ _ _ (scover0_B_0 c i a2 h2 a3 h3 a4 h4 a5 h5 hc0 hc1 x w s)]
  unfold kernelRun0_B
  dsimp only
  rw [View.canon_unit_zero (S := S1024x1024) zeros2]
  simp only [View.readAt_eq_ld, h2.read_unread, h3.read_unread, h5.read_unread, View.ld_unit_zero (S := S1024x1024) zeros2, View.ld_unit_zero (S := S1408x1024) zeros2]
  rw [pay2_apply]

theorem last (hc0) (hc1) :
    sout0_C_0 c i a2 h2 a3 h3 a4 h4 a5 h5 hc0 hc1 x w s y = s y + prod x w y := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero (S := S1024x1024) zeros2]
  simp only [View.readAt_eq_ld, h2.read_unread, h3.read_unread, h5.read_unread, View.ld_unit_zero (S := S1024x1024) zeros2, View.ld_unit_zero (S := S1408x1024) zeros2]
  rw [pay2_apply]

theorem written (c : Dev nD) (i : grid0.Coords) (a2 : Memref sig .tc .vmem S1408x1024 .bf16) (h2 : a2.IsWhole) (a3 : Memref sig .tc .vmem S1408x1024 .bf16) (h3 : a3.IsWhole)
    (a4 : Memref sig .tc .vmem S1x1024x1024 .bf16) (h4 : a4.IsWhole) (a5 : Memref sig .tc .vmem S1024x1024 .f32) (h5 : a5.IsWhole) (hc0) (hc1)
    (x : Vec Ideal S1408x1024 .bf16) (w : Vec Ideal S1408x1024 .bf16) (s : Vec Ideal S1024x1024 .f32) (a : Fin 1024) (b : Fin 1024) :
    out0_C_2 c i a2 h2 a3 h3 a4 h4 a5 h5 hc0 hc1 x w s (ix3 0 a b) = s (ix2 a b) + prod x w (ix2 a b) := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero (S := S1x1024x1024) zeros3, View.readCov_unit_zero (S := S1024x1024) _ zeros2]
  simp only [View.readAt_eq_ld, h2.read_unread, h3.read_unread, h5.read_unread, View.ld_unit_zero (S := S1024x1024) zeros2, View.ld_unit_zero (S := S1408x1024) zeros2]
  rw [pay3_apply, pay2_apply]

end

/-! ## The blocks a point reads -/

theorem place : ∀ t : Fin cfg0.N, (win0_0.index t (0 : Fin 2) = t.val % 3 ∧ win0_0.index t (1 : Fin 2) = 0)
    ∧ (win0_1.index t (0 : Fin 2) = t.val % 3 ∧ win0_1.index t (1 : Fin 2) = 0) :=
  (by decide +kernel : ∀ t : Fin grid0.N, _)

theorem lt_N (t : Fin cfg0.N) : t.val < 3 := lt_of_lt_of_eq t.isLt N_0

abbrev arg0 (c : Dev nD) : FVec Ideal S4224x1024 .bf16 := m ((c : Thread nD τ).loc main_arg0)
abbrev arg1 (c : Dev nD) : FVec Ideal S4224x1024 .bf16 := m ((c : Thread nD τ).loc main_arg1)

theorem blk0 (c : Dev nD) (t : Fin cfg0.N) (r : Fin 1408) (a : Fin 1024) : (iblk m c 0 t : Vec Ideal S1408x1024 .bf16) (ix2 r a) =
    arg0 m c (ix2 (⟨t.val % 3 * 1408 + r.val, by have := r.isLt; omega⟩ : Fin 4224) a) := by
  obtain ⟨⟨e0, e1⟩, -⟩ := place t
  unfold iblk
  rw [View.read_apply]
  refine congrArg (arg0 m c) (funext fun d => Fin.ext ?_)
  match d with
  | ⟨0, _⟩ => show win0_0.index t 0 * 1408 + 1 * r.val = t.val % 3 * 1408 + r.val; rw [e0]; omega
  | ⟨1, _⟩ => show win0_0.index t 1 * 1024 + 1 * a.val = a.val; rw [e1]; omega

theorem blk1 (c : Dev nD) (t : Fin cfg0.N) (r : Fin 1408) (a : Fin 1024) : (iblk m c 1 t : Vec Ideal S1408x1024 .bf16) (ix2 r a) =
    arg1 m c (ix2 (⟨t.val % 3 * 1408 + r.val, by have := r.isLt; omega⟩ : Fin 4224) a) := by
  obtain ⟨-, ⟨e0, e1⟩⟩ := place t
  unfold iblk
  rw [View.read_apply]
  refine congrArg (arg1 m c) (funext fun d => Fin.ext ?_)
  match d with
  | ⟨0, _⟩ => show win0_1.index t 0 * 1408 + 1 * r.val = t.val % 3 * 1408 + r.val; rw [e0]; omega
  | ⟨1, _⟩ => show win0_1.index t 1 * 1024 + 1 * a.val = a.val; rw [e1]; omega

/-! ## The accumulator -/

/-- What point `n` adds at an index of the tile, for every number `n`. -/
def term (c : Dev nD) (n : ℕ) (y : S1024x1024.Idx) : EReal :=
  if h : n < cfg0.N then prod (iblk m c 0 ⟨n, h⟩) (iblk m c 1 ⟨n, h⟩) y else 0

theorem acc (c : Dev nD) (n : ℕ) (h : n < cfg0.N) (y : S1024x1024.Idx) :
    (outsAt0 m c n h).2 y = ∑ q ∈ Finset.range (n % 3 + 1), term m c (n - n % 3 + q) y := by
  refine fold (by decide) (fun n h y => (outsAt0 m c n h).2 y) (term m c) (fun n h y hn => ?_) (fun n h y hn => ?_) n h y
  · have h1 : ¬(⟨n, h⟩ : Fin cfg0.N).val % 3 = 2 := by show ¬n % 3 = 2; omega
    refine (congrFun (congrArg Prod.snd (outsAt0_A m c ⟨n, h⟩ hn h1)) y).trans ?_
    dsimp only
    rw [first]
    unfold term
    rw [dif_pos h]
  · have h0 : ¬(⟨n + 1, h⟩ : Fin cfg0.N).val % 3 = 0 := hn
    have ht : term m c (n + 1) y = prod (iblk m c 0 ⟨n + 1, h⟩) (iblk m c 1 ⟨n + 1, h⟩) y := dif_pos h
    rw [ht]
    by_cases h1 : (⟨n + 1, h⟩ : Fin cfg0.N).val % 3 = 2
    · refine (congrFun (congrArg Prod.snd (outsAt0_C m c ⟨n + 1, h⟩ h0 h1)) y).trans ?_
      dsimp only
      rw [last]; rfl
    · refine (congrFun (congrArg Prod.snd (outsAt0_B m c ⟨n + 1, h⟩ h0 h1)) y).trans ?_
      dsimp only
      rw [next]; rfl

/-- What the last point of a shard writes out is the accumulator. -/
theorem out_eq (c : Dev nD) (n : ℕ) (h : n < cfg0.N) (hn : n % 3 = 2) (a : Fin 1024) (b : Fin 1024) :
    (outsAt0 m c n h).1 (ix3 0 a b) = (outsAt0 m c n h).2 (ix2 a b) := by
  have h0 : ¬(⟨n, h⟩ : Fin cfg0.N).val % 3 = 0 := by show ¬n % 3 = 0; omega
  have e := outsAt0_C m c ⟨n, h⟩ h0 hn
  refine (congrFun (congrArg Prod.fst e) (ix3 0 a b)).trans ((?_ : _ = _).trans (congrFun (congrArg Prod.snd e) (ix2 a b)).symm)
  dsimp only
  rw [written, last]

/-- The term of row `n` of the two operands. -/
def row (x : FVec Ideal S4224x1024 .bf16) (w : FVec Ideal S4224x1024 .bf16) (i : S1x1024x1024.Idx) (n : ℕ) : EReal :=
  x (ix2 (⟨n % 4224, by omega⟩ : Fin 4224) (i 1)) * w (ix2 (⟨n % 4224, by omega⟩ : Fin 4224) (i 2))

theorem row_eq (x : FVec Ideal S4224x1024 .bf16) (w : FVec Ideal S4224x1024 .bf16) (i : S1x1024x1024.Idx) (r : Fin 4224) :
    row x w i r.val = x (ix2 r (i 1)) * w (ix2 r (i 2)) := by
  have hr := r.isLt
  have e : (⟨r.val % 4224, by omega⟩ : Fin 4224) = r := Fin.ext (by show r.val % 4224 = r.val; omega)
  unfold row
  rw [e]

theorem term_apply (c : Dev nD) (i : S1x1024x1024.Idx) (p : Fin 3) (n : ℕ) (hn : n = 3 * (i 0).val + p.val) :
    term m c n (ix2 (⟨(i 1).val % 1024, by omega⟩ : Fin 1024) (⟨(i 2).val % 1024, by omega⟩ : Fin 1024)) = ∑ k : Fin 1408, row (arg0 m c) (arg1 m c) i (p.val * 1408 + k.val) := by
  have hi0 : (i 0).val < 1 := (i 0).isLt
  have hi1 : (i 1).val < 1024 := (i 1).isLt
  have hi2 : (i 2).val < 1024 := (i 2).isLt
  have hp := p.isLt
  have hlt : n < cfg0.N := lt_of_lt_of_eq (by omega : n < 3) N_0.symm
  unfold term
  rw [dif_pos hlt, prod_apply]
  refine Finset.sum_congr rfl fun k _ => ?_
  have hk := k.isLt
  refine Eq.trans ?_ (row_eq (arg0 m c) (arg1 m c) i ⟨p.val * 1408 + k.val, by omega⟩).symm
  refine congrArg₂ (· * ·) ((blk0 m c _ _ _).trans (congrArg (arg0 m c) ?_)) ((blk1 m c _ _ _).trans (congrArg (arg1 m c) ?_))
  · funext d; apply Fin.ext
    match d with
    | ⟨0, _⟩ => show n % 3 * 1408 + k.val = p.val * 1408 + k.val; omega
    | ⟨1, _⟩ => show (i 1).val % 1024 = (i 1).val; omega
  · funext d; apply Fin.ext
    match d with
    | ⟨0, _⟩ => show n % 3 * 1408 + k.val = p.val * 1408 + k.val; omega
    | ⟨1, _⟩ => show (i 2).val % 1024 = (i 2).val; omega

/-- The gradient of a shard: over the rows. -/
def whole (x : FVec Ideal S4224x1024 .bf16) (w : FVec Ideal S4224x1024 .bf16) : FVec Ideal S1x1024x1024 .bf16 :=
  fun i => (∑ r : Fin 4224, x (ix2 r (i 1)) * w (ix2 r (i 2)) : EReal)

theorem whole_eq (x : FVec Ideal S4224x1024 .bf16) (w : FVec Ideal S4224x1024 .bf16) (i : S1x1024x1024.Idx) :
    whole x w i = ∑ p : Fin 3, ∑ k : Fin 1408, row x w i (p.val * 1408 + k.val) :=
  (Finset.sum_congr rfl fun r _ => (row_eq x w i r).symm).trans (shards 3 1408 (row x w i))

theorem G2_eq (c : Dev nD) : Value.G2 m c = whole (arg0 m c) (arg1 m c) := by
  funext i
  have hi0 : (i 0).val < 1 := (i 0).isLt
  have hi1 : (i 1).val < 1024 := (i 1).isLt
  have hi2 : (i 2).val < 1024 := (i 2).isLt
  have hp : Value.pt2Of i = 3 * (i 0).val + 2 := by
    show 3 * (1 * ((i 0).val / 1 - 0) + 1 * ((i 1).val / 1024 - 0) + 1 * ((i 2).val / 1024 - 0)) + 2 = _; omega
  have hlt : Value.pt2Of i < cfg0.N := lt_of_lt_of_eq (by omega : Value.pt2Of i < 3) N_0.symm
  have e : Value.G2 m c i = (outsAt0 m c (Value.pt2Of i) hlt).1 (Value.loc2Of i) := by
    unfold Value.G2
    rw [dif_pos hlt, ← Value.outsAt0_sweep m c _ hlt]
  have hl : Value.loc2Of i = ix3 (0 : Fin 1) (⟨(i 1).val % 1024, by omega⟩ : Fin 1024) (⟨(i 2).val % 1024, by omega⟩ : Fin 1024) :=
    funext fun a => match a with | ⟨0, _⟩ => Subsingleton.elim (α := Fin 1) _ _ | ⟨1, _⟩ => rfl | ⟨2, _⟩ => rfl
  rw [whole_eq, e, hl]
  refine (out_eq m c _ hlt (by omega) _ _).trans ((acc m c _ hlt _).trans ?_)
  rw [show Value.pt2Of i % 3 + 1 = 3 from by omega]
  exact (Finset.sum_range _).trans (Finset.sum_congr rfl fun p _ => term_apply m c i p _ (by omega))

end Cert.ProjDwIdeal.Prod

/-! ## The reference -/

namespace Cert.ProjDwRefIdeal.Prod

open Cert.ProjDwRefIdeal Cert.ProjDwRefIdeal.Gen Cert.Mm Idealize.ShloMosaic Idealize.ShloMosaic.ValueIdx
open scoped BigOperators

theorem val_eq (x : FVec Ideal S4224x1024 .bf16) (w : FVec Ideal S4224x1024 .bf16) (i : S1x1024x1024.Idx) :
    Read.val_main_v8 (F := Ideal) x w i = ∑ r : Fin 4224, x (ix2 r (i 1)) * w (ix2 r (i 2)) := by
  have h0 : (i 0).val < 1 := (i 0).isLt
  have h1 : (i 1).val < 1024 := (i 1).isLt
  have h2 : (i 2).val < 1024 := (i 2).isLt
  refine (Read.val_main_v8_apply (F := Ideal) x w i : _ = (Read.val_main_v7 (F := Ideal) x w i : EReal)).trans ?_
  rw [Read.val_main_v7_apply, Read.val_main_v6_apply, Read.val_main_v5_apply, Read.val_main_v4_apply]
  refine Finset.sum_congr rfl fun k _ => ?_
  rw [Read.val_main_v1_apply, Read.val_main_v0_apply]
  have hk : k.val < 4224 := k.isLt
  refine (mul_comm (G := EReal) _ _).trans ?_
  refine congrArg₂ (· * ·) (congrArg x ?_) (congrArg w ?_)
  · funext d; apply Fin.ext
    match d with
    | ⟨0, _⟩ => rfl
    | ⟨1, _⟩ => show (((i 1).val * 1 + (i 0).val) * 1024 + (i 2).val) / 1024 = (i 1).val; omega
  · funext d; apply Fin.ext
    match d with
    | ⟨0, _⟩ => rfl
    | ⟨1, _⟩ => show (((i 1).val * 1 + (i 0).val) * 1024 + (i 2).val) % 1024 = (i 2).val; omega

end Cert.ProjDwRefIdeal.Prod

/-! ## The claims -/

namespace Cert.Proof.ProjDw

open Idealize.ShloMosaic Idealize.ShloMosaic.TcCoe Idealize.ShloMosaic.StableHlo Idealize.SL.Sem

theorem frame_k : quiescent_ProjDw := fun m g _ => ProjDw.Gen.frame m g
theorem frame_ki : quiescent_ProjDwIdeal := fun m g _ => ProjDwIdeal.Gen.frame m g
theorem frame_ri : quiescent_ProjDwRefIdeal := fun m g _ =>
  (θ_run ProjDwRefIdeal.defs _ _).mono (fun r h => ⟨fun c => (h c).2, sem_eq_zero_of_no_sems (by decide) r.2⟩)
    (ProjDwRefIdeal.Value.run m g)

theorem equal : algebraic_ProjDwIdeal_ProjDwRefIdeal := fun m g m' g' _ hargs =>
  ⟨fun c => ProjDwIdeal.Prod.whole (ProjDwIdeal.Prod.arg0 m c) (ProjDwIdeal.Prod.arg1 m c),
   (θ_run ProjDwIdeal.defs _ _).mono (fun r h c => ⟨(h c).1.trans (ProjDwIdeal.Prod.G2_eq m c), (h c).2⟩)
     (ProjDwIdeal.Value.run m g),
   (θ_run ProjDwRefIdeal.defs _ _).mono (fun r h c =>
      ⟨((h c).1.trans (ProjDwRefIdeal.Read.val_main_v8_eq _ _)).trans
          ((congrArg₂ (fun a b => ProjDwRefIdeal.Read.val_main_v8 (F := Ideal) a b) (hargs c).1 (hargs c).2).trans
            (funext fun i => ProjDwRefIdeal.Prod.val_eq _ _ i)), (h c).2⟩)
     (ProjDwRefIdeal.Value.run m' g')⟩

end Cert.Proof.ProjDw

end
-- ==== Proof.Mm.InFwd.lean ====
/-
  The product of the input projection, a shard of the result for each shard of the weights. The kernel
  writes one tile of rows of one shard at each point; the reference is the whole product, cut into shards.
-/
module

public import proofs.«01_k».proof.Defs
public import proofs.«01_k».proof.Proof.Mm.Common
public import proofs.«01_k».proof.Proof.Gen.InFwd.Frame
public import proofs.«01_k».proof.Proof.Gen.InFwdIdeal.Value
public import proofs.«01_k».proof.Proof.Gen.InFwdRefIdeal.Read
public import Idealize.ShloMosaic.Lib.Quiescent

@[expose] public section

noncomputable section

namespace Cert.InFwdIdeal.Prod

open Cert.InFwdIdeal Cert.InFwdIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## The tile a point writes -/

theorem pay_apply (x : Vec Ideal S1408x1024 .bf16) (w : Vec Ideal S1x1024x1024 .bf16) (r : Fin 1408) (l : Fin 1024) :
    k0_pay1 x w (ix3 0 r l) = ∑ k : Fin 1024, x (ix2 r k) * w (ix3 0 k l) := by
  unfold k0_pay1
  refine (put _ shapeCasts_S1408x1024_S1x1408x1024 r l).trans ?_
  refine (nn (φ₁ := .bf16) (φ₂ := .bf16) x (shapeCast S1024x1024 w shapeCasts_S1x1024x1024_S1024x1024) r l).trans ?_
  exact Finset.sum_congr rfl fun k _ => congrArg (x (ix2 r k) * ·) (drop w shapeCasts_S1x1024x1024_S1024x1024 k l)

theorem out_eq (x : Vec Ideal S1408x1024 .bf16) (w : Vec Ideal S1x1024x1024 .bf16) : out0_2 x w = k0_pay1 x w := by
  unfold out0_2
  rw [View.canon_unit_zero (S := S1x1408x1024) zeros3, View.ld_unit_zero (S := S1408x1024) zeros2, View.ld_unit_zero (S := S1x1024x1024) zeros3]

/-! ## The blocks a point reads -/

theorem place : ∀ t : Fin cfg0.N, (win0_0.index t (0 : Fin 2) = t.val % 3 ∧ win0_0.index t (1 : Fin 2) = 0)
    ∧ (win0_1.index t (0 : Fin 3) = t.val / 3 ∧ win0_1.index t (1 : Fin 3) = 0 ∧ win0_1.index t (2 : Fin 3) = 0)
    ∧ (win0_2.index t (0 : Fin 3) = t.val / 3 ∧ win0_2.index t (1 : Fin 3) = t.val % 3 ∧ win0_2.index t (2 : Fin 3) = 0) :=
  (by decide +kernel : ∀ t : Fin grid0.N, _)

theorem lt_N (t : Fin cfg0.N) : t.val < 24 := lt_of_lt_of_eq t.isLt N_0

abbrev arg0 (c : Dev nD) : FVec Ideal S4224x1024 .bf16 := m ((c : Thread nD τ).loc main_arg0)
abbrev arg1 (c : Dev nD) : FVec Ideal S8x1024x1024 .bf16 := m ((c : Thread nD τ).loc main_arg1)

theorem blk0 (c : Dev nD) (t : Fin cfg0.N) (r : Fin 1408) (k : Fin 1024) : (iblk m c 0 t : Vec Ideal S1408x1024 .bf16) (ix2 r k) =
    arg0 m c (ix2 (⟨t.val % 3 * 1408 + r.val, by have := r.isLt; omega⟩ : Fin 4224) k) := by
  obtain ⟨⟨e0, e1⟩, -⟩ := place t
  unfold iblk
  rw [View.read_apply]
  refine congrArg (arg0 m c) (funext fun a => Fin.ext ?_)
  match a with
  | ⟨0, _⟩ => show win0_0.index t 0 * 1408 + 1 * r.val = t.val % 3 * 1408 + r.val; rw [e0]; omega
  | ⟨1, _⟩ => show win0_0.index t 1 * 1024 + 1 * k.val = k.val; rw [e1]; omega

theorem blk1 (c : Dev nD) (t : Fin cfg0.N) (p : Fin 1024) (q : Fin 1024) : (iblk m c 1 t : Vec Ideal S1x1024x1024 .bf16) (ix3 0 p q) =
    arg1 m c (ix3 (⟨t.val / 3, by have := lt_N t; omega⟩ : Fin 8) p q) := by
  obtain ⟨-, ⟨e0, e1, e2⟩, -⟩ := place t
  unfold iblk
  rw [View.read_apply]
  refine congrArg (arg1 m c) (funext fun a => Fin.ext ?_)
  match a with
  | ⟨0, _⟩ => show win0_1.index t 0 * 1 + 1 * 0 = t.val / 3; rw [e0]; omega
  | ⟨1, _⟩ => show win0_1.index t 1 * 1024 + 1 * p.val = p.val; rw [e1]; omega
  | ⟨2, _⟩ => show win0_1.index t 2 * 1024 + 1 * q.val = q.val; rw [e2]; omega

/-! ## The whole array -/

/-- A row of the left operand times a column of a shard. -/
def entry (x : FVec Ideal S4224x1024 .bf16) (w : FVec Ideal S8x1024x1024 .bf16) (j : Fin 8) (r : Fin 4224) (l : Fin 1024) : EReal :=
  ∑ k : Fin 1024, x (ix2 r k) * w (ix3 j k l)

/-- The result: shard by shard, row by row, column by column. -/
def whole (x : FVec Ideal S4224x1024 .bf16) (w : FVec Ideal S8x1024x1024 .bf16) : FVec Ideal S8x4224x1024 .bf16 := fun i => entry x w (i 0) (i 1) (i 2)

theorem flushed_eq (c : Dev nD) (t : Fin cfg0.N) :
    (dats m 0 c).flushed 2 t = ((cfg0.win 2).blk t).view.read (Elt Ideal) (whole (arg0 m c) (arg1 m c)) := by
  obtain ⟨-, -, e0, e1, e2⟩ := place t
  rw [Value.flushed2, out_eq]
  funext y
  have hy1 : (y 1).val < 1408 := (y 1).isLt
  have hy2 : (y 2).val < 1024 := (y 2).isLt
  show k0_pay1 (iblk m c 0 t) (iblk m c 1 t) ((cfg0.win 2).xinj (grid0.coords t) y) = whole (arg0 m c) (arg1 m c) (((cfg0.win 2).blk t).view.emb y)
  rw [show (cfg0.win 2).xinj (grid0.coords t) y = ix3 (0 : Fin 1) (⟨(y 1).val, hy1⟩ : Fin 1408) (⟨(y 2).val, hy2⟩ : Fin 1024) from
    funext fun a => match a with | ⟨0, _⟩ => Subsingleton.elim (α := Fin 1) _ _ | ⟨1, _⟩ => rfl | ⟨2, _⟩ => rfl, pay_apply]
  unfold whole entry
  refine Finset.sum_congr rfl fun k _ => congrArg₂ (· * ·) ((blk0 m c t _ k).trans (congrArg (arg0 m c) ?_)) ((blk1 m c t k _).trans (congrArg (arg1 m c) ?_))
  · funext a; apply Fin.ext
    match a with
    | ⟨0, _⟩ => show t.val % 3 * 1408 + (y 1).val = win0_2.index t 1 * 1408 + 1 * (y 1).val; rw [e1]; omega
    | ⟨1, _⟩ => rfl
  · have hy0 : (y 0).val < 1 := (y 0).isLt
    funext a; apply Fin.ext
    match a with
    | ⟨0, _⟩ => show t.val / 3 = win0_2.index t 0 * 1 + 1 * (y 0).val; rw [e0]; omega
    | ⟨2, _⟩ => show (y 2).val = win0_2.index t 2 * 1024 + 1 * (y 2).val; rw [e2]; omega
    | ⟨1, _⟩ => rfl

theorem mem_blk (t : Fin cfg0.N) (i : S8x4224x1024.Idx) :
    i ∈ ((cfg0.win 2).blk t).view.set ↔ ∀ a : Fin 3, win0_2.index t a * S1x1408x1024.size a ≤ (i a).val ∧ (i a).val < win0_2.index t a * S1x1408x1024.size a + S1x1408x1024.size a := by
  show i ∈ ((View.whole main_v0).slice (win0_2.rect t)).set ↔ _
  rw [View.set_slice_whole, Rect.mem_set_unit]
  exact Iff.rfl

theorem covered (i : S8x4224x1024.Idx) : ∃ t : Fin cfg0.N, (cfg0.win 2).flush t = true ∧ i ∈ ((cfg0.win 2).blk t).view.set := by
  have h0 : (i 0).val < 8 := (i 0).isLt
  have h1 : (i 1).val < 4224 := (i 1).isLt
  have h2 : (i 2).val < 1024 := (i 2).isLt
  refine ⟨⟨(i 0).val * 3 + (i 1).val / 1408, lt_of_lt_of_eq (by omega : _ < 24) N_0.symm⟩, flush0_2 _, ?_⟩
  obtain ⟨-, -, e0, e1, e2⟩ := place ⟨(i 0).val * 3 + (i 1).val / 1408, lt_of_lt_of_eq (by omega : _ < 24) N_0.symm⟩
  rw [mem_blk]
  intro a
  match a with
  | ⟨0, _⟩ => show win0_2.index _ 0 * 1 ≤ (i 0).val ∧ (i 0).val < win0_2.index _ 0 * 1 + 1; rw [e0]; show ((i 0).val * 3 + (i 1).val / 1408) / 3 * 1 ≤ _ ∧ _ < ((i 0).val * 3 + (i 1).val / 1408) / 3 * 1 + 1; omega
  | ⟨1, _⟩ => show win0_2.index _ 1 * 1408 ≤ (i 1).val ∧ (i 1).val < win0_2.index _ 1 * 1408 + 1408; rw [e1]; show ((i 0).val * 3 + (i 1).val / 1408) % 3 * 1408 ≤ _ ∧ _ < ((i 0).val * 3 + (i 1).val / 1408) % 3 * 1408 + 1408; omega
  | ⟨2, _⟩ => show win0_2.index _ 2 * 1024 ≤ (i 2).val ∧ (i 2).val < win0_2.index _ 2 * 1024 + 1024; rw [e2]; omega

theorem final (c : Dev nD) : (dats m 0 c).arrAt 2 cfg0.N = whole (arg0 m c) (arg1 m c) :=
  (dats m 0 c).arrAt_eq_of_cover 2 _ (fun t _ => flushed_eq m c t) covered

end Cert.InFwdIdeal.Prod

/-! ## The reference -/

namespace Cert.InFwdRefIdeal.Prod

open Cert.InFwdRefIdeal Cert.InFwdRefIdeal.Gen Cert.Mm Idealize.ShloMosaic Idealize.ShloMosaic.ValueIdx
open scoped BigOperators

theorem val_eq (x : FVec Ideal S4224x1024 .bf16) (w : FVec Ideal S8x1024x1024 .bf16) (i : S8x4224x1024.Idx) :
    Read.val_main_v7 (F := Ideal) x w i = ∑ k : Fin 1024, x (ix2 (i 1) k) * w (ix3 (i 0) k (i 2)) := by
  have h0 : (i 0).val < 8 := (i 0).isLt
  have h1 : (i 1).val < 4224 := (i 1).isLt
  have h2 : (i 2).val < 1024 := (i 2).isLt
  refine (Read.val_main_v7_apply (F := Ideal) x w i : _ = (Read.val_main_v6 (F := Ideal) x w i : EReal)).trans ?_
  rw [Read.val_main_v6_apply, Read.val_main_v5_apply, Read.val_main_v4_apply]
  refine Finset.sum_congr rfl fun k _ => ?_
  rw [Read.val_main_v0_apply, Read.val_main_v3_apply, Read.val_main_v2_apply, Read.val_main_v1_apply]
  have hk : k.val < 1024 := k.isLt
  refine congrArg₂ (· * ·) (congrArg x ?_) (congrArg w ?_)
  · funext a; apply Fin.ext
    match a with
    | ⟨0, _⟩ => show (((i 1).val * 8 + (i 0).val) * 1024 + (i 2).val) / 8192 = (i 1).val; omega
    | ⟨1, _⟩ => rfl
  · funext a; apply Fin.ext
    match a with
    | ⟨0, _⟩ => show (k.val * 8192 + ((((i 1).val * 8 + (i 0).val) * 1024 + (i 2).val) % 8192)) / 1024 % 8 = (i 0).val; omega
    | ⟨1, _⟩ => show (k.val * 8192 + ((((i 1).val * 8 + (i 0).val) * 1024 + (i 2).val) % 8192)) / 8192 = k.val; omega
    | ⟨2, _⟩ => show (k.val * 8192 + ((((i 1).val * 8 + (i 0).val) * 1024 + (i 2).val) % 8192)) % 1024 = (i 2).val; omega

end Cert.InFwdRefIdeal.Prod

/-! ## The claims -/

namespace Cert.Proof.InFwd

open Idealize.ShloMosaic Idealize.ShloMosaic.TcCoe Idealize.ShloMosaic.StableHlo Idealize.SL.Sem

theorem frame_k : quiescent_InFwd := fun m g _ => InFwd.Gen.frame m g
theorem frame_ki : quiescent_InFwdIdeal := fun m g _ => InFwdIdeal.Gen.frame m g
theorem frame_ri : quiescent_InFwdRefIdeal := fun m g _ =>
  (θ_run InFwdRefIdeal.defs _ _).mono (fun r h => ⟨fun c => (h c).2, sem_eq_zero_of_no_sems (by decide) r.2⟩)
    (InFwdRefIdeal.Value.run m g)

theorem equal : algebraic_InFwdIdeal_InFwdRefIdeal := fun m g m' g' _ hargs =>
  ⟨fun c => InFwdIdeal.Prod.whole (InFwdIdeal.Prod.arg0 m c) (InFwdIdeal.Prod.arg1 m c),
   (θ_run InFwdIdeal.defs _ _).mono (fun r h c => ⟨(h c).1.trans (InFwdIdeal.Prod.final m c), (h c).2⟩)
     (InFwdIdeal.Value.run_blocks m g),
   (θ_run InFwdRefIdeal.defs _ _).mono (fun r h c =>
      ⟨((h c).1.trans (InFwdRefIdeal.Read.val_main_v7_eq _ _)).trans
          ((congrArg₂ (fun a b => InFwdRefIdeal.Read.val_main_v7 (F := Ideal) a b) (hargs c).1 (hargs c).2).trans
            (funext fun i => InFwdRefIdeal.Prod.val_eq _ _ i)), (h c).2⟩)
     (InFwdRefIdeal.Value.run m' g')⟩

end Cert.Proof.InFwd

end
-- ==== Proof.Mm.UgFwd.lean ====
/-
  The product of the up and gate projections, a shard of the result for each shard of the weights. The kernel
  writes one tile of rows of one shard at each point; the reference is the whole product, cut into shards.
-/
module

public import proofs.«01_k».proof.Defs
public import proofs.«01_k».proof.Proof.Mm.Common
public import proofs.«01_k».proof.Proof.Gen.UgFwd.Frame
public import proofs.«01_k».proof.Proof.Gen.UgFwdIdeal.Value
public import proofs.«01_k».proof.Proof.Gen.UgFwdRefIdeal.Read
public import Idealize.ShloMosaic.Lib.Quiescent

@[expose] public section

noncomputable section

namespace Cert.UgFwdIdeal.Prod

open Cert.UgFwdIdeal Cert.UgFwdIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## The tile a point writes -/

theorem pay_apply (x : Vec Ideal S1408x1024 .bf16) (w : Vec Ideal S1x1024x704 .bf16) (r : Fin 1408) (l : Fin 704) :
    k0_pay1 x w (ix3 0 r l) = ∑ k : Fin 1024, x (ix2 r k) * w (ix3 0 k l) := by
  unfold k0_pay1
  refine (put _ shapeCasts_S1408x704_S1x1408x704 r l).trans ?_
  refine (nn (φ₁ := .bf16) (φ₂ := .bf16) x (shapeCast S1024x704 w shapeCasts_S1x1024x704_S1024x704) r l).trans ?_
  exact Finset.sum_congr rfl fun k _ => congrArg (x (ix2 r k) * ·) (drop w shapeCasts_S1x1024x704_S1024x704 k l)

theorem out_eq (x : Vec Ideal S1408x1024 .bf16) (w : Vec Ideal S1x1024x704 .bf16) : out0_2 x w = k0_pay1 x w := by
  unfold out0_2
  rw [View.canon_unit_zero (S := S1x1408x704) zeros3, View.ld_unit_zero (S := S1408x1024) zeros2, View.ld_unit_zero (S := S1x1024x704) zeros3]

/-! ## The blocks a point reads -/

theorem place : ∀ t : Fin cfg0.N, (win0_0.index t (0 : Fin 2) = t.val % 3 ∧ win0_0.index t (1 : Fin 2) = 0)
    ∧ (win0_1.index t (0 : Fin 3) = t.val / 3 ∧ win0_1.index t (1 : Fin 3) = 0 ∧ win0_1.index t (2 : Fin 3) = 0)
    ∧ (win0_2.index t (0 : Fin 3) = t.val / 3 ∧ win0_2.index t (1 : Fin 3) = t.val % 3 ∧ win0_2.index t (2 : Fin 3) = 0) :=
  (by decide +kernel : ∀ t : Fin grid0.N, _)

theorem lt_N (t : Fin cfg0.N) : t.val < 24 := lt_of_lt_of_eq t.isLt N_0

abbrev arg0 (c : Dev nD) : FVec Ideal S4224x1024 .bf16 := m ((c : Thread nD τ).loc main_arg0)
abbrev arg1 (c : Dev nD) : FVec Ideal S8x1024x704 .bf16 := m ((c : Thread nD τ).loc main_arg1)

theorem blk0 (c : Dev nD) (t : Fin cfg0.N) (r : Fin 1408) (k : Fin 1024) : (iblk m c 0 t : Vec Ideal S1408x1024 .bf16) (ix2 r k) =
    arg0 m c (ix2 (⟨t.val % 3 * 1408 + r.val, by have := r.isLt; omega⟩ : Fin 4224) k) := by
  obtain ⟨⟨e0, e1⟩, -⟩ := place t
  unfold iblk
  rw [View.read_apply]
  refine congrArg (arg0 m c) (funext fun a => Fin.ext ?_)
  match a with
  | ⟨0, _⟩ => show win0_0.index t 0 * 1408 + 1 * r.val = t.val % 3 * 1408 + r.val; rw [e0]; omega
  | ⟨1, _⟩ => show win0_0.index t 1 * 1024 + 1 * k.val = k.val; rw [e1]; omega

theorem blk1 (c : Dev nD) (t : Fin cfg0.N) (p : Fin 1024) (q : Fin 704) : (iblk m c 1 t : Vec Ideal S1x1024x704 .bf16) (ix3 0 p q) =
    arg1 m c (ix3 (⟨t.val / 3, by have := lt_N t; omega⟩ : Fin 8) p q) := by
  obtain ⟨-, ⟨e0, e1, e2⟩, -⟩ := place t
  unfold iblk
  rw [View.read_apply]
  refine congrArg (arg1 m c) (funext fun a => Fin.ext ?_)
  match a with
  | ⟨0, _⟩ => show win0_1.index t 0 * 1 + 1 * 0 = t.val / 3; rw [e0]; omega
  | ⟨1, _⟩ => show win0_1.index t 1 * 1024 + 1 * p.val = p.val; rw [e1]; omega
  | ⟨2, _⟩ => show win0_1.index t 2 * 704 + 1 * q.val = q.val; rw [e2]; omega

/-! ## The whole array -/

/-- A row of the left operand times a column of a shard. -/
def entry (x : FVec Ideal S4224x1024 .bf16) (w : FVec Ideal S8x1024x704 .bf16) (j : Fin 8) (r : Fin 4224) (l : Fin 704) : EReal :=
  ∑ k : Fin 1024, x (ix2 r k) * w (ix3 j k l)

/-- The result: shard by shard, row by row, column by column. -/
def whole (x : FVec Ideal S4224x1024 .bf16) (w : FVec Ideal S8x1024x704 .bf16) : FVec Ideal S8x4224x704 .bf16 := fun i => entry x w (i 0) (i 1) (i 2)

theorem flushed_eq (c : Dev nD) (t : Fin cfg0.N) :
    (dats m 0 c).flushed 2 t = ((cfg0.win 2).blk t).view.read (Elt Ideal) (whole (arg0 m c) (arg1 m c)) := by
  obtain ⟨-, -, e0, e1, e2⟩ := place t
  rw [Value.flushed2, out_eq]
  funext y
  have hy1 : (y 1).val < 1408 := (y 1).isLt
  have hy2 : (y 2).val < 704 := (y 2).isLt
  show k0_pay1 (iblk m c 0 t) (iblk m c 1 t) ((cfg0.win 2).xinj (grid0.coords t) y) = whole (arg0 m c) (arg1 m c) (((cfg0.win 2).blk t).view.emb y)
  rw [show (cfg0.win 2).xinj (grid0.coords t) y = ix3 (0 : Fin 1) (⟨(y 1).val, hy1⟩ : Fin 1408) (⟨(y 2).val, hy2⟩ : Fin 704) from
    funext fun a => match a with | ⟨0, _⟩ => Subsingleton.elim (α := Fin 1) _ _ | ⟨1, _⟩ => rfl | ⟨2, _⟩ => rfl, pay_apply]
  unfold whole entry
  refine Finset.sum_congr rfl fun k _ => congrArg₂ (· * ·) ((blk0 m c t _ k).trans (congrArg (arg0 m c) ?_)) ((blk1 m c t k _).trans (congrArg (arg1 m c) ?_))
  · funext a; apply Fin.ext
    match a with
    | ⟨0, _⟩ => show t.val % 3 * 1408 + (y 1).val = win0_2.index t 1 * 1408 + 1 * (y 1).val; rw [e1]; omega
    | ⟨1, _⟩ => rfl
  · have hy0 : (y 0).val < 1 := (y 0).isLt
    funext a; apply Fin.ext
    match a with
    | ⟨0, _⟩ => show t.val / 3 = win0_2.index t 0 * 1 + 1 * (y 0).val; rw [e0]; omega
    | ⟨2, _⟩ => show (y 2).val = win0_2.index t 2 * 704 + 1 * (y 2).val; rw [e2]; omega
    | ⟨1, _⟩ => rfl

theorem mem_blk (t : Fin cfg0.N) (i : S8x4224x704.Idx) :
    i ∈ ((cfg0.win 2).blk t).view.set ↔ ∀ a : Fin 3, win0_2.index t a * S1x1408x704.size a ≤ (i a).val ∧ (i a).val < win0_2.index t a * S1x1408x704.size a + S1x1408x704.size a := by
  show i ∈ ((View.whole main_v0).slice (win0_2.rect t)).set ↔ _
  rw [View.set_slice_whole, Rect.mem_set_unit]
  exact Iff.rfl

theorem covered (i : S8x4224x704.Idx) : ∃ t : Fin cfg0.N, (cfg0.win 2).flush t = true ∧ i ∈ ((cfg0.win 2).blk t).view.set := by
  have h0 : (i 0).val < 8 := (i 0).isLt
  have h1 : (i 1).val < 4224 := (i 1).isLt
  have h2 : (i 2).val < 704 := (i 2).isLt
  refine ⟨⟨(i 0).val * 3 + (i 1).val / 1408, lt_of_lt_of_eq (by omega : _ < 24) N_0.symm⟩, flush0_2 _, ?_⟩
  obtain ⟨-, -, e0, e1, e2⟩ := place ⟨(i 0).val * 3 + (i 1).val / 1408, lt_of_lt_of_eq (by omega : _ < 24) N_0.symm⟩
  rw [mem_blk]
  intro a
  match a with
  | ⟨0, _⟩ => show win0_2.index _ 0 * 1 ≤ (i 0).val ∧ (i 0).val < win0_2.index _ 0 * 1 + 1; rw [e0]; show ((i 0).val * 3 + (i 1).val / 1408) / 3 * 1 ≤ _ ∧ _ < ((i 0).val * 3 + (i 1).val / 1408) / 3 * 1 + 1; omega
  | ⟨1, _⟩ => show win0_2.index _ 1 * 1408 ≤ (i 1).val ∧ (i 1).val < win0_2.index _ 1 * 1408 + 1408; rw [e1]; show ((i 0).val * 3 + (i 1).val / 1408) % 3 * 1408 ≤ _ ∧ _ < ((i 0).val * 3 + (i 1).val / 1408) % 3 * 1408 + 1408; omega
  | ⟨2, _⟩ => show win0_2.index _ 2 * 704 ≤ (i 2).val ∧ (i 2).val < win0_2.index _ 2 * 704 + 704; rw [e2]; omega

theorem final (c : Dev nD) : (dats m 0 c).arrAt 2 cfg0.N = whole (arg0 m c) (arg1 m c) :=
  (dats m 0 c).arrAt_eq_of_cover 2 _ (fun t _ => flushed_eq m c t) covered

end Cert.UgFwdIdeal.Prod

/-! ## The reference -/

namespace Cert.UgFwdRefIdeal.Prod

open Cert.UgFwdRefIdeal Cert.UgFwdRefIdeal.Gen Cert.Mm Idealize.ShloMosaic Idealize.ShloMosaic.ValueIdx
open scoped BigOperators

theorem val_eq (x : FVec Ideal S4224x1024 .bf16) (w : FVec Ideal S8x1024x704 .bf16) (i : S8x4224x704.Idx) :
    Read.val_main_v7 (F := Ideal) x w i = ∑ k : Fin 1024, x (ix2 (i 1) k) * w (ix3 (i 0) k (i 2)) := by
  have h0 : (i 0).val < 8 := (i 0).isLt
  have h1 : (i 1).val < 4224 := (i 1).isLt
  have h2 : (i 2).val < 704 := (i 2).isLt
  refine (Read.val_main_v7_apply (F := Ideal) x w i : _ = (Read.val_main_v6 (F := Ideal) x w i : EReal)).trans ?_
  rw [Read.val_main_v6_apply, Read.val_main_v5_apply, Read.val_main_v4_apply]
  refine Finset.sum_congr rfl fun k _ => ?_
  rw [Read.val_main_v0_apply, Read.val_main_v3_apply, Read.val_main_v2_apply, Read.val_main_v1_apply]
  have hk : k.val < 1024 := k.isLt
  refine congrArg₂ (· * ·) (congrArg x ?_) (congrArg w ?_)
  · funext a; apply Fin.ext
    match a with
    | ⟨0, _⟩ => show (((i 1).val * 8 + (i 0).val) * 704 + (i 2).val) / 5632 = (i 1).val; omega
    | ⟨1, _⟩ => rfl
  · funext a; apply Fin.ext
    match a with
    | ⟨0, _⟩ => show (k.val * 5632 + ((((i 1).val * 8 + (i 0).val) * 704 + (i 2).val) % 5632)) / 704 % 8 = (i 0).val; omega
    | ⟨1, _⟩ => show (k.val * 5632 + ((((i 1).val * 8 + (i 0).val) * 704 + (i 2).val) % 5632)) / 5632 = k.val; omega
    | ⟨2, _⟩ => show (k.val * 5632 + ((((i 1).val * 8 + (i 0).val) * 704 + (i 2).val) % 5632)) % 704 = (i 2).val; omega

end Cert.UgFwdRefIdeal.Prod

/-! ## The claims -/

namespace Cert.Proof.UgFwd

open Idealize.ShloMosaic Idealize.ShloMosaic.TcCoe Idealize.ShloMosaic.StableHlo Idealize.SL.Sem

theorem frame_k : quiescent_UgFwd := fun m g _ => UgFwd.Gen.frame m g
theorem frame_ki : quiescent_UgFwdIdeal := fun m g _ => UgFwdIdeal.Gen.frame m g
theorem frame_ri : quiescent_UgFwdRefIdeal := fun m g _ =>
  (θ_run UgFwdRefIdeal.defs _ _).mono (fun r h => ⟨fun c => (h c).2, sem_eq_zero_of_no_sems (by decide) r.2⟩)
    (UgFwdRefIdeal.Value.run m g)

theorem equal : algebraic_UgFwdIdeal_UgFwdRefIdeal := fun m g m' g' _ hargs =>
  ⟨fun c => UgFwdIdeal.Prod.whole (UgFwdIdeal.Prod.arg0 m c) (UgFwdIdeal.Prod.arg1 m c),
   (θ_run UgFwdIdeal.defs _ _).mono (fun r h c => ⟨(h c).1.trans (UgFwdIdeal.Prod.final m c), (h c).2⟩)
     (UgFwdIdeal.Value.run_blocks m g),
   (θ_run UgFwdRefIdeal.defs _ _).mono (fun r h c =>
      ⟨((h c).1.trans (UgFwdRefIdeal.Read.val_main_v7_eq _ _)).trans
          ((congrArg₂ (fun a b => UgFwdRefIdeal.Read.val_main_v7 (F := Ideal) a b) (hargs c).1 (hargs c).2).trans
            (funext fun i => UgFwdRefIdeal.Prod.val_eq _ _ i)), (h c).2⟩)
     (UgFwdRefIdeal.Value.run m' g')⟩

end Cert.Proof.UgFwd

end
-- ==== Proof.Mm.DownFwd.lean ====
/-
  The product of the down projection: the sum over the four shards of a shard's columns of the hidden layer times the
  shard's rows of the weights. The kernel walks the rows in three tiles, adds one shard at each point into an
  accumulator and writes a tile out after its last shard; the reference is the whole product. Both are the same sum over
  the reals.
-/
module

public import proofs.«01_k».proof.Defs
public import proofs.«01_k».proof.Proof.Mm.Common
public import proofs.«01_k».proof.Proof.Gen.DownFwd.Frame
public import proofs.«01_k».proof.Proof.Gen.DownFwdIdeal.Value
public import proofs.«01_k».proof.Proof.Gen.DownFwdRefIdeal.Read
public import Idealize.ShloMosaic.Lib.Quiescent

@[expose] public section

noncomputable section

namespace Cert.DownFwdIdeal.Prod

open Cert.DownFwdIdeal Cert.DownFwdIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## What a point adds -/

/-- The product of a point's two blocks. -/
def prod (x : Vec Ideal S1x1408x704 .bf16) (w : Vec Ideal S1x704x1024 .bf16) : FVec Ideal S1408x1024 .f32 :=
  matmul dot_S1408x704_S704x1024_S1408x1024_1_0_0_1_n_n none (shapeCast S1408x704 x shapeCasts_S1x1408x704_S1408x704 : FVec Ideal S1408x704 .bf16)
    (shapeCast S704x1024 w shapeCasts_S1x704x1024_S704x1024 : FVec Ideal S704x1024 .bf16) (constant S1408x1024 .f32 0x00000000#32)

theorem prod_apply (x : Vec Ideal S1x1408x704 .bf16) (w : Vec Ideal S1x704x1024 .bf16) (r : Fin 1408) (l : Fin 1024) :
    prod x w (ix2 r l) = ∑ k : Fin 704, x (ix3 0 r k) * w (ix3 0 k l) := by
  refine (nn (φ₁ := .bf16) (φ₂ := .bf16) (shapeCast S1408x704 x shapeCasts_S1x1408x704_S1408x704) (shapeCast S704x1024 w shapeCasts_S1x704x1024_S704x1024) r l).trans ?_
  exact Finset.sum_congr rfl fun k _ => congrArg₂ (· * ·) (drop x shapeCasts_S1x1408x704_S1408x704 r k) (drop w shapeCasts_S1x704x1024_S704x1024 k l)

theorem pay1_apply (y : S1408x1024.Idx) : k0_pay1 (F := Ideal) y = 0 := by
  unfold k0_pay1
  rw [shapeCast_self]
  exact Ideal.ofBits_zero_f32

theorem pay2_apply (a : Vec Ideal S1408x1024 .f32) (x : Vec Ideal S1x1408x704 .bf16) (w : Vec Ideal S1x704x1024 .bf16) (y : S1408x1024.Idx) :
    k0_pay2 a x w y = a y + prod x w y := by
  unfold k0_pay2
  rw [shapeCast_self]
  rfl

section

variable (c : Dev nD) (i : grid0.Coords) (a2 : Memref sig .tc .vmem S1x1408x704 .bf16) (h2 : a2.IsWhole) (a3 : Memref sig .tc .vmem S1x704x1024 .bf16) (h3 : a3.IsWhole)
    (a4 : Memref sig .tc .vmem S1408x1024 .f32) (h4 : a4.IsWhole) (a5 : Memref sig .tc .vmem S1408x1024 .f32) (h5 : a5.IsWhole)
  (x : Vec Ideal S1x1408x704 .bf16) (w : Vec Ideal S1x704x1024 .bf16) (s : Vec Ideal S1408x1024 .f32) (y : S1408x1024.Idx)

theorem first (hc0) (hc1) :
    sout0_A_0 c i a2 h2 a3 h3 a4 h4 a5 h5 hc0 hc1 x w y = prod x w y := by
  unfold sout0_A_0
  rw [View.read_writes_eq_canon _ _ _ (scover0_A_0 c i a2 h2 a3 h3 a4 h4 a5 h5 hc0 hc1 x w)]
  unfold kernelRun0_A
  dsimp only
  sl_unfold_words
  rw [View.canon_cons_unit_zero (S := S1408x1024) zeros2, View.readCov_unit_zero (S := S1408x1024) _ zeros2]
  simp only [View.readAt_eq_ld, h2.read_unread, h3.read_unread, View.ld_unit_zero (S := S1x1408x704) zeros3, View.ld_unit_zero (S := S1x704x1024) zeros3]
  rw [pay2_apply, pay1_apply, zero_add]

theorem next (hc0) (hc1) :
    sout0_B_0 c i a2 h2 a3 h3 a4 h4 a5 h5 hc0 hc1 x w s y = s y + prod x w y := by
  unfold sout0_B_0
  rw [View.read_writes_eq_canon _ _ _ (scover0_B_0 c i a2 h2 a3 h3 a4 h4 a5 h5 hc0 hc1 x w s)]
  unfold kernelRun0_B
  dsimp only
  rw [View.canon_unit_zero (S := S1408x1024) zeros2]
  simp only [View.readAt_eq_ld, h2.read_unread, h3.read_unread, h5.read_unread, View.ld_unit_zero (S := S1408x1024) zeros2, View.ld_unit_zero (S := S1x1408x704) zeros3, View.ld_unit_zero (S := S1x704x1024) zeros3]
  rw [pay2_apply]

theorem last (hc0) (hc1) :
    sout0_C_0 c i a2 h2 a3 h3 a4 h4 a5 h5 hc0 hc1 x w s y = s y + prod x w y := by
  unfold sout0_C_0
  rw [View.read_writes_eq_canon _ _ _ (scover0_C_0 c i a2 h2 a3 h3 a4 h4 a5 h5 hc0 hc1 x w s)]
  unfold kernelRun0_C
  dsimp only
  sl_unfold_words
  rw [View.canon_unit_zero (S := S1408x1024) zeros2]
  simp only [View.readAt_eq_ld, h2.read_unread, h3.read_unread, h5.read_unread, View.ld_unit_zero (S := S1408x1024) zeros2, View.ld_unit_zero (S := S1x1408x704) zeros3, View.ld_unit_zero (S := S1x704x1024) zeros3]
  rw [pay2_apply]

theorem written (hc0) (hc1) :
    out0_C_2 c i a2 h2 a3 h3 a4 h4 a5 h5 hc0 hc1 x w s y = s y + prod x w y := by
  unfold out0_C_2
  rw [View.read_writes_eq_canon _ _ _ (cover0_C_2 c i a2 h2 a3 h3 a4 h4 a5 h5 hc0 hc1 x w s)]
  unfold kernelRun0_C
  dsimp only
  sl_unfold_words
  rw [View.canon_unit_zero (S := S1408x1024) zeros2, View.readCov_unit_zero (S := S1408x1024) _ zeros2]
  simp only [View.readAt_eq_ld, h2.read_unread, h3.read_unread, h5.read_unread, View.ld_unit_zero (S := S1408x1024) zeros2, View.ld_unit_zero (S := S1x1408x704) zeros3, View.ld_unit_zero (S := S1x704x1024) zeros3]
  rw [pay2_apply]

end

/-! ## The blocks a point reads -/

theorem place : ∀ t : Fin cfg0.N, win0_0.index t (0 : Fin 3) = t.val % 4 ∧ win0_0.index t (1 : Fin 3) = t.val / 4 ∧ win0_0.index t (2 : Fin 3) = 0
    ∧ win0_1.index t (0 : Fin 3) = t.val % 4 ∧ win0_1.index t (1 : Fin 3) = 0 ∧ win0_1.index t (2 : Fin 3) = 0 :=
  (by decide +kernel : ∀ t : Fin grid0.N, _)

theorem lt_N (t : Fin cfg0.N) : t.val < 12 := lt_of_lt_of_eq t.isLt N_0

abbrev arg0 (c : Dev nD) : FVec Ideal S4x4224x704 .bf16 := m ((c : Thread nD τ).loc main_arg0)
abbrev arg1 (c : Dev nD) : FVec Ideal S4x704x1024 .bf16 := m ((c : Thread nD τ).loc main_arg1)

theorem blk0 (c : Dev nD) (t : Fin cfg0.N) (r : Fin 1408) (k : Fin 704) : (iblk m c 0 t : Vec Ideal S1x1408x704 .bf16) (ix3 0 r k) =
    arg0 m c (ix3 (⟨t.val % 4, by omega⟩ : Fin 4) (⟨t.val / 4 * 1408 + r.val, by have := lt_N t; omega⟩ : Fin 4224) k) := by
  obtain ⟨e0, e1, e2, -⟩ := place t
  unfold iblk
  rw [View.read_apply]
  refine congrArg (arg0 m c) (funext fun a => Fin.ext ?_)
  match a with
  | ⟨0, _⟩ => show win0_0.index t 0 * 1 + 1 * 0 = t.val % 4; rw [e0]; omega
  | ⟨1, _⟩ => show win0_0.index t 1 * 1408 + 1 * r.val = t.val / 4 * 1408 + r.val; rw [e1]; omega
  | ⟨2, _⟩ => show win0_0.index t 2 * 704 + 1 * k.val = k.val; rw [e2]; omega

theorem blk1 (c : Dev nD) (t : Fin cfg0.N) (k : Fin 704) (l : Fin 1024) : (iblk m c 1 t : Vec Ideal S1x704x1024 .bf16) (ix3 0 k l) =
    arg1 m c (ix3 (⟨t.val % 4, by omega⟩ : Fin 4) k l) := by
  obtain ⟨-, -, -, e0, e1, e2⟩ := place t
  unfold iblk
  rw [View.read_apply]
  refine congrArg (arg1 m c) (funext fun a => Fin.ext ?_)
  match a with
  | ⟨0, _⟩ => show win0_1.index t 0 * 1 + 1 * 0 = t.val % 4; rw [e0]; omega
  | ⟨1, _⟩ => show win0_1.index t 1 * 704 + 1 * k.val = k.val; rw [e1]; omega
  | ⟨2, _⟩ => show win0_1.index t 2 * 1024 + 1 * l.val = l.val; rw [e2]; omega

/-! ## The accumulator -/

/-- What point `n` adds at an index of the tile, for every number `n`. -/
def term (c : Dev nD) (n : ℕ) (y : S1408x1024.Idx) : EReal :=
  if h : n < cfg0.N then prod (iblk m c 0 ⟨n, h⟩) (iblk m c 1 ⟨n, h⟩) y else 0

theorem acc (c : Dev nD) (n : ℕ) (h : n < cfg0.N) (y : S1408x1024.Idx) :
    (outsAt0 m c n h).2 y = ∑ q ∈ Finset.range (n % 4 + 1), term m c (n - n % 4 + q) y := by
  refine fold (by decide) (fun n h y => (outsAt0 m c n h).2 y) (term m c) (fun n h y hn => ?_) (fun n h y hn => ?_) n h y
  · have h1 : ¬(⟨n, h⟩ : Fin cfg0.N).val % 4 = 3 := by show ¬n % 4 = 3; omega
    refine (congrFun (congrArg Prod.snd (outsAt0_A m c ⟨n, h⟩ hn h1)) y).trans ?_
    dsimp only
    rw [first]
    unfold term
    rw [dif_pos h]
  · have h0 : ¬(⟨n + 1, h⟩ : Fin cfg0.N).val % 4 = 0 := hn
    have ht : term m c (n + 1) y = prod (iblk m c 0 ⟨n + 1, h⟩) (iblk m c 1 ⟨n + 1, h⟩) y := dif_pos h
    rw [ht]
    by_cases h1 : (⟨n + 1, h⟩ : Fin cfg0.N).val % 4 = 3
    · refine (congrFun (congrArg Prod.snd (outsAt0_C m c ⟨n + 1, h⟩ h0 h1)) y).trans ?_
      dsimp only
      rw [last]; rfl
    · refine (congrFun (congrArg Prod.snd (outsAt0_B m c ⟨n + 1, h⟩ h0 h1)) y).trans ?_
      dsimp only
      rw [next]; rfl

/-- What the last point of a tile writes out is the accumulator. -/
theorem out_eq (c : Dev nD) (n : ℕ) (h : n < cfg0.N) (hn : n % 4 = 3) (y : S1408x1024.Idx) : (outsAt0 m c n h).1 y = (outsAt0 m c n h).2 y := by
  have h0 : ¬(⟨n, h⟩ : Fin cfg0.N).val % 4 = 0 := by show ¬n % 4 = 0; omega
  have e := outsAt0_C m c ⟨n, h⟩ h0 hn
  refine (congrFun (congrArg Prod.fst e) y).trans ((?_ : _ = _).trans (congrFun (congrArg Prod.snd e) y).symm)
  dsimp only
  rw [written, last]

theorem term_apply (c : Dev nD) (i : S4224x1024.Idx) (j : Fin 4) (n : ℕ) (hn : n = 4 * ((i 0).val / 1408) + j.val) :
    term m c n (Value.loc2Of i) = ∑ k : Fin 704, arg0 m c (ix3 j (i 0) k) * arg1 m c (ix3 j k (i 1)) := by
  have hi0 : (i 0).val < 4224 := (i 0).isLt
  have hi1 : (i 1).val < 1024 := (i 1).isLt
  have hlt : n < cfg0.N := lt_of_lt_of_eq (by omega : n < 12) N_0.symm
  unfold term
  rw [dif_pos hlt, show Value.loc2Of i = ix2 (⟨(i 0).val % 1408, by omega⟩ : Fin 1408) (⟨(i 1).val % 1024, by omega⟩ : Fin 1024) from
    funext fun a => match a with | ⟨0, _⟩ => rfl | ⟨1, _⟩ => rfl, prod_apply]
  refine Finset.sum_congr rfl fun k _ => congrArg₂ (· * ·) ((blk0 m c _ _ _).trans (congrArg (arg0 m c) ?_)) ((blk1 m c _ _ _).trans (congrArg (arg1 m c) ?_))
  · funext a; apply Fin.ext
    match a with
    | ⟨0, _⟩ => show n % 4 = j.val; omega
    | ⟨1, _⟩ => show n / 4 * 1408 + (i 0).val % 1408 = (i 0).val; omega
    | ⟨2, _⟩ => rfl
  · funext a; apply Fin.ext
    match a with
    | ⟨0, _⟩ => show n % 4 = j.val; omega
    | ⟨1, _⟩ => rfl
    | ⟨2, _⟩ => show (i 1).val % 1024 = (i 1).val; omega

/-- The product: over the shards and the columns of each. -/
def sum (x : FVec Ideal S4x4224x704 .bf16) (w : FVec Ideal S4x704x1024 .bf16) : FVec Ideal S4224x1024 .f32 :=
  fun i => ∑ j : Fin 4, ∑ k : Fin 704, x (ix3 j (i 0) k) * w (ix3 j k (i 1))

theorem G2_eq (c : Dev nD) : Value.G2 m c = sum (arg0 m c) (arg1 m c) := by
  funext i
  have hi0 : (i 0).val < 4224 := (i 0).isLt
  have hi1 : (i 1).val < 1024 := (i 1).isLt
  have hp : Value.pt2Of i = 4 * ((i 0).val / 1408) + 3 := by
    show 4 * (1 * ((i 0).val / 1408 - 0) + 1 * ((i 1).val / 1024 - 0)) + 3 = _; omega
  have hlt : Value.pt2Of i < cfg0.N := lt_of_lt_of_eq (by omega : Value.pt2Of i < 12) N_0.symm
  have e : Value.G2 m c i = (outsAt0 m c (Value.pt2Of i) hlt).1 (Value.loc2Of i) := by
    unfold Value.G2
    rw [dif_pos hlt, ← Value.outsAt0_sweep m c _ hlt]
  refine e.trans ((out_eq m c _ hlt (by omega) _).trans ((acc m c _ hlt _).trans ?_))
  rw [show Value.pt2Of i % 4 + 1 = 4 from by omega]
  exact (Finset.sum_range _).trans (Finset.sum_congr rfl fun j _ => term_apply m c i j _ (by omega))

end Cert.DownFwdIdeal.Prod

/-! ## The reference -/

namespace Cert.DownFwdRefIdeal.Prod

open Cert.DownFwdRefIdeal Cert.DownFwdRefIdeal.Gen Cert.Mm Idealize.ShloMosaic Idealize.ShloMosaic.ValueIdx
open scoped BigOperators

/-- The term of column `n` of all the shards' columns. -/
def col (x : FVec Ideal S4x4224x704 .bf16) (w : FVec Ideal S4x704x1024 .bf16) (i : S4224x1024.Idx) (n : ℕ) : EReal :=
  x (ix3 (⟨n / 704 % 4, by omega⟩ : Fin 4) (i 0) (⟨n % 704, by omega⟩ : Fin 704)) * w (ix3 (⟨n / 704 % 4, by omega⟩ : Fin 4) (⟨n % 704, by omega⟩ : Fin 704) (i 1))

theorem col_eq (x : FVec Ideal S4x4224x704 .bf16) (w : FVec Ideal S4x704x1024 .bf16) (i : S4224x1024.Idx) (j : Fin 4) (k : Fin 704) :
    col x w i (j.val * 704 + k.val) = x (ix3 j (i 0) k) * w (ix3 j k (i 1)) := by
  have hj := j.isLt
  have hk := k.isLt
  have e1 : (⟨(j.val * 704 + k.val) / 704 % 4, by omega⟩ : Fin 4) = j := Fin.ext (by show (j.val * 704 + k.val) / 704 % 4 = j.val; omega)
  have e2 : (⟨(j.val * 704 + k.val) % 704, by omega⟩ : Fin 704) = k := Fin.ext (by show (j.val * 704 + k.val) % 704 = k.val; omega)
  unfold col
  rw [e1, e2]

theorem val_eq (x : FVec Ideal S4x4224x704 .bf16) (w : FVec Ideal S4x704x1024 .bf16) (i : S4224x1024.Idx) :
    Read.val_main_v5 (F := Ideal) x w i = ∑ j : Fin 4, ∑ k : Fin 704, x (ix3 j (i 0) k) * w (ix3 j k (i 1)) := by
  rw [Read.val_main_v5_apply]
  have hi0 : (i 0).val < 4224 := (i 0).isLt
  have hi1 : (i 1).val < 1024 := (i 1).isLt
  refine ((Finset.sum_congr rfl fun c _ => ?_ : _ = ∑ c : Fin (4 * 704), col x w i c.val).trans (shards 4 704 (col x w i))).trans
    (Finset.sum_congr rfl fun j _ => Finset.sum_congr rfl fun k _ => col_eq x w i j k)
  rw [Read.val_main_v2_apply, Read.val_main_v1_apply, Read.val_main_v0_apply, Read.val_main_v4_apply, Read.val_main_v3_apply]
  have hc : c.val < 2816 := c.isLt
  refine congrArg₂ (· * ·) (congrArg x ?_) (congrArg w ?_)
  · funext a; apply Fin.ext
    match a with
    | ⟨0, _⟩ => show ((i 0).val * 2816 + c.val) / 704 % 4 = c.val / 704 % 4; omega
    | ⟨1, _⟩ => show ((i 0).val * 2816 + c.val) / 2816 = (i 0).val; omega
    | ⟨2, _⟩ => show ((i 0).val * 2816 + c.val) % 704 = c.val % 704; omega
  · funext a; apply Fin.ext
    match a with
    | ⟨0, _⟩ => show (c.val * 1024 + (i 1).val) / 720896 = c.val / 704 % 4; omega
    | ⟨1, _⟩ => show (c.val * 1024 + (i 1).val) / 1024 % 704 = c.val % 704; omega
    | ⟨2, _⟩ => show (c.val * 1024 + (i 1).val) % 1024 = (i 1).val; omega

end Cert.DownFwdRefIdeal.Prod

/-! ## The claims -/

namespace Cert.Proof.DownFwd

open Idealize.ShloMosaic Idealize.ShloMosaic.TcCoe Idealize.ShloMosaic.StableHlo Idealize.SL.Sem

theorem frame_k : quiescent_DownFwd := fun m g _ => DownFwd.Gen.frame m g
theorem frame_ki : quiescent_DownFwdIdeal := fun m g _ => DownFwdIdeal.Gen.frame m g
theorem frame_ri : quiescent_DownFwdRefIdeal := fun m g _ =>
  (θ_run DownFwdRefIdeal.defs _ _).mono (fun r h => ⟨fun c => (h c).2, sem_eq_zero_of_no_sems (by decide) r.2⟩)
    (DownFwdRefIdeal.Value.run m g)

theorem equal : algebraic_DownFwdIdeal_DownFwdRefIdeal := fun m g m' g' _ hargs =>
  ⟨fun c => DownFwdIdeal.Prod.sum (DownFwdIdeal.Prod.arg0 m c) (DownFwdIdeal.Prod.arg1 m c),
   (θ_run DownFwdIdeal.defs _ _).mono (fun r h c => ⟨(h c).1.trans (DownFwdIdeal.Prod.G2_eq m c), (h c).2⟩)
     (DownFwdIdeal.Value.run m g),
   (θ_run DownFwdRefIdeal.defs _ _).mono (fun r h c =>
      ⟨((h c).1.trans (DownFwdRefIdeal.Read.val_main_v5_eq _ _)).trans
          ((congrArg₂ (fun a b => DownFwdRefIdeal.Read.val_main_v5 (F := Ideal) a b) (hargs c).1 (hargs c).2).trans
            (funext fun i => DownFwdRefIdeal.Prod.val_eq _ _ i)), (h c).2⟩)
     (DownFwdRefIdeal.Value.run m' g')⟩

end Cert.Proof.DownFwd

end
-- ==== Proof.Mm.ProjFwd.lean ====
/-
  The product of the projections after the convolution and the attention. The kernel writes one tile of rows at each point; the reference is
  the whole product.
-/
module

public import proofs.«01_k».proof.Defs
public import proofs.«01_k».proof.Proof.Mm.Common
public import proofs.«01_k».proof.Proof.Gen.ProjFwd.Frame
public import proofs.«01_k».proof.Proof.Gen.ProjFwdIdeal.Value
public import proofs.«01_k».proof.Proof.Gen.ProjFwdRefIdeal.Read
public import Idealize.ShloMosaic.Lib.Quiescent

@[expose] public section

noncomputable section

namespace Cert.ProjFwdIdeal.Prod

open Cert.ProjFwdIdeal Cert.ProjFwdIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## The tile a point writes -/

theorem pay_apply (x : Vec Ideal S1408x1024 .bf16) (w : Vec Ideal S1x1024x1024 .bf16) (r : Fin 1408) (l : Fin 1024) :
    k0_pay1 x w (ix3 0 r l) = ∑ k : Fin 1024, x (ix2 r k) * w (ix3 0 k l) := by
  unfold k0_pay1
  refine (put _ shapeCasts_S1408x1024_S1x1408x1024 r l).trans ?_
  refine (nn (φ₁ := .bf16) (φ₂ := .bf16) x (shapeCast S1024x1024 w shapeCasts_S1x1024x1024_S1024x1024) r l).trans ?_
  exact Finset.sum_congr rfl fun k _ => congrArg (x (ix2 r k) * ·) (drop w shapeCasts_S1x1024x1024_S1024x1024 k l)

theorem out_eq (x : Vec Ideal S1408x1024 .bf16) (w : Vec Ideal S1x1024x1024 .bf16) : out0_2 x w = k0_pay1 x w := by
  unfold out0_2
  rw [View.canon_unit_zero (S := S1x1408x1024) zeros3, View.ld_unit_zero (S := S1408x1024) zeros2, View.ld_unit_zero (S := S1x1024x1024) zeros3]

/-! ## The blocks a point reads -/

theorem place : ∀ t : Fin cfg0.N, (win0_0.index t (0 : Fin 2) = t.val % 3 ∧ win0_0.index t (1 : Fin 2) = 0)
    ∧ (win0_1.index t (0 : Fin 3) = t.val / 3 ∧ win0_1.index t (1 : Fin 3) = 0 ∧ win0_1.index t (2 : Fin 3) = 0)
    ∧ (win0_2.index t (0 : Fin 3) = t.val / 3 ∧ win0_2.index t (1 : Fin 3) = t.val % 3 ∧ win0_2.index t (2 : Fin 3) = 0) :=
  (by decide +kernel : ∀ t : Fin grid0.N, _)

theorem lt_N (t : Fin cfg0.N) : t.val < 3 := lt_of_lt_of_eq t.isLt N_0

abbrev arg0 (c : Dev nD) : FVec Ideal S4224x1024 .bf16 := m ((c : Thread nD τ).loc main_arg0)
abbrev arg1 (c : Dev nD) : FVec Ideal S1x1024x1024 .bf16 := m ((c : Thread nD τ).loc main_arg1)

theorem blk0 (c : Dev nD) (t : Fin cfg0.N) (r : Fin 1408) (k : Fin 1024) : (iblk m c 0 t : Vec Ideal S1408x1024 .bf16) (ix2 r k) =
    arg0 m c (ix2 (⟨t.val % 3 * 1408 + r.val, by have := r.isLt; omega⟩ : Fin 4224) k) := by
  obtain ⟨⟨e0, e1⟩, -⟩ := place t
  unfold iblk
  rw [View.read_apply]
  refine congrArg (arg0 m c) (funext fun a => Fin.ext ?_)
  match a with
  | ⟨0, _⟩ => show win0_0.index t 0 * 1408 + 1 * r.val = t.val % 3 * 1408 + r.val; rw [e0]; omega
  | ⟨1, _⟩ => show win0_0.index t 1 * 1024 + 1 * k.val = k.val; rw [e1]; omega

theorem blk1 (c : Dev nD) (t : Fin cfg0.N) (p : Fin 1024) (q : Fin 1024) : (iblk m c 1 t : Vec Ideal S1x1024x1024 .bf16) (ix3 0 p q) =
    arg1 m c (ix3 (⟨t.val / 3, by have := lt_N t; omega⟩ : Fin 1) p q) := by
  obtain ⟨-, ⟨e0, e1, e2⟩, -⟩ := place t
  unfold iblk
  rw [View.read_apply]
  refine congrArg (arg1 m c) (funext fun a => Fin.ext ?_)
  match a with
  | ⟨0, _⟩ => show win0_1.index t 0 * 1 + 1 * 0 = t.val / 3; rw [e0]; omega
  | ⟨1, _⟩ => show win0_1.index t 1 * 1024 + 1 * p.val = p.val; rw [e1]; omega
  | ⟨2, _⟩ => show win0_1.index t 2 * 1024 + 1 * q.val = q.val; rw [e2]; omega

/-! ## The whole array -/

/-- A row of the left operand times a column of a shard. -/
def entry (x : FVec Ideal S4224x1024 .bf16) (w : FVec Ideal S1x1024x1024 .bf16) (j : Fin 1) (r : Fin 4224) (l : Fin 1024) : EReal :=
  ∑ k : Fin 1024, x (ix2 r k) * w (ix3 j k l)

/-- The result: shard by shard, row by row, column by column. -/
def whole (x : FVec Ideal S4224x1024 .bf16) (w : FVec Ideal S1x1024x1024 .bf16) : FVec Ideal S1x4224x1024 .bf16 := fun i => entry x w (i 0) (i 1) (i 2)

theorem flushed_eq (c : Dev nD) (t : Fin cfg0.N) :
    (dats m 0 c).flushed 2 t = ((cfg0.win 2).blk t).view.read (Elt Ideal) (whole (arg0 m c) (arg1 m c)) := by
  obtain ⟨-, -, e0, e1, e2⟩ := place t
  rw [Value.flushed2, out_eq]
  funext y
  have hy1 : (y 1).val < 1408 := (y 1).isLt
  have hy2 : (y 2).val < 1024 := (y 2).isLt
  show k0_pay1 (iblk m c 0 t) (iblk m c 1 t) ((cfg0.win 2).xinj (grid0.coords t) y) = whole (arg0 m c) (arg1 m c) (((cfg0.win 2).blk t).view.emb y)
  rw [show (cfg0.win 2).xinj (grid0.coords t) y = ix3 (0 : Fin 1) (⟨(y 1).val, hy1⟩ : Fin 1408) (⟨(y 2).val, hy2⟩ : Fin 1024) from
    funext fun a => match a with | ⟨0, _⟩ => Subsingleton.elim (α := Fin 1) _ _ | ⟨1, _⟩ => rfl | ⟨2, _⟩ => rfl, pay_apply]
  unfold whole entry
  refine Finset.sum_congr rfl fun k _ => congrArg₂ (· * ·) ((blk0 m c t _ k).trans (congrArg (arg0 m c) ?_)) ((blk1 m c t k _).trans (congrArg (arg1 m c) ?_))
  · funext a; apply Fin.ext
    match a with
    | ⟨0, _⟩ => show t.val % 3 * 1408 + (y 1).val = win0_2.index t 1 * 1408 + 1 * (y 1).val; rw [e1]; omega
    | ⟨1, _⟩ => rfl
  · have hy0 : (y 0).val < 1 := (y 0).isLt
    funext a; apply Fin.ext
    match a with
    | ⟨0, _⟩ => show t.val / 3 = win0_2.index t 0 * 1 + 1 * (y 0).val; rw [e0]; omega
    | ⟨2, _⟩ => show (y 2).val = win0_2.index t 2 * 1024 + 1 * (y 2).val; rw [e2]; omega
    | ⟨1, _⟩ => rfl

theorem mem_blk (t : Fin cfg0.N) (i : S1x4224x1024.Idx) :
    i ∈ ((cfg0.win 2).blk t).view.set ↔ ∀ a : Fin 3, win0_2.index t a * S1x1408x1024.size a ≤ (i a).val ∧ (i a).val < win0_2.index t a * S1x1408x1024.size a + S1x1408x1024.size a := by
  show i ∈ ((View.whole main_v0).slice (win0_2.rect t)).set ↔ _
  rw [View.set_slice_whole, Rect.mem_set_unit]
  exact Iff.rfl

theorem covered (i : S1x4224x1024.Idx) : ∃ t : Fin cfg0.N, (cfg0.win 2).flush t = true ∧ i ∈ ((cfg0.win 2).blk t).view.set := by
  have h0 : (i 0).val < 1 := (i 0).isLt
  have h1 : (i 1).val < 4224 := (i 1).isLt
  have h2 : (i 2).val < 1024 := (i 2).isLt
  refine ⟨⟨(i 0).val * 3 + (i 1).val / 1408, lt_of_lt_of_eq (by omega : _ < 3) N_0.symm⟩, flush0_2 _, ?_⟩
  obtain ⟨-, -, e0, e1, e2⟩ := place ⟨(i 0).val * 3 + (i 1).val / 1408, lt_of_lt_of_eq (by omega : _ < 3) N_0.symm⟩
  rw [mem_blk]
  intro a
  match a with
  | ⟨0, _⟩ => show win0_2.index _ 0 * 1 ≤ (i 0).val ∧ (i 0).val < win0_2.index _ 0 * 1 + 1; rw [e0]; show ((i 0).val * 3 + (i 1).val / 1408) / 3 * 1 ≤ _ ∧ _ < ((i 0).val * 3 + (i 1).val / 1408) / 3 * 1 + 1; omega
  | ⟨1, _⟩ => show win0_2.index _ 1 * 1408 ≤ (i 1).val ∧ (i 1).val < win0_2.index _ 1 * 1408 + 1408; rw [e1]; show ((i 0).val * 3 + (i 1).val / 1408) % 3 * 1408 ≤ _ ∧ _ < ((i 0).val * 3 + (i 1).val / 1408) % 3 * 1408 + 1408; omega
  | ⟨2, _⟩ => show win0_2.index _ 2 * 1024 ≤ (i 2).val ∧ (i 2).val < win0_2.index _ 2 * 1024 + 1024; rw [e2]; omega

theorem final (c : Dev nD) : (dats m 0 c).arrAt 2 cfg0.N = whole (arg0 m c) (arg1 m c) :=
  (dats m 0 c).arrAt_eq_of_cover 2 _ (fun t _ => flushed_eq m c t) covered

end Cert.ProjFwdIdeal.Prod

/-! ## The reference -/

namespace Cert.ProjFwdRefIdeal.Prod

open Cert.ProjFwdRefIdeal Cert.ProjFwdRefIdeal.Gen Cert.Mm Idealize.ShloMosaic Idealize.ShloMosaic.ValueIdx
open scoped BigOperators

theorem val_eq (x : FVec Ideal S4224x1024 .bf16) (w : FVec Ideal S1x1024x1024 .bf16) (i : S1x4224x1024.Idx) :
    Read.val_main_v7 (F := Ideal) x w i = ∑ k : Fin 1024, x (ix2 (i 1) k) * w (ix3 (i 0) k (i 2)) := by
  have h0 : (i 0).val < 1 := (i 0).isLt
  have h1 : (i 1).val < 4224 := (i 1).isLt
  have h2 : (i 2).val < 1024 := (i 2).isLt
  refine (Read.val_main_v7_apply (F := Ideal) x w i : _ = (Read.val_main_v6 (F := Ideal) x w i : EReal)).trans ?_
  rw [Read.val_main_v6_apply, Read.val_main_v5_apply, Read.val_main_v4_apply]
  refine Finset.sum_congr rfl fun k _ => ?_
  rw [Read.val_main_v0_apply, Read.val_main_v3_apply, Read.val_main_v2_apply, Read.val_main_v1_apply]
  have hk : k.val < 1024 := k.isLt
  refine congrArg₂ (· * ·) (congrArg x ?_) (congrArg w ?_)
  · funext a; apply Fin.ext
    match a with
    | ⟨0, _⟩ => show (((i 1).val * 1 + (i 0).val) * 1024 + (i 2).val) / 1024 = (i 1).val; omega
    | ⟨1, _⟩ => rfl
  · funext a; apply Fin.ext
    match a with
    | ⟨0, _⟩ => exact congrArg Fin.val (Subsingleton.elim (α := Fin 1) _ _)
    | ⟨1, _⟩ => show (k.val * 1024 + ((((i 1).val * 1 + (i 0).val) * 1024 + (i 2).val) % 1024)) / 1024 = k.val; omega
    | ⟨2, _⟩ => show (k.val * 1024 + ((((i 1).val * 1 + (i 0).val) * 1024 + (i 2).val) % 1024)) % 1024 = (i 2).val; omega

end Cert.ProjFwdRefIdeal.Prod

/-! ## The claims -/

namespace Cert.Proof.ProjFwd

open Idealize.ShloMosaic Idealize.ShloMosaic.TcCoe Idealize.ShloMosaic.StableHlo Idealize.SL.Sem

theorem frame_k : quiescent_ProjFwd := fun m g _ => ProjFwd.Gen.frame m g
theorem frame_ki : quiescent_ProjFwdIdeal := fun m g _ => ProjFwdIdeal.Gen.frame m g
theorem frame_ri : quiescent_ProjFwdRefIdeal := fun m g _ =>
  (θ_run ProjFwdRefIdeal.defs _ _).mono (fun r h => ⟨fun c => (h c).2, sem_eq_zero_of_no_sems (by decide) r.2⟩)
    (ProjFwdRefIdeal.Value.run m g)

theorem equal : algebraic_ProjFwdIdeal_ProjFwdRefIdeal := fun m g m' g' _ hargs =>
  ⟨fun c => ProjFwdIdeal.Prod.whole (ProjFwdIdeal.Prod.arg0 m c) (ProjFwdIdeal.Prod.arg1 m c),
   (θ_run ProjFwdIdeal.defs _ _).mono (fun r h c => ⟨(h c).1.trans (ProjFwdIdeal.Prod.final m c), (h c).2⟩)
     (ProjFwdIdeal.Value.run_blocks m g),
   (θ_run ProjFwdRefIdeal.defs _ _).mono (fun r h c =>
      ⟨((h c).1.trans (ProjFwdRefIdeal.Read.val_main_v7_eq _ _)).trans
          ((congrArg₂ (fun a b => ProjFwdRefIdeal.Read.val_main_v7 (F := Ideal) a b) (hargs c).1 (hargs c).2).trans
            (funext fun i => ProjFwdRefIdeal.Prod.val_eq _ _ i)), (h c).2⟩)
     (ProjFwdRefIdeal.Value.run m' g')⟩

end Cert.Proof.ProjFwd

end
-- ==== Proof.Mm.OutFwd.lean ====
/-
  The product of the output projection. The kernel writes one tile of rows at each point; the reference is
  the whole product.
-/
module

public import proofs.«01_k».proof.Defs
public import proofs.«01_k».proof.Proof.Mm.Common
public import proofs.«01_k».proof.Proof.Gen.OutFwd.Frame
public import proofs.«01_k».proof.Proof.Gen.OutFwdIdeal.Value
public import proofs.«01_k».proof.Proof.Gen.OutFwdRefIdeal.Read
public import Idealize.ShloMosaic.Lib.Quiescent

@[expose] public section

noncomputable section

namespace Cert.OutFwdIdeal.Prod

open Cert.OutFwdIdeal Cert.OutFwdIdeal.Gen Cert.Mm Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## The tile a point writes -/

theorem pay_apply (x : Vec Ideal S1408x1024 .bf16) (w : Vec Ideal S1x1024x1024 .bf16) (r : Fin 1408) (l : Fin 1024) :
    k0_pay1 x w (ix3 0 r l) = ∑ k : Fin 1024, x (ix2 r k) * w (ix3 0 k l) := by
  unfold k0_pay1
  refine (put _ shapeCasts_S1408x1024_S1x1408x1024 r l).trans ?_
  refine (nn (φ₁ := .bf16) (φ₂ := .bf16) x (shapeCast S1024x1024 w shapeCasts_S1x1024x1024_S1024x1024) r l).trans ?_
  exact Finset.sum_congr rfl fun k _ => congrArg (x (ix2 r k) * ·) (drop w shapeCasts_S1x1024x1024_S1024x1024 k l)

theorem out_eq (x : Vec Ideal S1408x1024 .bf16) (w : Vec Ideal S1x1024x1024 .bf16) : out0_2 x w = k0_pay1 x w := by
  unfold out0_2
  rw [View.canon_unit_zero (S := S1x1408x1024) zeros3, View.ld_unit_zero (S := S1408x1024) zeros2, View.ld_unit_zero (S := S1x1024x1024) zeros3]

/-! ## The blocks a point reads -/

theorem place : ∀ t : Fin cfg0.N, (win0_0.index t (0 : Fin 2) = t.val % 3 ∧ win0_0.index t (1 : Fin 2) = 0)
    ∧ (win0_1.index t (0 : Fin 3) = t.val / 3 ∧ win0_1.index t (1 : Fin 3) = 0 ∧ win0_1.index t (2 : Fin 3) = 0)
    ∧ (win0_2.index t (0 : Fin 3) = t.val / 3 ∧ win0_2.index t (1 : Fin 3) = t.val % 3 ∧ win0_2.index t (2 : Fin 3) = 0) :=
  (by decide +kernel : ∀ t : Fin grid0.N, _)

theorem lt_N (t : Fin cfg0.N) : t.val < 3 := lt_of_lt_of_eq t.isLt N_0

abbrev arg0 (c : Dev nD) : FVec Ideal S4224x1024 .bf16 := m ((c : Thread nD τ).loc main_arg0)
abbrev arg1 (c : Dev nD) : FVec Ideal S1x1024x1024 .bf16 := m ((c : Thread nD τ).loc main_arg1)

theorem blk0 (c : Dev nD) (t : Fin cfg0.N) (r : Fin 1408) (k : Fin 1024) : (iblk m c 0 t : Vec Ideal S1408x1024 .bf16) (ix2 r k) =
    arg0 m c (ix2 (⟨t.val % 3 * 1408 + r.val, by have := r.isLt; omega⟩ : Fin 4224) k) := by
  obtain ⟨⟨e0, e1⟩, -⟩ := place t
  unfold iblk
  rw [View.read_apply]
  refine congrArg (arg0 m c) (funext fun a => Fin.ext ?_)
  match a with
  | ⟨0, _⟩ => show win0_0.index t 0 * 1408 + 1 * r.val = t.val % 3 * 1408 + r.val; rw [e0]; omega
  | ⟨1, _⟩ => show win0_0.index t 1 * 1024 + 1 * k.val = k.val; rw [e1]; omega

theorem blk1 (c : Dev nD) (t : Fin cfg0.N) (p : Fin 1024) (q : Fin 1024) : (iblk m c 1 t : Vec Ideal S1x1024x1024 .bf16) (ix3 0 p q) =
    arg1 m c (ix3 (⟨t.val / 3, by have := lt_N t; omega⟩ : Fin 1) p q) := by
  obtain ⟨-, ⟨e0, e1, e2⟩, -⟩ := place t
  unfold iblk
  rw [View.read_apply]
  refine congrArg (arg1 m c) (funext fun a => Fin.ext ?_)
  match a with
  | ⟨0, _⟩ => show win0_1.index t 0 * 1 + 1 * 0 = t.val / 3; rw [e0]; omega
  | ⟨1, _⟩ => show win0_1.index t 1 * 1024 + 1 * p.val = p.val; rw [e1]; omega
  | ⟨2, _⟩ => show win0_1.index t 2 * 1024 + 1 * q.val = q.val; rw [e2]; omega

/-! ## The whole array -/

/-- A row of the left operand times a column of a shard. -/
def entry (x : FVec Ideal S4224x1024 .bf16) (w : FVec Ideal S1x1024x1024 .bf16) (j : Fin 1) (r : Fin 4224) (l : Fin 1024) : EReal :=
  ∑ k : Fin 1024, x (ix2 r k) * w (ix3 j k l)

/-- The result: shard by shard, row by row, column by column. -/
def whole (x : FVec Ideal S4224x1024 .bf16) (w : FVec Ideal S1x1024x1024 .bf16) : FVec Ideal S1x4224x1024 .f32 := fun i => entry x w (i 0) (i 1) (i 2)

theorem flushed_eq (c : Dev nD) (t : Fin cfg0.N) :
    (dats m 0 c).flushed 2 t = ((cfg0.win 2).blk t).view.read (Elt Ideal) (whole (arg0 m c) (arg1 m c)) := by
  obtain ⟨-, -, e0, e1, e2⟩ := place t
  rw [Value.flushed2, out_eq]
  funext y
  have hy1 : (y 1).val < 1408 := (y 1).isLt
  have hy2 : (y 2).val < 1024 := (y 2).isLt
  show k0_pay1 (iblk m c 0 t) (iblk m c 1 t) ((cfg0.win 2).xinj (grid0.coords t) y) = whole (arg0 m c) (arg1 m c) (((cfg0.win 2).blk t).view.emb y)
  rw [show (cfg0.win 2).xinj (grid0.coords t) y = ix3 (0 : Fin 1) (⟨(y 1).val, hy1⟩ : Fin 1408) (⟨(y 2).val, hy2⟩ : Fin 1024) from
    funext fun a => match a with | ⟨0, _⟩ => Subsingleton.elim (α := Fin 1) _ _ | ⟨1, _⟩ => rfl | ⟨2, _⟩ => rfl, pay_apply]
  unfold whole entry
  refine Finset.sum_congr rfl fun k _ => congrArg₂ (· * ·) ((blk0 m c t _ k).trans (congrArg (arg0 m c) ?_)) ((blk1 m c t k _).trans (congrArg (arg1 m c) ?_))
  · funext a; apply Fin.ext
    match a with
    | ⟨0, _⟩ => show t.val % 3 * 1408 + (y 1).val = win0_2.index t 1 * 1408 + 1 * (y 1).val; rw [e1]; omega
    | ⟨1, _⟩ => rfl
  · have hy0 : (y 0).val < 1 := (y 0).isLt
    funext a; apply Fin.ext
    match a with
    | ⟨0, _⟩ => show t.val / 3 = win0_2.index t 0 * 1 + 1 * (y 0).val; rw [e0]; omega
    | ⟨2, _⟩ => show (y 2).val = win0_2.index t 2 * 1024 + 1 * (y 2).val; rw [e2]; omega
    | ⟨1, _⟩ => rfl

theorem mem_blk (t : Fin cfg0.N) (i : S1x4224x1024.Idx) :
    i ∈ ((cfg0.win 2).blk t).view.set ↔ ∀ a : Fin 3, win0_2.index t a * S1x1408x1024.size a ≤ (i a).val ∧ (i a).val < win0_2.index t a * S1x1408x1024.size a + S1x1408x1024.size a := by
  show i ∈ ((View.whole main_v0).slice (win0_2.rect t)).set ↔ _
  rw [View.set_slice_whole, Rect.mem_set_unit]
  exact Iff.rfl

theorem covered (i : S1x4224x1024.Idx) : ∃ t : Fin cfg0.N, (cfg0.win 2).flush t = true ∧ i ∈ ((cfg0.win 2).blk t).view.set := by
  have h0 : (i 0).val < 1 := (i 0).isLt
  have h1 : (i 1).val < 4224 := (i 1).isLt
  have h2 : (i 2).val < 1024 := (i 2).isLt
  refine ⟨⟨(i 0).val * 3 + (i 1).val / 1408, lt_of_lt_of_eq (by omega : _ < 3) N_0.symm⟩, flush0_2 _, ?_⟩
  obtain ⟨-, -, e0, e1, e2⟩ := place ⟨(i 0).val * 3 + (i 1).val / 1408, lt_of_lt_of_eq (by omega : _ < 3) N_0.symm⟩
  rw [mem_blk]
  intro a
  match a with
  | ⟨0, _⟩ => show win0_2.index _ 0 * 1 ≤ (i 0).val ∧ (i 0).val < win0_2.index _ 0 * 1 + 1; rw [e0]; show ((i 0).val * 3 + (i 1).val / 1408) / 3 * 1 ≤ _ ∧ _ < ((i 0).val * 3 + (i 1).val / 1408) / 3 * 1 + 1; omega
  | ⟨1, _⟩ => show win0_2.index _ 1 * 1408 ≤ (i 1).val ∧ (i 1).val < win0_2.index _ 1 * 1408 + 1408; rw [e1]; show ((i 0).val * 3 + (i 1).val / 1408) % 3 * 1408 ≤ _ ∧ _ < ((i 0).val * 3 + (i 1).val / 1408) % 3 * 1408 + 1408; omega
  | ⟨2, _⟩ => show win0_2.index _ 2 * 1024 ≤ (i 2).val ∧ (i 2).val < win0_2.index _ 2 * 1024 + 1024; rw [e2]; omega

theorem final (c : Dev nD) : (dats m 0 c).arrAt 2 cfg0.N = whole (arg0 m c) (arg1 m c) :=
  (dats m 0 c).arrAt_eq_of_cover 2 _ (fun t _ => flushed_eq m c t) covered

end Cert.OutFwdIdeal.Prod

/-! ## The reference -/

namespace Cert.OutFwdRefIdeal.Prod

open Cert.OutFwdRefIdeal Cert.OutFwdRefIdeal.Gen Cert.Mm Idealize.ShloMosaic Idealize.ShloMosaic.ValueIdx
open scoped BigOperators

theorem val_eq (x : FVec Ideal S4224x1024 .bf16) (w : FVec Ideal S1x1024x1024 .bf16) (i : S1x4224x1024.Idx) :
    Read.val_main_v6 (F := Ideal) x w i = ∑ k : Fin 1024, x (ix2 (i 1) k) * w (ix3 (i 0) k (i 2)) := by
  have h0 : (i 0).val < 1 := (i 0).isLt
  have h1 : (i 1).val < 4224 := (i 1).isLt
  have h2 : (i 2).val < 1024 := (i 2).isLt
  rw [Read.val_main_v6_apply, Read.val_main_v5_apply, Read.val_main_v4_apply]
  refine Finset.sum_congr rfl fun k _ => ?_
  rw [Read.val_main_v0_apply, Read.val_main_v3_apply, Read.val_main_v2_apply, Read.val_main_v1_apply]
  have hk : k.val < 1024 := k.isLt
  refine congrArg₂ (· * ·) (congrArg x ?_) (congrArg w ?_)
  · funext a; apply Fin.ext
    match a with
    | ⟨0, _⟩ => show (((i 1).val * 1 + (i 0).val) * 1024 + (i 2).val) / 1024 = (i 1).val; omega
    | ⟨1, _⟩ => rfl
  · funext a; apply Fin.ext
    match a with
    | ⟨0, _⟩ => exact congrArg Fin.val (Subsingleton.elim (α := Fin 1) _ _)
    | ⟨1, _⟩ => show (k.val * 1024 + ((((i 1).val * 1 + (i 0).val) * 1024 + (i 2).val) % 1024)) / 1024 = k.val; omega
    | ⟨2, _⟩ => show (k.val * 1024 + ((((i 1).val * 1 + (i 0).val) * 1024 + (i 2).val) % 1024)) % 1024 = (i 2).val; omega

end Cert.OutFwdRefIdeal.Prod

/-! ## The claims -/

namespace Cert.Proof.OutFwd

open Idealize.ShloMosaic Idealize.ShloMosaic.TcCoe Idealize.ShloMosaic.StableHlo Idealize.SL.Sem

theorem frame_k : quiescent_OutFwd := fun m g _ => OutFwd.Gen.frame m g
theorem frame_ki : quiescent_OutFwdIdeal := fun m g _ => OutFwdIdeal.Gen.frame m g
theorem frame_ri : quiescent_OutFwdRefIdeal := fun m g _ =>
  (θ_run OutFwdRefIdeal.defs _ _).mono (fun r h => ⟨fun c => (h c).2, sem_eq_zero_of_no_sems (by decide) r.2⟩)
    (OutFwdRefIdeal.Value.run m g)

theorem equal : algebraic_OutFwdIdeal_OutFwdRefIdeal := fun m g m' g' _ hargs =>
  ⟨fun c => OutFwdIdeal.Prod.whole (OutFwdIdeal.Prod.arg0 m c) (OutFwdIdeal.Prod.arg1 m c),
   (θ_run OutFwdIdeal.defs _ _).mono (fun r h c => ⟨(h c).1.trans (OutFwdIdeal.Prod.final m c), (h c).2⟩)
     (OutFwdIdeal.Value.run_blocks m g),
   (θ_run OutFwdRefIdeal.defs _ _).mono (fun r h c =>
      ⟨((h c).1.trans (OutFwdRefIdeal.Read.val_main_v6_eq _ _)).trans
          ((congrArg₂ (fun a b => OutFwdRefIdeal.Read.val_main_v6 (F := Ideal) a b) (hargs c).1 (hargs c).2).trans
            (funext fun i => OutFwdRefIdeal.Prod.val_eq _ _ i)), (h c).2⟩)
     (OutFwdRefIdeal.Value.run m' g')⟩

end Cert.Proof.OutFwd

end
-- ==== Proof.Mm.Half.lean ====
/-
  The product that gives half of the rows of the in-projection's weight gradient, for every shard at once: what a point of
  its grid does to the accumulator and to the result, as a program over owned buffers and as a function, and the sum the
  accumulator holds after the points. Shared by the two halves.
-/
module

public import proofs.«01_k».proof.Proof.Step
public import proofs.«01_k».proof.Proof.Mm.Common

@[expose] public section

set_option maxRecDepth 16384

noncomputable section

namespace Cert.Half

open Idealize.ShloMosaic Idealize.SL
open Idealize.SL.RA Idealize.SL.Sem Idealize.SL.ProofMode
open Idealize.SL.BI (sProp)
open scoped Idealize.SL.BI
open Idealize.SL.BI.BIBase Idealize.SL.BI.Laws
open Idealize.ShloMosaic.ValueIdx
open Cert.Mm (T2 T3)
open Cert.Attn (own_load own_store fin seq)
open scoped BigOperators

abbrev SX : Shape := T2 1408 512
abbrev SW : Shape := T3 1 1408 1024
abbrev SA : Shape := T3 8 512 1024
abbrev SR : Shape := T3 1 512 1024
abbrev SP : Shape := T2 512 1024
theorem flat : SW.ShapeCasts (T2 1408 1024) := by decide
theorem down : SR.ShapeCasts SP := by decide
theorem up : SP.ShapeCasts SR := by decide
theorem bits : FTy.bits .bf16 < FTy.bits .f32 := by decide
theorem posX : 0 < SX.numel := by decide
theorem posW : 0 < SW.numel := by decide
theorem posR : 0 < SR.numel := by decide

/-! ## A shard's block of a buffer -/

section Rows
variable {Val : EltTy → Type} {e : EltTy}

/-- Shard `j`'s block, and the buffer with that block replaced. -/
def row (X : SA.Idx → Val e) (j : Fin 8) : SR.Idx → Val e := fun y => X (ix3 j (y 1) (y 2))
def setRow (X : SA.Idx → Val e) (j : Fin 8) (v : SR.Idx → Val e) : SA.Idx → Val e := fun i => if (i 0).val = j.val then v (ix3 0 (i 1) (i 2)) else X i

/-- Where shard `j`'s block starts. -/
abbrev offJ (j : Fin 8) : Fin 3 → ℕ := ![j.val, 0, 0]

theorem ld_row (X : SA.Idx → Val e) (j : Fin 8) (inb : ∀ a, offJ j a + SR.size a ≤ SA.size a) :
    View.ld X (Rect.unit (s := SA) (offJ j) SR.size inb) = row X j := by
  funext y
  refine congrArg X (funext fun d => Fin.ext ?_)
  match d with
  | ⟨0, _⟩ => show j.val + 1 * (y 0).val = j.val; have : (y 0).val < 1 := (y 0).isLt; omega
  | ⟨1, _⟩ => show 0 + 1 * (y 1).val = (y 1).val; omega
  | ⟨2, _⟩ => show 0 + 1 * (y 2).val = (y 2).val; omega

theorem put_row (X : SA.Idx → Val e) (j : Fin 8) (v : SR.Idx → Val e) : VecWindow.put X (offJ j) SR.size v = setRow X j v := by
  funext i
  unfold VecWindow.put setRow
  by_cases h : (i 0).val = j.val
  · rw [dif_pos (fun a => by
      match a with
      | ⟨0, _⟩ => show j.val ≤ (i 0).val ∧ (i 0).val < j.val + 1; omega
      | ⟨1, _⟩ => show 0 ≤ (i 1).val ∧ (i 1).val < 0 + 512; have : (i 1).val < 512 := (i 1).isLt; omega
      | ⟨2, _⟩ => show 0 ≤ (i 2).val ∧ (i 2).val < 0 + 1024; have : (i 2).val < 1024 := (i 2).isLt; omega), if_pos h]
    refine congrArg v (funext fun d => Fin.ext ?_)
    match d with
    | ⟨0, _⟩ => show (i 0).val - j.val = 0; omega
    | ⟨1, _⟩ => show (i 1).val - 0 = (i 1).val; omega
    | ⟨2, _⟩ => show (i 2).val - 0 = (i 2).val; omega
  · rw [dif_neg (fun hh => h (by
      have h0 : j.val ≤ (i 0).val ∧ (i 0).val < j.val + 1 := hh 0
      omega)), if_neg h]

end Rows

/-! ## A point -/

section Point
variable {F : FTy → Type} [FloatOps F]

/-- The product of a point's two blocks, over their rows. -/
def prod (x : Vec F SX .bf16) (w : Vec F SW .bf16) : FVec F SP .f32 :=
  matmul (φ₁ := .bf16) (φ₂ := .bf16) (Cert.Mm.rowsDims 512 1408 1024) none x (shapeCast (T2 1408 1024) w flat : FVec F (T2 1408 1024) .bf16) (constant SP .f32 0x00000000#32)

/-- The accumulator after a point of row tile `p` and shard `j`: the product at the first tile, added to what was there at the others. -/
def acc (p : ℕ) (j : Fin 8) (s : Vec F SA .f32) (x : Vec F SX .bf16) (w : Vec F SW .bf16) : Vec F SA .f32 :=
  setRow s j (if p = 0 then shapeCast SR (prod x w) up else shapeCast SR (addf (shapeCast SP (row s j) down : FVec F SP .f32) (prod x w)) up)

/-- The result's block after it: the shard's sum, rounded, at the last tile. -/
def out (p : ℕ) (j : Fin 8) (Y : Vec F SA .bf16) (s : Vec F SA .f32) : Vec F SA .bf16 :=
  if p = 2 then setRow Y j (shapeCast SR (truncf .bf16 (shapeCast SP (row s j) down : FVec F SP .f32) bits : FVec F SP .bf16) up) else Y

variable {nD : ℕ} {τ : Topo} {sig : RefSig} {Λ : Labels}

/-- The program of a point. -/
def body (c1 c2 c3 : BitVec 1) (off1 off2 off3 : Fin 3 → ℕ)
    (inb1 : c1 = 1#1 → ∀ a, off1 a + SR.size a ≤ SA.size a) (inb2 : c2 = 1#1 → ∀ a, off2 a + SR.size a ≤ SA.size a)
    (inb3 : c3 = 1#1 → ∀ a, off3 a + SR.size a ≤ SA.size a) (bX : ∀ a, (![0, 0] : Fin 2 → ℕ) a + SX.size a ≤ SX.size a)
    (bW : ∀ a, (![0, 0, 0] : Fin 3 → ℕ) a + SW.size a ≤ SW.size a)
    (arg2 : Memref sig .tc .vmem SX .bf16) (arg3 : Memref sig .tc .vmem SW .bf16) (arg5 : Memref sig .tc .vmem SA .bf16) (arg6 : Memref sig .tc .vmem SA .f32)
    (hs : ∀ h : c3 = 1#1, (arg5.access (Rect.unit (s := SA) off3 SR.size (inb3 h))).Stores Finset.univ) :
    Prog (TpuEff nD τ sig (Elt F) Λ .tc) PUnit := do
  let x : Vec F SX .bf16 ← Prog.lift (.load arg2 (Rect.unit (s := SX) ![0, 0] SX.size bX).toLoadRect (View.loadsAt_vmem posX))
  let w : Vec F SW .bf16 ← Prog.lift (.load arg3 (Rect.unit (s := SW) ![0, 0, 0] SW.size bW).toLoadRect (View.loadsAt_vmem posW))
  if h : c1 = 1#1 then do
    let _ : Vec F SR .f32 ← Prog.lift (.load arg6 (Rect.unit (s := SA) off1 SR.size (inb1 h)).toLoadRect (View.loadsAt_vmem posR))
    Prog.lift (.store arg6 (Rect.unit (s := SA) off1 SR.size (inb1 h)) (shapeCast SR (prod x w) up : Vec F SR .f32) Finset.univ (View.stores_vmem_bits_univ posR rfl) (.inl rfl))
    pure ⟨⟩
  else do
    pure ⟨⟩
  if h : c2 = 1#1 then do
    let a : Vec F SR .f32 ← Prog.lift (.load arg6 (Rect.unit (s := SA) off2 SR.size (inb2 h)).toLoadRect (View.loadsAt_vmem posR))
    let _ : Vec F SR .f32 ← Prog.lift (.load arg6 (Rect.unit (s := SA) off2 SR.size (inb2 h)).toLoadRect (View.loadsAt_vmem posR))
    Prog.lift (.store arg6 (Rect.unit (s := SA) off2 SR.size (inb2 h)) (shapeCast SR (addf (shapeCast SP a down : FVec F SP .f32) (prod x w)) up : Vec F SR .f32) Finset.univ (View.stores_vmem_bits_univ posR rfl) (.inl rfl))
    pure ⟨⟩
  else do
    pure ⟨⟩
  if h : c3 = 1#1 then do
    let a : Vec F SR .f32 ← Prog.lift (.load arg6 (Rect.unit (s := SA) off3 SR.size (inb3 h)).toLoadRect (View.loadsAt_vmem posR))
    let _ : Vec F SR .bf16 ← Prog.lift (.load arg5 (Rect.unit (s := SA) off3 SR.size (inb3 h)).toLoadRect (View.loadsAt_vmem posR))
    Prog.lift (.store arg5 (Rect.unit (s := SA) off3 SR.size (inb3 h)) (shapeCast SR (truncf .bf16 (shapeCast SP a down : FVec F SP .f32) bits : FVec F SP .bf16) up : Vec F SR .bf16) Finset.univ (hs h) (.inl rfl))
    pure ⟨⟩
  else do
    pure ⟨⟩
  pure ⟨⟩

variable {Ix : Type} [DecidableEq Ix] {Name : Type} [DecidableEq Name] {U : Type} [URA U] {Lvl : Type} [Preorder Lvl]
local notation "𝕄" => MT nD τ sig Ix (Elt F) Name U Lvl
variable {defs : Defs nD τ sig (Elt F) Λ} (𝒱 : Variants) (d : Dev nD) (bd : Option 𝒱.V) {Γ : PendingWaitsCtx sig Ix} (E : Set Name)

theorem body_spec (p : ℕ) (j : Fin 8) (c1 c2 c3 : BitVec 1) (off1 off2 off3 : Fin 3 → ℕ) (inb1) (inb2) (inb3) (bX) (bW)
    (arg2 : Memref sig .tc .vmem SX .bf16) (arg3 : Memref sig .tc .vmem SW .bf16) (arg5 : Memref sig .tc .vmem SA .bf16) (arg6 : Memref sig .tc .vmem SA .f32)
    (hs) (h1 : c1 = 1#1 ↔ p = 0) (h2 : c2 = 1#1 ↔ ¬ p = 0) (h3 : c3 = 1#1 ↔ p = 2) (e1 : off1 = offJ j) (e2 : off2 = offJ j) (e3 : off3 = offJ j)
    (q2 q3 : PosShare TreeShare) (x : Vec F SX .bf16) (w : Vec F SW .bf16) (Y : Vec F SA .bf16) (s : Vec F SA .f32) :
    (iprop(owns (d.tc : Thread nD τ) arg2 q2 x ∗ owns (d.tc : Thread nD τ) arg3 q3 w ∗ owns (d.tc : Thread nD τ) arg5 fullShare Y ∗ owns (d.tc : Thread nD τ) arg6 fullShare s) : sProp 𝕄)
      ⊢ wp frame (wpE' defs 𝒱 (d.tc : Thread nD τ) bd Γ) E (body (Λ := Λ) c1 c2 c3 off1 off2 off3 inb1 inb2 inb3 bX bW arg2 arg3 arg5 arg6 hs)
        (fun _ => iprop(owns (d.tc : Thread nD τ) arg2 q2 x ∗ owns (d.tc : Thread nD τ) arg3 q3 w
          ∗ owns (d.tc : Thread nD τ) arg5 fullShare (out p j Y (acc p j s x w)) ∗ owns (d.tc : Thread nD τ) arg6 fullShare (acc p j s x w))) := by
  subst e1 e2 e3
  unfold body
  by_cases hp : p = 0
  · have n2 : ¬ c2 = 1#1 := fun h => (h2.1 h) hp
    have n3 : ¬ c3 = 1#1 := fun h => by have := h3.1 h; omega
    unfold out acc
    rw [if_neg (show ¬ p = 2 by omega), if_pos hp]
    simp only [dif_pos (h1.2 hp), dif_neg n2, dif_neg n3, Prog.bind_lift, bind_assoc, Prog.bind_ret, pure_bind]
    try unfold Prog.lift
    iintro ⟨H2, H3, H5, H6⟩
    iapply own_load 𝒱 d bd E $$ H2; iintro H2
    iapply own_load 𝒱 d bd E $$ H3; iintro H3
    iapply own_load 𝒱 d bd E $$ H6; iintro H6
    iapply own_store 𝒱 d bd E $$ H6; iintro H6
    rw [View.ld_unit_zero (S := SX) Cert.Mm.zeros2, View.ld_unit_zero (S := SW) Cert.Mm.zeros3, put_row]
    iapply fin 𝒱 d bd E .rfl
    isplitl [H2]; · iexact H2
    isplitl [H3]; · iexact H3
    isplitl [H5]; · iexact H5
    iexact H6
  · have n1 : ¬ c1 = 1#1 := fun h => hp (h1.1 h)
    unfold out acc
    rw [if_neg hp]
    by_cases h2' : p = 2
    · rw [if_pos h2']
      simp only [dif_neg n1, dif_pos (h2.2 hp), dif_pos (h3.2 h2'), Prog.bind_lift, bind_assoc, Prog.bind_ret, pure_bind]
      try unfold Prog.lift
      iintro ⟨H2, H3, H5, H6⟩
      iapply own_load 𝒱 d bd E $$ H2; iintro H2
      iapply own_load 𝒱 d bd E $$ H3; iintro H3
      iapply own_load 𝒱 d bd E $$ H6; iintro H6
      iapply own_load 𝒱 d bd E $$ H6; iintro H6
      iapply own_store 𝒱 d bd E $$ H6; iintro H6
      iapply own_load 𝒱 d bd E $$ H6; iintro H6
      iapply own_load 𝒱 d bd E $$ H5; iintro H5
      iapply own_store 𝒱 d bd E $$ H5; iintro H5
      rw [View.ld_unit_zero (S := SX) Cert.Mm.zeros2, View.ld_unit_zero (S := SW) Cert.Mm.zeros3, put_row, put_row, ld_row, ld_row]
      iapply fin 𝒱 d bd E .rfl
      isplitl [H2]; · iexact H2
      isplitl [H3]; · iexact H3
      isplitl [H5]; · iexact H5
      iexact H6
    · rw [if_neg h2']
      simp only [dif_neg n1, dif_pos (h2.2 hp), dif_neg (fun h => h2' (h3.1 h)), Prog.bind_lift, bind_assoc, Prog.bind_ret, pure_bind]
      try unfold Prog.lift
      iintro ⟨H2, H3, H5, H6⟩
      iapply own_load 𝒱 d bd E $$ H2; iintro H2
      iapply own_load 𝒱 d bd E $$ H3; iintro H3
      iapply own_load 𝒱 d bd E $$ H6; iintro H6
      iapply own_load 𝒱 d bd E $$ H6; iintro H6
      iapply own_store 𝒱 d bd E $$ H6; iintro H6
      rw [View.ld_unit_zero (S := SX) Cert.Mm.zeros2, View.ld_unit_zero (S := SW) Cert.Mm.zeros3, put_row, ld_row]
      iapply fin 𝒱 d bd E .rfl
      isplitl [H2]; · iexact H2
      isplitl [H3]; · iexact H3
      isplitl [H5]; · iexact H5
      iexact H6

/-! ## The points in order -/

/-- The shard of a point. -/
abbrev shard (n : ℕ) : Fin 8 := ⟨n % 8, Nat.mod_lt _ (by norm_num)⟩

/-- The accumulator before point `n`, of blocks `x` and `w`, from `s` at the start. -/
def track (x : ℕ → Vec F SX .bf16) (w : ℕ → Vec F SW .bf16) (s : Vec F SA .f32) : ℕ → Vec F SA .f32
  | 0 => s
  | n + 1 => acc (n / 8) (shard n) (track x w s n) (x n) (w n)

end Point

/-! ## Over the reals -/

section Value
variable (x : ℕ → Vec Ideal SX .bf16) (w : ℕ → Vec Ideal SW .bf16)

theorem prod_apply (x : Vec Ideal SX .bf16) (w : Vec Ideal SW .bf16) (a : Fin 512) (b : Fin 1024) :
    prod x w (ix2 a b) = ∑ k : Fin 1408, x (ix2 k a) * w (ix3 0 k b) := by
  refine (Cert.Mm.tn (φ₁ := .bf16) (φ₂ := .bf16) x (shapeCast (T2 1408 1024) w flat : FVec Ideal (T2 1408 1024) .bf16) a b).trans ?_
  exact Finset.sum_congr rfl fun k _ => congrArg₂ (· * ·) rfl (Cert.Mm.drop w flat k b)

/-- After the points below `n`, the block of each shard met so far is the sum of its products. -/
theorem track_val (s : Vec Ideal SA .f32) (n : ℕ) (j : Fin 8) (hj : j.val < n) (a : Fin 512) (b : Fin 1024) :
    track x w s n (ix3 j a b) = ∑ q ∈ Finset.range ((n - 1 - j.val) / 8 + 1), (prod (x (8 * q + j.val)) (w (8 * q + j.val)) (ix2 a b) : EReal) := by
  induction n with
  | zero => exact absurd hj (Nat.not_lt_zero _)
  | succ n ih =>
    have hj8 := j.isLt
    show acc (n / 8) (shard n) (track x w s n) (x n) (w n) (ix3 j a b) = _
    unfold acc setRow
    by_cases h : j.val = n % 8
    · rw [if_pos (show ((ix3 j a b : SA.Idx) 0).val = (shard n).val from h)]
      by_cases h0 : n / 8 = 0
      · rw [if_pos h0, show (n + 1 - 1 - j.val) / 8 + 1 = 1 by omega, Finset.sum_range_one, show 8 * 0 + j.val = n by omega]
        exact Cert.Mm.put _ up a b
      · rw [if_neg h0, show (n + 1 - 1 - j.val) / 8 + 1 = ((n - 1 - j.val) / 8 + 1) + 1 by omega, Finset.sum_range_succ,
          show 8 * ((n - 1 - j.val) / 8 + 1) + j.val = n by omega, ← ih (by omega)]
        refine (Cert.Mm.put _ up a b).trans (congrArg (· + (prod (x n) (w n) (ix2 a b) : EReal)) ?_)
        refine (Cert.Mm.drop _ down a b).trans (congrArg (track x w s n) ?_)
        funext d
        match d with
        | ⟨0, _⟩ => exact Fin.ext h.symm
        | ⟨1, _⟩ => rfl
        | ⟨2, _⟩ => rfl
    · rw [if_neg (show ¬ ((ix3 j a b : SA.Idx) 0).val = (shard n).val from h), ih (by omega), show (n + 1 - 1 - j.val) / 8 = (n - 1 - j.val) / 8 by omega]

/-- The result's block after a point of the last tile, at its shard and at another. -/
theorem out_here (s : Vec Ideal SA .f32) (n : ℕ) (h16 : 16 ≤ n) (h24 : n < 24) (Y : Vec Ideal SA .bf16) (j : Fin 8) (hj : j.val = n % 8) (a : Fin 512) (b : Fin 1024) :
    out (n / 8) (shard n) Y (track x w s (n + 1)) (ix3 j a b) = ∑ q ∈ Finset.range 3, (prod (x (8 * q + j.val)) (w (8 * q + j.val)) (ix2 a b) : EReal) := by
  unfold out setRow
  rw [if_pos (show n / 8 = 2 by omega), if_pos (show ((ix3 j a b : SA.Idx) 0).val = (shard n).val from hj)]
  have e := track_val x w s (n + 1) j (by omega) a b
  rw [show (n + 1 - 1 - j.val) / 8 + 1 = 3 by omega] at e
  refine Eq.trans ?_ e
  refine (Cert.Mm.put _ up a b).trans ?_
  show shapeCast SP (row (track x w s (n + 1)) (shard n)) down (ix2 a b) = _
  refine (Cert.Mm.drop _ down a b).trans (congrArg (track x w s (n + 1)) ?_)
  funext d
  match d with
  | ⟨0, _⟩ => exact Fin.ext hj.symm
  | ⟨1, _⟩ => rfl
  | ⟨2, _⟩ => rfl

theorem out_there (s : Vec Ideal SA .f32) (n : ℕ) (Y : Vec Ideal SA .bf16) (i : SA.Idx) (hj : n / 8 = 2 → ¬ (i 0).val = n % 8) :
    out (n / 8) (shard n) Y s i = Y i := by
  unfold out setRow
  by_cases h : n / 8 = 2
  · rw [if_pos h, if_neg (show ¬ (i 0).val = (shard n).val from hj h)]
  · rw [if_neg h]

/-- The result: the gradient in the rows of half `h`, what was there in the others. -/
def result (h : ℕ) (x : FVec Ideal (T2 4224 1024) .bf16) (w : FVec Ideal (T3 8 4224 1024) .bf16) (g : FVec Ideal (T3 8 1024 1024) .bf16) : FVec Ideal (T3 8 1024 1024) .bf16 :=
  fun i => if (i 1).val / 512 = h then (∑ r : Fin 4224, x (ix2 r (i 1)) * w (ix3 (i 0) r (i 2)) : EReal) else g i

/-- The sum of three tiles' products is the sum over all the rows. -/
theorem tiles (h : ℕ) (X : FVec Ideal (T2 4224 1024) .bf16) (W : FVec Ideal (T3 8 4224 1024) .bf16) (j : Fin 8) (a : Fin 512) (c b : Fin 1024) (hc : c.val = 512 * h + a.val)
    (hx : ∀ q, q < 3 → ∀ (k : Fin 1408) (r : Fin 4224), r.val = q * 1408 + k.val → x (8 * q + j.val) (ix2 k a) = X (ix2 r c))
    (hw : ∀ q, q < 3 → ∀ (k : Fin 1408) (r : Fin 4224), r.val = q * 1408 + k.val → w (8 * q + j.val) (ix3 0 k b) = W (ix3 j r b)) :
    ∑ q ∈ Finset.range 3, (prod (x (8 * q + j.val)) (w (8 * q + j.val)) (ix2 a b) : EReal) = ∑ r : Fin 4224, X (ix2 r c) * W (ix3 j r b) := by
  have e : ∀ r : Fin 4224, (X (ix2 r c) * W (ix3 j r b) : EReal) = (fun n : ℕ => if hn : n < 4224 then (X (ix2 ⟨n, hn⟩ c) * W (ix3 j ⟨n, hn⟩ b) : EReal) else 0) r.val :=
    fun r => by
      show _ = if hn : r.val < 4224 then (X (ix2 ⟨r.val, hn⟩ c) * W (ix3 j ⟨r.val, hn⟩ b) : EReal) else 0
      rw [dif_pos r.isLt]
  rw [Finset.sum_congr rfl fun r _ => e r]
  refine Eq.trans ?_ (Cert.Mm.shards 3 1408 (fun n : ℕ => if hn : n < 4224 then (X (ix2 ⟨n, hn⟩ c) * W (ix3 j ⟨n, hn⟩ b) : EReal) else 0)).symm
  refine (Finset.sum_range _).trans (Finset.sum_congr rfl fun q _ => ?_)
  rw [prod_apply]
  refine Finset.sum_congr rfl fun k _ => ?_
  have hr : q.val * 1408 + k.val < 4224 := by have := q.isLt; have := k.isLt; omega
  rw [dif_pos hr]
  exact congrArg₂ (· * ·) (hx q.val q.isLt k ⟨_, hr⟩ rfl) (hw q.val q.isLt k ⟨_, hr⟩ rfl)

end Value

/-- A block that lies in the array is not cut. -/
theorem clip_whole {ix k d : ℕ} (h : (ix + 1) * k ≤ d) : (Pipeline.Clip.of ix k d).extent k = k := by
  unfold Pipeline.Clip.of; rw [if_pos h]

end Cert.Half
-- ==== Proof.Mm.InDwA.lean ====
/-
  The product of the in-projection's backward pass that gives the first half of the rows of the weights' gradient, a shard
  for each shard of columns: at each point a tile of rows' product is added into one shard's part of the accumulator, and
  in the last sweep over the shards each is rounded and written. The kernel is run over the reals and compared with the
  derivative of the whole product, whose first half it is; the other half of the array is left as it was.
-/
module

public import proofs.«01_k».proof.Defs
public import proofs.«01_k».proof.Proof.Mm.Half
public import proofs.«01_k».proof.Proof.Gen.InDwA.Frame
public import proofs.«01_k».proof.Proof.Gen.InDwAIdeal
public import proofs.«01_k».proof.Proof.Gen.InDwARefIdeal.Read
public import Idealize.ShloMosaic.Lib.Quiescent

@[expose] public section

set_option maxRecDepth 65536

noncomputable section

/-! ## The points, over any arithmetic: the program as printed and, the same text, the program over the reals -/

namespace Cert.InDwA.Half

open Cert.InDwA Cert.InDwA.Gen Cert.Half
open Idealize.ShloMosaic Idealize.ShloMosaic.TcCoe Idealize.SL
open Idealize.SL.RA Idealize.SL.Sem Idealize.SL.ProofMode
open Idealize.SL.BI (sProp)
open scoped Idealize.SL.BI
open Idealize.SL.BI.BIBase Idealize.SL.BI.Laws
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off1_eq : ∀ (i : grid0.Coords), k0_off1 i = offJ (i 1) := by decide +kernel
theorem off2_eq : ∀ (i : grid0.Coords), k0_off2 i = offJ (i 1) := by decide +kernel
theorem off3_eq : ∀ (i : grid0.Coords), k0_off3 i = offJ (i 1) := by decide +kernel
theorem cond1_iff : ∀ (i : grid0.Coords), k0_cond1 i = 1#1 ↔ (i 0).val = 0 := by decide +kernel
theorem cond2_iff : ∀ (i : grid0.Coords), k0_cond2 i = 1#1 ↔ ¬ (i 0).val = 0 := by decide +kernel
theorem cond3_iff : ∀ (i : grid0.Coords), k0_cond3 i = 1#1 ↔ (i 0).val = 2 := by decide +kernel

theorem tile_eq (t : Fin cfg0.N) : ((grid0.coords t) 0).val = t.val / 8 :=
  (Pipeline.Grid.coords_val (G := grid0) t (0 : Fin 2) (S := 8) (B := 3) (by decide) (by decide)).trans
    (Nat.mod_eq_of_lt (by have h : t.val < 24 := lt_of_lt_of_eq t.isLt N_0; omega))
theorem shard_eq (t : Fin cfg0.N) : (grid0.coords t) 1 = shard t.val :=
  Fin.ext ((Pipeline.Grid.coords_val (G := grid0) t (1 : Fin 2) (S := 1) (B := 8) (by decide) (by decide)).trans (by rw [Nat.div_one]))

/-- The printed body is the program of a point. -/
theorem body_eq (i : grid0.Coords) (arg2 : Memref sig .tc .vmem S1408x512 .bf16) (harg2 : arg2.IsWhole) (arg3 : Memref sig .tc .vmem S1x1408x1024 .bf16) (harg3 : arg3.IsWhole) (arg4 : Memref sig .tc .hbm S8x1024x1024 .bf16) (harg4 : arg4.IsWhole) (arg5 : Memref sig .tc .vmem S8x512x1024 .bf16) (harg5 : arg5.IsWhole) (arg6 : Memref sig .tc .vmem S8x512x1024 .f32) (harg6 : arg6.IsWhole) :
    cc0_mm_in_dw_a (F := F) i arg2 harg2 arg3 harg3 arg4 harg4 arg5 harg5 arg6 harg6 =
      body (Λ := Λ₀) (k0_cond1 i) (k0_cond2 i) (k0_cond3 i) (k0_off1 i) (k0_off2 i) (k0_off3 i) (k0_off1_inb i) (k0_off2_inb i) (k0_off3_inb i)
        inb_S1408x512_S1408x512_0_0 inb_S1x1408x1024_S1x1408x1024_0_0_0 arg2 arg3 arg5 arg6
        (fun h => View.stores_vmem posR (harg5.storeExact_slice rfl _ (k0_off3_packedbf16 i h)) (fun _ => rfl)) := by
  sl_kernel_rfl

/-- The blocks a point reads. -/
def pt (n : ℕ) : Fin cfg0.N := if h : n < cfg0.N then ⟨n, h⟩ else ⟨0, lt_of_lt_of_eq (by norm_num) N_0.symm⟩
theorem pt_val (t : Fin cfg0.N) : pt t.val = t := dif_pos t.isLt
def xAt (c : Dev nD) (n : ℕ) : Vec F SX .bf16 := iblk m c 0 (pt n)
def wAt (c : Dev nD) (n : ℕ) : Vec F SW .bf16 := iblk m c 1 (pt n)

/-- What the pipeline is told of each point: the operands are left as found, the result's block is left as the point's
    program leaves it, the accumulator is where the points before have brought it from some start. -/
def rdat (c : Dev nD) : RDat τ (Elt F) Unit ℕ (UR sig nD τ) ℕ cfg0 c where
  A w := V m c (Pipeline.arrRef spec0 w)
  after := fun
    | 0 => fun _ Y X => X = Y
    | 1 => fun _ Y X => X = Y
    | 2 => fun t (Y : Vec F SA .bf16) (X : Vec F SA .bf16) => ∃ s : Vec F SA .f32, X = out (t.val / 8) (shard t.val) Y (track (xAt m c) (wAt m c) s (t.val + 1))
    | ⟨_ + 3, h⟩ => absurd h (Nat.not_lt.2 (Nat.le_add_left _ _))
  Φ n := iprop(∃ s : Vec F SA .f32, owns (c.tc : Thread nD τ) (Memref.whole cc0_scratch0) fullShare (track (xAt m c) (wAt m c) s n.val) ∗ ∃ r, prngReg c r)
  q w := Pipeline.shareOf spec0 w
  owed _ := 0

theorem finds0 (c : Dev nD) (t : Fin cfg0.N) (Y) (h : (rdat m c).Finds 0 t Y) : Y = xAt m c t.val := by
  obtain ⟨d, e⟩ := (rdat m c).finds_in_eq_fetched 0 rfl (fun _ _ _ => rfl) (fun _ _ _ e => e) t Y h
  unfold xAt; rw [pt_val]; exact e
theorem finds1 (c : Dev nD) (t : Fin cfg0.N) (Y) (h : (rdat m c).Finds 1 t Y) : Y = wAt m c t.val := by
  obtain ⟨d, e⟩ := (rdat m c).finds_in_eq_fetched 1 rfl (fun _ _ _ => rfl) (fun _ _ _ e => e) t Y h
  unfold wAt; rw [pt_val]; exact e

theorem phi_succ (c : Dev nD) (t : Fin cfg0.N) (s : Vec F SA .f32) :
    (iprop(owns (c.tc : Thread nD τ) (Memref.whole cc0_scratch0) fullShare (track (xAt m c) (wAt m c) s (t.val + 1)) ∗ ∃ r, prngReg c r) : sProp 𝕄) ⊢ (rdat m c).Φ t.succ := by
  show _ ⊢ iprop(∃ s : Vec F SA .f32, owns (c.tc : Thread nD τ) (Memref.whole cc0_scratch0) fullShare (track (xAt m c) (wAt m c) s (t.val + 1)) ∗ ∃ r, prngReg c r)
  iintro H
  iexists s
  iexact H

theorem body_at (c : Dev nD) : (rdat m c).BodyObligation defs₀ Variants.none () Set.univ := by
  intro t Y hY
  have e0 := finds0 m c t _ (hY 0)
  have e1 := finds1 m c t _ (hY 1)
  rw [bigSep_W0, bigSep_W0]
  show iprop((∃ s : Vec F SA .f32, owns (c.tc : Thread nD τ) (Memref.whole cc0_scratch0) fullShare (track (xAt m c) (wAt m c) s t.val) ∗ ∃ r, prngReg c r) ∗ (rdat m c).owesAt () t.castSucc ∗ _)
    ⊢ wp frame (wpE' defs₀ Variants.none (c.tc : Thread nD τ) none PendingWaitsCtx.empty) Set.univ (bodyAt0 t) _
  unfold bodyAt0
  rw [body_eq]
  iintro ⟨⟨%s, HC, HR⟩, HO, H0, H1, H2⟩
  iapply wp_wand_r
  isplitl [HC H0 H1 H2]
  · iapply body_spec Variants.none c none Set.univ (t.val / 8) (shard t.val) _ _ _ _ _ _ _ _ _ _ _ _ _ _ _ _
      ((cond1_iff _).trans (by rw [tile_eq])) ((cond2_iff _).trans (by rw [tile_eq])) ((cond3_iff _).trans (by rw [tile_eq]))
      ((off1_eq _).trans (congrArg offJ (shard_eq t))) ((off2_eq _).trans (congrArg offJ (shard_eq t))) ((off3_eq _).trans (congrArg offJ (shard_eq t)))
      fullShare fullShare (Y 0) (Y 1) (Y 2) (track (xAt m c) (wAt m c) s t.val)
    isplitl [H0]; · iexact H0
    isplitl [H1]; · iexact H1
    isplitl [H2]; · iexact H2
    iexact HC
  have hd : acc (t.val / 8) (shard t.val) (track (xAt m c) (wAt m c) s t.val) (Y 0) (Y 1) = track (xAt m c) (wAt m c) s (t.val + 1) := by
    rw [e0, e1]; rfl
  rw [hd]
  iintro %_ ⟨H0, H1, H2, HC⟩
  isplitl [HC HR]
  · iapply phi_succ m c t s
    isplitl [HC]; · iexact HC
    iexact HR
  isplitl [HO]; · iexact HO
  isplitl [H0]; · iexists (Y 0); isplitr; (· ipureintro; exact rfl); iexact H0
  isplitl [H1]; · iexists (Y 1); isplitr; (· ipureintro; exact rfl); iexact H1
  iexists (out (t.val / 8) (shard t.val) (Y 2) (track (xAt m c) (wAt m c) s (t.val + 1))); isplitr; (· ipureintro; exact ⟨s, rfl⟩); iexact H2

theorem enter (c : Dev nD) : (Pipeline.ΦA spec0 c : sProp 𝕄) ⊢ (rdat m c).Φ 0 := by
  unfold Pipeline.ΦA
  rw [scopedRest0_eq]
  show _ ⊢ iprop(∃ s : Vec F SA .f32, owns (c.tc : Thread nD τ) (Memref.whole cc0_scratch0) fullShare s ∗ ∃ r, prngReg c r)
  iintro ⟨⟨%f, HC⟩, HR⟩
  iexists f
  rw [owns_whole]
  isplitl [HC]; · iexact HC
  iexact HR

theorem of_owns (c : Dev nD) (b : Ref sig .tc) (f : b.ty.Contents (Elt F)) :
    (owns (c.tc : Thread nD τ) (Memref.whole b) fullShare f : sProp 𝕄) ⊢ ((c.tc : Thread nD τ).loc b ↦{fullShare} f) := by
  rw [owns_whole]

theorem leave (c : Dev nD) : (rdat m c).Φ (Fin.last cfg0.N) ⊢ (Pipeline.ΦA spec0 c : sProp 𝕄) := by
  unfold Pipeline.ΦA
  rw [scopedRest0_eq]
  show iprop(∃ s : Vec F SA .f32, owns (c.tc : Thread nD τ) (Memref.whole cc0_scratch0) fullShare (track (xAt m c) (wAt m c) s (Fin.last cfg0.N).val) ∗ ∃ r, prngReg c r) ⊢ _
  iintro ⟨%s, HC, HR⟩
  isplitl [HC]
  · iexists (track (xAt m c) (wAt m c) s (Fin.last cfg0.N).val); iapply of_owns; iexact HC
  iexact HR

theorem run : θ_run defs (onTc (τ := τ) (Cert.InDwA.main (F := F))) (s₀ m ρ)
    (fun r => RDat.FramePost cfg0 (rdat m) (V m) r ∧ r.2.sem = fun _ => 0) :=
  Pipeline.RDat.θ_run_frame_track_shared (Q' := _) cfgs (0 : Fin 1) launch0.to₀ defs₀ Variants.none (rdat m) m ρ Cert.InDwA.main
    (body_at m) (fun _ _ _ => rfl) (fun _ _ => rfl) (V m) (hmain m Variants.none) (fun _ _ => rfl) (enter m) (leave m) (hQ' := fun _ h => h)

theorem args (c : Dev nD) (r) (h : RDat.FramePost cfg0 (rdat m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((congrFun ((rdat m c).ArrAt_in 0 rfl _) _).mp ((h c).1 0)).trans (V_main_arg0 m c),
   ((congrFun ((rdat m c).ArrAt_in 1 rfl _) _).mp ((h c).1 1)).trans (V_main_arg1 m c),
   ((h c).2 main_arg2 (Pipeline.mem_restRefs_of main_arg2 (by decide) (by decide))).trans (V_main_arg2 m c)⟩

/-- The kernel runs, and leaves its arguments and every counter as they were. -/
theorem framed : θ_run defs (onTc (τ := τ) (Cert.InDwA.main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args m c r h.1, h.2⟩) (run m ρ)

end Cert.InDwA.Half

/-! ## The value -/

namespace Cert.InDwA.Half

open Cert.InDwA Cert.InDwA.Gen Cert.Half
open Idealize.ShloMosaic Idealize.ShloMosaic.TcCoe Idealize.SL
open Idealize.ShloMosaic.ValueIdx
open Idealize.ShloMosaic.Pipeline (RDat Cfg Window)
open scoped BigOperators

variable (m : (ℓ : Loc nD τ sig) → Buf (Elt Ideal) ℓ)

theorem place : ∀ t : Fin cfg0.N, (win0_0.index t (0 : Fin 2) = t.val / 8 ∧ win0_0.index t (1 : Fin 2) = 0)
    ∧ (win0_1.index t (0 : Fin 3) = t.val % 8 ∧ win0_1.index t (1 : Fin 3) = t.val / 8 ∧ win0_1.index t (2 : Fin 3) = 0)
    ∧ (win0_2.index t (0 : Fin 3) = 0 ∧ win0_2.index t (1 : Fin 3) = 0 ∧ win0_2.index t (2 : Fin 3) = 0) :=
  (by decide +kernel : ∀ t : Fin grid0.N, _)

theorem lt_N (t : Fin cfg0.N) : t.val < 24 := lt_of_lt_of_eq t.isLt N_0

abbrev arg0 (c : Dev nD) : FVec Ideal (Cert.Mm.T2 4224 1024) .bf16 := m ((c : Thread nD τ).loc main_arg0)
abbrev arg1 (c : Dev nD) : FVec Ideal (Cert.Mm.T3 8 4224 1024) .bf16 := m ((c : Thread nD τ).loc main_arg1)
abbrev arg2 (c : Dev nD) : FVec Ideal (Cert.Mm.T3 8 1024 1024) .bf16 := m ((c : Thread nD τ).loc main_arg2)

theorem x_apply (c : Dev nD) (n : ℕ) (hn : n < 24) (k : Fin 1408) (a : Fin 512) (r : Fin 4224) (d : Fin 1024) (hr : r.val = n / 8 * 1408 + k.val) (hd : d.val = 512 * 0 + a.val) :
    xAt m c n (ix2 k a) = arg0 m c (ix2 r d) := by
  have hp : (pt n).val = n := congrArg Fin.val (dif_pos (lt_of_lt_of_eq hn N_0.symm))
  obtain ⟨⟨e0, e1⟩, -⟩ := place (pt n)
  unfold xAt iblk
  rw [View.read_apply]
  refine congrArg (arg0 m c) (funext fun b => Fin.ext ?_)
  match b with
  | ⟨0, _⟩ => show win0_0.index (pt n) 0 * 1408 + 1 * k.val = r.val; rw [e0, hp]; omega
  | ⟨1, _⟩ => show win0_0.index (pt n) 1 * 512 + 1 * a.val = d.val; rw [e1]; omega

theorem w_apply (c : Dev nD) (n : ℕ) (hn : n < 24) (k : Fin 1408) (b : Fin 1024) (j : Fin 8) (r : Fin 4224) (hj : j.val = n % 8) (hr : r.val = n / 8 * 1408 + k.val) :
    wAt m c n (ix3 0 k b) = arg1 m c (ix3 j r b) := by
  have hp : (pt n).val = n := congrArg Fin.val (dif_pos (lt_of_lt_of_eq hn N_0.symm))
  obtain ⟨-, ⟨e0, e1, e2⟩, -⟩ := place (pt n)
  unfold wAt iblk
  rw [View.read_apply]
  refine congrArg (arg1 m c) (funext fun d => Fin.ext ?_)
  match d with
  | ⟨0, _⟩ => show win0_1.index (pt n) 0 * 1 + 1 * 0 = j.val; rw [e0, hp]; omega
  | ⟨1, _⟩ => show win0_1.index (pt n) 1 * 1408 + 1 * k.val = r.val; rw [e1, hp]; omega
  | ⟨2, _⟩ => show win0_1.index (pt n) 2 * 1024 + 1 * b.val = b.val; rw [e2]; omega

/-- The block of the result after each point of the last sweep: the shards written so far. -/
theorem out_val (c : Dev nD) (n : ℕ) (hn : n < cfg0.N) (X : Vec Ideal SA .bf16) (hX : (rdat m c).Leaves 2 ⟨n, hn⟩ X) (j : Fin 8) (hj : 16 + j.val ≤ n) (a : Fin 512) (b : Fin 1024) :
    X (ix3 j a b) = ∑ q ∈ Finset.range 3, (prod (xAt m c (8 * q + j.val)) (wAt m c (8 * q + j.val)) (ix2 a b) : EReal) := by
  have h24 : n < 24 := lt_of_lt_of_eq hn N_0
  induction n generalizing X with
  | zero => exact absurd hj (by omega)
  | succ n ih =>
    obtain ⟨Y, hY, s, e⟩ := hX
    have e : X = out ((n + 1) / 8) (shard (n + 1)) Y (track (xAt m c) (wAt m c) s (n + 1 + 1)) := e
    rw [e]
    by_cases h : j.val = (n + 1) % 8
    · exact out_here _ _ s (n + 1) (by omega) h24 Y j h a b
    · refine (out_there _ (n + 1) Y _ (fun _ => h)).trans ?_
      have hf : (cfg0.win 2).fetch ⟨n + 1, hn⟩ = false := rfl
      rcases ((rdat m c).finds_of_pos hf (Nat.succ_ne_zero n) Y).mp hY with hfl | hle
      · have := (flush0_2 _).mp hfl
        exact absurd this (by show ¬ (n + 1 - 1) % 24 = 23; omega)
      · exact ih (Nat.lt_of_succ_lt hn) Y hle (by have := j.isLt; omega) (by omega)

/-! ## The array after the points -/

theorem xsize_val (t : Fin cfg0.N) (d : Fin 3) : (cfg0.win 2).xsize (cfg0.grid.coords t) d = SA.size d := by
  match d with
  | ⟨0, _⟩ => exact clip_whole (ix := 0) (k := 8) (d := 8) (by norm_num)
  | ⟨1, _⟩ => exact clip_whole (ix := 0) (k := 512) (d := 1024) (by norm_num)
  | ⟨2, _⟩ => exact clip_whole (ix := 0) (k := 1024) (d := 1024) (by norm_num)

/-- A place of the result's block. -/
def inBlock (t : Fin cfg0.N) (j : SA.Idx) : ((cfg0.win 2).xblock (cfg0.grid.coords t)).Idx :=
  fun d => ⟨(j d).val, lt_of_lt_of_eq (j d).isLt (xsize_val t d).symm⟩

theorem emb_val (t : Fin cfg0.N) (y : ((cfg0.win 2).xblock (cfg0.grid.coords t)).Idx) (d : Fin 3) :
    ((((cfg0.win 2).blk t).view.emb y : S8x1024x1024.Idx) d).val = (![0, 512 * 0, 0] : Fin 3 → ℕ) d + (y d).val := by
  have h := Pipeline.Window.rect_emb_val (cfg0.win 2) t y d
  refine h.trans ?_
  match d with
  | ⟨0, _⟩ => show 0 * 8 + _ = 0 + _; rfl
  | ⟨1, _⟩ => show 0 * 512 + _ = 512 * 0 + _; rfl
  | ⟨2, _⟩ => show 0 * 1024 + _ = 0 + _; rw [Nat.zero_mul]

/-- What a write of a block puts at a place inside it, and leaves outside. -/
theorem write_hit (t : Fin cfg0.N) (G₀ : Vec Ideal S8x1024x1024 .bf16) (X : Vec Ideal SA .bf16) (j : SA.Idx) (i : S8x1024x1024.Idx)
    (h0 : (i 0).val = (j 0).val) (h1 : (i 1).val = 512 * 0 + (j 1).val) (h2 : (i 2).val = (j 2).val) :
    (((cfg0.win 2).blk t).view.write (Elt Ideal) G₀ ((cfg0.win 2).cut (cfg0.grid.coords t) X) Finset.univ : Vec Ideal S8x1024x1024 .bf16) i = X j := by
  have hi : (((cfg0.win 2).blk t).view.emb (inBlock t j) : S8x1024x1024.Idx) = i := by
    funext d; apply Fin.ext
    refine (emb_val t _ d).trans ?_
    match d with
    | ⟨0, _⟩ => show 0 + (j 0).val = (i 0).val; omega
    | ⟨1, _⟩ => show 512 * 0 + (j 1).val = (i 1).val; omega
    | ⟨2, _⟩ => show 0 + (j 2).val = (i 2).val; omega
  rw [← hi]
  exact View.write_emb_of_mem _ _ (Finset.mem_univ _)

theorem write_miss (t : Fin cfg0.N) (G₀ : Vec Ideal S8x1024x1024 .bf16) (X : Vec Ideal SA .bf16) (i : S8x1024x1024.Idx) (hb : ¬ (i 1).val / 512 = 0) :
    (((cfg0.win 2).blk t).view.write (Elt Ideal) G₀ ((cfg0.win 2).cut (cfg0.grid.coords t) X) Finset.univ : Vec Ideal S8x1024x1024 .bf16) i = G₀ i := by
  refine View.write_of_not_mem _ _ _ fun hm => hb ?_
  obtain ⟨y, -, hy⟩ := Finset.mem_map.mp hm
  have h1 := emb_val t y 1
  rw [show (((cfg0.win 2).blk t).view.emb y : S8x1024x1024.Idx) = i from hy] at h1
  have b1 : (y 1).val < 512 := lt_of_lt_of_eq (y 1).isLt (xsize_val t 1)
  have h1 : (i 1).val = 512 * 0 + (y 1).val := h1
  omega

theorem V_out (c : Dev nD) : V m c main_v0 = m ((c.tc : Thread nD τ).loc main_arg2) := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results_simp
  all_goals rfl

theorem arr_before (c : Dev nD) (n : ℕ) (hn : n ≤ 23) (Y : Vec Ideal S8x1024x1024 .bf16) (hY : (rdat m c).ArrAt 2 n Y) : Y = arg2 m c := by
  induction n generalizing Y with
  | zero => exact (show Y = V m c main_v0 from hY).trans (V_out m c)
  | succ n ih =>
    have ht : n < cfg0.N := lt_of_lt_of_eq (show n < 24 by omega) N_0.symm
    rw [show n + 1 = (⟨n, ht⟩ : Fin cfg0.N).val + 1 from rfl, (rdat m c).ArrAt_succ 2 ⟨n, ht⟩,
      if_neg (fun h => by have h : n % 24 = 23 := (flush0_2 _).mp h; omega)] at hY
    exact ih (by omega) Y hY

/-- After every point the array is the result. -/
theorem arr_result (c : Dev nD) (Y : Vec Ideal S8x1024x1024 .bf16) (hY : (rdat m c).ArrAt 2 cfg0.N Y) : Y = result 0 (arg0 m c) (arg1 m c) (arg2 m c) := by
  have ht : 23 < cfg0.N := lt_of_lt_of_eq (show 23 < 24 by norm_num) N_0.symm
  rw [show cfg0.N = (⟨23, ht⟩ : Fin cfg0.N).val + 1 from N_0, (rdat m c).ArrAt_succ 2 ⟨23, ht⟩, if_pos ((flush0_2 _).mpr rfl)] at hY
  obtain ⟨G₀, X, hG, hX, e⟩ := hY
  have hG : G₀ = arg2 m c := arr_before m c 23 le_rfl G₀ hG
  subst hG
  funext i
  have hi1 : (i 1).val < 1024 := (i 1).isLt
  unfold result
  by_cases hb : (i 1).val / 512 = 0
  · rw [if_pos hb]
    have ha : (i 1).val - 512 * 0 < 512 := by omega
    refine (congrFun e i).trans ((write_hit ⟨23, ht⟩ (arg2 m c) X (ix3 (i 0) (⟨(i 1).val - 512 * 0, ha⟩ : Fin 512) (i 2)) i rfl
      (by show (i 1).val = 512 * 0 + ((i 1).val - 512 * 0); omega) rfl).trans ?_)
    refine (out_val m c 23 ht X hX (i 0) (by have : (i 0).val < 8 := (i 0).isLt; omega) _ (i 2)).trans ?_
    have h0 : (i 0).val < 8 := (i 0).isLt
    exact tiles (xAt m c) (wAt m c) 0 (arg0 m c) (arg1 m c) (i 0) (⟨(i 1).val - 512 * 0, ha⟩ : Fin 512) (i 1) (i 2) (by show (i 1).val = 512 * 0 + ((i 1).val - 512 * 0); omega)
      (fun q hq k r hr => x_apply m c _ (by omega) k _ r (i 1) (by rw [hr]; omega) (by show (i 1).val = 512 * 0 + ((i 1).val - 512 * 0); omega))
      (fun q hq k r hr => w_apply m c _ (by omega) k (i 2) (i 0) r (by omega) (by rw [hr]; omega))
  · rw [if_neg hb]
    exact (congrFun e i).trans (write_miss ⟨23, ht⟩ (arg2 m c) X i hb)

/-- Over the reals the kernel leaves the result in its array. -/
theorem valued (ρ : Dev nD → PrngReg) : θ_run defs (onTc (τ := τ) (Cert.InDwA.main (F := Ideal))) (s₀ m ρ) (fun r => ∀ c : Dev nD,
    r.2.mem ((c.tc : Thread nD τ).loc main_v0) = result 0 (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨arr_result m c _ ((h.1 c).1 2), args m c r h.1⟩) (run m ρ)

end Cert.InDwA.Half

/-! ## The reference -/

namespace Cert.InDwARefIdeal.Half

open Cert.InDwARefIdeal Cert.InDwARefIdeal.Gen Cert.Half Idealize.ShloMosaic Idealize.ShloMosaic.ValueIdx
open scoped BigOperators

/-- The derivative of the whole product. -/
theorem grad_eq (x : FVec Ideal S4224x1024 .bf16) (w : FVec Ideal S8x4224x1024 .bf16) (i : S8x1024x1024.Idx) :
    Read.val_main_v10 (F := Ideal) x w i = ∑ r : Fin 4224, x (ix2 r (i 1)) * w (ix3 (i 0) r (i 2)) := by
  have h0 : (i 0).val < 8 := (i 0).isLt
  have h1 : (i 1).val < 1024 := (i 1).isLt
  have h2 : (i 2).val < 1024 := (i 2).isLt
  refine (Read.val_main_v10_apply (F := Ideal) x w i : _ = (Read.val_main_v9 (F := Ideal) x w i : EReal)).trans ?_
  rw [Read.val_main_v9_apply, Read.val_main_v8_apply, Read.val_main_v7_apply, Read.val_main_v6_apply]
  refine Finset.sum_congr rfl fun k _ => ?_
  rw [Read.val_main_v3_apply, Read.val_main_v2_apply, Read.val_main_v1_apply, Read.val_main_v0_apply]
  have hk : k.val < 4224 := k.isLt
  refine (mul_comm (G := EReal) _ _).trans ?_
  refine congrArg₂ (· * ·) (congrArg x ?_) (congrArg w ?_)
  · funext d; apply Fin.ext
    match d with
    | ⟨0, _⟩ => rfl
    | ⟨1, _⟩ => show (((i 1).val * 8 + (i 0).val) * 1024 + (i 2).val) / 8192 = (i 1).val; omega
  · funext d; apply Fin.ext
    match d with
    | ⟨0, _⟩ => show (k.val * 8192 + (((i 1).val * 8 + (i 0).val) * 1024 + (i 2).val) % 8192) / 1024 % 8 = (i 0).val; omega
    | ⟨1, _⟩ => show (k.val * 8192 + (((i 1).val * 8 + (i 0).val) * 1024 + (i 2).val) % 8192) / 8192 = k.val; omega
    | ⟨2, _⟩ => show (k.val * 8192 + (((i 1).val * 8 + (i 0).val) * 1024 + (i 2).val) % 8192) % 1024 = (i 2).val; omega

theorem val_eq (x : FVec Ideal S4224x1024 .bf16) (w : FVec Ideal S8x4224x1024 .bf16) (g : FVec Ideal S8x1024x1024 .bf16) :
    Read.val_main_v13 (F := Ideal) x w g = result 0 x w g := by
  funext i
  have h1 : (i 1).val < 1024 := (i 1).isLt
  unfold Read.val_main_v13 result
  by_cases h : (i 1).val / 512 = 0
  · rw [if_pos h]
    refine (concatenate_pair_apply_left (t := S8x1024x1024) (s₁ := S8x512x1024) (s₂ := S8x512x1024) 1 _ _ _ i rfl (ix3 (i 0) (⟨(i 1).val, by omega⟩ : Fin 512) (i 2))
      (fun b => by match b with | ⟨0, _⟩ => rfl | ⟨1, _⟩ => rfl | ⟨2, _⟩ => rfl)).trans ?_
    rw [Read.val_main_v11_apply]
    refine (grad_eq x w _).trans (congrArg (fun a : Fin 1024 => (∑ r : Fin 4224, x (ix2 r a) * w (ix3 (i 0) r (i 2)) : EReal)) (Fin.ext ?_))
    show (i 1).val = (i 1).val; omega
  · rw [if_neg h]
    refine (concatenate_pair_apply_right (t := S8x1024x1024) (s₁ := S8x512x1024) (s₂ := S8x512x1024) 1 _ _ _ i rfl rfl (ix3 (i 0) (⟨(i 1).val - 512, by omega⟩ : Fin 512) (i 2))
      (fun b hb => by match b with | ⟨0, _⟩ => rfl | ⟨1, _⟩ => exact absurd rfl hb | ⟨2, _⟩ => rfl) (by show (i 1).val - 512 + 512 = (i 1).val; omega)).trans ?_
    rw [Read.val_main_v12_apply]
    refine congrArg g (funext fun d => Fin.ext ?_)
    match d with
    | ⟨0, _⟩ => rfl
    | ⟨1, _⟩ => show 512 + ((i 1).val - 512) = (i 1).val; omega
    | ⟨2, _⟩ => rfl

end Cert.InDwARefIdeal.Half

/-! ## The claims -/

namespace Cert.Proof.InDwA

open Idealize.ShloMosaic Idealize.ShloMosaic.TcCoe Idealize.ShloMosaic.StableHlo Idealize.SL.Sem

theorem frame_k : quiescent_InDwA := fun m g _ => InDwA.Half.framed m g
/-! The program over the reals is the same text as the printed one. -/

theorem frame_ki : quiescent_InDwAIdeal := fun m g _ => cast (by sl_kernel_rfl) (InDwA.Half.framed (F := Ideal) m g)
theorem frame_ri : quiescent_InDwARefIdeal := fun m g _ =>
  (θ_run InDwARefIdeal.defs _ _).mono (fun r h => ⟨fun c => (h c).2, sem_eq_zero_of_no_sems (by decide) r.2⟩)
    (InDwARefIdeal.Value.run m g)

theorem equal : algebraic_InDwAIdeal_InDwARefIdeal := fun m g m' g' _ hargs =>
  ⟨fun c => Half.result 0 (InDwA.Half.arg0 m c) (InDwA.Half.arg1 m c) (InDwA.Half.arg2 m c),
   cast (by sl_kernel_rfl) (InDwA.Half.valued m g),
   (θ_run InDwARefIdeal.defs _ _).mono (fun r h c =>
      ⟨((h c).1.trans (InDwARefIdeal.Read.val_main_v13_eq _ _ _)).trans
          ((InDwARefIdeal.Half.val_eq _ _ _).trans (by rw [(hargs c).1, (hargs c).2.1, (hargs c).2.2])), (h c).2⟩)
     (InDwARefIdeal.Value.run m' g')⟩

end Cert.Proof.InDwA

end
-- ==== Proof.Mm.InDwB.lean ====
/-
  The product of the in-projection's backward pass that gives the second half of the rows of the weights' gradient, into the
  array that holds the first. The same program as the first half's, on the other half of the columns of the input.
-/
module

public import proofs.«01_k».proof.Defs
public import proofs.«01_k».proof.Proof.Mm.Half
public import proofs.«01_k».proof.Proof.Gen.InDwB.Frame
public import proofs.«01_k».proof.Proof.Gen.InDwBIdeal
public import proofs.«01_k».proof.Proof.Gen.InDwBRefIdeal.Read
public import Idealize.ShloMosaic.Lib.Quiescent

@[expose] public section

set_option maxRecDepth 65536

noncomputable section

/-! ## The points, over any arithmetic: the program as printed and, the same text, the program over the reals -/

namespace Cert.InDwB.Half

open Cert.InDwB Cert.InDwB.Gen Cert.Half
open Idealize.ShloMosaic Idealize.ShloMosaic.TcCoe Idealize.SL
open Idealize.SL.RA Idealize.SL.Sem Idealize.SL.ProofMode
open Idealize.SL.BI (sProp)
open scoped Idealize.SL.BI
open Idealize.SL.BI.BIBase Idealize.SL.BI.Laws
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off1_eq : ∀ (i : grid0.Coords), k0_off1 i = offJ (i 1) := by decide +kernel
theorem off2_eq : ∀ (i : grid0.Coords), k0_off2 i = offJ (i 1) := by decide +kernel
theorem off3_eq : ∀ (i : grid0.Coords), k0_off3 i = offJ (i 1) := by decide +kernel
theorem cond1_iff : ∀ (i : grid0.Coords), k0_cond1 i = 1#1 ↔ (i 0).val = 0 := by decide +kernel
theorem cond2_iff : ∀ (i : grid0.Coords), k0_cond2 i = 1#1 ↔ ¬ (i 0).val = 0 := by decide +kernel
theorem cond3_iff : ∀ (i : grid0.Coords), k0_cond3 i = 1#1 ↔ (i 0).val = 2 := by decide +kernel

theorem tile_eq (t : Fin cfg0.N) : ((grid0.coords t) 0).val = t.val / 8 :=
  (Pipeline.Grid.coords_val (G := grid0) t (0 : Fin 2) (S := 8) (B := 3) (by decide) (by decide)).trans
    (Nat.mod_eq_of_lt (by have h : t.val < 24 := lt_of_lt_of_eq t.isLt N_0; omega))
theorem shard_eq (t : Fin cfg0.N) : (grid0.coords t) 1 = shard t.val :=
  Fin.ext ((Pipeline.Grid.coords_val (G := grid0) t (1 : Fin 2) (S := 1) (B := 8) (by decide) (by decide)).trans (by rw [Nat.div_one]))

/-- The printed body is the program of a point. -/
theorem body_eq (i : grid0.Coords) (arg2 : Memref sig .tc .vmem S1408x512 .bf16) (harg2 : arg2.IsWhole) (arg3 : Memref sig .tc .vmem S1x1408x1024 .bf16) (harg3 : arg3.IsWhole) (arg4 : Memref sig .tc .hbm S8x1024x1024 .bf16) (harg4 : arg4.IsWhole) (arg5 : Memref sig .tc .vmem S8x512x1024 .bf16) (harg5 : arg5.IsWhole) (arg6 : Memref sig .tc .vmem S8x512x1024 .f32) (harg6 : arg6.IsWhole) :
    cc0_mm_in_dw_b (F := F) i arg2 harg2 arg3 harg3 arg4 harg4 arg5 harg5 arg6 harg6 =
      body (Λ := Λ₀) (k0_cond1 i) (k0_cond2 i) (k0_cond3 i) (k0_off1 i) (k0_off2 i) (k0_off3 i) (k0_off1_inb i) (k0_off2_inb i) (k0_off3_inb i)
        inb_S1408x512_S1408x512_0_0 inb_S1x1408x1024_S1x1408x1024_0_0_0 arg2 arg3 arg5 arg6
        (fun h => View.stores_vmem posR (harg5.storeExact_slice rfl _ (k0_off3_packedbf16 i h)) (fun _ => rfl)) := by
  sl_kernel_rfl

/-- The blocks a point reads. -/
def pt (n : ℕ) : Fin cfg0.N := if h : n < cfg0.N then ⟨n, h⟩ else ⟨0, lt_of_lt_of_eq (by norm_num) N_0.symm⟩
theorem pt_val (t : Fin cfg0.N) : pt t.val = t := dif_pos t.isLt
def xAt (c : Dev nD) (n : ℕ) : Vec F SX .bf16 := iblk m c 0 (pt n)
def wAt (c : Dev nD) (n : ℕ) : Vec F SW .bf16 := iblk m c 1 (pt n)

/-- What the pipeline is told of each point: the operands are left as found, the result's block is left as the point's
    program leaves it, the accumulator is where the points before have brought it from some start. -/
def rdat (c : Dev nD) : RDat τ (Elt F) Unit ℕ (UR sig nD τ) ℕ cfg0 c where
  A w := V m c (Pipeline.arrRef spec0 w)
  after := fun
    | 0 => fun _ Y X => X = Y
    | 1 => fun _ Y X => X = Y
    | 2 => fun t (Y : Vec F SA .bf16) (X : Vec F SA .bf16) => ∃ s : Vec F SA .f32, X = out (t.val / 8) (shard t.val) Y (track (xAt m c) (wAt m c) s (t.val + 1))
    | ⟨_ + 3, h⟩ => absurd h (Nat.not_lt.2 (Nat.le_add_left _ _))
  Φ n := iprop(∃ s : Vec F SA .f32, owns (c.tc : Thread nD τ) (Memref.whole cc0_scratch0) fullShare (track (xAt m c) (wAt m c) s n.val) ∗ ∃ r, prngReg c r)
  q w := Pipeline.shareOf spec0 w
  owed _ := 0

theorem finds0 (c : Dev nD) (t : Fin cfg0.N) (Y) (h : (rdat m c).Finds 0 t Y) : Y = xAt m c t.val := by
  obtain ⟨d, e⟩ := (rdat m c).finds_in_eq_fetched 0 rfl (fun _ _ _ => rfl) (fun _ _ _ e => e) t Y h
  unfold xAt; rw [pt_val]; exact e
theorem finds1 (c : Dev nD) (t : Fin cfg0.N) (Y) (h : (rdat m c).Finds 1 t Y) : Y = wAt m c t.val := by
  obtain ⟨d, e⟩ := (rdat m c).finds_in_eq_fetched 1 rfl (fun _ _ _ => rfl) (fun _ _ _ e => e) t Y h
  unfold wAt; rw [pt_val]; exact e

theorem phi_succ (c : Dev nD) (t : Fin cfg0.N) (s : Vec F SA .f32) :
    (iprop(owns (c.tc : Thread nD τ) (Memref.whole cc0_scratch0) fullShare (track (xAt m c) (wAt m c) s (t.val + 1)) ∗ ∃ r, prngReg c r) : sProp 𝕄) ⊢ (rdat m c).Φ t.succ := by
  show _ ⊢ iprop(∃ s : Vec F SA .f32, owns (c.tc : Thread nD τ) (Memref.whole cc0_scratch0) fullShare (track (xAt m c) (wAt m c) s (t.val + 1)) ∗ ∃ r, prngReg c r)
  iintro H
  iexists s
  iexact H

theorem body_at (c : Dev nD) : (rdat m c).BodyObligation defs₀ Variants.none () Set.univ := by
  intro t Y hY
  have e0 := finds0 m c t _ (hY 0)
  have e1 := finds1 m c t _ (hY 1)
  rw [bigSep_W0, bigSep_W0]
  show iprop((∃ s : Vec F SA .f32, owns (c.tc : Thread nD τ) (Memref.whole cc0_scratch0) fullShare (track (xAt m c) (wAt m c) s t.val) ∗ ∃ r, prngReg c r) ∗ (rdat m c).owesAt () t.castSucc ∗ _)
    ⊢ wp frame (wpE' defs₀ Variants.none (c.tc : Thread nD τ) none PendingWaitsCtx.empty) Set.univ (bodyAt0 t) _
  unfold bodyAt0
  rw [body_eq]
  iintro ⟨⟨%s, HC, HR⟩, HO, H0, H1, H2⟩
  iapply wp_wand_r
  isplitl [HC H0 H1 H2]
  · iapply body_spec Variants.none c none Set.univ (t.val / 8) (shard t.val) _ _ _ _ _ _ _ _ _ _ _ _ _ _ _ _
      ((cond1_iff _).trans (by rw [tile_eq])) ((cond2_iff _).trans (by rw [tile_eq])) ((cond3_iff _).trans (by rw [tile_eq]))
      ((off1_eq _).trans (congrArg offJ (shard_eq t))) ((off2_eq _).trans (congrArg offJ (shard_eq t))) ((off3_eq _).trans (congrArg offJ (shard_eq t)))
      fullShare fullShare (Y 0) (Y 1) (Y 2) (track (xAt m c) (wAt m c) s t.val)
    isplitl [H0]; · iexact H0
    isplitl [H1]; · iexact H1
    isplitl [H2]; · iexact H2
    iexact HC
  have hd : acc (t.val / 8) (shard t.val) (track (xAt m c) (wAt m c) s t.val) (Y 0) (Y 1) = track (xAt m c) (wAt m c) s (t.val + 1) := by
    rw [e0, e1]; rfl
  rw [hd]
  iintro %_ ⟨H0, H1, H2, HC⟩
  isplitl [HC HR]
  · iapply phi_succ m c t s
    isplitl [HC]; · iexact HC
    iexact HR
  isplitl [HO]; · iexact HO
  isplitl [H0]; · iexists (Y 0); isplitr; (· ipureintro; exact rfl); iexact H0
  isplitl [H1]; · iexists (Y 1); isplitr; (· ipureintro; exact rfl); iexact H1
  iexists (out (t.val / 8) (shard t.val) (Y 2) (track (xAt m c) (wAt m c) s (t.val + 1))); isplitr; (· ipureintro; exact ⟨s, rfl⟩); iexact H2

theorem enter (c : Dev nD) : (Pipeline.ΦA spec0 c : sProp 𝕄) ⊢ (rdat m c).Φ 0 := by
  unfold Pipeline.ΦA
  rw [scopedRest0_eq]
  show _ ⊢ iprop(∃ s : Vec F SA .f32, owns (c.tc : Thread nD τ) (Memref.whole cc0_scratch0) fullShare s ∗ ∃ r, prngReg c r)
  iintro ⟨⟨%f, HC⟩, HR⟩
  iexists f
  rw [owns_whole]
  isplitl [HC]; · iexact HC
  iexact HR

theorem of_owns (c : Dev nD) (b : Ref sig .tc) (f : b.ty.Contents (Elt F)) :
    (owns (c.tc : Thread nD τ) (Memref.whole b) fullShare f : sProp 𝕄) ⊢ ((c.tc : Thread nD τ).loc b ↦{fullShare} f) := by
  rw [owns_whole]

theorem leave (c : Dev nD) : (rdat m c).Φ (Fin.last cfg0.N) ⊢ (Pipeline.ΦA spec0 c : sProp 𝕄) := by
  unfold Pipeline.ΦA
  rw [scopedRest0_eq]
  show iprop(∃ s : Vec F SA .f32, owns (c.tc : Thread nD τ) (Memref.whole cc0_scratch0) fullShare (track (xAt m c) (wAt m c) s (Fin.last cfg0.N).val) ∗ ∃ r, prngReg c r) ⊢ _
  iintro ⟨%s, HC, HR⟩
  isplitl [HC]
  · iexists (track (xAt m c) (wAt m c) s (Fin.last cfg0.N).val); iapply of_owns; iexact HC
  iexact HR

theorem run : θ_run defs (onTc (τ := τ) (Cert.InDwB.main (F := F))) (s₀ m ρ)
    (fun r => RDat.FramePost cfg0 (rdat m) (V m) r ∧ r.2.sem = fun _ => 0) :=
  Pipeline.RDat.θ_run_frame_track_shared (Q' := _) cfgs (0 : Fin 1) launch0.to₀ defs₀ Variants.none (rdat m) m ρ Cert.InDwB.main
    (body_at m) (fun _ _ _ => rfl) (fun _ _ => rfl) (V m) (hmain m Variants.none) (fun _ _ => rfl) (enter m) (leave m) (hQ' := fun _ h => h)

theorem args (c : Dev nD) (r) (h : RDat.FramePost cfg0 (rdat m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((congrFun ((rdat m c).ArrAt_in 0 rfl _) _).mp ((h c).1 0)).trans (V_main_arg0 m c),
   ((congrFun ((rdat m c).ArrAt_in 1 rfl _) _).mp ((h c).1 1)).trans (V_main_arg1 m c),
   ((h c).2 main_arg2 (Pipeline.mem_restRefs_of main_arg2 (by decide) (by decide))).trans (V_main_arg2 m c)⟩

/-- The kernel runs, and leaves its arguments and every counter as they were. -/
theorem framed : θ_run defs (onTc (τ := τ) (Cert.InDwB.main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args m c r h.1, h.2⟩) (run m ρ)

end Cert.InDwB.Half

/-! ## The value -/

namespace Cert.InDwB.Half

open Cert.InDwB Cert.InDwB.Gen Cert.Half
open Idealize.ShloMosaic Idealize.ShloMosaic.TcCoe Idealize.SL
open Idealize.ShloMosaic.ValueIdx
open Idealize.ShloMosaic.Pipeline (RDat Cfg Window)
open scoped BigOperators

variable (m : (ℓ : Loc nD τ sig) → Buf (Elt Ideal) ℓ)

theorem place : ∀ t : Fin cfg0.N, (win0_0.index t (0 : Fin 2) = t.val / 8 ∧ win0_0.index t (1 : Fin 2) = 1)
    ∧ (win0_1.index t (0 : Fin 3) = t.val % 8 ∧ win0_1.index t (1 : Fin 3) = t.val / 8 ∧ win0_1.index t (2 : Fin 3) = 0)
    ∧ (win0_2.index t (0 : Fin 3) = 0 ∧ win0_2.index t (1 : Fin 3) = 1 ∧ win0_2.index t (2 : Fin 3) = 0) :=
  (by decide +kernel : ∀ t : Fin grid0.N, _)

theorem lt_N (t : Fin cfg0.N) : t.val < 24 := lt_of_lt_of_eq t.isLt N_0

abbrev arg0 (c : Dev nD) : FVec Ideal (Cert.Mm.T2 4224 1024) .bf16 := m ((c : Thread nD τ).loc main_arg0)
abbrev arg1 (c : Dev nD) : FVec Ideal (Cert.Mm.T3 8 4224 1024) .bf16 := m ((c : Thread nD τ).loc main_arg1)
abbrev arg2 (c : Dev nD) : FVec Ideal (Cert.Mm.T3 8 1024 1024) .bf16 := m ((c : Thread nD τ).loc main_arg2)

theorem x_apply (c : Dev nD) (n : ℕ) (hn : n < 24) (k : Fin 1408) (a : Fin 512) (r : Fin 4224) (d : Fin 1024) (hr : r.val = n / 8 * 1408 + k.val) (hd : d.val = 512 * 1 + a.val) :
    xAt m c n (ix2 k a) = arg0 m c (ix2 r d) := by
  have hp : (pt n).val = n := congrArg Fin.val (dif_pos (lt_of_lt_of_eq hn N_0.symm))
  obtain ⟨⟨e0, e1⟩, -⟩ := place (pt n)
  unfold xAt iblk
  rw [View.read_apply]
  refine congrArg (arg0 m c) (funext fun b => Fin.ext ?_)
  match b with
  | ⟨0, _⟩ => show win0_0.index (pt n) 0 * 1408 + 1 * k.val = r.val; rw [e0, hp]; omega
  | ⟨1, _⟩ => show win0_0.index (pt n) 1 * 512 + 1 * a.val = d.val; rw [e1]; omega

theorem w_apply (c : Dev nD) (n : ℕ) (hn : n < 24) (k : Fin 1408) (b : Fin 1024) (j : Fin 8) (r : Fin 4224) (hj : j.val = n % 8) (hr : r.val = n / 8 * 1408 + k.val) :
    wAt m c n (ix3 0 k b) = arg1 m c (ix3 j r b) := by
  have hp : (pt n).val = n := congrArg Fin.val (dif_pos (lt_of_lt_of_eq hn N_0.symm))
  obtain ⟨-, ⟨e0, e1, e2⟩, -⟩ := place (pt n)
  unfold wAt iblk
  rw [View.read_apply]
  refine congrArg (arg1 m c) (funext fun d => Fin.ext ?_)
  match d with
  | ⟨0, _⟩ => show win0_1.index (pt n) 0 * 1 + 1 * 0 = j.val; rw [e0, hp]; omega
  | ⟨1, _⟩ => show win0_1.index (pt n) 1 * 1408 + 1 * k.val = r.val; rw [e1, hp]; omega
  | ⟨2, _⟩ => show win0_1.index (pt n) 2 * 1024 + 1 * b.val = b.val; rw [e2]; omega

/-- The block of the result after each point of the last sweep: the shards written so far. -/
theorem out_val (c : Dev nD) (n : ℕ) (hn : n < cfg0.N) (X : Vec Ideal SA .bf16) (hX : (rdat m c).Leaves 2 ⟨n, hn⟩ X) (j : Fin 8) (hj : 16 + j.val ≤ n) (a : Fin 512) (b : Fin 1024) :
    X (ix3 j a b) = ∑ q ∈ Finset.range 3, (prod (xAt m c (8 * q + j.val)) (wAt m c (8 * q + j.val)) (ix2 a b) : EReal) := by
  have h24 : n < 24 := lt_of_lt_of_eq hn N_0
  induction n generalizing X with
  | zero => exact absurd hj (by omega)
  | succ n ih =>
    obtain ⟨Y, hY, s, e⟩ := hX
    have e : X = out ((n + 1) / 8) (shard (n + 1)) Y (track (xAt m c) (wAt m c) s (n + 1 + 1)) := e
    rw [e]
    by_cases h : j.val = (n + 1) % 8
    · exact out_here _ _ s (n + 1) (by omega) h24 Y j h a b
    · refine (out_there _ (n + 1) Y _ (fun _ => h)).trans ?_
      have hf : (cfg0.win 2).fetch ⟨n + 1, hn⟩ = false := rfl
      rcases ((rdat m c).finds_of_pos hf (Nat.succ_ne_zero n) Y).mp hY with hfl | hle
      · have := (flush0_2 _).mp hfl
        exact absurd this (by show ¬ (n + 1 - 1) % 24 = 23; omega)
      · exact ih (Nat.lt_of_succ_lt hn) Y hle (by have := j.isLt; omega) (by omega)

/-! ## The array after the points -/

theorem xsize_val (t : Fin cfg0.N) (d : Fin 3) : (cfg0.win 2).xsize (cfg0.grid.coords t) d = SA.size d := by
  match d with
  | ⟨0, _⟩ => exact clip_whole (ix := 0) (k := 8) (d := 8) (by norm_num)
  | ⟨1, _⟩ => exact clip_whole (ix := 1) (k := 512) (d := 1024) (by norm_num)
  | ⟨2, _⟩ => exact clip_whole (ix := 0) (k := 1024) (d := 1024) (by norm_num)

/-- A place of the result's block. -/
def inBlock (t : Fin cfg0.N) (j : SA.Idx) : ((cfg0.win 2).xblock (cfg0.grid.coords t)).Idx :=
  fun d => ⟨(j d).val, lt_of_lt_of_eq (j d).isLt (xsize_val t d).symm⟩

theorem emb_val (t : Fin cfg0.N) (y : ((cfg0.win 2).xblock (cfg0.grid.coords t)).Idx) (d : Fin 3) :
    ((((cfg0.win 2).blk t).view.emb y : S8x1024x1024.Idx) d).val = (![0, 512 * 1, 0] : Fin 3 → ℕ) d + (y d).val := by
  have h := Pipeline.Window.rect_emb_val (cfg0.win 2) t y d
  refine h.trans ?_
  match d with
  | ⟨0, _⟩ => show 0 * 8 + _ = 0 + _; rfl
  | ⟨1, _⟩ => show 1 * 512 + _ = 512 * 1 + _; rfl
  | ⟨2, _⟩ => show 0 * 1024 + _ = 0 + _; rw [Nat.zero_mul]

/-- What a write of a block puts at a place inside it, and leaves outside. -/
theorem write_hit (t : Fin cfg0.N) (G₀ : Vec Ideal S8x1024x1024 .bf16) (X : Vec Ideal SA .bf16) (j : SA.Idx) (i : S8x1024x1024.Idx)
    (h0 : (i 0).val = (j 0).val) (h1 : (i 1).val = 512 * 1 + (j 1).val) (h2 : (i 2).val = (j 2).val) :
    (((cfg0.win 2).blk t).view.write (Elt Ideal) G₀ ((cfg0.win 2).cut (cfg0.grid.coords t) X) Finset.univ : Vec Ideal S8x1024x1024 .bf16) i = X j := by
  have hi : (((cfg0.win 2).blk t).view.emb (inBlock t j) : S8x1024x1024.Idx) = i := by
    funext d; apply Fin.ext
    refine (emb_val t _ d).trans ?_
    match d with
    | ⟨0, _⟩ => show 0 + (j 0).val = (i 0).val; omega
    | ⟨1, _⟩ => show 512 * 1 + (j 1).val = (i 1).val; omega
    | ⟨2, _⟩ => show 0 + (j 2).val = (i 2).val; omega
  rw [← hi]
  exact View.write_emb_of_mem _ _ (Finset.mem_univ _)

theorem write_miss (t : Fin cfg0.N) (G₀ : Vec Ideal S8x1024x1024 .bf16) (X : Vec Ideal SA .bf16) (i : S8x1024x1024.Idx) (hb : ¬ (i 1).val / 512 = 1) :
    (((cfg0.win 2).blk t).view.write (Elt Ideal) G₀ ((cfg0.win 2).cut (cfg0.grid.coords t) X) Finset.univ : Vec Ideal S8x1024x1024 .bf16) i = G₀ i := by
  refine View.write_of_not_mem _ _ _ fun hm => hb ?_
  obtain ⟨y, -, hy⟩ := Finset.mem_map.mp hm
  have h1 := emb_val t y 1
  rw [show (((cfg0.win 2).blk t).view.emb y : S8x1024x1024.Idx) = i from hy] at h1
  have b1 : (y 1).val < 512 := lt_of_lt_of_eq (y 1).isLt (xsize_val t 1)
  have h1 : (i 1).val = 512 * 1 + (y 1).val := h1
  omega

theorem V_out (c : Dev nD) : V m c main_v0 = m ((c.tc : Thread nD τ).loc main_arg2) := by
  unfold V
  simp only [hostOps0, List.flatten_cons, List.flatten_nil, List.append_nil, List.cons_append, List.nil_append,
    StableHlo.TRef.ternary, StableHlo.TRef.binary, StableHlo.TRef.nullary, StableHlo.TRef.unary, StableHlo.TRef.toBuf, StableHlo.TRef.ofBuf, cast_eq]
  after_results_simp
  all_goals rfl

theorem arr_before (c : Dev nD) (n : ℕ) (hn : n ≤ 23) (Y : Vec Ideal S8x1024x1024 .bf16) (hY : (rdat m c).ArrAt 2 n Y) : Y = arg2 m c := by
  induction n generalizing Y with
  | zero => exact (show Y = V m c main_v0 from hY).trans (V_out m c)
  | succ n ih =>
    have ht : n < cfg0.N := lt_of_lt_of_eq (show n < 24 by omega) N_0.symm
    rw [show n + 1 = (⟨n, ht⟩ : Fin cfg0.N).val + 1 from rfl, (rdat m c).ArrAt_succ 2 ⟨n, ht⟩,
      if_neg (fun h => by have h : n % 24 = 23 := (flush0_2 _).mp h; omega)] at hY
    exact ih (by omega) Y hY

/-- After every point the array is the result. -/
theorem arr_result (c : Dev nD) (Y : Vec Ideal S8x1024x1024 .bf16) (hY : (rdat m c).ArrAt 2 cfg0.N Y) : Y = result 1 (arg0 m c) (arg1 m c) (arg2 m c) := by
  have ht : 23 < cfg0.N := lt_of_lt_of_eq (show 23 < 24 by norm_num) N_0.symm
  rw [show cfg0.N = (⟨23, ht⟩ : Fin cfg0.N).val + 1 from N_0, (rdat m c).ArrAt_succ 2 ⟨23, ht⟩, if_pos ((flush0_2 _).mpr rfl)] at hY
  obtain ⟨G₀, X, hG, hX, e⟩ := hY
  have hG : G₀ = arg2 m c := arr_before m c 23 le_rfl G₀ hG
  subst hG
  funext i
  have hi1 : (i 1).val < 1024 := (i 1).isLt
  unfold result
  by_cases hb : (i 1).val / 512 = 1
  · rw [if_pos hb]
    have ha : (i 1).val - 512 * 1 < 512 := by omega
    refine (congrFun e i).trans ((write_hit ⟨23, ht⟩ (arg2 m c) X (ix3 (i 0) (⟨(i 1).val - 512 * 1, ha⟩ : Fin 512) (i 2)) i rfl
      (by show (i 1).val = 512 * 1 + ((i 1).val - 512 * 1); omega) rfl).trans ?_)
    refine (out_val m c 23 ht X hX (i 0) (by have : (i 0).val < 8 := (i 0).isLt; omega) _ (i 2)).trans ?_
    have h0 : (i 0).val < 8 := (i 0).isLt
    exact tiles (xAt m c) (wAt m c) 1 (arg0 m c) (arg1 m c) (i 0) (⟨(i 1).val - 512 * 1, ha⟩ : Fin 512) (i 1) (i 2) (by show (i 1).val = 512 * 1 + ((i 1).val - 512 * 1); omega)
      (fun q hq k r hr => x_apply m c _ (by omega) k _ r (i 1) (by rw [hr]; omega) (by show (i 1).val = 512 * 1 + ((i 1).val - 512 * 1); omega))
      (fun q hq k r hr => w_apply m c _ (by omega) k (i 2) (i 0) r (by omega) (by rw [hr]; omega))
  · rw [if_neg hb]
    exact (congrFun e i).trans (write_miss ⟨23, ht⟩ (arg2 m c) X i hb)

/-- Over the reals the kernel leaves the result in its array. -/
theorem valued (ρ : Dev nD → PrngReg) : θ_run defs (onTc (τ := τ) (Cert.InDwB.main (F := Ideal))) (s₀ m ρ) (fun r => ∀ c : Dev nD,
    r.2.mem ((c.tc : Thread nD τ).loc main_v0) = result 1 (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨arr_result m c _ ((h.1 c).1 2), args m c r h.1⟩) (run m ρ)

end Cert.InDwB.Half

/-! ## The reference -/

namespace Cert.InDwBRefIdeal.Half

open Cert.InDwBRefIdeal Cert.InDwBRefIdeal.Gen Cert.Half Idealize.ShloMosaic Idealize.ShloMosaic.ValueIdx
open scoped BigOperators

/-- The derivative of the whole product. -/
theorem grad_eq (x : FVec Ideal S4224x1024 .bf16) (w : FVec Ideal S8x4224x1024 .bf16) (i : S8x1024x1024.Idx) :
    Read.val_main_v11 (F := Ideal) x w i = ∑ r : Fin 4224, x (ix2 r (i 1)) * w (ix3 (i 0) r (i 2)) := by
  have h0 : (i 0).val < 8 := (i 0).isLt
  have h1 : (i 1).val < 1024 := (i 1).isLt
  have h2 : (i 2).val < 1024 := (i 2).isLt
  refine (Read.val_main_v11_apply (F := Ideal) x w i : _ = (Read.val_main_v10 (F := Ideal) x w i : EReal)).trans ?_
  rw [Read.val_main_v10_apply, Read.val_main_v9_apply, Read.val_main_v8_apply, Read.val_main_v7_apply]
  refine Finset.sum_congr rfl fun k _ => ?_
  rw [Read.val_main_v4_apply, Read.val_main_v3_apply, Read.val_main_v2_apply, Read.val_main_v1_apply]
  have hk : k.val < 4224 := k.isLt
  refine (mul_comm (G := EReal) _ _).trans ?_
  refine congrArg₂ (· * ·) (congrArg x ?_) (congrArg w ?_)
  · funext d; apply Fin.ext
    match d with
    | ⟨0, _⟩ => rfl
    | ⟨1, _⟩ => show (((i 1).val * 8 + (i 0).val) * 1024 + (i 2).val) / 8192 = (i 1).val; omega
  · funext d; apply Fin.ext
    match d with
    | ⟨0, _⟩ => show (k.val * 8192 + (((i 1).val * 8 + (i 0).val) * 1024 + (i 2).val) % 8192) / 1024 % 8 = (i 0).val; omega
    | ⟨1, _⟩ => show (k.val * 8192 + (((i 1).val * 8 + (i 0).val) * 1024 + (i 2).val) % 8192) / 8192 = k.val; omega
    | ⟨2, _⟩ => show (k.val * 8192 + (((i 1).val * 8 + (i 0).val) * 1024 + (i 2).val) % 8192) % 1024 = (i 2).val; omega

theorem val_eq (x : FVec Ideal S4224x1024 .bf16) (w : FVec Ideal S8x4224x1024 .bf16) (g : FVec Ideal S8x1024x1024 .bf16) :
    Read.val_main_v13 (F := Ideal) x w g = result 1 x w g := by
  funext i
  have h1 : (i 1).val < 1024 := (i 1).isLt
  unfold Read.val_main_v13 result
  by_cases h : (i 1).val / 512 = 1
  · rw [if_pos h]
    refine (concatenate_pair_apply_right (t := S8x1024x1024) (s₁ := S8x512x1024) (s₂ := S8x512x1024) 1 _ _ _ i rfl rfl (ix3 (i 0) (⟨(i 1).val - 512, by omega⟩ : Fin 512) (i 2))
      (fun b hb => by match b with | ⟨0, _⟩ => rfl | ⟨1, _⟩ => exact absurd rfl hb | ⟨2, _⟩ => rfl) (by show (i 1).val - 512 + 512 = (i 1).val; omega)).trans ?_
    rw [Read.val_main_v12_apply]
    refine (grad_eq x w _).trans (congrArg (fun a : Fin 1024 => (∑ r : Fin 4224, x (ix2 r a) * w (ix3 (i 0) r (i 2)) : EReal)) (Fin.ext ?_))
    show 512 + ((i 1).val - 512) = (i 1).val; omega
  · rw [if_neg h]
    refine (concatenate_pair_apply_left (t := S8x1024x1024) (s₁ := S8x512x1024) (s₂ := S8x512x1024) 1 _ _ _ i rfl (ix3 (i 0) (⟨(i 1).val, by omega⟩ : Fin 512) (i 2))
      (fun b => by match b with | ⟨0, _⟩ => rfl | ⟨1, _⟩ => rfl | ⟨2, _⟩ => rfl)).trans ?_
    rw [Read.val_main_v0_apply]
    refine congrArg g (funext fun d => Fin.ext ?_)
    match d with
    | ⟨0, _⟩ => rfl
    | ⟨1, _⟩ => show (i 1).val = (i 1).val; omega
    | ⟨2, _⟩ => rfl

end Cert.InDwBRefIdeal.Half

/-! ## The claims -/

namespace Cert.Proof.InDwB

open Idealize.ShloMosaic Idealize.ShloMosaic.TcCoe Idealize.ShloMosaic.StableHlo Idealize.SL.Sem

theorem frame_k : quiescent_InDwB := fun m g _ => InDwB.Half.framed m g
/-! The program over the reals is the same text as the printed one. -/

theorem frame_ki : quiescent_InDwBIdeal := fun m g _ => cast (by sl_kernel_rfl) (InDwB.Half.framed (F := Ideal) m g)
theorem frame_ri : quiescent_InDwBRefIdeal := fun m g _ =>
  (θ_run InDwBRefIdeal.defs _ _).mono (fun r h => ⟨fun c => (h c).2, sem_eq_zero_of_no_sems (by decide) r.2⟩)
    (InDwBRefIdeal.Value.run m g)

theorem equal : algebraic_InDwBIdeal_InDwBRefIdeal := fun m g m' g' _ hargs =>
  ⟨fun c => Half.result 1 (InDwB.Half.arg0 m c) (InDwB.Half.arg1 m c) (InDwB.Half.arg2 m c),
   cast (by sl_kernel_rfl) (InDwB.Half.valued m g),
   (θ_run InDwBRefIdeal.defs _ _).mono (fun r h c =>
      ⟨((h c).1.trans (InDwBRefIdeal.Read.val_main_v13_eq _ _ _)).trans
          ((InDwBRefIdeal.Half.val_eq _ _ _).trans (by rw [(hargs c).1, (hargs c).2.1, (hargs c).2.2])), (h c).2⟩)
     (InDwBRefIdeal.Value.run m' g')⟩

end Cert.Proof.InDwB

end
-- ==== Proof.Mm.Adam.lean ====
/-
  What the optimiser's calls share: the sum of the eight devices' pieces of a gradient, and the step of one weight, with
  the constants of the optimiser as their float32 patterns.
-/
module

public import proofs.«01_k».proof.Proof.Mm.Common
public import Idealize.ShloMosaic.Lib.IdealHost

@[expose] public section

noncomputable section

namespace Cert.Adam

open Idealize.ShloMosaic Idealize.ShloMosaic.ValueIdx Cert.Mm
open scoped BigOperators

/-! ## One weight -/

/-- The new first moment: nine tenths of the old and one of the gradient. -/
def newM (g m : Ideal .f32) : Ideal .f32 :=
  FloatOps.addf (FloatOps.mulf (FloatOps.ofBits .f32 0x3F666666#32) m) (FloatOps.mulf (FloatOps.ofBits .f32 0x3DCCCCCD#32) g)

/-- The new second moment. -/
def newV (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The step of the weight `w`: the corrected first moment over the root of the corrected second, and the decay. -/
def delta (w g m v : Ideal .f32) : Ideal .f32 :=
  FloatOps.mulf (FloatOps.ofBits .f32 0xBA83126F#32)
    (FloatOps.addf
      (FloatOps.hostDivf (FloatOps.hostDivf (newM g m) (FloatOps.ofBits .f32 0x3F26BD02#32))
        (FloatOps.addf (FloatOps.hostUnary .sqrt (FloatOps.hostDivf (newV g v) (FloatOps.ofBits .f32 0x3C231ACC#32))) (FloatOps.ofBits .f32 0x322BCC77#32)))
      (FloatOps.mulf (FloatOps.ofBits .f32 0x3C23D70A#32) w))

/-! ## The whole arrays: `off` is the first row of the pieces that belongs to the weight -/

section
variable {N R C : ℕ} (off : ℕ) (h : off + R ≤ N) (p : FVec Ideal (T3 8 N C) .bf16) (w m v : FVec Ideal (T2 R C) .f32)

/-- The gradient: the sum of the eight pieces. -/
def G : FVec Ideal (T2 R C) .f32 := fun i =>
  (∑ k : Fin 8, (p (ix3 k (⟨off + (i 0).val, by have : (i 0).val < R := (i 0).isLt; omega⟩ : Fin N) (i 1)) : EReal) : EReal)

def W : FVec Ideal (T2 R C) .f32 := fun i => delta (w i) (G off h p i) (m i) (v i)
def M : FVec Ideal (T2 R C) .f32 := fun i => newM (G off h p i) (m i)
def V : FVec Ideal (T2 R C) .f32 := fun i => newV (G off h p i) (v i)

end

/-! ## A tile is the same of its blocks -/

section
variable {T C : ℕ} (x : FVec Ideal (T3 8 T C) .bf16)

/-- One piece of the block, as the kernel reads it. -/
abbrev piece (k : ℕ) (inb : ∀ a, (![k, 0, 0] : Fin 3 → ℕ) a + (T3 1 T C).size a ≤ (T3 8 T C).size a) (sc : (T3 1 T C).ShapeCasts (T2 T C))
    (lt : FTy.bf16.bits < FTy.f32.bits) : FVec Ideal (T2 T C) .f32 :=
  extf .f32 (shapeCast (T2 T C) (View.ld (Val := Elt Ideal) (e' := .bf16) x (Rect.unit (s := T3 8 T C) ![k, 0, 0] (T3 1 T C).size inb)) sc : FVec Ideal (T2 T C) .bf16) lt

theorem piece_apply (k : Fin 8) (inb) (sc) (lt) (y : (T2 T C).Idx) :
    (piece x k.val inb sc lt y : EReal) = x (ix3 k (⟨0 + (y 0).val, by have : (y 0).val < T := (y 0).isLt; omega⟩ : Fin T) (y 1)) := by
  have e : y = ix2 (y 0) (y 1) := funext fun d => match d with | ⟨0, _⟩ => rfl | ⟨1, _⟩ => rfl
  refine (congrArg _ e).trans ?_
  show shapeCast (T2 T C) (View.ld (Val := Elt Ideal) (e' := .bf16) x (Rect.unit (s := T3 8 T C) ![k.val, 0, 0] (T3 1 T C).size inb)) sc (ix2 (y 0) (y 1)) = _
  refine (drop _ sc (y 0) (y 1)).trans (congrArg x (funext fun d => Fin.ext ?_))
  match d with
  | ⟨0, _⟩ => show k.val + 1 * 0 = k.val; omega
  | ⟨1, _⟩ => show 0 + 1 * (y 0).val = 0 + (y 0).val; omega
  | ⟨2, _⟩ => show 0 + 1 * (y 1).val = (y 1).val; omega

/-- The sum of the pieces in the kernel's order. -/
theorem grad (i0 i1 i2 i3 i4 i5 i6 i7) (sc) (lt) :
    addf (addf (addf (addf (addf (addf (addf (piece x 0 i0 sc lt) (piece x 1 i1 sc lt)) (piece x 2 i2 sc lt)) (piece x 3 i3 sc lt)) (piece x 4 i4 sc lt))
      (piece x 5 i5 sc lt)) (piece x 6 i6 sc lt)) (piece x 7 i7 sc lt) = G 0 (Nat.zero_add T).le x := by
  funext y
  refine Eq.trans ?_ (Fin.sum_univ_eight _).symm
  rw [← piece_apply x 0 i0 sc lt, ← piece_apply x 1 i1 sc lt, ← piece_apply x 2 i2 sc lt, ← piece_apply x 3 i3 sc lt, ← piece_apply x 4 i4 sc lt,
    ← piece_apply x 5 i5 sc lt, ← piece_apply x 6 i6 sc lt, ← piece_apply x 7 i7 sc lt]
  rfl

variable {N R : ℕ} (off : ℕ) (h : off + R ≤ N) (p : FVec Ideal (T3 8 N C) .bf16) (w u v : FVec Ideal (T2 R C) .f32)
  (e : (T2 T C).Idx → (T2 R C).Idx)

/-- The four results, when the gradient is the sum of the pieces. -/
theorem four (x : FVec Ideal (T3 8 N C) .bf16) (g w u v : FVec Ideal (T2 R C) .f32) (hg : g = G off h x) :
    g = G off h x ∧ (fun i => delta (w i) (g i) (u i) (v i)) = W off h x w u v ∧ (fun i => newM (g i) (u i)) = M off h x u ∧ (fun i => newV (g i) (v i)) = V off h x v := by
  subst hg; exact ⟨rfl, rfl, rfl, rfl⟩

/-- The block `x` of a tile is the rows of the pieces `p` that belong to the tile's places `e`. -/
def At : Prop := ∀ (k : Fin 8) (a : Fin T) (b : Fin C) (y : (T2 T C).Idx) (r : Fin N),
  a.val = (y 0).val → b = y 1 → r.val = off + (e y 0).val → x (ix3 k a b) = p (ix3 k r (e y 1))

/-- The four results of a tile are the whole results at the tile's places. -/
theorem tiles {x : FVec Ideal (T3 8 T C) .bf16} {off : ℕ} (h : off + R ≤ N) {p : FVec Ideal (T3 8 N C) .bf16} {e : (T2 T C).Idx → (T2 R C).Idx} (hx : At x off p e) :
    G 0 (Nat.zero_add T).le x = (fun y => G off h p (e y))
      ∧ W 0 (Nat.zero_add T).le x (fun y => w (e y)) (fun y => u (e y)) (fun y => v (e y)) = (fun y => W off h p w u v (e y))
      ∧ M 0 (Nat.zero_add T).le x (fun y => u (e y)) = (fun y => M off h p u (e y))
      ∧ V 0 (Nat.zero_add T).le x (fun y => v (e y)) = (fun y => V off h p v (e y)) :=
  have hG : (fun y => G off h p (e y)) = G 0 (Nat.zero_add T).le x := funext fun y => Finset.sum_congr rfl fun k _ => (hx k _ _ y _ (Nat.zero_add _) rfl rfl).symm
  have ⟨a, b, c, d⟩ := four 0 (Nat.zero_add T).le x (fun y => G off h p (e y)) (fun y => w (e y)) (fun y => u (e y)) (fun y => v (e y)) hG
  ⟨a.symm, b.symm, c.symm, d.symm⟩

end

/-- Every place is in one of the tiles. -/
theorem cover {n T R C : ℕ} (hn : n * T = R) (e : Fin n → (T2 T C).Idx → (T2 R C).Idx) (e0 : ∀ t y, (e t y 0).val = t.val * T + (y 0).val)
    (e1 : ∀ t y, (e t y 1).val = (y 1).val) (i : (T2 R C).Idx) : ∃ t y, e t y = i := by
  have hi : (i 0).val < n * T := lt_of_lt_of_eq (i 0).isLt hn.symm
  have hT : 0 < T := Nat.pos_of_ne_zero fun h0 => by rw [h0, Nat.mul_zero] at hi; exact Nat.not_lt_zero _ hi
  refine ⟨⟨(i 0).val / T, (Nat.div_lt_iff_lt_mul hT).mpr hi⟩, ix2 (⟨(i 0).val % T, Nat.mod_lt _ hT⟩ : Fin T) (i 1), funext fun d => Fin.ext ?_⟩
  match d with
  | ⟨0, _⟩ => exact (e0 _ _).trans (Nat.div_add_mod' _ _)
  | ⟨1, _⟩ => exact e1 _ _

/-! ## The reference's terms -/

section
variable {R C : ℕ} (bc : (⟨0, ![]⟩ : Shape).BroadcastsInDim (T2 R C) ![]) (g w u v : FVec Ideal (T2 R C) .f32)

/-- A constant at every index. -/
abbrev all (b : BitVec 32) : FVec Ideal (T2 R C) .f32 := broadcastInDim (T2 R C) ![] bc (constant ⟨0, ![]⟩ .f32 b)

def refM : FVec Ideal (T2 R C) .f32 := addf (mulf (all bc 0x3F666666#32) u) (mulf (all bc 0x3DCCCCCD#32) g)
def refV : FVec Ideal (T2 R C) .f32 := addf (mulf (all bc 0x3F7FBE77#32) v) (mulf (all bc 0x3A83126F#32) (mulf g g))
def refW : FVec Ideal (T2 R C) .f32 :=
  mulf (all bc 0xBA83126F#32) (addf (Host.divf (Host.divf (refM bc g u) (all bc 0x3F26BD02#32))
    (addf (Host.sqrt (Host.divf (refV bc g v) (all bc 0x3C231ACC#32))) (all bc 0x322BCC77#32))) (mulf (all bc 0x3C23D70A#32) w))

/-- With the gradient the sum of the pieces, the reference's terms are the whole results. -/
theorem refs {N : ℕ} (off : ℕ) (h : off + R ≤ N) (p : FVec Ideal (T3 8 N C) .bf16) (hg : g = G off h p) :
    refW bc g w u v = W off h p w u v ∧ refM bc g u = M off h p u ∧ refV bc g v = V off h p v := by
  subst hg; exact ⟨rfl, rfl, rfl⟩

end

end Cert.Adam

end
-- ==== Proof.Mm.AdamIn.lean ====
/-
  The optimiser's call for the weights of the input projection: the pieces of the gradient that the eight devices sent are
  added up, and every weight of a tile of rows makes its step. The kernel's tiles are put together to whole arrays and
  compared with the reference.
-/
module

public import proofs.«01_k».proof.Defs
public import proofs.«01_k».proof.Proof.Mm.Adam
public import proofs.«01_k».proof.Proof.Gen.AdamIn.Frame
public import proofs.«01_k».proof.Proof.Gen.AdamInIdeal.Value
public import proofs.«01_k».proof.Proof.Gen.AdamInRefIdeal.Read
public import Idealize.ShloMosaic.Lib.Quiescent

@[expose] public section

noncomputable section

namespace Cert.AdamInIdeal.Step

open Cert.AdamInIdeal Cert.AdamInIdeal.Gen Cert.Mm Idealize.ShloMosaic Idealize.ShloMosaic.TcCoe Idealize.ShloMosaic.ValueIdx

variable (m : (ℓ : Loc nD τ sig) → Buf (Elt Ideal) ℓ)

theorem rows : 0 + 1024 ≤ 1024 := by norm_num

/-! ## A tile -/

theorem outs (x : Vec Ideal (T3 8 256 1024) .bf16) (w u v : Vec Ideal (T2 256 1024) .f32) :
    out0_4 x w u v = Adam.G 0 (Nat.zero_add _).le x ∧ out0_5 x w u v = Adam.W 0 (Nat.zero_add _).le x w u v
      ∧ out0_6 x w u v = Adam.M 0 (Nat.zero_add _).le x u ∧ out0_7 x w u v = Adam.V 0 (Nat.zero_add _).le x v := by
  unfold out0_4 out0_5 out0_6 out0_7 k0_pay5
  simp only [View.canon_unit_zero (S := T2 256 1024) zeros2, View.ld_unit_zero (S := T2 256 1024) zeros2]
  exact Adam.four 0 (Nat.zero_add _).le x _ w u v (Adam.grad x _ _ _ _ _ _ _ _ _ _)

theorem place : ∀ t : Fin cfg0.N, (win0_0.index t (0 : Fin 3) = 0 ∧ win0_0.index t (1 : Fin 3) = 0 + t.val ∧ win0_0.index t (2 : Fin 3) = 0)
    ∧ win0_4.index t (0 : Fin 2) = t.val ∧ win0_4.index t (1 : Fin 2) = 0 :=
  (by decide +kernel : ∀ t : Fin grid0.N, _)

abbrev arg0 (c : Dev nD) : FVec Ideal (T3 8 1024 1024) .bf16 := m ((c : Thread nD τ).loc main_arg0)
abbrev arg1 (c : Dev nD) : FVec Ideal (T2 1024 1024) .f32 := m ((c : Thread nD τ).loc main_arg1)
abbrev arg2 (c : Dev nD) : FVec Ideal (T2 1024 1024) .f32 := m ((c : Thread nD τ).loc main_arg2)
abbrev arg3 (c : Dev nD) : FVec Ideal (T2 1024 1024) .f32 := m ((c : Thread nD τ).loc main_arg3)

/-- The place in the whole array of a place of the tile. -/
abbrev emb (t : Fin cfg0.N) (y : (T2 256 1024).Idx) : (T2 1024 1024).Idx := ((cfg0.win 4).blk t).view.emb y

theorem emb0 (t : Fin cfg0.N) (y : (T2 256 1024).Idx) : (emb t y 0).val = t.val * 256 + (y 0).val := by
  show win0_4.index t 0 * 256 + 1 * (y 0).val = _; rw [(place t).2.1]; omega
theorem emb1 (t : Fin cfg0.N) (y : (T2 256 1024).Idx) : (emb t y 1).val = (y 1).val := by
  show win0_4.index t 1 * 1024 + 1 * (y 1).val = _; rw [(place t).2.2]; omega

theorem blk0 (c : Dev nD) (t : Fin cfg0.N) : Adam.At (iblk m c 0 t) 0 (arg0 m c) (emb t) := fun k a b y r ha hb hr => by
  obtain ⟨⟨e0, e1, e2⟩, -⟩ := place t
  have hr : r.val = 0 + (t.val * 256 + a.val) := hr.trans (congrArg (0 + ·) ((emb0 t y).trans (congrArg (t.val * 256 + ·) ha.symm)))
  have hl : (emb t y 1).val = b.val := (emb1 t y).trans (congrArg Fin.val hb.symm)
  unfold iblk
  rw [View.read_apply]
  refine congrArg (arg0 m c) (funext fun d => Fin.ext ?_)
  match d with
  | ⟨0, _⟩ => show win0_0.index t 0 * 8 + 1 * k.val = k.val; rw [e0]; omega
  | ⟨1, _⟩ => show win0_0.index t 1 * 256 + 1 * a.val = r.val; rw [e1]; omega
  | ⟨2, _⟩ => show win0_0.index t 2 * 1024 + 1 * b.val = (emb t y 1).val; rw [e2]; omega

/-! ## The whole arrays -/

theorem covered (i : (T2 1024 1024).Idx) : ∃ t : Fin cfg0.N, (cfg0.win 4).flush t = true ∧ i ∈ ((cfg0.win 4).blk t).view.set :=
  have ⟨t, y, h⟩ := Adam.cover (show cfg0.N * 256 = 1024 by rw [show cfg0.N = 4 from N_0]) emb emb0 emb1 i
  ⟨t, flush0_4 t, Finset.mem_map.mpr ⟨y, Finset.mem_univ _, h⟩⟩

theorem final4 (c : Dev nD) : (dats m 0 c).arrAt 4 cfg0.N = Adam.G 0 rows (arg0 m c) :=
  (dats m 0 c).arrAt_eq_of_cover 4 _ (fun t _ => by rw [Value.flushed4, (outs _ _ _ _).1]; exact (Adam.tiles (arg1 m c) (arg2 m c) (arg3 m c) rows (blk0 m c t)).1) covered
theorem final5 (c : Dev nD) : (dats m 0 c).arrAt 5 cfg0.N = Adam.W 0 rows (arg0 m c) (arg1 m c) (arg2 m c) (arg3 m c) :=
  (dats m 0 c).arrAt_eq_of_cover 5 _ (fun t _ => by rw [Value.flushed5, (outs _ _ _ _).2.1]; exact (Adam.tiles (arg1 m c) (arg2 m c) (arg3 m c) rows (blk0 m c t)).2.1) covered
theorem final6 (c : Dev nD) : (dats m 0 c).arrAt 6 cfg0.N = Adam.M 0 rows (arg0 m c) (arg2 m c) :=
  (dats m 0 c).arrAt_eq_of_cover 6 _ (fun t _ => by rw [Value.flushed6, (outs _ _ _ _).2.2.1]; exact (Adam.tiles (arg1 m c) (arg2 m c) (arg3 m c) rows (blk0 m c t)).2.2.1) covered
theorem final7 (c : Dev nD) : (dats m 0 c).arrAt 7 cfg0.N = Adam.V 0 rows (arg0 m c) (arg3 m c) :=
  (dats m 0 c).arrAt_eq_of_cover 7 _ (fun t _ => by rw [Value.flushed7, (outs _ _ _ _).2.2.2]; exact (Adam.tiles (arg1 m c) (arg2 m c) (arg3 m c) rows (blk0 m c t)).2.2.2) covered

/-! ## The reference's gradient -/

theorem ref_grad (p : FVec Ideal (T3 8 1024 1024) .bf16) : Cert.AdamInRefIdeal.Read.val_main_v1 (F := Ideal) p = Adam.G 0 rows p := by
  funext i
  rw [Cert.AdamInRefIdeal.Read.val_main_v1_apply]
  refine (congrArg (· + _) Ideal.ofBits_zero_f32).trans ((zero_add _).trans (Finset.sum_congr rfl fun k _ => ?_))
  refine congrArg p (funext fun d => Fin.ext ?_)
  match d with
  | ⟨0, _⟩ => rfl
  | ⟨1, _⟩ => show (i 0).val = 0 + (i 0).val; omega
  | ⟨2, _⟩ => rfl

end Cert.AdamInIdeal.Step

/-! ## The claims -/

namespace Cert.Proof.AdamIn

open Idealize.ShloMosaic Idealize.ShloMosaic.TcCoe Idealize.SL.Sem AdamInIdeal.Step

theorem frame_k : quiescent_AdamIn := fun m g _ => AdamIn.Gen.frame m g
theorem frame_ki : quiescent_AdamInIdeal := fun m g _ => AdamInIdeal.Gen.frame m g
theorem frame_ri : quiescent_AdamInRefIdeal := fun m g _ =>
  (θ_run AdamInRefIdeal.defs _ _).mono (fun r h => ⟨fun c => (h c).2.2.2.2, sem_eq_zero_of_no_sems (by decide) r.2⟩)
    (AdamInRefIdeal.Value.run m g)

theorem equal : algebraic_AdamInIdeal_AdamInRefIdeal := fun m g m' g' _ hargs =>
  ⟨_, _, _, _, (θ_run AdamInIdeal.defs _ _).mono (fun r h c => ⟨(h c).1.trans (final4 m c), (h c).2.1.trans (final5 m c),
      (h c).2.2.1.trans (final6 m c), (h c).2.2.2.1.trans (final7 m c), (h c).2.2.2.2⟩) (AdamInIdeal.Value.run_blocks m g),
   (θ_run AdamInRefIdeal.defs _ _).mono (fun r h c => by
      obtain ⟨a0, a1, a2, a3⟩ := hargs c
      obtain ⟨r0, r1, r2, r3, kept⟩ := h c
      rw [a0] at r0 r1 r2 r3
      rw [a1] at r1
      rw [a2] at r1 r2
      rw [a3] at r1 r3
      have ⟨e1, e2, e3⟩ := Adam.refs AdamInRefIdeal.Gen.bcast_S_S1024x1024 _ (arg1 m c) (arg2 m c) (arg3 m c) 0 rows (arg0 m c) (ref_grad (arg0 m c))
      exact ⟨r0.trans (ref_grad (arg0 m c)), r1.trans e1, r2.trans e2, r3.trans e3, kept⟩)
     (AdamInRefIdeal.Value.run m' g')⟩

end Cert.Proof.AdamIn

end
-- ==== Proof.Mm.AdamUg.lean ====
/-
  The optimiser's call for the weights of the up and gate projections: the pieces of the gradient that the eight devices sent are
  added up, and every weight of a tile of rows makes its step. The kernel's tiles are put together to whole arrays and
  compared with the reference.
-/
module

public import proofs.«01_k».proof.Defs
public import proofs.«01_k».proof.Proof.Mm.Adam
public import proofs.«01_k».proof.Proof.Gen.AdamUg.Frame
public import proofs.«01_k».proof.Proof.Gen.AdamUgIdeal.Value
public import proofs.«01_k».proof.Proof.Gen.AdamUgRefIdeal.Read
public import Idealize.ShloMosaic.Lib.Quiescent

@[expose] public section

noncomputable section

namespace Cert.AdamUgIdeal.Step

open Cert.AdamUgIdeal Cert.AdamUgIdeal.Gen Cert.Mm Idealize.ShloMosaic Idealize.ShloMosaic.TcCoe Idealize.ShloMosaic.ValueIdx

variable (m : (ℓ : Loc nD τ sig) → Buf (Elt Ideal) ℓ)

theorem rows : 0 + 1024 ≤ 1024 := by norm_num

/-! ## A tile -/

theorem outs (x : Vec Ideal (T3 8 256 704) .bf16) (w u v : Vec Ideal (T2 256 704) .f32) :
    out0_4 x w u v = Adam.G 0 (Nat.zero_add _).le x ∧ out0_5 x w u v = Adam.W 0 (Nat.zero_add _).le x w u v
      ∧ out0_6 x w u v = Adam.M 0 (Nat.zero_add _).le x u ∧ out0_7 x w u v = Adam.V 0 (Nat.zero_add _).le x v := by
  unfold out0_4 out0_5 out0_6 out0_7 k0_pay5
  simp only [View.canon_unit_zero (S := T2 256 704) zeros2, View.ld_unit_zero (S := T2 256 704) zeros2]
  exact Adam.four 0 (Nat.zero_add _).le x _ w u v (Adam.grad x _ _ _ _ _ _ _ _ _ _)

theorem place : ∀ t : Fin cfg0.N, (win0_0.index t (0 : Fin 3) = 0 ∧ win0_0.index t (1 : Fin 3) = 0 + t.val ∧ win0_0.index t (2 : Fin 3) = 0)
    ∧ win0_4.index t (0 : Fin 2) = t.val ∧ win0_4.index t (1 : Fin 2) = 0 :=
  (by decide +kernel : ∀ t : Fin grid0.N, _)

abbrev arg0 (c : Dev nD) : FVec Ideal (T3 8 1024 704) .bf16 := m ((c : Thread nD τ).loc main_arg0)
abbrev arg1 (c : Dev nD) : FVec Ideal (T2 1024 704) .f32 := m ((c : Thread nD τ).loc main_arg1)
abbrev arg2 (c : Dev nD) : FVec Ideal (T2 1024 704) .f32 := m ((c : Thread nD τ).loc main_arg2)
abbrev arg3 (c : Dev nD) : FVec Ideal (T2 1024 704) .f32 := m ((c : Thread nD τ).loc main_arg3)

/-- The place in the whole array of a place of the tile. -/
abbrev emb (t : Fin cfg0.N) (y : (T2 256 704).Idx) : (T2 1024 704).Idx := ((cfg0.win 4).blk t).view.emb y

theorem emb0 (t : Fin cfg0.N) (y : (T2 256 704).Idx) : (emb t y 0).val = t.val * 256 + (y 0).val := by
  show win0_4.index t 0 * 256 + 1 * (y 0).val = _; rw [(place t).2.1]; omega
theorem emb1 (t : Fin cfg0.N) (y : (T2 256 704).Idx) : (emb t y 1).val = (y 1).val := by
  show win0_4.index t 1 * 704 + 1 * (y 1).val = _; rw [(place t).2.2]; omega

theorem blk0 (c : Dev nD) (t : Fin cfg0.N) : Adam.At (iblk m c 0 t) 0 (arg0 m c) (emb t) := fun k a b y r ha hb hr => by
  obtain ⟨⟨e0, e1, e2⟩, -⟩ := place t
  have hr : r.val = 0 + (t.val * 256 + a.val) := hr.trans (congrArg (0 + ·) ((emb0 t y).trans (congrArg (t.val * 256 + ·) ha.symm)))
  have hl : (emb t y 1).val = b.val := (emb1 t y).trans (congrArg Fin.val hb.symm)
  unfold iblk
  rw [View.read_apply]
  refine congrArg (arg0 m c) (funext fun d => Fin.ext ?_)
  match d with
  | ⟨0, _⟩ => show win0_0.index t 0 * 8 + 1 * k.val = k.val; rw [e0]; omega
  | ⟨1, _⟩ => show win0_0.index t 1 * 256 + 1 * a.val = r.val; rw [e1]; omega
  | ⟨2, _⟩ => show win0_0.index t 2 * 704 + 1 * b.val = (emb t y 1).val; rw [e2]; omega

/-! ## The whole arrays -/

theorem covered (i : (T2 1024 704).Idx) : ∃ t : Fin cfg0.N, (cfg0.win 4).flush t = true ∧ i ∈ ((cfg0.win 4).blk t).view.set :=
  have ⟨t, y, h⟩ := Adam.cover (show cfg0.N * 256 = 1024 by rw [show cfg0.N = 4 from N_0]) emb emb0 emb1 i
  ⟨t, flush0_4 t, Finset.mem_map.mpr ⟨y, Finset.mem_univ _, h⟩⟩

theorem final4 (c : Dev nD) : (dats m 0 c).arrAt 4 cfg0.N = Adam.G 0 rows (arg0 m c) :=
  (dats m 0 c).arrAt_eq_of_cover 4 _ (fun t _ => by rw [Value.flushed4, (outs _ _ _ _).1]; exact (Adam.tiles (arg1 m c) (arg2 m c) (arg3 m c) rows (blk0 m c t)).1) covered
theorem final5 (c : Dev nD) : (dats m 0 c).arrAt 5 cfg0.N = Adam.W 0 rows (arg0 m c) (arg1 m c) (arg2 m c) (arg3 m c) :=
  (dats m 0 c).arrAt_eq_of_cover 5 _ (fun t _ => by rw [Value.flushed5, (outs _ _ _ _).2.1]; exact (Adam.tiles (arg1 m c) (arg2 m c) (arg3 m c) rows (blk0 m c t)).2.1) covered
theorem final6 (c : Dev nD) : (dats m 0 c).arrAt 6 cfg0.N = Adam.M 0 rows (arg0 m c) (arg2 m c) :=
  (dats m 0 c).arrAt_eq_of_cover 6 _ (fun t _ => by rw [Value.flushed6, (outs _ _ _ _).2.2.1]; exact (Adam.tiles (arg1 m c) (arg2 m c) (arg3 m c) rows (blk0 m c t)).2.2.1) covered
theorem final7 (c : Dev nD) : (dats m 0 c).arrAt 7 cfg0.N = Adam.V 0 rows (arg0 m c) (arg3 m c) :=
  (dats m 0 c).arrAt_eq_of_cover 7 _ (fun t _ => by rw [Value.flushed7, (outs _ _ _ _).2.2.2]; exact (Adam.tiles (arg1 m c) (arg2 m c) (arg3 m c) rows (blk0 m c t)).2.2.2) covered

/-! ## The reference's gradient -/

theorem ref_grad (p : FVec Ideal (T3 8 1024 704) .bf16) : Cert.AdamUgRefIdeal.Read.val_main_v1 (F := Ideal) p = Adam.G 0 rows p := by
  funext i
  rw [Cert.AdamUgRefIdeal.Read.val_main_v1_apply]
  refine (congrArg (· + _) Ideal.ofBits_zero_f32).trans ((zero_add _).trans (Finset.sum_congr rfl fun k _ => ?_))
  refine congrArg p (funext fun d => Fin.ext ?_)
  match d with
  | ⟨0, _⟩ => rfl
  | ⟨1, _⟩ => show (i 0).val = 0 + (i 0).val; omega
  | ⟨2, _⟩ => rfl

end Cert.AdamUgIdeal.Step

/-! ## The claims -/

namespace Cert.Proof.AdamUg

open Idealize.ShloMosaic Idealize.ShloMosaic.TcCoe Idealize.SL.Sem AdamUgIdeal.Step

theorem frame_k : quiescent_AdamUg := fun m g _ => AdamUg.Gen.frame m g
theorem frame_ki : quiescent_AdamUgIdeal := fun m g _ => AdamUgIdeal.Gen.frame m g
theorem frame_ri : quiescent_AdamUgRefIdeal := fun m g _ =>
  (θ_run AdamUgRefIdeal.defs _ _).mono (fun r h => ⟨fun c => (h c).2.2.2.2, sem_eq_zero_of_no_sems (by decide) r.2⟩)
    (AdamUgRefIdeal.Value.run m g)

theorem equal : algebraic_AdamUgIdeal_AdamUgRefIdeal := fun m g m' g' _ hargs =>
  ⟨_, _, _, _, (θ_run AdamUgIdeal.defs _ _).mono (fun r h c => ⟨(h c).1.trans (final4 m c), (h c).2.1.trans (final5 m c),
      (h c).2.2.1.trans (final6 m c), (h c).2.2.2.1.trans (final7 m c), (h c).2.2.2.2⟩) (AdamUgIdeal.Value.run_blocks m g),
   (θ_run AdamUgRefIdeal.defs _ _).mono (fun r h c => by
      obtain ⟨a0, a1, a2, a3⟩ := hargs c
      obtain ⟨r0, r1, r2, r3, kept⟩ := h c
      rw [a0] at r0 r1 r2 r3
      rw [a1] at r1
      rw [a2] at r1 r2
      rw [a3] at r1 r3
      have ⟨e1, e2, e3⟩ := Adam.refs AdamUgRefIdeal.Gen.bcast_S_S1024x704 _ (arg1 m c) (arg2 m c) (arg3 m c) 0 rows (arg0 m c) (ref_grad (arg0 m c))
      exact ⟨r0.trans (ref_grad (arg0 m c)), r1.trans e1, r2.trans e2, r3.trans e3, kept⟩)
     (AdamUgRefIdeal.Value.run m' g')⟩

end Cert.Proof.AdamUg

end
-- ==== Proof.Mm.AdamDown.lean ====
/-
  The optimiser's call for the weights of the down projection: the pieces of the gradient that the eight devices sent are
  added up, and every weight of a tile of rows makes its step. The kernel's tiles are put together to whole arrays and
  compared with the reference.
-/
module

public import proofs.«01_k».proof.Defs
public import proofs.«01_k».proof.Proof.Mm.Adam
public import proofs.«01_k».proof.Proof.Gen.AdamDown.Frame
public import proofs.«01_k».proof.Proof.Gen.AdamDownIdeal.Value
public import proofs.«01_k».proof.Proof.Gen.AdamDownRefIdeal.Read
public import Idealize.ShloMosaic.Lib.Quiescent

@[expose] public section

noncomputable section

namespace Cert.AdamDownIdeal.Step

open Cert.AdamDownIdeal Cert.AdamDownIdeal.Gen Cert.Mm Idealize.ShloMosaic Idealize.ShloMosaic.TcCoe Idealize.ShloMosaic.ValueIdx

variable (m : (ℓ : Loc nD τ sig) → Buf (Elt Ideal) ℓ)

theorem rows : 384 + 352 ≤ 736 := by norm_num

/-! ## A tile -/

theorem outs (x : Vec Ideal (T3 8 32 1024) .bf16) (w u v : Vec Ideal (T2 32 1024) .f32) :
    out0_4 x w u v = Adam.G 0 (Nat.zero_add _).le x ∧ out0_5 x w u v = Adam.W 0 (Nat.zero_add _).le x w u v
      ∧ out0_6 x w u v = Adam.M 0 (Nat.zero_add _).le x u ∧ out0_7 x w u v = Adam.V 0 (Nat.zero_add _).le x v := by
  unfold out0_4 out0_5 out0_6 out0_7 k0_pay5
  simp only [View.canon_unit_zero (S := T2 32 1024) zeros2, View.ld_unit_zero (S := T2 32 1024) zeros2]
  exact Adam.four 0 (Nat.zero_add _).le x _ w u v (Adam.grad x _ _ _ _ _ _ _ _ _ _)

theorem place : ∀ t : Fin cfg0.N, (win0_0.index t (0 : Fin 3) = 0 ∧ win0_0.index t (1 : Fin 3) = 12 + t.val ∧ win0_0.index t (2 : Fin 3) = 0)
    ∧ win0_4.index t (0 : Fin 2) = t.val ∧ win0_4.index t (1 : Fin 2) = 0 :=
  (by decide +kernel : ∀ t : Fin grid0.N, _)

abbrev arg0 (c : Dev nD) : FVec Ideal (T3 8 736 1024) .bf16 := m ((c : Thread nD τ).loc main_arg0)
abbrev arg1 (c : Dev nD) : FVec Ideal (T2 352 1024) .f32 := m ((c : Thread nD τ).loc main_arg1)
abbrev arg2 (c : Dev nD) : FVec Ideal (T2 352 1024) .f32 := m ((c : Thread nD τ).loc main_arg2)
abbrev arg3 (c : Dev nD) : FVec Ideal (T2 352 1024) .f32 := m ((c : Thread nD τ).loc main_arg3)

/-- The place in the whole array of a place of the tile. -/
abbrev emb (t : Fin cfg0.N) (y : (T2 32 1024).Idx) : (T2 352 1024).Idx := ((cfg0.win 4).blk t).view.emb y

theorem emb0 (t : Fin cfg0.N) (y : (T2 32 1024).Idx) : (emb t y 0).val = t.val * 32 + (y 0).val := by
  show win0_4.index t 0 * 32 + 1 * (y 0).val = _; rw [(place t).2.1]; omega
theorem emb1 (t : Fin cfg0.N) (y : (T2 32 1024).Idx) : (emb t y 1).val = (y 1).val := by
  show win0_4.index t 1 * 1024 + 1 * (y 1).val = _; rw [(place t).2.2]; omega

theorem blk0 (c : Dev nD) (t : Fin cfg0.N) : Adam.At (iblk m c 0 t) 384 (arg0 m c) (emb t) := fun k a b y r ha hb hr => by
  obtain ⟨⟨e0, e1, e2⟩, -⟩ := place t
  have hr : r.val = 384 + (t.val * 32 + a.val) := hr.trans (congrArg (384 + ·) ((emb0 t y).trans (congrArg (t.val * 32 + ·) ha.symm)))
  have hl : (emb t y 1).val = b.val := (emb1 t y).trans (congrArg Fin.val hb.symm)
  unfold iblk
  rw [View.read_apply]
  refine congrArg (arg0 m c) (funext fun d => Fin.ext ?_)
  match d with
  | ⟨0, _⟩ => show win0_0.index t 0 * 8 + 1 * k.val = k.val; rw [e0]; omega
  | ⟨1, _⟩ => show win0_0.index t 1 * 32 + 1 * a.val = r.val; rw [e1]; omega
  | ⟨2, _⟩ => show win0_0.index t 2 * 1024 + 1 * b.val = (emb t y 1).val; rw [e2]; omega

/-! ## The whole arrays -/

theorem covered (i : (T2 352 1024).Idx) : ∃ t : Fin cfg0.N, (cfg0.win 4).flush t = true ∧ i ∈ ((cfg0.win 4).blk t).view.set :=
  have ⟨t, y, h⟩ := Adam.cover (show cfg0.N * 32 = 352 by rw [show cfg0.N = 11 from N_0]) emb emb0 emb1 i
  ⟨t, flush0_4 t, Finset.mem_map.mpr ⟨y, Finset.mem_univ _, h⟩⟩

theorem final4 (c : Dev nD) : (dats m 0 c).arrAt 4 cfg0.N = Adam.G 384 rows (arg0 m c) :=
  (dats m 0 c).arrAt_eq_of_cover 4 _ (fun t _ => by rw [Value.flushed4, (outs _ _ _ _).1]; exact (Adam.tiles (arg1 m c) (arg2 m c) (arg3 m c) rows (blk0 m c t)).1) covered
theorem final5 (c : Dev nD) : (dats m 0 c).arrAt 5 cfg0.N = Adam.W 384 rows (arg0 m c) (arg1 m c) (arg2 m c) (arg3 m c) :=
  (dats m 0 c).arrAt_eq_of_cover 5 _ (fun t _ => by rw [Value.flushed5, (outs _ _ _ _).2.1]; exact (Adam.tiles (arg1 m c) (arg2 m c) (arg3 m c) rows (blk0 m c t)).2.1) covered
theorem final6 (c : Dev nD) : (dats m 0 c).arrAt 6 cfg0.N = Adam.M 384 rows (arg0 m c) (arg2 m c) :=
  (dats m 0 c).arrAt_eq_of_cover 6 _ (fun t _ => by rw [Value.flushed6, (outs _ _ _ _).2.2.1]; exact (Adam.tiles (arg1 m c) (arg2 m c) (arg3 m c) rows (blk0 m c t)).2.2.1) covered
theorem final7 (c : Dev nD) : (dats m 0 c).arrAt 7 cfg0.N = Adam.V 384 rows (arg0 m c) (arg3 m c) :=
  (dats m 0 c).arrAt_eq_of_cover 7 _ (fun t _ => by rw [Value.flushed7, (outs _ _ _ _).2.2.2]; exact (Adam.tiles (arg1 m c) (arg2 m c) (arg3 m c) rows (blk0 m c t)).2.2.2) covered

/-! ## The reference's gradient -/

theorem ref_grad (p : FVec Ideal (T3 8 736 1024) .bf16) : Cert.AdamDownRefIdeal.Read.val_main_v2 (F := Ideal) p = Adam.G 384 rows p := by
  funext i
  rw [Cert.AdamDownRefIdeal.Read.val_main_v2_apply]
  refine (congrArg (· + _) Ideal.ofBits_zero_f32).trans ((zero_add _).trans (Finset.sum_congr rfl fun k _ => ?_))
  rw [Cert.AdamDownRefIdeal.Read.val_main_v1_apply, Cert.AdamDownRefIdeal.Read.val_main_v0_apply]
  refine congrArg p (funext fun d => Fin.ext ?_)
  match d with
  | ⟨0, _⟩ => rfl
  | ⟨1, _⟩ => rfl
  | ⟨2, _⟩ => rfl

end Cert.AdamDownIdeal.Step

/-! ## The claims -/

namespace Cert.Proof.AdamDown

open Idealize.ShloMosaic Idealize.ShloMosaic.TcCoe Idealize.SL.Sem AdamDownIdeal.Step

theorem frame_k : quiescent_AdamDown := fun m g _ => AdamDown.Gen.frame m g
theorem frame_ki : quiescent_AdamDownIdeal := fun m g _ => AdamDownIdeal.Gen.frame m g
theorem frame_ri : quiescent_AdamDownRefIdeal := fun m g _ =>
  (θ_run AdamDownRefIdeal.defs _ _).mono (fun r h => ⟨fun c => (h c).2.2.2.2, sem_eq_zero_of_no_sems (by decide) r.2⟩)
    (AdamDownRefIdeal.Value.run m g)

theorem equal : algebraic_AdamDownIdeal_AdamDownRefIdeal := fun m g m' g' _ hargs =>
  ⟨_, _, _, _, (θ_run AdamDownIdeal.defs _ _).mono (fun r h c => ⟨(h c).1.trans (final4 m c), (h c).2.1.trans (final5 m c),
      (h c).2.2.1.trans (final6 m c), (h c).2.2.2.1.trans (final7 m c), (h c).2.2.2.2⟩) (AdamDownIdeal.Value.run_blocks m g),
   (θ_run AdamDownRefIdeal.defs _ _).mono (fun r h c => by
      obtain ⟨a0, a1, a2, a3⟩ := hargs c
      obtain ⟨r0, r1, r2, r3, kept⟩ := h c
      rw [a0] at r0 r1 r2 r3
      rw [a1] at r1
      rw [a2] at r1 r2
      rw [a3] at r1 r3
      have ⟨e1, e2, e3⟩ := Adam.refs AdamDownRefIdeal.Gen.bcast_S_S352x1024 _ (arg1 m c) (arg2 m c) (arg3 m c) 384 rows (arg0 m c) (ref_grad (arg0 m c))
      exact ⟨r0.trans (ref_grad (arg0 m c)), r1.trans e1, r2.trans e2, r3.trans e3, kept⟩)
     (AdamDownRefIdeal.Value.run m' g')⟩

end Cert.Proof.AdamDown

end
-- ==== Proof.Mm.AdamConv.lean ====
/-
  The optimiser's call for the weights of the projection after the convolution: the pieces of the gradient that the eight devices sent are
  added up, and every weight of a tile of rows makes its step. The kernel's tiles are put together to whole arrays and
  compared with the reference.
-/
module

public import proofs.«01_k».proof.Defs
public import proofs.«01_k».proof.Proof.Mm.Adam
public import proofs.«01_k».proof.Proof.Gen.AdamConv.Frame
public import proofs.«01_k».proof.Proof.Gen.AdamConvIdeal.Value
public import proofs.«01_k».proof.Proof.Gen.AdamConvRefIdeal.Read
public import Idealize.ShloMosaic.Lib.Quiescent

@[expose] public section

noncomputable section

namespace Cert.AdamConvIdeal.Step

open Cert.AdamConvIdeal Cert.AdamConvIdeal.Gen Cert.Mm Idealize.ShloMosaic Idealize.ShloMosaic.TcCoe Idealize.ShloMosaic.ValueIdx

variable (m : (ℓ : Loc nD τ sig) → Buf (Elt Ideal) ℓ)

theorem rows : 0 + 128 ≤ 736 := by norm_num

/-! ## A tile -/

theorem outs (c : Dev nD) (t : Fin cfg0.N) :
    (outsAt0 m c t).1 = Adam.G 0 (Nat.zero_add _).le (X0_0 m c t) ∧ (outsAt0 m c t).2.1 = Adam.W 0 (Nat.zero_add _).le (X0_0 m c t) (iblk m c 1 t) (iblk m c 2 t) (iblk m c 3 t)
      ∧ (outsAt0 m c t).2.2.1 = Adam.M 0 (Nat.zero_add _).le (X0_0 m c t) (iblk m c 2 t) ∧ (outsAt0 m c t).2.2.2 = Adam.V 0 (Nat.zero_add _).le (X0_0 m c t) (iblk m c 3 t) := by
  unfold outsAt0 out0_A_4 out0_A_5 out0_A_6 out0_A_7
  dsimp only
  rw [View.read_writes_eq_canon _ _ _ (cover0_A_4 c _ _ _ _ _ _ _ _ _ _ _ _ _ _ _ _ _ _ _ _ _),
    View.read_writes_eq_canon _ _ _ (cover0_A_5 c _ _ _ _ _ _ _ _ _ _ _ _ _ _ _ _ _ _ _ _ _),
    View.read_writes_eq_canon _ _ _ (cover0_A_6 c _ _ _ _ _ _ _ _ _ _ _ _ _ _ _ _ _ _ _ _ _),
    View.read_writes_eq_canon _ _ _ (cover0_A_7 c _ _ _ _ _ _ _ _ _ _ _ _ _ _ _ _ _ _ _ _ _)]
  unfold kernelRun0_A
  dsimp only
  sl_unfold_words
  simp only [View.canon_unit_zero (S := T2 128 1024) zeros2, View.readAt_eq_ld, (hs0_0 t).read_unread, (hs0_1 t).read_unread, (hs0_2 t).read_unread, (hs0_3 t).read_unread,
    View.ld_unit_zero (S := T2 128 1024) zeros2]
  exact Adam.four 0 (Nat.zero_add _).le (X0_0 m c t) _ (iblk m c 1 t) (iblk m c 2 t) (iblk m c 3 t) (Adam.grad (X0_0 m c t) _ _ _ _ _ _ _ _ _ _)

theorem place : ∀ t : Fin cfg0.N, (win0_0.index t (0 : Fin 3) = 0 ∧ win0_0.index t (1 : Fin 3) = 0 + t.val ∧ win0_0.index t (2 : Fin 3) = 0)
    ∧ win0_4.index t (0 : Fin 2) = t.val ∧ win0_4.index t (1 : Fin 2) = 0 :=
  (by decide +kernel : ∀ t : Fin grid0.N, _)

abbrev arg0 (c : Dev nD) : FVec Ideal (T3 8 736 1024) .bf16 := m ((c : Thread nD τ).loc main_arg0)
abbrev arg1 (c : Dev nD) : FVec Ideal (T2 128 1024) .f32 := m ((c : Thread nD τ).loc main_arg1)
abbrev arg2 (c : Dev nD) : FVec Ideal (T2 128 1024) .f32 := m ((c : Thread nD τ).loc main_arg2)
abbrev arg3 (c : Dev nD) : FVec Ideal (T2 128 1024) .f32 := m ((c : Thread nD τ).loc main_arg3)

/-- The place in the whole array of a place of the tile. -/
abbrev emb (t : Fin cfg0.N) (y : (T2 128 1024).Idx) : (T2 128 1024).Idx := ((cfg0.win 4).blk t).view.emb y

theorem emb0 (t : Fin cfg0.N) (y : (T2 128 1024).Idx) : (emb t y 0).val = t.val * 128 + (y 0).val := by
  show win0_4.index t 0 * 128 + 1 * (y 0).val = _; rw [(place t).2.1]; omega
theorem emb1 (t : Fin cfg0.N) (y : (T2 128 1024).Idx) : (emb t y 1).val = (y 1).val := by
  show win0_4.index t 1 * 1024 + 1 * (y 1).val = _; rw [(place t).2.2]; omega

theorem blk0 (c : Dev nD) (t : Fin cfg0.N) : Adam.At (X0_0 m c t) 0 (arg0 m c) (emb t) := fun k a b y r ha hb hr => by
  obtain ⟨⟨e0, e1, e2⟩, -⟩ := place t
  have hr : r.val = 0 + (t.val * 128 + a.val) := hr.trans (congrArg (0 + ·) ((emb0 t y).trans (congrArg (t.val * 128 + ·) ha.symm)))
  have hl : (emb t y 1).val = b.val := (emb1 t y).trans (congrArg Fin.val hb.symm)
  unfold X0_0 Pipeline.Window.fill iblk
  rw [dif_pos (moved0_0 t _), View.read_apply]
  refine congrArg (arg0 m c) (funext fun d => Fin.ext ?_)
  match d with
  | ⟨0, _⟩ => show win0_0.index t 0 * 8 + 1 * k.val = k.val; rw [e0]; omega
  | ⟨1, _⟩ => show win0_0.index t 1 * 128 + 1 * a.val = r.val; rw [e1]; omega
  | ⟨2, _⟩ => show win0_0.index t 2 * 1024 + 1 * b.val = (emb t y 1).val; rw [e2]; omega

/-! ## The whole arrays -/

theorem covered (i : (T2 128 1024).Idx) : ∃ t : Fin cfg0.N, (cfg0.win 4).flush t = true ∧ i ∈ ((cfg0.win 4).blk t).view.set :=
  have ⟨t, y, h⟩ := Adam.cover (show cfg0.N * 128 = 128 by rw [show cfg0.N = 1 from N_0]) emb emb0 emb1 i
  ⟨t, flush0_4 t, Finset.mem_map.mpr ⟨y, Finset.mem_univ _, h⟩⟩

theorem final4 (c : Dev nD) : (dats m 0 c).arrAt 4 cfg0.N = Adam.G 0 rows (arg0 m c) :=
  (dats m 0 c).arrAt_eq_of_cover 4 _ (fun t _ => by rw [Value.flushed4, (outs m c t).1]; exact (Adam.tiles (arg1 m c) (arg2 m c) (arg3 m c) rows (blk0 m c t)).1) covered
theorem final5 (c : Dev nD) : (dats m 0 c).arrAt 5 cfg0.N = Adam.W 0 rows (arg0 m c) (arg1 m c) (arg2 m c) (arg3 m c) :=
  (dats m 0 c).arrAt_eq_of_cover 5 _ (fun t _ => by rw [Value.flushed5, (outs m c t).2.1]; exact (Adam.tiles (arg1 m c) (arg2 m c) (arg3 m c) rows (blk0 m c t)).2.1) covered
theorem final6 (c : Dev nD) : (dats m 0 c).arrAt 6 cfg0.N = Adam.M 0 rows (arg0 m c) (arg2 m c) :=
  (dats m 0 c).arrAt_eq_of_cover 6 _ (fun t _ => by rw [Value.flushed6, (outs m c t).2.2.1]; exact (Adam.tiles (arg1 m c) (arg2 m c) (arg3 m c) rows (blk0 m c t)).2.2.1) covered
theorem final7 (c : Dev nD) : (dats m 0 c).arrAt 7 cfg0.N = Adam.V 0 rows (arg0 m c) (arg3 m c) :=
  (dats m 0 c).arrAt_eq_of_cover 7 _ (fun t _ => by rw [Value.flushed7, (outs m c t).2.2.2]; exact (Adam.tiles (arg1 m c) (arg2 m c) (arg3 m c) rows (blk0 m c t)).2.2.2) covered

/-! ## The reference's gradient -/

theorem ref_grad (p : FVec Ideal (T3 8 736 1024) .bf16) : Cert.AdamConvRefIdeal.Read.val_main_v2 (F := Ideal) p = Adam.G 0 rows p := by
  funext i
  rw [Cert.AdamConvRefIdeal.Read.val_main_v2_apply]
  refine (congrArg (· + _) Ideal.ofBits_zero_f32).trans ((zero_add _).trans (Finset.sum_congr rfl fun k _ => ?_))
  rw [Cert.AdamConvRefIdeal.Read.val_main_v1_apply, Cert.AdamConvRefIdeal.Read.val_main_v0_apply]
  refine congrArg p (funext fun d => Fin.ext ?_)
  match d with
  | ⟨0, _⟩ => rfl
  | ⟨1, _⟩ => show (i 0).val = 0 + (i 0).val; omega
  | ⟨2, _⟩ => rfl

end Cert.AdamConvIdeal.Step

/-! ## The claims -/

namespace Cert.Proof.AdamConv

open Idealize.ShloMosaic Idealize.ShloMosaic.TcCoe Idealize.SL.Sem AdamConvIdeal.Step

theorem frame_k : quiescent_AdamConv := fun m g _ => AdamConv.Gen.frame m g
theorem frame_ki : quiescent_AdamConvIdeal := fun m g _ => AdamConvIdeal.Gen.frame m g
theorem frame_ri : quiescent_AdamConvRefIdeal := fun m g _ =>
  (θ_run AdamConvRefIdeal.defs _ _).mono (fun r h => ⟨fun c => (h c).2.2.2.2, sem_eq_zero_of_no_sems (by decide) r.2⟩)
    (AdamConvRefIdeal.Value.run m g)

theorem equal : algebraic_AdamConvIdeal_AdamConvRefIdeal := fun m g m' g' _ hargs =>
  ⟨_, _, _, _, (θ_run AdamConvIdeal.defs _ _).mono (fun r h c => ⟨(h c).1.trans (final4 m c), (h c).2.1.trans (final5 m c),
      (h c).2.2.1.trans (final6 m c), (h c).2.2.2.1.trans (final7 m c), (h c).2.2.2.2⟩) (AdamConvIdeal.Value.run_blocks m g),
   (θ_run AdamConvRefIdeal.defs _ _).mono (fun r h c => by
      obtain ⟨a0, a1, a2, a3⟩ := hargs c
      obtain ⟨r0, r1, r2, r3, kept⟩ := h c
      rw [a0] at r0 r1 r2 r3
      rw [a1] at r1
      rw [a2] at r1 r2
      rw [a3] at r1 r3
      have ⟨e1, e2, e3⟩ := Adam.refs AdamConvRefIdeal.Gen.bcast_S_S128x1024 _ (arg1 m c) (arg2 m c) (arg3 m c) 0 rows (arg0 m c) (ref_grad (arg0 m c))
      exact ⟨r0.trans (ref_grad (arg0 m c)), r1.trans e1, r2.trans e2, r3.trans e3, kept⟩)
     (AdamConvRefIdeal.Value.run m' g')⟩

end Cert.Proof.AdamConv

end
-- ==== Proof.Mm.AdamAttn.lean ====
/-
  The optimiser's call for the weights of the projection after the attention: the pieces of the gradient that the eight devices sent are
  added up, and every weight of a tile of rows makes its step. The kernel's tiles are put together to whole arrays and
  compared with the reference.
-/
module

public import proofs.«01_k».proof.Defs
public import proofs.«01_k».proof.Proof.Mm.Adam
public import proofs.«01_k».proof.Proof.Gen.AdamAttn.Frame
public import proofs.«01_k».proof.Proof.Gen.AdamAttnIdeal.Value
public import proofs.«01_k».proof.Proof.Gen.AdamAttnRefIdeal.Read
public import Idealize.ShloMosaic.Lib.Quiescent

@[expose] public section

noncomputable section

namespace Cert.AdamAttnIdeal.Step

open Cert.AdamAttnIdeal Cert.AdamAttnIdeal.Gen Cert.Mm Idealize.ShloMosaic Idealize.ShloMosaic.TcCoe Idealize.ShloMosaic.ValueIdx

variable (m : (ℓ : Loc nD τ sig) → Buf (Elt Ideal) ℓ)

theorem rows : 128 + 128 ≤ 736 := by norm_num

/-! ## A tile -/

theorem outs (c : Dev nD) (t : Fin cfg0.N) :
    (outsAt0 m c t).1 = Adam.G 0 (Nat.zero_add _).le (X0_0 m c t) ∧ (outsAt0 m c t).2.1 = Adam.W 0 (Nat.zero_add _).le (X0_0 m c t) (iblk m c 1 t) (iblk m c 2 t) (iblk m c 3 t)
      ∧ (outsAt0 m c t).2.2.1 = Adam.M 0 (Nat.zero_add _).le (X0_0 m c t) (iblk m c 2 t) ∧ (outsAt0 m c t).2.2.2 = Adam.V 0 (Nat.zero_add _).le (X0_0 m c t) (iblk m c 3 t) := by
  unfold outsAt0 out0_A_4 out0_A_5 out0_A_6 out0_A_7
  dsimp only
  rw [View.read_writes_eq_canon _ _ _ (cover0_A_4 c _ _ _ _ _ _ _ _ _ _ _ _ _ _ _ _ _ _ _ _ _),
    View.read_writes_eq_canon _ _ _ (cover0_A_5 c _ _ _ _ _ _ _ _ _ _ _ _ _ _ _ _ _ _ _ _ _),
    View.read_writes_eq_canon _ _ _ (cover0_A_6 c _ _ _ _ _ _ _ _ _ _ _ _ _ _ _ _ _ _ _ _ _),
    View.read_writes_eq_canon _ _ _ (cover0_A_7 c _ _ _ _ _ _ _ _ _ _ _ _ _ _ _ _ _ _ _ _ _)]
  unfold kernelRun0_A
  dsimp only
  sl_unfold_words
  simp only [View.canon_unit_zero (S := T2 128 1024) zeros2, View.readAt_eq_ld, (hs0_0 t).read_unread, (hs0_1 t).read_unread, (hs0_2 t).read_unread, (hs0_3 t).read_unread,
    View.ld_unit_zero (S := T2 128 1024) zeros2]
  exact Adam.four 0 (Nat.zero_add _).le (X0_0 m c t) _ (iblk m c 1 t) (iblk m c 2 t) (iblk m c 3 t) (Adam.grad (X0_0 m c t) _ _ _ _ _ _ _ _ _ _)

theorem place : ∀ t : Fin cfg0.N, (win0_0.index t (0 : Fin 3) = 0 ∧ win0_0.index t (1 : Fin 3) = 1 + t.val ∧ win0_0.index t (2 : Fin 3) = 0)
    ∧ win0_4.index t (0 : Fin 2) = t.val ∧ win0_4.index t (1 : Fin 2) = 0 :=
  (by decide +kernel : ∀ t : Fin grid0.N, _)

abbrev arg0 (c : Dev nD) : FVec Ideal (T3 8 736 1024) .bf16 := m ((c : Thread nD τ).loc main_arg0)
abbrev arg1 (c : Dev nD) : FVec Ideal (T2 128 1024) .f32 := m ((c : Thread nD τ).loc main_arg1)
abbrev arg2 (c : Dev nD) : FVec Ideal (T2 128 1024) .f32 := m ((c : Thread nD τ).loc main_arg2)
abbrev arg3 (c : Dev nD) : FVec Ideal (T2 128 1024) .f32 := m ((c : Thread nD τ).loc main_arg3)

/-- The place in the whole array of a place of the tile. -/
abbrev emb (t : Fin cfg0.N) (y : (T2 128 1024).Idx) : (T2 128 1024).Idx := ((cfg0.win 4).blk t).view.emb y

theorem emb0 (t : Fin cfg0.N) (y : (T2 128 1024).Idx) : (emb t y 0).val = t.val * 128 + (y 0).val := by
  show win0_4.index t 0 * 128 + 1 * (y 0).val = _; rw [(place t).2.1]; omega
theorem emb1 (t : Fin cfg0.N) (y : (T2 128 1024).Idx) : (emb t y 1).val = (y 1).val := by
  show win0_4.index t 1 * 1024 + 1 * (y 1).val = _; rw [(place t).2.2]; omega

theorem blk0 (c : Dev nD) (t : Fin cfg0.N) : Adam.At (X0_0 m c t) 128 (arg0 m c) (emb t) := fun k a b y r ha hb hr => by
  obtain ⟨⟨e0, e1, e2⟩, -⟩ := place t
  have hr : r.val = 128 + (t.val * 128 + a.val) := hr.trans (congrArg (128 + ·) ((emb0 t y).trans (congrArg (t.val * 128 + ·) ha.symm)))
  have hl : (emb t y 1).val = b.val := (emb1 t y).trans (congrArg Fin.val hb.symm)
  unfold X0_0 Pipeline.Window.fill iblk
  rw [dif_pos (moved0_0 t _), View.read_apply]
  refine congrArg (arg0 m c) (funext fun d => Fin.ext ?_)
  match d with
  | ⟨0, _⟩ => show win0_0.index t 0 * 8 + 1 * k.val = k.val; rw [e0]; omega
  | ⟨1, _⟩ => show win0_0.index t 1 * 128 + 1 * a.val = r.val; rw [e1]; omega
  | ⟨2, _⟩ => show win0_0.index t 2 * 1024 + 1 * b.val = (emb t y 1).val; rw [e2]; omega

/-! ## The whole arrays -/

theorem covered (i : (T2 128 1024).Idx) : ∃ t : Fin cfg0.N, (cfg0.win 4).flush t = true ∧ i ∈ ((cfg0.win 4).blk t).view.set :=
  have ⟨t, y, h⟩ := Adam.cover (show cfg0.N * 128 = 128 by rw [show cfg0.N = 1 from N_0]) emb emb0 emb1 i
  ⟨t, flush0_4 t, Finset.mem_map.mpr ⟨y, Finset.mem_univ _, h⟩⟩

theorem final4 (c : Dev nD) : (dats m 0 c).arrAt 4 cfg0.N = Adam.G 128 rows (arg0 m c) :=
  (dats m 0 c).arrAt_eq_of_cover 4 _ (fun t _ => by rw [Value.flushed4, (outs m c t).1]; exact (Adam.tiles (arg1 m c) (arg2 m c) (arg3 m c) rows (blk0 m c t)).1) covered
theorem final5 (c : Dev nD) : (dats m 0 c).arrAt 5 cfg0.N = Adam.W 128 rows (arg0 m c) (arg1 m c) (arg2 m c) (arg3 m c) :=
  (dats m 0 c).arrAt_eq_of_cover 5 _ (fun t _ => by rw [Value.flushed5, (outs m c t).2.1]; exact (Adam.tiles (arg1 m c) (arg2 m c) (arg3 m c) rows (blk0 m c t)).2.1) covered
theorem final6 (c : Dev nD) : (dats m 0 c).arrAt 6 cfg0.N = Adam.M 128 rows (arg0 m c) (arg2 m c) :=
  (dats m 0 c).arrAt_eq_of_cover 6 _ (fun t _ => by rw [Value.flushed6, (outs m c t).2.2.1]; exact (Adam.tiles (arg1 m c) (arg2 m c) (arg3 m c) rows (blk0 m c t)).2.2.1) covered
theorem final7 (c : Dev nD) : (dats m 0 c).arrAt 7 cfg0.N = Adam.V 128 rows (arg0 m c) (arg3 m c) :=
  (dats m 0 c).arrAt_eq_of_cover 7 _ (fun t _ => by rw [Value.flushed7, (outs m c t).2.2.2]; exact (Adam.tiles (arg1 m c) (arg2 m c) (arg3 m c) rows (blk0 m c t)).2.2.2) covered

/-! ## The reference's gradient -/

theorem ref_grad (p : FVec Ideal (T3 8 736 1024) .bf16) : Cert.AdamAttnRefIdeal.Read.val_main_v2 (F := Ideal) p = Adam.G 128 rows p := by
  funext i
  rw [Cert.AdamAttnRefIdeal.Read.val_main_v2_apply]
  refine (congrArg (· + _) Ideal.ofBits_zero_f32).trans ((zero_add _).trans (Finset.sum_congr rfl fun k _ => ?_))
  rw [Cert.AdamAttnRefIdeal.Read.val_main_v1_apply, Cert.AdamAttnRefIdeal.Read.val_main_v0_apply]
  refine congrArg p (funext fun d => Fin.ext ?_)
  match d with
  | ⟨0, _⟩ => rfl
  | ⟨1, _⟩ => rfl
  | ⟨2, _⟩ => rfl

end Cert.AdamAttnIdeal.Step

/-! ## The claims -/

namespace Cert.Proof.AdamAttn

open Idealize.ShloMosaic Idealize.ShloMosaic.TcCoe Idealize.SL.Sem AdamAttnIdeal.Step

theorem frame_k : quiescent_AdamAttn := fun m g _ => AdamAttn.Gen.frame m g
theorem frame_ki : quiescent_AdamAttnIdeal := fun m g _ => AdamAttnIdeal.Gen.frame m g
theorem frame_ri : quiescent_AdamAttnRefIdeal := fun m g _ =>
  (θ_run AdamAttnRefIdeal.defs _ _).mono (fun r h => ⟨fun c => (h c).2.2.2.2, sem_eq_zero_of_no_sems (by decide) r.2⟩)
    (AdamAttnRefIdeal.Value.run m g)

theorem equal : algebraic_AdamAttnIdeal_AdamAttnRefIdeal := fun m g m' g' _ hargs =>
  ⟨_, _, _, _, (θ_run AdamAttnIdeal.defs _ _).mono (fun r h c => ⟨(h c).1.trans (final4 m c), (h c).2.1.trans (final5 m c),
      (h c).2.2.1.trans (final6 m c), (h c).2.2.2.1.trans (final7 m c), (h c).2.2.2.2⟩) (AdamAttnIdeal.Value.run_blocks m g),
   (θ_run AdamAttnRefIdeal.defs _ _).mono (fun r h c => by
      obtain ⟨a0, a1, a2, a3⟩ := hargs c
      obtain ⟨r0, r1, r2, r3, kept⟩ := h c
      rw [a0] at r0 r1 r2 r3
      rw [a1] at r1
      rw [a2] at r1 r2
      rw [a3] at r1 r3
      have ⟨e1, e2, e3⟩ := Adam.refs AdamAttnRefIdeal.Gen.bcast_S_S128x1024 _ (arg1 m c) (arg2 m c) (arg3 m c) 128 rows (arg0 m c) (ref_grad (arg0 m c))
      exact ⟨r0.trans (ref_grad (arg0 m c)), r1.trans e1, r2.trans e2, r3.trans e3, kept⟩)
     (AdamAttnRefIdeal.Value.run m' g')⟩

end Cert.Proof.AdamAttn

end
-- ==== Proof.Mm.AdamOut.lean ====
/-
  The optimiser's call for the weights of the output projection: the pieces of the gradient that the eight devices sent are
  added up, and every weight of a tile of rows makes its step. The kernel's tiles are put together to whole arrays and
  compared with the reference.
-/
module

public import proofs.«01_k».proof.Defs
public import proofs.«01_k».proof.Proof.Mm.Adam
public import proofs.«01_k».proof.Proof.Gen.AdamOut.Frame
public import proofs.«01_k».proof.Proof.Gen.AdamOutIdeal.Value
public import proofs.«01_k».proof.Proof.Gen.AdamOutRefIdeal.Read
public import Idealize.ShloMosaic.Lib.Quiescent

@[expose] public section

noncomputable section

namespace Cert.AdamOutIdeal.Step

open Cert.AdamOutIdeal Cert.AdamOutIdeal.Gen Cert.Mm Idealize.ShloMosaic Idealize.ShloMosaic.TcCoe Idealize.ShloMosaic.ValueIdx

variable (m : (ℓ : Loc nD τ sig) → Buf (Elt Ideal) ℓ)

theorem rows : 256 + 128 ≤ 736 := by norm_num

/-! ## A tile -/

theorem outs (c : Dev nD) (t : Fin cfg0.N) :
    (outsAt0 m c t).1 = Adam.G 0 (Nat.zero_add _).le (X0_0 m c t) ∧ (outsAt0 m c t).2.1 = Adam.W 0 (Nat.zero_add _).le (X0_0 m c t) (iblk m c 1 t) (iblk m c 2 t) (iblk m c 3 t)
      ∧ (outsAt0 m c t).2.2.1 = Adam.M 0 (Nat.zero_add _).le (X0_0 m c t) (iblk m c 2 t) ∧ (outsAt0 m c t).2.2.2 = Adam.V 0 (Nat.zero_add _).le (X0_0 m c t) (iblk m c 3 t) := by
  unfold outsAt0 out0_A_4 out0_A_5 out0_A_6 out0_A_7
  dsimp only
  rw [View.read_writes_eq_canon _ _ _ (cover0_A_4 c _ _ _ _ _ _ _ _ _ _ _ _ _ _ _ _ _ _ _ _ _),
    View.read_writes_eq_canon _ _ _ (cover0_A_5 c _ _ _ _ _ _ _ _ _ _ _ _ _ _ _ _ _ _ _ _ _),
    View.read_writes_eq_canon _ _ _ (cover0_A_6 c _ _ _ _ _ _ _ _ _ _ _ _ _ _ _ _ _ _ _ _ _),
    View.read_writes_eq_canon _ _ _ (cover0_A_7 c _ _ _ _ _ _ _ _ _ _ _ _ _ _ _ _ _ _ _ _ _)]
  unfold kernelRun0_A
  dsimp only
  sl_unfold_words
  simp only [View.canon_unit_zero (S := T2 128 1024) zeros2, View.readAt_eq_ld, (hs0_0 t).read_unread, (hs0_1 t).read_unread, (hs0_2 t).read_unread, (hs0_3 t).read_unread,
    View.ld_unit_zero (S := T2 128 1024) zeros2]
  exact Adam.four 0 (Nat.zero_add _).le (X0_0 m c t) _ (iblk m c 1 t) (iblk m c 2 t) (iblk m c 3 t) (Adam.grad (X0_0 m c t) _ _ _ _ _ _ _ _ _ _)

theorem place : ∀ t : Fin cfg0.N, (win0_0.index t (0 : Fin 3) = 0 ∧ win0_0.index t (1 : Fin 3) = 2 + t.val ∧ win0_0.index t (2 : Fin 3) = 0)
    ∧ win0_4.index t (0 : Fin 2) = t.val ∧ win0_4.index t (1 : Fin 2) = 0 :=
  (by decide +kernel : ∀ t : Fin grid0.N, _)

abbrev arg0 (c : Dev nD) : FVec Ideal (T3 8 736 1024) .bf16 := m ((c : Thread nD τ).loc main_arg0)
abbrev arg1 (c : Dev nD) : FVec Ideal (T2 128 1024) .f32 := m ((c : Thread nD τ).loc main_arg1)
abbrev arg2 (c : Dev nD) : FVec Ideal (T2 128 1024) .f32 := m ((c : Thread nD τ).loc main_arg2)
abbrev arg3 (c : Dev nD) : FVec Ideal (T2 128 1024) .f32 := m ((c : Thread nD τ).loc main_arg3)

/-- The place in the whole array of a place of the tile. -/
abbrev emb (t : Fin cfg0.N) (y : (T2 128 1024).Idx) : (T2 128 1024).Idx := ((cfg0.win 4).blk t).view.emb y

theorem emb0 (t : Fin cfg0.N) (y : (T2 128 1024).Idx) : (emb t y 0).val = t.val * 128 + (y 0).val := by
  show win0_4.index t 0 * 128 + 1 * (y 0).val = _; rw [(place t).2.1]; omega
theorem emb1 (t : Fin cfg0.N) (y : (T2 128 1024).Idx) : (emb t y 1).val = (y 1).val := by
  show win0_4.index t 1 * 1024 + 1 * (y 1).val = _; rw [(place t).2.2]; omega

theorem blk0 (c : Dev nD) (t : Fin cfg0.N) : Adam.At (X0_0 m c t) 256 (arg0 m c) (emb t) := fun k a b y r ha hb hr => by
  obtain ⟨⟨e0, e1, e2⟩, -⟩ := place t
  have hr : r.val = 256 + (t.val * 128 + a.val) := hr.trans (congrArg (256 + ·) ((emb0 t y).trans (congrArg (t.val * 128 + ·) ha.symm)))
  have hl : (emb t y 1).val = b.val := (emb1 t y).trans (congrArg Fin.val hb.symm)
  unfold X0_0 Pipeline.Window.fill iblk
  rw [dif_pos (moved0_0 t _), View.read_apply]
  refine congrArg (arg0 m c) (funext fun d => Fin.ext ?_)
  match d with
  | ⟨0, _⟩ => show win0_0.index t 0 * 8 + 1 * k.val = k.val; rw [e0]; omega
  | ⟨1, _⟩ => show win0_0.index t 1 * 128 + 1 * a.val = r.val; rw [e1]; omega
  | ⟨2, _⟩ => show win0_0.index t 2 * 1024 + 1 * b.val = (emb t y 1).val; rw [e2]; omega

/-! ## The whole arrays -/

theorem covered (i : (T2 128 1024).Idx) : ∃ t : Fin cfg0.N, (cfg0.win 4).flush t = true ∧ i ∈ ((cfg0.win 4).blk t).view.set :=
  have ⟨t, y, h⟩ := Adam.cover (show cfg0.N * 128 = 128 by rw [show cfg0.N = 1 from N_0]) emb emb0 emb1 i
  ⟨t, flush0_4 t, Finset.mem_map.mpr ⟨y, Finset.mem_univ _, h⟩⟩

theorem final4 (c : Dev nD) : (dats m 0 c).arrAt 4 cfg0.N = Adam.G 256 rows (arg0 m c) :=
  (dats m 0 c).arrAt_eq_of_cover 4 _ (fun t _ => by rw [Value.flushed4, (outs m c t).1]; exact (Adam.tiles (arg1 m c) (arg2 m c) (arg3 m c) rows (blk0 m c t)).1) covered
theorem final5 (c : Dev nD) : (dats m 0 c).arrAt 5 cfg0.N = Adam.W 256 rows (arg0 m c) (arg1 m c) (arg2 m c) (arg3 m c) :=
  (dats m 0 c).arrAt_eq_of_cover 5 _ (fun t _ => by rw [Value.flushed5, (outs m c t).2.1]; exact (Adam.tiles (arg1 m c) (arg2 m c) (arg3 m c) rows (blk0 m c t)).2.1) covered
theorem final6 (c : Dev nD) : (dats m 0 c).arrAt 6 cfg0.N = Adam.M 256 rows (arg0 m c) (arg2 m c) :=
  (dats m 0 c).arrAt_eq_of_cover 6 _ (fun t _ => by rw [Value.flushed6, (outs m c t).2.2.1]; exact (Adam.tiles (arg1 m c) (arg2 m c) (arg3 m c) rows (blk0 m c t)).2.2.1) covered
theorem final7 (c : Dev nD) : (dats m 0 c).arrAt 7 cfg0.N = Adam.V 256 rows (arg0 m c) (arg3 m c) :=
  (dats m 0 c).arrAt_eq_of_cover 7 _ (fun t _ => by rw [Value.flushed7, (outs m c t).2.2.2]; exact (Adam.tiles (arg1 m c) (arg2 m c) (arg3 m c) rows (blk0 m c t)).2.2.2) covered

/-! ## The reference's gradient -/

theorem ref_grad (p : FVec Ideal (T3 8 736 1024) .bf16) : Cert.AdamOutRefIdeal.Read.val_main_v2 (F := Ideal) p = Adam.G 256 rows p := by
  funext i
  rw [Cert.AdamOutRefIdeal.Read.val_main_v2_apply]
  refine (congrArg (· + _) Ideal.ofBits_zero_f32).trans ((zero_add _).trans (Finset.sum_congr rfl fun k _ => ?_))
  rw [Cert.AdamOutRefIdeal.Read.val_main_v1_apply, Cert.AdamOutRefIdeal.Read.val_main_v0_apply]
  refine congrArg p (funext fun d => Fin.ext ?_)
  match d with
  | ⟨0, _⟩ => rfl
  | ⟨1, _⟩ => rfl
  | ⟨2, _⟩ => rfl

end Cert.AdamOutIdeal.Step

/-! ## The claims -/

namespace Cert.Proof.AdamOut

open Idealize.ShloMosaic Idealize.ShloMosaic.TcCoe Idealize.SL.Sem AdamOutIdeal.Step

theorem frame_k : quiescent_AdamOut := fun m g _ => AdamOut.Gen.frame m g
theorem frame_ki : quiescent_AdamOutIdeal := fun m g _ => AdamOutIdeal.Gen.frame m g
theorem frame_ri : quiescent_AdamOutRefIdeal := fun m g _ =>
  (θ_run AdamOutRefIdeal.defs _ _).mono (fun r h => ⟨fun c => (h c).2.2.2.2, sem_eq_zero_of_no_sems (by decide) r.2⟩)
    (AdamOutRefIdeal.Value.run m g)

theorem equal : algebraic_AdamOutIdeal_AdamOutRefIdeal := fun m g m' g' _ hargs =>
  ⟨_, _, _, _, (θ_run AdamOutIdeal.defs _ _).mono (fun r h c => ⟨(h c).1.trans (final4 m c), (h c).2.1.trans (final5 m c),
      (h c).2.2.1.trans (final6 m c), (h c).2.2.2.1.trans (final7 m c), (h c).2.2.2.2⟩) (AdamOutIdeal.Value.run_blocks m g),
   (θ_run AdamOutRefIdeal.defs _ _).mono (fun r h c => by
      obtain ⟨a0, a1, a2, a3⟩ := hargs c
      obtain ⟨r0, r1, r2, r3, kept⟩ := h c
      rw [a0] at r0 r1 r2 r3
      rw [a1] at r1
      rw [a2] at r1 r2
      rw [a3] at r1 r3
      have ⟨e1, e2, e3⟩ := Adam.refs AdamOutRefIdeal.Gen.bcast_S_S128x1024 _ (arg1 m c) (arg2 m c) (arg3 m c) 256 rows (arg0 m c) (ref_grad (arg0 m c))
      exact ⟨r0.trans (ref_grad (arg0 m c)), r1.trans e1, r2.trans e2, r3.trans e3, kept⟩)
     (AdamOutRefIdeal.Value.run m' g')⟩

end Cert.Proof.AdamOut

end
-- ==== Proof.Mm.SumSmall.lean ====
/-
  The sum of the eight devices' pieces of the small parameters' gradients and of the loss. The kernel adds one piece after
  the other, the reference sums over the devices.
-/
module

public import proofs.«01_k».proof.Defs
public import proofs.«01_k».proof.Proof.Mm.Adam
public import proofs.«01_k».proof.Proof.Gen.SumSmall.Frame
public import proofs.«01_k».proof.Proof.Gen.SumSmallIdeal.Value
public import proofs.«01_k».proof.Proof.Gen.SumSmallRefIdeal.Read
public import Idealize.ShloMosaic.Lib.Quiescent

@[expose] public section

noncomputable section

namespace Cert.Proof.SumSmall

open Cert.Mm Idealize.ShloMosaic Idealize.ShloMosaic.TcCoe Idealize.ShloMosaic.ValueIdx Idealize.SL.Sem
open scoped BigOperators

/-- The sum of the pieces. -/
def sum (p : FVec Ideal (T3 8 72 1024) .f32) : FVec Ideal (T2 72 1024) .f32 := fun i => ∑ k : Fin 8, (p (ix3 k (i 0) (i 1)) : EReal)

/-- The kernel's order of the sum is the one of the optimiser's calls, without a change of format. -/
theorem ki_eq (p : FVec Ideal (T3 8 72 1024) .f32) : SumSmallIdeal.Value.G1 (F := Ideal) p = sum p := by
  refine Eq.trans ?_ ((Adam.grad (T := 72) (C := 1024) p SumSmallIdeal.Gen.inb_S8x72x1024_S1x72x1024_0_0_0 SumSmallIdeal.Gen.inb_S8x72x1024_S1x72x1024_1_0_0 SumSmallIdeal.Gen.inb_S8x72x1024_S1x72x1024_2_0_0
    SumSmallIdeal.Gen.inb_S8x72x1024_S1x72x1024_3_0_0 SumSmallIdeal.Gen.inb_S8x72x1024_S1x72x1024_4_0_0 SumSmallIdeal.Gen.inb_S8x72x1024_S1x72x1024_5_0_0 SumSmallIdeal.Gen.inb_S8x72x1024_S1x72x1024_6_0_0
    SumSmallIdeal.Gen.inb_S8x72x1024_S1x72x1024_7_0_0 SumSmallIdeal.Gen.shapeCasts_S1x72x1024_S72x1024 (by decide)).trans ?_)
  · rfl
  · funext i
    exact Finset.sum_congr rfl fun k _ => congrArg p (funext fun d => Fin.ext (match d with | ⟨0, _⟩ => rfl | ⟨1, _⟩ => Nat.zero_add _ | ⟨2, _⟩ => rfl))

theorem ri_eq (p : FVec Ideal (T3 8 72 1024) .f32) : SumSmallRefIdeal.Read.val_main_v0 (F := Ideal) p = sum p := by
  funext i
  rw [SumSmallRefIdeal.Read.val_main_v0_apply]
  refine (congrArg (· + _) Ideal.ofBits_zero_f32).trans ((zero_add _).trans (Finset.sum_congr rfl fun k _ => congrArg p (funext fun d => Fin.ext ?_)))
  match d with
  | ⟨0, _⟩ => rfl
  | ⟨1, _⟩ => rfl
  | ⟨2, _⟩ => rfl

theorem frame_k : quiescent_SumSmall := fun m g _ => SumSmall.Gen.frame m g
theorem frame_ki : quiescent_SumSmallIdeal := fun m g _ => SumSmallIdeal.Gen.frame m g
theorem frame_ri : quiescent_SumSmallRefIdeal := fun m g _ =>
  (θ_run SumSmallRefIdeal.defs _ _).mono (fun r h => ⟨fun c => (h c).2, sem_eq_zero_of_no_sems (by decide) r.2⟩)
    (SumSmallRefIdeal.Value.run m g)

theorem equal : algebraic_SumSmallIdeal_SumSmallRefIdeal := fun m g m' g' _ hargs =>
  ⟨_, (θ_run SumSmallIdeal.defs _ _).mono (fun r h c => ⟨(h c).1.trans (ki_eq _), (h c).2⟩) (SumSmallIdeal.Value.run m g),
   (θ_run SumSmallRefIdeal.defs _ _).mono (fun r h c => ⟨((h c).1.trans (ri_eq _)).trans (congrArg sum (hargs c)), (h c).2⟩)
     (SumSmallRefIdeal.Value.run m' g')⟩

end Cert.Proof.SumSmall

end
-- ==== Proof.Mm.SmallRun.lean ====
/-
  The run of the optimiser's call for the eight small parameters: one point, whose body takes the step of one parameter
  after the other. The step is stated once, for any shape; the body is eight of them.
-/
module

public import proofs.«01_k».proof.Defs
public import proofs.«01_k».proof.Proof.Gen.AdamSmall.Launch
public import proofs.«01_k».proof.Proof.Gen.AdamSmall.Skeleton
public import proofs.«01_k».proof.Proof.Gen.AdamSmall.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Quiescent
public import Idealize.ShloMosaic.Lib.Pipeline.Value
public import Idealize.ShloMosaic.Lib.Pipeline.ValueKit.Geometry

@[expose] public section

noncomputable section

namespace Cert.AdamSmall.Small

open Cert.AdamSmall Cert.AdamSmall.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The step of one parameter -/

section
variable {S : Shape}

/-- A constant at every index. -/
abbrev all (b : BitVec 32) : FVec F S .f32 := broadcast S (Scalar.ofBits .f32 b)

/-- The new moments and the step, of the weight, its gradient and the moments `u` and `v`. -/
def newM (g u : FVec F S .f32) : FVec F S .f32 := addf (mulf (all 0x3F666666#32) u) (mulf (all 0x3DCCCCCD#32) g)
def newV (g v : FVec F S .f32) : FVec F S .f32 := addf (mulf (all 0x3F7FBE77#32) v) (mulf (all 0x3A83126F#32) (mulf g g))
def delta (w g u v : FVec F S .f32) : FVec F S .f32 :=
  mulf (all 0xBA83126F#32) (addf (divf (divf (newM g u) (all 0x3F26BD02#32)) (addf (sqrt (divf (newV g v) (all 0x3C231ACC#32))) (all 0x322BCC77#32)))
    (mulf (all 0x3C23D70A#32) w))

variable (o : Fin S.rank → ℕ) (inb : ∀ a, o a + S.size a ≤ S.size a) (h : 0 < S.numel) (a0 a1 a2 a3 a4 a5 a6 : Memref sig .tc .vmem S .f32)

/-- The step as the body makes it: weight, gradient and moments are loaded, the step and the new moments stored. -/
def step : Prog (TpuEff nD τ sig (Elt F) Λ₀ .tc) PUnit := do
  let w : Vec F S .f32 ← Prog.lift (.load a0 (Rect.unit o S.size inb).toLoadRect (View.loadsAt_vmem h))
  let g : Vec F S .f32 ← Prog.lift (.load a1 (Rect.unit o S.size inb).toLoadRect (View.loadsAt_vmem h))
  let u : Vec F S .f32 ← Prog.lift (.load a2 (Rect.unit o S.size inb).toLoadRect (View.loadsAt_vmem h))
  let v : Vec F S .f32 ← Prog.lift (.load a3 (Rect.unit o S.size inb).toLoadRect (View.loadsAt_vmem h))
  let _ : Vec F S .f32 ← Prog.lift (.load a4 (Rect.unit o S.size inb).toLoadRect (View.loadsAt_vmem h))
  Prog.lift (.store a4 (Rect.unit o S.size inb) (delta w g u v) Finset.univ (View.stores_vmem_bits_univ h rfl) (.inl rfl))
  let _ : Vec F S .f32 ← Prog.lift (.load a5 (Rect.unit o S.size inb).toLoadRect (View.loadsAt_vmem h))
  Prog.lift (.store a5 (Rect.unit o S.size inb) (newM g u) Finset.univ (View.stores_vmem_bits_univ h rfl) (.inl rfl))
  let _ : Vec F S .f32 ← Prog.lift (.load a6 (Rect.unit o S.size inb).toLoadRect (View.loadsAt_vmem h))
  Prog.lift (.store a6 (Rect.unit o S.size inb) (newV g v) Finset.univ (View.stores_vmem_bits_univ h rfl) (.inl rfl))

/-- A store of the whole buffer leaves what it stores. -/
theorem stored {o : Fin S.rank → ℕ} (ho : o = fun _ => 0) (inb : ∀ a, o a + S.size a ≤ S.size a) (a : Memref sig .tc .vmem S .f32) (f : a.view.ty.Contents (Elt F))
    (x : Vec F S .f32) {y : Vec F S .f32} (hxy : x = y) : a.view.read (Elt F) (a.view.writes (Elt F) f [⟨Rect.unit o S.size inb, x⟩]) = y :=
  (View.read_writes_eq_canon _ _ _ fun j => ⟨_, List.mem_singleton_self _, View.mem_set_unit_zero ho inb j⟩).trans ((View.canon_unit_zero ho inb x).trans hxy)

/-- What it leaves: the inputs as they were, the step and the new moments. -/
theorem step_spec (ho : o = fun _ => 0) (c : Dev nD) (E : Set ℕ) (w g u v : Vec F S .f32) (K : PUnit → sProp 𝕄) :
    iprop(owns (c : Thread nD τ) a0 fullShare w ∗ owns (c : Thread nD τ) a1 fullShare g ∗ owns (c : Thread nD τ) a2 fullShare u ∗ owns (c : Thread nD τ) a3 fullShare v
        ∗ (∃ d, owns (c : Thread nD τ) a4 fullShare d) ∗ (∃ d, owns (c : Thread nD τ) a5 fullShare d) ∗ (∃ d, owns (c : Thread nD τ) a6 fullShare d)
        ∗ (iprop(owns (c : Thread nD τ) a0 fullShare w ∗ owns (c : Thread nD τ) a1 fullShare g ∗ owns (c : Thread nD τ) a2 fullShare u ∗ owns (c : Thread nD τ) a3 fullShare v
          ∗ owns (c : Thread nD τ) a4 fullShare (delta w g u v) ∗ owns (c : Thread nD τ) a5 fullShare (newM g u) ∗ owns (c : Thread nD τ) a6 fullShare (newV g v)) -∗ K ⟨⟩))
      ⊢ wp frame (wpE (defs₀ (F := F)) Variants.none c none) E (step o inb h a0 a1 a2 a3 a4 a5 a6) K := by
  unfold step owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact stored ho inb _ _ _ (congr (congr (congr (congrArg delta (View.ld_unit_zero ho inb _)) (View.ld_unit_zero ho inb _)) (View.ld_unit_zero ho inb _)) (View.ld_unit_zero ho inb _))
  isplitl [H5]
  · iexists _; isplitr
    swap; · iexact H5
    ipureintro
    exact stored ho inb _ _ _ (congr (congrArg newM (View.ld_unit_zero ho inb _)) (View.ld_unit_zero ho inb _))
  iexists _; isplitr
  swap; · iexact H6
  ipureintro
  exact stored ho inb _ _ _ (congr (congrArg newV (View.ld_unit_zero ho inb _)) (View.ld_unit_zero ho inb _))

variable {o h a0 a1 a2 a3 a4 a5 a6} in
/-- The step before the rest of a body. -/
theorem step_next (ho : o = fun _ => 0) (c : Dev nD) {w g u v : Vec F S .f32} {P0 P1 P2 P3 P4 P5 P6 Q0 Q1 Q2 Q3 Q4 Q5 Q6 R R' : sProp 𝕄}
    {p : Prog (TpuEff nD τ sig (Elt F) Λ₀ .tc) PUnit}
    (h0 : P0 ⊢ owns (c : Thread nD τ) a0 fullShare w) (h1 : P1 ⊢ owns (c : Thread nD τ) a1 fullShare g) (h2 : P2 ⊢ owns (c : Thread nD τ) a2 fullShare u)
    (h3 : P3 ⊢ owns (c : Thread nD τ) a3 fullShare v) (h4 : P4 ⊢ iprop(∃ d, owns (c : Thread nD τ) a4 fullShare d)) (h5 : P5 ⊢ iprop(∃ d, owns (c : Thread nD τ) a5 fullShare d))
    (h6 : P6 ⊢ iprop(∃ d, owns (c : Thread nD τ) a6 fullShare d))
    (k0 : owns (c : Thread nD τ) a0 fullShare w ⊢ Q0) (k1 : owns (c : Thread nD τ) a1 fullShare g ⊢ Q1) (k2 : owns (c : Thread nD τ) a2 fullShare u ⊢ Q2)
    (k3 : owns (c : Thread nD τ) a3 fullShare v ⊢ Q3) (k4 : owns (c : Thread nD τ) a4 fullShare (delta w g u v) ⊢ Q4) (k5 : owns (c : Thread nD τ) a5 fullShare (newM g u) ⊢ Q5)
    (k6 : owns (c : Thread nD τ) a6 fullShare (newV g v) ⊢ Q6)
    (hR : R ⊢ wp frame (wpE (defs₀ (F := F)) Variants.none c none) Set.univ p fun _ => R') :
    iprop(P0 ∗ P1 ∗ P2 ∗ P3 ∗ P4 ∗ P5 ∗ P6 ∗ R)
      ⊢ wp frame (wpE (defs₀ (F := F)) Variants.none c none) Set.univ (step o inb h a0 a1 a2 a3 a4 a5 a6 >>= fun _ => p)
          fun _ => iprop(Q0 ∗ Q1 ∗ Q2 ∗ Q3 ∗ Q4 ∗ Q5 ∗ Q6 ∗ R') := by
  rw [wp_bind]
  iintro ⟨H0, H1, H2, H3, H4, H5, H6, HR⟩
  iapply (step_spec o inb h a0 a1 a2 a3 a4 a5 a6 ho c Set.univ w g u v _)
  isplitl [H0]; · iapply h0; iexact H0
  isplitl [H1]; · iapply h1; iexact H1
  isplitl [H2]; · iapply h2; iexact H2
  isplitl [H3]; · iapply h3; iexact H3
  isplitl [H4]; · iapply h4; iexact H4
  isplitl [H5]; · iapply h5; iexact H5
  isplitl [H6]; · iapply h6; iexact H6
  iintro ⟨H0, H1, H2, H3, H4, H5, H6⟩
  iapply (wp_wand_r (Fr := frame) (wpE := wpE (defs₀ (F := F)) Variants.none c none) (E := Set.univ) (p := p) (Q := fun _ => R'))
  isplitl [HR]; · iapply hR; iexact HR
  iintro %a HR
  isplitl [H0]; · iapply k0; iexact H0
  isplitl [H1]; · iapply k1; iexact H1
  isplitl [H2]; · iapply k2; iexact H2
  isplitl [H3]; · iapply k3; iexact H3
  isplitl [H4]; · iapply k4; iexact H4
  isplitl [H5]; · iapply k5; iexact H5
  isplitl [H6]; · iapply k6; iexact H6
  iexact HR
end

/-! ## The body and the proof data -/

/-- The body, as eight steps. -/
def small (t : Fin cfg0.N) : Prog (TpuEff nD τ sig (Elt F) Λ₀ .tc) PUnit := do
  step _ inb_S16x128_S16x128_0_0 h_S16x128 (st0_0 t) (st0_8 t) (st0_16 t) (st0_24 t) (st0_32 t) (st0_40 t) (st0_48 t)
  step _ inb_S1x1024_S1x1024_0_0 h_S1x1024 (st0_1 t) (st0_9 t) (st0_17 t) (st0_25 t) (st0_33 t) (st0_41 t) (st0_49 t)
  step _ inb_S1x3x128_S1x3x128_0_0_0 h_S1x3x128 (st0_2 t) (st0_10 t) (st0_18 t) (st0_26 t) (st0_34 t) (st0_42 t) (st0_50 t)
  step _ inb_S1x2x128_S1x2x128_0_0_0 h_S1x2x128 (st0_3 t) (st0_11 t) (st0_19 t) (st0_27 t) (st0_35 t) (st0_43 t) (st0_51 t)
  step _ inb_S1x1024_S1x1024_0_0 h_S1x1024 (st0_4 t) (st0_12 t) (st0_20 t) (st0_28 t) (st0_36 t) (st0_44 t) (st0_52 t)
  step _ inb_S1x1024_S1x1024_0_0 h_S1x1024 (st0_5 t) (st0_13 t) (st0_21 t) (st0_29 t) (st0_37 t) (st0_45 t) (st0_53 t)
  step _ inb_S1x3x352_S1x3x352_0_0_0 h_S1x3x352 (st0_6 t) (st0_14 t) (st0_22 t) (st0_30 t) (st0_38 t) (st0_46 t) (st0_54 t)
  step _ inb_S1x1024_S1x1024_0_0 h_S1x1024 (st0_7 t) (st0_15 t) (st0_23 t) (st0_31 t) (st0_39 t) (st0_47 t) (st0_55 t)
  pure ⟨⟩

set_option maxRecDepth 65536 in
/-- The printed body is these steps. -/
theorem body_eq (t : Fin cfg0.N) : bodyAt0 (F := F) t = small t := rfl

variable (m : (ℓ : Loc nD τ sig) → Buf (Elt F) ℓ) (ρ : Dev nD → PrngReg)

/-- The buffers at the call: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the inputs' buffers at their blocks, the outputs' at the steps and the new moments. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => delta (iblk m c 0 t) (iblk m c 8 t) (iblk m c 16 t) (iblk m c 24 t)
    | ⟨33, _⟩ => delta (iblk m c 1 t) (iblk m c 9 t) (iblk m c 17 t) (iblk m c 25 t)
    | ⟨34, _⟩ => delta (iblk m c 2 t) (iblk m c 10 t) (iblk m c 18 t) (iblk m c 26 t)
    | ⟨35, _⟩ => delta (iblk m c 3 t) (iblk m c 11 t) (iblk m c 19 t) (iblk m c 27 t)
    | ⟨36, _⟩ => delta (iblk m c 4 t) (iblk m c 12 t) (iblk m c 20 t) (iblk m c 28 t)
    | ⟨37, _⟩ => delta (iblk m c 5 t) (iblk m c 13 t) (iblk m c 21 t) (iblk m c 29 t)
    | ⟨38, _⟩ => delta (iblk m c 6 t) (iblk m c 14 t) (iblk m c 22 t) (iblk m c 30 t)
    | ⟨39, _⟩ => delta (iblk m c 7 t) (iblk m c 15 t) (iblk m c 23 t) (iblk m c 31 t)
    | ⟨40, _⟩ => newM (iblk m c 8 t) (iblk m c 16 t)
    | ⟨41, _⟩ => newM (iblk m c 9 t) (iblk m c 17 t)
    | ⟨42, _⟩ => newM (iblk m c 10 t) (iblk m c 18 t)
    | ⟨43, _⟩ => newM (iblk m c 11 t) (iblk m c 19 t)
    | ⟨44, _⟩ => newM (iblk m c 12 t) (iblk m c 20 t)
    | ⟨45, _⟩ => newM (iblk m c 13 t) (iblk m c 21 t)
    | ⟨46, _⟩ => newM (iblk m c 14 t) (iblk m c 22 t)
    | ⟨47, _⟩ => newM (iblk m c 15 t) (iblk m c 23 t)
    | ⟨48, _⟩ => newV (iblk m c 8 t) (iblk m c 24 t)
    | ⟨49, _⟩ => newV (iblk m c 9 t) (iblk m c 25 t)
    | ⟨50, _⟩ => newV (iblk m c 10 t) (iblk m c 26 t)
    | ⟨51, _⟩ => newV (iblk m c 11 t) (iblk m c 27 t)
    | ⟨52, _⟩ => newV (iblk m c 12 t) (iblk m c 28 t)
    | ⟨53, _⟩ => newV (iblk m c 13 t) (iblk m c 29 t)
    | ⟨54, _⟩ => newV (iblk m c 14 t) (iblk m c 30 t)
    | ⟨55, _⟩ => newV (iblk m c 15 t) (iblk m c 31 t)
    | ⟨_ + 56, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- Every input is fetched at the one point, -/
theorem fetch (w : Fin cfg0.W) (hw : w.val < 32) (t : Fin cfg0.N) : (cfg0.win w).fetch t = true := by
  have h : ∀ w : Fin cfg0.W, w.val < 32 → ∀ t, (cfg0.win w).fetch t = true := by decide +kernel
  exact h w hw t

/-- What the body is called with, window by window, -/
abbrev found (c : Dev nD) (t : Fin cfg0.N) (w : Fin cfg0.W) : sProp 𝕄 :=
  iprop(∃ d, owns (c : Thread nD τ) ((cfg0.win w).stage (cfg0.slots t w)) fullShare ((dats m 0 c).before w t d))

/-- which for an input is its block. -/
theorem read (c : Dev nD) (t : Fin cfg0.N) (w : Fin cfg0.W) (hw : w.val < 32) {x : (cfg0.win w).block.Idx → Elt F (cfg0.win w).elt}
    (hx : ∀ d, (dats m 0 c).fetched w t d = x) :
    found m c t w ⊢ owns (c : Thread nD τ) ((cfg0.win w).stage (cfg0.slots t w)) fullShare x := by
  have h : ∀ d, (dats m 0 c).before w t d = x := fun d => ((dats m 0 c).before_fetched w t (fetch w hw t) d).trans (hx d)
  unfold found
  simp only [h]
  iintro ⟨%d, H⟩
  iexact H

/-- Of a result's buffer nothing is said. -/
theorem any (c : Dev nD) (t : Fin cfg0.N) (w : Fin cfg0.W) :
    found m c t w ⊢ iprop(∃ d, owns (c : Thread nD τ) ((cfg0.win w).stage (cfg0.slots t w)) fullShare d) := by
  iintro ⟨%d, H⟩
  iexists _; iexact H

theorem zero2 : (![0, 0] : Fin 2 → ℕ) = fun _ => 0 := by decide
theorem zero3 : (![0, 0, 0] : Fin 3 → ℕ) = fun _ => 0 := by decide

/-- The windows in the order of the steps. -/
abbrev order : List (Fin 56) := [0, 8, 16, 24, 32, 40, 48, 1, 9, 17, 25, 33, 41, 49, 2, 10, 18, 26, 34, 42, 50, 3, 11, 19, 27, 35, 43, 51, 4, 12, 20, 28, 36, 44, 52, 5, 13, 21, 29, 37, 45, 53, 6, 14, 22, 30, 38, 46, 54, 7, 15, 23, 31, 39, 47, 55]

/-- A conjunction over them. -/
abbrev each (Φ : Fin 56 → sProp 𝕄) : sProp 𝕄 := order.foldr (fun w P => iprop(Φ w ∗ P)) iprop(emp)

theorem each_eq (Φ : Fin 56 → sProp 𝕄) : bigSep Finset.univ Φ = each Φ := by
  have h : ∀ l : List (Fin 56), bigSepL l Φ = l.foldr (fun w P => iprop(Φ w ∗ P)) iprop(emp) := fun l => by
    induction l with
    | nil => rfl
    | cons i l ih => rw [bigSepL_cons, ih]; rfl
  exact (bigSep_univ_eq_bigSepL order (by decide +kernel) (by decide +kernel) Φ).trans (h order)

/-- What it returns. -/
abbrev left (c : Dev nD) (t : Fin cfg0.N) (w : Fin cfg0.W) : sProp 𝕄 :=
  owns (c : Thread nD τ) ((cfg0.win w).stage (cfg0.slots t w)) fullShare ((dats m 0 c).after w t)

set_option maxHeartbeats 4000000 in
/-- The eight steps, each on its seven windows. -/
theorem small_spec (c : Dev nD) (t : Fin cfg0.N) :
    each (found m c t) ⊢ wp frame (wpE (defs₀ (F := F)) Variants.none c none) Set.univ (small t) fun _ => each (left m c t) := by
  unfold small
  refine step_next _ zero2 c (read m c t 0 (by decide) fun _ => rfl) (read m c t 8 (by decide) fun _ => rfl) (read m c t 16 (by decide) fun _ => rfl) (read m c t 24 (by decide) fun _ => rfl) (any m c t 32) (any m c t 40) (any m c t 48) .rfl .rfl .rfl .rfl .rfl .rfl .rfl ?_
  refine step_next _ zero2 c (read m c t 1 (by decide) fun _ => rfl) (read m c t 9 (by decide) fun _ => rfl) (read m c t 17 (by decide) fun _ => rfl) (read m c t 25 (by decide) fun _ => rfl) (any m c t 33) (any m c t 41) (any m c t 49) .rfl .rfl .rfl .rfl .rfl .rfl .rfl ?_
  refine step_next _ zero3 c (read m c t 2 (by decide) fun _ => rfl) (read m c t 10 (by decide) fun _ => rfl) (read m c t 18 (by decide) fun _ => rfl) (read m c t 26 (by decide) fun _ => rfl) (any m c t 34) (any m c t 42) (any m c t 50) .rfl .rfl .rfl .rfl .rfl .rfl .rfl ?_
  refine step_next _ zero3 c (read m c t 3 (by decide) fun _ => rfl) (read m c t 11 (by decide) fun _ => rfl) (read m c t 19 (by decide) fun _ => rfl) (read m c t 27 (by decide) fun _ => rfl) (any m c t 35) (any m c t 43) (any m c t 51) .rfl .rfl .rfl .rfl .rfl .rfl .rfl ?_
  refine step_next _ zero2 c (read m c t 4 (by decide) fun _ => rfl) (read m c t 12 (by decide) fun _ => rfl) (read m c t 20 (by decide) fun _ => rfl) (read m c t 28 (by decide) fun _ => rfl) (any m c t 36) (any m c t 44) (any m c t 52) .rfl .rfl .rfl .rfl .rfl .rfl .rfl ?_
  refine step_next _ zero2 c (read m c t 5 (by decide) fun _ => rfl) (read m c t 13 (by decide) fun _ => rfl) (read m c t 21 (by decide) fun _ => rfl) (read m c t 29 (by decide) fun _ => rfl) (any m c t 37) (any m c t 45) (any m c t 53) .rfl .rfl .rfl .rfl .rfl .rfl .rfl ?_
  refine step_next _ zero3 c (read m c t 6 (by decide) fun _ => rfl) (read m c t 14 (by decide) fun _ => rfl) (read m c t 22 (by decide) fun _ => rfl) (read m c t 30 (by decide) fun _ => rfl) (any m c t 38) (any m c t 46) (any m c t 54) .rfl .rfl .rfl .rfl .rfl .rfl .rfl ?_
  refine step_next _ zero2 c (read m c t 7 (by decide) fun _ => rfl) (read m c t 15 (by decide) fun _ => rfl) (read m c t 23 (by decide) fun _ => rfl) (read m c t 31 (by decide) fun _ => rfl) (any m c t 39) (any m c t 47) (any m c t 55) .rfl .rfl .rfl .rfl .rfl .rfl .rfl ?_
  exact fupd_intro

/-- The body's obligation. -/
theorem body_obligation (c : Dev nD) : BodyObligation (dats (F := F) m 0 c) (defs₀ (F := F)) Variants.none () Set.univ := fun t => by
  have hrow : defs₀ (F := F) .tc cfg0.body (cfg0.bodyArgs t (cfg0.slots t)) = small t := by unfold defs₀; rw [Defs.onTc_tc]; exact body_eq t
  rw [hrow, each_eq, each_eq, show (dats m 0 c).Φ t.succ = (dats m 0 c).Φ t.castSucc from rfl,
    show (dats m 0 c).owesAt () t.succ = (dats m 0 c).owesAt () t.castSucc from rfl]
  iintro ⟨HΦ, Ho, H⟩
  iapply (wp_wand_r (Fr := frame) (wpE := wpE (defs₀ (F := F)) Variants.none c none) (E := Set.univ) (p := small t) (Q := fun _ => each (left m c t)))
  isplitl [H]; · iapply (small_spec m c t); iexact H
  iintro %a H
  isplitl [HΦ]; · iexact HΦ
  isplitl [Ho]; · iexact Ho
  iexact H

/-! ## The run -/

set_option backward.isDefEq.respectTransparency.types false in
set_option maxHeartbeats 800000 in
/-- The call runs to its arrays at what the proof data say, and every counter is zero again. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.AdamSmall.Small

end
-- ==== Proof.Mm.AdamSmall.lean ====
/-
  The values of the optimiser's call for the eight small parameters, and its claims.
-/
module

public import proofs.«01_k».proof.Proof.Mm.SmallRun
public import proofs.«01_k».proof.Proof.Gen.AdamSmallIdeal
public import proofs.«01_k».proof.Proof.Gen.AdamSmallRefIdeal.Run

@[expose] public section

noncomputable section

namespace Cert.AdamSmall.Small

open Cert.AdamSmall Cert.AdamSmall.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The arrays -/

/-- The one block of a window is its whole array. -/
theorem at_zero (w : Fin cfg0.W) : ∀ a, (cfg0.win w).index t0_0 a = 0 := by
  have h : ∀ w : Fin cfg0.W, ∀ a, (cfg0.win w).index t0_0 a = 0 := by decide +kernel
  exact h w

theorem whole (w : Fin cfg0.W) (hw : 32 ≤ w.val) : (cfg0.win w).WholeAt t0_0 := by
  have h : ∀ w : Fin cfg0.W, 32 ≤ w.val → (cfg0.win w).WholeAt t0_0 := by decide +kernel
  exact h w hw

theorem size_le (w : Fin cfg0.W) : ∀ a, (cfg0.win w).xsize (cfg0.grid.coords t0_0) a ≤ (cfg0.win w).shape.size a := by
  have h : ∀ w : Fin cfg0.W, ∀ a, (cfg0.win w).xsize (cfg0.grid.coords t0_0) a ≤ (cfg0.win w).shape.size a := by decide +kernel
  exact h w

/-- An input's block is its array, -/
theorem blk_eq (w : Fin cfg0.W) {X : ((cfg0.win w).xblock (cfg0.grid.coords t0_0)).Idx → Elt F (cfg0.win w).elt}
    (hX : ∀ y, (cfg0.win w).arr.view.read (Elt F) (V m c (Pipeline.arrRef spec0 w))
      (fun a => ⟨(y a).val, lt_of_lt_of_le (y a).isLt (size_le w a)⟩) = X y) : iblk m c w t0_0 = X := by
  funext y
  rw [← hX]
  show (cfg0.win w).arr.view.read (Elt F) (V m c (Pipeline.arrRef spec0 w)) (((cfg0.win w).rect t0_0).emb y) = _
  congr 1; funext a; apply Fin.ext
  rw [Pipeline.Window.rect_emb_val_of_index_zero _ _ _ (at_zero w a)]

/-- and a result's array is what the body leaves. -/
theorem final (w : Fin cfg0.W) (hw : 32 ≤ w.val) {G : Buf (Elt F) ((cfg0.win w).arr.view.loc (c.tc : Thread nD τ))}
    (hG : ∀ j : (cfg0.win w).shape.Idx, _root_.cast (congrArg (Elt F) (cfg0.win w).arr.view.elt_eq.symm)
      ((dats m 0 c).after w t0_0 fun a => ⟨j a, (whole w hw).lt_size j a⟩) = G ((cfg0.win w).arr.view.emb j)) :
    (dats m 0 c).arrAt w cfg0.N = G :=
  (dats m 0 c).arrAt_eq_of_after_last w t0_0 (whole w hw) G hG (launch0.arr_whole w)

abbrev arg0 : FVec F S16x128 .f32 := m ((c : Thread nD τ).loc main_arg0)
theorem blk0 : iblk m c 0 t0_0 = arg0 m c := blk_eq m c 0 fun _ => rfl
abbrev arg1 : FVec F S1x1024 .f32 := m ((c : Thread nD τ).loc main_arg1)
theorem blk1 : iblk m c 1 t0_0 = arg1 m c := blk_eq m c 1 fun _ => rfl
abbrev arg2 : FVec F S1x3x128 .f32 := m ((c : Thread nD τ).loc main_arg2)
theorem blk2 : iblk m c 2 t0_0 = arg2 m c := blk_eq m c 2 fun _ => rfl
abbrev arg3 : FVec F S1x2x128 .f32 := m ((c : Thread nD τ).loc main_arg3)
theorem blk3 : iblk m c 3 t0_0 = arg3 m c := blk_eq m c 3 fun _ => rfl
abbrev arg4 : FVec F S1x1024 .f32 := m ((c : Thread nD τ).loc main_arg4)
theorem blk4 : iblk m c 4 t0_0 = arg4 m c := blk_eq m c 4 fun _ => rfl
abbrev arg5 : FVec F S1x1024 .f32 := m ((c : Thread nD τ).loc main_arg5)
theorem blk5 : iblk m c 5 t0_0 = arg5 m c := blk_eq m c 5 fun _ => rfl
abbrev arg6 : FVec F S1x3x352 .f32 := m ((c : Thread nD τ).loc main_arg6)
theorem blk6 : iblk m c 6 t0_0 = arg6 m c := blk_eq m c 6 fun _ => rfl
abbrev arg7 : FVec F S1x1024 .f32 := m ((c : Thread nD τ).loc main_arg7)
theorem blk7 : iblk m c 7 t0_0 = arg7 m c := blk_eq m c 7 fun _ => rfl
abbrev arg8 : FVec F S16x128 .f32 := m ((c : Thread nD τ).loc main_arg8)
theorem blk8 : iblk m c 8 t0_0 = arg8 m c := blk_eq m c 8 fun _ => rfl
abbrev arg9 : FVec F S1x1024 .f32 := m ((c : Thread nD τ).loc main_arg9)
theorem blk9 : iblk m c 9 t0_0 = arg9 m c := blk_eq m c 9 fun _ => rfl
abbrev arg10 : FVec F S1x3x128 .f32 := m ((c : Thread nD τ).loc main_arg10)
theorem blk10 : iblk m c 10 t0_0 = arg10 m c := blk_eq m c 10 fun _ => rfl
abbrev arg11 : FVec F S1x2x128 .f32 := m ((c : Thread nD τ).loc main_arg11)
theorem blk11 : iblk m c 11 t0_0 = arg11 m c := blk_eq m c 11 fun _ => rfl
abbrev arg12 : FVec F S1x1024 .f32 := m ((c : Thread nD τ).loc main_arg12)
theorem blk12 : iblk m c 12 t0_0 = arg12 m c := blk_eq m c 12 fun _ => rfl
abbrev arg13 : FVec F S1x1024 .f32 := m ((c : Thread nD τ).loc main_arg13)
theorem blk13 : iblk m c 13 t0_0 = arg13 m c := blk_eq m c 13 fun _ => rfl
abbrev arg14 : FVec F S1x3x352 .f32 := m ((c : Thread nD τ).loc main_arg14)
theorem blk14 : iblk m c 14 t0_0 = arg14 m c := blk_eq m c 14 fun _ => rfl
abbrev arg15 : FVec F S1x1024 .f32 := m ((c : Thread nD τ).loc main_arg15)
theorem blk15 : iblk m c 15 t0_0 = arg15 m c := blk_eq m c 15 fun _ => rfl
abbrev arg16 : FVec F S16x128 .f32 := m ((c : Thread nD τ).loc main_arg16)
theorem blk16 : iblk m c 16 t0_0 = arg16 m c := blk_eq m c 16 fun _ => rfl
abbrev arg17 : FVec F S1x1024 .f32 := m ((c : Thread nD τ).loc main_arg17)
theorem blk17 : iblk m c 17 t0_0 = arg17 m c := blk_eq m c 17 fun _ => rfl
abbrev arg18 : FVec F S1x3x128 .f32 := m ((c : Thread nD τ).loc main_arg18)
theorem blk18 : iblk m c 18 t0_0 = arg18 m c := blk_eq m c 18 fun _ => rfl
abbrev arg19 : FVec F S1x2x128 .f32 := m ((c : Thread nD τ).loc main_arg19)
theorem blk19 : iblk m c 19 t0_0 = arg19 m c := blk_eq m c 19 fun _ => rfl
abbrev arg20 : FVec F S1x1024 .f32 := m ((c : Thread nD τ).loc main_arg20)
theorem blk20 : iblk m c 20 t0_0 = arg20 m c := blk_eq m c 20 fun _ => rfl
abbrev arg21 : FVec F S1x1024 .f32 := m ((c : Thread nD τ).loc main_arg21)
theorem blk21 : iblk m c 21 t0_0 = arg21 m c := blk_eq m c 21 fun _ => rfl
abbrev arg22 : FVec F S1x3x352 .f32 := m ((c : Thread nD τ).loc main_arg22)
theorem blk22 : iblk m c 22 t0_0 = arg22 m c := blk_eq m c 22 fun _ => rfl
abbrev arg23 : FVec F S1x1024 .f32 := m ((c : Thread nD τ).loc main_arg23)
theorem blk23 : iblk m c 23 t0_0 = arg23 m c := blk_eq m c 23 fun _ => rfl
abbrev arg24 : FVec F S16x128 .f32 := m ((c : Thread nD τ).loc main_arg24)
theorem blk24 : iblk m c 24 t0_0 = arg24 m c := blk_eq m c 24 fun _ => rfl
abbrev arg25 : FVec F S1x1024 .f32 := m ((c : Thread nD τ).loc main_arg25)
theorem blk25 : iblk m c 25 t0_0 = arg25 m c := blk_eq m c 25 fun _ => rfl
abbrev arg26 : FVec F S1x3x128 .f32 := m ((c : Thread nD τ).loc main_arg26)
theorem blk26 : iblk m c 26 t0_0 = arg26 m c := blk_eq m c 26 fun _ => rfl
abbrev arg27 : FVec F S1x2x128 .f32 := m ((c : Thread nD τ).loc main_arg27)
theorem blk27 : iblk m c 27 t0_0 = arg27 m c := blk_eq m c 27 fun _ => rfl
abbrev arg28 : FVec F S1x1024 .f32 := m ((c : Thread nD τ).loc main_arg28)
theorem blk28 : iblk m c 28 t0_0 = arg28 m c := blk_eq m c 28 fun _ => rfl
abbrev arg29 : FVec F S1x1024 .f32 := m ((c : Thread nD τ).loc main_arg29)
theorem blk29 : iblk m c 29 t0_0 = arg29 m c := blk_eq m c 29 fun _ => rfl
abbrev arg30 : FVec F S1x3x352 .f32 := m ((c : Thread nD τ).loc main_arg30)
theorem blk30 : iblk m c 30 t0_0 = arg30 m c := blk_eq m c 30 fun _ => rfl
abbrev arg31 : FVec F S1x1024 .f32 := m ((c : Thread nD τ).loc main_arg31)
theorem blk31 : iblk m c 31 t0_0 = arg31 m c := blk_eq m c 31 fun _ => rfl

theorem final32 : (dats m 0 c).arrAt 32 cfg0.N = delta (arg0 m c) (arg8 m c) (arg16 m c) (arg24 m c) := final m c 32 (by decide) fun j => congrFun (congr (congr (congr (congrArg delta (blk0 m c)) (blk8 m c)) (blk16 m c)) (blk24 m c)) j
theorem final33 : (dats m 0 c).arrAt 33 cfg0.N = delta (arg1 m c) (arg9 m c) (arg17 m c) (arg25 m c) := final m c 33 (by decide) fun j => congrFun (congr (congr (congr (congrArg delta (blk1 m c)) (blk9 m c)) (blk17 m c)) (blk25 m c)) j
theorem final34 : (dats m 0 c).arrAt 34 cfg0.N = delta (arg2 m c) (arg10 m c) (arg18 m c) (arg26 m c) := final m c 34 (by decide) fun j => congrFun (congr (congr (congr (congrArg delta (blk2 m c)) (blk10 m c)) (blk18 m c)) (blk26 m c)) j
theorem final35 : (dats m 0 c).arrAt 35 cfg0.N = delta (arg3 m c) (arg11 m c) (arg19 m c) (arg27 m c) := final m c 35 (by decide) fun j => congrFun (congr (congr (congr (congrArg delta (blk3 m c)) (blk11 m c)) (blk19 m c)) (blk27 m c)) j
theorem final36 : (dats m 0 c).arrAt 36 cfg0.N = delta (arg4 m c) (arg12 m c) (arg20 m c) (arg28 m c) := final m c 36 (by decide) fun j => congrFun (congr (congr (congr (congrArg delta (blk4 m c)) (blk12 m c)) (blk20 m c)) (blk28 m c)) j
theorem final37 : (dats m 0 c).arrAt 37 cfg0.N = delta (arg5 m c) (arg13 m c) (arg21 m c) (arg29 m c) := final m c 37 (by decide) fun j => congrFun (congr (congr (congr (congrArg delta (blk5 m c)) (blk13 m c)) (blk21 m c)) (blk29 m c)) j
theorem final38 : (dats m 0 c).arrAt 38 cfg0.N = delta (arg6 m c) (arg14 m c) (arg22 m c) (arg30 m c) := final m c 38 (by decide) fun j => congrFun (congr (congr (congr (congrArg delta (blk6 m c)) (blk14 m c)) (blk22 m c)) (blk30 m c)) j
theorem final39 : (dats m 0 c).arrAt 39 cfg0.N = delta (arg7 m c) (arg15 m c) (arg23 m c) (arg31 m c) := final m c 39 (by decide) fun j => congrFun (congr (congr (congr (congrArg delta (blk7 m c)) (blk15 m c)) (blk23 m c)) (blk31 m c)) j
theorem final40 : (dats m 0 c).arrAt 40 cfg0.N = newM (arg8 m c) (arg16 m c) := final m c 40 (by decide) fun j => congrFun (congr (congrArg newM (blk8 m c)) (blk16 m c)) j
theorem final41 : (dats m 0 c).arrAt 41 cfg0.N = newM (arg9 m c) (arg17 m c) := final m c 41 (by decide) fun j => congrFun (congr (congrArg newM (blk9 m c)) (blk17 m c)) j
theorem final42 : (dats m 0 c).arrAt 42 cfg0.N = newM (arg10 m c) (arg18 m c) := final m c 42 (by decide) fun j => congrFun (congr (congrArg newM (blk10 m c)) (blk18 m c)) j
theorem final43 : (dats m 0 c).arrAt 43 cfg0.N = newM (arg11 m c) (arg19 m c) := final m c 43 (by decide) fun j => congrFun (congr (congrArg newM (blk11 m c)) (blk19 m c)) j
theorem final44 : (dats m 0 c).arrAt 44 cfg0.N = newM (arg12 m c) (arg20 m c) := final m c 44 (by decide) fun j => congrFun (congr (congrArg newM (blk12 m c)) (blk20 m c)) j
theorem final45 : (dats m 0 c).arrAt 45 cfg0.N = newM (arg13 m c) (arg21 m c) := final m c 45 (by decide) fun j => congrFun (congr (congrArg newM (blk13 m c)) (blk21 m c)) j
theorem final46 : (dats m 0 c).arrAt 46 cfg0.N = newM (arg14 m c) (arg22 m c) := final m c 46 (by decide) fun j => congrFun (congr (congrArg newM (blk14 m c)) (blk22 m c)) j
theorem final47 : (dats m 0 c).arrAt 47 cfg0.N = newM (arg15 m c) (arg23 m c) := final m c 47 (by decide) fun j => congrFun (congr (congrArg newM (blk15 m c)) (blk23 m c)) j
theorem final48 : (dats m 0 c).arrAt 48 cfg0.N = newV (arg8 m c) (arg24 m c) := final m c 48 (by decide) fun j => congrFun (congr (congrArg newV (blk8 m c)) (blk24 m c)) j
theorem final49 : (dats m 0 c).arrAt 49 cfg0.N = newV (arg9 m c) (arg25 m c) := final m c 49 (by decide) fun j => congrFun (congr (congrArg newV (blk9 m c)) (blk25 m c)) j
theorem final50 : (dats m 0 c).arrAt 50 cfg0.N = newV (arg10 m c) (arg26 m c) := final m c 50 (by decide) fun j => congrFun (congr (congrArg newV (blk10 m c)) (blk26 m c)) j
theorem final51 : (dats m 0 c).arrAt 51 cfg0.N = newV (arg11 m c) (arg27 m c) := final m c 51 (by decide) fun j => congrFun (congr (congrArg newV (blk11 m c)) (blk27 m c)) j
theorem final52 : (dats m 0 c).arrAt 52 cfg0.N = newV (arg12 m c) (arg28 m c) := final m c 52 (by decide) fun j => congrFun (congr (congrArg newV (blk12 m c)) (blk28 m c)) j
theorem final53 : (dats m 0 c).arrAt 53 cfg0.N = newV (arg13 m c) (arg29 m c) := final m c 53 (by decide) fun j => congrFun (congr (congrArg newV (blk13 m c)) (blk29 m c)) j
theorem final54 : (dats m 0 c).arrAt 54 cfg0.N = newV (arg14 m c) (arg30 m c) := final m c 54 (by decide) fun j => congrFun (congr (congrArg newV (blk14 m c)) (blk30 m c)) j
theorem final55 : (dats m 0 c).arrAt 55 cfg0.N = newV (arg15 m c) (arg31 m c) := final m c 55 (by decide) fun j => congrFun (congr (congrArg newV (blk15 m c)) (blk31 m c)) j

/-! ## The run, as the claims state it -/

/-- A conjunction, one after the other. -/
def conj : List Prop → Prop
  | [] => True
  | [p] => p
  | p :: q :: l => p ∧ conj (q :: l)

theorem conj_of : ∀ l : List Prop, (∀ p ∈ l, p) → conj l
  | [], _ => trivial
  | [p], h => h p (List.mem_singleton_self p)
  | p :: q :: l, h => ⟨h p List.mem_cons_self, conj_of (q :: l) fun x hx => h x (List.mem_cons_of_mem p hx)⟩

/-- The windows of the arguments and of the results, -/
abbrev ins : List (Fin 56) := [0, 1, 2, 3, 4, 5, 6, 7, 8, 9, 10, 11, 12, 13, 14, 15, 16, 17, 18, 19, 20, 21, 22, 23, 24, 25, 26, 27, 28, 29, 30, 31]
abbrev outs : List (Fin 56) := [32, 33, 34, 35, 36, 37, 38, 39, 40, 41, 42, 43, 44, 45, 46, 47, 48, 49, 50, 51, 52, 53, 54, 55]

/-- and what a window's array holds at the end. -/
abbrev mem (r : PUnit × MemSt nD τ sig (Elt F)) (w : Fin 56) := r.2.mem ((cfg0.win w).arr.view.loc (c.tc : Thread nD τ))
abbrev kept (r : PUnit × MemSt nD τ sig (Elt F)) (w : Fin 56) : Prop := mem c r w = m ((cfg0.win w).arr.view.loc (c.tc : Thread nD τ))

/-- What a result ends as. -/
def res (w : Fin 56) (c : Dev nD) := (dats m 0 c).arrAt w cfg0.N

theorem kept_of (r : PUnit × MemSt nD τ sig (Elt F)) (h : Pipeline.FramePost cfgs (dats m) 0 (V m) r) (w : Fin 56) (hw : w.val < 32) : kept m c r w := by
  have hin : ∀ w : Fin cfg0.W, w.val < 32 → (cfg0.win w).isOut = false := by decide +kernel
  exact h.in_eq c w (hin w hw)

/-- The run leaves the arguments as they were and every counter at zero, -/
theorem framed : θ_run defs (onTc (τ := τ) (main (F := F))) ⟨m, fun _ => 0, ρ⟩ (fun r => (∀ c : Dev nD, conj (ins.map (kept m c r))) ∧ r.2.sem = fun _ => 0) :=
  (θ_run defs _ _).mono (fun r h => ⟨fun c => conj_of _ fun p hp => by
      obtain ⟨w, hw, rfl⟩ := List.mem_map.mp hp
      exact kept_of m c r h.1 w ((by decide : ∀ w ∈ ins, w.val < 32) w hw), h.2⟩) (run_main m ρ)

/-- and the results at what the proof data say. -/
theorem valued : θ_run defs (onTc (τ := τ) (main (F := F))) ⟨m, fun _ => 0, ρ⟩ (fun r => ∀ c : Dev nD,
    conj (outs.map (fun w => mem c r w = res m w c) ++ ins.map (kept m c r))) :=
  (θ_run defs _ _).mono (fun r h c => conj_of _ fun p hp => by
      rcases List.mem_append.mp hp with hp | hp
      · obtain ⟨w, -, rfl⟩ := List.mem_map.mp hp
        exact h.1.out_eq c w
      · obtain ⟨w, hw, rfl⟩ := List.mem_map.mp hp
        exact kept_of m c r h.1 w ((by decide : ∀ w ∈ ins, w.val < 32) w hw)) (run_main m ρ)

end Cert.AdamSmall.Small

/-! ## The reference's terms -/

namespace Cert.AdamSmall.Small

open Idealize.ShloMosaic

section
variable {S : Shape} (bc : (⟨0, ![]⟩ : Shape).BroadcastsInDim S ![]) (w g u v : FVec Ideal S .f32)

/-- A constant at every index. -/
abbrev rall (b : BitVec 32) : FVec Ideal S .f32 := broadcastInDim S ![] bc (constant ⟨0, ![]⟩ .f32 b)

def refM : FVec Ideal S .f32 := addf (mulf (rall bc 0x3F666666#32) u) (mulf (rall bc 0x3DCCCCCD#32) g)
def refV : FVec Ideal S .f32 := addf (mulf (rall bc 0x3F7FBE77#32) v) (mulf (rall bc 0x3A83126F#32) (mulf g g))
def refW : FVec Ideal S .f32 :=
  mulf (rall bc 0xBA83126F#32) (addf (Host.divf (Host.divf (refM bc g u) (rall bc 0x3F26BD02#32))
    (addf (Host.sqrt (Host.divf (refV bc g v) (rall bc 0x3C231ACC#32))) (rall bc 0x322BCC77#32))) (mulf (rall bc 0x3C23D70A#32) w))

/-- The reference's terms of equal arguments are the kernel's. -/
theorem refM_eq {g g' u u' : FVec Ideal S .f32} (hg : g' = g) (hu : u' = u) : refM bc g' u' = newM g u := by subst hg hu; rfl
theorem refV_eq {g g' v v' : FVec Ideal S .f32} (hg : g' = g) (hv : v' = v) : refV bc g' v' = newV g v := by subst hg hv; rfl
theorem refW_eq {w w' g g' u u' v v' : FVec Ideal S .f32} (hw : w' = w) (hg : g' = g) (hu : u' = u) (hv : v' = v) :
    refW bc w' g' u' v' = delta w g u v := by subst hw hg hu hv; rfl
end

end Cert.AdamSmall.Small

/-! ## The claims -/

namespace Cert.Proof.AdamSmall

open Idealize.ShloMosaic Idealize.ShloMosaic.TcCoe Idealize.SL.Sem Cert.AdamSmall.Small AdamSmallRefIdeal.Gen

/-! The program over the reals is the same text as the printed one. -/

theorem frame_k : quiescent_AdamSmall := fun m g _ => cast (by sl_kernel_rfl) (framed (F := Bits) m g)
theorem frame_ki : quiescent_AdamSmallIdeal := fun m g _ => cast (by sl_kernel_rfl) (framed (F := Ideal) m g)
theorem frame_ri : quiescent_AdamSmallRefIdeal := fun m g _ =>
  (θ_run AdamSmallRefIdeal.defs _ _).mono (fun r h => ⟨fun c => (h c).2.2.2.2.2.2.2.2.2.2.2.2.2.2.2.2.2.2.2.2.2.2.2.2, sem_eq_zero_of_no_sems (by decide) r.2⟩)
    (AdamSmallRefIdeal.Value.run m g)

set_option maxHeartbeats 8000000 in
theorem equal : algebraic_AdamSmallIdeal_AdamSmallRefIdeal := fun m g m' g' _ hargs =>
  ⟨res m 32, res m 33, res m 34, res m 35, res m 36, res m 37, res m 38, res m 39, res m 40, res m 41, res m 42, res m 43, res m 44, res m 45, res m 46, res m 47, res m 48, res m 49, res m 50, res m 51, res m 52, res m 53, res m 54, res m 55,
   cast (by sl_kernel_rfl) (valued (F := Ideal) m g),
   (θ_run AdamSmallRefIdeal.defs _ _).mono (fun r h c => by
      obtain ⟨a0, a1, a2, a3, a4, a5, a6, a7, a8, a9, a10, a11, a12, a13, a14, a15, a16, a17, a18, a19, a20, a21, a22, a23, a24, a25, a26, a27, a28, a29, a30, a31⟩ := hargs c
      obtain ⟨r0, r1, r2, r3, r4, r5, r6, r7, r8, r9, r10, r11, r12, r13, r14, r15, r16, r17, r18, r19, r20, r21, r22, r23, kept⟩ := h c
      exact ⟨r0.trans ((refW_eq bcast_S_S16x128 a0 a8 a16 a24).trans (final32 m c).symm),
        r1.trans ((refW_eq bcast_S_S1x1024 a1 a9 a17 a25).trans (final33 m c).symm),
        r2.trans ((refW_eq bcast_S_S1x3x128 a2 a10 a18 a26).trans (final34 m c).symm),
        r3.trans ((refW_eq bcast_S_S1x2x128 a3 a11 a19 a27).trans (final35 m c).symm),
        r4.trans ((refW_eq bcast_S_S1x1024 a4 a12 a20 a28).trans (final36 m c).symm),
        r5.trans ((refW_eq bcast_S_S1x1024 a5 a13 a21 a29).trans (final37 m c).symm),
        r6.trans ((refW_eq bcast_S_S1x3x352 a6 a14 a22 a30).trans (final38 m c).symm),
        r7.trans ((refW_eq bcast_S_S1x1024 a7 a15 a23 a31).trans (final39 m c).symm),
        r8.trans ((refM_eq bcast_S_S16x128 a8 a16).trans (final40 m c).symm),
        r9.trans ((refM_eq bcast_S_S1x1024 a9 a17).trans (final41 m c).symm),
        r10.trans ((refM_eq bcast_S_S1x3x128 a10 a18).trans (final42 m c).symm),
        r11.trans ((refM_eq bcast_S_S1x2x128 a11 a19).trans (final43 m c).symm),
        r12.trans ((refM_eq bcast_S_S1x1024 a12 a20).trans (final44 m c).symm),
        r13.trans ((refM_eq bcast_S_S1x1024 a13 a21).trans (final45 m c).symm),
        r14.trans ((refM_eq bcast_S_S1x3x352 a14 a22).trans (final46 m c).symm),
        r15.trans ((refM_eq bcast_S_S1x1024 a15 a23).trans (final47 m c).symm),
        r16.trans ((refV_eq bcast_S_S16x128 a8 a24).trans (final48 m c).symm),
        r17.trans ((refV_eq bcast_S_S1x1024 a9 a25).trans (final49 m c).symm),
        r18.trans ((refV_eq bcast_S_S1x3x128 a10 a26).trans (final50 m c).symm),
        r19.trans ((refV_eq bcast_S_S1x2x128 a11 a27).trans (final51 m c).symm),
        r20.trans ((refV_eq bcast_S_S1x1024 a12 a28).trans (final52 m c).symm),
        r21.trans ((refV_eq bcast_S_S1x1024 a13 a29).trans (final53 m c).symm),
        r22.trans ((refV_eq bcast_S_S1x3x352 a14 a30).trans (final54 m c).symm),
        r23.trans ((refV_eq bcast_S_S1x1024 a15 a31).trans (final55 m c).symm), kept⟩)
     (AdamSmallRefIdeal.Value.run m' g')⟩

end Cert.Proof.AdamSmall

end
-- ==== Proof.lean ====
/-
  The certificate of the attention's backward pass, of the step's matrix products and of the optimiser's steps, call by
  call: the frames of the printed kernel, of its idealized reading and of the idealized reference, the rewrites of the
  idealized reading, and the equality of the two over the reals.
-/
module

public import proofs.«01_k».proof.Defs
public import proofs.«01_k».proof.Proof.KI.Points
public import proofs.«01_k».proof.Proof.KI.Value
public import proofs.«01_k».proof.Proof.KI.Host
public import proofs.«01_k».proof.Proof.Val.Range
public import proofs.«01_k».proof.Proof.KB.Points
public import proofs.«01_k».proof.Proof.Gen.ReferenceIdeal.Read
public import proofs.«01_k».proof.Proof.Mm.InDx
public import proofs.«01_k».proof.Proof.Mm.UgDw
public import proofs.«01_k».proof.Proof.Mm.DownDx
public import proofs.«01_k».proof.Proof.Mm.UgDx
public import proofs.«01_k».proof.Proof.Mm.DownDw
public import proofs.«01_k».proof.Proof.Mm.ProjDx
public import proofs.«01_k».proof.Proof.Mm.ProjDw
public import proofs.«01_k».proof.Proof.Mm.InFwd
public import proofs.«01_k».proof.Proof.Mm.UgFwd
public import proofs.«01_k».proof.Proof.Mm.DownFwd
public import proofs.«01_k».proof.Proof.Mm.ProjFwd
public import proofs.«01_k».proof.Proof.Mm.OutFwd
public import proofs.«01_k».proof.Proof.Mm.InDwA
public import proofs.«01_k».proof.Proof.Mm.InDwB
public import proofs.«01_k».proof.Proof.Mm.AdamIn
public import proofs.«01_k».proof.Proof.Mm.AdamUg
public import proofs.«01_k».proof.Proof.Mm.AdamDown
public import proofs.«01_k».proof.Proof.Mm.AdamConv
public import proofs.«01_k».proof.Proof.Mm.AdamAttn
public import proofs.«01_k».proof.Proof.Mm.AdamOut
public import proofs.«01_k».proof.Proof.Mm.SumSmall
public import proofs.«01_k».proof.Proof.Mm.AdamSmall
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem
open Idealize.ShloMosaic.Pipeline (RDat)
open Cert.Attn

theorem frame_k : Cert.quiescent_Kernel := fun m g _ => Cert.Kernel.Body.frame m g

theorem frame_ki : Cert.quiescent_KernelIdeal := fun m g _ => Cert.KernelIdeal.Body.frame m g

/-- The reference runs on the host and declares no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem rewrites : Cert.preserves_Kernel_KernelIdeal :=
  ⟨IdealRules.bf16_pack.statement _, IdealRules.bf16_pack.statement _, IdealRules.bf16_pack.statement _⟩

/-- The rows device `c`'s arguments hold. -/
def dataOf (m : (ℓ : Loc Cert.KernelIdeal.nD Cert.KernelIdeal.τ Cert.KernelIdeal.sig) → Buf (Elt Ideal) ℓ) (c : Dev Cert.KernelIdeal.nD) : Rows :=
  Range.rows (m ((c.tc : Thread Cert.KernelIdeal.nD Cert.KernelIdeal.τ).loc Cert.KernelIdeal.main_arg0))
    (m ((c.tc : Thread Cert.KernelIdeal.nD Cert.KernelIdeal.τ).loc Cert.KernelIdeal.main_arg1))

theorem given (m : (ℓ : Loc Cert.KernelIdeal.nD Cert.KernelIdeal.τ Cert.KernelIdeal.sig) → Buf (Elt Ideal) ℓ)
    (hm : Cert.Pre_KernelIdeal_scores_in_range m) (c : Dev Cert.KernelIdeal.nD) :
    Given (dataOf m c) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) :=
  Range.given (hm c).1 (hm c).2.1 (hm c).2.2.1 (hm c).2.2.2.1 (hm c).2.2.2.2

/-- Both programs end with the three gradients in slots 3 to 5 and the other slots as they were. -/
theorem equal : Cert.algebraic_KernelIdeal_ReferenceIdeal_pre_scores_in_range := fun m g m' g' hm hargs =>
  ⟨fun c => result (dataOf m c) (m ((c.tc : Thread Cert.KernelIdeal.nD Cert.KernelIdeal.τ).loc Cert.KernelIdeal.main_arg2)),
   (θ_run Cert.KernelIdeal.defs _ _).mono (fun r h c =>
      ⟨(Cert.KernelIdeal.Body.arr_result m c (given m hm c)
          (fun i l => (congrFun (Cert.KernelIdeal.Host.V_lt m c) _).trans (Cert.KernelIdeal.Host.laid_apply (given m hm c).toReads i l))
          (r.2.mem ((c.tc : Thread Cert.KernelIdeal.nD Cert.KernelIdeal.τ).loc Cert.KernelIdeal.main_v26)) ((h.1 c).1 5)).trans
          (congrArg (result (dataOf m c)) (Cert.KernelIdeal.Host.V_out m c)),
         ((congrFun ((Cert.KernelIdeal.Body.rdat m c).ArrAt_in 2 rfl _) _).mp ((h.1 c).1 2)).trans (Cert.KernelIdeal.Gen.V_main_arg0 m c),
         ((congrFun ((Cert.KernelIdeal.Body.rdat m c).ArrAt_in 3 rfl _) _).mp ((h.1 c).1 3)).trans (Cert.KernelIdeal.Gen.V_main_arg1 m c),
         ((h.1 c).2 Cert.KernelIdeal.main_arg2 (Pipeline.mem_restRefs_of Cert.KernelIdeal.main_arg2 (by decide) (by decide))).trans (Cert.KernelIdeal.Gen.V_main_arg2 m c)⟩)
     (Cert.KernelIdeal.Body.run m g),
   (θ_run Cert.ReferenceIdeal.defs _ _).mono (fun r h c =>
      ⟨((h c).1.trans (Cert.ReferenceIdeal.Read.val_main_v68_eq (launchContents m' c))).trans
          ((congrArg₂ (fun a b => Cert.ReferenceIdeal.Read.val_main_v68 (F := Ideal) a b _) (hargs c).1 (hargs c).2.1).trans
            ((Ref.result_eq (given m hm c).toReads _).trans (congrArg (result (dataOf m c)) (hargs c).2.2))), (h c).2⟩)
     (Cert.ReferenceIdeal.Value.run m' g')⟩

theorem claim : Cert.Claim := ⟨Cert.Kernel.Gen.facts, Cert.KernelIdeal.Gen.facts, Cert.ReferenceIdeal.Gen.facts,
  InDx.Gen.facts, InDxIdeal.Gen.facts, InDxRefIdeal.Gen.facts,
  UgDw.Gen.facts, UgDwIdeal.Gen.facts, UgDwRefIdeal.Gen.facts,
  DownDx.Gen.facts, DownDxIdeal.Gen.facts, DownDxRefIdeal.Gen.facts,
  UgDx.Gen.facts, UgDxIdeal.Gen.facts, UgDxRefIdeal.Gen.facts,
  DownDw.Gen.facts, DownDwIdeal.Gen.facts, DownDwRefIdeal.Gen.facts,
  ProjDx.Gen.facts, ProjDxIdeal.Gen.facts, ProjDxRefIdeal.Gen.facts,
  ProjDw.Gen.facts, ProjDwIdeal.Gen.facts, ProjDwRefIdeal.Gen.facts,
  InFwd.Gen.facts, InFwdIdeal.Gen.facts, InFwdRefIdeal.Gen.facts,
  UgFwd.Gen.facts, UgFwdIdeal.Gen.facts, UgFwdRefIdeal.Gen.facts,
  DownFwd.Gen.facts, DownFwdIdeal.Gen.facts, DownFwdRefIdeal.Gen.facts,
  ProjFwd.Gen.facts, ProjFwdIdeal.Gen.facts, ProjFwdRefIdeal.Gen.facts,
  OutFwd.Gen.facts, OutFwdIdeal.Gen.facts, OutFwdRefIdeal.Gen.facts,
  InDwA.Gen.facts, InDwAIdeal.Gen.facts, InDwARefIdeal.Gen.facts,
  InDwB.Gen.facts, InDwBIdeal.Gen.facts, InDwBRefIdeal.Gen.facts,
  AdamIn.Gen.facts, AdamInIdeal.Gen.facts, AdamInRefIdeal.Gen.facts,
  AdamUg.Gen.facts, AdamUgIdeal.Gen.facts, AdamUgRefIdeal.Gen.facts,
  AdamDown.Gen.facts, AdamDownIdeal.Gen.facts, AdamDownRefIdeal.Gen.facts,
  AdamConv.Gen.facts, AdamConvIdeal.Gen.facts, AdamConvRefIdeal.Gen.facts,
  AdamAttn.Gen.facts, AdamAttnIdeal.Gen.facts, AdamAttnRefIdeal.Gen.facts,
  AdamOut.Gen.facts, AdamOutIdeal.Gen.facts, AdamOutRefIdeal.Gen.facts,
  AdamSmall.Gen.facts, AdamSmallIdeal.Gen.facts, AdamSmallRefIdeal.Gen.facts,
  SumSmall.Gen.facts, SumSmallIdeal.Gen.facts, SumSmallRefIdeal.Gen.facts,
  Range.facts,
  frame_k, frame_ki, fun m g _ => frame_ki m g trivial, frame_ri, fun m g _ => frame_ri m g trivial,
  InDx.frame_k, InDx.frame_ki, InDx.frame_ri,
  UgDw.frame_k, UgDw.frame_ki, UgDw.frame_ri,
  DownDx.frame_k, DownDx.frame_ki, DownDx.frame_ri,
  UgDx.frame_k, UgDx.frame_ki, UgDx.frame_ri,
  DownDw.frame_k, DownDw.frame_ki, DownDw.frame_ri,
  ProjDx.frame_k, ProjDx.frame_ki, ProjDx.frame_ri,
  ProjDw.frame_k, ProjDw.frame_ki, ProjDw.frame_ri,
  InFwd.frame_k, InFwd.frame_ki, InFwd.frame_ri,
  UgFwd.frame_k, UgFwd.frame_ki, UgFwd.frame_ri,
  DownFwd.frame_k, DownFwd.frame_ki, DownFwd.frame_ri,
  ProjFwd.frame_k, ProjFwd.frame_ki, ProjFwd.frame_ri,
  OutFwd.frame_k, OutFwd.frame_ki, OutFwd.frame_ri,
  InDwA.frame_k, InDwA.frame_ki, InDwA.frame_ri,
  InDwB.frame_k, InDwB.frame_ki, InDwB.frame_ri,
  AdamIn.frame_k, AdamIn.frame_ki, AdamIn.frame_ri,
  AdamUg.frame_k, AdamUg.frame_ki, AdamUg.frame_ri,
  AdamDown.frame_k, AdamDown.frame_ki, AdamDown.frame_ri,
  AdamConv.frame_k, AdamConv.frame_ki, AdamConv.frame_ri,
  AdamAttn.frame_k, AdamAttn.frame_ki, AdamAttn.frame_ri,
  AdamOut.frame_k, AdamOut.frame_ki, AdamOut.frame_ri,
  AdamSmall.frame_k, AdamSmall.frame_ki, AdamSmall.frame_ri,
  SumSmall.frame_k, SumSmall.frame_ki, SumSmall.frame_ri,
  rewrites, equal,
  trivial, InDx.equal,
  trivial, UgDw.equal,
  trivial, DownDx.equal,
  trivial, UgDx.equal,
  trivial, DownDw.equal,
  trivial, ProjDx.equal,
  trivial, ProjDw.equal,
  trivial, InFwd.equal,
  trivial, UgFwd.equal,
  trivial, DownFwd.equal,
  trivial, ProjFwd.equal,
  trivial, OutFwd.equal,
  trivial, InDwA.equal,
  trivial, InDwB.equal,
  trivial, AdamIn.equal,
  trivial, AdamUg.equal,
  trivial, AdamDown.equal,
  trivial, AdamConv.equal,
  trivial, AdamAttn.equal,
  trivial, AdamOut.equal,
  trivial, AdamSmall.equal,
  trivial, SumSmall.equal⟩

end Cert.Proof

end
